-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowReferenceIdeal (m : (ℓ : Loc Cert.WindowReferenceIdeal.nD Cert.WindowReferenceIdeal.τ Cert.WindowReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Causal (m : (ℓ : Loc Cert.Causal.nD Cert.Causal.τ Cert.Causal.sig) → Buf (Elt Bits) ℓ) : Prop :=
  True

def Pre_CausalIdeal (m : (ℓ : Loc Cert.CausalIdeal.nD Cert.CausalIdeal.τ Cert.CausalIdeal.sig) → Buf (Elt Ideal) ℓ) : Prop :=
  True

def Pre_CausalReferenceIdeal (m : (ℓ : Loc Cert.CausalReferenceIdeal.nD Cert.CausalReferenceIdeal.τ Cert.CausalReferenceIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickReferenceIdeal (m : (ℓ : Loc Cert.StickReferenceIdeal.nD Cert.StickReferenceIdeal.τ Cert.StickReferenceIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradReferenceIdeal (m : (ℓ : Loc Cert.ConvGradReferenceIdeal.nD Cert.ConvGradReferenceIdeal.τ Cert.ConvGradReferenceIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradReferenceIdeal (m : (ℓ : Loc Cert.MixGradReferenceIdeal.nD Cert.MixGradReferenceIdeal.τ Cert.MixGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2)
      ∧ r.2.mem ((c.tc : Thread Cert.GradReferenceIdeal.nD Cert.GradReferenceIdeal.τ).loc Cert.GradReferenceIdeal.main_arg3) = m ((c.tc : Thread Cert.GradReferenceIdeal.nD Cert.GradReferenceIdeal.τ).loc Cert.GradReferenceIdeal.main_arg3)
      ∧ r.2.mem ((c.tc : Thread Cert.GradReferenceIdeal.nD Cert.GradReferenceIdeal.τ).loc Cert.GradReferenceIdeal.main_arg4) = m ((c.tc : Thread Cert.GradReferenceIdeal.nD Cert.GradReferenceIdeal.τ).loc Cert.GradReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ r.2.sem = fun _ => 0)

def quiescent_WindowReferenceIdeal [hWindowReferenceIdeal : Cert.WindowReferenceIdeal.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_Causal [hCausal : Cert.Causal.Facts] : Prop :=
  ∀ (m : (ℓ : Loc Cert.Causal.nD Cert.Causal.τ Cert.Causal.sig) → Buf (Elt Bits) ℓ) (g : Dev Cert.Causal.nD → PrngReg), Pre_Causal m →
    θ_run (Cert.Causal.defs (F := Bits)) (onTc (τ := Cert.Causal.τ) (Cert.Causal.main (F := Bits))) ⟨m, fun _ => 0, g⟩ (fun r => (∀ c : Dev Cert.Causal.nD,
      r.2.mem ((c.tc : Thread Cert.Causal.nD Cert.Causal.τ).loc Cert.Causal.main_arg0) = m ((c.tc : Thread Cert.Causal.nD Cert.Causal.τ).loc Cert.Causal.main_arg0)
      ∧ r.2.mem ((c.tc : Thread Cert.Causal.nD Cert.Causal.τ).loc Cert.Causal.main_arg1) = m ((c.tc : Thread Cert.Causal.nD Cert.Causal.τ).loc Cert.Causal.main_arg1)
      ∧ r.2.mem ((c.tc : Thread Cert.Causal.nD Cert.Causal.τ).loc Cert.Causal.main_arg2) = m ((c.tc : Thread Cert.Causal.nD Cert.Causal.τ).loc Cert.Causal.main_arg2))
      ∧ r.2.sem = fun _ => 0)

def quiescent_CausalIdeal [hCausalIdeal : Cert.CausalIdeal.Facts] : Prop :=
  ∀ (m : (ℓ : Loc Cert.CausalIdeal.nD Cert.CausalIdeal.τ Cert.CausalIdeal.sig) → Buf (Elt Ideal) ℓ) (g : Dev Cert.CausalIdeal.nD → PrngReg), Pre_CausalIdeal m →
    θ_run (Cert.CausalIdeal.defs (F := Ideal)) (onTc (τ := Cert.CausalIdeal.τ) (Cert.CausalIdeal.main (F := Ideal))) ⟨m, fun _ => 0, g⟩ (fun r => (∀ c : Dev Cert.CausalIdeal.nD,
      r.2.mem ((c.tc : Thread Cert.CausalIdeal.nD Cert.CausalIdeal.τ).loc Cert.CausalIdeal.main_arg0) = m ((c.tc : Thread Cert.CausalIdeal.nD Cert.CausalIdeal.τ).loc Cert.CausalIdeal.main_arg0)
      ∧ r.2.mem ((c.tc : Thread Cert.CausalIdeal.nD Cert.CausalIdeal.τ).loc Cert.CausalIdeal.main_arg1) = m ((c.tc : Thread Cert.CausalIdeal.nD Cert.CausalIdeal.τ).loc Cert.CausalIdeal.main_arg1)
      ∧ r.2.mem ((c.tc : Thread Cert.CausalIdeal.nD Cert.CausalIdeal.τ).loc Cert.CausalIdeal.main_arg2) = m ((c.tc : Thread Cert.CausalIdeal.nD Cert.CausalIdeal.τ).loc Cert.CausalIdeal.main_arg2))
      ∧ r.2.sem = fun _ => 0)

def quiescent_CausalReferenceIdeal [hCausalReferenceIdeal : Cert.CausalReferenceIdeal.Facts] : Prop :=
  ∀ (m : (ℓ : Loc Cert.CausalReferenceIdeal.nD Cert.CausalReferenceIdeal.τ Cert.CausalReferenceIdeal.sig) → Buf (Elt Ideal) ℓ) (g : Dev Cert.CausalReferenceIdeal.nD → PrngReg), Pre_CausalReferenceIdeal m →
    θ_run (Cert.CausalReferenceIdeal.defs (F := Ideal)) (onTc (τ := Cert.CausalReferenceIdeal.τ) (Cert.CausalReferenceIdeal.main (F := Ideal))) ⟨m, fun _ => 0, g⟩ (fun r => (∀ c : Dev Cert.CausalReferenceIdeal.nD,
      r.2.mem ((c.tc : Thread Cert.CausalReferenceIdeal.nD Cert.CausalReferenceIdeal.τ).loc Cert.CausalReferenceIdeal.main_arg0) = m ((c.tc : Thread Cert.CausalReferenceIdeal.nD Cert.CausalReferenceIdeal.τ).loc Cert.CausalReferenceIdeal.main_arg0)
      ∧ r.2.mem ((c.tc : Thread Cert.CausalReferenceIdeal.nD Cert.CausalReferenceIdeal.τ).loc Cert.CausalReferenceIdeal.main_arg1) = m ((c.tc : Thread Cert.CausalReferenceIdeal.nD Cert.CausalReferenceIdeal.τ).loc Cert.CausalReferenceIdeal.main_arg1)
      ∧ r.2.mem ((c.tc : Thread Cert.CausalReferenceIdeal.nD Cert.CausalReferenceIdeal.τ).loc Cert.CausalReferenceIdeal.main_arg2) = m ((c.tc : Thread Cert.CausalReferenceIdeal.nD Cert.CausalReferenceIdeal.τ).loc Cert.CausalReferenceIdeal.main_arg2))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradReferenceIdeal [hConvGradReferenceIdeal : Cert.ConvGradReferenceIdeal.Facts] : Prop :=
  ∀ (m : (ℓ : Loc Cert.ConvGradReferenceIdeal.nD Cert.ConvGradReferenceIdeal.τ Cert.ConvGradReferenceIdeal.sig) → Buf (Elt Ideal) ℓ) (g : Dev Cert.ConvGradReferenceIdeal.nD → PrngReg), Pre_ConvGradReferenceIdeal m →
    θ_run (Cert.ConvGradReferenceIdeal.defs (F := Ideal)) (onTc (τ := Cert.ConvGradReferenceIdeal.τ) (Cert.ConvGradReferenceIdeal.main (F := Ideal))) ⟨m, fun _ => 0, g⟩ (fun r => (∀ c : Dev Cert.ConvGradReferenceIdeal.nD,
      r.2.mem ((c.tc : Thread Cert.ConvGradReferenceIdeal.nD Cert.ConvGradReferenceIdeal.τ).loc Cert.ConvGradReferenceIdeal.main_arg0) = m ((c.tc : Thread Cert.ConvGradReferenceIdeal.nD Cert.ConvGradReferenceIdeal.τ).loc Cert.ConvGradReferenceIdeal.main_arg0)
      ∧ r.2.mem ((c.tc : Thread Cert.ConvGradReferenceIdeal.nD Cert.ConvGradReferenceIdeal.τ).loc Cert.ConvGradReferenceIdeal.main_arg1) = m ((c.tc : Thread Cert.ConvGradReferenceIdeal.nD Cert.ConvGradReferenceIdeal.τ).loc Cert.ConvGradReferenceIdeal.main_arg1)
      ∧ r.2.mem ((c.tc : Thread Cert.ConvGradReferenceIdeal.nD Cert.ConvGradReferenceIdeal.τ).loc Cert.ConvGradReferenceIdeal.main_arg2) = m ((c.tc : Thread Cert.ConvGradReferenceIdeal.nD Cert.ConvGradReferenceIdeal.τ).loc Cert.ConvGradReferenceIdeal.main_arg2)
      ∧ r.2.mem ((c.tc : Thread Cert.ConvGradReferenceIdeal.nD Cert.ConvGradReferenceIdeal.τ).loc Cert.ConvGradReferenceIdeal.main_arg3) = m ((c.tc : Thread Cert.ConvGradReferenceIdeal.nD Cert.ConvGradReferenceIdeal.τ).loc Cert.ConvGradReferenceIdeal.main_arg3))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2)
      ∧ r.2.mem ((c.tc : Thread Cert.MixGrad.nD Cert.MixGrad.τ).loc Cert.MixGrad.main_arg3) = m ((c.tc : Thread Cert.MixGrad.nD Cert.MixGrad.τ).loc Cert.MixGrad.main_arg3)
      ∧ r.2.mem ((c.tc : Thread Cert.MixGrad.nD Cert.MixGrad.τ).loc Cert.MixGrad.main_arg4) = m ((c.tc : Thread Cert.MixGrad.nD Cert.MixGrad.τ).loc Cert.MixGrad.main_arg4)
      ∧ r.2.mem ((c.tc : Thread Cert.MixGrad.nD Cert.MixGrad.τ).loc Cert.MixGrad.main_arg5) = m ((c.tc : Thread Cert.MixGrad.nD Cert.MixGrad.τ).loc Cert.MixGrad.main_arg5)
      ∧ r.2.mem ((c.tc : Thread Cert.MixGrad.nD Cert.MixGrad.τ).loc Cert.MixGrad.main_arg6) = m ((c.tc : Thread Cert.MixGrad.nD Cert.MixGrad.τ).loc Cert.MixGrad.main_arg6)
      ∧ r.2.mem ((c.tc : Thread Cert.MixGrad.nD Cert.MixGrad.τ).loc Cert.MixGrad.main_arg7) = m ((c.tc : Thread Cert.MixGrad.nD Cert.MixGrad.τ).loc Cert.MixGrad.main_arg7)
      ∧ r.2.mem ((c.tc : Thread Cert.MixGrad.nD Cert.MixGrad.τ).loc Cert.MixGrad.main_arg8) = m ((c.tc : Thread Cert.MixGrad.nD Cert.MixGrad.τ).loc Cert.MixGrad.main_arg8)
      ∧ r.2.mem ((c.tc : Thread Cert.MixGrad.nD Cert.MixGrad.τ).loc Cert.MixGrad.main_arg9) = m ((c.tc : Thread Cert.MixGrad.nD Cert.MixGrad.τ).loc Cert.MixGrad.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_MixGradReferenceIdeal [hMixGradReferenceIdeal : Cert.MixGradReferenceIdeal.Facts] : Prop :=
  ∀ (m : (ℓ : Loc Cert.MixGradReferenceIdeal.nD Cert.MixGradReferenceIdeal.τ Cert.MixGradReferenceIdeal.sig) → Buf (Elt Ideal) ℓ) (g : Dev Cert.MixGradReferenceIdeal.nD → PrngReg), Pre_MixGradReferenceIdeal m →
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1)
      ∧ r.2.mem ((c.tc : Thread Cert.MixGradReferenceIdeal.nD Cert.MixGradReferenceIdeal.τ).loc Cert.MixGradReferenceIdeal.main_arg2) = m ((c.tc : Thread Cert.MixGradReferenceIdeal.nD Cert.MixGradReferenceIdeal.τ).loc Cert.MixGradReferenceIdeal.main_arg2)
      ∧ r.2.mem ((c.tc : Thread Cert.MixGradReferenceIdeal.nD Cert.MixGradReferenceIdeal.τ).loc Cert.MixGradReferenceIdeal.main_arg3) = m ((c.tc : Thread Cert.MixGradReferenceIdeal.nD Cert.MixGradReferenceIdeal.τ).loc Cert.MixGradReferenceIdeal.main_arg3)
      ∧ r.2.mem ((c.tc : Thread Cert.MixGradReferenceIdeal.nD Cert.MixGradReferenceIdeal.τ).loc Cert.MixGradReferenceIdeal.main_arg4) = m ((c.tc : Thread Cert.MixGradReferenceIdeal.nD Cert.MixGradReferenceIdeal.τ).loc Cert.MixGradReferenceIdeal.main_arg4)
      ∧ r.2.mem ((c.tc : Thread Cert.MixGradReferenceIdeal.nD Cert.MixGradReferenceIdeal.τ).loc Cert.MixGradReferenceIdeal.main_arg5) = m ((c.tc : Thread Cert.MixGradReferenceIdeal.nD Cert.MixGradReferenceIdeal.τ).loc Cert.MixGradReferenceIdeal.main_arg5)
      ∧ r.2.mem ((c.tc : Thread Cert.MixGradReferenceIdeal.nD Cert.MixGradReferenceIdeal.τ).loc Cert.MixGradReferenceIdeal.main_arg6) = m ((c.tc : Thread Cert.MixGradReferenceIdeal.nD Cert.MixGradReferenceIdeal.τ).loc Cert.MixGradReferenceIdeal.main_arg6)
      ∧ r.2.mem ((c.tc : Thread Cert.MixGradReferenceIdeal.nD Cert.MixGradReferenceIdeal.τ).loc Cert.MixGradReferenceIdeal.main_arg7) = m ((c.tc : Thread Cert.MixGradReferenceIdeal.nD Cert.MixGradReferenceIdeal.τ).loc Cert.MixGradReferenceIdeal.main_arg7)
      ∧ r.2.mem ((c.tc : Thread Cert.MixGradReferenceIdeal.nD Cert.MixGradReferenceIdeal.τ).loc Cert.MixGradReferenceIdeal.main_arg8) = m ((c.tc : Thread Cert.MixGradReferenceIdeal.nD Cert.MixGradReferenceIdeal.τ).loc Cert.MixGradReferenceIdeal.main_arg8)
      ∧ r.2.mem ((c.tc : Thread Cert.MixGradReferenceIdeal.nD Cert.MixGradReferenceIdeal.τ).loc Cert.MixGradReferenceIdeal.main_arg9) = m ((c.tc : Thread Cert.MixGradReferenceIdeal.nD Cert.MixGradReferenceIdeal.τ).loc Cert.MixGradReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1184, 1024]⟩ ⟨3, ![64, 1184, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1184, 1024]⟩ ⟨2, ![9472, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1184, 1024]⟩ ⟨2, ![9472, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1184, 1024]⟩ ⟨2, ![9472, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v25)) (v2 : Buf (Elt Ideal) (((0 : Dev Cert.ReferenceIdeal.nD).tc : Thread Cert.ReferenceIdeal.nD Cert.ReferenceIdeal.τ).loc Cert.ReferenceIdeal.main_v6)) (v3 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![1184, 1024]⟩ ⟨2, ![9472, 1024]⟩ 0 8 c v0
          ∧ r.2.mem ((c.tc : Thread Cert.KernelIdeal.nD Cert.KernelIdeal.τ).loc Cert.KernelIdeal.main_v2_1) = Layout.block ⟨2, ![1184, 1024]⟩ ⟨2, ![9472, 1024]⟩ 0 8 c v1
          ∧ r.2.mem ((c.tc : Thread Cert.KernelIdeal.nD Cert.KernelIdeal.τ).loc Cert.KernelIdeal.main_v2_2) = Layout.block ⟨2, ![1184, 1024]⟩ ⟨2, ![9472, 1024]⟩ 0 8 c v2
          ∧ r.2.mem ((c.tc : Thread Cert.KernelIdeal.nD Cert.KernelIdeal.τ).loc Cert.KernelIdeal.main_v2_3) = Layout.block ⟨2, ![1184, 1024]⟩ ⟨2, ![9472, 1024]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v25) = v1
          ∧ r.2.mem (((0 : Dev Cert.ReferenceIdeal.nD).tc : Thread Cert.ReferenceIdeal.nD Cert.ReferenceIdeal.τ).loc Cert.ReferenceIdeal.main_v6) = v2
          ∧ r.2.mem (((0 : Dev Cert.ReferenceIdeal.nD).tc : Thread Cert.ReferenceIdeal.nD Cert.ReferenceIdeal.τ).loc Cert.ReferenceIdeal.main_v12) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1200, 1024]⟩ ⟨2, ![9600, 1024]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![1200, 1024]⟩ ⟨2, ![9600, 1024]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Grad_GradIdeal : Prop :=
  True

def algebraic_GradIdeal_GradReferenceIdeal [hGradIdeal : Cert.GradIdeal.Facts] [hGradReferenceIdeal : Cert.GradReferenceIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradIdeal m →
    (∀ c : Dev Cert.GradIdeal.nD,
      m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)
      ∧ m' ((c.tc : Thread Cert.GradReferenceIdeal.nD Cert.GradReferenceIdeal.τ).loc Cert.GradReferenceIdeal.main_arg3) = m ((c.tc : Thread Cert.GradIdeal.nD Cert.GradIdeal.τ).loc Cert.GradIdeal.main_arg3)
      ∧ m' ((c.tc : Thread Cert.GradReferenceIdeal.nD Cert.GradReferenceIdeal.τ).loc Cert.GradReferenceIdeal.main_arg4) = m ((c.tc : Thread Cert.GradIdeal.nD Cert.GradIdeal.τ).loc Cert.GradIdeal.main_arg4)) →
    ∃ (v0 : (c : Dev Cert.GradIdeal.nD) → Buf (Elt Ideal) ((c.tc : Thread Cert.GradIdeal.nD Cert.GradIdeal.τ).loc Cert.GradIdeal.main_v0_0)) (v1 : (c : Dev Cert.GradIdeal.nD) → Buf (Elt Ideal) ((c.tc : Thread Cert.GradIdeal.nD Cert.GradIdeal.τ).loc Cert.GradIdeal.main_v0_1)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v0_0) = v0 c
          ∧ r.2.mem ((c.tc : Thread Cert.GradIdeal.nD Cert.GradIdeal.τ).loc Cert.GradIdeal.main_v0_1) = v1 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v39) = v0 c
          ∧ r.2.mem ((c.tc : Thread Cert.GradReferenceIdeal.nD Cert.GradReferenceIdeal.τ).loc Cert.GradReferenceIdeal.main_v22) = v1 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2)
          ∧ r.2.mem ((c.tc : Thread Cert.GradReferenceIdeal.nD Cert.GradReferenceIdeal.τ).loc Cert.GradReferenceIdeal.main_arg3) = m' ((c.tc : Thread Cert.GradReferenceIdeal.nD Cert.GradReferenceIdeal.τ).loc Cert.GradReferenceIdeal.main_arg3)
          ∧ r.2.mem ((c.tc : Thread Cert.GradReferenceIdeal.nD Cert.GradReferenceIdeal.τ).loc Cert.GradReferenceIdeal.main_arg4) = m' ((c.tc : Thread Cert.GradReferenceIdeal.nD Cert.GradReferenceIdeal.τ).loc Cert.GradReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8192, 1024]⟩ ⟨2, ![65536, 1024]⟩ 0 8 c (m' (((0 : Dev Cert.LossReferenceIdeal.nD).tc : Thread Cert.LossReferenceIdeal.nD Cert.LossReferenceIdeal.τ).loc Cert.LossReferenceIdeal.main_arg0))
      ∧ m ((c.tc : Thread Cert.LossIdeal.nD Cert.LossIdeal.τ).loc Cert.LossIdeal.main_arg1) = Layout.block ⟨2, ![8192, 1024]⟩ ⟨2, ![65536, 1024]⟩ 0 8 c (m' (((0 : Dev Cert.LossReferenceIdeal.nD).tc : Thread Cert.LossReferenceIdeal.nD Cert.LossReferenceIdeal.τ).loc Cert.LossReferenceIdeal.main_arg1))) →
    ∃ (v0 : Buf (Elt Ideal) (((0 : Dev Cert.LossReferenceIdeal.nD).tc : Thread Cert.LossReferenceIdeal.nD Cert.LossReferenceIdeal.τ).loc Cert.LossReferenceIdeal.main_v8)) (v1 : Buf (Elt Ideal) (((0 : Dev Cert.LossReferenceIdeal.nD).tc : Thread Cert.LossReferenceIdeal.nD Cert.LossReferenceIdeal.τ).loc Cert.LossReferenceIdeal.main_v14)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_v1_1) = Layout.block ⟨2, ![8192, 1024]⟩ ⟨2, ![65536, 1024]⟩ 0 8 c v1
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r =>
          r.2.mem (((0 : Dev Cert.LossReferenceIdeal.nD).tc : Thread Cert.LossReferenceIdeal.nD Cert.LossReferenceIdeal.τ).loc Cert.LossReferenceIdeal.main_v8) = v0
          ∧ r.2.mem (((0 : Dev Cert.LossReferenceIdeal.nD).tc : Thread Cert.LossReferenceIdeal.nD Cert.LossReferenceIdeal.τ).loc Cert.LossReferenceIdeal.main_v14) = v1
          ∧ r.2.mem (((0 : Dev Cert.LossReferenceIdeal.nD).tc : Thread Cert.LossReferenceIdeal.nD Cert.LossReferenceIdeal.τ).loc Cert.LossReferenceIdeal.main_arg0) = m' (((0 : Dev Cert.LossReferenceIdeal.nD).tc : Thread Cert.LossReferenceIdeal.nD Cert.LossReferenceIdeal.τ).loc Cert.LossReferenceIdeal.main_arg0)
          ∧ r.2.mem (((0 : Dev Cert.LossReferenceIdeal.nD).tc : Thread Cert.LossReferenceIdeal.nD Cert.LossReferenceIdeal.τ).loc Cert.LossReferenceIdeal.main_arg1) = m' (((0 : Dev Cert.LossReferenceIdeal.nD).tc : Thread Cert.LossReferenceIdeal.nD Cert.LossReferenceIdeal.τ).loc Cert.LossReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v14) = v0 c
          ∧ r.2.mem ((c.tc : Thread Cert.ProjectReferenceIdeal.nD Cert.ProjectReferenceIdeal.τ).loc Cert.ProjectReferenceIdeal.main_v15) = v1 c
          ∧ r.2.mem ((c.tc : Thread Cert.ProjectReferenceIdeal.nD Cert.ProjectReferenceIdeal.τ).loc Cert.ProjectReferenceIdeal.main_v16) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v3) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v27) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v40) = v0 c
          ∧ r.2.mem ((c.tc : Thread Cert.MixReferenceIdeal.nD Cert.MixReferenceIdeal.τ).loc Cert.MixReferenceIdeal.main_v41) = v1 c
          ∧ r.2.mem ((c.tc : Thread Cert.MixReferenceIdeal.nD Cert.MixReferenceIdeal.τ).loc Cert.MixReferenceIdeal.main_v27) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Window_WindowIdeal : Prop :=
  IdealRules.named_const.Statement Cert.WindowIdeal.κ "mask" .f32 0xF149F2CA#32 ⊥

def algebraic_WindowIdeal_WindowReferenceIdeal [hWindowIdeal : Cert.WindowIdeal.Facts] [hWindowReferenceIdeal : Cert.WindowReferenceIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowReferenceIdeal.nD Cert.WindowReferenceIdeal.τ Cert.WindowReferenceIdeal.sig) → Buf (Elt Ideal) ℓ) (g' : Dev Cert.WindowReferenceIdeal.nD → PrngReg), Pre_WindowIdeal m →
    (∀ c : Dev Cert.WindowIdeal.nD,
      m' ((c.tc : Thread Cert.WindowReferenceIdeal.nD Cert.WindowReferenceIdeal.τ).loc Cert.WindowReferenceIdeal.main_arg0) = m ((c.tc : Thread Cert.WindowIdeal.nD Cert.WindowIdeal.τ).loc Cert.WindowIdeal.main_arg0)
      ∧ m' ((c.tc : Thread Cert.WindowReferenceIdeal.nD Cert.WindowReferenceIdeal.τ).loc Cert.WindowReferenceIdeal.main_arg1) = m ((c.tc : Thread Cert.WindowIdeal.nD Cert.WindowIdeal.τ).loc Cert.WindowIdeal.main_arg1)) →
    ∃ (v0 : (c : Dev Cert.WindowIdeal.nD) → Buf (Elt Ideal) ((c.tc : Thread Cert.WindowIdeal.nD Cert.WindowIdeal.τ).loc Cert.WindowIdeal.main_v0)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ θ_run (Cert.WindowReferenceIdeal.defs (F := Ideal)) (onTc (τ := Cert.WindowReferenceIdeal.τ) (Cert.WindowReferenceIdeal.main (F := Ideal))) ⟨m', fun _ => 0, g'⟩ (fun r => ∀ c : Dev Cert.WindowReferenceIdeal.nD,
          r.2.mem ((c.tc : Thread Cert.WindowReferenceIdeal.nD Cert.WindowReferenceIdeal.τ).loc Cert.WindowReferenceIdeal.main_v71) = v0 c
          ∧ r.2.mem ((c.tc : Thread Cert.WindowReferenceIdeal.nD Cert.WindowReferenceIdeal.τ).loc Cert.WindowReferenceIdeal.main_arg0) = m' ((c.tc : Thread Cert.WindowReferenceIdeal.nD Cert.WindowReferenceIdeal.τ).loc Cert.WindowReferenceIdeal.main_arg0)
          ∧ r.2.mem ((c.tc : Thread Cert.WindowReferenceIdeal.nD Cert.WindowReferenceIdeal.τ).loc Cert.WindowReferenceIdeal.main_arg1) = m' ((c.tc : Thread Cert.WindowReferenceIdeal.nD Cert.WindowReferenceIdeal.τ).loc Cert.WindowReferenceIdeal.main_arg1))

def preserves_Latent_LatentIdeal : Prop :=
  IdealRules.named_const.Statement Cert.LatentIdeal.κ "scale" .f32 0x3DD105EC#32 (((Real.sqrt 96)⁻¹ : ℝ) : EReal)

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v0_0)) (v1 : (c : Dev Cert.LatentIdeal.nD) → Buf (Elt Ideal) ((c.tc : Thread Cert.LatentIdeal.nD Cert.LatentIdeal.τ).loc Cert.LatentIdeal.main_v0_1)) (v2 : (c : Dev Cert.LatentIdeal.nD) → Buf (Elt Ideal) ((c.tc : Thread Cert.LatentIdeal.nD Cert.LatentIdeal.τ).loc Cert.LatentIdeal.main_v0_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0_0) = v0 c
          ∧ r.2.mem ((c.tc : Thread Cert.LatentIdeal.nD Cert.LatentIdeal.τ).loc Cert.LatentIdeal.main_v0_1) = v1 c
          ∧ r.2.mem ((c.tc : Thread Cert.LatentIdeal.nD Cert.LatentIdeal.τ).loc Cert.LatentIdeal.main_v0_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v69) = v0 c
          ∧ r.2.mem ((c.tc : Thread Cert.LatentReferenceIdeal.nD Cert.LatentReferenceIdeal.τ).loc Cert.LatentReferenceIdeal.main_v71) = v1 c
          ∧ r.2.mem ((c.tc : Thread Cert.LatentReferenceIdeal.nD Cert.LatentReferenceIdeal.τ).loc Cert.LatentReferenceIdeal.main_v73) = v2 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6))

def preserves_Causal_CausalIdeal : Prop :=
  IdealRules.named_const.Statement Cert.CausalIdeal.κ "mask" .f32 0xF149F2CA#32 ⊥

def algebraic_CausalIdeal_CausalReferenceIdeal [hCausalIdeal : Cert.CausalIdeal.Facts] [hCausalReferenceIdeal : Cert.CausalReferenceIdeal.Facts] : Prop :=
  ∀ (m : (ℓ : Loc Cert.CausalIdeal.nD Cert.CausalIdeal.τ Cert.CausalIdeal.sig) → Buf (Elt Ideal) ℓ) (g : Dev Cert.CausalIdeal.nD → PrngReg)
    (m' : (ℓ : Loc Cert.CausalReferenceIdeal.nD Cert.CausalReferenceIdeal.τ Cert.CausalReferenceIdeal.sig) → Buf (Elt Ideal) ℓ) (g' : Dev Cert.CausalReferenceIdeal.nD → PrngReg), Pre_CausalIdeal m →
    (∀ c : Dev Cert.CausalIdeal.nD,
      m' ((c.tc : Thread Cert.CausalReferenceIdeal.nD Cert.CausalReferenceIdeal.τ).loc Cert.CausalReferenceIdeal.main_arg0) = m ((c.tc : Thread Cert.CausalIdeal.nD Cert.CausalIdeal.τ).loc Cert.CausalIdeal.main_arg0)
      ∧ m' ((c.tc : Thread Cert.CausalReferenceIdeal.nD Cert.CausalReferenceIdeal.τ).loc Cert.CausalReferenceIdeal.main_arg1) = m ((c.tc : Thread Cert.CausalIdeal.nD Cert.CausalIdeal.τ).loc Cert.CausalIdeal.main_arg1)
      ∧ m' ((c.tc : Thread Cert.CausalReferenceIdeal.nD Cert.CausalReferenceIdeal.τ).loc Cert.CausalReferenceIdeal.main_arg2) = m ((c.tc : Thread Cert.CausalIdeal.nD Cert.CausalIdeal.τ).loc Cert.CausalIdeal.main_arg2)) →
    ∃ (v0 : (c : Dev Cert.CausalIdeal.nD) → Buf (Elt Ideal) ((c.tc : Thread Cert.CausalIdeal.nD Cert.CausalIdeal.τ).loc Cert.CausalIdeal.main_v0_0)) (v1 : (c : Dev Cert.CausalIdeal.nD) → Buf (Elt Ideal) ((c.tc : Thread Cert.CausalIdeal.nD Cert.CausalIdeal.τ).loc Cert.CausalIdeal.main_v0_1)),
      θ_run (Cert.CausalIdeal.defs (F := Ideal)) (onTc (τ := Cert.CausalIdeal.τ) (Cert.CausalIdeal.main (F := Ideal))) ⟨m, fun _ => 0, g⟩ (fun r => ∀ c : Dev Cert.CausalIdeal.nD,
          r.2.mem ((c.tc : Thread Cert.CausalIdeal.nD Cert.CausalIdeal.τ).loc Cert.CausalIdeal.main_v0_0) = v0 c
          ∧ r.2.mem ((c.tc : Thread Cert.CausalIdeal.nD Cert.CausalIdeal.τ).loc Cert.CausalIdeal.main_v0_1) = v1 c
          ∧ r.2.mem ((c.tc : Thread Cert.CausalIdeal.nD Cert.CausalIdeal.τ).loc Cert.CausalIdeal.main_arg0) = m ((c.tc : Thread Cert.CausalIdeal.nD Cert.CausalIdeal.τ).loc Cert.CausalIdeal.main_arg0)
          ∧ r.2.mem ((c.tc : Thread Cert.CausalIdeal.nD Cert.CausalIdeal.τ).loc Cert.CausalIdeal.main_arg1) = m ((c.tc : Thread Cert.CausalIdeal.nD Cert.CausalIdeal.τ).loc Cert.CausalIdeal.main_arg1)
          ∧ r.2.mem ((c.tc : Thread Cert.CausalIdeal.nD Cert.CausalIdeal.τ).loc Cert.CausalIdeal.main_arg2) = m ((c.tc : Thread Cert.CausalIdeal.nD Cert.CausalIdeal.τ).loc Cert.CausalIdeal.main_arg2))
      ∧ θ_run (Cert.CausalReferenceIdeal.defs (F := Ideal)) (onTc (τ := Cert.CausalReferenceIdeal.τ) (Cert.CausalReferenceIdeal.main (F := Ideal))) ⟨m', fun _ => 0, g'⟩ (fun r => ∀ c : Dev Cert.CausalReferenceIdeal.nD,
          r.2.mem ((c.tc : Thread Cert.CausalReferenceIdeal.nD Cert.CausalReferenceIdeal.τ).loc Cert.CausalReferenceIdeal.main_v27) = v0 c
          ∧ r.2.mem ((c.tc : Thread Cert.CausalReferenceIdeal.nD Cert.CausalReferenceIdeal.τ).loc Cert.CausalReferenceIdeal.main_v32) = v1 c
          ∧ r.2.mem ((c.tc : Thread Cert.CausalReferenceIdeal.nD Cert.CausalReferenceIdeal.τ).loc Cert.CausalReferenceIdeal.main_arg0) = m' ((c.tc : Thread Cert.CausalReferenceIdeal.nD Cert.CausalReferenceIdeal.τ).loc Cert.CausalReferenceIdeal.main_arg0)
          ∧ r.2.mem ((c.tc : Thread Cert.CausalReferenceIdeal.nD Cert.CausalReferenceIdeal.τ).loc Cert.CausalReferenceIdeal.main_arg1) = m' ((c.tc : Thread Cert.CausalReferenceIdeal.nD Cert.CausalReferenceIdeal.τ).loc Cert.CausalReferenceIdeal.main_arg1)
          ∧ r.2.mem ((c.tc : Thread Cert.CausalReferenceIdeal.nD Cert.CausalReferenceIdeal.τ).loc Cert.CausalReferenceIdeal.main_arg2) = m' ((c.tc : Thread Cert.CausalReferenceIdeal.nD Cert.CausalReferenceIdeal.τ).loc Cert.CausalReferenceIdeal.main_arg2))

def preserves_Stick_StickIdeal : Prop :=
  True

def algebraic_StickIdeal_StickReferenceIdeal [hStickIdeal : Cert.StickIdeal.Facts] [hStickReferenceIdeal : Cert.StickReferenceIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickIdeal m →
    (∀ c : Dev Cert.StickIdeal.nD,
      m' ((c.tc : Thread Cert.StickReferenceIdeal.nD Cert.StickReferenceIdeal.τ).loc Cert.StickReferenceIdeal.main_arg0) = m ((c.tc : Thread Cert.StickIdeal.nD Cert.StickIdeal.τ).loc Cert.StickIdeal.main_arg0)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          r.2.mem ((c.tc : Thread Cert.StickReferenceIdeal.nD Cert.StickReferenceIdeal.τ).loc Cert.StickReferenceIdeal.main_v35) = v0 c
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0))

def preserves_ConvGrad_ConvGradIdeal : Prop :=
  True

def algebraic_ConvGradIdeal_ConvGradReferenceIdeal [hConvGradIdeal : Cert.ConvGradIdeal.Facts] [hConvGradReferenceIdeal : Cert.ConvGradReferenceIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradReferenceIdeal.nD Cert.ConvGradReferenceIdeal.τ Cert.ConvGradReferenceIdeal.sig) → Buf (Elt Ideal) ℓ) (g' : Dev Cert.ConvGradReferenceIdeal.nD → PrngReg), Pre_ConvGradIdeal m →
    (∀ c : Dev Cert.ConvGradIdeal.nD,
      m' ((c.tc : Thread Cert.ConvGradReferenceIdeal.nD Cert.ConvGradReferenceIdeal.τ).loc Cert.ConvGradReferenceIdeal.main_arg0) = m ((c.tc : Thread Cert.ConvGradIdeal.nD Cert.ConvGradIdeal.τ).loc Cert.ConvGradIdeal.main_arg0)
      ∧ m' ((c.tc : Thread Cert.ConvGradReferenceIdeal.nD Cert.ConvGradReferenceIdeal.τ).loc Cert.ConvGradReferenceIdeal.main_arg1) = m ((c.tc : Thread Cert.ConvGradIdeal.nD Cert.ConvGradIdeal.τ).loc Cert.ConvGradIdeal.main_arg1)
      ∧ m' ((c.tc : Thread Cert.ConvGradReferenceIdeal.nD Cert.ConvGradReferenceIdeal.τ).loc Cert.ConvGradReferenceIdeal.main_arg2) = m ((c.tc : Thread Cert.ConvGradIdeal.nD Cert.ConvGradIdeal.τ).loc Cert.ConvGradIdeal.main_arg2)
      ∧ m' ((c.tc : Thread Cert.ConvGradReferenceIdeal.nD Cert.ConvGradReferenceIdeal.τ).loc Cert.ConvGradReferenceIdeal.main_arg3) = m ((c.tc : Thread Cert.ConvGradIdeal.nD Cert.ConvGradIdeal.τ).loc Cert.ConvGradIdeal.main_arg3)) →
    ∃ (v0 : (c : Dev Cert.ConvGradIdeal.nD) → Buf (Elt Ideal) ((c.tc : Thread Cert.ConvGradIdeal.nD Cert.ConvGradIdeal.τ).loc Cert.ConvGradIdeal.main_v0_0)) (v1 : (c : Dev Cert.ConvGradIdeal.nD) → Buf (Elt Ideal) ((c.tc : Thread Cert.ConvGradIdeal.nD Cert.ConvGradIdeal.τ).loc Cert.ConvGradIdeal.main_v0_1)) (v2 : (c : Dev Cert.ConvGradIdeal.nD) → Buf (Elt Ideal) ((c.tc : Thread Cert.ConvGradIdeal.nD Cert.ConvGradIdeal.τ).loc Cert.ConvGradIdeal.main_v0_2)) (v3 : (c : Dev Cert.ConvGradIdeal.nD) → Buf (Elt Ideal) ((c.tc : Thread Cert.ConvGradIdeal.nD Cert.ConvGradIdeal.τ).loc Cert.ConvGradIdeal.main_v0_3)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0_0) = v0 c
          ∧ r.2.mem ((c.tc : Thread Cert.ConvGradIdeal.nD Cert.ConvGradIdeal.τ).loc Cert.ConvGradIdeal.main_v0_1) = v1 c
          ∧ r.2.mem ((c.tc : Thread Cert.ConvGradIdeal.nD Cert.ConvGradIdeal.τ).loc Cert.ConvGradIdeal.main_v0_2) = v2 c
          ∧ r.2.mem ((c.tc : Thread Cert.ConvGradIdeal.nD Cert.ConvGradIdeal.τ).loc Cert.ConvGradIdeal.main_v0_3) = v3 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ θ_run (Cert.ConvGradReferenceIdeal.defs (F := Ideal)) (onTc (τ := Cert.ConvGradReferenceIdeal.τ) (Cert.ConvGradReferenceIdeal.main (F := Ideal))) ⟨m', fun _ => 0, g'⟩ (fun r => ∀ c : Dev Cert.ConvGradReferenceIdeal.nD,
          r.2.mem ((c.tc : Thread Cert.ConvGradReferenceIdeal.nD Cert.ConvGradReferenceIdeal.τ).loc Cert.ConvGradReferenceIdeal.main_v70) = v0 c
          ∧ r.2.mem ((c.tc : Thread Cert.ConvGradReferenceIdeal.nD Cert.ConvGradReferenceIdeal.τ).loc Cert.ConvGradReferenceIdeal.main_v71) = v1 c
          ∧ r.2.mem ((c.tc : Thread Cert.ConvGradReferenceIdeal.nD Cert.ConvGradReferenceIdeal.τ).loc Cert.ConvGradReferenceIdeal.main_v72) = v2 c
          ∧ r.2.mem ((c.tc : Thread Cert.ConvGradReferenceIdeal.nD Cert.ConvGradReferenceIdeal.τ).loc Cert.ConvGradReferenceIdeal.main_v69) = v3 c
          ∧ r.2.mem ((c.tc : Thread Cert.ConvGradReferenceIdeal.nD Cert.ConvGradReferenceIdeal.τ).loc Cert.ConvGradReferenceIdeal.main_arg0) = m' ((c.tc : Thread Cert.ConvGradReferenceIdeal.nD Cert.ConvGradReferenceIdeal.τ).loc Cert.ConvGradReferenceIdeal.main_arg0)
          ∧ r.2.mem ((c.tc : Thread Cert.ConvGradReferenceIdeal.nD Cert.ConvGradReferenceIdeal.τ).loc Cert.ConvGradReferenceIdeal.main_arg1) = m' ((c.tc : Thread Cert.ConvGradReferenceIdeal.nD Cert.ConvGradReferenceIdeal.τ).loc Cert.ConvGradReferenceIdeal.main_arg1)
          ∧ r.2.mem ((c.tc : Thread Cert.ConvGradReferenceIdeal.nD Cert.ConvGradReferenceIdeal.τ).loc Cert.ConvGradReferenceIdeal.main_arg2) = m' ((c.tc : Thread Cert.ConvGradReferenceIdeal.nD Cert.ConvGradReferenceIdeal.τ).loc Cert.ConvGradReferenceIdeal.main_arg2)
          ∧ r.2.mem ((c.tc : Thread Cert.ConvGradReferenceIdeal.nD Cert.ConvGradReferenceIdeal.τ).loc Cert.ConvGradReferenceIdeal.main_arg3) = m' ((c.tc : Thread Cert.ConvGradReferenceIdeal.nD Cert.ConvGradReferenceIdeal.τ).loc Cert.ConvGradReferenceIdeal.main_arg3))

def preserves_MixGrad_MixGradIdeal : Prop :=
  True

def algebraic_MixGradIdeal_MixGradReferenceIdeal [hMixGradIdeal : Cert.MixGradIdeal.Facts] [hMixGradReferenceIdeal : Cert.MixGradReferenceIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradReferenceIdeal.nD Cert.MixGradReferenceIdeal.τ Cert.MixGradReferenceIdeal.sig) → Buf (Elt Ideal) ℓ) (g' : Dev Cert.MixGradReferenceIdeal.nD → PrngReg), Pre_MixGradIdeal m →
    (∀ c : Dev Cert.MixGradIdeal.nD,
      m' ((c.tc : Thread Cert.MixGradReferenceIdeal.nD Cert.MixGradReferenceIdeal.τ).loc Cert.MixGradReferenceIdeal.main_arg0) = m ((c.tc : Thread Cert.MixGradIdeal.nD Cert.MixGradIdeal.τ).loc Cert.MixGradIdeal.main_arg0)
      ∧ m' ((c.tc : Thread Cert.MixGradReferenceIdeal.nD Cert.MixGradReferenceIdeal.τ).loc Cert.MixGradReferenceIdeal.main_arg1) = m ((c.tc : Thread Cert.MixGradIdeal.nD Cert.MixGradIdeal.τ).loc Cert.MixGradIdeal.main_arg1)
      ∧ m' ((c.tc : Thread Cert.MixGradReferenceIdeal.nD Cert.MixGradReferenceIdeal.τ).loc Cert.MixGradReferenceIdeal.main_arg2) = m ((c.tc : Thread Cert.MixGradIdeal.nD Cert.MixGradIdeal.τ).loc Cert.MixGradIdeal.main_arg2)
      ∧ m' ((c.tc : Thread Cert.MixGradReferenceIdeal.nD Cert.MixGradReferenceIdeal.τ).loc Cert.MixGradReferenceIdeal.main_arg3) = m ((c.tc : Thread Cert.MixGradIdeal.nD Cert.MixGradIdeal.τ).loc Cert.MixGradIdeal.main_arg3)
      ∧ m' ((c.tc : Thread Cert.MixGradReferenceIdeal.nD Cert.MixGradReferenceIdeal.τ).loc Cert.MixGradReferenceIdeal.main_arg4) = m ((c.tc : Thread Cert.MixGradIdeal.nD Cert.MixGradIdeal.τ).loc Cert.MixGradIdeal.main_arg4)
      ∧ m' ((c.tc : Thread Cert.MixGradReferenceIdeal.nD Cert.MixGradReferenceIdeal.τ).loc Cert.MixGradReferenceIdeal.main_arg5) = m ((c.tc : Thread Cert.MixGradIdeal.nD Cert.MixGradIdeal.τ).loc Cert.MixGradIdeal.main_arg5)
      ∧ m' ((c.tc : Thread Cert.MixGradReferenceIdeal.nD Cert.MixGradReferenceIdeal.τ).loc Cert.MixGradReferenceIdeal.main_arg6) = m ((c.tc : Thread Cert.MixGradIdeal.nD Cert.MixGradIdeal.τ).loc Cert.MixGradIdeal.main_arg6)
      ∧ m' ((c.tc : Thread Cert.MixGradReferenceIdeal.nD Cert.MixGradReferenceIdeal.τ).loc Cert.MixGradReferenceIdeal.main_arg7) = m ((c.tc : Thread Cert.MixGradIdeal.nD Cert.MixGradIdeal.τ).loc Cert.MixGradIdeal.main_arg7)
      ∧ m' ((c.tc : Thread Cert.MixGradReferenceIdeal.nD Cert.MixGradReferenceIdeal.τ).loc Cert.MixGradReferenceIdeal.main_arg8) = m ((c.tc : Thread Cert.MixGradIdeal.nD Cert.MixGradIdeal.τ).loc Cert.MixGradIdeal.main_arg8)
      ∧ m' ((c.tc : Thread Cert.MixGradReferenceIdeal.nD Cert.MixGradReferenceIdeal.τ).loc Cert.MixGradReferenceIdeal.main_arg9) = m ((c.tc : Thread Cert.MixGradIdeal.nD Cert.MixGradIdeal.τ).loc Cert.MixGradIdeal.main_arg9)) →
    ∃ (v0 : (c : Dev Cert.MixGradIdeal.nD) → Buf (Elt Ideal) ((c.tc : Thread Cert.MixGradIdeal.nD Cert.MixGradIdeal.τ).loc Cert.MixGradIdeal.main_v0_0)) (v1 : (c : Dev Cert.MixGradIdeal.nD) → Buf (Elt Ideal) ((c.tc : Thread Cert.MixGradIdeal.nD Cert.MixGradIdeal.τ).loc Cert.MixGradIdeal.main_v0_1)) (v2 : (c : Dev Cert.MixGradIdeal.nD) → Buf (Elt Ideal) ((c.tc : Thread Cert.MixGradIdeal.nD Cert.MixGradIdeal.τ).loc Cert.MixGradIdeal.main_v0_2)) (v3 : (c : Dev Cert.MixGradIdeal.nD) → Buf (Elt Ideal) ((c.tc : Thread Cert.MixGradIdeal.nD Cert.MixGradIdeal.τ).loc Cert.MixGradIdeal.main_v0_3)) (v4 : (c : Dev Cert.MixGradIdeal.nD) → Buf (Elt Ideal) ((c.tc : Thread Cert.MixGradIdeal.nD Cert.MixGradIdeal.τ).loc Cert.MixGradIdeal.main_v0_4)) (v5 : (c : Dev Cert.MixGradIdeal.nD) → Buf (Elt Ideal) ((c.tc : Thread Cert.MixGradIdeal.nD Cert.MixGradIdeal.τ).loc Cert.MixGradIdeal.main_v0_5)) (v6 : (c : Dev Cert.MixGradIdeal.nD) → Buf (Elt Ideal) ((c.tc : Thread Cert.MixGradIdeal.nD Cert.MixGradIdeal.τ).loc Cert.MixGradIdeal.main_v0_6)) (v7 : (c : Dev Cert.MixGradIdeal.nD) → Buf (Elt Ideal) ((c.tc : Thread Cert.MixGradIdeal.nD Cert.MixGradIdeal.τ).loc Cert.MixGradIdeal.main_v0_7)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0_0) = v0 c
          ∧ r.2.mem ((c.tc : Thread Cert.MixGradIdeal.nD Cert.MixGradIdeal.τ).loc Cert.MixGradIdeal.main_v0_1) = v1 c
          ∧ r.2.mem ((c.tc : Thread Cert.MixGradIdeal.nD Cert.MixGradIdeal.τ).loc Cert.MixGradIdeal.main_v0_2) = v2 c
          ∧ r.2.mem ((c.tc : Thread Cert.MixGradIdeal.nD Cert.MixGradIdeal.τ).loc Cert.MixGradIdeal.main_v0_3) = v3 c
          ∧ r.2.mem ((c.tc : Thread Cert.MixGradIdeal.nD Cert.MixGradIdeal.τ).loc Cert.MixGradIdeal.main_v0_4) = v4 c
          ∧ r.2.mem ((c.tc : Thread Cert.MixGradIdeal.nD Cert.MixGradIdeal.τ).loc Cert.MixGradIdeal.main_v0_5) = v5 c
          ∧ r.2.mem ((c.tc : Thread Cert.MixGradIdeal.nD Cert.MixGradIdeal.τ).loc Cert.MixGradIdeal.main_v0_6) = v6 c
          ∧ r.2.mem ((c.tc : Thread Cert.MixGradIdeal.nD Cert.MixGradIdeal.τ).loc Cert.MixGradIdeal.main_v0_7) = v7 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ θ_run (Cert.MixGradReferenceIdeal.defs (F := Ideal)) (onTc (τ := Cert.MixGradReferenceIdeal.τ) (Cert.MixGradReferenceIdeal.main (F := Ideal))) ⟨m', fun _ => 0, g'⟩ (fun r => ∀ c : Dev Cert.MixGradReferenceIdeal.nD,
          r.2.mem ((c.tc : Thread Cert.MixGradReferenceIdeal.nD Cert.MixGradReferenceIdeal.τ).loc Cert.MixGradReferenceIdeal.main_v109) = v0 c
          ∧ r.2.mem ((c.tc : Thread Cert.MixGradReferenceIdeal.nD Cert.MixGradReferenceIdeal.τ).loc Cert.MixGradReferenceIdeal.main_v111) = v1 c
          ∧ r.2.mem ((c.tc : Thread Cert.MixGradReferenceIdeal.nD Cert.MixGradReferenceIdeal.τ).loc Cert.MixGradReferenceIdeal.main_v113) = v2 c
          ∧ r.2.mem ((c.tc : Thread Cert.MixGradReferenceIdeal.nD Cert.MixGradReferenceIdeal.τ).loc Cert.MixGradReferenceIdeal.main_v108) = v3 c
          ∧ r.2.mem ((c.tc : Thread Cert.MixGradReferenceIdeal.nD Cert.MixGradReferenceIdeal.τ).loc Cert.MixGradReferenceIdeal.main_v115) = v4 c
          ∧ r.2.mem ((c.tc : Thread Cert.MixGradReferenceIdeal.nD Cert.MixGradReferenceIdeal.τ).loc Cert.MixGradReferenceIdeal.main_v116) = v5 c
          ∧ r.2.mem ((c.tc : Thread Cert.MixGradReferenceIdeal.nD Cert.MixGradReferenceIdeal.τ).loc Cert.MixGradReferenceIdeal.main_v17) = v6 c
          ∧ r.2.mem ((c.tc : Thread Cert.MixGradReferenceIdeal.nD Cert.MixGradReferenceIdeal.τ).loc Cert.MixGradReferenceIdeal.main_v117) = v7 c
          ∧ r.2.mem ((c.tc : Thread Cert.MixGradReferenceIdeal.nD Cert.MixGradReferenceIdeal.τ).loc Cert.MixGradReferenceIdeal.main_arg0) = m' ((c.tc : Thread Cert.MixGradReferenceIdeal.nD Cert.MixGradReferenceIdeal.τ).loc Cert.MixGradReferenceIdeal.main_arg0)
          ∧ r.2.mem ((c.tc : Thread Cert.MixGradReferenceIdeal.nD Cert.MixGradReferenceIdeal.τ).loc Cert.MixGradReferenceIdeal.main_arg1) = m' ((c.tc : Thread Cert.MixGradReferenceIdeal.nD Cert.MixGradReferenceIdeal.τ).loc Cert.MixGradReferenceIdeal.main_arg1)
          ∧ r.2.mem ((c.tc : Thread Cert.MixGradReferenceIdeal.nD Cert.MixGradReferenceIdeal.τ).loc Cert.MixGradReferenceIdeal.main_arg2) = m' ((c.tc : Thread Cert.MixGradReferenceIdeal.nD Cert.MixGradReferenceIdeal.τ).loc Cert.MixGradReferenceIdeal.main_arg2)
          ∧ r.2.mem ((c.tc : Thread Cert.MixGradReferenceIdeal.nD Cert.MixGradReferenceIdeal.τ).loc Cert.MixGradReferenceIdeal.main_arg3) = m' ((c.tc : Thread Cert.MixGradReferenceIdeal.nD Cert.MixGradReferenceIdeal.τ).loc Cert.MixGradReferenceIdeal.main_arg3)
          ∧ r.2.mem ((c.tc : Thread Cert.MixGradReferenceIdeal.nD Cert.MixGradReferenceIdeal.τ).loc Cert.MixGradReferenceIdeal.main_arg4) = m' ((c.tc : Thread Cert.MixGradReferenceIdeal.nD Cert.MixGradReferenceIdeal.τ).loc Cert.MixGradReferenceIdeal.main_arg4)
          ∧ r.2.mem ((c.tc : Thread Cert.MixGradReferenceIdeal.nD Cert.MixGradReferenceIdeal.τ).loc Cert.MixGradReferenceIdeal.main_arg5) = m' ((c.tc : Thread Cert.MixGradReferenceIdeal.nD Cert.MixGradReferenceIdeal.τ).loc Cert.MixGradReferenceIdeal.main_arg5)
          ∧ r.2.mem ((c.tc : Thread Cert.MixGradReferenceIdeal.nD Cert.MixGradReferenceIdeal.τ).loc Cert.MixGradReferenceIdeal.main_arg6) = m' ((c.tc : Thread Cert.MixGradReferenceIdeal.nD Cert.MixGradReferenceIdeal.τ).loc Cert.MixGradReferenceIdeal.main_arg6)
          ∧ r.2.mem ((c.tc : Thread Cert.MixGradReferenceIdeal.nD Cert.MixGradReferenceIdeal.τ).loc Cert.MixGradReferenceIdeal.main_arg7) = m' ((c.tc : Thread Cert.MixGradReferenceIdeal.nD Cert.MixGradReferenceIdeal.τ).loc Cert.MixGradReferenceIdeal.main_arg7)
          ∧ r.2.mem ((c.tc : Thread Cert.MixGradReferenceIdeal.nD Cert.MixGradReferenceIdeal.τ).loc Cert.MixGradReferenceIdeal.main_arg8) = m' ((c.tc : Thread Cert.MixGradReferenceIdeal.nD Cert.MixGradReferenceIdeal.τ).loc Cert.MixGradReferenceIdeal.main_arg8)
          ∧ r.2.mem ((c.tc : Thread Cert.MixGradReferenceIdeal.nD Cert.MixGradReferenceIdeal.τ).loc Cert.MixGradReferenceIdeal.main_arg9) = m' ((c.tc : Thread Cert.MixGradReferenceIdeal.nD Cert.MixGradReferenceIdeal.τ).loc Cert.MixGradReferenceIdeal.main_arg9))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hGrad : Cert.Grad.Facts) (hGradIdeal : Cert.GradIdeal.Facts) (hGradReferenceIdeal : Cert.GradReferenceIdeal.Facts) (hLoss : Cert.Loss.Facts) (hLossIdeal : Cert.LossIdeal.Facts) (hLossReferenceIdeal : Cert.LossReferenceIdeal.Facts) (hProject : Cert.Project.Facts) (hProjectIdeal : Cert.ProjectIdeal.Facts) (hProjectReferenceIdeal : Cert.ProjectReferenceIdeal.Facts) (hWeight : Cert.Weight.Facts) (hWeightIdeal : Cert.WeightIdeal.Facts) (hWeightReferenceIdeal : Cert.WeightReferenceIdeal.Facts) (hConv : Cert.Conv.Facts) (hConvIdeal : Cert.ConvIdeal.Facts) (hConvReferenceIdeal : Cert.ConvReferenceIdeal.Facts) (hMix : Cert.Mix.Facts) (hMixIdeal : Cert.MixIdeal.Facts) (hMixReferenceIdeal : Cert.MixReferenceIdeal.Facts) (hWindow : Cert.Window.Facts) (hWindowIdeal : Cert.WindowIdeal.Facts) (hWindowReferenceIdeal : Cert.WindowReferenceIdeal.Facts) (hLatent : Cert.Latent.Facts) (hLatentIdeal : Cert.LatentIdeal.Facts) (hLatentReferenceIdeal : Cert.LatentReferenceIdeal.Facts) (hCausal : Cert.Causal.Facts) (hCausalIdeal : Cert.CausalIdeal.Facts) (hCausalReferenceIdeal : Cert.CausalReferenceIdeal.Facts) (hStick : Cert.Stick.Facts) (hStickIdeal : Cert.StickIdeal.Facts) (hStickReferenceIdeal : Cert.StickReferenceIdeal.Facts) (hConvGrad : Cert.ConvGrad.Facts) (hConvGradIdeal : Cert.ConvGradIdeal.Facts) (hConvGradReferenceIdeal : Cert.ConvGradReferenceIdeal.Facts) (hMixGrad : Cert.MixGrad.Facts) (hMixGradIdeal : Cert.MixGradIdeal.Facts) (hMixGradReferenceIdeal : Cert.MixGradReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Grad (hGrad := hGrad)
    ∧ quiescent_GradIdeal (hGradIdeal := hGradIdeal)
    ∧ quiescent_GradReferenceIdeal (hGradReferenceIdeal := hGradReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Mix (hMix := hMix)
    ∧ quiescent_MixIdeal (hMixIdeal := hMixIdeal)
    ∧ quiescent_MixReferenceIdeal (hMixReferenceIdeal := hMixReferenceIdeal)
    ∧ quiescent_Window (hWindow := hWindow)
    ∧ quiescent_WindowIdeal (hWindowIdeal := hWindowIdeal)
    ∧ quiescent_WindowReferenceIdeal (hWindowReferenceIdeal := hWindowReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Causal (hCausal := hCausal)
    ∧ quiescent_CausalIdeal (hCausalIdeal := hCausalIdeal)
    ∧ quiescent_CausalReferenceIdeal (hCausalReferenceIdeal := hCausalReferenceIdeal)
    ∧ quiescent_Stick (hStick := hStick)
    ∧ quiescent_StickIdeal (hStickIdeal := hStickIdeal)
    ∧ quiescent_StickReferenceIdeal (hStickReferenceIdeal := hStickReferenceIdeal)
    ∧ quiescent_ConvGrad (hConvGrad := hConvGrad)
    ∧ quiescent_ConvGradIdeal (hConvGradIdeal := hConvGradIdeal)
    ∧ quiescent_ConvGradReferenceIdeal (hConvGradReferenceIdeal := hConvGradReferenceIdeal)
    ∧ quiescent_MixGrad (hMixGrad := hMixGrad)
    ∧ quiescent_MixGradIdeal (hMixGradIdeal := hMixGradIdeal)
    ∧ quiescent_MixGradReferenceIdeal (hMixGradReferenceIdeal := hMixGradReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Grad_GradIdeal
    ∧ algebraic_GradIdeal_GradReferenceIdeal (hGradIdeal := hGradIdeal) (hGradReferenceIdeal := hGradReferenceIdeal)
    ∧ preserves_Loss_LossIdeal
    ∧ algebraic_LossIdeal_LossReferenceIdeal (hLossIdeal := hLossIdeal) (hLossReferenceIdeal := hLossReferenceIdeal)
    ∧ preserves_Project_ProjectIdeal
    ∧ algebraic_ProjectIdeal_ProjectReferenceIdeal (hProjectIdeal := hProjectIdeal) (hProjectReferenceIdeal := hProjectReferenceIdeal)
    ∧ preserves_Weight_WeightIdeal
    ∧ algebraic_WeightIdeal_WeightReferenceIdeal (hWeightIdeal := hWeightIdeal) (hWeightReferenceIdeal := hWeightReferenceIdeal)
    ∧ preserves_Conv_ConvIdeal
    ∧ algebraic_ConvIdeal_ConvReferenceIdeal (hConvIdeal := hConvIdeal) (hConvReferenceIdeal := hConvReferenceIdeal)
    ∧ preserves_Mix_MixIdeal
    ∧ algebraic_MixIdeal_MixReferenceIdeal (hMixIdeal := hMixIdeal) (hMixReferenceIdeal := hMixReferenceIdeal)
    ∧ preserves_Window_WindowIdeal
    ∧ algebraic_WindowIdeal_WindowReferenceIdeal (hWindowIdeal := hWindowIdeal) (hWindowReferenceIdeal := hWindowReferenceIdeal)
    ∧ preserves_Latent_LatentIdeal
    ∧ algebraic_LatentIdeal_LatentReferenceIdeal (hLatentIdeal := hLatentIdeal) (hLatentReferenceIdeal := hLatentReferenceIdeal)
    ∧ preserves_Causal_CausalIdeal
    ∧ algebraic_CausalIdeal_CausalReferenceIdeal (hCausalIdeal := hCausalIdeal) (hCausalReferenceIdeal := hCausalReferenceIdeal)
    ∧ preserves_Stick_StickIdeal
    ∧ algebraic_StickIdeal_StickReferenceIdeal (hStickIdeal := hStickIdeal) (hStickReferenceIdeal := hStickReferenceIdeal)
    ∧ preserves_ConvGrad_ConvGradIdeal
    ∧ algebraic_ConvGradIdeal_ConvGradReferenceIdeal (hConvGradIdeal := hConvGradIdeal) (hConvGradReferenceIdeal := hConvGradReferenceIdeal)
    ∧ preserves_MixGrad_MixGradIdeal
    ∧ algebraic_MixGradIdeal_MixGradReferenceIdeal (hMixGradIdeal := hMixGradIdeal) (hMixGradReferenceIdeal := hMixGradReferenceIdeal)
-- ==== Kernel.lean ====
abbrev S8x1184x1024 : Shape := ⟨3, ![8, 1184, 1024]⟩
abbrev S1184x1024 : Shape := ⟨2, ![1184, 1024]⟩
abbrev S7 : Shape := ⟨1, ![7]⟩
abbrev S_ : Shape := ⟨0, ![]⟩
abbrev S1x1184x1024 : Shape := ⟨3, ![1, 1184, 1024]⟩
abbrev S1 : Shape := ⟨1, ![1]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x1184x1024, .f32⟩
  | .hbm, ⟨1, _⟩ => ⟨S1184x1024, .f32⟩
  | .hbm, ⟨2, _⟩ => ⟨S1184x1024, .f32⟩
  | .hbm, ⟨3, _⟩ => ⟨S1184x1024, .f32⟩
  | .hbm, ⟨4, _⟩ => ⟨S8x1184x1024, .f32⟩
  | .hbm, ⟨5, _⟩ => ⟨S1184x1024, .f32⟩
  | .hbm, ⟨6, _⟩ => ⟨S1184x1024, .f32⟩
  | .hbm, ⟨7, _⟩ => ⟨S1184x1024, .f32⟩
  | .hbm, ⟨8, _⟩ => ⟨S1184x1024, .f32⟩
  | .local _ .vmem, ⟨0, _⟩ => ⟨S8x32x1024, .f32⟩
  | .local _ .vmem, ⟨1, _⟩ => ⟨S8x32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x1184x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) (c0_i32_14 : BitVec 32) (c0_i32_15 : BitVec 32) (c1_i32_16 : BitVec 32) : Fin 3 → Nat :=
  let c4_i32_17 : BitVec 32 := 4#32
  let v17 : BitVec 32 := Dev.word d0
  let c4_i32_9 : BitVec 32 := 4#32
  let v18 : BitVec 32 := Scalar.divsi v17 c4_i32_9
  let c2_i32_8 : BitVec 32 := 2#32
  let v19 : BitVec 32 := Scalar.remsi v18 c2_i32_8
  let v26 : BitVec 32 := Scalar.xori v19 c0_i32_14
  let v29 : BitVec 32 := Scalar.muli c4_i32_17 v26
  let c2_i32_18 : BitVec 32 := 2#32
  let v20 : BitVec 32 := Dev.word d0
  let c2_i32_11 : BitVec 32 := 2#32
  let v21 : BitVec 32 := Scalar.divsi v20 c2_i32_11
  let c2_i32_10 : BitVec 32 := 2#32
  let v22 : BitVec 32 := Scalar.remsi v21 c2_i32_10
  let v27 : BitVec 32 := Scalar.xori v22 c0_i32_15
  let v30 : BitVec 32 := Scalar.muli c2_i32_18 v27
  let v31 : BitVec 32 := Scalar.addi v29 v30
  let v23 : BitVec 32 := Dev.word d0
  let c1_i32_13 : BitVec 32 := 1#32
  let v24 : BitVec 32 := Scalar.divsi v23 c1_i32_13
  let c2_i32_12 : BitVec 32 := 2#32
  let v25 : BitVec 32 := Scalar.remsi v24 c2_i32_12
  let v28 : BitVec 32 := Scalar.xori v25 c1_i32_16
  let v32 : BitVec 32 := Scalar.addi v31 v28
  let c0_i32_93 : BitVec 32 := 0#32
  let c0_i32_94 : BitVec 32 := 0#32
  ![v32.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_88 : BitVec 32 := 0#32
  let v17 : BitVec 32 := Dev.word d0
  let c4_i32_9 : BitVec 32 := 4#32
  let v18 : BitVec 32 := Scalar.divsi v17 c4_i32_9
  let c2_i32_8 : BitVec 32 := 2#32
  let v19 : BitVec 32 := Scalar.remsi v18 c2_i32_8
  let c0_i32_14 : BitVec 32 := 0#32
  let v26 : BitVec 32 := Scalar.xori v19 c0_i32_14
  let c4_i32_87 : BitVec 32 := 4#32
  let v129 : BitVec 32 := Scalar.muli v26 c4_i32_87
  let v130 : BitVec 32 := Scalar.addi c0_i32_88 v129
  let v20 : BitVec 32 := Dev.word d0
  let c2_i32_11 : BitVec 32 := 2#32
  let v21 : BitVec 32 := Scalar.divsi v20 c2_i32_11
  let c2_i32_10 : BitVec 32 := 2#32
  let v22 : BitVec 32 := Scalar.remsi v21 c2_i32_10
  let c0_i32_15 : BitVec 32 := 0#32
  let v27 : BitVec 32 := Scalar.xori v22 c0_i32_15
  let c2_i32_89 : BitVec 32 := 2#32
  let v131 : BitVec 32 := Scalar.muli v27 c2_i32_89
  let v132 : BitVec 32 := Scalar.addi v130 v131
  let v23 : BitVec 32 := Dev.word d0
  let c1_i32_13 : BitVec 32 := 1#32
  let v24 : BitVec 32 := Scalar.divsi v23 c1_i32_13
  let c2_i32_12 : BitVec 32 := 2#32
  let v25 : BitVec 32 := Scalar.remsi v24 c2_i32_12
  let c1_i32_16 : BitVec 32 := 1#32
  let v28 : BitVec 32 := Scalar.xori v25 c1_i32_16
  let c1_i32_90 : BitVec 32 := 1#32
  let v133 : BitVec 32 := Scalar.muli v28 c1_i32_90
  let v134 : BitVec 32 := Scalar.addi v132 v133
  v134.toNat
def k0_dev2 (d0 : Dev nD) : Nat :=
  let c0_i32_98 : BitVec 32 := 0#32
  let v33 : BitVec 32 := Dev.word d0
  let c4_i32_20 : BitVec 32 := 4#32
  let v34 : BitVec 32 := Scalar.divsi v33 c4_i32_20
  let c2_i32_19 : BitVec 32 := 2#32
  let v35 : BitVec 32 := Scalar.remsi v34 c2_i32_19
  let c0_i32_25 : BitVec 32 := 0#32
  let v42 : BitVec 32 := Scalar.xori v35 c0_i32_25
  let c4_i32_97 : BitVec 32 := 4#32
  let v143 : BitVec 32 := Scalar.muli v42 c4_i32_97
  let v144 : BitVec 32 := Scalar.addi c0_i32_98 v143
  let v36 : BitVec 32 := Dev.word d0
  let c2_i32_22 : BitVec 32 := 2#32
  let v37 : BitVec 32 := Scalar.divsi v36 c2_i32_22
  let c2_i32_21 : BitVec 32 := 2#32
  let v38 : BitVec 32 := Scalar.remsi v37 c2_i32_21
  let c1_i32_26 : BitVec 32 := 1#32
  let v43 : BitVec 32 := Scalar.xori v38 c1_i32_26
  let c2_i32_99 : BitVec 32 := 2#32
  let v145 : BitVec 32 := Scalar.muli v43 c2_i32_99
  let v146 : BitVec 32 := Scalar.addi v144 v145
  let v39 : BitVec 32 := Dev.word d0
  let c1_i32_24 : BitVec 32 := 1#32
  let v40 : BitVec 32 := Scalar.divsi v39 c1_i32_24
  let c2_i32_23 : BitVec 32 := 2#32
  let v41 : BitVec 32 := Scalar.remsi v40 c2_i32_23
  let c0_i32_27 : BitVec 32 := 0#32
  let v44 : BitVec 32 := Scalar.xori v41 c0_i32_27
  let c1_i32_100 : BitVec 32 := 1#32
  let v147 : BitVec 32 := Scalar.muli v44 c1_i32_100
  let v148 : BitVec 32 := Scalar.addi v146 v147
  v148.toNat
def k0_dev3 (d0 : Dev nD) : Nat :=
  let c0_i32_108 : BitVec 32 := 0#32
  let v49 : BitVec 32 := Dev.word d0
  let c4_i32_31 : BitVec 32 := 4#32
  let v50 : BitVec 32 := Scalar.divsi v49 c4_i32_31
  let c2_i32_30 : BitVec 32 := 2#32
  let v51 : BitVec 32 := Scalar.remsi v50 c2_i32_30
  let c0_i32_36 : BitVec 32 := 0#32
  let v58 : BitVec 32 := Scalar.xori v51 c0_i32_36
  let c4_i32_107 : BitVec 32 := 4#32
  let v157 : BitVec 32 := Scalar.muli v58 c4_i32_107
  let v158 : BitVec 32 := Scalar.addi c0_i32_108 v157
  let v52 : BitVec 32 := Dev.word d0
  let c2_i32_33 : BitVec 32 := 2#32
  let v53 : BitVec 32 := Scalar.divsi v52 c2_i32_33
  let c2_i32_32 : BitVec 32 := 2#32
  let v54 : BitVec 32 := Scalar.remsi v53 c2_i32_32
  let c1_i32_37 : BitVec 32 := 1#32
  let v59 : BitVec 32 := Scalar.xori v54 c1_i32_37
  let c2_i32_109 : BitVec 32 := 2#32
  let v159 : BitVec 32 := Scalar.muli v59 c2_i32_109
  let v160 : BitVec 32 := Scalar.addi v158 v159
  let v55 : BitVec 32 := Dev.word d0
  let c1_i32_35 : BitVec 32 := 1#32
  let v56 : BitVec 32 := Scalar.divsi v55 c1_i32_35
  let c2_i32_34 : BitVec 32 := 2#32
  let v57 : BitVec 32 := Scalar.remsi v56 c2_i32_34
  let c1_i32_38 : BitVec 32 := 1#32
  let v60 : BitVec 32 := Scalar.xori v57 c1_i32_38
  let c1_i32_110 : BitVec 32 := 1#32
  let v161 : BitVec 32 := Scalar.muli v60 c1_i32_110
  let v162 : BitVec 32 := Scalar.addi v160 v161
  v162.toNat
def k0_dev4 (d0 : Dev nD) : Nat :=
  let c0_i32_117 : BitVec 32 := 0#32
  let v65 : BitVec 32 := Dev.word d0
  let c4_i32_42 : BitVec 32 := 4#32
  let v66 : BitVec 32 := Scalar.divsi v65 c4_i32_42
  let c2_i32_41 : BitVec 32 := 2#32
  let v67 : BitVec 32 := Scalar.remsi v66 c2_i32_41
  let c1_i32_47 : BitVec 32 := 1#32
  let v74 : BitVec 32 := Scalar.xori v67 c1_i32_47
  let c4_i32_116 : BitVec 32 := 4#32
  let v171 : BitVec 32 := Scalar.muli v74 c4_i32_116
  let v172 : BitVec 32 := Scalar.addi c0_i32_117 v171
  let v68 : BitVec 32 := Dev.word d0
  let c2_i32_44 : BitVec 32 := 2#32
  let v69 : BitVec 32 := Scalar.divsi v68 c2_i32_44
  let c2_i32_43 : BitVec 32 := 2#32
  let v70 : BitVec 32 := Scalar.remsi v69 c2_i32_43
  let c0_i32_48 : BitVec 32 := 0#32
  let v75 : BitVec 32 := Scalar.xori v70 c0_i32_48
  let c2_i32_118 : BitVec 32 := 2#32
  let v173 : BitVec 32 := Scalar.muli v75 c2_i32_118
  let v174 : BitVec 32 := Scalar.addi v172 v173
  let v71 : BitVec 32 := Dev.word d0
  let c1_i32_46 : BitVec 32 := 1#32
  let v72 : BitVec 32 := Scalar.divsi v71 c1_i32_46
  let c2_i32_45 : BitVec 32 := 2#32
  let v73 : BitVec 32 := Scalar.remsi v72 c2_i32_45
  let c0_i32_49 : BitVec 32 := 0#32
  let v76 : BitVec 32 := Scalar.xori v73 c0_i32_49
  let c1_i32_119 : BitVec 32 := 1#32
  let v175 : BitVec 32 := Scalar.muli v76 c1_i32_119
  let v176 : BitVec 32 := Scalar.addi v174 v175
  v176.toNat
def k0_dev5 (d0 : Dev nD) : Nat :=
  let c0_i32_127 : BitVec 32 := 0#32
  let v81 : BitVec 32 := Dev.word d0
  let c4_i32_53 : BitVec 32 := 4#32
  let v82 : BitVec 32 := Scalar.divsi v81 c4_i32_53
  let c2_i32_52 : BitVec 32 := 2#32
  let v83 : BitVec 32 := Scalar.remsi v82 c2_i32_52
  let c1_i32_58 : BitVec 32 := 1#32
  let v90 : BitVec 32 := Scalar.xori v83 c1_i32_58
  let c4_i32_126 : BitVec 32 := 4#32
  let v185 : BitVec 32 := Scalar.muli v90 c4_i32_126
  let v186 : BitVec 32 := Scalar.addi c0_i32_127 v185
  let v84 : BitVec 32 := Dev.word d0
  let c2_i32_55 : BitVec 32 := 2#32
  let v85 : BitVec 32 := Scalar.divsi v84 c2_i32_55
  let c2_i32_54 : BitVec 32 := 2#32
  let v86 : BitVec 32 := Scalar.remsi v85 c2_i32_54
  let c0_i32_59 : BitVec 32 := 0#32
  let v91 : BitVec 32 := Scalar.xori v86 c0_i32_59
  let c2_i32_128 : BitVec 32 := 2#32
  let v187 : BitVec 32 := Scalar.muli v91 c2_i32_128
  let v188 : BitVec 32 := Scalar.addi v186 v187
  let v87 : BitVec 32 := Dev.word d0
  let c1_i32_57 : BitVec 32 := 1#32
  let v88 : BitVec 32 := Scalar.divsi v87 c1_i32_57
  let c2_i32_56 : BitVec 32 := 2#32
  let v89 : BitVec 32 := Scalar.remsi v88 c2_i32_56
  let c1_i32_60 : BitVec 32 := 1#32
  let v92 : BitVec 32 := Scalar.xori v89 c1_i32_60
  let c1_i32_129 : BitVec 32 := 1#32
  let v189 : BitVec 32 := Scalar.muli v92 c1_i32_129
  let v190 : BitVec 32 := Scalar.addi v188 v189
  v190.toNat
def k0_dev6 (d0 : Dev nD) : Nat :=
  let c0_i32_136 : BitVec 32 := 0#32
  let v97 : BitVec 32 := Dev.word d0
  let c4_i32_64 : BitVec 32 := 4#32
  let v98 : BitVec 32 := Scalar.divsi v97 c4_i32_64
  let c2_i32_63 : BitVec 32 := 2#32
  let v99 : BitVec 32 := Scalar.remsi v98 c2_i32_63
  let c1_i32_69 : BitVec 32 := 1#32
  let v106 : BitVec 32 := Scalar.xori v99 c1_i32_69
  let c4_i32_135 : BitVec 32 := 4#32
  let v199 : BitVec 32 := Scalar.muli v106 c4_i32_135
  let v200 : BitVec 32 := Scalar.addi c0_i32_136 v199
  let v100 : BitVec 32 := Dev.word d0
  let c2_i32_66 : BitVec 32 := 2#32
  let v101 : BitVec 32 := Scalar.divsi v100 c2_i32_66
  let c2_i32_65 : BitVec 32 := 2#32
  let v102 : BitVec 32 := Scalar.remsi v101 c2_i32_65
  let c1_i32_70 : BitVec 32 := 1#32
  let v107 : BitVec 32 := Scalar.xori v102 c1_i32_70
  let c2_i32_137 : BitVec 32 := 2#32
  let v201 : BitVec 32 := Scalar.muli v107 c2_i32_137
  let v202 : BitVec 32 := Scalar.addi v200 v201
  let v103 : BitVec 32 := Dev.word d0
  let c1_i32_68 : BitVec 32 := 1#32
  let v104 : BitVec 32 := Scalar.divsi v103 c1_i32_68
  let c2_i32_67 : BitVec 32 := 2#32
  let v105 : BitVec 32 := Scalar.remsi v104 c2_i32_67
  let c0_i32_71 : BitVec 32 := 0#32
  let v108 : BitVec 32 := Scalar.xori v105 c0_i32_71
  let c1_i32_138 : BitVec 32 := 1#32
  let v203 : BitVec 32 := Scalar.muli v108 c1_i32_138
  let v204 : BitVec 32 := Scalar.addi v202 v203
  v204.toNat
def k0_dev7 (d0 : Dev nD) : Nat :=
  let c0_i32_145 : BitVec 32 := 0#32
  let v113 : BitVec 32 := Dev.word d0
  let c4_i32_75 : BitVec 32 := 4#32
  let v114 : BitVec 32 := Scalar.divsi v113 c4_i32_75
  let c2_i32_74 : BitVec 32 := 2#32
  let v115 : BitVec 32 := Scalar.remsi v114 c2_i32_74
  let c1_i32_80 : BitVec 32 := 1#32
  let v122 : BitVec 32 := Scalar.xori v115 c1_i32_80
  let c4_i32_144 : BitVec 32 := 4#32
  let v213 : BitVec 32 := Scalar.muli v122 c4_i32_144
  let v214 : BitVec 32 := Scalar.addi c0_i32_145 v213
  let v116 : BitVec 32 := Dev.word d0
  let c2_i32_77 : BitVec 32 := 2#32
  let v117 : BitVec 32 := Scalar.divsi v116 c2_i32_77
  let c2_i32_76 : BitVec 32 := 2#32
  let v118 : BitVec 32 := Scalar.remsi v117 c2_i32_76
  let c1_i32_81 : BitVec 32 := 1#32
  let v123 : BitVec 32 := Scalar.xori v118 c1_i32_81
  let c2_i32_146 : BitVec 32 := 2#32
  let v215 : BitVec 32 := Scalar.muli v123 c2_i32_146
  let v216 : BitVec 32 := Scalar.addi v214 v215
  let v119 : BitVec 32 := Dev.word d0
  let c1_i32_79 : BitVec 32 := 1#32
  let v120 : BitVec 32 := Scalar.divsi v119 c1_i32_79
  let c2_i32_78 : BitVec 32 := 2#32
  let v121 : BitVec 32 := Scalar.remsi v120 c2_i32_78
  let c1_i32_82 : BitVec 32 := 1#32
  let v124 : BitVec 32 := Scalar.xori v121 c1_i32_82
  let c1_i32_147 : BitVec 32 := 1#32
  let v217 : BitVec 32 := Scalar.muli v124 c1_i32_147
  let v218 : BitVec 32 := Scalar.addi v216 v217
  v218.toNat
abbrev grid1 : Pipeline.Grid := ⟨1, ![37], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S64x1184x1024 : Shape := ⟨3, ![64, 1184, 1024]⟩
abbrev S9472x1024 : Shape := ⟨2, ![9472, 1024]⟩
abbrev S8x9472x1024 : Shape := ⟨3, ![8, 9472, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x1184x1024, .f32⟩
  | .hbm, ⟨1, _⟩ => ⟨S9472x1024, .f32⟩
  | .hbm, ⟨2, _⟩ => ⟨S9472x1024, .f32⟩
  | .hbm, ⟨3, _⟩ => ⟨S9472x1024, .f32⟩
  | .hbm, ⟨4, _⟩ => ⟨S8x9472x1024, .f32⟩
  | .hbm, ⟨5, _⟩ => ⟨S_, .f32⟩
  | .hbm, ⟨6, _⟩ => ⟨S9472x1024, .f32⟩
  | .hbm, ⟨7, _⟩ => ⟨S_, .f32⟩
  | .hbm, ⟨8, _⟩ => ⟨S9472x1024, .f32⟩
  | .hbm, ⟨9, _⟩ => ⟨S9472x1024, .f32⟩
  | .hbm, ⟨10, _⟩ => ⟨S_, .f32⟩
  | .hbm, ⟨11, _⟩ => ⟨S9472x1024, .f32⟩
  | .hbm, ⟨12, _⟩ => ⟨S9472x1024, .f32⟩
  | .hbm, ⟨13, _⟩ => ⟨S9472x1024, .f32⟩
  | .hbm, ⟨14, _⟩ => ⟨S_, .f32⟩
  | .hbm, ⟨15, _⟩ => ⟨S9472x1024, .f32⟩
  | .hbm, ⟨16, _⟩ => ⟨S9472x1024, .f32⟩
  | .hbm, ⟨17, _⟩ => ⟨S9472x1024, .f32⟩
  | .hbm, ⟨18, _⟩ => ⟨S_, .f32⟩
  | .hbm, ⟨19, _⟩ => ⟨S9472x1024, .f32⟩
  | .hbm, ⟨20, _⟩ => ⟨S9472x1024, .f32⟩
  | .hbm, ⟨21, _⟩ => ⟨S9472x1024, .f32⟩
  | .hbm, ⟨22, _⟩ => ⟨S_, .f32⟩
  | .hbm, ⟨23, _⟩ => ⟨S9472x1024, .f32⟩
  | .hbm, ⟨24, _⟩ => ⟨S9472x1024, .f32⟩
  | .hbm, ⟨25, _⟩ => ⟨S_, .f32⟩
  | .hbm, ⟨26, _⟩ => ⟨S9472x1024, .f32⟩
  | .hbm, ⟨27, _⟩ => ⟨S9472x1024, .f32⟩
  | .hbm, ⟨28, _⟩ => ⟨S9472x1024, .f32⟩
  | .hbm, ⟨29, _⟩ => ⟨S_, .f32⟩
  | .hbm, ⟨30, _⟩ => ⟨S9472x1024, .f32⟩
  | .hbm, ⟨31, _⟩ => ⟨S9472x1024, .f32⟩
  | .hbm, ⟨32, _⟩ => ⟨S9472x1024, .f32⟩
  | .hbm, ⟨33, _⟩ => ⟨S_, .f32⟩
  | .hbm, ⟨34, _⟩ => ⟨S9472x1024, .f32⟩
  | .hbm, ⟨35, _⟩ => ⟨S9472x1024, .f32⟩
  | .hbm, ⟨36, _⟩ => ⟨S9472x1024, .f32⟩
  | .hbm, ⟨37, _⟩ => ⟨S_, .f32⟩
  | .hbm, ⟨38, _⟩ => ⟨S9472x1024, .f32⟩
  | .hbm, ⟨39, _⟩ => ⟨S9472x1024, .f32⟩
  | _, _ => ⟨S64x1184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Gather.lean ====
abbrev S1200x1024 : Shape := ⟨2, ![1200, 1024]⟩
abbrev S8x1200x1024 : Shape := ⟨3, ![8, 1200, 1024]⟩
abbrev S7 : Shape := ⟨1, ![7]⟩
abbrev S_ : Shape := ⟨0, ![]⟩
abbrev S1x1200x1024 : Shape := ⟨3, ![1, 1200, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1200x1024, .bf16⟩
  | .hbm, ⟨1, _⟩ => ⟨S8x1200x1024, .bf16⟩
  | _, _ => ⟨S1200x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_72 : BitVec 32 := 0#32
  let v15 : BitVec 32 := Dev.word d0
  let c4_i32_7 : BitVec 32 := 4#32
  let v16 : BitVec 32 := Scalar.divsi v15 c4_i32_7
  let c2_i32_6 : BitVec 32 := 2#32
  let v17 : BitVec 32 := Scalar.remsi v16 c2_i32_6
  let c0_i32_12 : BitVec 32 := 0#32
  let v24 : BitVec 32 := Scalar.xori v17 c0_i32_12
  let c4_i32_71 : BitVec 32 := 4#32
  let v99 : BitVec 32 := Scalar.muli v24 c4_i32_71
  let v100 : BitVec 32 := Scalar.addi c0_i32_72 v99
  let v18 : BitVec 32 := Dev.word d0
  let c2_i32_9 : BitVec 32 := 2#32
  let v19 : BitVec 32 := Scalar.divsi v18 c2_i32_9
  let c2_i32_8 : BitVec 32 := 2#32
  let v20 : BitVec 32 := Scalar.remsi v19 c2_i32_8
  let c0_i32_13 : BitVec 32 := 0#32
  let v25 : BitVec 32 := Scalar.xori v20 c0_i32_13
  let c2_i32_73 : BitVec 32 := 2#32
  let v101 : BitVec 32 := Scalar.muli v25 c2_i32_73
  let v102 : BitVec 32 := Scalar.addi v100 v101
  let v21 : BitVec 32 := Dev.word d0
  let c1_i32_11 : BitVec 32 := 1#32
  let v22 : BitVec 32 := Scalar.divsi v21 c1_i32_11
  let c2_i32_10 : BitVec 32 := 2#32
  let v23 : BitVec 32 := Scalar.remsi v22 c2_i32_10
  let c1_i32_14 : BitVec 32 := 1#32
  let v26 : BitVec 32 := Scalar.xori v23 c1_i32_14
  let c1_i32_74 : BitVec 32 := 1#32
  let v103 : BitVec 32 := Scalar.muli v26 c1_i32_74
  let v104 : BitVec 32 := Scalar.addi v102 v103
  v104.toNat
def k0_dev2 (d0 : Dev nD) : Nat :=
  let c0_i32_80 : BitVec 32 := 0#32
  let v27 : BitVec 32 := Dev.word d0
  let c4_i32_16 : BitVec 32 := 4#32
  let v28 : BitVec 32 := Scalar.divsi v27 c4_i32_16
  let c2_i32_15 : BitVec 32 := 2#32
  let v29 : BitVec 32 := Scalar.remsi v28 c2_i32_15
  let c0_i32_21 : BitVec 32 := 0#32
  let v36 : BitVec 32 := Scalar.xori v29 c0_i32_21
  let c4_i32_79 : BitVec 32 := 4#32
  let v111 : BitVec 32 := Scalar.muli v36 c4_i32_79
  let v112 : BitVec 32 := Scalar.addi c0_i32_80 v111
  let v30 : BitVec 32 := Dev.word d0
  let c2_i32_18 : BitVec 32 := 2#32
  let v31 : BitVec 32 := Scalar.divsi v30 c2_i32_18
  let c2_i32_17 : BitVec 32 := 2#32
  let v32 : BitVec 32 := Scalar.remsi v31 c2_i32_17
  let c1_i32_22 : BitVec 32 := 1#32
  let v37 : BitVec 32 := Scalar.xori v32 c1_i32_22
  let c2_i32_81 : BitVec 32 := 2#32
  let v113 : BitVec 32 := Scalar.muli v37 c2_i32_81
  let v114 : BitVec 32 := Scalar.addi v112 v113
  let v33 : BitVec 32 := Dev.word d0
  let c1_i32_20 : BitVec 32 := 1#32
  let v34 : BitVec 32 := Scalar.divsi v33 c1_i32_20
  let c2_i32_19 : BitVec 32 := 2#32
  let v35 : BitVec 32 := Scalar.remsi v34 c2_i32_19
  let c0_i32_23 : BitVec 32 := 0#32
  let v38 : BitVec 32 := Scalar.xori v35 c0_i32_23
  let c1_i32_82 : BitVec 32 := 1#32
  let v115 : BitVec 32 := Scalar.muli v38 c1_i32_82
  let v116 : BitVec 32 := Scalar.addi v114 v115
  v116.toNat
def k0_dev3 (d0 : Dev nD) : Nat :=
  let c0_i32_88 : BitVec 32 := 0#32
  let v39 : BitVec 32 := Dev.word d0
  let c4_i32_25 : BitVec 32 := 4#32
  let v40 : BitVec 32 := Scalar.divsi v39 c4_i32_25
  let c2_i32_24 : BitVec 32 := 2#32
  let v41 : BitVec 32 := Scalar.remsi v40 c2_i32_24
  let c0_i32_30 : BitVec 32 := 0#32
  let v48 : BitVec 32 := Scalar.xori v41 c0_i32_30
  let c4_i32_87 : BitVec 32 := 4#32
  let v123 : BitVec 32 := Scalar.muli v48 c4_i32_87
  let v124 : BitVec 32 := Scalar.addi c0_i32_88 v123
  let v42 : BitVec 32 := Dev.word d0
  let c2_i32_27 : BitVec 32 := 2#32
  let v43 : BitVec 32 := Scalar.divsi v42 c2_i32_27
  let c2_i32_26 : BitVec 32 := 2#32
  let v44 : BitVec 32 := Scalar.remsi v43 c2_i32_26
  let c1_i32_31 : BitVec 32 := 1#32
  let v49 : BitVec 32 := Scalar.xori v44 c1_i32_31
  let c2_i32_89 : BitVec 32 := 2#32
  let v125 : BitVec 32 := Scalar.muli v49 c2_i32_89
  let v126 : BitVec 32 := Scalar.addi v124 v125
  let v45 : BitVec 32 := Dev.word d0
  let c1_i32_29 : BitVec 32 := 1#32
  let v46 : BitVec 32 := Scalar.divsi v45 c1_i32_29
  let c2_i32_28 : BitVec 32 := 2#32
  let v47 : BitVec 32 := Scalar.remsi v46 c2_i32_28
  let c1_i32_32 : BitVec 32 := 1#32
  let v50 : BitVec 32 := Scalar.xori v47 c1_i32_32
  let c1_i32_90 : BitVec 32 := 1#32
  let v127 : BitVec 32 := Scalar.muli v50 c1_i32_90
  let v128 : BitVec 32 := Scalar.addi v126 v127
  v128.toNat
def k0_dev4 (d0 : Dev nD) : Nat :=
  let c0_i32_95 : BitVec 32 := 0#32
  let v51 : BitVec 32 := Dev.word d0
  let c4_i32_34 : BitVec 32 := 4#32
  let v52 : BitVec 32 := Scalar.divsi v51 c4_i32_34
  let c2_i32_33 : BitVec 32 := 2#32
  let v53 : BitVec 32 := Scalar.remsi v52 c2_i32_33
  let c1_i32_39 : BitVec 32 := 1#32
  let v60 : BitVec 32 := Scalar.xori v53 c1_i32_39
  let c4_i32_94 : BitVec 32 := 4#32
  let v135 : BitVec 32 := Scalar.muli v60 c4_i32_94
  let v136 : BitVec 32 := Scalar.addi c0_i32_95 v135
  let v54 : BitVec 32 := Dev.word d0
  let c2_i32_36 : BitVec 32 := 2#32
  let v55 : BitVec 32 := Scalar.divsi v54 c2_i32_36
  let c2_i32_35 : BitVec 32 := 2#32
  let v56 : BitVec 32 := Scalar.remsi v55 c2_i32_35
  let c0_i32_40 : BitVec 32 := 0#32
  let v61 : BitVec 32 := Scalar.xori v56 c0_i32_40
  let c2_i32_96 : BitVec 32 := 2#32
  let v137 : BitVec 32 := Scalar.muli v61 c2_i32_96
  let v138 : BitVec 32 := Scalar.addi v136 v137
  let v57 : BitVec 32 := Dev.word d0
  let c1_i32_38 : BitVec 32 := 1#32
  let v58 : BitVec 32 := Scalar.divsi v57 c1_i32_38
  let c2_i32_37 : BitVec 32 := 2#32
  let v59 : BitVec 32 := Scalar.remsi v58 c2_i32_37
  let c0_i32_41 : BitVec 32 := 0#32
  let v62 : BitVec 32 := Scalar.xori v59 c0_i32_41
  let c1_i32_97 : BitVec 32 := 1#32
  let v139 : BitVec 32 := Scalar.muli v62 c1_i32_97
  let v140 : BitVec 32 := Scalar.addi v138 v139
  v140.toNat
def k0_dev5 (d0 : Dev nD) : Nat :=
  let c0_i32_103 : BitVec 32 := 0#32
  let v63 : BitVec 32 := Dev.word d0
  let c4_i32_43 : BitVec 32 := 4#32
  let v64 : BitVec 32 := Scalar.divsi v63 c4_i32_43
  let c2_i32_42 : BitVec 32 := 2#32
  let v65 : BitVec 32 := Scalar.remsi v64 c2_i32_42
  let c1_i32_48 : BitVec 32 := 1#32
  let v72 : BitVec 32 := Scalar.xori v65 c1_i32_48
  let c4_i32_102 : BitVec 32 := 4#32
  let v147 : BitVec 32 := Scalar.muli v72 c4_i32_102
  let v148 : BitVec 32 := Scalar.addi c0_i32_103 v147
  let v66 : BitVec 32 := Dev.word d0
  let c2_i32_45 : BitVec 32 := 2#32
  let v67 : BitVec 32 := Scalar.divsi v66 c2_i32_45
  let c2_i32_44 : BitVec 32 := 2#32
  let v68 : BitVec 32 := Scalar.remsi v67 c2_i32_44
  let c0_i32_49 : BitVec 32 := 0#32
  let v73 : BitVec 32 := Scalar.xori v68 c0_i32_49
  let c2_i32_104 : BitVec 32 := 2#32
  let v149 : BitVec 32 := Scalar.muli v73 c2_i32_104
  let v150 : BitVec 32 := Scalar.addi v148 v149
  let v69 : BitVec 32 := Dev.word d0
  let c1_i32_47 : BitVec 32 := 1#32
  let v70 : BitVec 32 := Scalar.divsi v69 c1_i32_47
  let c2_i32_46 : BitVec 32 := 2#32
  let v71 : BitVec 32 := Scalar.remsi v70 c2_i32_46
  let c1_i32_50 : BitVec 32 := 1#32
  let v74 : BitVec 32 := Scalar.xori v71 c1_i32_50
  let c1_i32_105 : BitVec 32 := 1#32
  let v151 : BitVec 32 := Scalar.muli v74 c1_i32_105
  let v152 : BitVec 32 := Scalar.addi v150 v151
  v152.toNat
def k0_dev6 (d0 : Dev nD) : Nat :=
  let c0_i32_110 : BitVec 32 := 0#32
  let v75 : BitVec 32 := Dev.word d0
  let c4_i32_52 : BitVec 32 := 4#32
  let v76 : BitVec 32 := Scalar.divsi v75 c4_i32_52
  let c2_i32_51 : BitVec 32 := 2#32
  let v77 : BitVec 32 := Scalar.remsi v76 c2_i32_51
  let c1_i32_57 : BitVec 32 := 1#32
  let v84 : BitVec 32 := Scalar.xori v77 c1_i32_57
  let c4_i32_109 : BitVec 32 := 4#32
  let v159 : BitVec 32 := Scalar.muli v84 c4_i32_109
  let v160 : BitVec 32 := Scalar.addi c0_i32_110 v159
  let v78 : BitVec 32 := Dev.word d0
  let c2_i32_54 : BitVec 32 := 2#32
  let v79 : BitVec 32 := Scalar.divsi v78 c2_i32_54
  let c2_i32_53 : BitVec 32 := 2#32
  let v80 : BitVec 32 := Scalar.remsi v79 c2_i32_53
  let c1_i32_58 : BitVec 32 := 1#32
  let v85 : BitVec 32 := Scalar.xori v80 c1_i32_58
  let c2_i32_111 : BitVec 32 := 2#32
  let v161 : BitVec 32 := Scalar.muli v85 c2_i32_111
  let v162 : BitVec 32 := Scalar.addi v160 v161
  let v81 : BitVec 32 := Dev.word d0
  let c1_i32_56 : BitVec 32 := 1#32
  let v82 : BitVec 32 := Scalar.divsi v81 c1_i32_56
  let c2_i32_55 : BitVec 32 := 2#32
  let v83 : BitVec 32 := Scalar.remsi v82 c2_i32_55
  let c0_i32_59 : BitVec 32 := 0#32
  let v86 : BitVec 32 := Scalar.xori v83 c0_i32_59
  let c1_i32_112 : BitVec 32 := 1#32
  let v163 : BitVec 32 := Scalar.muli v86 c1_i32_112
  let v164 : BitVec 32 := Scalar.addi v162 v163
  v164.toNat
def k0_dev7 (d0 : Dev nD) : Nat :=
  let c0_i32_117 : BitVec 32 := 0#32
  let v87 : BitVec 32 := Dev.word d0
  let c4_i32_61 : BitVec 32 := 4#32
  let v88 : BitVec 32 := Scalar.divsi v87 c4_i32_61
  let c2_i32_60 : BitVec 32 := 2#32
  let v89 : BitVec 32 := Scalar.remsi v88 c2_i32_60
  let c1_i32_66 : BitVec 32 := 1#32
  let v96 : BitVec 32 := Scalar.xori v89 c1_i32_66
  let c4_i32_116 : BitVec 32 := 4#32
  let v171 : BitVec 32 := Scalar.muli v96 c4_i32_116
  let v172 : BitVec 32 := Scalar.addi c0_i32_117 v171
  let v90 : BitVec 32 := Dev.word d0
  let c2_i32_63 : BitVec 32 := 2#32
  let v91 : BitVec 32 := Scalar.divsi v90 c2_i32_63
  let c2_i32_62 : BitVec 32 := 2#32
  let v92 : BitVec 32 := Scalar.remsi v91 c2_i32_62
  let c1_i32_67 : BitVec 32 := 1#32
  let v97 : BitVec 32 := Scalar.xori v92 c1_i32_67
  let c2_i32_118 : BitVec 32 := 2#32
  let v173 : BitVec 32 := Scalar.muli v97 c2_i32_118
  let v174 : BitVec 32 := Scalar.addi v172 v173
  let v93 : BitVec 32 := Dev.word d0
  let c1_i32_65 : BitVec 32 := 1#32
  let v94 : BitVec 32 := Scalar.divsi v93 c1_i32_65
  let c2_i32_64 : BitVec 32 := 2#32
  let v95 : BitVec 32 := Scalar.remsi v94 c2_i32_64
  let c1_i32_68 : BitVec 32 := 1#32
  let v98 : BitVec 32 := Scalar.xori v95 c1_i32_68
  let c1_i32_119 : BitVec 32 := 1#32
  let v175 : BitVec 32 := Scalar.muli v98 c1_i32_119
  let v176 : BitVec 32 := Scalar.addi v174 v175
  v176.toNat
-- ==== GatherReference.lean ====
abbrev S9600x1024 : Shape := ⟨2, ![9600, 1024]⟩
abbrev S8x1200x1024 : Shape := ⟨3, ![8, 1200, 1024]⟩

abbrev nBuf : Space → Nat
  | .hbm => 2
  | .vmem => 0
  | .smem => 0
  | _ => 0

abbrev bufTy : (tb : Table) → Fin (tcTables nBuf tb) → BufTy
  | .hbm, ⟨0, _⟩ => ⟨S9600x1024, .bf16⟩
  | .hbm, ⟨1, _⟩ => ⟨S8x1200x1024, .bf16⟩
  | _, _ => ⟨S9600x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Grad.lean ====
abbrev S8192x3840 : Shape := ⟨2, ![8192, 3840]⟩
abbrev S3840x1024 : Shape := ⟨2, ![3840, 1024]⟩
abbrev S8192x1024 : Shape := ⟨2, ![8192, 1024]⟩
abbrev S1x1024 : Shape := ⟨2, ![1, 1024]⟩
abbrev S256x3840 : Shape := ⟨2, ![256, 3840]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3840, .bf16⟩
  | .hbm, ⟨1, _⟩ => ⟨S3840x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S256x3840, .bf16⟩
  | .local _ .vmem, ⟨1, _⟩ => ⟨S256x3840, .bf16⟩
  | .local _ .vmem, ⟨2, _⟩ => ⟨S3840x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradReferenceIdeal.lean ====
abbrev S8192x3840 : Shape := ⟨2, ![8192, 3840]⟩
abbrev S3840x1024 : Shape := ⟨2, ![3840, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x3840 : Shape := ⟨2, ![1024, 3840]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S3840x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S3840x1024, .f32⟩
  | .hbm, ⟨25, _⟩ => ⟨S1024x3840, .f32⟩
  | .hbm, ⟨26, _⟩ => ⟨S8192x3840, .f32⟩
  | .hbm, ⟨27, _⟩ => ⟨S8192x3840, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v4_s0 : Ref sig .tc := ⟨.hbm, 9, rfl⟩
abbrev main_v4_s1 : Ref sig .tc := ⟨.hbm, 10, rfl⟩
abbrev main_v4_s2 : Ref sig .tc := ⟨.hbm, 11, rfl⟩
abbrev main_v4_s3 : Ref sig .tc := ⟨.hbm, 12, rfl⟩
abbrev main_v4_s4 : Ref sig .tc := ⟨.hbm, 13, rfl⟩
abbrev main_v4_s5 : Ref sig .tc := ⟨.hbm, 14, rfl⟩
abbrev main_v4_s6 : Ref sig .tc := ⟨.hbm, 15, rfl⟩
abbrev main_v4_s7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S65536x1024 : Shape := ⟨2, ![65536, 1024]⟩
abbrev S_ : Shape := ⟨0, ![]⟩
abbrev S65536 : Shape := ⟨1, ![65536]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x1024, .f32⟩
  | .hbm, ⟨4, _⟩ => ⟨S_, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536x1024, .f32⟩
  | .hbm, ⟨24, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Project.lean ====
abbrev S8192x1024 : Shape := ⟨2, ![8192, 1024]⟩
abbrev S1x1024 : Shape := ⟨2, ![1, 1024]⟩
abbrev S3840x1024 : Shape := ⟨2, ![3840, 1024]⟩
abbrev S8192x3840 : Shape := ⟨2, ![8192, 3840]⟩
abbrev S256x1024 : Shape := ⟨2, ![256, 1024]⟩
abbrev S256x3840 : Shape := ⟨2, ![256, 3840]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3840x1024, .bf16⟩
  | .hbm, ⟨3, _⟩ => ⟨S8192x3840, .f32⟩
  | .hbm, ⟨4, _⟩ => ⟨S8192x3840, .bf16⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3840x1024, .bf16⟩
  | .local _ .vmem, ⟨4, _⟩ => ⟨S256x3840, .f32⟩
  | .local _ .vmem, ⟨5, _⟩ => ⟨S256x3840, .f32⟩
  | .local _ .vmem, ⟨6, _⟩ => ⟨S256x3840, .bf16⟩
  | .local _ .vmem, ⟨7, _⟩ => ⟨S256x3840, .bf16⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectReferenceIdeal.lean ====
abbrev S8192x1024 : Shape := ⟨2, ![8192, 1024]⟩
abbrev S1x1024 : Shape := ⟨2, ![1, 1024]⟩
abbrev S3840x1024 : Shape := ⟨2, ![3840, 1024]⟩
abbrev S_ : Shape := ⟨0, ![]⟩
abbrev S8192 : Shape := ⟨1, ![8192]⟩
abbrev S8192x1 : Shape := ⟨2, ![8192, 1]⟩
abbrev S1024x3840 : Shape := ⟨2, ![1024, 3840]⟩
abbrev S8192x3840 : Shape := ⟨2, ![8192, 3840]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3840x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S3840x1024, .f32⟩
  | .hbm, ⟨19, _⟩ => ⟨S1024x3840, .f32⟩
  | .hbm, ⟨20, _⟩ => ⟨S8192x3840, .f32⟩
  | .hbm, ⟨21, _⟩ => ⟨S8192x3840, .bf16⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Weight.lean ====
abbrev S8192x1024 : Shape := ⟨2, ![8192, 1024]⟩
abbrev S8192x3840 : Shape := ⟨2, ![8192, 3840]⟩
abbrev S1024x3840 : Shape := ⟨2, ![1024, 3840]⟩
abbrev S512x1024 : Shape := ⟨2, ![512, 1024]⟩
abbrev S512x1280 : Shape := ⟨2, ![512, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S1024x3840, .f32⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S1024x1280, .f32⟩
  | .local _ .vmem, ⟨5, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightReferenceIdeal.lean ====
abbrev S8192x1024 : Shape := ⟨2, ![8192, 1024]⟩
abbrev S8192x3840 : Shape := ⟨2, ![8192, 3840]⟩
abbrev S1024x8192 : Shape := ⟨2, ![1024, 8192]⟩
abbrev S1024x3840 : Shape := ⟨2, ![1024, 3840]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S8192x1024, .f32⟩
  | .hbm, ⟨3, _⟩ => ⟨S1024x8192, .f32⟩
  | .hbm, ⟨4, _⟩ => ⟨S8192x3840, .f32⟩
  | .hbm, ⟨5, _⟩ => ⟨S1024x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Conv.lean ====
abbrev S8192x3840 : Shape := ⟨2, ![8192, 3840]⟩
abbrev S8x256 : Shape := ⟨2, ![8, 256]⟩
abbrev S1x256 : Shape := ⟨2, ![1, 256]⟩
abbrev S8192x256 : Shape := ⟨2, ![8192, 256]⟩
abbrev S512x256 : Shape := ⟨2, ![512, 256]⟩

abbrev nBuf : Space → Nat
  | .hbm => 4
  | .vmem => 14
  | .smem => 0
  | _ => 0

abbrev bufTy : (tb : Table) → Fin (tcTables nBuf tb) → BufTy
  | .hbm, ⟨0, _⟩ => ⟨S8192x3840, .f32⟩
  | .hbm, ⟨1, _⟩ => ⟨S8x256, .f32⟩
  | .hbm, ⟨2, _⟩ => ⟨S1x256, .f32⟩
  | .hbm, ⟨3, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvReferenceIdeal.lean ====
abbrev S8192x3840 : Shape := ⟨2, ![8192, 3840]⟩
abbrev S8x256 : Shape := ⟨2, ![8, 256]⟩
abbrev S1x256 : Shape := ⟨2, ![1, 256]⟩
abbrev S8192x256 : Shape := ⟨2, ![8192, 256]⟩
abbrev S_ : Shape := ⟨0, ![]⟩
abbrev S8194x256 : Shape := ⟨2, ![8194, 256]⟩
abbrev S256 : Shape := ⟨1, ![256]⟩

abbrev nBuf : Space → Nat
  | .hbm => 33
  | .vmem => 0
  | .smem => 0
  | _ => 0

abbrev bufTy : (tb : Table) → Fin (tcTables nBuf tb) → BufTy
  | .hbm, ⟨0, _⟩ => ⟨S8192x3840, .f32⟩
  | .hbm, ⟨1, _⟩ => ⟨S8x256, .f32⟩
  | .hbm, ⟨2, _⟩ => ⟨S1x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .i32⟩
  | .hbm, ⟨8, _⟩ => ⟨S_, .f32⟩
  | .hbm, ⟨9, _⟩ => ⟨S8194x256, .f32⟩
  | .hbm, ⟨10, _⟩ => ⟨S1x256, .f32⟩
  | .hbm, ⟨11, _⟩ => ⟨S256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S1x256, .f32⟩
  | .hbm, ⟨17, _⟩ => ⟨S256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Mix.lean ====
abbrev S8192x256 : Shape := ⟨2, ![8192, 256]⟩
abbrev S8192x512 : Shape := ⟨2, ![8192, 512]⟩
abbrev S8192x3840 : Shape := ⟨2, ![8192, 3840]⟩
abbrev S1x1024 : Shape := ⟨2, ![1, 1024]⟩
abbrev S1024x1024 : Shape := ⟨2, ![1024, 1024]⟩
abbrev S8192x1024 : Shape := ⟨2, ![8192, 1024]⟩
abbrev S256x256 : Shape := ⟨2, ![256, 256]⟩
abbrev S256x512 : Shape := ⟨2, ![256, 512]⟩
abbrev S256x1024 : Shape := ⟨2, ![256, 1024]⟩
abbrev S256x64 : Shape := ⟨2, ![256, 64]⟩
abbrev S1x256 : Shape := ⟨2, ![1, 256]⟩
abbrev S256 : Shape := ⟨1, ![256]⟩
abbrev S256x1 : Shape := ⟨2, ![256, 1]⟩

abbrev nBuf : Space → Nat
  | .hbm => 12
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x3840, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S8192x256 : Shape := ⟨2, ![8192, 256]⟩
abbrev S8192x512 : Shape := ⟨2, ![8192, 512]⟩
abbrev S8192x3840 : Shape := ⟨2, ![8192, 3840]⟩
abbrev S1x1024 : Shape := ⟨2, ![1, 1024]⟩
abbrev S1024x1024 : Shape := ⟨2, ![1024, 1024]⟩
abbrev S8192x1024 : Shape := ⟨2, ![8192, 1024]⟩
abbrev S8192x4x128 : Shape := ⟨3, ![8192, 4, 128]⟩
abbrev S8192x4x64 : Shape := ⟨3, ![8192, 4, 64]⟩
abbrev S8192x1x256 : Shape := ⟨3, ![8192, 1, 256]⟩
abbrev S8192x4x256 : Shape := ⟨3, ![8192, 4, 256]⟩
abbrev S4x256 : Shape := ⟨2, ![4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩
abbrev S8192 : Shape := ⟨1, ![8192]⟩
abbrev S8192x1 : Shape := ⟨2, ![8192, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x3840, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x4x128, .f32⟩
  | .hbm, ⟨10, _⟩ => ⟨S8192x4x64, .f32⟩
  | .hbm, ⟨11, _⟩ => ⟨S8192x256, .f32⟩
  | .hbm, ⟨12, _⟩ => ⟨S8192x1x256, .f32⟩
  | .hbm, ⟨13, _⟩ => ⟨S8192x1x256, .f32⟩
  | .hbm, ⟨14, _⟩ => ⟨S8192x1x256, .f32⟩
  | .hbm, ⟨15, _⟩ => ⟨S8192x1x256, .f32⟩
  | .hbm, ⟨16, _⟩ => ⟨S8192x4x256, .f32⟩
  | .hbm, ⟨17, _⟩ => ⟨S4x256, .f32⟩
  | .hbm, ⟨18, _⟩ => ⟨S8192x4x256, .f32⟩
  | .hbm, ⟨19, _⟩ => ⟨S_, .f32⟩
  | .hbm, ⟨20, _⟩ => ⟨S8192x4, .f32⟩
  | .hbm, ⟨21, _⟩ => ⟨S8192x4x1, .f32⟩
  | .hbm, ⟨22, _⟩ => ⟨S_, .f32⟩
  | .hbm, ⟨23, _⟩ => ⟨S8192x4x1, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S8192x4x1, .f32⟩
  | .hbm, ⟨29, _⟩ => ⟨S8192x4x256, .f32⟩
  | .hbm, ⟨30, _⟩ => ⟨S8192x4x256, .f32⟩
  | .hbm, ⟨31, _⟩ => ⟨S1x4x256, .f32⟩
  | .hbm, ⟨32, _⟩ => ⟨S8192x4x256, .f32⟩
  | .hbm, ⟨33, _⟩ => ⟨S8192x4x256, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Window.lean ====
abbrev S4 : Shape := ⟨1, ![4]⟩
abbrev S8192x3840 : Shape := ⟨2, ![8192, 3840]⟩
abbrev S8192x256 : Shape := ⟨2, ![8192, 256]⟩
abbrev S128x256 : Shape := ⟨2, ![128, 256]⟩
abbrev S128x128 : Shape := ⟨2, ![128, 128]⟩
abbrev S128x64 : Shape := ⟨2, ![128, 64]⟩
abbrev S1 : Shape := ⟨1, ![1]⟩
abbrev S128 : Shape := ⟨1, ![128]⟩
abbrev S128x1 : Shape := ⟨2, ![128, 1]⟩

abbrev nBuf : Space → Nat
  | .hbm => 3
  | .vmem => 12
  | .smem => 1
  | _ => 0

abbrev bufTy : (tb : Table) → Fin (tcTables nBuf tb) → BufTy
  | .hbm, ⟨0, _⟩ => ⟨S4, .f32⟩
  | .hbm, ⟨1, _⟩ => ⟨S8192x3840, .bf16⟩
  | .hbm, ⟨2, _⟩ => ⟨S8192x256, .f32⟩
  | .local _ .vmem, ⟨0, _⟩ => ⟨S128x256, .bf16⟩
  | .local _ .vmem, ⟨1, _⟩ => ⟨S128x256, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x256, .f32⟩
  | .local _ .vmem, ⟨11, _⟩ => ⟨S128x256, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let c0_i32_0 : BitVec 32 := 0#32
  ![v1.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  ![v1.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WindowIdeal.lean ====
variable {F : FTy → Type} [FloatOps F] [Named F]
def κ : String → Option EReal := fun
  | "mask" => some ⊥
  | _ => none
-- ==== WindowReferenceIdeal.lean ====
abbrev S4 : Shape := ⟨1, ![4]⟩
abbrev S8192x3840 : Shape := ⟨2, ![8192, 3840]⟩
abbrev S64x128x3840 : Shape := ⟨3, ![64, 128, 3840]⟩
abbrev S64x128x256 : Shape := ⟨3, ![64, 128, 256]⟩
abbrev S64x128x2x2x64 : Shape := ⟨5, ![64, 128, 2, 2, 64]⟩
abbrev S64x128x128 : Shape := ⟨3, ![64, 128, 128]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x2 : Shape := ⟨5, ![64, 2, 256, 128, 2]⟩
abbrev S64x2x2x128x256 : Shape := ⟨5, ![64, 2, 2, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x1x1x128x256 : Shape := ⟨5, ![64, 1, 1, 128, 256]⟩
abbrev S1x2x2x1x1 : Shape := ⟨5, ![1, 2, 2, 1, 1]⟩
abbrev S64x2x2x128x1 : Shape := ⟨5, ![64, 2, 2, 128, 1]⟩
abbrev S64x2x2x128x257 : Shape := ⟨5, ![64, 2, 2, 128, 257]⟩
abbrev S64x2x2x128 : Shape := ⟨4, ![64, 2, 2, 128]⟩
abbrev S64x2x64x2x128 : Shape := ⟨5, ![64, 2, 64, 2, 128]⟩
abbrev S8192x256 : Shape := ⟨2, ![8192, 256]⟩

abbrev nBuf : Space → Nat
  | .hbm => 90
  | .vmem => 0
  | .smem => 0
  | _ => 0

abbrev bufTy : (tb : Table) → Fin (tcTables nBuf tb) → BufTy
  | .hbm, ⟨0, _⟩ => ⟨S4, .f32⟩
  | .hbm, ⟨1, _⟩ => ⟨S8192x3840, .bf16⟩
  | .hbm, ⟨2, _⟩ => ⟨S8192x3840, .f32⟩
  | .hbm, ⟨3, _⟩ => ⟨S64x128x3840, .f32⟩
  | .hbm, ⟨4, _⟩ => ⟨S64x128x256, .f32⟩
  | .hbm, ⟨5, _⟩ => ⟨S64x128x2x2x64, .f32⟩
  | .hbm, ⟨6, _⟩ => ⟨S64x128x128, .f32⟩
  | .hbm, ⟨7, _⟩ => ⟨S64x128x2x64, .f32⟩
  | .hbm, ⟨8, _⟩ => ⟨S64x128x128, .f32⟩
  | .hbm, ⟨9, _⟩ => ⟨S64x128x2x64, .f32⟩
  | .hbm, ⟨10, _⟩ => ⟨S1x128x2x64, .f32⟩
  | .hbm, ⟨11, _⟩ => ⟨S_, .f32⟩
  | .hbm, ⟨12, _⟩ => ⟨S1x128x2x64, .f32⟩
  | .hbm, ⟨13, _⟩ => ⟨S63x128x2x64, .f32⟩
  | .hbm, ⟨14, _⟩ => ⟨S64x128x2x64, .f32⟩
  | .hbm, ⟨15, _⟩ => ⟨S64x256x2x64, .f32⟩
  | .hbm, ⟨16, _⟩ => ⟨S1x128x2x64, .f32⟩
  | .hbm, ⟨17, _⟩ => ⟨S_, .f32⟩
  | .hbm, ⟨18, _⟩ => ⟨S1x128x2x64, .f32⟩
  | .hbm, ⟨19, _⟩ => ⟨S63x128x2x64, .f32⟩
  | .hbm, ⟨20, _⟩ => ⟨S64x128x2x64, .f32⟩
  | .hbm, ⟨21, _⟩ => ⟨S64x256x2x64, .f32⟩
  | .hbm, ⟨22, _⟩ => ⟨S64x2x256x128x2, .f32⟩
  | .hbm, ⟨23, _⟩ => ⟨S64x2x2x128x256, .f32⟩
  | .hbm, ⟨24, _⟩ => ⟨S_, .f32⟩
  | .hbm, ⟨25, _⟩ => ⟨S64x2x2x128x256, .f32⟩
  | .hbm, ⟨26, _⟩ => ⟨S64x2x2x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S64, .i32⟩
  | .hbm, ⟨38, _⟩ => ⟨S64x1x1, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S_, .i32⟩
  | .hbm, ⟨47, _⟩ => ⟨S64x1x1, .i32⟩
  | .hbm, ⟨48, _⟩ => ⟨S64x1x1, .i32⟩
  | .hbm, ⟨49, _⟩ => ⟨S1x1x256, .i32⟩
  | .hbm, ⟨50, _⟩ => ⟨S64x1x256, .i32⟩
  | .hbm, ⟨51, _⟩ => ⟨S64x1x256, .i32⟩
  | .hbm, ⟨52, _⟩ => ⟨S64x1x256, .i32⟩
  | .hbm, ⟨53, _⟩ => ⟨S_, .i32⟩
  | .hbm, ⟨54, _⟩ => ⟨S64x1x256, .i32⟩
  | .hbm, ⟨55, _⟩ => ⟨S64x1x256, .i32⟩
  | .hbm, ⟨56, _⟩ => ⟨S_, .i32⟩
  | .hbm, ⟨57, _⟩ => ⟨S64x1x256, .i32⟩
  | .hbm, ⟨58, _⟩ => ⟨S64x1x256, .i1⟩
  | .hbm, ⟨59, _⟩ => ⟨S1x128x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S64x1x1x128x256, .i1⟩
  | .hbm, ⟨64, _⟩ => ⟨S_, .f32⟩
  | .hbm, ⟨65, _⟩ => ⟨S_, .f32⟩
  | .hbm, ⟨66, _⟩ => ⟨S64x2x2x128x256, .i1⟩
  | .hbm, ⟨67, _⟩ => ⟨S64x2x2x128x256, .f32⟩
  | .hbm, ⟨68, _⟩ => ⟨S64x2x2x128x256, .f32⟩
  | .hbm, ⟨69, _⟩ => ⟨S1x2x2x1x1, .f32⟩
  | .hbm, ⟨70, _⟩ => ⟨S64x2x2x128x1, .f32⟩
  | .hbm, ⟨71, _⟩ => ⟨S64x2x2x128x257, .f32⟩
  | .hbm, ⟨72, _⟩ => ⟨S_, .f32⟩
  | .hbm, ⟨73, _⟩ => ⟨S64x2x2x128, .f32⟩
  | .hbm, ⟨74, _⟩ => ⟨S64x2x2x128x1, .f32⟩
  | .hbm, ⟨75, _⟩ => ⟨S64x2x2x128x257, .f32⟩
  | .hbm, ⟨76, _⟩ => ⟨S64x2x2x128x257, .f32⟩
  | .hbm, ⟨77, _⟩ => ⟨S64x2x2x128x257, .f32⟩
  | .hbm, ⟨78, _⟩ => ⟨S_, .f32⟩
  | .hbm, ⟨79, _⟩ => ⟨S64x2x2x128, .f32⟩
  | .hbm, ⟨80, _⟩ => ⟨S64x2x2x128x1, .f32⟩
  | .hbm, ⟨81, _⟩ => ⟨S_, .f32⟩
  | .hbm, ⟨82, _⟩ => ⟨S64x2x2x128x1, .f32⟩
  | .hbm, ⟨83, _⟩ => ⟨S64x2x2x128x1, .f32⟩
  | .hbm, ⟨84, _⟩ => ⟨S64x2x2x128x257, .f32⟩
  | .hbm, ⟨85, _⟩ => ⟨S64x2x2x128x257, .f32⟩
  | .hbm, ⟨86, _⟩ => ⟨S64x2x2x128x256, .f32⟩
  | .hbm, ⟨87, _⟩ => ⟨S64x2x64x2x128, .f32⟩
  | .hbm, ⟨88, _⟩ => ⟨S64x128x2x2x64, .f32⟩
  | .hbm, ⟨89, _⟩ => ⟨S8192x256, .f32⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_2 : Ref sig .tc := ⟨.hbm, 39, rfl⟩
abbrev main_v33 : Ref sig .tc := ⟨.hbm, 40, rfl⟩
abbrev main_v34 : Ref sig .tc := ⟨.hbm, 41, rfl⟩
abbrev main_c_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_5 : Ref sig .tc := ⟨.hbm, 53, rfl⟩
abbrev main_v44 : Ref sig .tc := ⟨.hbm, 54, rfl⟩
abbrev main_v45 : Ref sig .tc := ⟨.hbm, 55, rfl⟩
abbrev main_c_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Latent.lean ====
abbrev S8192x3840 : Shape := ⟨2, ![8192, 3840]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S8192x128 : Shape := ⟨2, ![8192, 128]⟩
abbrev S8192x512 : Shape := ⟨2, ![8192, 512]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 22
  | .smem => 0
  | _ => 0

abbrev bufTy : (tb : Table) → Fin (tcTables nBuf tb) → BufTy
  | .hbm, ⟨0, _⟩ => ⟨S8192x3840, .f32⟩
  | .hbm, ⟨1, _⟩ => ⟨S1x256, .f32⟩
  | .hbm, ⟨2, _⟩ => ⟨S1x128, .f32⟩
  | .hbm, ⟨3, _⟩ => ⟨S256x1024, .bf16⟩
  | .hbm, ⟨4, _⟩ => ⟨S128x1024, .bf16⟩
  | .hbm, ⟨5, _⟩ => ⟨S8192x128, .f32⟩
  | .hbm, ⟨6, _⟩ => ⟨S8192x128, .f32⟩
  | .hbm, ⟨7, _⟩ => ⟨S8192x512, .bf16⟩
  | .hbm, ⟨8, _⟩ => ⟨S8192x512, .bf16⟩
  | .hbm, ⟨9, _⟩ => ⟨S8192x512, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S256x1024, .bf16⟩
  | .local _ .vmem, ⟨15, _⟩ => ⟨S128x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LatentIdeal.lean ====
variable {F : FTy → Type} [FloatOps F] [Named F]
def κ : String → Option EReal := fun
  | "scale" => some (((Real.sqrt 96)⁻¹ : ℝ) : EReal)
  | _ => none
-- ==== LatentReferenceIdeal.lean ====
abbrev S8192x3840 : Shape := ⟨2, ![8192, 3840]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S8192x128 : Shape := ⟨2, ![8192, 128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S8192x2x4x128 : Shape := ⟨4, ![8192, 2, 4, 128]⟩
abbrev S128 : Shape := ⟨1, ![128]⟩
abbrev S8192x1x4x128 : Shape := ⟨4, ![8192, 1, 4, 128]⟩
abbrev S8192x4x128 : Shape := ⟨3, ![8192, 4, 128]⟩
abbrev S8192x1x128 : Shape := ⟨3, ![8192, 1, 128]⟩
abbrev S8192x512 : Shape := ⟨2, ![8192, 512]⟩

abbrev nBuf : Space → Nat
  | .hbm => 89
  | .vmem => 0
  | .smem => 0
  | _ => 0

abbrev bufTy : (tb : Table) → Fin (tcTables nBuf tb) → BufTy
  | .hbm, ⟨0, _⟩ => ⟨S8192x3840, .f32⟩
  | .hbm, ⟨1, _⟩ => ⟨S1x256, .f32⟩
  | .hbm, ⟨2, _⟩ => ⟨S1x128, .f32⟩
  | .hbm, ⟨3, _⟩ => ⟨S256x1024, .bf16⟩
  | .hbm, ⟨4, _⟩ => ⟨S128x1024, .bf16⟩
  | .hbm, ⟨5, _⟩ => ⟨S8192x128, .f32⟩
  | .hbm, ⟨6, _⟩ => ⟨S8192x128, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S256x1024, .f32⟩
  | .hbm, ⟨24, _⟩ => ⟨S8192x1024, .f32⟩
  | .hbm, ⟨25, _⟩ => ⟨S8192x2x4x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S128x1024, .f32⟩
  | .hbm, ⟨43, _⟩ => ⟨S8192x1024, .f32⟩
  | .hbm, ⟨44, _⟩ => ⟨S8192x2x4x128, .f32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S128, .f32⟩
  | .hbm, ⟨50, _⟩ => ⟨S8192x1x4x128, .f32⟩
  | .hbm, ⟨51, _⟩ => ⟨S8192x4x128, .f32⟩
  | .hbm, ⟨52, _⟩ => ⟨S8192x1x4x128, .f32⟩
  | .hbm, ⟨53, _⟩ => ⟨S8192x4x128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S8192x1x128, .f32⟩
  | .hbm, ⟨58, _⟩ => ⟨S8192x4x128, .f32⟩
  | .hbm, ⟨59, _⟩ => ⟨S8192x4x128, .f32⟩
  | .hbm, ⟨60, _⟩ => ⟨S8192x1x128, .f32⟩
  | .hbm, ⟨61, _⟩ => ⟨S8192x4x128, .f32⟩
  | .hbm, ⟨62, _⟩ => ⟨S8192x4x128, .f32⟩
  | .hbm, ⟨63, _⟩ => ⟨S8192x4x128, .f32⟩
  | .hbm, ⟨64, _⟩ => ⟨S_, .f32⟩
  | .hbm, ⟨65, _⟩ => ⟨S_, .f32⟩
  | .hbm, ⟨66, _⟩ => ⟨S8192x4x128, .f32⟩
  | .hbm, ⟨67, _⟩ => ⟨S8192x4x128, .f32⟩
  | .hbm, ⟨68, _⟩ => ⟨S8192x128, .f32⟩
  | .hbm, ⟨69, _⟩ => ⟨S8192x1x128, .f32⟩
  | .hbm, ⟨70, _⟩ => ⟨S8192x128, .f32⟩
  | .hbm, ⟨71, _⟩ => ⟨S8192x1x128, .f32⟩
  | .hbm, ⟨72, _⟩ => ⟨S8192x1x128, .f32⟩
  | .hbm, ⟨73, _⟩ => ⟨S8192x1x128, .f32⟩
  | .hbm, ⟨74, _⟩ => ⟨S8192x1x128, .f32⟩
  | .hbm, ⟨75, _⟩ => ⟨S8192x1x128, .f32⟩
  | .hbm, ⟨76, _⟩ => ⟨S8192x1x128, .f32⟩
  | .hbm, ⟨77, _⟩ => ⟨S8192x1x4x128, .f32⟩
  | .hbm, ⟨78, _⟩ => ⟨S8192x4x128, .f32⟩
  | .hbm, ⟨79, _⟩ => ⟨S8192x4x128, .f32⟩
  | .hbm, ⟨80, _⟩ => ⟨S8192x4x128, .f32⟩
  | .hbm, ⟨81, _⟩ => ⟨S8192x1x4x128, .f32⟩
  | .hbm, ⟨82, _⟩ => ⟨S8192x4x128, .f32⟩
  | .hbm, ⟨83, _⟩ => ⟨S8192x512, .f32⟩
  | .hbm, ⟨84, _⟩ => ⟨S8192x512, .bf16⟩
  | .hbm, ⟨85, _⟩ => ⟨S8192x512, .f32⟩
  | .hbm, ⟨86, _⟩ => ⟨S8192x512, .bf16⟩
  | .hbm, ⟨87, _⟩ => ⟨S8192x512, .f32⟩
  | .hbm, ⟨88, _⟩ => ⟨S8192x512, .bf16⟩
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Causal.lean ====
abbrev S8192x512 : Shape := ⟨2, ![8192, 512]⟩
abbrev S512x128 : Shape := ⟨2, ![512, 128]⟩
abbrev S8192x128 : Shape := ⟨2, ![8192, 128]⟩
abbrev S512x512 : Shape := ⟨2, ![512, 512]⟩
abbrev S512x1 : Shape := ⟨2, ![512, 1]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_3 : BitVec 32 := 1#32
  ⟨c0_i32, v11, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_17 : BitVec 32 := 512#32
  let v50 : BitVec 32 := Scalar.muli arg7 c512_i32_17
  v50
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_17 : BitVec 32 := 512#32
  let v50 : BitVec 32 := Scalar.muli arg7 c512_i32_17
  let v51 : BitVec 32 := v50
  let v52 : Index := Scalar.indexCast v51
  let c0_18 : Index := 0#32
  ![v52.toNat, 0]
@[reducible] def k0_t2_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_4 : BitVec 32 := 1#32
  ⟨v11, v8, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  let arg7 : BitVec 32 := Scf.iv v11 c1_i32_4 k0_t2
  let c512_i32_17 : BitVec 32 := 512#32
  let v50 : BitVec 32 := Scalar.muli arg7 c512_i32_17
  v50
def k0_off2 (i : grid0.Coords) (k0_t2 : Fin (k0_t2_loop i).trips) : Fin 2 → Nat :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  let arg7 : BitVec 32 := Scf.iv v11 c1_i32_4 k0_t2
  let c512_i32_17 : BitVec 32 := 512#32
  let v50 : BitVec 32 := Scalar.muli arg7 c512_i32_17
  let v51 : BitVec 32 := v50
  let v52 : Index := Scalar.indexCast v51
  let c0_18 : Index := 0#32
  ![v52.toNat, 0]
def k0_mult3 (i : grid0.Coords) : BitVec 32 :=
  let arg1 : BitVec 32 := BitVec.ofNat 32 (i 1).val
  let c512_i32 : BitVec 32 := 512#32
  let v14 : BitVec 32 := Scalar.muli arg1 c512_i32
  v14
def k0_off3 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0_5 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CausalIdeal.lean ====
variable {F : FTy → Type} [FloatOps F] [Named F]
def κ : String → Option EReal := fun
  | "mask" => some ⊥
  | _ => none
-- ==== CausalReferenceIdeal.lean ====
abbrev S8192x512 : Shape := ⟨2, ![8192, 512]⟩
abbrev S8192x4x128 : Shape := ⟨3, ![8192, 4, 128]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x128 : Shape := ⟨3, ![4, 8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x4x128, .f32⟩
  | .hbm, ⟨5, _⟩ => ⟨S8192x512, .f32⟩
  | .hbm, ⟨6, _⟩ => ⟨S8192x4x128, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x8192, .f32⟩
  | .hbm, ⟨32, _⟩ => ⟨S4x8192x8192, .f32⟩
  | .hbm, ⟨33, _⟩ => ⟨S8192x512, .f32⟩
  | .hbm, ⟨34, _⟩ => ⟨S8192x4x128, .f32⟩
  | .hbm, ⟨35, _⟩ => ⟨S4x128x8192, .f32⟩
  | .hbm, ⟨36, _⟩ => ⟨S8192x4x128, .f32⟩
  | .hbm, ⟨37, _⟩ => ⟨S8192x512, .f32⟩
  | .hbm, ⟨38, _⟩ => ⟨S4x8192x1, .f32⟩
  | .hbm, ⟨39, _⟩ => ⟨S4x8192x1, .f32⟩
  | .hbm, ⟨40, _⟩ => ⟨S4x8192x128, .f32⟩
  | .hbm, ⟨41, _⟩ => ⟨S8192x4x128, .f32⟩
  | .hbm, ⟨42, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Stick.lean ====
abbrev S8192x3840 : Shape := ⟨2, ![8192, 3840]⟩
abbrev S8192x256 : Shape := ⟨2, ![8192, 256]⟩
abbrev S512x128 : Shape := ⟨2, ![512, 128]⟩
abbrev S8192x128 : Shape := ⟨2, ![8192, 128]⟩
abbrev S512x256 : Shape := ⟨2, ![512, 256]⟩
abbrev S256x256 : Shape := ⟨2, ![256, 256]⟩
abbrev S512x1 : Shape := ⟨2, ![512, 1]⟩
abbrev S256x128 : Shape := ⟨2, ![256, 128]⟩
abbrev S512 : Shape := ⟨1, ![512]⟩

abbrev nBuf : Space → Nat
  | .hbm => 2
  | .vmem => 8
  | .smem => 0
  | _ => 0

abbrev bufTy : (tb : Table) → Fin (tcTables nBuf tb) → BufTy
  | .hbm, ⟨0, _⟩ => ⟨S8192x3840, .bf16⟩
  | .hbm, ⟨1, _⟩ => ⟨S8192x256, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c256_i32_5 : BitVec 32 := 256#32
  let v28 : BitVec 32 := Scalar.muli v27 c256_i32_5
  v28
def k0_off1 (i : grid0.Coords) (c1_i32 : BitVec 32) : Fin 2 → Nat :=
  let c2_i32 : BitVec 32 := 2#32
  let arg1 : BitVec 32 := BitVec.ofNat 32 (i 1).val
  let v26 : BitVec 32 := Scalar.muli c2_i32 arg1
  let v27 : BitVec 32 := Scalar.addi v26 c1_i32
  let c256_i32_5 : BitVec 32 := 256#32
  let v28 : BitVec 32 := Scalar.muli v27 c256_i32_5
  let v29 : BitVec 32 := v28
  let v30 : Index := Scalar.indexCast v29
  let c0_6 : Index := 0#32
  ![v30.toNat, 0]
def k0_mult2 (i : grid0.Coords) : BitVec 32 :=
  let c2_i32_30 : BitVec 32 := 2#32
  let arg1 : BitVec 32 := BitVec.ofNat 32 (i 1).val
  let v98 : BitVec 32 := Scalar.muli c2_i32_30 arg1
  let c0_i32_31 : BitVec 32 := 0#32
  let v99 : BitVec 32 := Scalar.addi v98 c0_i32_31
  let c256_i32_32 : BitVec 32 := 256#32
  let v100 : BitVec 32 := Scalar.muli v99 c256_i32_32
  v100
@[reducible] def k0_t1_loop (i : grid0.Coords) : Scf.Loop 32 :=
  let c0_i32_58 : BitVec 32 := 0#32
  let c2_i32_57 : BitVec 32 := 2#32
  let arg1 : BitVec 32 := BitVec.ofNat 32 (i 1).val
  let v170 : BitVec 32 := Scalar.muli c2_i32_57 arg1
  let v171 : BitVec 32 := Scalar.subi v170 c0_i32_58
  let c1_i32_59 : BitVec 32 := 1#32
  let v173 : BitVec 32 := Scalar.divsi v171 c1_i32_59
  let v174 : BitVec 32 := Scalar.muli v173 c1_i32_59
  let v175 : BitVec 32 := Scalar.addi c0_i32_58 v174
  let c1_i32_60 : BitVec 32 := 1#32
  ⟨c0_i32_58, v175, c1_i32_60⟩
def k0_mult3 (i : grid0.Coords) (k0_t1 : Fin (k0_t1_loop i).trips) : BitVec 32 :=
  let c2_i32_65 : BitVec 32 := 2#32
  let arg1 : BitVec 32 := BitVec.ofNat 32 (i 1).val
  let v182 : BitVec 32 := Scalar.muli c2_i32_65 arg1
  let c1_i32_66 : BitVec 32 := 1#32
  let v183 : BitVec 32 := Scalar.subi v182 c1_i32_66
  let c0_i32_58 : BitVec 32 := 0#32
  let c1_i32_60 : BitVec 32 := 1#32
  let arg6 : BitVec 32 := Scf.iv c0_i32_58 c1_i32_60 k0_t1
  let v184 : BitVec 32 := Scalar.subi v183 arg6
  let c256_i32_67 : BitVec 32 := 256#32
  let v185 : BitVec 32 := Scalar.muli v184 c256_i32_67
  v185
def k0_off2 (i : grid0.Coords) (k0_t1 : Fin (k0_t1_loop i).trips) : Fin 2 → Nat :=
  let c2_i32_65 : BitVec 32 := 2#32
  let arg1 : BitVec 32 := BitVec.ofNat 32 (i 1).val
  let v182 : BitVec 32 := Scalar.muli c2_i32_65 arg1
  let c1_i32_66 : BitVec 32 := 1#32
  let v183 : BitVec 32 := Scalar.subi v182 c1_i32_66
  let c0_i32_58 : BitVec 32 := 0#32
  let c1_i32_60 : BitVec 32 := 1#32
  let arg6 : BitVec 32 := Scf.iv c0_i32_58 c1_i32_60 k0_t1
  let v184 : BitVec 32 := Scalar.subi v183 arg6
  let c256_i32_67 : BitVec 32 := 256#32
  let v185 : BitVec 32 := Scalar.muli v184 c256_i32_67
  let v186 : BitVec 32 := v185
  let v187 : Index := Scalar.indexCast v186
  let c0_68 : Index := 0#32
  ![v187.toNat, 0]
@[reducible] def k0_t2_loop (i : grid0.Coords) : Scf.Loop 32 :=
  let c0_i32_58 : BitVec 32 := 0#32
  let c2_i32_57 : BitVec 32 := 2#32
  let arg1 : BitVec 32 := BitVec.ofNat 32 (i 1).val
  let v170 : BitVec 32 := Scalar.muli c2_i32_57 arg1
  let v171 : BitVec 32 := Scalar.subi v170 c0_i32_58
  let c1_i32_59 : BitVec 32 := 1#32
  let v173 : BitVec 32 := Scalar.divsi v171 c1_i32_59
  let v174 : BitVec 32 := Scalar.muli v173 c1_i32_59
  let v175 : BitVec 32 := Scalar.addi c0_i32_58 v174
  let v172 : BitVec 32 := Scalar.addi c0_i32_58 v171
  let c1_i32_61 : BitVec 32 := 1#32
  ⟨v175, v172, c1_i32_61⟩
def k0_mult4 (i : grid0.Coords) (k0_t2 : Fin (k0_t2_loop i).trips) : BitVec 32 :=
  let c2_i32_65 : BitVec 32 := 2#32
  let arg1 : BitVec 32 := BitVec.ofNat 32 (i 1).val
  let v182 : BitVec 32 := Scalar.muli c2_i32_65 arg1
  let c1_i32_66 : BitVec 32 := 1#32
  let v183 : BitVec 32 := Scalar.subi v182 c1_i32_66
  let c0_i32_58 : BitVec 32 := 0#32
  let c2_i32_57 : BitVec 32 := 2#32
  let v170 : BitVec 32 := Scalar.muli c2_i32_57 arg1
  let v171 : BitVec 32 := Scalar.subi v170 c0_i32_58
  let c1_i32_59 : BitVec 32 := 1#32
  let v173 : BitVec 32 := Scalar.divsi v171 c1_i32_59
  let v174 : BitVec 32 := Scalar.muli v173 c1_i32_59
  let v175 : BitVec 32 := Scalar.addi c0_i32_58 v174
  let c1_i32_61 : BitVec 32 := 1#32
  let arg6 : BitVec 32 := Scf.iv v175 c1_i32_61 k0_t2
  let v184 : BitVec 32 := Scalar.subi v183 arg6
  let c256_i32_67 : BitVec 32 := 256#32
  let v185 : BitVec 32 := Scalar.muli v184 c256_i32_67
  v185
def k0_off3 (i : grid0.Coords) (k0_t2 : Fin (k0_t2_loop i).trips) : Fin 2 → Nat :=
  let c2_i32_65 : BitVec 32 := 2#32
  let arg1 : BitVec 32 := BitVec.ofNat 32 (i 1).val
  let v182 : BitVec 32 := Scalar.muli c2_i32_65 arg1
  let c1_i32_66 : BitVec 32 := 1#32
  let v183 : BitVec 32 := Scalar.subi v182 c1_i32_66
  let c0_i32_58 : BitVec 32 := 0#32
  let c2_i32_57 : BitVec 32 := 2#32
  let v170 : BitVec 32 := Scalar.muli c2_i32_57 arg1
  let v171 : BitVec 32 := Scalar.subi v170 c0_i32_58
  let c1_i32_59 : BitVec 32 := 1#32
  let v173 : BitVec 32 := Scalar.divsi v171 c1_i32_59
  let v174 : BitVec 32 := Scalar.muli v173 c1_i32_59
  let v175 : BitVec 32 := Scalar.addi c0_i32_58 v174
  let c1_i32_61 : BitVec 32 := 1#32
  let arg6 : BitVec 32 := Scf.iv v175 c1_i32_61 k0_t2
  let v184 : BitVec 32 := Scalar.subi v183 arg6
  let c256_i32_67 : BitVec 32 := 256#32
  let v185 : BitVec 32 := Scalar.muli v184 c256_i32_67
  let v186 : BitVec 32 := v185
  let v187 : Index := Scalar.indexCast v186
  let c0_68 : Index := 0#32
  ![v187.toNat, 0]
def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StickReferenceIdeal.lean ====
abbrev S8192x3840 : Shape := ⟨2, ![8192, 3840]⟩
abbrev S8192x256 : Shape := ⟨2, ![8192, 256]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x64x8192 : Shape := ⟨3, ![4, 64, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x256, .bf16⟩
  | .hbm, ⟨2, _⟩ => ⟨S8192x256, .f32⟩
  | .hbm, ⟨3, _⟩ => ⟨S8192x4x64, .f32⟩
  | .hbm, ⟨4, _⟩ => ⟨S8192x256, .bf16⟩
  | .hbm, ⟨5, _⟩ => ⟨S8192x256, .f32⟩
  | .hbm, ⟨6, _⟩ => ⟨S8192x4x64, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S4x8192x8192, .i1⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S_, .f32⟩
  | .hbm, ⟨36, _⟩ => ⟨S4x8192x8192, .i1⟩
  | .hbm, ⟨37, _⟩ => ⟨S4x8192x8192, .f32⟩
  | .hbm, ⟨38, _⟩ => ⟨S4x8192x8192, .f32⟩
  | .hbm, ⟨39, _⟩ => ⟨S8192x1, .i32⟩
  | .hbm, ⟨40, _⟩ => ⟨S1x8192, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S8192x8192, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S4x8192x8192, .f32⟩
  | .hbm, ⟨50, _⟩ => ⟨S4x8192x8192, .f32⟩
  | .hbm, ⟨51, _⟩ => ⟨S4x8192x8192, .f32⟩
  | .hbm, ⟨52, _⟩ => ⟨S4x8192x8192, .f32⟩
  | .hbm, ⟨53, _⟩ => ⟨S4x8192x8192, .i1⟩
  | .hbm, ⟨54, _⟩ => ⟨S4x8192x8192, .f32⟩
  | .hbm, ⟨55, _⟩ => ⟨S4x8192x8192, .f32⟩
  | .hbm, ⟨56, _⟩ => ⟨S4x8192x8192, .f32⟩
  | .hbm, ⟨57, _⟩ => ⟨S4x8192x8192, .f32⟩
  | .hbm, ⟨58, _⟩ => ⟨S4x8192x8192, .f32⟩
  | .hbm, ⟨59, _⟩ => ⟨S4x8192x8192, .f32⟩
  | .hbm, ⟨60, _⟩ => ⟨S4x8192x8192, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S4x8192x8192, .f32⟩
  | .hbm, ⟨65, _⟩ => ⟨S_, .f32⟩
  | .hbm, ⟨66, _⟩ => ⟨S_, .f32⟩
  | .hbm, ⟨67, _⟩ => ⟨S4x8192x8192, .i1⟩
  | .hbm, ⟨68, _⟩ => ⟨S4x8192x8192, .f32⟩
  | .hbm, ⟨69, _⟩ => ⟨S4x8192x8192, .f32⟩
  | .hbm, ⟨70, _⟩ => ⟨S8192x256, .bf16⟩
  | .hbm, ⟨71, _⟩ => ⟨S8192x256, .f32⟩
  | .hbm, ⟨72, _⟩ => ⟨S8192x4x64, .f32⟩
  | .hbm, ⟨73, _⟩ => ⟨S4x64x8192, .f32⟩
  | .hbm, ⟨74, _⟩ => ⟨S8192x4x64, .f32⟩
  | .hbm, ⟨75, _⟩ => ⟨S8192x256, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call2_v0 : Ref sig .tc := ⟨.hbm, 47, rfl⟩
abbrev main_call2_call0_cst : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_call0_v2 : Ref sig .tc := ⟨.hbm, 51, rfl⟩
abbrev main_call2_call0_v3 : Ref sig .tc := ⟨.hbm, 52, rfl⟩
abbrev main_call2_call0_v4 : Ref sig .tc := ⟨.hbm, 53, rfl⟩
abbrev main_call2_call0_v5 : Ref sig .tc := ⟨.hbm, 54, rfl⟩
abbrev main_call2_call0_v6 : Ref sig .tc := ⟨.hbm, 55, rfl⟩
abbrev main_call2_call0_v7 : Ref sig .tc := ⟨.hbm, 56, rfl⟩
abbrev main_call2_call0_v8 : Ref sig .tc := ⟨.hbm, 57, rfl⟩
abbrev main_call2_call0_v9 : Ref sig .tc := ⟨.hbm, 58, rfl⟩
abbrev main_call2_call0_v10 : Ref sig .tc := ⟨.hbm, 59, rfl⟩
abbrev main_call2_call0_v11 : Ref sig .tc := ⟨.hbm, 60, rfl⟩
abbrev main_call2_v1 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_1 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩

abbrev nD : Nat := 1
abbrev τ : Topo := Topo.v7x

variable {F : FTy → Type} [FloatOps F]
-- ==== ConvGrad.lean ====
abbrev S8192x3840 : Shape := ⟨2, ![8192, 3840]⟩
abbrev S8x256 : Shape := ⟨2, ![8, 256]⟩
abbrev S1x256 : Shape := ⟨2, ![1, 256]⟩
abbrev S8192x256 : Shape := ⟨2, ![8192, 256]⟩
abbrev S512x256 : Shape := ⟨2, ![512, 256]⟩
abbrev S256 : Shape := ⟨1, ![256]⟩

abbrev nBuf : Space → Nat
  | .hbm => 8
  | .vmem => 25
  | .smem => 0
  | _ => 0

abbrev bufTy : (tb : Table) → Fin (tcTables nBuf tb) → BufTy
  | .hbm, ⟨0, _⟩ => ⟨S8192x3840, .f32⟩
  | .hbm, ⟨1, _⟩ => ⟨S8x256, .f32⟩
  | .hbm, ⟨2, _⟩ => ⟨S1x256, .f32⟩
  | .hbm, ⟨3, _⟩ => ⟨S8192x256, .f32⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S512x256, .f32⟩
  | .local _ .vmem, ⟨13, _⟩ => ⟨S512x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S1x256, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S8x256, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvGradReferenceIdeal.lean ====
abbrev S8192x3840 : Shape := ⟨2, ![8192, 3840]⟩
abbrev S8x256 : Shape := ⟨2, ![8, 256]⟩
abbrev S1x256 : Shape := ⟨2, ![1, 256]⟩
abbrev S8192x256 : Shape := ⟨2, ![8192, 256]⟩
abbrev S256 : Shape := ⟨1, ![256]⟩
abbrev S_ : Shape := ⟨0, ![]⟩
abbrev S2x256 : Shape := ⟨2, ![2, 256]⟩
abbrev S8194x256 : Shape := ⟨2, ![8194, 256]⟩
abbrev S4x256 : Shape := ⟨2, ![4, 256]⟩

abbrev nBuf : Space → Nat
  | .hbm => 92
  | .vmem => 0
  | .smem => 0
  | _ => 0

abbrev bufTy : (tb : Table) → Fin (tcTables nBuf tb) → BufTy
  | .hbm, ⟨0, _⟩ => ⟨S8192x3840, .f32⟩
  | .hbm, ⟨1, _⟩ => ⟨S8x256, .f32⟩
  | .hbm, ⟨2, _⟩ => ⟨S1x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S1x256, .f32⟩
  | .hbm, ⟨8, _⟩ => ⟨S256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S2x256, .f32⟩
  | .hbm, ⟨16, _⟩ => ⟨S8192x256, .f32⟩
  | .hbm, ⟨17, _⟩ => ⟨S8194x256, .f32⟩
  | .hbm, ⟨18, _⟩ => ⟨S_, .f32⟩
  | .hbm, ⟨19, _⟩ => ⟨S2x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S1x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S_, .f32⟩
  | .hbm, ⟨41, _⟩ => ⟨S256, .f32⟩
  | .hbm, ⟨42, _⟩ => ⟨S1x256, .f32⟩
  | .hbm, ⟨43, _⟩ => ⟨S_, .f32⟩
  | .hbm, ⟨44, _⟩ => ⟨S256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S256, .f32⟩
  | .hbm, ⟨50, _⟩ => ⟨S1x256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S8194x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S8194x256, .f32⟩
  | .hbm, ⟨65, _⟩ => ⟨S8194x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S8194x256, .f32⟩
  | .hbm, ⟨76, _⟩ => ⟨S8194x256, .f32⟩
  | .hbm, ⟨77, _⟩ => ⟨S2x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S4x256, .f32⟩
  | .hbm, ⟨86, _⟩ => ⟨S_, .i32⟩
  | .hbm, ⟨87, _⟩ => ⟨S_, .f32⟩
  | .hbm, ⟨88, _⟩ => ⟨S8x256, .f32⟩
  | .hbm, ⟨89, _⟩ => ⟨S8192x256, .bf16⟩
  | .hbm, ⟨90, _⟩ => ⟨S8192x256, .bf16⟩
  | .hbm, ⟨91, _⟩ => ⟨S8192x256, .bf16⟩
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c : Ref sig .tc := ⟨.hbm, 86, rfl⟩
abbrev main_call0_v0 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== MixGrad.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S8192x512 : Shape := ⟨2, ![8192, 512]⟩
abbrev S8192x3840 : Shape := ⟨2, ![8192, 3840]⟩
abbrev S256x1024 : Shape := ⟨2, ![256, 1024]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S256x64 : Shape := ⟨2, ![256, 64]⟩
abbrev S1x256 : Shape := ⟨2, ![1, 256]⟩

abbrev nBuf : Space → Nat
  | .hbm => 18
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S8192x256, .f32⟩
  | .hbm, ⟨5, _⟩ => ⟨S8192x256, .f32⟩
  | .hbm, ⟨6, _⟩ => ⟨S8192x512, .f32⟩
  | .hbm, ⟨7, _⟩ => ⟨S8192x256, .f32⟩
  | .hbm, ⟨8, _⟩ => ⟨S8192x3840, .f32⟩
  | .hbm, ⟨9, _⟩ => ⟨S1x1024, .f32⟩
  | .hbm, ⟨10, _⟩ => ⟨S8192x1024, .bf16⟩
  | .hbm, ⟨11, _⟩ => ⟨S8192x256, .f32⟩
  | .hbm, ⟨12, _⟩ => ⟨S8192x256, .f32⟩
  | .hbm, ⟨13, _⟩ => ⟨S8192x512, .f32⟩
  | .hbm, ⟨14, _⟩ => ⟨S8192x256, .f32⟩
  | .hbm, ⟨15, _⟩ => ⟨S8192x1024, .bf16⟩
  | .hbm, ⟨16, _⟩ => ⟨S1x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x512, .f32⟩
  | .local _ .vmem, ⟨11, _⟩ => ⟨S256x512, .f32⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x512, .f32⟩
  | .local _ .vmem, ⟨24, _⟩ => ⟨S256x512, .f32⟩
  | .local _ .vmem, ⟨25, _⟩ => ⟨S256x256, .f32⟩
  | .local _ .vmem, ⟨26, _⟩ => ⟨S256x256, .f32⟩
  | .local _ .vmem, ⟨27, _⟩ => ⟨S256x1024, .bf16⟩
  | .local _ .vmem, ⟨28, _⟩ => ⟨S256x1024, .bf16⟩
  | .local _ .vmem, ⟨29, _⟩ => ⟨S1x1024, .f32⟩
  | .local _ .vmem, ⟨30, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixGradReferenceIdeal.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S8192x512 : Shape := ⟨2, ![8192, 512]⟩
abbrev S8192x3840 : Shape := ⟨2, ![8192, 3840]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x4x128 : Shape := ⟨3, ![8192, 4, 128]⟩
abbrev S8192x4x64 : Shape := ⟨3, ![8192, 4, 64]⟩
abbrev S8192x1x256 : Shape := ⟨3, ![8192, 1, 256]⟩
abbrev S8192x4x256 : Shape := ⟨3, ![8192, 4, 256]⟩
abbrev S4x256 : Shape := ⟨2, ![4, 256]⟩
abbrev S8192x4 : Shape := ⟨2, ![8192, 4]⟩
abbrev S8192x4x1 : Shape := ⟨3, ![8192, 4, 1]⟩
abbrev S1x4x256 : Shape := ⟨3, ![1, 4, 256]⟩

abbrev nBuf : Space → Nat
  | .hbm => 174
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .bf16⟩
  | 4 => ⟨S8192x256, .f32⟩
  | 5 => ⟨S8192x256, .f32⟩
  | 6 => ⟨S8192x512, .f32⟩
  | 7 => ⟨S8192x256, .f32⟩
  | 8 => ⟨S8192x3840, .f32⟩
  | 9 => ⟨S1x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1024, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S1024x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x4x128, .f32⟩
  | 75 => ⟨S8192x4x64, .f32⟩
  | 76 => ⟨S8192x256, .f32⟩
  | 77 => ⟨S8192x1x256, .f32⟩
  | 78 => ⟨S8192x1x256, .f32⟩
  | 79 => ⟨S8192x1x256, .f32⟩
  | 80 => ⟨S8192x1x256, .f32⟩
  | 81 => ⟨S8192x4x256, .f32⟩
  | 82 => ⟨S4x256, .f32⟩
  | 83 => ⟨S8192x4x256, .f32⟩
  | 84 => ⟨S_, .f32⟩
  | 85 => ⟨S8192x4, .f32⟩
  | 86 => ⟨S8192x4x1, .f32⟩
  | 87 => ⟨S_, .f32⟩
  | 88 => ⟨S8192x4x1, .f32⟩
  | 89 => ⟨S8192x4x1, .f32⟩
  | 90 => ⟨S_, .f32⟩
  | 91 => ⟨S8192x4x1, .f32⟩
  | 92 => ⟨S8192x4x1, .f32⟩
  | 93 => ⟨S8192x4x1, .f32⟩
  | 94 => ⟨S8192x4x256, .f32⟩
  | 95 => ⟨S8192x4x256, .f32⟩
  | 96 => ⟨S1x4x256, .f32⟩
  | 97 => ⟨S8192x4x256, .f32⟩
  | 98 => ⟨S8192x4x256, .f32⟩
  | 99 => ⟨S8192x1024, .f32⟩
  | 100 => ⟨S8192x1024, .f32⟩
  | 101 => ⟨S8192x1024, .f32⟩
  | 102 => ⟨S8192x4x256, .f32⟩
  | 103 => ⟨S_, .f32⟩
  | 104 => ⟨S8192x4, .f32⟩
  | 105 => ⟨S8192x4x1, .f32⟩
  | 106 => ⟨S_, .f32⟩
  | 107 => ⟨S8192x4x1, .f32⟩
  | 108 => ⟨S8192x4x1, .f32⟩
  | 109 => ⟨S_, .f32⟩
  | 110 => ⟨S8192x4x1, .f32⟩
  | 111 => ⟨S8192x4x1, .f32⟩
  | 112 => ⟨S8192x4x1, .f32⟩
  | 113 => ⟨S8192x4x1, .f32⟩
  | 114 => ⟨S_, .f32⟩
  | 115 => ⟨S8192x4x1, .f32⟩
  | 116 => ⟨S8192x4x1, .f32⟩
  | 117 => ⟨S8192x4x256, .f32⟩
  | 118 => ⟨S8192x4x256, .f32⟩
  | 119 => ⟨S1x4x256, .f32⟩
  | 120 => ⟨S8192x4x256, .f32⟩
  | 121 => ⟨S8192x4x256, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x4x256, .f32⟩
  | 5 => ⟨S8192x4x256, .f32⟩
  | 6 => ⟨S_, .f32⟩
  | 7 => ⟨S4x256, .f32⟩
  | 8 => ⟨S1x4x256, .f32⟩
  | 9 => ⟨S8192x4x256, .f32⟩
  | 10 => ⟨S8192x4x256, .f32⟩
  | 11 => ⟨S_, .f32⟩
  | 12 => ⟨S4x256, .f32⟩
  | 13 => ⟨S8192x4x256, .f32⟩
  | 14 => ⟨S_, .f32⟩
  | 15 => ⟨S8192x4, .f32⟩
  | 16 => ⟨S8192x4x1, .f32⟩
  | 17 => ⟨S8192x4x256, .f32⟩
  | 18 => ⟨S8192x4x256, .f32⟩
  | 19 => ⟨S8192x4x1, .f32⟩
  | 20 => ⟨S_, .f32⟩
  | 21 => ⟨S8192x4x1, .f32⟩
  | 22 => ⟨S8192x4x1, .f32⟩
  | 23 => ⟨S_, .f32⟩
  | 24 => ⟨S8192x4, .f32⟩
  | 25 => ⟨S8192x4x256, .f32⟩
  | 26 => ⟨S8192x4x256, .f32⟩
  | 27 => ⟨S8192x4x256, .f32⟩
  | 28 => ⟨S8192x4x256, .f32⟩
  | 29 => ⟨S8192x4x256, .f32⟩
  | 30 => ⟨S8192x1x256, .f32⟩
  | 31 => ⟨S8192x256, .f32⟩
  | 32 => ⟨S8192x4x64, .f32⟩
  | 33 => ⟨S_, .i32⟩
  | 34 => ⟨S_, .f32⟩
  | 35 => ⟨S8192x4x128, .f32⟩
  | 36 => ⟨S8192x512, .f32⟩
  | 37 => ⟨S8192x1024, .bf16⟩
  | 38 => ⟨S8192x1x256, .f32⟩
  | 39 => ⟨S8192x256, .f32⟩
  | 40 => ⟨S8192x1x256, .f32⟩
  | 41 => ⟨S8192x256, .f32⟩
  | 42 => ⟨S8192x1x256, .f32⟩
  | 43 => ⟨S8192x256, .f32⟩
  | 44 => ⟨S8192x1024, .bf16⟩
  | 45 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v37_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v37_1 : Ref sig .tc := ⟨.hbm, 66, rfl⟩
abbrev main_v37_0 : Ref sig .tc := ⟨.hbm, 67, rfl⟩
abbrev main_cst_7 : Ref sig .tc := ⟨.hbm, 68, rfl⟩
abbrev main_v38 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_11 : Ref sig .tc := ⟨.hbm, 103, rfl⟩
abbrev main_v66 : Ref sig .tc := ⟨.hbm, 104, rfl⟩
abbrev main_v67 : Ref sig .tc := ⟨.hbm, 105, rfl⟩
abbrev main_cst_12 : Ref sig .tc := ⟨.hbm, 106, rfl⟩
abbrev main_v68 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_15 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_16 : Ref sig .tc := ⟨.hbm, 139, rfl⟩
abbrev main_v89 : Ref sig .tc := ⟨.hbm, 140, rfl⟩
abbrev main_v90 : Ref sig .tc := ⟨.hbm, 141, rfl⟩
abbrev main_cst_17 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_18 : Ref sig .tc := ⟨.hbm, 148, rfl⟩
abbrev main_v96 : Ref sig .tc := ⟨.hbm, 149, rfl⟩
abbrev main_v97 : Ref sig .tc := ⟨.hbm, 150, rfl⟩
abbrev main_cst_19 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c : Ref sig .tc := ⟨.hbm, 161, rfl⟩
abbrev main_call3_v0 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩

abbrev nD : Nat := 1
abbrev τ : Topo := Topo.v7x

variable {F : FTy → Type} [FloatOps F]
-- ==== Proof.Exchange.lean ====
/-
  The exchange both programs run: every device sends one block to each of its seven peers, the transfer `k` of device `c`
  going to `peer k c` and paying two counters, the sender's own send counter `k` and the receiver's receive counter `k`;
  one more copy, of the device's own block, pays the counter `here`. An `Exchange` names the peers (each pairing its two
  devices), the counters, the units of a block, and what the units of each counter hand over when the device waits for
  them. Each counter is a cell of the rounds library with one round of one duty. No device asks a peer whether it may
  write: the tokens of the receive duties are dealt at launch, each to the device that pays it, and so may be any family
  of resources of the devices, each to the peer that needs it (`deal`).
-/
module

public import Idealize.ShloMosaic.Lib.Pipeline.Launch
public import Idealize.ShloMosaic.Lib.Rounds
public import Idealize.ShloMosaic.Lib.Tactic

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

/-! ## The ghost state: the pipeline's counters beside the exchange's -/

/-- The rounds library's algebra over a machine's counters, one duty to a round. -/
abbrev UR (nD : Nat) (τ : Topo) (sig : RefSig) : Type := URounds (GSem nD τ sig) Unit

/-- Two copies of it: the first for the pipelines' staging counters, the second for the exchange's. -/
abbrev UU (nD : Nat) (τ : Topo) (sig : RefSig) : Type := UR nD τ sig × UR nD τ sig

variable {nD : Nat} {τ : Topo} {sig : RefSig} {Val : EltTy → Type}

local notation "𝕄" => MT nD τ sig Unit Val ℕ (UU nD τ sig) ℕ

/-- The first copy in the program's resources. -/
def EP : Emb (UR nD τ sig) (MT nD τ sig Unit Val ℕ (UU nD τ sig) ℕ) :=
  (Emb.inl : Emb (UR nD τ sig) (UU nD τ sig)).trans
    (uEmb (nD := nD) (sig := sig) (Ix := Unit) (Val := Val) (Name := ℕ) (U := UU nD τ sig) (Lvl := ℕ)).toEmb

/-- The second copy in the program's resources. -/
def ER : Emb (UR nD τ sig) (MT nD τ sig Unit Val ℕ (UU nD τ sig) ℕ) :=
  (Emb.inr : Emb (UR nD τ sig) (UU nD τ sig)).trans
    (uEmb (nD := nD) (sig := sig) (Ix := Unit) (Val := Val) (Name := ℕ) (U := UU nD τ sig) (Lvl := ℕ)).toEmb

instance EP_lands : (EP : Emb (UR nD τ sig) 𝕄).LandsIn (upEmb : UEmb _ 𝕄) := by unfold EP; infer_instance
instance ER_lands : (ER : Emb (UR nD τ sig) 𝕄).LandsIn (upEmb : UEmb _ 𝕄) := by unfold ER; infer_instance

/-- A pair of ghost elements is the first in the first copy and the second in the second. -/
theorem own_pair (a b : UR nD τ sig) : (ownU (a, b) : sProp 𝕄) ⊢ iprop(BI.own (EP a) ∗ BI.own (ER b)) :=
  BI.own_op_elim ((uEmb (nD := nD) (sig := sig) (Ix := Unit) (Val := Val) (Name := ℕ) (U := UU nD τ sig) (Lvl := ℕ)).toEmb.op_of_mem
    (Prod.mk_mem_op (URA.mem_op_one a) (URA.mem_one_op b)))

/-! ## The counters of a device -/

/-- Which counter of a device: the send counter `k`, the receive counter `k`, or the counter of the copy in place. -/
abbrev Kind : Type := (Fin 7 ⊕ Fin 7) ⊕ Unit

/-- The send counter of transfer `k`. -/
abbrev Kind.send (k : Fin 7) : Kind := .inl (.inl k)
/-- The receive counter of transfer `k`. -/
abbrev Kind.recv (k : Fin 7) : Kind := .inl (.inr k)
/-- The counter of the copy in place. -/
abbrev Kind.here : Kind := .inr ()

/-- A family over a device's counters is its send counters, its receive counters and the one of the copy in place. -/
theorem bigSep_kinds (Φ : Kind → sProp 𝕄) :
    bigSep Finset.univ Φ = iprop(((bigSep Finset.univ fun k : Fin 7 => Φ (.send k)) ∗ bigSep Finset.univ fun k : Fin 7 => Φ (.recv k)) ∗ Φ .here) := by
  rw [bigSep_univ_sum, bigSep_univ_sum, bigSep_univ_of_subsingleton ()]; rfl

/-- A family over the seven transfers, member by member. -/
theorem bigSep_seven (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

variable (nD τ sig Val) in
/-- An exchange: the peers, the counters, the units of a block, and what each counter's units hand the device that waits. -/
structure Exchange where
  /-- The device transfer `k` of a device goes to. -/
  peer : Fin 7 → Dev nD → Dev nD
  /-- Transfer `k` pairs the devices: the peer's transfer `k` comes back. -/
  peer_peer : ∀ k c, peer k (peer k c) = c
  /-- The counters. -/
  osem : Kind → SemLoc sig
  /-- They are distinct. -/
  inj : Function.Injective osem
  /-- The units of a block. -/
  units : ℕ
  /-- A block has some. -/
  units_pos : 0 < units
  /-- What the units of a device's counter hand it. -/
  pay : Kind → Dev nD → sProp (MT nD τ sig Unit Val ℕ (UU nD τ sig) ℕ)
  /-- All of it can be kept in an invariant. -/
  storable : ∀ κ c, BI.Storable (upEmb : UEmb _ (MT nD τ sig Unit Val ℕ (UU nD τ sig) ℕ)) (pay κ c)

namespace Exchange

variable (X : Exchange nD τ sig Val)

/-- Device `c`'s counter `κ`. -/
abbrev cell (c : Dev nD) (κ : Kind) : GSem nD τ sig := ((c : Thread nD τ), X.osem κ)

/-- Whether a counter is one of the exchange's. -/
abbrev IsCell (g : GSem nD τ sig) : Prop := g.1.2 = .tc ∧ ∃ κ, X.osem κ = g.2

theorem isCell (c : Dev nD) (κ : Kind) : X.IsCell (X.cell c κ) := ⟨rfl, κ, rfl⟩

theorem cell_inj {c c' : Dev nD} {κ κ' : Kind} (h : X.cell c κ = X.cell c' κ') : c = c' ∧ κ = κ' :=
  ⟨congrArg (fun g : GSem nD τ sig => g.1.1) h, X.inj (congrArg Prod.snd h)⟩

theorem cells_injective : Function.Injective fun ck : Dev nD × Kind => X.cell ck.1 ck.2 :=
  fun _ _ h => Prod.ext (X.cell_inj h).1 (X.cell_inj h).2

/-- What a counter's units hand over: at one of the exchange's, what the exchange says; elsewhere nothing. -/
def payload (g : GSem nD τ sig) : sProp 𝕄 := if h : ∃ κ, X.osem κ = g.2 then X.pay h.choose g.1.1 else iprop(emp)

theorem payload_cell (c : Dev nD) (κ : Kind) : X.payload (X.cell c κ) = X.pay κ c := by
  have h : ∃ κ', X.osem κ' = (X.cell c κ).2 := ⟨κ, rfl⟩
  unfold payload; rw [dif_pos h, X.inj h.choose_spec]

/-- The schedule of the counters: one round, of one duty, of a block's units. -/
def sched : Schedule (GSem nD τ sig) Unit 𝕄 where
  duties g r := if r = 0 ∧ X.IsCell g then {()} else ∅
  unitless _ := False
  amount _ _ _ := X.units
  payload g _ _ := X.payload g
  amount_pos _ _ _ _ := X.units_pos

instance sched_storable (g : GSem nD τ sig) (r : ℕ) (d : Unit) : BI.Storable (upEmb : UEmb _ 𝕄) (X.sched.payload g r d) := by
  show BI.Storable upEmb (X.payload g)
  unfold payload
  split
  · exact X.storable _ _
  · infer_instance

theorem duties_cell (c : Dev nD) (κ : Kind) : X.sched.duties (X.cell c κ) 0 = {()} := if_pos ⟨rfl, X.isCell c κ⟩

theorem mem_duties (c : Dev nD) (κ : Kind) : () ∈ X.sched.duties (X.cell c κ) 0 := by
  rw [duties_cell]; exact Finset.mem_singleton_self _

theorem duties_later (g : GSem nD τ sig) (r : ℕ) (hr : 0 + 1 ≤ r) : X.sched.duties g r = ∅ := if_neg fun h => by omega

theorem expect_cell (c : Dev nD) (κ : Kind) : X.sched.expect (X.cell c κ) 0 = X.units := by
  unfold Schedule.expect Schedule.amountOf; rw [duties_cell, Finset.sum_singleton]; rfl

theorem sched_payload (c : Dev nD) (κ : Kind) (r : ℕ) (u : Unit) : X.sched.payload (X.cell c κ) r u = X.pay κ c := X.payload_cell c κ

theorem rest_cell (c : Dev nD) (κ : Kind) :
    bigSep (X.sched.duties (X.cell c κ) 0 \ ∅) (fun u => X.sched.payload (X.cell c κ) 0 u) = X.pay κ c := by
  rw [Finset.sdiff_empty, duties_cell, bigSep_singleton, sched_payload]

/-! ## What a device owes and is owed -/

/-- What device `c` owes before its transfer `n`: the units of the blocks not yet sent, to their receivers. -/
def owed (c : Dev nD) (n : ℕ) : CellTallies nD τ sig Unit :=
  ∑ k ∈ Finset.univ.filter (fun k : Fin 7 => n ≤ k.val), tallyAt (X.cell (X.peer k c) (.recv k)) () X.units

theorem owed_step (c : Dev nD) (k : Fin 7) :
    X.owed c k.val = X.owed c (k.val + 1) + tallyAt (X.cell (X.peer k c) (.recv k)) () X.units := by
  have hk : (Finset.univ.filter fun j : Fin 7 => k.val ≤ j.val) = insert k (Finset.univ.filter fun j : Fin 7 => k.val + 1 ≤ j.val) := by
    ext j; simp only [Finset.mem_filter, Finset.mem_univ, true_and, Finset.mem_insert, Fin.ext_iff]; omega
  unfold owed
  rw [hk, Finset.sum_insert (by simp), add_comm]

theorem owed_last (c : Dev nD) : X.owed c 7 = 0 := by
  unfold owed
  rw [show (Finset.univ.filter fun j : Fin 7 => 7 ≤ j.val) = ∅ from by decide, Finset.sum_empty]

/-- The devices' debts at launch. -/
abbrev debts (c : Dev nD) : CellTallies nD τ sig Unit := X.owed c 0

theorem debts_recv (d c : Dev nD) (k : Fin 7) : X.debts d (X.cell c (.recv k)) () = if d = X.peer k c then X.units else 0 := by
  unfold debts owed
  rw [Finset.sum_apply, Finsupp.finset_sum_apply, Finset.sum_eq_single k]
  · rw [tallyAt_apply]
    by_cases h : d = X.peer k c
    · subst h; rw [if_pos ⟨by rw [X.peer_peer], rfl⟩, if_pos rfl]
    · rw [if_neg (fun h' => h (by rw [(X.cell_inj h'.1).1, X.peer_peer])), if_neg h]
  · intro j _ hj
    rw [tallyAt_apply, if_neg (fun h' => hj ?_)]
    have := (X.cell_inj h'.1).2
    simp only [Sum.inl.injEq, Sum.inr.injEq] at this
    exact this.symm
  · intro h; exact absurd (Finset.mem_filter.mpr ⟨Finset.mem_univ k, Nat.zero_le _⟩) h

theorem credit_recv (c : Dev nD) (k : Fin 7) :
    tallyOn (X.cell c (.recv k)) (launchCredit (Pipeline.owing X.debts) 0 (X.cell c (.recv k)))
      = (tallyAt (X.cell c (.recv k)) () X.units : CellTallies nD τ sig Unit) := by
  unfold tallyAt; refine congrArg _ (Finsupp.ext fun u => ?_); cases u
  rw [Pipeline.launchCredit_owing, Finsupp.single_eq_same, Finset.sum_congr rfl fun d _ => X.debts_recv d c k,
    Finset.sum_ite_eq' Finset.univ (X.peer k c) fun _ => X.units, if_pos (Finset.mem_univ _)]

/-- Device `c`'s launch credit holds, for each of its receive counters, the units it waits for. -/
theorem credits (c : Dev nD) :
    (Pipeline.launchCred X.debts c : sProp 𝕄) ⊢ bigSep Finset.univ fun k : Fin 7 => cred (tallyAt (X.cell c (.recv k)) () X.units) := by
  classical
  have hinj : Function.Injective fun k : Fin 7 => X.osem (.recv k) := fun a b h => by simpa using X.inj h
  unfold Pipeline.launchCred
  refine (bigSep_subset (Finset.subset_univ (Finset.univ.image fun k : Fin 7 => X.osem (.recv k)))).trans ?_
  rw [bigSep_image_of_injOn hinj.injOn]
  exact bigSep_mono fun k _ => Entails.of_eq (congrArg cred (X.credit_recv c k))

/-- Every counter of a TensorCore has the one index, all at one level: each wait of the exchange comes after every send. -/
def L (g : GSem nD τ sig) : Finset Unit := if g.1.2 = .tc then {()} else ∅
def lv (_ : GSem nD τ sig) (_ : Unit) : ℕ := 0

theorem L_of_ne (g : GSem nD τ sig) (h : g.1.2 ≠ .tc) : L g = ∅ := if_neg h

/-! ## The deal at launch -/

/-- Every counter of the exchange. -/
abbrev cells : Finset (GSem nD τ sig) := Finset.univ.image fun ck : Dev nD × Kind => X.cell ck.1 ck.2

theorem mem_cells (c : Dev nD) (κ : Kind) : X.cell c κ ∈ X.cells := Finset.mem_image.mpr ⟨(c, κ), Finset.mem_univ _, rfl⟩

theorem bigSep_cells (Φ : GSem nD τ sig → sProp 𝕄) :
    bigSep X.cells Φ = bigSep Finset.univ fun c : Dev nD => bigSep Finset.univ fun κ => Φ (X.cell c κ) := by
  rw [bigSep_image_of_injOn X.cells_injective.injOn, bigSep_univ_prod]

/-- The tokens of every duty. -/
abbrev toks : Finset (GSem nD τ sig × ℕ × Unit) := X.cells.image fun g => (g, 0, ())

/-- The exchange's launch element. -/
def seed : UR nD τ sig := initOf X.cells X.toks

theorem bigSep_toks (Φ : GSem nD τ sig × ℕ × Unit → sProp 𝕄) : bigSep X.toks Φ = bigSep X.cells fun g => Φ (g, 0, ()) :=
  bigSep_image_of_injOn (f := fun g : GSem nD τ sig => (g, 0, ())) (fun _ _ _ _ h => congrArg Prod.fst h) Φ

/-- What every device may consult: each counter's invariant, under names `K`, and that its round is open. -/
def records (K : GSem nD τ sig → ℕ) : sProp 𝕄 :=
  iprop((bigSep X.cells fun g => cellInv ER X.sched (K g) g) ∗ bigSep X.cells fun g => reached ER g 0)

instance records_persistent (K : GSem nD τ sig → ℕ) : BI.Persistent (X.records K) := by unfold records; infer_instance

theorem records_inv (K : GSem nD τ sig → ℕ) (c : Dev nD) (κ : Kind) : X.records K ⊢ cellInv ER X.sched (K (X.cell c κ)) (X.cell c κ) := by
  have h : (bigSep X.cells fun g => cellInv ER X.sched (K g) g : sProp 𝕄) ⊢ cellInv ER X.sched (K (X.cell c κ)) (X.cell c κ) :=
    bigSep_elim (X.mem_cells c κ)
  unfold records
  iintro ⟨H, -⟩
  iapply h; iexact H

theorem records_reached (K : GSem nD τ sig → ℕ) (c : Dev nD) (κ : Kind) : X.records K ⊢ reached ER (X.cell c κ) 0 := by
  have h : (bigSep X.cells fun g => reached ER g 0 : sProp 𝕄) ⊢ reached ER (X.cell c κ) 0 := bigSep_elim (X.mem_cells c κ)
  unfold records
  iintro ⟨-, H⟩
  iapply h; iexact H

/-- What device `c` holds of its own: its place at the open round of each of its counters, and the tokens of the duties
    it pays — its send counters', its peers' receive counters' and the copy in place's. -/
def hand (c : Dev nD) : sProp 𝕄 :=
  iprop((bigSep Finset.univ fun κ => atPos ER (X.cell c κ) 0 ∅ 0)
    ∗ (bigSep Finset.univ fun k => dutyTok ER (X.cell c (.send k)) 0 ())
    ∗ (bigSep Finset.univ fun k => dutyTok ER (X.cell (X.peer k c) (.recv k)) 0 ())
    ∗ dutyTok ER (X.cell c .here) 0 ())

/-- The pairing of the devices by transfer `k`. -/
def pairing (k : Fin 7) : Dev nD ≃ Dev nD := ⟨X.peer k, X.peer k, X.peer_peer k, X.peer_peer k⟩

/-- A family of the devices' resources, one to each transfer, handed each to the transfer's peer. -/
theorem to_peers (Φ : Fin 7 → Dev nD → sProp 𝕄) :
    (bigSep Finset.univ fun c => bigSep Finset.univ fun k => Φ k c) = bigSep Finset.univ fun c => bigSep Finset.univ fun k => Φ k (X.peer k c) := by
  rw [bigSep_univ_comm, bigSep_congr fun k _ => bigSep_univ_equiv (X.pairing k) (Φ k), bigSep_univ_comm]
  rfl

theorem hands :
    iprop((bigSep X.cells fun g => atPos ER g 0 ∅ 0) ∗ bigSep X.toks fun x => dutyTok ER x.1 x.2.1 x.2.2)
      ⊢ (bigSep Finset.univ X.hand : sProp 𝕄) := by
  rw [bigSep_toks, bigSep_cells, bigSep_cells]
  rw [bigSep_congr (s := Finset.univ) fun (c : Dev nD) _ => bigSep_kinds fun κ => (dutyTok ER (X.cell c κ) 0 () : sProp 𝕄)]
  rw [bigSep_sep', bigSep_sep', X.to_peers fun k c => (dutyTok ER (X.cell c (.recv k)) 0 () : sProp 𝕄)]
  unfold hand
  rw [bigSep_sep', bigSep_sep', bigSep_sep']
  iintro ⟨Ha, ⟨Hs, Hr⟩, Hh⟩
  isplitl [Ha]; · iexact Ha
  isplitl [Hs]; · iexact Hs
  isplitl [Hr] <;> iassumption

/-- The deal: from each device's counters at zero, what it keeps (`B`) and what it gives up to its peers (`Φ`), and the
    exchange's launch element, every device has what it keeps, the records, its hand, and what its peers gave it. -/
theorem deal (A B : Dev nD → sProp 𝕄) (Φ : Fin 7 → Dev nD → sProp 𝕄)
    (hA : ∀ c, A c ⊢ iprop(B c ∗ (bigSep Finset.univ fun κ => semVal (X.cell c κ) 0) ∗ bigSep Finset.univ fun k => Φ k c)) :
    iprop(bigSep Finset.univ A ∗ BI.own (ER X.seed))
      ⊢ |={Set.univ}=> bigSep Finset.univ fun c =>
          iprop(B c ∗ (∃ K, X.records K ∗ X.hand c) ∗ bigSep Finset.univ fun k => Φ k (X.peer k c)) := by
  have hsplit : bigSep Finset.univ A ⊢ iprop(bigSep Finset.univ B ∗ (bigSep X.cells fun g => semVal g 0)
      ∗ bigSep Finset.univ fun c => bigSep Finset.univ fun k => Φ k (X.peer k c)) := by
    rw [bigSep_cells, ← X.to_peers, ← bigSep_sep', ← bigSep_sep']
    exact bigSep_mono fun c _ => hA c
  have hgive (K : GSem nD τ sig → ℕ) : iprop(X.records K ∗ bigSep Finset.univ X.hand)
      ⊢ bigSep Finset.univ fun c => iprop(∃ K, X.records K ∗ X.hand c) :=
    bigSep_with_persistent (R := X.records K) fun c _ => by
      iintro ⟨#HR, Hh⟩; iexists K; isplitr; · iexact HR
      iexact Hh
  unfold seed
  iintro ⟨HA, Hu⟩
  ihave HA := hsplit $$ HA
  icases HA with ⟨HB, Hsem, HΦ⟩
  imod (Rounds.fund ER X.sched X.cells X.toks) $$ Hu with ⟨Hst, #Hre, Hat, Htk⟩
  ihave Hb := (bodies_intro ER X.sched X.cells) $$ [Hsem Hst]
  · isplitl [Hsem] <;> iassumption
  imod (inv_alloc_family X.cells (body ER X.sched) ∅) $$ Hb with ⟨%K, -, #HI⟩
  ihave Hh := X.hands $$ [Hat Htk]
  · isplitl [Hat] <;> iassumption
  ihave HG := (hgive K) $$ [Hh]
  · isplitr
    · unfold records; isplitl; · iexact HI
      iexact Hre
    · iexact Hh
  imodintro
  rw [bigSep_sep', bigSep_sep']
  isplitl [HB]; · iexact HB
  isplitl [HG] <;> iassumption

/-! ## The steps -/

variable {Λ : Labels} {defs : Defs nD τ sig Val Λ} (𝒱 : Variants) (K : GSem nD τ sig → ℕ)

/-- Transfer `k` of device `c`, addressed to a device `n` that is `peer k c`: it pays the send duty with the source's
    share and the receive duty with the destination rewritten, and leaves the units of the send counter to wait for. -/
theorem wp_transfer {α : Type} {Q : α → sProp 𝕄} (k : Fin 7) (c n : Dev nD) (hn : n = X.peer k c) {sp sp' : Space} {s : Shape} {e : EltTy}
    {src : Memref sig (Dev.tc c : Thread nD τ).2.kind sp s e} {dst : Memref sig (Dev.tc n : Thread nD τ).2.kind sp' s e}
    {hsc : dst.view.ref.isScScratch = false} {sS sR : SemLoc sig} (hS : sS = X.osem (.send k)) (hR : sR = X.osem (.recv k))
    {hsrc : src.view.WordExact} {hdst : dst.view.WordExact} {hsem : DmaTarget.Typed sp sR (.remote (Dev.tc n : Thread nD τ) dst sS hsc)}
    {kk : PUnit → Prog (TpuEff nD τ sig Val Λ .tc) α} {q : PosShare TreeShare}
    (fs : Buf Val (src.view.loc (c : Thread nD τ))) (fd : Buf Val (dst.view.loc (n : Thread nD τ)))
    (hN : dst.view.amount sR = X.units) {W : Waits sig Unit}
    (hpay₁ : (src.view.loc (c : Thread nD τ) ↦[src.view.set]{q} fs) ⊢ X.pay (.send k) c)
    (hpay₂ : (dst.view.loc (n : Thread nD τ) ↦[dst.view.set]{fullShare} (dst.view.write Val fd (src.view.read Val fs) Finset.univ)) ⊢ X.pay (.recv k) n)
    (hr : τ.routes (c : Thread nD τ) (n : Thread nD τ) = true) :
    iprop(X.records K ∗ ((src.view.loc (c : Thread nD τ) ↦[src.view.set]{q} fs) ∗ (dst.view.loc (n : Thread nD τ) ↦[dst.view.set]{fullShare} fd)
        ∗ dutyTok ER (X.cell c (.send k)) 0 () ∗ dutyTok ER (X.cell (X.peer k c) (.recv k)) 0 ()) ∗ owes (c : Thread nD τ) (X.owed c k.val) W)
      ⊢ iprop(((cred (tallyAt (X.cell c (.send k)) () X.units) ∗ owes (c : Thread nD τ) (X.owed c (k.val + 1)) W)
            -∗ wp frame (wpE defs 𝒱 (c : Thread nD τ) none) Set.univ (kk ⟨⟩) Q)
          -∗ wp frame (wpE defs 𝒱 (c : Thread nD τ) none) Set.univ
              (.op (.enqueueDma src (.remote (Dev.tc n : Thread nD τ) dst sS hsc) sR hsrc hdst hsem) kk) Q) := by
  subst hn hS hR
  iintro ⟨#HR, ⟨Hs, Hd, Ht₁, Ht₂⟩, HO⟩
  iapply (Rounds.wp_send_pointsTo 𝒱 ER X.sched (c : Thread nD τ) none (κ₁ := K (X.cell c (.send k))) (κ₂ := K (X.cell (X.peer k c) (.recv k)))
    (r₁ := 0) (r₂ := 0) (d₁ := ()) (d₂ := ()) (fs := fs) (fd := fd) (X.mem_duties c (.send k)) (X.mem_duties (X.peer k c) (.recv k))
    () () X.units hN rfl rfl (X.owed c (k.val + 1)) (X.owed_step c k) (W := W)
    (by rw [X.sched_payload]; exact hpay₁) (by rw [X.sched_payload]; exact hpay₂) (hr := hr))
  isplitr; · iapply (X.records_inv K c (.send k)); iexact HR
  isplitr; · iapply (X.records_inv K (X.peer k c) (.recv k)); iexact HR
  isplitl [Hs]; · iexact Hs
  isplitl [Hd]; · iexact Hd
  isplitl [HO]; · iexact HO
  isplitl [Ht₁]; · iexact Ht₁
  isplitr; · iapply (X.records_reached K c (.send k)); iexact HR
  isplitl [Ht₂]; · iexact Ht₂
  iapply (X.records_reached K (X.peer k c) (.recv k)); iexact HR

/-- The copy in place of device `c`: it pays its duty with the destination rewritten and the source's share, and leaves
    the units of its counter to wait for. -/
theorem wp_copy_here {α : Type} {Q : α → sProp 𝕄} (c : Dev nD) {sp sp' : Space} {s : Shape} {e : EltTy}
    {src : Memref sig (Dev.tc c : Thread nD τ).2.kind sp s e} {dst : Memref sig (Dev.tc c : Thread nD τ).2.kind sp' s e}
    {sH : SemLoc sig} (hH : sH = X.osem .here)
    {hsrc : src.view.WordExact} {hdst : dst.view.WordExact} {hsem : DmaTarget.Typed (nD := nD) sp sH (.here dst)}
    {kk : PUnit → Prog (TpuEff nD τ sig Val Λ .tc) α} {q : PosShare TreeShare}
    (fs : Buf Val (src.view.loc (c : Thread nD τ))) (fd : Buf Val (dst.view.loc (c : Thread nD τ)))
    (hN : dst.view.amount sH = X.units)
    (hpay : iprop((dst.view.loc (c : Thread nD τ) ↦[dst.view.set]{fullShare} (dst.view.write Val fd (src.view.read Val fs) Finset.univ))
      ∗ (src.view.loc (c : Thread nD τ) ↦[src.view.set]{q} fs)) ⊢ X.pay .here c) :
    iprop(X.records K ∗ ((src.view.loc (c : Thread nD τ) ↦[src.view.set]{q} fs) ∗ (dst.view.loc (c : Thread nD τ) ↦[dst.view.set]{fullShare} fd)
        ∗ dutyTok ER (X.cell c .here) 0 ()))
      ⊢ iprop((cred (tallyAt (X.cell c .here) () X.units) -∗ wp frame (wpE defs 𝒱 (c : Thread nD τ) none) Set.univ (kk ⟨⟩) Q)
          -∗ wp frame (wpE defs 𝒱 (c : Thread nD τ) none) Set.univ (.op (.enqueueDma src (.here dst) sH hsrc hdst hsem) kk) Q) := by
  subst hH
  iintro ⟨#HR, Hs, Hd, Ht⟩
  iapply (Rounds.wp_copy_pointsTo 𝒱 ER X.sched (c : Thread nD τ) none (κ := K (X.cell c .here)) (r := 0) (d := ()) (fs := fs) (fd := fd)
    (X.mem_duties c .here) () X.units hN rfl (by rw [X.sched_payload]; exact hpay))
  isplitr; · iapply (X.records_inv K c .here); iexact HR
  isplitl [Hs]; · iexact Hs
  isplitl [Hd]; · iexact Hd
  isplitl [Ht]; · iexact Ht
  iapply (X.records_reached K c .here); iexact HR

/-- The wait of device `c`, owing nothing, for all of a counter's units: what they hand over comes, and the counter, its
    one round done, is the device's again at zero. -/
theorem wp_await {α : Type} {Q : α → sProp 𝕄} (c : Dev nD) (κ : Kind) {sm : SemLoc sig} (hsm : sm = X.osem κ) {w : TpuEff nD τ sig Val Λ .tc PUnit} {n : ℕ}
    (hw : ∀ R : PUnit → sProp 𝕄, wpE defs 𝒱 (c : Thread nD τ) none Set.univ w R = waitSpec (c : Thread nD τ) Set.univ sm n R) (hn : n = X.units)
    {kk : PUnit → Prog (TpuEff nD τ sig Val Λ .tc) α} {W : Waits sig Unit} :
    iprop(X.records K ∗ cred (tallyAt (X.cell c κ) () X.units) ∗ atPos ER (X.cell c κ) 0 ∅ 0 ∗ owes (c : Thread nD τ) (0 : CellTallies nD τ sig Unit) W)
      ⊢ iprop(((X.pay κ c ∗ semVal (X.cell c κ) 0 ∗ owes (c : Thread nD τ) (0 : CellTallies nD τ sig Unit) (insert (X.osem κ, ()) W))
            -∗ wp frame (wpE defs 𝒱 (c : Thread nD τ) none) Set.univ (kk ⟨⟩) Q)
          -∗ wp frame (wpE defs 𝒱 (c : Thread nD τ) none) Set.univ (.op w kk) Q) := by
  subst hsm hn
  iintro ⟨#HR, Hc, Hat, HO⟩ Hk
  iapply (Rounds.wp_wait_rest_token 𝒱 ER X.sched (c : Thread nD τ) none (κ := K (X.cell c κ)) hw (Set.mem_univ _) ()
    (O := 0) (W := W) (R := 0) (m := 0) (T := ∅) (by rw [Nat.zero_add]; exact (X.expect_cell c κ).symm)) $$ [Hc Hat HO]
  · isplitr; · iapply (X.records_inv K c κ); iexact HR
    isplitl [Hc]; · iexact Hc
    isplitl [HO]; · iexact HO
    isplitr; · rw [MayWait_zero]; iempintro
    iexact Hat
  iintro ⟨HO, Hat, -, Hpay⟩
  ihave Hp := (Entails.of_eq (X.rest_cell c κ)) $$ Hpay
  imod (Rounds.cell_close ER X.sched (Set.mem_univ (K (X.cell c κ))) (fun h => h) (R := 0 + 1) (X.duties_later (X.cell c κ))) $$ [Hat] with Hz
  · isplitr; · iapply (X.records_inv K c κ); iexact HR
    iexact Hat
  iapply Hk
  isplitl [Hp]; · iexact Hp
  isplitl [Hz] <;> iassumption

end Exchange

end Cert.Proof

end
-- ==== Proof.Peers.lean ====
/-
  The eight devices' pairing: transfer `k` of device `c` goes to the device whose number is `c`'s with the bits of `k + 1`
  flipped.
-/
module

public import proofs.«01_k».proof.Proof.Exchange

@[expose] public section

noncomputable section

namespace Cert.Proof

open Idealize.ShloMosaic
open Idealize.SL Idealize.SL.RA Idealize.SL.BI
open scoped Idealize.SL.BI
open Idealize.SL.BI.BIBase

/-- The device transfer `k` of device `c` goes to. -/
def peer (k : Fin 7) (c : Fin 8) : Fin 8 := ⟨(c.val ^^^ (k.val + 1)) % 8, Nat.mod_lt _ (by decide)⟩

theorem peer_peer : ∀ k c, peer k (peer k c) = c := by decide

theorem peer_inj (c : Fin 8) : Function.Injective fun k => peer k c := by revert c; decide

/-- A device and its seven peers are all the devices. -/
theorem self_and_peers (c : Fin 8) : (Finset.univ : Finset (Fin 8)) = insert c (Finset.univ.image fun k => peer k c) := by
  revert c; decide

theorem self_not_peer (c : Fin 8) : c ∉ Finset.univ.image fun k => peer k c := by revert c; decide

/-- A family over the devices is its member at a device and those at its peers. -/
theorem bigSep_peers {M : Type} [URA M] (c : Fin 8) (Φ : Fin 8 → sProp M) :
    bigSep Finset.univ Φ = iprop(Φ c ∗ bigSep Finset.univ fun k => Φ (peer k c)) := by
  rw [self_and_peers c, bigSep_insert (self_not_peer c), bigSep_image_of_injOn (peer_inj c).injOn]
  rfl

end Cert.Proof

end
-- ==== Proof.Slots.lean ====
/-
  The slots of an array of eight blocks: the elements of block `d`, which the kernels reach by slicing the array at
  `d` and dropping the unit axis.
-/
module

public import Idealize.ShloMosaic.Lib.Ring
public import Idealize.ShloMosaic.Lib.ValueLayout

@[expose] public section

noncomputable section

namespace Cert.Proof

open Idealize.ShloMosaic Idealize.ShloMosaic.ValueIdx

variable {sig : RefSig} {κ : Kind} {sp : Space} {e : EltTy} {R C : ℕ}

/-- Eight blocks of `R` rows and `C` columns; -/
abbrev Eight (R C : ℕ) : Shape := ⟨3, ![8, R, C]⟩
/-- one block; -/
abbrev Block (R C : ℕ) : Shape := ⟨2, ![R, C]⟩
/-- one block with the axis it is taken from. -/
abbrev One (R C : ℕ) : Shape := ⟨3, ![1, R, C]⟩

/-- Block `d` of an array of eight: the elements whose first coordinate is `d`. -/
def slotSet (R C : ℕ) (d : Fin 8) : Finset (Eight R C).Idx := Finset.univ.filter fun i => (show Fin 8 from i 0) = d

theorem mem_slotSet {d : Fin 8} {i : (Eight R C).Idx} : i ∈ slotSet R C d ↔ (show Fin 8 from i 0) = d := by
  unfold slotSet; rw [Finset.mem_filter]; exact ⟨fun h => h.2, fun h => ⟨Finset.mem_univ _, h⟩⟩

theorem slotSet_disjoint (d d' : Fin 8) (h : d ≠ d') : Disjoint (slotSet R C d) (slotSet R C d') :=
  Finset.disjoint_left.mpr fun _ hi hi' => h ((mem_slotSet.mp hi).symm.trans (mem_slotSet.mp hi'))

theorem slotSet_cover : Finset.univ.biUnion (slotSet R C) = Finset.univ := by
  ext i
  simp only [Finset.mem_biUnion, Finset.mem_univ, true_and, iff_true]
  exact ⟨_, mem_slotSet.mpr rfl⟩

/-- The element of block `d` at a block's index. -/
def inSlot (d : Fin 8) (x : (Block R C).Idx) : (Eight R C).Idx := ix3 d (x 0) (x 1)

/-- The block's index of an element. -/
def ofSlot (i : (Eight R C).Idx) : (Block R C).Idx := ix2 (i 1) (i 2)

theorem ofSlot_inSlot (d : Fin 8) (x : (Block R C).Idx) : ofSlot (inSlot d x) = x := by
  funext a; fin_cases a <;> rfl

theorem inSlot_ofSlot (i : (Eight R C).Idx) : inSlot (i 0) (ofSlot i) = i := by
  funext a; fin_cases a <;> rfl

theorem inSlot_mem (d : Fin 8) (x : (Block R C).Idx) : inSlot d x ∈ slotSet R C d := mem_slotSet.mpr rfl

/-- The view a kernel takes of block `d`. -/
abbrev slotView (v : View sig κ sp (Eight R C) e) (off : Fin 3 → ℕ) (inb : ∀ a, off a + (One R C).size a ≤ (Eight R C).size a)
    (h : (Block R C).numel = (One R C).numel) : View sig κ sp (Block R C) e :=
  (v.slice (Rect.unit (s := Eight R C) off (One R C).size inb)).reshape (Block R C) h

/-- It reaches block `d`'s elements, index by index. -/
theorem emb_slot (v : View sig κ sp (Eight R C) e) {off : Fin 3 → ℕ} (inb) (h) (d : Fin 8) (ho : off = ![d.val, 0, 0]) (x : (Block R C).Idx) :
    (slotView v off inb h).emb x = v.emb (inSlot d x) := by
  subst ho
  show v.emb _ = _
  refine congrArg v.emb ?_
  show (Rect.unit (s := Eight R C) _ _ _).emb (Shape.reshapeEquiv h x) = _
  have hx : x = ix2 (show Fin R from x 0) (show Fin C from x 1) := by funext a; fin_cases a <;> rfl
  rw [hx, reshapeEquiv_ix2_1ab h]
  funext a; apply Fin.ext
  fin_cases a
  · show d.val + 1 * 0 = d.val; omega
  · show 0 + 1 * (x 0).val = (x 0).val; omega
  · show 0 + 1 * (x 1).val = (x 1).val; omega

/-- Its elements are block `d`'s. -/
theorem set_slot (v : View sig κ sp (Eight R C) e) {off : Fin 3 → ℕ} (inb) (h) (d : Fin 8) (ho : off = ![d.val, 0, 0]) :
    (slotView v off inb h).set = (slotSet R C d).map v.emb := by
  ext i
  constructor
  · intro hi
    obtain ⟨x, -, rfl⟩ := Finset.mem_map.mp hi
    rw [emb_slot v inb h d ho x]
    exact Finset.mem_map_of_mem _ (inSlot_mem d x)
  · intro hi
    obtain ⟨y, hy, rfl⟩ := Finset.mem_map.mp hi
    have : v.emb y = (slotView v off inb h).emb (ofSlot y) := by
      rw [emb_slot v inb h d ho, ← mem_slotSet.mp hy]; exact congrArg v.emb (inSlot_ofSlot y).symm
    rw [this]; exact View.emb_mem_set _ _

end Cert.Proof

end
-- ==== Proof.AllGather.Common.lean ====
/-
  The all-gather: what its transfers move. Device `c` holds its block in `main_arg0` and sends it, under a share of it for
  each transfer, to slot `c` of each peer's `main_v1`; what is left of its share goes with the copy in place. So at the end
  slot `d` of every device's `main_v1` holds device `d`'s block (`res`).
-/
module

public import proofs.«01_k».proof.Proof.Peers
public import proofs.«01_k».proof.Proof.Slots
public import proofs.«01_k».proof.Proof.Gen.GatherIdeal.Launch
public import proofs.«01_k».proof.Proof.Gen.GatherIdeal.Skeleton
public import proofs.«01_k».proof.Proof.Gen.GatherIdeal.Points

@[expose] public section

noncomputable section

namespace Cert.Proof.AllGather

open Cert.GatherIdeal Cert.GatherIdeal.Gen
open Idealize.ShloMosaic
open Idealize.ShloMosaic.TcCoe Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable (m : (ℓ : Loc nD τ sig) → Buf (Elt F) ℓ)

/-! ## The counters -/

/-- The kernel's semaphores: seven of sends, seven of receives, one of the copy in place. -/
def osem : Kind → SemLoc sig
  | .inl (.inl k) => .dma ⟨k.val, by have := k.isLt; show k.val < 15; omega⟩
  | .inl (.inr k) => .dma ⟨7 + k.val, by have := k.isLt; show 7 + k.val < 15; omega⟩
  | .inr () => .dma ⟨14, by decide⟩

theorem osem_inj : Function.Injective osem := by decide

/-- The units a block counts for. -/
def units : ℕ := RefSig.tileCredit S1200x1024 .bf16

theorem units_pos : 0 < units := by decide

/-! ## The result -/

/-- What every device's `main_v1` ends holding: in slot `d`, device `d`'s block. -/
def res (c : Dev nD) : Buf (Elt F) ((c : Thread nD τ).loc main_v1) :=
  fun i => (m (((show Dev nD from (show S8x1200x1024.Idx from i) 0).tc : Thread nD τ).loc main_arg0) : S1200x1024.Idx → Elt F .bf16) (ofSlot (R := 1200) (C := 1024) i)

/-- Device `c`'s block, whole, at a share. -/
def src (c : Dev nD) (q : PosShare TreeShare) : sProp 𝕄 := iprop(((c : Thread nD τ).loc main_arg0) ↦{q} m ((c : Thread nD τ).loc main_arg0))

/-- Slot `d` of device `c`'s `main_v1`, at contents `f`. -/
def slot (c d : Dev nD) (f : Buf (Elt F) ((c : Thread nD τ).loc main_v1)) : sProp 𝕄 :=
  iprop(((c : Thread nD τ).loc main_v1) ↦[slotSet 1200 1024 d]{fullShare} f)

/-- What the units of each counter hand over: a send's, the share of the block lent to it; a receive's, the peer's slot with
    the peer's block; the copy in place's, the device's own slot and the rest of its share. -/
def pay : Kind → Dev nD → sProp 𝕄
  | .inl (.inl k), c => src m c (shareTok fullShare 7 k)
  | .inl (.inr k), c => slot c (peer k c) (res m c)
  | .inr (), c => iprop(slot c c (res m c) ∗ src m c (shareDrop fullShare 7))

/-- The all-gather's exchange. -/
def X : Exchange nD τ sig (Elt F) where
  peer := peer
  peer_peer := peer_peer
  osem := osem
  inj := osem_inj
  units := units
  units_pos := units_pos
  pay := pay m
  storable κ c := by
    rcases κ with (k | k) | ⟨⟩ <;> simp only [pay, src, slot] <;> infer_instance

/-! ## The block, the slot and what lands -/

/-- The memref the kernel reaches slot `c` by. -/
abbrev slotM (c : Dev nD) : Memref sig .tc .hbm S1200x1024 .bf16 :=
  (((Memref.whole main_v1).slice (Rect.unit (s := S8x1200x1024) (k0_off1 c) S1x1200x1024.size (k0_off1_inb c)) (fun _ => rfl)).squeeze
    S1200x1024 squeezes_S1x1200x1024_S1200x1024 : Memref sig .tc .hbm S1200x1024 .bf16)

/-- The block's. -/
abbrev srcM : Memref sig .tc .hbm S1200x1024 .bf16 := Memref.whole main_arg0

theorem off_eq : ∀ c : Dev nD, k0_off1 c = ![c.val, 0, 0] := by decide +kernel

theorem slotM_set (c : Dev nD) : (slotM c).view.set = slotSet 1200 1024 c :=
  (set_slot (View.whole main_v1) (k0_off1_inb c) _ c (off_eq c)).trans Finset.map_refl

/-- What lands in slot `c` of a device: device `c`'s block, as `res` has it there. -/
theorem landed (c n : Dev nD) (fd : Buf (Elt F) ((slotM c).view.loc (n : Thread nD τ))) :
    ((slotM c).view.loc (n : Thread nD τ) ↦[(slotM c).view.set]{fullShare}
        ((slotM c).view.write (Elt F) fd ((srcM.view : View sig .tc _ _ _).read (Elt F) (m ((c : Thread nD τ).loc main_arg0))) Finset.univ) : sProp 𝕄)
      = slot n c (res m n) := by
  unfold slot
  rw [← slotM_set c]
  refine pointsTo_congr fun i hi => ?_
  obtain ⟨x, rfl⟩ := View.exists_emb_of_mem_set (slotM c).view hi
  rw [View.write_emb_of_mem _ _ (Finset.mem_univ x)]
  have he : (slotM c).view.emb x = inSlot c x := emb_slot (View.whole main_v1) (k0_off1_inb c) _ c (off_eq c) x
  rw [he]
  show m ((c : Thread nD τ).loc main_arg0) x = m ((c : Thread nD τ).loc main_arg0) (ofSlot (inSlot c x))
  rw [ofSlot_inSlot]

theorem src_eq (c : Dev nD) (q : PosShare TreeShare) :
    (srcM.view.loc (c : Thread nD τ) ↦[(srcM.view : View sig .tc _ _ _).set]{q} m ((c : Thread nD τ).loc main_arg0) : sProp 𝕄) = src m c q := by
  unfold src; rw [View.set_whole]

/-- The array of slots, whole. -/
theorem slots_eq (c : Dev nD) (f : Buf (Elt F) ((c : Thread nD τ).loc main_v1)) :
    (((c : Thread nD τ).loc main_v1) ↦{fullShare} f : sProp 𝕄) = iprop(slot c c f ∗ bigSep Finset.univ fun k => slot c (peer k c) f) := by
  rw [pointsTo_blocks (ℓ := (c : Thread nD τ).loc main_v1) (slotSet 1200 1024) slotSet_disjoint slotSet_cover f]
  exact bigSep_peers c fun d => slot c d f

end Cert.Proof.AllGather

end
-- ==== Proof.AllGather.Body.lean ====
/-
  The all-gather's body on one device: the copy in place and the seven transfers start; then the waits, a transfer's send
  and then its receive, and last the copy in place. Each start uses what the deal at launch gave the device; each wait
  brings back what its counter's units hand over.
-/
module

public import proofs.«01_k».proof.Proof.AllGather.Common

@[expose] public section

noncomputable section

namespace Cert.Proof.AllGather

open Cert.GatherIdeal Cert.GatherIdeal.Gen
open Idealize.ShloMosaic
open Idealize.ShloMosaic.TcCoe Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

variable (m : (ℓ : Loc nD τ sig) → Buf (Elt F) ℓ) (K : GSem nD τ sig → ℕ)

/-- The kernel calls no variant of anything. -/
abbrev 𝒱₀ : Variants := Variants.none

/-! ## The addressed devices are the peers -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel

/-! ## What the body takes and returns -/

/-- What device `c` needs for transfer `k`: a share of its block, the peer's slot, and the tokens of the two duties. -/
def loan (k : Fin 7) (c : Dev nD) : sProp 𝕄 :=
  iprop(src m c (shareTok fullShare 7 k) ∗ (∃ fd, slot (peer k c) c fd)
    ∗ dutyTok ER ((X m).cell c (.send k)) 0 () ∗ dutyTok ER ((X m).cell (peer k c) (.recv k)) 0 ())

/-- And for the copy in place. -/
def loanHere (c : Dev nD) : sProp 𝕄 :=
  iprop(src m c (shareDrop fullShare 7) ∗ (∃ fd, slot c c fd) ∗ dutyTok ER ((X m).cell c .here) 0 ())

/-- What the body starts with: the records, the loans, the units it is owed, its place at each counter. -/
def bodyIn (c : Dev nD) : sProp 𝕄 :=
  iprop((X m).records K ∗ (bigSep Finset.univ fun k => loan m k c) ∗ loanHere m c
    ∗ (bigSep Finset.univ fun k => cred (tallyAt ((X m).cell c (.recv k)) () units))
    ∗ bigSep Finset.univ fun κ => atPos ER ((X m).cell c κ) 0 ∅ 0)

/-- What it ends with: each counter's payload, and the counter at zero. -/
def bodyOut (c : Dev nD) : sProp 𝕄 := bigSep Finset.univ fun κ => iprop((X m).pay κ c ∗ semVal ((X m).cell c κ) 0)

/-! ## The steps -/

omit [FloatOps F] in
theorem back (k : Fin 7) (c : Dev nD) : slot (peer k c) c (res m (peer k c)) = pay m (.recv k) (peer k c) := by
  show _ = slot (peer k c) (peer k (peer k c)) _
  rw [peer_peer]

theorem amount_slot (c n : Dev nD) (k : Fin 7) :
    (slotM c : Memref sig (Dev.tc n : Thread nD τ).2.kind .hbm S1200x1024 .bf16).view.amount (osem (.recv k)) = units := rfl

theorem amount_here (c : Dev nD) :
    (slotM c : Memref sig (Dev.tc c : Thread nD τ).2.kind .hbm S1200x1024 .bf16).view.amount (osem .here) = units := rfl

theorem routes_all (c n : Dev nD) : τ.routes (c : Thread nD τ) (n : Thread nD τ) = true := by routes

theorem srcM_pay (k : Fin 7) (c : Dev nD) : (srcM.view.loc (c : Thread nD τ) ↦[(srcM.view : View sig .tc _ _ _).set]{shareTok fullShare 7 k} m ((c : Thread nD τ).loc main_arg0) : sProp 𝕄) ⊢ (X m).pay (.send k) c :=
  Entails.of_eq (src_eq m c _)

theorem slotM_pay (k : Fin 7) (c : Dev nD) (fd : Buf (Elt F) ((slotM c).view.loc (peer k c : Thread nD τ))) :
    ((slotM c).view.loc (peer k c : Thread nD τ) ↦[(slotM c).view.set]{fullShare}
        ((slotM c).view.write (Elt F) fd ((srcM.view : View sig .tc _ _ _).read (Elt F) (m ((c : Thread nD τ).loc main_arg0))) Finset.univ) : sProp 𝕄)
      ⊢ (X m).pay (.recv k) (peer k c) :=
  Entails.of_eq ((landed m c (peer k c) fd).trans (back m k c))

/-- Transfer `k`, from its loan. -/
theorem wp_send {α : Type} {Q : α → sProp 𝕄} (k : Fin 7) (c n : Dev nD) (hn : n = peer k c)
    {hsc : (slotM c : Memref sig (Dev.tc n : Thread nD τ).2.kind .hbm S1200x1024 .bf16).view.ref.isScScratch = false}
    {sS sR : SemLoc sig} (hS : sS = osem (.send k)) (hR : sR = osem (.recv k))
    {hsrc : (srcM.view : View sig .tc _ _ _).WordExact} {hdst : (slotM c).view.WordExact}
    {hsem : DmaTarget.Typed .hbm sR (.remote (Dev.tc n : Thread nD τ) (slotM c) sS hsc)}
    {kk : PUnit → Prog (TpuEff nD τ sig (Elt F) Λ₀ .tc) α} {W : Waits sig Unit} :
    iprop((X m).records K ∗ loan m k c ∗ owes (c : Thread nD τ) ((X m).owed c k.val) W)
      ⊢ iprop(((cred (tallyAt ((X m).cell c (.send k)) () units) ∗ owes (c : Thread nD τ) ((X m).owed c (k.val + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma srcM (.remote (Dev.tc n : Thread nD τ) (slotM c) sS hsc) sR hsrc hdst hsem) kk) Q) := by
  subst hS hR hn
  unfold loan slot
  have h := fun fd => (X m).wp_transfer (src := srcM) (dst := slotM c) (Q := Q) (kk := kk) (defs := defs₀ (F := F)) (hsc := hsc) (hsem := hsem) (hsrc := hsrc) (hdst := hdst) (W := W) (q := shareTok fullShare 7 k) 𝒱₀ K k c (peer k c) rfl rfl rfl
    (m ((c : Thread nD τ).loc main_arg0)) fd (amount_slot c (peer k c) k) (srcM_pay m k c) (slotM_pay m k c fd) (routes_all c (peer k c))
  iintro ⟨#HR, ⟨Hs, ⟨%fd, Hd⟩, Ht₁, Ht₂⟩, HO⟩
  have h' := h fd
  rw [slotM_set, src_eq] at h'
  iapply h'
  isplitr; · iexact HR
  isplitr [HO]
  · isplitl [Hs]; · iexact Hs
    isplitl [Hd]; · iexact Hd
    isplitl [Ht₁]; · iexact Ht₁
    iexact Ht₂
  iexact HO

theorem here_pay (c : Dev nD) (fd : Buf (Elt F) ((slotM c).view.loc (c : Thread nD τ))) :
    iprop(((slotM c).view.loc (c : Thread nD τ) ↦[(slotM c).view.set]{fullShare}
        ((slotM c).view.write (Elt F) fd ((srcM.view : View sig .tc _ _ _).read (Elt F) (m ((c : Thread nD τ).loc main_arg0))) Finset.univ))
      ∗ (srcM.view.loc (c : Thread nD τ) ↦[(srcM.view : View sig .tc _ _ _).set]{shareDrop fullShare 7} m ((c : Thread nD τ).loc main_arg0)) : sProp 𝕄)
      ⊢ (X m).pay .here c :=
  Entails.of_eq (congrArg₂ BIBase.sep (landed m c c fd) (src_eq m c _))

/-- The copy in place, from its loan. -/
theorem wp_local {α : Type} {Q : α → sProp 𝕄} (c : Dev nD) {sH : SemLoc sig} (hH : sH = osem .here)
    {hsrc : (srcM.view : View sig .tc _ _ _).WordExact} {hdst : (slotM c).view.WordExact}
    {hsem : DmaTarget.Typed (nD := nD) .hbm sH (.here (nD := nD) (τ := τ) (p := (Dev.tc c : Thread nD τ).2) (slotM c))}
    {kk : PUnit → Prog (TpuEff nD τ sig (Elt F) Λ₀ .tc) α} :
    iprop((X m).records K ∗ loanHere m c)
      ⊢ iprop((cred (tallyAt ((X m).cell c .here) () units) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma srcM (.here (nD := nD) (τ := τ) (p := (Dev.tc c : Thread nD τ).2) (slotM c)) sH hsrc hdst hsem) kk) Q) := by
  subst hH
  unfold loanHere
  have h := fun fd => (X m).wp_copy_here (src := srcM) (dst := slotM c) (Q := Q) (kk := kk) (defs := defs₀ (F := F)) (hsem := hsem)
    (hsrc := hsrc) (hdst := hdst) (q := shareDrop fullShare 7) 𝒱₀ K c rfl (m ((c : Thread nD τ).loc main_arg0)) fd (amount_here c)
    (here_pay m c fd)
  iintro ⟨#HR, Hs, ⟨%fd, Hd⟩, Ht⟩
  have h' := h fd
  rw [slotM_set, src_eq] at h'
  unfold slot
  iapply h'
  isplitr; · iexact HR
  isplitl [Hs]; · iexact Hs
  isplitl [Hd]; · iexact Hd
  iexact Ht

/-! ## The body -/

set_option maxHeartbeats 4000000 in
/-- The body, from what it starts with to what it ends with, the device's debts paid. -/
theorem body_run (c : Dev nD) (W : Waits sig Unit) (Kt : PUnit → sProp 𝕄) :
    iprop((bodyIn m K c ∗ owes (c : Thread nD τ) ((X m).debts c) W)
        ∗ ((bodyOut m c ∗ ∃ W', owes (c : Thread nD τ) (0 : CellTallies nD τ sig Unit) W') -∗ Kt ⟨⟩))
      ⊢ wp frame (wpE (defs₀ (F := F)) 𝒱₀ (c : Thread nD τ) none) Set.univ
          (cc0_all_gather (Memref.whole main_arg0) (Memref.isWhole_whole _) (Memref.whole main_v1) (Memref.isWhole_whole _)
            cc0_scratch0 cc0_scratch1 cc0_scratch2) Kt := by
  simp only [cc0_all_gather_eq_skeleton]; unfold cc0_all_gather_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyIn
  rw [bigSep_seven, bigSep_seven, bigSep_kinds, bigSep_seven, bigSep_seven]
  iintro ⟨⟨⟨#HR, ⟨Hl0, Hl1, Hl2, Hl3, Hl4, Hl5, Hl6⟩, Hlh, ⟨Hr0, Hr1, Hr2, Hr3, Hr4, Hr5, Hr6⟩, ⟨⟨Hsa0, Hsa1, Hsa2, Hsa3, Hsa4, Hsa5, Hsa6⟩, ⟨Hra0, Hra1, Hra2, Hra3, Hra4, Hra5, Hra6⟩⟩, Hha⟩, HO⟩, Hk⟩
  iapply (wp_local m K c rfl) $$ [Hlh]
  · isplitr; · iexact HR
    iexact Hlh
  iintro Hch
  iapply (wp_send m K 0 c _ (dev1_eq c) rfl rfl) $$ [Hl0 HO]
  · isplitr; · iexact HR
    isplitl [Hl0]; · iexact Hl0
    iexact HO
  iintro ⟨Hs0, HO⟩
  iapply (wp_send m K 1 c _ (dev2_eq c) rfl rfl) $$ [Hl1 HO]
  · isplitr; · iexact HR
    isplitl [Hl1]; · iexact Hl1
    iexact HO
  iintro ⟨Hs1, HO⟩
  iapply (wp_send m K 2 c _ (dev3_eq c) rfl rfl) $$ [Hl2 HO]
  · isplitr; · iexact HR
    isplitl [Hl2]; · iexact Hl2
    iexact HO
  iintro ⟨Hs2, HO⟩
  iapply (wp_send m K 3 c _ (dev4_eq c) rfl rfl) $$ [Hl3 HO]
  · isplitr; · iexact HR
    isplitl [Hl3]; · iexact Hl3
    iexact HO
  iintro ⟨Hs3, HO⟩
  iapply (wp_send m K 4 c _ (dev5_eq c) rfl rfl) $$ [Hl4 HO]
  · isplitr; · iexact HR
    isplitl [Hl4]; · iexact Hl4
    iexact HO
  iintro ⟨Hs4, HO⟩
  iapply (wp_send m K 5 c _ (dev6_eq c) rfl rfl) $$ [Hl5 HO]
  · isplitr; · iexact HR
    isplitl [Hl5]; · iexact Hl5
    iexact HO
  iintro ⟨Hs5, HO⟩
  iapply (wp_send m K 6 c _ (dev7_eq c) rfl rfl) $$ [Hl6 HO]
  · isplitr; · iexact HR
    isplitl [Hl6]; · iexact Hl6
    iexact HO
  iintro ⟨Hs6, HO⟩
  rw [show (X m).owed c ((6 : Fin 7).val + 1) = 0 from (X m).owed_last c]
  iapply ((X m).wp_await 𝒱₀ K c (.send 0) rfl (wpE_waitDma2_eq 𝒱₀ (c : Thread nD τ) none Set.univ) rfl) $$ [Hs0 Hsa0 HO]
  · isplitr; · iexact HR
    isplitl [Hs0]; · iexact Hs0
    isplitl [Hsa0]; · iexact Hsa0
    iexact HO
  iintro ⟨Hsp0, Hsz0, HO⟩
  iapply ((X m).wp_await 𝒱₀ K c (.recv 0) rfl (wpE_waitDma2_eq 𝒱₀ (c : Thread nD τ) none Set.univ) rfl) $$ [Hr0 Hra0 HO]
  · isplitr; · iexact HR
    isplitl [Hr0]; · iexact Hr0
    isplitl [Hra0]; · iexact Hra0
    iexact HO
  iintro ⟨Hrp0, Hrz0, HO⟩
  iapply ((X m).wp_await 𝒱₀ K c (.send 1) rfl (wpE_waitDma2_eq 𝒱₀ (c : Thread nD τ) none Set.univ) rfl) $$ [Hs1 Hsa1 HO]
  · isplitr; · iexact HR
    isplitl [Hs1]; · iexact Hs1
    isplitl [Hsa1]; · iexact Hsa1
    iexact HO
  iintro ⟨Hsp1, Hsz1, HO⟩
  iapply ((X m).wp_await 𝒱₀ K c (.recv 1) rfl (wpE_waitDma2_eq 𝒱₀ (c : Thread nD τ) none Set.univ) rfl) $$ [Hr1 Hra1 HO]
  · isplitr; · iexact HR
    isplitl [Hr1]; · iexact Hr1
    isplitl [Hra1]; · iexact Hra1
    iexact HO
  iintro ⟨Hrp1, Hrz1, HO⟩
  iapply ((X m).wp_await 𝒱₀ K c (.send 2) rfl (wpE_waitDma2_eq 𝒱₀ (c : Thread nD τ) none Set.univ) rfl) $$ [Hs2 Hsa2 HO]
  · isplitr; · iexact HR
    isplitl [Hs2]; · iexact Hs2
    isplitl [Hsa2]; · iexact Hsa2
    iexact HO
  iintro ⟨Hsp2, Hsz2, HO⟩
  iapply ((X m).wp_await 𝒱₀ K c (.recv 2) rfl (wpE_waitDma2_eq 𝒱₀ (c : Thread nD τ) none Set.univ) rfl) $$ [Hr2 Hra2 HO]
  · isplitr; · iexact HR
    isplitl [Hr2]; · iexact Hr2
    isplitl [Hra2]; · iexact Hra2
    iexact HO
  iintro ⟨Hrp2, Hrz2, HO⟩
  iapply ((X m).wp_await 𝒱₀ K c (.send 3) rfl (wpE_waitDma2_eq 𝒱₀ (c : Thread nD τ) none Set.univ) rfl) $$ [Hs3 Hsa3 HO]
  · isplitr; · iexact HR
    isplitl [Hs3]; · iexact Hs3
    isplitl [Hsa3]; · iexact Hsa3
    iexact HO
  iintro ⟨Hsp3, Hsz3, HO⟩
  iapply ((X m).wp_await 𝒱₀ K c (.recv 3) rfl (wpE_waitDma2_eq 𝒱₀ (c : Thread nD τ) none Set.univ) rfl) $$ [Hr3 Hra3 HO]
  · isplitr; · iexact HR
    isplitl [Hr3]; · iexact Hr3
    isplitl [Hra3]; · iexact Hra3
    iexact HO
  iintro ⟨Hrp3, Hrz3, HO⟩
  iapply ((X m).wp_await 𝒱₀ K c (.send 4) rfl (wpE_waitDma2_eq 𝒱₀ (c : Thread nD τ) none Set.univ) rfl) $$ [Hs4 Hsa4 HO]
  · isplitr; · iexact HR
    isplitl [Hs4]; · iexact Hs4
    isplitl [Hsa4]; · iexact Hsa4
    iexact HO
  iintro ⟨Hsp4, Hsz4, HO⟩
  iapply ((X m).wp_await 𝒱₀ K c (.recv 4) rfl (wpE_waitDma2_eq 𝒱₀ (c : Thread nD τ) none Set.univ) rfl) $$ [Hr4 Hra4 HO]
  · isplitr; · iexact HR
    isplitl [Hr4]; · iexact Hr4
    isplitl [Hra4]; · iexact Hra4
    iexact HO
  iintro ⟨Hrp4, Hrz4, HO⟩
  iapply ((X m).wp_await 𝒱₀ K c (.send 5) rfl (wpE_waitDma2_eq 𝒱₀ (c : Thread nD τ) none Set.univ) rfl) $$ [Hs5 Hsa5 HO]
  · isplitr; · iexact HR
    isplitl [Hs5]; · iexact Hs5
    isplitl [Hsa5]; · iexact Hsa5
    iexact HO
  iintro ⟨Hsp5, Hsz5, HO⟩
  iapply ((X m).wp_await 𝒱₀ K c (.recv 5) rfl (wpE_waitDma2_eq 𝒱₀ (c : Thread nD τ) none Set.univ) rfl) $$ [Hr5 Hra5 HO]
  · isplitr; · iexact HR
    isplitl [Hr5]; · iexact Hr5
    isplitl [Hra5]; · iexact Hra5
    iexact HO
  iintro ⟨Hrp5, Hrz5, HO⟩
  iapply ((X m).wp_await 𝒱₀ K c (.send 6) rfl (wpE_waitDma2_eq 𝒱₀ (c : Thread nD τ) none Set.univ) rfl) $$ [Hs6 Hsa6 HO]
  · isplitr; · iexact HR
    isplitl [Hs6]; · iexact Hs6
    isplitl [Hsa6]; · iexact Hsa6
    iexact HO
  iintro ⟨Hsp6, Hsz6, HO⟩
  iapply ((X m).wp_await 𝒱₀ K c (.recv 6) rfl (wpE_waitDma2_eq 𝒱₀ (c : Thread nD τ) none Set.univ) rfl) $$ [Hr6 Hra6 HO]
  · isplitr; · iexact HR
    isplitl [Hr6]; · iexact Hr6
    isplitl [Hra6]; · iexact Hra6
    iexact HO
  iintro ⟨Hrp6, Hrz6, HO⟩
  iapply ((X m).wp_await 𝒱₀ K c .here rfl (wpE_waitDma2_eq 𝒱₀ (c : Thread nD τ) none Set.univ) rfl) $$ [Hch Hha HO]
  · isplitr; · iexact HR
    isplitl [Hch]; · iexact Hch
    isplitl [Hha]; · iexact Hha
    iexact HO
  iintro ⟨Hhp, Hhz, HO⟩
  rw [wp_ret]; imodintro
  iapply Hk
  isplitr [HO]
  · unfold bodyOut
    rw [bigSep_kinds, bigSep_seven, bigSep_seven]
    isplitr [Hhp Hhz]
    · isplitr [Hrp0 Hrz0 Hrp1 Hrz1 Hrp2 Hrz2 Hrp3 Hrz3 Hrp4 Hrz4 Hrp5 Hrz5 Hrp6 Hrz6]
      · isplitl [Hsp0 Hsz0]
        · isplitl [Hsp0]
          · iexact Hsp0
          iexact Hsz0
        isplitl [Hsp1 Hsz1]
        · isplitl [Hsp1]
          · iexact Hsp1
          iexact Hsz1
        isplitl [Hsp2 Hsz2]
        · isplitl [Hsp2]
          · iexact Hsp2
          iexact Hsz2
        isplitl [Hsp3 Hsz3]
        · isplitl [Hsp3]
          · iexact Hsp3
          iexact Hsz3
        isplitl [Hsp4 Hsz4]
        · isplitl [Hsp4]
          · iexact Hsp4
          iexact Hsz4
        isplitl [Hsp5 Hsz5]
        · isplitl [Hsp5]
          · iexact Hsp5
          iexact Hsz5
        isplitl [Hsp6]
        · iexact Hsp6
        iexact Hsz6
      · isplitl [Hrp0 Hrz0]
        · isplitl [Hrp0]
          · iexact Hrp0
          iexact Hrz0
        isplitl [Hrp1 Hrz1]
        · isplitl [Hrp1]
          · iexact Hrp1
          iexact Hrz1
        isplitl [Hrp2 Hrz2]
        · isplitl [Hrp2]
          · iexact Hrp2
          iexact Hrz2
        isplitl [Hrp3 Hrz3]
        · isplitl [Hrp3]
          · iexact Hrp3
          iexact Hrz3
        isplitl [Hrp4 Hrz4]
        · isplitl [Hrp4]
          · iexact Hrp4
          iexact Hrz4
        isplitl [Hrp5 Hrz5]
        · isplitl [Hrp5]
          · iexact Hrp5
          iexact Hrz5
        isplitl [Hrp6]
        · iexact Hrp6
        iexact Hrz6
    · isplitl [Hhp]
      · iexact Hhp
      iexact Hhz
  · iexists _; iexact HO

end Cert.Proof.AllGather

end
-- ==== Proof.Launch.lean ====
/-
  A launch theorem for a program whose cores hand each other ownership at launch: the certificate receives, all devices
  at once, every core's region boundary, its unscoped buffers at their launch contents, its unscoped semaphores, what it
  owes and the credit for what it is owed, and the level facts; from them it makes a state of each core (`hinit`), runs
  each core's program from its state (`hrun`), and reads the final memory off the states the runs leave (`hfin`).
-/
module

public import Idealize.ShloMosaic.Lib.Pipeline.Regions
public import Idealize.ShloMosaic.Lib.Tactic

@[expose] public section

noncomputable section

namespace Cert.Proof

open Idealize.ShloMosaic Idealize.ShloMosaic.Pipeline
open Idealize.SL
open Idealize.SL.BI (sProp bigSep bigSep_sep' bigSep_insert bigSep_mono bigSep_congr bigSep_univ_prod bigSep_erase)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Ix : Type} [DecidableEq Ix] {Name : Type} [DecidableEq Name] {U : Type} [URA U] {Lvl : Type}
variable {Λ : Labels}

local notation "𝕄" => MT nD τ sig Ix Val Name U Lvl

/-- The level facts of every TensorCore cell, from the cores' launch holdings, when no other thread has a level. -/
theorem levels_assigned [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hcore : ∀ (d : Dev nD) (p : Proc τ), p ≠ .tc → (coreLevAts ((d, p) : Thread nD τ) L lv : sProp 𝕄) = BI.emp := by
    intro d p hp
    unfold coreLevAts
    rw [bigSep_congr (Ψ := fun _ : SemLoc sig => (BI.emp : sProp 𝕄)) fun sm _ => by
      rw [hL (((d, p) : Thread nD τ), sm) hp, BI.bigSep_empty], BI.bigSep_emp_const]
  have hrest : (bigSep Finset.univ fun d : Dev nD =>
      bigSep (Finset.univ.erase Proc.tc) fun p => (coreLevAts ((d, p) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun p hp => hcore d p (Finset.ne_of_mem_erase hp),
        BI.bigSep_emp_const], BI.bigSep_emp_const]
  have hall : (levAts L lv : sProp 𝕄) = iprop((bigSep Finset.univ fun d : Dev nD => coreLevAts (d.tc : Thread nD τ) L lv)
      ∗ bigSep Finset.univ fun d : Dev nD => bigSep (Finset.univ.erase Proc.tc) fun p => coreLevAts ((d, p) : Thread nD τ) L lv) := by
    rw [show (levAts L lv : sProp 𝕄) = bigSep Finset.univ fun c : Thread nD τ => coreLevAts c L lv
      from (bigSep_univ_prod fun g : GSem nD τ sig => bigSep (L g) fun ι => levAt g ι (lv g ι)),
      bigSep_threads (fun c : Thread nD τ => coreLevAts c L lv)]
  have hdrop : (bigSep Finset.univ fun c : Dev nD =>
        iprop((bigSep Finset.univ fun sm : SemLoc sig => levels ((c.tc : Thread nD τ), sm) (L ((c.tc : Thread nD τ), sm)))
          ∗ coreLevAts (c.tc : Thread nD τ) L lv)) ⊢ (levAts L lv : sProp 𝕄) := by
    rw [hall, hrest, bigSep_sep']
    iintro ⟨-, H⟩
    isplitl [H]; · iexact H
    iempintro
  exact (bigSep_mono fun c _ => lev_assign_cells (c.tc : Thread nD τ) L lv).trans ((BI.bigSep_bupd _ _).trans (BI.bupd_mono hdrop))

/-- The launch: every weakly fair execution of `main` on every device terminates, and every final memory satisfies `Q`,
    when the devices' holdings at launch make the states `T` (`hinit`), each core runs from `T c` to its boundary and
    `Tₙ c` owing nothing (`hrun`), and the final memory as `Tₙ` shows it (`hfin`), with every counter of a scoped
    semaphore and of every other thread at zero, gives `Q` (`hQ`). -/
theorem launch_dealt [Preorder Lvl] [∀ e, Nonempty (Val e)] [Infinite Name]
    (defs : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix) (L : GSem nD τ sig → Finset Ix) (lv : GSem nD τ sig → Ix → Lvl)
    (hL : ∀ g : GSem nD τ sig, g.1.2 ≠ .tc → L g = ∅)
    (G : sProp 𝕄) (u₀ : U) (hu₀ : (ownU u₀ : sProp 𝕄) ⊢ |={Set.univ}=> G)
    (T Tₙ : Dev nD → sProp 𝕄)
    (hinit : iprop((bigSep Finset.univ fun c : Dev nD => iprop(boundary (c.tc : Thread nD τ)
          ∗ unscopedBufs c (fun b => m ((c.tc : Thread nD τ).loc b)) ∗ unscopedSems0 c
          ∗ owes (c.tc : Thread nD τ) (O₀ c) ∅ ∗ launchCred O₀ c)) ∗ levAts L lv ∗ G)
      ⊢ |={Set.univ}=> bigSep Finset.univ T)
    (hrun : ∀ c, T c ⊢ wp frame (wpE defs 𝒱 (c.tc : Thread nD τ) none) Set.univ (main c)
      (fun _ => iprop((Tₙ c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => T)
      (fun _ c => iprop(Tₙ c ∗ boundary (c.tc : Thread nD τ))) (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(boundary (c.tc : Thread nD τ)
              ∗ unscopedBufs c (fun b => m ((c.tc : Thread nD τ).loc b)) ∗ unscopedSems0 c
              ∗ owes (c.tc : Thread nD τ) (O₀ c) ∅ ∗ launchCred O₀ c))
            ∗ (bigSep Finset.univ fun c : Dev nD => levels0 (Ix := Ix) (Val := Val) (Name := Name) (U := U) (Lvl := Lvl) (τ := τ) (sig := sig) c) : sProp 𝕄) := by
      refine (bigSep_mono fun c _ => (coreInit_boundary_owing O₀ m g c).trans
        (show _ ⊢ iprop(iprop(boundary (c.tc : Thread nD τ)
              ∗ unscopedBufs c (fun b => m ((c.tc : Thread nD τ).loc b)) ∗ unscopedSems0 c
              ∗ owes (c.tc : Thread nD τ) (O₀ c) ∅ ∗ launchCred O₀ c) ∗ levels0 c) from by
          iintro ⟨Hb, Hub, Hus, HL, Hlv, -, Hcr⟩
          isplitr [Hlv]
          · isplitl [Hb]; · iexact Hb
            isplitl [Hub]; · iexact Hub
            isplitl [Hus]; · iexact Hus
            isplitl [HL] <;> iassumption
          · iexact Hlv)).trans ?_
      rw [bigSep_sep']
      exact BI.Entails.refl _
    iintro ⟨Hcores, Hu⟩
    ihave Hc := hcores $$ Hcores
    icases Hc with ⟨Hh, Hlv⟩
    imod (levels_assigned L lv hL) $$ Hlv with Hla
    imod hu₀ $$ Hu with HG
    imod hinit $$ [Hh Hla HG] with HT
    · isplitl [Hh]; · iexact Hh
      isplitl [Hla] <;> iassumption
    imodintro
    iexists ()
    isplitl [HT]; · iexact HT
    iempintro
  · refine (hrun c).trans (Entails.of_eq ?_)
    unfold post; simp only [liftTc_tc]
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Proof

end
-- ==== Proof.Region.lean ====
/-
  A program whose first call is an exchange. At launch the counters of the exchange leave the devices' region boundaries
  for the exchange's invariants (`launch_exchange`), together with what each device gives up to its peers; the call is then
  entered without them (`wp_exchange`) and leaves the whole boundary behind, its counters brought back at zero by the body.
  Both hold of any program that starts with such a call, whatever follows.
-/
module

public import proofs.«01_k».proof.Proof.Launch
public import proofs.«01_k».proof.Proof.Exchange

@[expose] public section

noncomputable section

namespace Cert.Proof

open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {nD : Nat} {τ : Topo} {sig : RefSig} {Val : EltTy → Type}
variable {Λ₀ : Labels} {P : Type} [Fintype P] [DecidableEq P]

local notation "𝕄" => MT nD τ sig Unit Val ℕ (UU nD τ sig) ℕ

variable (X : Exchange nD τ sig Val)
variable (pcs : P → PCfg sig Λ₀ Val) (a : (p : P) → (pcs p).Adm)
  (pdats : (p : P) → (c : Dev nD) → Dat τ Val Unit ℕ (UU nD τ sig) ℕ (pin pcs a p) c)
  (phinj : Function.Injective (cellOf (nD := nD) (τ := τ) (pin pcs a)))
  (defs₀ : Defs nD τ sig Val Λ₀) (𝒱₀ : Variants) (p : P)
  (ho : OwnSemFacts (pcs p).spec X.osem)

local notation "𝔻" => Pipeline.defs pcs defs₀
local notation "𝕍" => Variants.lift 𝒱₀

/-- A device's region boundary without the exchange's counters. -/
def boundaryBut (c : Dev nD) : sProp 𝕄 :=
  iprop(scopedBufs (c.tc : Thread nD τ) ∗ opIdle (c.tc : Thread nD τ) ∗ cellsSems0 (pin pcs a) p c ∗ idleSems0 (pin pcs a) phinj p ho c)

omit [DecidableEq P] in
/-- The boundary is that and the exchange's counters at zero. -/
theorem boundary_split (hw : WinFacts₀ (pcs p).spec) (c : Dev nD) :
    (boundary (c.tc : Thread nD τ) : sProp 𝕄)
      ⊢ iprop(boundaryBut X pcs a phinj p ho c ∗ bigSep Finset.univ fun κ => semVal (X.cell c κ) 0) := by
  have hss := scopedSems0_split (pin pcs a) phinj p (osem := X.osem) hw ho (Ix := Unit) (Val := Val) (Name := ℕ) (U := UU nD τ sig) (Lvl := ℕ) c
  unfold boundary boundaryBut
  rw [hss]
  iintro ⟨Hb, ⟨⟨Hc, Ho⟩, Hi⟩, Hid⟩
  isplitr [Ho]
  · isplitl [Hb]; · iexact Hb
    isplitl [Hid]; · iexact Hid
    isplitl [Hc]; · iexact Hc
    iexact Hi
  unfold ownSems0
  iexact Ho

include phinj ho in
/-- The call: entered from the boundary without the exchange's counters, from what enters the body's invariant and from
    what the library's pipeline needs; left with the whole boundary, the arrays, what the device then owes and what the
    body gives back. -/
theorem wp_exchange [∀ e, Nonempty (Val e)] (hw : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ) (c : Dev nD)
    {A B : sProp 𝕄}
    (hin : iprop(A ∗ prefHeld (pcs p).pre c (fun _ => fullShare) (a p).1 ∗ scopedRest (pin pcs a p).spec c) ⊢ (pdats p c).Φ 0)
    (hout : (pdats p c).Φ (Fin.last (pin pcs a p).N)
      ⊢ iprop(B ∗ (bigSep Finset.univ fun κ => semVal (X.cell c κ) 0) ∗ scopedRest (pin pcs a p).spec c))
    {α : Type} (k : PUnit → Prog (TpuEff nD τ sig Val (Sig Λ₀ P fun p => (pcs p).Adm) .tc) α) (Q : α → sProp 𝕄) :
    iprop((iprop(boundary (c.tc : Thread nD τ) ∗ (pdats p c).arrays ((pdats p c).arrAt · (pin pcs a p).N)
            ∗ (pdats p c).owesAt () (Fin.last (pin pcs a p).N) ∗ B) -∗ wp frame (wpE 𝔻 𝕍 (c.tc : Thread nD τ) none) Set.univ (k ⟨⟩) Q)
        ∗ boundaryBut X pcs a phinj p ho c ∗ (pdats p c).arrays ((pdats p c).arrAt · 0)
        ∗ prefHeld (pcs p).pre c (fun _ => fullShare) (a p).1 ∗ (pdats p c).owesAt () 0 ∗ A
        ∗ cellsWaits (pin pcs a) pdats () p c ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p (osem := X.osem) hw ho (Ix := Unit) (Val := Val) (Name := ℕ) (U := UU nD τ sig) (Lvl := ℕ) c
  have hsb := scopedBufs_split (pin pcs a) p hw.stage_scoped hw.stage_inj stage_whole (nD := nD) (τ := τ) (Ix := Unit) (Val := Val) (Name := ℕ) (U := UU nD τ sig) (Lvl := ℕ) c
  have hback : iprop((pdats p c).Φ (Fin.last (pin pcs a p).N) ∗ cellsSems0 (pin pcs a) p c ∗ Dat.staging (pin pcs a p) c ∗ idleSems0 (pin pcs a) phinj p ho c)
      ⊢ iprop(B ∗ scopedSems0 (c.tc : Thread nD τ) ∗ scopedBufs (c.tc : Thread nD τ)) := by
    rw [hss, hsb]
    unfold ownSems0
    iintro ⟨HΦ, Hc, Hst, Hi⟩
    ihave H := hout $$ HΦ
    icases H with ⟨HB, Ho, Hr⟩
    isplitl [HB]; · iexact HB
    isplitr [Hst Hr]
    · isplitr [Hi]
      · isplitl [Hc]; · iexact Hc
        iexact Ho
      iexact Hi
    isplitl [Hst]; · iexact Hst
    iexact Hr
  unfold boundaryBut
  iintro ⟨Hk, ⟨Hb, Hid, Hc, Hi⟩, Harr, Hpf, HO, HA, Hw, Hg, Ht⟩
  iapply (fupd_wp frame (wpE 𝔻 𝕍 (c.tc : Thread nD τ) none) Set.univ _ _)
  imod (cellsInit_alloc (pin pcs a) pdats EP phinj p c) $$ [Hc Hg] with ⟨%κ, -, Hinit⟩
  · isplitl [Hc] <;> iassumption
  imodintro
  iapply (wp_customCall_entry_frame pcs a pdats () EP κ phinj p defs₀ 𝒱₀ (fun _ => fullShare) c Set.univ (fun _ _ => Set.mem_univ _)
      (hbody c) block_pos none (fun u h => nomatch h) (X := A) (Y := B) (R := scopedRest (pin pcs a p).spec c)
      (I := idleSems0 (pin pcs a) phinj p ho c) (Entails.of_eq hsb) hin hback (k := k) (Q := Q)) $$ [Harr HO Hw Hinit Ht Hpf HA Hi Hb]
  · isplitr [Hpf HA Hi Hb]
    · unfold EntryPre PerCore.EntryPre
      isplitl [Harr]; · iexact Harr
      isplitl [HO]; · iexact HO
      isplitl [Hw]; · iexact Hw
      isplitl [Hinit] <;> iassumption
    isplitl [Hpf]; · iexact Hpf
    isplitl [HA]; · iexact HA
    isplitl [Hi]; · iexact Hi
    iexact Hb
  iintro ⟨Hpost, HB, Hs, Hb⟩
  unfold EntryPost PerCore.EntryPost
  icases Hpost with ⟨Ha, HO⟩
  iapply Hk
  isplitl [Hs Hb Hid]
  · unfold boundary
    isplitl [Hb]; · iexact Hb
    isplitl [Hs]; · iexact Hs
    iexact Hid
  isplitl [Ha]; · iexact Ha
  isplitl [HO]; · iexact HO
  iexact HB

/-- The launch of a program whose first call is the exchange: a device starts with the boundary without the exchange's
    counters, what it keeps of its buffers, what its peers gave up to it, its hand of the exchange, the units it is owed,
    its debts, the level facts and the pipelines' ghost state. -/
theorem launch_exchange [∀ e, Nonempty (Val e)] (hw : WinFacts₀ (pcs p).spec)
    (m : (ℓ : Loc nD τ sig) → Buf Val ℓ) (g : Dev nD → PrngReg)
    (main : Dev nD → Prog (TpuEff nD τ sig Val (Sig Λ₀ P fun p => (pcs p).Adm) .tc) PUnit)
    (Keep : Dev nD → sProp 𝕄) (Φ : Fin 7 → Dev nD → sProp 𝕄)
    (hkeep : ∀ c, unscopedBufs c (fun b => m ((c.tc : Thread nD τ).loc b)) ⊢ iprop(Keep c ∗ bigSep Finset.univ fun k => Φ k c))
    (Tₙ : Dev nD → sProp 𝕄)
    (hrun : ∀ c, iprop(boundaryBut X pcs a phinj p ho c ∗ Keep c ∗ (bigSep Finset.univ fun k => Φ k (X.peer k c))
          ∗ (∃ K, X.records K ∗ X.hand c) ∗ (bigSep Finset.univ fun k => cred (tallyAt (X.cell c (.recv k)) () X.units))
          ∗ owes (c.tc : Thread nD τ) (X.debts c) ∅ ∗ levAts Exchange.L Exchange.lv
          ∗ (bigSep Finset.univ fun p => cellsGhost (pin pcs a) EP p c) ∗ bigSep Finset.univ fun p => toksInit (pin pcs a) EP p c)
      ⊢ wp frame (wpE 𝔻 𝕍 (c.tc : Thread nD τ) none) Set.univ (main c)
          (fun _ => iprop((Tₙ c ∗ boundary (c.tc : Thread nD τ)) ∗ ∃ W, owes (c.tc : Thread nD τ) (0 : CellTallies nD τ sig Unit) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let G : sProp 𝕄 := iprop((bigSep Finset.univ fun c : Dev nD => bigSep Finset.univ fun p => cellsGhost (pin pcs a) EP p c)
      ∗ (bigSep Finset.univ fun c : Dev nD => bigSep Finset.univ fun p => toksInit (pin pcs a) EP p c) ∗ BI.own (ER X.seed))
  have hu : (ownU (Rounds.initOf (cells (pin pcs a) phinj) (launchToks (pin pcs a) phinj), X.seed) : sProp 𝕄) ⊢ |={Set.univ}=> G := by
    iintro Hu
    ihave H := (own_pair _ _) $$ Hu
    icases H with ⟨HP, HX⟩
    imod (fund_ghost (pin pcs a) EP phinj) $$ HP with ⟨Hg, Ht⟩
    imodintro
    isplitl [Hg]; · iexact Hg
    isplitl [Ht]; · iexact Ht
    iexact HX
  refine launch_dealt 𝔻 𝕍 m g main X.debts Exchange.L Exchange.lv Exchange.L_of_ne G _ hu _ Tₙ ?_ hrun QY hfin hQ
  have hdeal := X.deal (fun c => iprop(boundary (c.tc : Thread nD τ) ∗ unscopedBufs c (fun b => m ((c.tc : Thread nD τ).loc b))))
    (fun c => iprop(boundaryBut X pcs a phinj p ho c ∗ Keep c)) Φ (fun c => by
      iintro ⟨Hb, Hu⟩
      ihave Hb := (boundary_split X pcs a phinj p ho hw c) $$ Hb
      icases Hb with ⟨Hb, Hs⟩
      ihave Hu := (hkeep c) $$ Hu
      icases Hu with ⟨Hk, HΦ⟩
      isplitl [Hb Hk]; · isplitl [Hb] <;> iassumption
      isplitl [Hs] <;> iassumption)
  have hcred : (bigSep Finset.univ fun c : Dev nD => (launchCred X.debts c : sProp 𝕄))
      ⊢ bigSep Finset.univ fun c : Dev nD => bigSep Finset.univ fun k : Fin 7 => cred (tallyAt (X.cell c (.recv k)) () X.units) :=
    bigSep_mono fun c _ => X.credits c
  have hlev : (levAts Exchange.L Exchange.lv : sProp 𝕄) ⊢ bigSep Finset.univ fun _ : Dev nD => levAts Exchange.L Exchange.lv :=
    BI.bigSep_intro_persistent (S := Finset.univ) fun (c : Dev nD) _ => BI.Entails.refl _
  simp only [bigSep_sep'] at hdeal ⊢
  iintro ⟨⟨Hb, Hub, -, HO, Hcr⟩, Hla, Hg, Ht, Hse⟩
  imod hdeal $$ [Hb Hub Hse] with ⟨⟨Hb, Hk⟩, Hh, HΦ⟩
  · isplitr [Hse]; · isplitl [Hb] <;> iassumption
    iexact Hse
  ihave Hcr := hcred $$ Hcr
  ihave Hla := hlev $$ Hla
  imodintro
  isplitl [Hb]; · iexact Hb
  isplitl [Hk]; · iexact Hk
  isplitl [HΦ]; · iexact HΦ
  isplitl [Hh]; · iexact Hh
  isplitl [Hcr]; · iexact Hcr
  isplitl [HO]; · iexact HO
  isplitl [Hla]; · iexact Hla
  isplitl [Hg]; · iexact Hg
  iexact Ht

end Cert.Proof

end
-- ==== Proof.AllGather.Run.lean ====
/-
  The all-gather's run on the eight devices: the launch gives every device its block and its own slot, and the slots its
  peers gave up to it; the body runs; the shares of the block and the slots are put together again. For any float values,
  every device ends with its block unchanged, the eight blocks in its result, and every counter at zero (`run_main`).
-/
module

public import proofs.«01_k».proof.Proof.AllGather.Body
public import proofs.«01_k».proof.Proof.Region
public import Idealize.ShloMosaic.Lib.Quiescent

@[expose] public section

noncomputable section

namespace Cert.Proof.AllGather

open Cert.GatherIdeal Cert.GatherIdeal.Gen
open Idealize.ShloMosaic
open Idealize.ShloMosaic.TcCoe Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

variable (m : (ℓ : Loc nD τ sig) → Buf (Elt F) ℓ)

/-! ## The proof data of the call -/

/-- The body's invariant and debts, before and after its one point. -/
def dats (_ : Fin 1) (c : Dev nD) : Dat τ (Elt F) Unit ℕ (UU nD τ sig) ℕ cfg0 c where
  A w := w.elim0
  after w := w.elim0
  Φ t := match t with
    | ⟨0, _⟩ => iprop(∃ K, bodyIn m K c)
    | ⟨_ + 1, _⟩ => bodyOut m c
  q w := w.elim0
  owed t := match t with
    | ⟨0, _⟩ => (X m).debts c
    | ⟨_ + 1, _⟩ => 0

/-- A family over no window is nothing. -/
theorem bigSep_none (Φ : Fin cfg0.W → sProp 𝕄) : bigSep Finset.univ Φ = iprop(emp) := BI.bigSep_empty

/-- The body meets its obligation. -/
theorem body_obligation (c : Dev nD) : BodyObligation (dats (F := F) m 0 c) (defs₀ (F := F)) 𝒱₀ () Set.univ := fun t => by
  rw [fin_N0 t, bigSep_none, bigSep_none]
  show iprop((∃ K, bodyIn m K c) ∗ (dats m 0 c).owesAt () 0 ∗ emp) ⊢ wp frame (wpE (defs₀ (F := F)) 𝒱₀ (c : Thread nD τ) none) Set.univ
    (cc0_all_gather (Memref.whole main_arg0) (Memref.isWhole_whole _) (Memref.whole main_v1) (Memref.isWhole_whole _)
      cc0_scratch0 cc0_scratch1 cc0_scratch2) (fun _ => iprop(bodyOut m c ∗ (dats m 0 c).owesAt () (Fin.last _) ∗ emp))
  unfold Dat.owesAt Pipeline.owesWithin
  iintro ⟨⟨%K, Hin⟩, ⟨%W, -, HO⟩, -⟩
  iapply (body_run m K c W)
  isplitl [Hin HO]
  · isplitl [Hin]; · iexact Hin
    iexact HO
  iintro ⟨Hout, ⟨%W', HO⟩⟩
  isplitl [Hout]; · iexact Hout
  isplitl [HO]
  · iexists W'
    isplitr; · ipureintro; exact fun _ _ => Or.inl trivial
    iexact HO
  iempintro

/-! ## What a device keeps, gives up and ends with -/

/-- A device keeps its block and its own slot. -/
def Keep (c : Dev nD) : sProp 𝕄 := iprop(src m c fullShare ∗ slot c c (m ((c : Thread nD τ).loc main_v1)))

/-- It gives up its peers' slots, each to its peer. -/
def Give (k : Fin 7) (c : Dev nD) : sProp 𝕄 := slot c (peer k c) (m ((c : Thread nD τ).loc main_v1))

/-- It ends with its block and the gathered array. -/
def Fin' (c : Dev nD) : sProp 𝕄 := iprop(src m c fullShare ∗ (((c : Thread nD τ).loc main_v1) ↦{fullShare} res m c))

theorem keep_intro (c : Dev nD) :
    (unscopedBufs c (fun b => m ((c.tc : Thread nD τ).loc b)) : sProp 𝕄) ⊢ iprop(Keep m c ∗ bigSep Finset.univ fun k => Give m k c) := by
  rw [Pipeline.unscopedBufs_split (cfgs) 0 winFacts0.arr_unscoped winFacts0.arr_inj c, bigSep_none, unscopedRest0_eq, slots_eq c]
  unfold Keep Give src
  iintro ⟨-, Hs, Hh, Hp⟩
  isplitr [Hp]
  · isplitl [Hs]; · iexact Hs
    iexact Hh
  iexact Hp

/-- From what the launch leaves a device with to what its body starts with. -/
theorem bodyIn_intro (c : Dev nD) :
    iprop(Keep m c ∗ (bigSep Finset.univ fun k => Give m k (peer k c)) ∗ (∃ K, (X m).records K ∗ (X m).hand c)
      ∗ bigSep Finset.univ fun k => cred (tallyAt ((X m).cell c (.recv k)) () (X m).units)) ⊢ iprop(∃ K, bodyIn m K c) := by
  have hloan (k : Fin 7) : iprop(src m c (shareTok fullShare 7 k) ∗ Give m k (peer k c) ∗ dutyTok ER ((X m).cell c (.send k)) 0 ()
      ∗ dutyTok ER ((X m).cell ((X m).peer k c) (.recv k)) 0 ()) ⊢ loan m k c := by
    unfold loan Give
    rw [peer_peer]
    iintro ⟨Hs, Hg, Ht, Hr⟩
    isplitl [Hs]; · iexact Hs
    isplitl [Hg]; · iexists _; iexact Hg
    isplitl [Ht]; · iexact Ht
    iexact Hr
  have hloans : iprop((bigSep Finset.univ fun k => src m c (shareTok fullShare 7 k)) ∗ (bigSep Finset.univ fun k => Give m k (peer k c))
      ∗ (bigSep Finset.univ fun k => dutyTok ER ((X m).cell c (.send k)) 0 ())
      ∗ bigSep Finset.univ fun k => dutyTok ER ((X m).cell ((X m).peer k c) (.recv k)) 0 ()) ⊢ bigSep Finset.univ fun k => loan m k c := by
    rw [← bigSep_sep', ← bigSep_sep', ← bigSep_sep']
    exact bigSep_mono fun k _ => hloan k
  have hsrc : (src m c fullShare : sProp 𝕄) ⊢ iprop(src m c (shareDrop fullShare 7) ∗ bigSep Finset.univ fun k => src m c (shareTok fullShare 7 k)) :=
    pointsTo_toks_split fullShare 7
  unfold Keep Exchange.hand
  iintro ⟨⟨Hs, Hh⟩, Hg, ⟨%K, #HR, Ha, Hts, Htr, Hth⟩, Hc⟩
  ihave Hs := hsrc $$ Hs
  icases Hs with ⟨Hd, Hs⟩
  iexists K
  unfold bodyIn loanHere
  isplitr; · iexact HR
  isplitl [Hs Hg Hts Htr]
  · iapply hloans
    isplitl [Hs]; · iexact Hs
    isplitl [Hg]; · iexact Hg
    isplitl [Hts]; · iexact Hts
    iexact Htr
  isplitl [Hd Hh Hth]
  · isplitl [Hd]; · iexact Hd
    isplitl [Hh]; · iexists _; iexact Hh
    iexact Hth
  isplitl [Hc]; · iexact Hc
  iexact Ha

/-- From what the body ends with to the block, whole again, the gathered array, and the counters at zero. -/
theorem bodyOut_elim (c : Dev nD) :
    bodyOut m c ⊢ iprop(Fin' m c ∗ bigSep Finset.univ fun κ => semVal ((X m).cell c κ) 0) := by
  have hsrc : iprop(src m c (shareDrop fullShare 7) ∗ bigSep Finset.univ fun k => src m c (shareTok fullShare 7 k)) ⊢ (src m c fullShare : sProp 𝕄) :=
    pointsTo_toks_join fullShare 7
  unfold bodyOut
  rw [bigSep_sep', bigSep_kinds (fun κ => (X m).pay κ c)]
  show iprop((((bigSep Finset.univ fun k => src m c (shareTok fullShare 7 k)) ∗ bigSep Finset.univ fun k => slot c (peer k c) (res m c))
    ∗ slot c c (res m c) ∗ src m c (shareDrop fullShare 7)) ∗ bigSep Finset.univ fun κ => semVal ((X m).cell c κ) 0) ⊢ _
  unfold Fin'
  rw [slots_eq c]
  iintro ⟨⟨⟨Hs, Hp⟩, Hh, Hd⟩, Hz⟩
  isplitr [Hz]
  · isplitl [Hs Hd]
    · iapply hsrc
      isplitl [Hd]; · iexact Hd
      iexact Hs
    isplitl [Hh]; · iexact Hh
    iexact Hp
  iexact Hz

/-! ## The run -/

/-- The exchange's counters are the kernel's own. -/
theorem ownSemFacts₀ : Pipeline.OwnSemFacts cfg0.spec osem := by decide

theorem ownSemFacts : Pipeline.OwnSemFacts (pcfgs (F := F) 0).spec (X m).osem := ownSemFacts₀

/-- One device's run of the program. -/
theorem main_run (c : Dev nD) :
    iprop(boundaryBut (X m) pcfgs (fun p => (cfgs p).toPCfg_adm) cellOf_inj 0 (ownSemFacts m) c ∗ Keep m c ∗ (bigSep Finset.univ fun k => Give m k ((X m).peer k c))
        ∗ (∃ K, (X m).records K ∗ (X m).hand c) ∗ (bigSep Finset.univ fun k => cred (tallyAt ((X m).cell c (.recv k)) () (X m).units))
        ∗ owes (c.tc : Thread nD τ) ((X m).debts c) ∅ ∗ levAts Exchange.L Exchange.lv
        ∗ (bigSep Finset.univ fun p => Pipeline.cellsGhost (Pipeline.pin (pcfgs (F := F)) fun p => (cfgs p).toPCfg_adm) EP p c)
        ∗ bigSep Finset.univ fun p => Pipeline.toksInit (Pipeline.pin (pcfgs (F := F)) fun p => (cfgs p).toPCfg_adm) EP p c)
      ⊢ wp frame (wpE (defs (F := F)) (Variants.lift 𝒱₀) (c.tc : Thread nD τ) none) Set.univ (main c)
          (fun _ => iprop((Fin' m c ∗ boundary (c.tc : Thread nD τ)) ∗ ∃ W, owes (c.tc : Thread nD τ) (0 : CellTallies nD τ sig Unit) W)) := by
  have hcall := wp_exchange (X m) pcfgs (fun p => (cfgs p).toPCfg_adm) (dats m) cellOf_inj defs₀ 𝒱₀ 0 (ownSemFacts m) winFacts0.to₀ block_pos0 stage_whole0
    (fun c => (body_obligation m c).loose) c (A := iprop(∃ K, bodyIn m K c)) (B := Fin' m c)
    (by
      show _ ⊢ iprop(∃ K, bodyIn m K c)
      iintro ⟨H, -, -⟩
      iexact H)
    (by
      refine (bodyOut_elim m c).trans ?_
      rw [scopedRest0_eq c]
      iintro ⟨H, Hz⟩
      isplitl [H]; · iexact H
      isplitl [Hz]; · iexact Hz
      iempintro)
    (fun _ => .ret PUnit.unit) (fun _ => iprop((Fin' m c ∗ boundary (c.tc : Thread nD τ)) ∗ ∃ W, owes (c.tc : Thread nD τ) (0 : CellTallies nD τ sig Unit) W))
  have hpf : (Pipeline.prefHeld (pcfgs (F := F) 0).pre c (fun _ => fullShare) ((cfgs 0).toPCfg_adm).1 : sProp 𝕄) = iprop(emp) := BI.bigSep_empty
  have harr (t : ℕ) : (dats m 0 c).arrays ((dats m 0 c).arrAt · t) = iprop(emp) := BI.bigSep_empty
  have hw : Pipeline.cellsWaits (Pipeline.pin (pcfgs (F := F)) fun p => (cfgs p).toPCfg_adm) (dats m) () 0 c = iprop(emp) := BI.bigSep_empty
  have hone (Ψ : Fin 1 → sProp 𝕄) : bigSep Finset.univ Ψ = Ψ 0 := by
    rw [show (Finset.univ : Finset (Fin 1)) = {0} from rfl, BI.bigSep_singleton]
  rw [hone, hone, main_chain c]
  refine BIBase.Entails.trans ?_ hcall
  rw [hpf, hw]
  erw [harr]
  iintro ⟨Hb, Hk, Hg, Hh, Hc, HO, -, HG, HT⟩
  isplitr [Hb Hk Hg Hh Hc HO HG HT]
  · iintro ⟨Hb, -, HO, HF⟩
    rw [wp_ret]
    imodintro
    isplitl [HF Hb]
    · isplitl [HF]; · iexact HF
      iexact Hb
    unfold Dat.owesAt Pipeline.owesWithin
    icases HO with ⟨%W, -, HO⟩
    iexists W
    iexact HO
  isplitl [Hb]; · iexact Hb
  isplitr; · iempintro
  isplitr; · iempintro
  isplitl [HO]
  · unfold Dat.owesAt Pipeline.owesWithin
    iexists ∅
    isplitr; · ipureintro; rw [Finset.coe_empty]; exact Set.empty_subset _
    iexact HO
  isplitl [Hk Hg Hh Hc]
  · iapply (bodyIn_intro m c)
    isplitl [Hk]; · iexact Hk
    isplitl [Hg]; · iexact Hg
    isplitl [Hh]; · iexact Hh
    iexact Hc
  isplitr; · iempintro
  isplitl [HG]; · iexact HG
  iexact HT

/-- The program's run over any float values: on every device the block unchanged, the gathered array in the result, and
    every counter at zero. -/
theorem run_main (g : Dev nD → PrngReg) :
    θ_run (defs (F := F)) (onTc main) ⟨m, fun _ => 0, g⟩ (fun r =>
      (∀ c : Dev nD, r.2.mem ((Dev.tc c : Thread nD τ).loc main_arg0) = m ((Dev.tc c : Thread nD τ).loc main_arg0)
        ∧ r.2.mem ((Dev.tc c : Thread nD τ).loc main_v1) = res m c) ∧ r.2.sem = fun _ => 0) := by
  refine launch_exchange (X m) pcfgs (fun p => (cfgs p).toPCfg_adm) cellOf_inj defs₀ 𝒱₀ 0 (ownSemFacts m) winFacts0.to₀ m g main
    (Keep m) (Give m) (keep_intro m) (Fin' m) (main_run m)
    (fun c s => s.mem ((Dev.tc c : Thread nD τ).loc main_arg0) = m ((Dev.tc c : Thread nD τ).loc main_arg0)
      ∧ s.mem ((Dev.tc c : Thread nD τ).loc main_v1) = res m c) (fun c s' => ?_)
    (fun s h hs => ⟨fun c => h c, sem_eq_zero_of_scoped (by decide) hs⟩)
  unfold Fin' src
  iintro ⟨⟨Hs, Hr⟩, HSI⟩
  icombine HSI Hs gives %h₁
  icombine HSI Hr gives %h₂
  imodintro
  isplitr [HSI]
  · ipureintro
    exact ⟨funext fun i => h₁ i (Finset.mem_univ i), funext fun i => h₂ i (Finset.mem_univ i)⟩
  iexact HSI

end Cert.Proof.AllGather

end
-- ==== Proof.AllGather.Value.lean ====
/-
  The all-gather's claims. The gathered array is the whole array with its first axis cut in eight (`res_eq`), which is what
  the reference's one reshape makes of it: in exact arithmetic and bit for bit, for both only move what they are given.
-/
module

public import proofs.«01_k».proof.Defs
public import proofs.«01_k».proof.Proof.AllGather.Run
public import proofs.«01_k».proof.Proof.Gen.Gather
public import proofs.«01_k».proof.Proof.Gen.GatherReference.Run
public import proofs.«01_k».proof.Proof.Gen.GatherReferenceIdeal.Run

@[expose] public section

noncomputable section

namespace Cert.Proof.AllGather

open Cert.GatherIdeal
open Idealize.ShloMosaic Idealize.ShloMosaic.TcCoe Idealize.SL.Sem

/-! ## The gathered array -/

/-- The eight blocks of an array, stacked, are the array with its first axis cut in eight. -/
theorem stacked {α : Type} (v : (⟨2, ![9600, 1024]⟩ : Shape).Idx → α) (h : (⟨2, ![9600, 1024]⟩ : Shape).ShapeCasts (Eight 1200 1024))
    (i : (Eight 1200 1024).Idx) :
    Layout.block ⟨2, ![1200, 1024]⟩ ⟨2, ![9600, 1024]⟩ 0 8 (show Fin 8 from i 0) v (by decide) (ofSlot (R := 1200) (C := 1024) i) = shapeCast (Eight 1200 1024) v h i := by
  show v _ = v (Shape.reshapeEquiv h i)
  refine congrArg v (Shape.reshapeEquiv_eq_of_rowMajor h ?_).symm
  rw [Shape.rowMajor_val_two, Shape.rowMajor_val_three]
  rfl

variable {F : FTy → Type} [FloatOps F]

theorem res_eq (m : (ℓ : Loc nD τ sig) → Buf (Elt F) ℓ) (v : (⟨2, ![9600, 1024]⟩ : Shape).Idx → Elt F .bf16)
    (h : (⟨2, ![9600, 1024]⟩ : Shape).ShapeCasts (Eight 1200 1024))
    (hm : ∀ c : Dev nD, m ((Dev.tc c : Thread nD τ).loc main_arg0) = Layout.block ⟨2, ![1200, 1024]⟩ ⟨2, ![9600, 1024]⟩ 0 8 c v) (c : Dev nD) :
    res m c = shapeCast (Eight 1200 1024) v h := by
  funext i
  refine Eq.trans ?_ (stacked v h i)
  exact congrFun (hm _) _

/-! ## The claims -/

theorem frame_gather : Cert.quiescent_Gather (hGather := Cert.Gather.Gen.facts) := fun m g _ =>
  (θ_run Cert.GatherIdeal.defs _ _).mono (fun _ h => ⟨fun c => (h.1 c).1, h.2⟩) (run_main (F := Bits) m g)

theorem frame_gatherIdeal : Cert.quiescent_GatherIdeal (hGatherIdeal := Cert.GatherIdeal.Gen.facts) := fun m g _ =>
  (θ_run Cert.GatherIdeal.defs _ _).mono (fun _ h => ⟨fun c => (h.1 c).1, h.2⟩) (run_main (F := Ideal) m g)

theorem frame_gatherReferenceIdeal : Cert.quiescent_GatherReferenceIdeal (hGatherReferenceIdeal := Cert.GatherReferenceIdeal.Gen.facts) := fun m g _ =>
  (θ_run Cert.GatherReferenceIdeal.defs _ _).mono (fun r h => ⟨fun c => (h c).2, sem_eq_zero_of_no_sems (by decide) r.2⟩)
    (Cert.GatherReferenceIdeal.Value.run m g)

theorem frame_gatherReference : Cert.quiescent_GatherReference (hGatherReference := Cert.GatherReference.Gen.facts) := fun m g _ =>
  (θ_run Cert.GatherReference.defs _ _).mono (fun r h => ⟨fun c => (h c).2, sem_eq_zero_of_no_sems (by decide) r.2⟩)
    (Cert.GatherReference.Value.run m g)

theorem algebraic_gather : Cert.algebraic_GatherIdeal_GatherReferenceIdeal (hGatherIdeal := Cert.GatherIdeal.Gen.facts)
    (hGatherReferenceIdeal := Cert.GatherReferenceIdeal.Gen.facts) := fun m g m' g' _ hm =>
  ⟨_, (θ_run Cert.GatherIdeal.defs _ _).mono (fun _ h c => ⟨(h.1 c).2.trans (res_eq m _ _ hm c), (h.1 c).1⟩) (run_main (F := Ideal) m g),
    (θ_run Cert.GatherReferenceIdeal.defs _ _).mono (fun _ h => h 0) (Cert.GatherReferenceIdeal.Value.run m' g')⟩

theorem bitexact_gather : Cert.bitexact_Gather_GatherReference (hGather := Cert.Gather.Gen.facts)
    (hGatherReference := Cert.GatherReference.Gen.facts) := fun m g m' g' _ hm =>
  ⟨_, (θ_run Cert.GatherIdeal.defs _ _).mono (fun _ h c => ⟨(h.1 c).2.trans (res_eq m _ _ hm c), (h.1 c).1⟩) (run_main (F := Bits) m g),
    (θ_run Cert.GatherReference.defs _ _).mono (fun _ h => h 0) (Cert.GatherReference.Value.run m' g')⟩

end Cert.Proof.AllGather

end
-- ==== Proof.AllToAll.Common.lean ====
/-
  The all-to-all: what its transfers move. Device `c` holds eight blocks in `main_arg0`, one for each device, and sends block
  `n` to slot `c` of device `n`'s `main_v1`; its own block it copies in place. So at the end slot `d` of device `c`'s `main_v1`
  holds block `c` of device `d` (`res`).
-/
module

public import proofs.«01_k».proof.Proof.Peers
public import proofs.«01_k».proof.Proof.Slots
public import proofs.«01_k».proof.Proof.Gen.KernelIdeal.Launch
public import proofs.«01_k».proof.Proof.Gen.KernelIdeal.Skeleton
public import proofs.«01_k».proof.Proof.Gen.KernelIdeal.Points

@[expose] public section

noncomputable section

namespace Cert.Proof.AllToAll

open Cert.KernelIdeal Cert.KernelIdeal.Gen
open Idealize.ShloMosaic
open Idealize.ShloMosaic.TcCoe Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable (m : (ℓ : Loc nD τ sig) → Buf (Elt F) ℓ)

/-! ## The counters -/

/-- The kernel's semaphores: seven of sends, seven of receives, one of the copy in place. -/
def osem : Kind → SemLoc sig
  | .inl (.inl k) => .dma ⟨k.val, by have := k.isLt; show k.val < 31; omega⟩
  | .inl (.inr k) => .dma ⟨7 + k.val, by have := k.isLt; show 7 + k.val < 31; omega⟩
  | .inr () => .dma ⟨14, by decide⟩

theorem osem_inj : Function.Injective osem := by decide

/-- The units a block counts for. -/
def units : ℕ := RefSig.tileCredit S1184x1024 .f32

theorem units_pos : 0 < units := by decide

/-! ## The result -/

/-- What device `c`'s `main_v1` ends holding: in slot `d`, device `d`'s block for it. -/
def res (c : Dev nD) : Buf (Elt F) ((c : Thread nD τ).loc main_v1) :=
  fun i => (m (((show Dev nD from (show S8x1184x1024.Idx from i) 0).tc : Thread nD τ).loc main_arg0) : S8x1184x1024.Idx → Elt F .f32) (inSlot c (ofSlot (R := 1184) (C := 1024) i))

/-- Device `c`'s block for device `d`. -/
def part (c d : Dev nD) : sProp 𝕄 :=
  iprop(((c : Thread nD τ).loc main_arg0) ↦[slotSet 1184 1024 d]{fullShare} m ((c : Thread nD τ).loc main_arg0))

/-- Slot `d` of device `c`'s `main_v1`, at contents `f`. -/
def slot (c d : Dev nD) (f : Buf (Elt F) ((c : Thread nD τ).loc main_v1)) : sProp 𝕄 :=
  iprop(((c : Thread nD τ).loc main_v1) ↦[slotSet 1184 1024 d]{fullShare} f)

/-- What the units of each counter hand over: a send's, the block sent; a receive's, the peer's slot with the peer's block;
    the copy in place's, the device's own slot and its own block. -/
def pay : Kind → Dev nD → sProp 𝕄
  | .inl (.inl k), c => part m c (peer k c)
  | .inl (.inr k), c => slot c (peer k c) (res m c)
  | .inr (), c => iprop(slot c c (res m c) ∗ part m c c)

/-- The all-to-all's exchange. -/
def X : Exchange nD τ sig (Elt F) where
  peer := peer
  peer_peer := peer_peer
  osem := osem
  inj := osem_inj
  units := units
  units_pos := units_pos
  pay := pay m
  storable κ c := by
    rcases κ with (k | k) | ⟨⟩ <;> simp only [pay, part, slot] <;> infer_instance

/-! ## The blocks, the slot and what lands -/

/-- The memref of a block of the eight a device sends, by its offset. -/
abbrev blockM (off : Fin 3 → ℕ) (inb : ∀ a, off a + S1x1184x1024.size a ≤ S8x1184x1024.size a) : Memref sig .tc .hbm S1184x1024 .f32 :=
  (((Memref.whole main_arg0).slice (Rect.unit (s := S8x1184x1024) off S1x1184x1024.size inb) (fun _ => rfl)).squeeze
    S1184x1024 squeezes_S1x1184x1024_S1184x1024 : Memref sig .tc .hbm S1184x1024 .f32)

/-- The memref of a device's own block; -/
abbrev ownM (c : Dev nD) : Memref sig .tc .hbm S1184x1024 .f32 := blockM (k0_off1 c) (k0_off1_inb c)

/-- of the block for its peer `k`; -/
abbrev sendM (k : Fin 7) (c : Dev nD) : Memref sig .tc .hbm S1184x1024 .f32 := blockM _ (k0_off2_inb c k)

/-- and of slot `c`. -/
abbrev slotM (c : Dev nD) : Memref sig .tc .hbm S1184x1024 .f32 :=
  (((Memref.whole main_v1).slice (Rect.unit (s := S8x1184x1024) (k0_off1 c) S1x1184x1024.size (k0_off1_inb c)) (fun _ => rfl)).squeeze
    S1184x1024 squeezes_S1x1184x1024_S1184x1024 : Memref sig .tc .hbm S1184x1024 .f32)

theorem off_eq : ∀ c : Dev nD, k0_off1 c = ![c.val, 0, 0] := by decide +kernel

theorem off_peer : ∀ (c : Dev nD) (k : Fin 7), k0_off2 c (k0_off2_at k).1 (k0_off2_at k).2.1 (k0_off2_at k).2.2 = ![(peer k c).val, 0, 0] := by
  decide +kernel

theorem slotM_set (c : Dev nD) : (slotM c).view.set = slotSet 1184 1024 c :=
  (set_slot (View.whole main_v1) (k0_off1_inb c) _ c (off_eq c)).trans Finset.map_refl

theorem blockM_set {off : Fin 3 → ℕ} (inb) (d : Dev nD) (ho : off = ![d.val, 0, 0]) : (blockM off inb).view.set = slotSet 1184 1024 d :=
  (set_slot (View.whole main_arg0) inb _ d ho).trans Finset.map_refl

/-- What lands in slot `c` of device `n`, from device `c`'s block for it: the block, as `res` has it there. -/
theorem landed (c n : Dev nD) {off : Fin 3 → ℕ} (inb) (ho : off = ![n.val, 0, 0]) (fd : Buf (Elt F) ((slotM c).view.loc (n : Thread nD τ))) :
    ((slotM c).view.loc (n : Thread nD τ) ↦[(slotM c).view.set]{fullShare}
        ((slotM c).view.write (Elt F) fd (((blockM off inb).view : View sig .tc _ _ _).read (Elt F) (m ((c : Thread nD τ).loc main_arg0))) Finset.univ) : sProp 𝕄)
      = slot n c (res m n) := by
  unfold slot
  rw [← slotM_set c]
  refine pointsTo_congr fun i hi => ?_
  obtain ⟨x, rfl⟩ := View.exists_emb_of_mem_set (slotM c).view hi
  rw [View.write_emb_of_mem _ _ (Finset.mem_univ x)]
  have he : (slotM c).view.emb x = inSlot c x := emb_slot (View.whole main_v1) (k0_off1_inb c) _ c (off_eq c) x
  have hs : (blockM off inb).view.emb x = inSlot n x := emb_slot (View.whole main_arg0) inb _ n ho x
  rw [he]
  show m ((c : Thread nD τ).loc main_arg0) ((blockM off inb).view.emb x) = m ((c : Thread nD τ).loc main_arg0) (inSlot n (ofSlot (inSlot c x)))
  rw [ofSlot_inSlot, hs]

theorem part_eq (c d : Dev nD) {off : Fin 3 → ℕ} (inb) (ho : off = ![d.val, 0, 0]) :
    ((blockM off inb).view.loc (c : Thread nD τ) ↦[(blockM off inb).view.set]{fullShare} m ((c : Thread nD τ).loc main_arg0) : sProp 𝕄) = part m c d := by
  unfold part; rw [blockM_set inb d ho]

/-- The array of slots, whole. -/
theorem slots_eq (c : Dev nD) (f : Buf (Elt F) ((c : Thread nD τ).loc main_v1)) :
    (((c : Thread nD τ).loc main_v1) ↦{fullShare} f : sProp 𝕄) = iprop(slot c c f ∗ bigSep Finset.univ fun k => slot c (peer k c) f) := by
  rw [pointsTo_blocks (ℓ := (c : Thread nD τ).loc main_v1) (slotSet 1184 1024) slotSet_disjoint slotSet_cover f]
  exact bigSep_peers c fun d => slot c d f

/-- The array of blocks, whole. -/
theorem parts_eq (c : Dev nD) :
    (((c : Thread nD τ).loc main_arg0) ↦{fullShare} m ((c : Thread nD τ).loc main_arg0) : sProp 𝕄) = iprop(part m c c ∗ bigSep Finset.univ fun k => part m c (peer k c)) := by
  rw [pointsTo_blocks (ℓ := (c : Thread nD τ).loc main_arg0) (slotSet 1184 1024) slotSet_disjoint slotSet_cover _]
  exact bigSep_peers c fun d => part m c d

end Cert.Proof.AllToAll

end
-- ==== Proof.AllToAll.Body.lean ====
/-
  The all-to-all's body on one device. It starts the copy in place and the seven transfers, each from its own block; then it
  waits for each transfer, the send before the receive, and for the copy in place at the end.
-/
module

public import proofs.«01_k».proof.Proof.AllToAll.Common

@[expose] public section

noncomputable section

namespace Cert.Proof.AllToAll

open Cert.KernelIdeal Cert.KernelIdeal.Gen
open Idealize.ShloMosaic
open Idealize.ShloMosaic.TcCoe Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

variable (m : (ℓ : Loc nD τ sig) → Buf (Elt F) ℓ) (K : GSem nD τ sig → ℕ)

/-- The kernel calls no variant of anything. -/
abbrev 𝒱₀ : Variants := Variants.none

/-! ## The addressed devices are the peers -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel

/-! ## What the body takes and returns -/

/-- What device `c` needs for transfer `k`: its block for the peer, the peer's slot, and the tokens of the two duties. -/
def loan (k : Fin 7) (c : Dev nD) : sProp 𝕄 :=
  iprop(part m c (peer k c) ∗ (∃ fd, slot (peer k c) c fd)
    ∗ dutyTok ER ((X m).cell c (.send k)) 0 () ∗ dutyTok ER ((X m).cell (peer k c) (.recv k)) 0 ())

/-- And for the copy in place. -/
def loanHere (c : Dev nD) : sProp 𝕄 :=
  iprop(part m c c ∗ (∃ fd, slot c c fd) ∗ dutyTok ER ((X m).cell c .here) 0 ())

/-- What the body starts with: the records, the loans, the units it is owed, its place at each counter. -/
def bodyIn (c : Dev nD) : sProp 𝕄 :=
  iprop((X m).records K ∗ (bigSep Finset.univ fun k => loan m k c) ∗ loanHere m c
    ∗ (bigSep Finset.univ fun k => cred (tallyAt ((X m).cell c (.recv k)) () units))
    ∗ bigSep Finset.univ fun κ => atPos ER ((X m).cell c κ) 0 ∅ 0)

/-- What it ends with: each counter's payload, and the counter at zero. -/
def bodyOut (c : Dev nD) : sProp 𝕄 := bigSep Finset.univ fun κ => iprop((X m).pay κ c ∗ semVal ((X m).cell c κ) 0)

/-! ## The steps -/

omit [FloatOps F] in
theorem back (k : Fin 7) (c : Dev nD) : slot (peer k c) c (res m (peer k c)) = pay m (.recv k) (peer k c) := by
  show _ = slot (peer k c) (peer k (peer k c)) _
  rw [peer_peer]

theorem amount_slot (c n : Dev nD) (k : Fin 7) :
    (slotM c : Memref sig (Dev.tc n : Thread nD τ).2.kind .hbm S1184x1024 .f32).view.amount (osem (.recv k)) = units := rfl

theorem amount_here (c : Dev nD) :
    (slotM c : Memref sig (Dev.tc c : Thread nD τ).2.kind .hbm S1184x1024 .f32).view.amount (osem .here) = units := rfl

theorem routes_all (c n : Dev nD) : τ.routes (c : Thread nD τ) (n : Thread nD τ) = true := by routes

theorem sendM_pay (k : Fin 7) (c : Dev nD) :
    ((sendM k c).view.loc (c : Thread nD τ) ↦[(sendM k c).view.set]{fullShare} m ((c : Thread nD τ).loc main_arg0) : sProp 𝕄) ⊢ (X m).pay (.send k) c :=
  Entails.of_eq (part_eq m c (peer k c) _ (off_peer c k))

theorem slotM_pay (k : Fin 7) (c : Dev nD) (fd : Buf (Elt F) ((slotM c).view.loc (peer k c : Thread nD τ))) :
    ((slotM c).view.loc (peer k c : Thread nD τ) ↦[(slotM c).view.set]{fullShare}
        ((slotM c).view.write (Elt F) fd (((sendM k c).view : View sig .tc _ _ _).read (Elt F) (m ((c : Thread nD τ).loc main_arg0))) Finset.univ) : sProp 𝕄)
      ⊢ (X m).pay (.recv k) (peer k c) :=
  Entails.of_eq ((landed m c (peer k c) _ (off_peer c k) fd).trans (back m k c))

/-- Transfer `k`, from its loan. -/
theorem wp_send {α : Type} {Q : α → sProp 𝕄} (k : Fin 7) (c n : Dev nD) (hn : n = peer k c)
    {hsc : (slotM c : Memref sig (Dev.tc n : Thread nD τ).2.kind .hbm S1184x1024 .f32).view.ref.isScScratch = false}
    {sS sR : SemLoc sig} (hS : sS = osem (.send k)) (hR : sR = osem (.recv k))
    {sM : Memref sig .tc .hbm S1184x1024 .f32} (hM : sM = sendM k c)
    {hsrc : (sM.view : View sig .tc _ _ _).WordExact} {hdst : (slotM c).view.WordExact}
    {hsem : DmaTarget.Typed .hbm sR (.remote (Dev.tc n : Thread nD τ) (slotM c) sS hsc)}
    {kk : PUnit → Prog (TpuEff nD τ sig (Elt F) Λ₀ .tc) α} {W : Waits sig Unit} :
    iprop((X m).records K ∗ loan m k c ∗ owes (c : Thread nD τ) ((X m).owed c k.val) W)
      ⊢ iprop(((cred (tallyAt ((X m).cell c (.send k)) () units) ∗ owes (c : Thread nD τ) ((X m).owed c (k.val + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sM (.remote (Dev.tc n : Thread nD τ) (slotM c) sS hsc) sR hsrc hdst hsem) kk) Q) := by
  subst hS hR hn hM
  unfold loan slot
  have h := fun fd => (X m).wp_transfer (src := sendM k c) (dst := slotM c) (Q := Q) (kk := kk) (defs := defs₀ (F := F)) (hsc := hsc) (hsem := hsem) (hsrc := hsrc) (hdst := hdst) (W := W) (q := fullShare) 𝒱₀ K k c (peer k c) rfl rfl rfl
    (m ((c : Thread nD τ).loc main_arg0)) fd (amount_slot c (peer k c) k) (sendM_pay m k c) (slotM_pay m k c fd) (routes_all c (peer k c))
  iintro ⟨#HR, ⟨Hs, ⟨%fd, Hd⟩, Ht₁, Ht₂⟩, HO⟩
  have h' := h fd
  rw [slotM_set, part_eq m c (peer k c) _ (off_peer c k)] at h'
  iapply h'
  isplitr; · iexact HR
  isplitr [HO]
  · isplitl [Hs]; · iexact Hs
    isplitl [Hd]; · iexact Hd
    isplitl [Ht₁]; · iexact Ht₁
    iexact Ht₂
  iexact HO

theorem here_pay (c : Dev nD) (fd : Buf (Elt F) ((slotM c).view.loc (c : Thread nD τ))) :
    iprop(((slotM c).view.loc (c : Thread nD τ) ↦[(slotM c).view.set]{fullShare}
        ((slotM c).view.write (Elt F) fd (((ownM c).view : View sig .tc _ _ _).read (Elt F) (m ((c : Thread nD τ).loc main_arg0))) Finset.univ))
      ∗ ((ownM c).view.loc (c : Thread nD τ) ↦[(ownM c).view.set]{fullShare} m ((c : Thread nD τ).loc main_arg0)) : sProp 𝕄)
      ⊢ (X m).pay .here c :=
  Entails.of_eq (congrArg₂ BIBase.sep (landed m c c _ (off_eq c) fd) (part_eq m c c _ (off_eq c)))

/-- The copy in place, from its loan. -/
theorem wp_local {α : Type} {Q : α → sProp 𝕄} (c : Dev nD) {sH : SemLoc sig} (hH : sH = osem .here)
    {hsrc : ((ownM c).view : View sig .tc _ _ _).WordExact} {hdst : (slotM c).view.WordExact}
    {hsem : DmaTarget.Typed (nD := nD) .hbm sH (.here (nD := nD) (τ := τ) (p := (Dev.tc c : Thread nD τ).2) (slotM c))}
    {kk : PUnit → Prog (TpuEff nD τ sig (Elt F) Λ₀ .tc) α} :
    iprop((X m).records K ∗ loanHere m c)
      ⊢ iprop((cred (tallyAt ((X m).cell c .here) () units) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (ownM c) (.here (nD := nD) (τ := τ) (p := (Dev.tc c : Thread nD τ).2) (slotM c)) sH hsrc hdst hsem) kk) Q) := by
  subst hH
  unfold loanHere
  have h := fun fd => (X m).wp_copy_here (src := ownM c) (dst := slotM c) (Q := Q) (kk := kk) (defs := defs₀ (F := F)) (hsem := hsem)
    (hsrc := hsrc) (hdst := hdst) (q := fullShare) 𝒱₀ K c rfl (m ((c : Thread nD τ).loc main_arg0)) fd (amount_here c)
    (here_pay m c fd)
  iintro ⟨#HR, Hs, ⟨%fd, Hd⟩, Ht⟩
  have h' := h fd
  rw [slotM_set, part_eq m c c _ (off_eq c)] at h'
  unfold slot
  iapply h'
  isplitr; · iexact HR
  isplitl [Hs]; · iexact Hs
  isplitl [Hd]; · iexact Hd
  iexact Ht

/-! ## The body -/

set_option maxHeartbeats 4000000 in
/-- The body, from what it starts with to what it ends with, the device's debts paid. -/
theorem body_run (c : Dev nD) (W : Waits sig Unit) (Kt : PUnit → sProp 𝕄) :
    iprop((bodyIn m K c ∗ owes (c : Thread nD τ) ((X m).debts c) W)
        ∗ ((bodyOut m c ∗ ∃ W', owes (c : Thread nD τ) (0 : CellTallies nD τ sig Unit) W') -∗ Kt ⟨⟩))
      ⊢ wp frame (wpE (defs₀ (F := F)) 𝒱₀ (c : Thread nD τ) none) Set.univ
          (cc0_all_to_all (Memref.whole main_arg0) (Memref.isWhole_whole _) (Memref.whole main_v1) (Memref.isWhole_whole _)
            cc0_scratch0 cc0_scratch1 cc0_scratch2) Kt := by
  simp only [cc0_all_to_all_eq_skeleton]; unfold cc0_all_to_all_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyIn
  rw [bigSep_seven, bigSep_seven, bigSep_kinds, bigSep_seven, bigSep_seven]
  iintro ⟨⟨⟨#HR, ⟨Hl0, Hl1, Hl2, Hl3, Hl4, Hl5, Hl6⟩, Hlh, ⟨Hr0, Hr1, Hr2, Hr3, Hr4, Hr5, Hr6⟩, ⟨⟨Hsa0, Hsa1, Hsa2, Hsa3, Hsa4, Hsa5, Hsa6⟩, ⟨Hra0, Hra1, Hra2, Hra3, Hra4, Hra5, Hra6⟩⟩, Hha⟩, HO⟩, Hk⟩
  iapply (wp_local m K c rfl) $$ [Hlh]
  · isplitr; · iexact HR
    iexact Hlh
  iintro Hch
  iapply (wp_send m K 0 c _ (dev1_eq c) rfl rfl rfl) $$ [Hl0 HO]
  · isplitr; · iexact HR
    isplitl [Hl0]; · iexact Hl0
    iexact HO
  iintro ⟨Hs0, HO⟩
  iapply (wp_send m K 1 c _ (dev2_eq c) rfl rfl rfl) $$ [Hl1 HO]
  · isplitr; · iexact HR
    isplitl [Hl1]; · iexact Hl1
    iexact HO
  iintro ⟨Hs1, HO⟩
  iapply (wp_send m K 2 c _ (dev3_eq c) rfl rfl rfl) $$ [Hl2 HO]
  · isplitr; · iexact HR
    isplitl [Hl2]; · iexact Hl2
    iexact HO
  iintro ⟨Hs2, HO⟩
  iapply (wp_send m K 3 c _ (dev4_eq c) rfl rfl rfl) $$ [Hl3 HO]
  · isplitr; · iexact HR
    isplitl [Hl3]; · iexact Hl3
    iexact HO
  iintro ⟨Hs3, HO⟩
  iapply (wp_send m K 4 c _ (dev5_eq c) rfl rfl rfl) $$ [Hl4 HO]
  · isplitr; · iexact HR
    isplitl [Hl4]; · iexact Hl4
    iexact HO
  iintro ⟨Hs4, HO⟩
  iapply (wp_send m K 5 c _ (dev6_eq c) rfl rfl rfl) $$ [Hl5 HO]
  · isplitr; · iexact HR
    isplitl [Hl5]; · iexact Hl5
    iexact HO
  iintro ⟨Hs5, HO⟩
  iapply (wp_send m K 6 c _ (dev7_eq c) rfl rfl rfl) $$ [Hl6 HO]
  · isplitr; · iexact HR
    isplitl [Hl6]; · iexact Hl6
    iexact HO
  iintro ⟨Hs6, HO⟩
  rw [show (X m).owed c ((6 : Fin 7).val + 1) = 0 from (X m).owed_last c]
  iapply ((X m).wp_await 𝒱₀ K c (.send 0) rfl (wpE_waitDma2_eq 𝒱₀ (c : Thread nD τ) none Set.univ) rfl) $$ [Hs0 Hsa0 HO]
  · isplitr; · iexact HR
    isplitl [Hs0]; · iexact Hs0
    isplitl [Hsa0]; · iexact Hsa0
    iexact HO
  iintro ⟨Hsp0, Hsz0, HO⟩
  iapply ((X m).wp_await 𝒱₀ K c (.recv 0) rfl (wpE_waitDma2_eq 𝒱₀ (c : Thread nD τ) none Set.univ) rfl) $$ [Hr0 Hra0 HO]
  · isplitr; · iexact HR
    isplitl [Hr0]; · iexact Hr0
    isplitl [Hra0]; · iexact Hra0
    iexact HO
  iintro ⟨Hrp0, Hrz0, HO⟩
  iapply ((X m).wp_await 𝒱₀ K c (.send 1) rfl (wpE_waitDma2_eq 𝒱₀ (c : Thread nD τ) none Set.univ) rfl) $$ [Hs1 Hsa1 HO]
  · isplitr; · iexact HR
    isplitl [Hs1]; · iexact Hs1
    isplitl [Hsa1]; · iexact Hsa1
    iexact HO
  iintro ⟨Hsp1, Hsz1, HO⟩
  iapply ((X m).wp_await 𝒱₀ K c (.recv 1) rfl (wpE_waitDma2_eq 𝒱₀ (c : Thread nD τ) none Set.univ) rfl) $$ [Hr1 Hra1 HO]
  · isplitr; · iexact HR
    isplitl [Hr1]; · iexact Hr1
    isplitl [Hra1]; · iexact Hra1
    iexact HO
  iintro ⟨Hrp1, Hrz1, HO⟩
  iapply ((X m).wp_await 𝒱₀ K c (.send 2) rfl (wpE_waitDma2_eq 𝒱₀ (c : Thread nD τ) none Set.univ) rfl) $$ [Hs2 Hsa2 HO]
  · isplitr; · iexact HR
    isplitl [Hs2]; · iexact Hs2
    isplitl [Hsa2]; · iexact Hsa2
    iexact HO
  iintro ⟨Hsp2, Hsz2, HO⟩
  iapply ((X m).wp_await 𝒱₀ K c (.recv 2) rfl (wpE_waitDma2_eq 𝒱₀ (c : Thread nD τ) none Set.univ) rfl) $$ [Hr2 Hra2 HO]
  · isplitr; · iexact HR
    isplitl [Hr2]; · iexact Hr2
    isplitl [Hra2]; · iexact Hra2
    iexact HO
  iintro ⟨Hrp2, Hrz2, HO⟩
  iapply ((X m).wp_await 𝒱₀ K c (.send 3) rfl (wpE_waitDma2_eq 𝒱₀ (c : Thread nD τ) none Set.univ) rfl) $$ [Hs3 Hsa3 HO]
  · isplitr; · iexact HR
    isplitl [Hs3]; · iexact Hs3
    isplitl [Hsa3]; · iexact Hsa3
    iexact HO
  iintro ⟨Hsp3, Hsz3, HO⟩
  iapply ((X m).wp_await 𝒱₀ K c (.recv 3) rfl (wpE_waitDma2_eq 𝒱₀ (c : Thread nD τ) none Set.univ) rfl) $$ [Hr3 Hra3 HO]
  · isplitr; · iexact HR
    isplitl [Hr3]; · iexact Hr3
    isplitl [Hra3]; · iexact Hra3
    iexact HO
  iintro ⟨Hrp3, Hrz3, HO⟩
  iapply ((X m).wp_await 𝒱₀ K c (.send 4) rfl (wpE_waitDma2_eq 𝒱₀ (c : Thread nD τ) none Set.univ) rfl) $$ [Hs4 Hsa4 HO]
  · isplitr; · iexact HR
    isplitl [Hs4]; · iexact Hs4
    isplitl [Hsa4]; · iexact Hsa4
    iexact HO
  iintro ⟨Hsp4, Hsz4, HO⟩
  iapply ((X m).wp_await 𝒱₀ K c (.recv 4) rfl (wpE_waitDma2_eq 𝒱₀ (c : Thread nD τ) none Set.univ) rfl) $$ [Hr4 Hra4 HO]
  · isplitr; · iexact HR
    isplitl [Hr4]; · iexact Hr4
    isplitl [Hra4]; · iexact Hra4
    iexact HO
  iintro ⟨Hrp4, Hrz4, HO⟩
  iapply ((X m).wp_await 𝒱₀ K c (.send 5) rfl (wpE_waitDma2_eq 𝒱₀ (c : Thread nD τ) none Set.univ) rfl) $$ [Hs5 Hsa5 HO]
  · isplitr; · iexact HR
    isplitl [Hs5]; · iexact Hs5
    isplitl [Hsa5]; · iexact Hsa5
    iexact HO
  iintro ⟨Hsp5, Hsz5, HO⟩
  iapply ((X m).wp_await 𝒱₀ K c (.recv 5) rfl (wpE_waitDma2_eq 𝒱₀ (c : Thread nD τ) none Set.univ) rfl) $$ [Hr5 Hra5 HO]
  · isplitr; · iexact HR
    isplitl [Hr5]; · iexact Hr5
    isplitl [Hra5]; · iexact Hra5
    iexact HO
  iintro ⟨Hrp5, Hrz5, HO⟩
  iapply ((X m).wp_await 𝒱₀ K c (.send 6) rfl (wpE_waitDma2_eq 𝒱₀ (c : Thread nD τ) none Set.univ) rfl) $$ [Hs6 Hsa6 HO]
  · isplitr; · iexact HR
    isplitl [Hs6]; · iexact Hs6
    isplitl [Hsa6]; · iexact Hsa6
    iexact HO
  iintro ⟨Hsp6, Hsz6, HO⟩
  iapply ((X m).wp_await 𝒱₀ K c (.recv 6) rfl (wpE_waitDma2_eq 𝒱₀ (c : Thread nD τ) none Set.univ) rfl) $$ [Hr6 Hra6 HO]
  · isplitr; · iexact HR
    isplitl [Hr6]; · iexact Hr6
    isplitl [Hra6]; · iexact Hra6
    iexact HO
  iintro ⟨Hrp6, Hrz6, HO⟩
  iapply ((X m).wp_await 𝒱₀ K c .here rfl (wpE_waitDma2_eq 𝒱₀ (c : Thread nD τ) none Set.univ) rfl) $$ [Hch Hha HO]
  · isplitr; · iexact HR
    isplitl [Hch]; · iexact Hch
    isplitl [Hha]; · iexact Hha
    iexact HO
  iintro ⟨Hhp, Hhz, HO⟩
  rw [wp_ret]; imodintro
  iapply Hk
  isplitr [HO]
  · unfold bodyOut
    rw [bigSep_kinds, bigSep_seven, bigSep_seven]
    isplitr [Hhp Hhz]
    · isplitr [Hrp0 Hrz0 Hrp1 Hrz1 Hrp2 Hrz2 Hrp3 Hrz3 Hrp4 Hrz4 Hrp5 Hrz5 Hrp6 Hrz6]
      · isplitl [Hsp0 Hsz0]
        · isplitl [Hsp0]
          · iexact Hsp0
          iexact Hsz0
        isplitl [Hsp1 Hsz1]
        · isplitl [Hsp1]
          · iexact Hsp1
          iexact Hsz1
        isplitl [Hsp2 Hsz2]
        · isplitl [Hsp2]
          · iexact Hsp2
          iexact Hsz2
        isplitl [Hsp3 Hsz3]
        · isplitl [Hsp3]
          · iexact Hsp3
          iexact Hsz3
        isplitl [Hsp4 Hsz4]
        · isplitl [Hsp4]
          · iexact Hsp4
          iexact Hsz4
        isplitl [Hsp5 Hsz5]
        · isplitl [Hsp5]
          · iexact Hsp5
          iexact Hsz5
        isplitl [Hsp6]
        · iexact Hsp6
        iexact Hsz6
      · isplitl [Hrp0 Hrz0]
        · isplitl [Hrp0]
          · iexact Hrp0
          iexact Hrz0
        isplitl [Hrp1 Hrz1]
        · isplitl [Hrp1]
          · iexact Hrp1
          iexact Hrz1
        isplitl [Hrp2 Hrz2]
        · isplitl [Hrp2]
          · iexact Hrp2
          iexact Hrz2
        isplitl [Hrp3 Hrz3]
        · isplitl [Hrp3]
          · iexact Hrp3
          iexact Hrz3
        isplitl [Hrp4 Hrz4]
        · isplitl [Hrp4]
          · iexact Hrp4
          iexact Hrz4
        isplitl [Hrp5 Hrz5]
        · isplitl [Hrp5]
          · iexact Hrp5
          iexact Hrz5
        isplitl [Hrp6]
        · iexact Hrp6
        iexact Hrz6
    · isplitl [Hhp]
      · iexact Hhp
      iexact Hhz
  · iexists _; iexact HO

end Cert.Proof.AllToAll

end
-- ==== Proof.AllToAll.Adam.lean ====
/-
  The update's body on one block of 32 rows: eight blocks of partial gradients are summed, and the sum updates the moments
  and makes the step of the weights. Elementwise functions of whole arrays state it (`total`, `newM`, `newV`, `step`): on a
  block the body computes them of the blocks (`adam_run`).
-/
module

public import proofs.«01_k».proof.Proof.AllToAll.Body
public import Idealize.ShloMosaic.Lib.Pipeline.FrameBody
public import Idealize.ShloMosaic.Lib.Pipeline.Value
public import Idealize.ShloMosaic.Lib.Tactic

@[expose] public section

noncomputable section

namespace Cert.Proof.AllToAll

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

/-! ## The functions -/

section

variable {s : Shape}

/-- The sum of eight arrays, first to last. -/
def total (p : Fin 8 → FVec F s .f32) : FVec F s .f32 :=
  addf (addf (addf (addf (addf (addf (addf (p 0) (p 1)) (p 2)) (p 3)) (p 4)) (p 5)) (p 6)) (p 7)

/-- The first moment after gradient `g`. -/
def newM (g mu : FVec F s .f32) : FVec F s .f32 :=
  addf (mulf (broadcast s (Scalar.ofBits .f32 0x3F666666#32)) mu) (mulf (broadcast s (Scalar.ofBits .f32 0x3DCCCCCD#32)) g)

/-- The second moment after gradient `g`. -/
def newV (g nu : FVec F s .f32) : FVec F s .f32 :=
  addf (mulf (broadcast s (Scalar.ofBits .f32 0x3F7FBE77#32)) nu) (mulf (broadcast s (Scalar.ofBits .f32 0x3A83126F#32)) (mulf g g))

/-- The step of the weights `w` after gradient `g`. -/
def step (g w mu nu : FVec F s .f32) : FVec F s .f32 :=
  mulf (broadcast s (Scalar.ofBits .f32 0xBA83126F#32))
    (addf
      (divf (divf (newM g mu) (broadcast s (Scalar.ofBits .f32 0x3F26BD02#32)))
        (addf (sqrt (divf (newV g nu) (broadcast s (Scalar.ofBits .f32 0x3C231ACC#32)))) (broadcast s (Scalar.ofBits .f32 0x322BCC77#32))))
      (mulf (broadcast s (Scalar.ofBits .f32 0x3C23D70A#32)) w))

end

/-! ## The body on a block -/

/-- Plane `j` of an 8 × 32 × 1024 block. -/
def plane (P : S8x32x1024.Idx → Elt F .f32) (j : Fin 8) : FVec F S32x1024 .f32 := fun i => P (fun a => match a with
  | ⟨0, _⟩ => j
  | ⟨1, _⟩ => i 0
  | ⟨2, _⟩ => i 1)

/-- A load of one plane, its unit axis dropped, is the plane. -/
theorem plane_eq (P : S8x32x1024.Idx → Elt F .f32) (j : Fin 8) (off : Fin 3 → ℕ) (hoff : off = ![j.val, 0, 0])
    (inb : ∀ a, off a + S1x32x1024.size a ≤ S8x32x1024.size a) (h : S1x32x1024.ShapeCasts S32x1024) :
    shapeCast S32x1024 (View.ld P (Rect.unit (s := S8x32x1024) off S1x32x1024.size inb)) h = plane P j := by
  subst hoff
  funext i
  refine (shapeCast_dropUnit_apply (n := 2) ![32, 1024] _ _ i).trans ?_
  unfold plane
  refine congrArg P (funext fun a => Fin.ext ?_)
  match a with
  | ⟨0, _⟩ => exact (show j.val + 1 * 0 = j.val by omega)
  | ⟨1, _⟩ => exact (show 0 + 1 * (i 0).val = (i 0).val by omega)
  | ⟨2, _⟩ => exact (show 0 + 1 * (i 1).val = (i 1).val by omega)

/-- The whole 32 × 1024 block. -/
abbrev rw0 : Rect S32x1024 := Rect.unit (s := S32x1024) ![0, 0] S32x1024.size inb_S32x1024_S32x1024_0_0

theorem zeros : (![0, 0] : Fin 2 → ℕ) = fun _ => 0 := funext fun a => by fin_cases a <;> rfl

theorem rw0_cover (p : rw0.shape.Idx → Elt F .f32) (y : S32x1024.Idx) :
    ∃ pc ∈ ([⟨rw0, p⟩] : List (View.Piece (Elt F) S32x1024 .f32)), y ∈ pc.1.set :=
  ⟨_, List.mem_singleton_self _, View.mem_set_unit_zero zeros inb_S32x1024_S32x1024_0_0 y⟩

/-- The sum, as the body computes it of the eight planes it loads. -/
theorem pay_total (P : S8x32x1024.Idx → Elt F .f32) :
    k1_pay4 (View.ld P (Rect.unit (s := S8x32x1024) ![0, 0, 0] S1x32x1024.size inb_S8x32x1024_S1x32x1024_0_0_0))
      (View.ld P (Rect.unit (s := S8x32x1024) ![1, 0, 0] S1x32x1024.size inb_S8x32x1024_S1x32x1024_1_0_0))
      (View.ld P (Rect.unit (s := S8x32x1024) ![2, 0, 0] S1x32x1024.size inb_S8x32x1024_S1x32x1024_2_0_0))
      (View.ld P (Rect.unit (s := S8x32x1024) ![3, 0, 0] S1x32x1024.size inb_S8x32x1024_S1x32x1024_3_0_0))
      (View.ld P (Rect.unit (s := S8x32x1024) ![4, 0, 0] S1x32x1024.size inb_S8x32x1024_S1x32x1024_4_0_0))
      (View.ld P (Rect.unit (s := S8x32x1024) ![5, 0, 0] S1x32x1024.size inb_S8x32x1024_S1x32x1024_5_0_0))
      (View.ld P (Rect.unit (s := S8x32x1024) ![6, 0, 0] S1x32x1024.size inb_S8x32x1024_S1x32x1024_6_0_0))
      (View.ld P (Rect.unit (s := S8x32x1024) ![7, 0, 0] S1x32x1024.size inb_S8x32x1024_S1x32x1024_7_0_0))
      = total (plane P) := by
  unfold k1_pay4 total
  dsimp only
  rw [plane_eq P 0 ![0, 0, 0] rfl, plane_eq P 1 ![1, 0, 0] rfl, plane_eq P 2 ![2, 0, 0] rfl, plane_eq P 3 ![3, 0, 0] rfl,
    plane_eq P 4 ![4, 0, 0] rfl, plane_eq P 5 ![5, 0, 0] rfl, plane_eq P 6 ![6, 0, 0] rfl, plane_eq P 7 ![7, 0, 0] rfl]

/-- The moments and the step, as the body computes them. -/
theorem pay_newM (g mu : FVec F S32x1024 .f32) : k1_pay1 g (k1_pay5 mu) (Scalar.ofBits .f32 0x3DCCCCCD#32) = newM g mu := by
  unfold k1_pay1 k1_pay5 newM
  dsimp only
  rw [shapeCast_self]

theorem pay_newV (g nu : FVec F S32x1024 .f32) : k1_pay2 g nu = newV g nu := by
  unfold k1_pay2 newV
  dsimp only
  rw [shapeCast_self]

theorem pay_step (g w mu nu : FVec F S32x1024 .f32) :
    k1_pay3 g (k1_pay5 mu) (Scalar.ofBits .f32 0x3DCCCCCD#32) nu w = step g w mu nu := by
  unfold k1_pay3 step
  dsimp only
  rw [shapeCast_self, pay_newM, pay_newV]

set_option maxHeartbeats 1000000 in
/-- The body on whole blocks. -/
theorem adam_run (c : Dev nD) (i : grid1.Coords)
    (M0 : Memref sig .tc .vmem S8x32x1024 .f32) (h0 : M0.IsWhole) (M1 : Memref sig .tc .vmem S32x1024 .f32) (h1 : M1.IsWhole)
    (M2 : Memref sig .tc .vmem S32x1024 .f32) (h2 : M2.IsWhole) (M3 : Memref sig .tc .vmem S32x1024 .f32) (h3 : M3.IsWhole)
    (M4 : Memref sig .tc .vmem S32x1024 .f32) (h4 : M4.IsWhole) (M5 : Memref sig .tc .vmem S32x1024 .f32) (h5 : M5.IsWhole)
    (M6 : Memref sig .tc .vmem S32x1024 .f32) (h6 : M6.IsWhole) (M7 : Memref sig .tc .vmem S32x1024 .f32) (h7 : M7.IsWhole)
    (P : S8x32x1024.Idx → Elt F .f32) (w mu nu : S32x1024.Idx → Elt F .f32) (Kt : PUnit → sProp 𝕄) :
    iprop(owns (c : Thread nD τ) M0 fullShare P ∗ owns (c : Thread nD τ) M1 fullShare w ∗ owns (c : Thread nD τ) M2 fullShare mu
        ∗ owns (c : Thread nD τ) M3 fullShare nu ∗ (∃ d, owns (c : Thread nD τ) M4 fullShare d) ∗ (∃ d, owns (c : Thread nD τ) M5 fullShare d)
        ∗ (∃ d, owns (c : Thread nD τ) M6 fullShare d) ∗ (∃ d, owns (c : Thread nD τ) M7 fullShare d)
        ∗ (iprop(owns (c : Thread nD τ) M0 fullShare P ∗ owns (c : Thread nD τ) M1 fullShare w ∗ owns (c : Thread nD τ) M2 fullShare mu
          ∗ owns (c : Thread nD τ) M3 fullShare nu ∗ owns (c : Thread nD τ) M4 fullShare (total (plane P))
          ∗ owns (c : Thread nD τ) M5 fullShare (step (total (plane P)) w mu nu)
          ∗ owns (c : Thread nD τ) M6 fullShare (newM (total (plane P)) mu)
          ∗ owns (c : Thread nD τ) M7 fullShare (newV (total (plane P)) nu)) -∗ Kt ⟨⟩))
      ⊢ wp frame (wpE (defs₀ (F := F)) 𝒱₀ (c : Thread nD τ) none) Set.univ (cc1_adamw i M0 h0 M1 h1 M2 h2 M3 h3 M4 h4 M5 h5 M6 h6 M7 h7) Kt := by
  simp only [cc1_adamw_eq_skeleton]
  unfold cc1_adamw_skel
  simp only [k1_part1_eq_skeleton]
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, Hk⟩
  subst e0 e1 e2 e3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  have hg := pay_total (M0.view.read (Elt F) f0)
  have hl (M : Memref sig .tc .vmem S32x1024 .f32) (f : BufTy.Contents (Elt F) M.view.ty) : M.view.readAt (Elt F) rw0.toLoadRect f = M.view.read (Elt F) f :=
    View.ld_unit_zero zeros inb_S32x1024_S32x1024_0_0 (M.view.read (Elt F) f)
  isplitl [H4]
  · iexists _; isplitr; swap; · iexact H4
    ipureintro
    refine (View.read_writes_eq_canon _ _ _ (rw0_cover _)).trans ?_
    rw [View.canon_unit_zero zeros]
    exact hg
  isplitl [H5]
  · iexists _; isplitr; swap; · iexact H5
    ipureintro
    refine (View.read_writes_eq_canon _ _ _ (rw0_cover _)).trans ?_
    rw [View.canon_unit_zero zeros]
    refine Eq.trans ?_ (pay_step _ _ _ _)
    rw [← hg, ← hl M1, ← hl M2, ← hl M3]
    rfl
  isplitl [H6]
  · iexists _; isplitr; swap; · iexact H6
    ipureintro
    refine (View.read_writes_eq_canon _ _ _ (rw0_cover _)).trans ?_
    rw [View.canon_unit_zero zeros]
    refine Eq.trans ?_ (pay_newM _ _)
    rw [← hg, ← hl M2]
    rfl
  iexists _; isplitr; swap; · iexact H7
  ipureintro
  refine (View.read_writes_eq_canon _ _ _ (rw0_cover _)).trans ?_
  rw [View.canon_unit_zero zeros]
  refine Eq.trans ?_ (pay_newV _ _)
  rw [← hg, ← hl M3]
  rfl

end Cert.Proof.AllToAll

end
-- ==== Proof.AllToAll.Update.lean ====
/-
  The update's call. It walks 37 blocks of 32 rows; on each, the body sums the eight partial gradients and updates the moments
  and the weights. What it leaves in its results is one function of the whole arrays, read block by block, and the blocks
  cover the arrays: so the results end at that function of the whole arrays.
-/
module

public import proofs.«01_k».proof.Proof.AllToAll.Adam
public import Idealize.ShloMosaic.Lib.Pipeline.Regions

@[expose] public section

noncomputable section

namespace Cert.Proof.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

variable (m : (ℓ : Loc nD τ sig) → Buf (Elt F) ℓ)

/-! ## The whole arrays -/

/-- Plane `j` of eight 1184 × 1024 planes. -/
def planes (R : S8x1184x1024.Idx → Elt F .f32) (j : Fin 8) : FVec F S1184x1024 .f32 := fun i => R (fun a => match a with
  | ⟨0, _⟩ => j
  | ⟨1, _⟩ => i 0
  | ⟨2, _⟩ => i 1)

/-- The summed gradient on device `c`, -/
def outG (c : Dev nD) : FVec F S1184x1024 .f32 := total (planes (res m c))

/-- the step of the weights, -/
def outD (c : Dev nD) : FVec F S1184x1024 .f32 :=
  step (outG m c) (m ((c : Thread nD τ).loc main_arg1)) (m ((c : Thread nD τ).loc main_arg2)) (m ((c : Thread nD τ).loc main_arg3))

/-- and the new moments. -/
def outM (c : Dev nD) : FVec F S1184x1024 .f32 := newM (outG m c) (m ((c : Thread nD τ).loc main_arg2))
def outV (c : Dev nD) : FVec F S1184x1024 .f32 := newV (outG m c) (m ((c : Thread nD τ).loc main_arg3))

/-! ## The blocks of point `t` -/

def inP (c : Dev nD) (t : Fin cfg1.N) : S8x32x1024.Idx → Elt F .f32 := (win1_0.blk t).view.read (Elt F) (res m c)
def inW (c : Dev nD) (t : Fin cfg1.N) : S32x1024.Idx → Elt F .f32 := (win1_1.blk t).view.read (Elt F) (m ((c : Thread nD τ).loc main_arg1))
def inM (c : Dev nD) (t : Fin cfg1.N) : S32x1024.Idx → Elt F .f32 := (win1_2.blk t).view.read (Elt F) (m ((c : Thread nD τ).loc main_arg2))
def inV (c : Dev nD) (t : Fin cfg1.N) : S32x1024.Idx → Elt F .f32 := (win1_3.blk t).view.read (Elt F) (m ((c : Thread nD τ).loc main_arg3))

/-- The proof data: the arrays as the exchange leaves them; after the body the inputs' blocks as they were, the results'
    at the functions of them. -/
def datU (c : Dev nD) : Dat τ (Elt F) Unit ℕ (UU nD τ sig) ℕ cfg1 c where
  A w := match w with
    | ⟨0, _⟩ => res m c
    | ⟨1, _⟩ => m ((c : Thread nD τ).loc main_arg1)
    | ⟨2, _⟩ => m ((c : Thread nD τ).loc main_arg2)
    | ⟨3, _⟩ => m ((c : Thread nD τ).loc main_arg3)
    | ⟨4, _⟩ => m ((c : Thread nD τ).loc main_v2_0)
    | ⟨5, _⟩ => m ((c : Thread nD τ).loc main_v2_1)
    | ⟨6, _⟩ => m ((c : Thread nD τ).loc main_v2_2)
    | ⟨7, _⟩ => m ((c : Thread nD τ).loc main_v2_3)
  after w t := match w with
    | ⟨0, _⟩ => inP m c t
    | ⟨1, _⟩ => inW m c t
    | ⟨2, _⟩ => inM m c t
    | ⟨3, _⟩ => inV m c t
    | ⟨4, _⟩ => total (plane (inP m c t))
    | ⟨5, _⟩ => step (total (plane (inP m c t))) (inW m c t) (inM m c t) (inV m c t)
    | ⟨6, _⟩ => newM (total (plane (inP m c t))) (inM m c t)
    | ⟨7, _⟩ => newV (total (plane (inP m c t))) (inV m c t)
  Φ _ := BI.emp
  q _ := fullShare
  owed _ := 0

/-! ## The body -/

theorem before_0 (c : Dev nD) (t : Fin cfg1.N) (d) : (datU m c).before 0 t d = inP m c t := by
  rw [Dat.before_fetched _ _ _ (fetch1_0 t)]; rfl
theorem before_1 (c : Dev nD) (t : Fin cfg1.N) (d) : (datU m c).before 1 t d = inW m c t := by
  rw [Dat.before_fetched _ _ _ (fetch1_1 t)]; rfl
theorem before_2 (c : Dev nD) (t : Fin cfg1.N) (d) : (datU m c).before 2 t d = inM m c t := by
  rw [Dat.before_fetched _ _ _ (fetch1_2 t)]; rfl
theorem before_3 (c : Dev nD) (t : Fin cfg1.N) (d) : (datU m c).before 3 t d = inV m c t := by
  rw [Dat.before_fetched _ _ _ (fetch1_3 t)]; rfl

/-- The body meets its obligation. -/
theorem update_obligation (c : Dev nD) : BodyObligation (datU m c) (defs₀ (F := F)) 𝒱₀ () Set.univ := fun t => by
  rw [bigSep_W1, bigSep_W1]
  show iprop(BI.emp ∗ (datU m c).owesAt () t.castSucc ∗ (∃ d, owns (c : Thread nD τ) (st1_0 t) fullShare ((datU m c).before 0 t d))
      ∗ (∃ d, owns (c : Thread nD τ) (st1_1 t) fullShare ((datU m c).before 1 t d)) ∗ (∃ d, owns (c : Thread nD τ) (st1_2 t) fullShare ((datU m c).before 2 t d))
      ∗ (∃ d, owns (c : Thread nD τ) (st1_3 t) fullShare ((datU m c).before 3 t d)) ∗ (∃ d, owns (c : Thread nD τ) (st1_4 t) fullShare ((datU m c).before 4 t d))
      ∗ (∃ d, owns (c : Thread nD τ) (st1_5 t) fullShare ((datU m c).before 5 t d)) ∗ (∃ d, owns (c : Thread nD τ) (st1_6 t) fullShare ((datU m c).before 6 t d))
      ∗ (∃ d, owns (c : Thread nD τ) (st1_7 t) fullShare ((datU m c).before 7 t d)))
    ⊢ wp frame (wpE (defs₀ (F := F)) 𝒱₀ (c : Thread nD τ) none) Set.univ (bodyAt1 t) (fun _ => iprop(BI.emp ∗ (datU m c).owesAt () t.castSucc
      ∗ owns (c : Thread nD τ) (st1_0 t) fullShare (inP m c t) ∗ owns (c : Thread nD τ) (st1_1 t) fullShare (inW m c t)
      ∗ owns (c : Thread nD τ) (st1_2 t) fullShare (inM m c t) ∗ owns (c : Thread nD τ) (st1_3 t) fullShare (inV m c t)
      ∗ owns (c : Thread nD τ) (st1_4 t) fullShare (total (plane (inP m c t)))
      ∗ owns (c : Thread nD τ) (st1_5 t) fullShare (step (total (plane (inP m c t))) (inW m c t) (inM m c t) (inV m c t))
      ∗ owns (c : Thread nD τ) (st1_6 t) fullShare (newM (total (plane (inP m c t))) (inM m c t))
      ∗ owns (c : Thread nD τ) (st1_7 t) fullShare (newV (total (plane (inP m c t))) (inV m c t))))
  simp only [before_0, before_1, before_2, before_3]
  iintro ⟨-, HO, ⟨%d0, H0⟩, ⟨%d1, H1⟩, ⟨%d2, H2⟩, ⟨%d3, H3⟩, ⟨%d4, H4⟩, ⟨%d5, H5⟩, ⟨%d6, H6⟩, ⟨%d7, H7⟩⟩
  iapply (adam_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    (inP m c t) (inW m c t) (inM m c t) (inV m c t))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro H
  isplitr; · iempintro
  isplitl [HO]; · iexact HO
  iexact H

/-! ## The results' arrays after the call -/

/-- A row is in the block of its 32 rows. -/
theorem inP_eq (c : Dev nD) (t : Fin cfg1.N) (j : Fin 8) :
    plane (inP m c t) j = (win1_4.blk t).view.read (Elt F) (planes (res m c) j) := by
  funext i
  have h : (win1_0.blk t).view.emb (fun a => match a with
      | ⟨0, _⟩ => j
      | ⟨1, _⟩ => i 0
      | ⟨2, _⟩ => i 1) = ((fun a => match a with
      | ⟨0, _⟩ => j
      | ⟨1, _⟩ => (win1_4.blk t).view.emb i 0
      | ⟨2, _⟩ => (win1_4.blk t).view.emb i 1) : S8x1184x1024.Idx) := by
    refine funext fun a => Fin.ext ?_
    match a with
    | ⟨0, _⟩ => exact (show 0 * 8 + 1 * j.val = j.val by omega)
    | ⟨1, _⟩ => rfl
    | ⟨2, _⟩ => rfl
  exact congrArg (res m c) h

theorem total_eq (c : Dev nD) (t : Fin cfg1.N) : total (plane (inP m c t)) = (win1_4.blk t).view.read (Elt F) (outG m c) := by
  unfold total
  simp only [inP_eq]
  rfl

theorem flushed_4 (c : Dev nD) (t : Fin cfg1.N) : (datU m c).flushed 4 t = (win1_4.blk t).view.read (Elt F) (outG m c) := total_eq m c t
theorem flushed_5 (c : Dev nD) (t : Fin cfg1.N) : (datU m c).flushed 5 t = (win1_5.blk t).view.read (Elt F) (outD m c) := by
  show step (total (plane (inP m c t))) (inW m c t) (inM m c t) (inV m c t) = _
  rw [total_eq]
  rfl
theorem flushed_6 (c : Dev nD) (t : Fin cfg1.N) : (datU m c).flushed 6 t = (win1_6.blk t).view.read (Elt F) (outM m c) := by
  show newM (total (plane (inP m c t))) (inM m c t) = _
  rw [total_eq]
  rfl
theorem flushed_7 (c : Dev nD) (t : Fin cfg1.N) : (datU m c).flushed 7 t = (win1_7.blk t).view.read (Elt F) (outV m c) := by
  show newV (total (plane (inP m c t))) (inV m c t) = _
  rw [total_eq]
  rfl

/-- The block of point `t` begins at row `32 t` and holds 32 rows. -/
theorem rows_4 : ∀ t : Fin cfg1.N, win1_4.index t 0 * win1_4.size 0 = t.val * 32 ∧ win1_4.xsize (grid1.coords t) 0 = 32
    ∧ win1_4.index t 1 * win1_4.size 1 = 0 ∧ win1_4.xsize (grid1.coords t) 1 = 1024 := by decide +kernel
theorem rows_5 : ∀ t : Fin cfg1.N, win1_5.index t 0 * win1_5.size 0 = t.val * 32 ∧ win1_5.xsize (grid1.coords t) 0 = 32
    ∧ win1_5.index t 1 * win1_5.size 1 = 0 ∧ win1_5.xsize (grid1.coords t) 1 = 1024 := by decide +kernel
theorem rows_6 : ∀ t : Fin cfg1.N, win1_6.index t 0 * win1_6.size 0 = t.val * 32 ∧ win1_6.xsize (grid1.coords t) 0 = 32
    ∧ win1_6.index t 1 * win1_6.size 1 = 0 ∧ win1_6.xsize (grid1.coords t) 1 = 1024 := by decide +kernel
theorem rows_7 : ∀ t : Fin cfg1.N, win1_7.index t 0 * win1_7.size 0 = t.val * 32 ∧ win1_7.xsize (grid1.coords t) 0 = 32
    ∧ win1_7.index t 1 * win1_7.size 1 = 0 ∧ win1_7.xsize (grid1.coords t) 1 = 1024 := by decide +kernel

/-- The point whose block has row `r`. -/
def pointOf (i : S1184x1024.Idx) : Fin cfg1.N :=
  ⟨(i 0 : Nat) / 32, by
    have h : (i 0 : Nat) < 1184 := (i 0).isLt
    have hN : cfg1.N = 37 := N_1
    omega⟩

theorem cover_4 (i : S1184x1024.Idx) : ∃ t : Fin cfg1.N, (cfg1.win 4).flush t = true ∧ i ∈ ((cfg1.win 4).blk t).view.set := by
  refine ⟨pointOf i, flush1_4 _, ?_⟩
  show i ∈ ((View.whole main_v2_0).slice (win1_4.rect (pointOf i))).set
  rw [View.set_slice_whole, Rect.mem_set_unit]
  obtain ⟨e0, e1, e2, e3⟩ := rows_4 (pointOf i)
  have h1 : (i 1 : Nat) < 1024 := (i 1).isLt
  intro a
  match a with
  | ⟨0, _⟩ =>
    show win1_4.index (pointOf i) 0 * win1_4.size 0 ≤ (i 0 : Nat) ∧ (i 0 : Nat) < win1_4.index (pointOf i) 0 * win1_4.size 0 + win1_4.xsize (grid1.coords (pointOf i)) 0
    rw [e0, e1]
    show (i 0 : Nat) / 32 * 32 ≤ (i 0 : Nat) ∧ (i 0 : Nat) < (i 0 : Nat) / 32 * 32 + 32
    omega
  | ⟨1, _⟩ =>
    show win1_4.index (pointOf i) 1 * win1_4.size 1 ≤ (i 1 : Nat) ∧ (i 1 : Nat) < win1_4.index (pointOf i) 1 * win1_4.size 1 + win1_4.xsize (grid1.coords (pointOf i)) 1
    rw [e2, e3]
    omega

theorem cover_5 (i : S1184x1024.Idx) : ∃ t : Fin cfg1.N, (cfg1.win 5).flush t = true ∧ i ∈ ((cfg1.win 5).blk t).view.set := by
  refine ⟨pointOf i, flush1_5 _, ?_⟩
  show i ∈ ((View.whole main_v2_1).slice (win1_5.rect (pointOf i))).set
  rw [View.set_slice_whole, Rect.mem_set_unit]
  obtain ⟨e0, e1, e2, e3⟩ := rows_5 (pointOf i)
  have h1 : (i 1 : Nat) < 1024 := (i 1).isLt
  intro a
  match a with
  | ⟨0, _⟩ =>
    show win1_5.index (pointOf i) 0 * win1_5.size 0 ≤ (i 0 : Nat) ∧ (i 0 : Nat) < win1_5.index (pointOf i) 0 * win1_5.size 0 + win1_5.xsize (grid1.coords (pointOf i)) 0
    rw [e0, e1]
    show (i 0 : Nat) / 32 * 32 ≤ (i 0 : Nat) ∧ (i 0 : Nat) < (i 0 : Nat) / 32 * 32 + 32
    omega
  | ⟨1, _⟩ =>
    show win1_5.index (pointOf i) 1 * win1_5.size 1 ≤ (i 1 : Nat) ∧ (i 1 : Nat) < win1_5.index (pointOf i) 1 * win1_5.size 1 + win1_5.xsize (grid1.coords (pointOf i)) 1
    rw [e2, e3]
    omega

theorem cover_6 (i : S1184x1024.Idx) : ∃ t : Fin cfg1.N, (cfg1.win 6).flush t = true ∧ i ∈ ((cfg1.win 6).blk t).view.set := by
  refine ⟨pointOf i, flush1_6 _, ?_⟩
  show i ∈ ((View.whole main_v2_2).slice (win1_6.rect (pointOf i))).set
  rw [View.set_slice_whole, Rect.mem_set_unit]
  obtain ⟨e0, e1, e2, e3⟩ := rows_6 (pointOf i)
  have h1 : (i 1 : Nat) < 1024 := (i 1).isLt
  intro a
  match a with
  | ⟨0, _⟩ =>
    show win1_6.index (pointOf i) 0 * win1_6.size 0 ≤ (i 0 : Nat) ∧ (i 0 : Nat) < win1_6.index (pointOf i) 0 * win1_6.size 0 + win1_6.xsize (grid1.coords (pointOf i)) 0
    rw [e0, e1]
    show (i 0 : Nat) / 32 * 32 ≤ (i 0 : Nat) ∧ (i 0 : Nat) < (i 0 : Nat) / 32 * 32 + 32
    omega
  | ⟨1, _⟩ =>
    show win1_6.index (pointOf i) 1 * win1_6.size 1 ≤ (i 1 : Nat) ∧ (i 1 : Nat) < win1_6.index (pointOf i) 1 * win1_6.size 1 + win1_6.xsize (grid1.coords (pointOf i)) 1
    rw [e2, e3]
    omega

theorem cover_7 (i : S1184x1024.Idx) : ∃ t : Fin cfg1.N, (cfg1.win 7).flush t = true ∧ i ∈ ((cfg1.win 7).blk t).view.set := by
  refine ⟨pointOf i, flush1_7 _, ?_⟩
  show i ∈ ((View.whole main_v2_3).slice (win1_7.rect (pointOf i))).set
  rw [View.set_slice_whole, Rect.mem_set_unit]
  obtain ⟨e0, e1, e2, e3⟩ := rows_7 (pointOf i)
  have h1 : (i 1 : Nat) < 1024 := (i 1).isLt
  intro a
  match a with
  | ⟨0, _⟩ =>
    show win1_7.index (pointOf i) 0 * win1_7.size 0 ≤ (i 0 : Nat) ∧ (i 0 : Nat) < win1_7.index (pointOf i) 0 * win1_7.size 0 + win1_7.xsize (grid1.coords (pointOf i)) 0
    rw [e0, e1]
    show (i 0 : Nat) / 32 * 32 ≤ (i 0 : Nat) ∧ (i 0 : Nat) < (i 0 : Nat) / 32 * 32 + 32
    omega
  | ⟨1, _⟩ =>
    show win1_7.index (pointOf i) 1 * win1_7.size 1 ≤ (i 1 : Nat) ∧ (i 1 : Nat) < win1_7.index (pointOf i) 1 * win1_7.size 1 + win1_7.xsize (grid1.coords (pointOf i)) 1
    rw [e2, e3]
    omega

/-- So the results' arrays end at the functions of the whole arrays. -/
theorem final_4 (c : Dev nD) : (datU m c).arrAt 4 cfg1.N = outG m c :=
  (datU m c).arrAt_eq_of_cover 4 (outG m c) (fun t _ => flushed_4 m c t) cover_4
theorem final_5 (c : Dev nD) : (datU m c).arrAt 5 cfg1.N = outD m c :=
  (datU m c).arrAt_eq_of_cover 5 (outD m c) (fun t _ => flushed_5 m c t) cover_5
theorem final_6 (c : Dev nD) : (datU m c).arrAt 6 cfg1.N = outM m c :=
  (datU m c).arrAt_eq_of_cover 6 (outM m c) (fun t _ => flushed_6 m c t) cover_6
theorem final_7 (c : Dev nD) : (datU m c).arrAt 7 cfg1.N = outV m c :=
  (datU m c).arrAt_eq_of_cover 7 (outV m c) (fun t _ => flushed_7 m c t) cover_7

end Cert.Proof.AllToAll

end
-- ==== Proof.AllToAll.Run.lean ====
/-
  The all-to-all's and the update's run on the eight devices: the launch gives every device its blocks, its own slot and the
  update's arrays, and the slots its peers gave up to it; the exchange runs; the blocks and the slots are put together again;
  the update runs over the received slots. For any float values, every device ends with its arguments unchanged, the summed
  gradient, the step and the new moments in its results, and every counter at zero (`run_main`).
-/
module

public import proofs.«01_k».proof.Proof.AllToAll.Update
public import proofs.«01_k».proof.Proof.Region
public import Idealize.ShloMosaic.Lib.Quiescent

@[expose] public section

noncomputable section

namespace Cert.Proof.AllToAll

open Cert.KernelIdeal Cert.KernelIdeal.Gen
open Idealize.ShloMosaic
open Idealize.ShloMosaic.TcCoe Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

variable (m : (ℓ : Loc nD τ sig) → Buf (Elt F) ℓ)

/-! ## The proof data of the two calls -/

/-- The scoped buffers the exchange does not use: the update's. -/
abbrev idle (c : Dev nD) : sProp 𝕄 :=
  Pipeline.scopedRest (Ix := Unit) (Name := ℕ) (U := UU nD τ sig) (Lvl := ℕ) (Val := Elt F) cfg0.spec c

/-- The exchange: the body's invariant and debts, before and after its one point. -/
def datX (c : Dev nD) : Dat τ (Elt F) Unit ℕ (UU nD τ sig) ℕ cfg0 c where
  A w := w.elim0
  after w := w.elim0
  Φ t := match t with
    | ⟨0, _⟩ => iprop((∃ K, bodyIn m K c) ∗ idle c)
    | ⟨_ + 1, _⟩ => iprop(bodyOut m c ∗ idle c)
  q w := w.elim0
  owed t := match t with
    | ⟨0, _⟩ => (X m).debts c
    | ⟨_ + 1, _⟩ => 0

/-- Both. -/
def dats : (p : Fin 2) → (c : Dev nD) → Dat τ (Elt F) Unit ℕ (UU nD τ sig) ℕ (Pipeline.pin (pcfgs (F := F)) (fun p => (cfgs p).toPCfg_adm) p) c
  | ⟨0, _⟩ => fun c => datX m c
  | ⟨1, _⟩ => fun c => datU m c

/-- A family over no window is nothing. -/
theorem bigSep_none (Φ : Fin cfg0.W → sProp 𝕄) : bigSep Finset.univ Φ = iprop(emp) := BI.bigSep_empty

/-- The exchange's body meets its obligation. -/
theorem exchange_obligation (c : Dev nD) : BodyObligation (datX (F := F) m c) (defs₀ (F := F)) 𝒱₀ () Set.univ := fun t => by
  rw [fin_N0 t, bigSep_none, bigSep_none]
  show iprop(((∃ K, bodyIn m K c) ∗ idle c) ∗ (datX m c).owesAt () 0 ∗ emp) ⊢ wp frame (wpE (defs₀ (F := F)) 𝒱₀ (c : Thread nD τ) none) Set.univ
    (cc0_all_to_all (Memref.whole main_arg0) (Memref.isWhole_whole _) (Memref.whole main_v1) (Memref.isWhole_whole _)
      cc0_scratch0 cc0_scratch1 cc0_scratch2) (fun _ => iprop((bodyOut m c ∗ idle c) ∗ (datX m c).owesAt () (Fin.last _) ∗ emp))
  unfold Dat.owesAt Pipeline.owesWithin
  iintro ⟨⟨⟨%K, Hin⟩, Hi⟩, ⟨%W, -, HO⟩, -⟩
  iapply (body_run m K c W)
  isplitl [Hin HO]
  · isplitl [Hin]; · iexact Hin
    iexact HO
  iintro ⟨Hout, ⟨%W', HO⟩⟩
  isplitl [Hout Hi]
  · isplitl [Hout]; · iexact Hout
    iexact Hi
  isplitl [HO]
  · iexists W'
    isplitr; · ipureintro; exact fun _ _ => Or.inl trivial
    iexact HO
  iempintro

/-! ## What a device keeps, gives up and ends with -/

/-- A buffer of device `c`, whole, at contents `f`. -/
abbrev at' (c : Dev nD) (b : Ref sig .tc) (f : Buf (Elt F) ((c : Thread nD τ).loc b)) : sProp 𝕄 :=
  ((c : Thread nD τ).loc b) ↦{fullShare} f

/-- The update's arguments, as launched, and its results at contents `g`, `d`, `mu`, `nu`. -/
def upd (c : Dev nD) (g : Buf (Elt F) ((c : Thread nD τ).loc main_v2_0)) (d : Buf (Elt F) ((c : Thread nD τ).loc main_v2_1))
    (mu : Buf (Elt F) ((c : Thread nD τ).loc main_v2_2)) (nu : Buf (Elt F) ((c : Thread nD τ).loc main_v2_3)) : sProp 𝕄 :=
  iprop(at' c main_arg1 (m ((c : Thread nD τ).loc main_arg1)) ∗ at' c main_arg2 (m ((c : Thread nD τ).loc main_arg2))
    ∗ at' c main_arg3 (m ((c : Thread nD τ).loc main_arg3)) ∗ at' c main_v2_0 g ∗ at' c main_v2_1 d ∗ at' c main_v2_2 mu ∗ at' c main_v2_3 nu)

/-- Those, as launched, -/
def updIn (c : Dev nD) : sProp 𝕄 :=
  upd m c (m ((c : Thread nD τ).loc main_v2_0)) (m ((c : Thread nD τ).loc main_v2_1)) (m ((c : Thread nD τ).loc main_v2_2)) (m ((c : Thread nD τ).loc main_v2_3))

/-- and as the update leaves them. -/
def updOut (c : Dev nD) : sProp 𝕄 := upd m c (outG m c) (outD m c) (outM m c) (outV m c)

/-- A device keeps its blocks, its own slot and the update's arrays. -/
def Keep (c : Dev nD) : sProp 𝕄 :=
  iprop(at' c main_arg0 (m ((c : Thread nD τ).loc main_arg0)) ∗ slot c c (m ((c : Thread nD τ).loc main_v1)) ∗ updIn m c)

/-- It gives up its peers' slots, each to its peer. -/
def Give (k : Fin 7) (c : Dev nD) : sProp 𝕄 := slot c (peer k c) (m ((c : Thread nD τ).loc main_v1))

/-- After the exchange it has its blocks and the received slots, -/
def Mid (c : Dev nD) : sProp 𝕄 := iprop(at' c main_arg0 (m ((c : Thread nD τ).loc main_arg0)) ∗ at' c main_v1 (res m c))

/-- and it ends with its arguments and the update's results. -/
def Fin' (c : Dev nD) : sProp 𝕄 := iprop(at' c main_arg0 (m ((c : Thread nD τ).loc main_arg0)) ∗ updOut m c)

theorem keep_intro (c : Dev nD) :
    (unscopedBufs c (fun b => m ((c.tc : Thread nD τ).loc b)) : sProp 𝕄) ⊢ iprop(Keep m c ∗ bigSep Finset.univ fun k => Give m k c) := by
  rw [Pipeline.unscopedBufs_split (cfgs) 0 winFacts0.arr_unscoped winFacts0.arr_inj c, bigSep_none]
  show iprop(emp ∗ Pipeline.unscopedRest cfg0.spec c _) ⊢ _
  rw [unscopedRest0_eq, slots_eq c]
  unfold Keep Give updIn upd
  iintro ⟨-, H0, H1, H2, H3, ⟨Hh, Hp⟩, Hr⟩
  isplitr [Hp]
  · isplitl [H0]; · iexact H0
    isplitl [Hh]; · iexact Hh
    isplitl [H1]; · iexact H1
    isplitl [H2]; · iexact H2
    isplitl [H3]; · iexact H3
    iexact Hr
  iexact Hp

/-- From what the launch leaves a device with to what the exchange's body starts with. -/
theorem bodyIn_intro (c : Dev nD) :
    iprop((at' c main_arg0 (m ((c : Thread nD τ).loc main_arg0)) ∗ slot c c (m ((c : Thread nD τ).loc main_v1)))
      ∗ (bigSep Finset.univ fun k => Give m k (peer k c)) ∗ (∃ K, (X m).records K ∗ (X m).hand c)
      ∗ bigSep Finset.univ fun k => cred (tallyAt ((X m).cell c (.recv k)) () (X m).units)) ⊢ iprop(∃ K, bodyIn m K c) := by
  have hloan (k : Fin 7) : iprop(part m c (peer k c) ∗ Give m k (peer k c) ∗ dutyTok ER ((X m).cell c (.send k)) 0 ()
      ∗ dutyTok ER ((X m).cell ((X m).peer k c) (.recv k)) 0 ()) ⊢ loan m k c := by
    unfold loan Give
    rw [peer_peer]
    iintro ⟨Hs, Hg, Ht, Hr⟩
    isplitl [Hs]; · iexact Hs
    isplitl [Hg]; · iexists _; iexact Hg
    isplitl [Ht]; · iexact Ht
    iexact Hr
  have hloans : iprop((bigSep Finset.univ fun k => part m c (peer k c)) ∗ (bigSep Finset.univ fun k => Give m k (peer k c))
      ∗ (bigSep Finset.univ fun k => dutyTok ER ((X m).cell c (.send k)) 0 ())
      ∗ bigSep Finset.univ fun k => dutyTok ER ((X m).cell ((X m).peer k c) (.recv k)) 0 ()) ⊢ bigSep Finset.univ fun k => loan m k c := by
    rw [← bigSep_sep', ← bigSep_sep', ← bigSep_sep']
    exact bigSep_mono fun k _ => hloan k
  unfold at' Exchange.hand
  rw [parts_eq m c]
  iintro ⟨⟨⟨Hd, Hs⟩, Hh⟩, Hg, ⟨%K, #HR, Ha, Hts, Htr, Hth⟩, Hc⟩
  iexists K
  unfold bodyIn loanHere
  isplitr; · iexact HR
  isplitl [Hs Hg Hts Htr]
  · iapply hloans
    isplitl [Hs]; · iexact Hs
    isplitl [Hg]; · iexact Hg
    isplitl [Hts]; · iexact Hts
    iexact Htr
  isplitl [Hd Hh Hth]
  · isplitl [Hd]; · iexact Hd
    isplitl [Hh]; · iexists _; iexact Hh
    iexact Hth
  isplitl [Hc]; · iexact Hc
  iexact Ha

/-- From what the body ends with to the blocks and the received slots, whole again, and the counters at zero. -/
theorem bodyOut_elim (c : Dev nD) :
    bodyOut m c ⊢ iprop(Mid m c ∗ bigSep Finset.univ fun κ => semVal ((X m).cell c κ) 0) := by
  unfold bodyOut
  rw [bigSep_sep', bigSep_kinds (fun κ => (X m).pay κ c)]
  show iprop((((bigSep Finset.univ fun k => part m c (peer k c)) ∗ bigSep Finset.univ fun k => slot c (peer k c) (res m c))
    ∗ slot c c (res m c) ∗ part m c c) ∗ bigSep Finset.univ fun κ => semVal ((X m).cell c κ) 0) ⊢ _
  unfold Mid at'
  rw [slots_eq c, parts_eq m c]
  iintro ⟨⟨⟨Hs, Hp⟩, Hh, Hd⟩, Hz⟩
  isplitr [Hz]
  · isplitl [Hs Hd]
    · isplitl [Hd]; · iexact Hd
      iexact Hs
    isplitl [Hh]; · iexact Hh
    iexact Hp
  iexact Hz

/-! ## The update's call -/

/-- The update's arrays, whole, at any contents; -/
theorem arrays_at (c : Dev nD) (G : (w : Fin cfg1.W) → Buf (Elt F) ((cfg1.win w).arr.view.loc (c.tc : Thread nD τ))) :
    (datU m c).arrays G = iprop(at' c main_v1 (G 0) ∗ at' c main_arg1 (G 1) ∗ at' c main_arg2 (G 2) ∗ at' c main_arg3 (G 3)
      ∗ at' c main_v2_0 (G 4) ∗ at' c main_v2_1 (G 5) ∗ at' c main_v2_2 (G 6) ∗ at' c main_v2_3 (G 7)) := by
  have h : (datU m c).arrays G = bigSep Finset.univ fun w : Fin cfg1.W => ((cfg1.win w).arr.view.loc (c.tc : Thread nD τ) ↦{fullShare} G w : sProp 𝕄) := by
    unfold Dat.arrays
    exact bigSep_congr fun w _ => by rw [(arr_whole1 w).set_eq_univ, (datU m c).share_full fun _ => rfl]
  exact h.trans (bigSep_W1 _)

/-- at its start -/
theorem arrays_in (c : Dev nD) : (datU m c).arrays ((datU m c).arrAt · 0) = iprop(at' c main_v1 (res m c) ∗ updIn m c) :=
  arrays_at m c _

/-- and at its end. -/
theorem arrays_out (c : Dev nD) : (datU m c).arrays ((datU m c).arrAt · cfg1.N) = iprop(at' c main_v1 (res m c) ∗ updOut m c) := by
  rw [arrays_at]
  rw [(datU m c).arrAt_in 0 rfl, (datU m c).arrAt_in 1 rfl, (datU m c).arrAt_in 2 rfl, (datU m c).arrAt_in 3 rfl,
    final_4, final_5, final_6, final_7]
  rfl

/-- What the update's call is entered with, beside the core's debts, -/
def regIn (c : Dev nD) : sProp 𝕄 := iprop(at' c main_v1 (res m c) ∗ updIn m c)

/-- and left with. -/
def regOut (c : Dev nD) : sProp 𝕄 := iprop(at' c main_v1 (res m c) ∗ updOut m c)

/-- A device with no debt. -/
def clear (c : Dev nD) : sProp 𝕄 := iprop(∃ W, owes (c.tc : Thread nD τ) (0 : CellTallies nD τ sig Unit) W)

set_option backward.isDefEq.respectTransparency.types false in
/-- The update's call: entered with its arrays, left with them, the results written. -/
def region : Pipeline.RegionSeg (pcfgs (F := F)) (fun p => (cfgs p).toPCfg_adm) (dats m) () defs₀ 𝒱₀ Exchange.L Exchange.lv 1 where
  win := winFacts1.to₀
  block_pos := block_pos1
  stage_whole := stage_whole1
  K := PEmpty
  osem k := k.elim
  ho := Pipeline.OwnSemFacts.none _
  hbody c := (update_obligation m c).loose
  hwaits := Pipeline.hwaits_of_owed_zero _ _ _ _ Exchange.L Exchange.lv 1 fun _ _ => rfl
  pre c := iprop(regIn m c ∗ clear c)
  post c := iprop(regOut m c ∗ clear c)
  X _ := BI.emp
  Y _ := BI.emp
  Z _ := BI.emp
  hentry c := by
    rw [Pipeline.ownSems0_none]
    show _ ⊢ |={Set.univ}=> iprop((datU m c).arrays ((datU m c).arrAt · 0) ∗ _)
    rw [arrays_in]
    unfold regIn clear
    iintro ⟨⟨Ha, ⟨%W, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      iexists W; isplitr; · ipureintro; exact fun _ _ => Or.inl trivial
      iexact HO
    isplitr <;> iempintro
  hin c := by
    show iprop(BI.emp ∗ _ ∗ Pipeline.scopedRest spec1 c) ⊢ BI.emp
    rw [scopedRest1_eq]
    iintro -
    iempintro
  hout c := by
    rw [Pipeline.ownSems0_none]
    show BI.emp ⊢ iprop(BI.emp ∗ BI.emp ∗ Pipeline.scopedRest spec1 c)
    rw [scopedRest1_eq]
    iintro -
    isplitr; · iempintro
    isplitr <;> iempintro
  hexit c := by
    show iprop((datU m c).arrays ((datU m c).arrAt · cfg1.N) ∗ _) ⊢ _
    rw [arrays_out]
    unfold regOut clear Dat.owesAt Pipeline.owesWithin
    iintro ⟨Ha, ⟨%W, -, HO⟩, -, -⟩
    imodintro
    isplitl [Ha]; · iexact Ha
    iexists W
    iexact HO

/-! ## The run -/

/-- The exchange's counters are the kernel's own. -/
theorem ownSemFacts₀ : Pipeline.OwnSemFacts cfg0.spec osem := by decide

theorem ownSemFacts : Pipeline.OwnSemFacts (pcfgs (F := F) 0).spec (X m).osem := ownSemFacts₀

/-- What a device ends the program with. -/
def Post (c : Dev nD) : sProp 𝕄 :=
  iprop((Fin' m c ∗ boundary (c.tc : Thread nD τ)) ∗ ∃ W, owes (c.tc : Thread nD τ) (0 : CellTallies nD τ sig Unit) W)

/-- The update's call on one device, to the end of the program. -/
theorem update_run (c : Dev nD) :
    iprop(boundary (c.tc : Thread nD τ) ∗ (regIn m c ∗ clear c) ∗ at' c main_arg0 (m ((c : Thread nD τ).loc main_arg0)) ∗ levAts Exchange.L Exchange.lv
        ∗ Pipeline.cellsGhost (Pipeline.pin (pcfgs (F := F)) fun p => (cfgs p).toPCfg_adm) EP 1 c
        ∗ Pipeline.toksInit (Pipeline.pin (pcfgs (F := F)) fun p => (cfgs p).toPCfg_adm) EP 1 c)
      ⊢ wp frame (wpE (defs (F := F)) (Variants.lift 𝒱₀) (c.tc : Thread nD τ) none) Set.univ
          (.op (.customCall (Pipeline.entry 1) ()) fun _ => .ret PUnit.unit) (fun _ => Post m c) := by
  have hcall := Pipeline.RegionSeg.wp pcfgs (fun p => (cfgs p).toPCfg_adm) (dats m) () cellOf_inj EP defs₀ 𝒱₀ Exchange.L Exchange.lv
    (region m) c none (fun u h => nomatch h) (fun _ => .ret PUnit.unit) (fun _ => Post m c)
  refine BIBase.Entails.trans ?_ hcall
  show _ ⊢ iprop((iprop(boundary (c.tc : Thread nD τ) ∗ (regOut m c ∗ clear c)) -∗ _) ∗ boundary (c.tc : Thread nD τ) ∗ (regIn m c ∗ clear c) ∗ _)
  iintro ⟨Hb, Hin, H0, HL, HG, HT⟩
  isplitl [H0]
  · unfold regOut clear Post Fin'
    iintro ⟨Hb, ⟨-, Ho⟩, HO⟩
    rw [wp_ret]
    imodintro
    isplitr [HO]
    · isplitr [Hb]
      · isplitl [H0]; · iexact H0
        iexact Ho
      iexact Hb
    iexact HO
  isplitl [Hb]; · iexact Hb
  isplitl [Hin]; · iexact Hin
  isplitl [HL]; · iexact HL
  isplitl [HG]; · iexact HG
  iexact HT

/-- One device's run of the program. -/
theorem main_run (c : Dev nD) :
    iprop(boundaryBut (X m) pcfgs (fun p => (cfgs p).toPCfg_adm) cellOf_inj 0 (ownSemFacts m) c ∗ Keep m c ∗ (bigSep Finset.univ fun k => Give m k ((X m).peer k c))
        ∗ (∃ K, (X m).records K ∗ (X m).hand c) ∗ (bigSep Finset.univ fun k => cred (tallyAt ((X m).cell c (.recv k)) () (X m).units))
        ∗ owes (c.tc : Thread nD τ) ((X m).debts c) ∅ ∗ levAts Exchange.L Exchange.lv
        ∗ (bigSep Finset.univ fun p => Pipeline.cellsGhost (Pipeline.pin (pcfgs (F := F)) fun p => (cfgs p).toPCfg_adm) EP p c)
        ∗ bigSep Finset.univ fun p => Pipeline.toksInit (Pipeline.pin (pcfgs (F := F)) fun p => (cfgs p).toPCfg_adm) EP p c)
      ⊢ wp frame (wpE (defs (F := F)) (Variants.lift 𝒱₀) (c.tc : Thread nD τ) none) Set.univ (main c)
          (fun _ => Post m c) := by
  have hcall := wp_exchange (X m) pcfgs (fun p => (cfgs p).toPCfg_adm) (dats m) cellOf_inj defs₀ 𝒱₀ 0 (ownSemFacts m) winFacts0.to₀ block_pos0 stage_whole0
    (fun c => (exchange_obligation m c).loose) c (A := iprop(∃ K, bodyIn m K c)) (B := Mid m c)
    (by
      show iprop((∃ K, bodyIn m K c) ∗ _ ∗ idle c) ⊢ iprop((∃ K, bodyIn m K c) ∗ idle c)
      iintro ⟨H, -, Hi⟩
      isplitl [H]; · iexact H
      iexact Hi)
    (by
      show iprop(bodyOut m c ∗ idle c) ⊢ iprop(Mid m c ∗ (bigSep Finset.univ fun κ => semVal ((X m).cell c κ) 0) ∗ idle c)
      iintro ⟨H, Hi⟩
      ihave H := (bodyOut_elim m c) $$ H
      icases H with ⟨H, Hz⟩
      isplitl [H]; · iexact H
      isplitl [Hz]; · iexact Hz
      iexact Hi)
    (fun _ => .op (.customCall (Pipeline.entry 1) ()) fun _ => .ret PUnit.unit)
    (fun _ => Post m c)
  have hpf : (Pipeline.prefHeld (pcfgs (F := F) 0).pre c (fun _ => fullShare) ((cfgs 0).toPCfg_adm).1 : sProp 𝕄) = iprop(emp) := BI.bigSep_empty
  have harr (t : ℕ) : (dats m 0 c).arrays ((dats m 0 c).arrAt · t) = iprop(emp) := BI.bigSep_empty
  have hw : Pipeline.cellsWaits (Pipeline.pin (pcfgs (F := F)) fun p => (cfgs p).toPCfg_adm) (dats m) () 0 c = iprop(emp) := BI.bigSep_empty
  have htwo (Ψ : Fin 2 → sProp 𝕄) : bigSep Finset.univ Ψ = iprop(Ψ 0 ∗ Ψ 1) :=
    bigSep_univ_eq_bigSepL [0, 1] (by decide) (by decide) Ψ
  rw [htwo, htwo, main_chain c]
  refine BIBase.Entails.trans ?_ hcall
  rw [hpf, hw]
  erw [harr]
  unfold Keep
  iintro ⟨Hb, ⟨H0, Hs, Hu⟩, Hg, Hh, Hc, HO, HL, ⟨HG, HG'⟩, HT, HT'⟩
  isplitr [Hb H0 Hs Hg Hh Hc HO HG HT]
  · iintro ⟨Hb, -, HO, HM⟩
    unfold Mid
    icases HM with ⟨H0, Hv⟩
    iapply (update_run m c)
    isplitl [Hb]; · iexact Hb
    isplitl [Hv Hu HO]
    · unfold regIn clear Dat.owesAt Pipeline.owesWithin
      isplitl [Hv Hu]
      · isplitl [Hv]; · iexact Hv
        iexact Hu
      icases HO with ⟨%W, -, HO⟩
      iexists W
      iexact HO
    isplitl [H0]; · iexact H0
    isplitl [HL]; · iexact HL
    isplitl [HG']; · iexact HG'
    iexact HT'
  isplitl [Hb]; · iexact Hb
  isplitr; · iempintro
  isplitr; · iempintro
  isplitl [HO]
  · unfold Dat.owesAt Pipeline.owesWithin
    iexists ∅
    isplitr; · ipureintro; rw [Finset.coe_empty]; exact Set.empty_subset _
    iexact HO
  isplitl [H0 Hs Hg Hh Hc]
  · iapply (bodyIn_intro m c)
    isplitl [H0 Hs]
    · isplitl [H0]; · iexact H0
      iexact Hs
    isplitl [Hg]; · iexact Hg
    isplitl [Hh]; · iexact Hh
    iexact Hc
  isplitr; · iempintro
  isplitl [HG]; · iexact HG
  iexact HT

/-- What memory `s` holds on device `c` at the end. -/
def Ends (c : Dev nD) (s : MemSt nD τ sig (Elt F)) : Prop :=
  s.mem ((Dev.tc c : Thread nD τ).loc main_arg0) = m ((Dev.tc c : Thread nD τ).loc main_arg0)
        ∧ s.mem ((Dev.tc c : Thread nD τ).loc main_arg1) = m ((Dev.tc c : Thread nD τ).loc main_arg1)
        ∧ s.mem ((Dev.tc c : Thread nD τ).loc main_arg2) = m ((Dev.tc c : Thread nD τ).loc main_arg2)
        ∧ s.mem ((Dev.tc c : Thread nD τ).loc main_arg3) = m ((Dev.tc c : Thread nD τ).loc main_arg3)
        ∧ s.mem ((Dev.tc c : Thread nD τ).loc main_v2_0) = outG m c
        ∧ s.mem ((Dev.tc c : Thread nD τ).loc main_v2_1) = outD m c
        ∧ s.mem ((Dev.tc c : Thread nD τ).loc main_v2_2) = outM m c
        ∧ s.mem ((Dev.tc c : Thread nD τ).loc main_v2_3) = outV m c

/-- The program's run over any float values: on every device the arguments unchanged, the update's results in theirs, and
    every counter at zero. -/
theorem run_main (g : Dev nD → PrngReg) :
    θ_run (defs (F := F)) (onTc main) ⟨m, fun _ => 0, g⟩ (fun r => (∀ c : Dev nD, Ends m c r.2) ∧ r.2.sem = fun _ => 0) := by
  refine launch_exchange (X m) pcfgs (fun p => (cfgs p).toPCfg_adm) cellOf_inj defs₀ 𝒱₀ 0 (ownSemFacts m) winFacts0.to₀ m g main
    (Keep m) (Give m) (keep_intro m) (Fin' m) (main_run m) (Ends m) (fun c s' => ?_)
    (fun s h hs => ⟨fun c => h c, sem_eq_zero_of_scoped (by decide) hs⟩)
  unfold Fin' updOut upd
  iintro ⟨⟨H0, H1, H2, H3, H4, H5, H6, H7⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  imodintro
  isplitr [HSI]
  · ipureintro
    exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩
  iexact HSI

end Cert.Proof.AllToAll

end
-- ==== Proof.AllToAll.Value.lean ====
/-
  The claims of the all-to-all and the update. In exact arithmetic a device's sum over the eight received blocks is its rows
  of the reference's sum over the eight groups (`grad_eq`), and the moments and the step are the reference's, element by
  element: so every device ends with its rows of the reference's four results.
-/
module

public import proofs.«01_k».proof.Defs
public import proofs.«01_k».proof.Proof.AllToAll.Run
public import proofs.«01_k».proof.Proof.Gen.Kernel
public import proofs.«01_k».proof.Proof.Gen.ReferenceIdeal.Run
public import Idealize.ShloMosaic.Lib.IdealHost
public import Idealize.ShloMosaic.Lib.Pointwise.Reduce

@[expose] public section

noncomputable section

namespace Cert.Proof.AllToAll

open Cert.KernelIdeal
open Idealize.ShloMosaic Idealize.ShloMosaic.TcCoe Idealize.SL.Sem

/-- A device's rows of an array of eight devices' rows, -/
abbrev Rows : Shape := ⟨2, ![1184, 1024]⟩
/-- and the whole array; -/
abbrev All : Shape := ⟨2, ![9472, 1024]⟩
/-- the eight devices' blocks of partial gradients, stacked, -/
abbrev Stack : Shape := ⟨3, ![64, 1184, 1024]⟩
/-- and the same grouped by the device that computed them. -/
abbrev Groups : Shape := ⟨3, ![8, 9472, 1024]⟩

/-- Device `c`'s rows of `v`. -/
abbrev rows {α : Type} (c : Fin 8) (v : All.Idx → α) : Rows.Idx → α := Layout.block Rows All 0 8 c v

/-! ## The reference's results -/

section

variable (A : FVec Ideal Stack .f32) (w mu nu : FVec Ideal All .f32)

/-- The sum over the groups. -/
def refG : FVec Ideal All .f32 :=
  Host.reduceAdd (shapeCast Groups A (by decide)) (constant ⟨0, ![]⟩ .f32 0x00000000#32) (by decide : Groups.ReducesTo [0] All) (by decide)

/-- Row `r` of device `c`'s rows, in group `k`, is row `r` of block `8 k + c`. -/
theorem group_eq (c k : Fin 8) (i : Rows.Idx) (h : Stack.ShapeCasts Groups) (j : Groups.Idx)
    (h0 : (j 0).val = k.val) (h1 : (j 1).val = c.val * 1184 + (i 0).val) (h2 : (j 2).val = (i 1).val) :
    shapeCast Groups A h j = Layout.block ⟨3, ![8, 1184, 1024]⟩ Stack 0 8 k A (by decide) (inSlot (R := 1184) (C := 1024) c i) := by
  show A (Shape.reshapeEquiv h j) = A _
  refine congrArg A (Shape.reshapeEquiv_eq_of_rowMajor h ?_)
  rw [Shape.rowMajor_val_three, Shape.rowMajor_val_three]
  show ((k.val * 8 + c.val) * 1184 + (i 0).val) * 1024 + (i 1).val = ((j 0).val * 9472 + (j 1).val) * 1024 + (j 2).val
  rw [h0, h1, h2]
  omega

/-- Device `c`'s rows of the sum over the groups, element by element. -/
theorem refG_rows (c : Fin 8) (i : Rows.Idx) :
    rows c (refG A) i = ∑ k : Fin 8, Layout.block ⟨3, ![8, 1184, 1024]⟩ Stack 0 8 k A (by decide) (inSlot (R := 1184) (C := 1024) c i) := by
  show Host.reduceAdd _ _ _ _ _ = _
  rw [ValueIdx.hostReduceAdd_apply, Ideal.hostReduceAdd_r3_a0]
  show Ideal.ofBits .f32 0x00000000#32 + _ = _
  rw [Ideal.ofBits_zero_f32, zero_add]
  exact Finset.sum_congr rfl fun k _ => group_eq A c k i (by decide) _ rfl rfl rfl

end

/-! ## A device's results are its rows of the reference's -/

section

variable (m : (ℓ : Loc nD τ sig) → Buf (Elt Ideal) ℓ) (A : FVec Ideal Stack .f32) (w mu nu : FVec Ideal All .f32)

theorem grad_eq (h0 : ∀ c : Dev nD, m ((Dev.tc c : Thread nD τ).loc main_arg0) = Layout.block ⟨3, ![8, 1184, 1024]⟩ ⟨3, ![64, 1184, 1024]⟩ 0 8 c A)
    (c : Dev nD) : outG m c = rows c (refG A) := by
  funext i
  rw [refG_rows, Fin.sum_univ_eight]
  have hk (k : Fin 8) : planes (res m c) k i = Layout.block ⟨3, ![8, 1184, 1024]⟩ Stack 0 8 k A (by decide) (inSlot (R := 1184) (C := 1024) c i) :=
    congrFun (h0 k) _
  rw [← hk 0, ← hk 1, ← hk 2, ← hk 3, ← hk 4, ← hk 5, ← hk 6, ← hk 7]
  rfl

/-- The moments and the step, of the rows, are the rows of the moments and the step. -/
theorem newM_rows (g : FVec Ideal All .f32) (c : Fin 8) : newM (s := Rows) (rows c g) (rows c mu) = rows c (newM g mu) := rfl
theorem newV_rows (g : FVec Ideal All .f32) (c : Fin 8) : newV (s := Rows) (rows c g) (rows c nu) = rows c (newV g nu) := rfl
theorem step_rows (g : FVec Ideal All .f32) (c : Fin 8) :
    step (s := Rows) (rows c g) (rows c w) (rows c mu) (rows c nu) = rows c (step g w mu nu) := rfl

end

/-! ## The claims -/

/-- The two kernels' bodies are the same text: label by label, -/
theorem bodies_eq : Cert.Kernel.defs₀ (F := Bits) = Cert.KernelIdeal.defs₀ := by
  funext p l a
  match p with
  | .tc =>
    match l, a with
    | ⟨0, _⟩, (_, _) => rfl
    | ⟨1, _⟩, (_, _) => rfl
  | .scScalar _ => rfl
  | .scVector _ _ => rfl

theorem defs_eq : Cert.Kernel.defs (F := Bits) = Cert.KernelIdeal.defs := by
  show Pipeline.defs Cert.KernelIdeal.pcfgs (Cert.Kernel.defs₀ (F := Bits)) = Pipeline.defs Cert.KernelIdeal.pcfgs Cert.KernelIdeal.defs₀
  rw [bodies_eq]

/-- so a run of the one is a run of the other. -/
theorem run_kernel (s : MemSt nD τ sig (Elt Bits)) (Q : PUnit × MemSt nD τ sig (Elt Bits) → Prop)
    (h : θ_run (Cert.KernelIdeal.defs (F := Bits)) (onTc Cert.KernelIdeal.main) s Q) :
    θ_run (Cert.Kernel.defs (F := Bits)) (onTc Cert.Kernel.main) s Q := by
  show θ_run (Cert.Kernel.defs (F := Bits)) (onTc Cert.KernelIdeal.main) s Q
  rw [defs_eq]
  exact h

theorem frame_kernel : Cert.quiescent_Kernel (hKernel := Cert.Kernel.Gen.facts) := fun m g _ =>
  run_kernel _ _ ((θ_run Cert.KernelIdeal.defs _ _).mono (fun _ h => ⟨fun c => ⟨(h.1 c).1, (h.1 c).2.1, (h.1 c).2.2.1, (h.1 c).2.2.2.1⟩, h.2⟩)
    (run_main (F := Bits) m g))

theorem frame_kernelIdeal : Cert.quiescent_KernelIdeal (hKernelIdeal := Cert.KernelIdeal.Gen.facts) := fun m g _ =>
  (θ_run Cert.KernelIdeal.defs _ _).mono (fun _ h => ⟨fun c => ⟨(h.1 c).1, (h.1 c).2.1, (h.1 c).2.2.1, (h.1 c).2.2.2.1⟩, h.2⟩)
    (run_main (F := Ideal) m g)

theorem frame_referenceIdeal : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run m g)

/-- What the reference's run ends with. -/
theorem reference_run (m' : (ℓ : Loc Cert.ReferenceIdeal.nD Cert.ReferenceIdeal.τ Cert.ReferenceIdeal.sig) → Buf (Elt Ideal) ℓ)
    (g' : Dev Cert.ReferenceIdeal.nD → PrngReg) (A : FVec Ideal Stack .f32) (w mu nu : FVec Ideal All .f32)
    (hA : m' ((Dev.tc (0 : Dev Cert.ReferenceIdeal.nD) : Thread Cert.ReferenceIdeal.nD Cert.ReferenceIdeal.τ).loc Cert.ReferenceIdeal.main_arg0) = A)
    (hw : m' ((Dev.tc (0 : Dev Cert.ReferenceIdeal.nD) : Thread Cert.ReferenceIdeal.nD Cert.ReferenceIdeal.τ).loc Cert.ReferenceIdeal.main_arg1) = w)
    (hmu : m' ((Dev.tc (0 : Dev Cert.ReferenceIdeal.nD) : Thread Cert.ReferenceIdeal.nD Cert.ReferenceIdeal.τ).loc Cert.ReferenceIdeal.main_arg2) = mu)
    (hnu : m' ((Dev.tc (0 : Dev Cert.ReferenceIdeal.nD) : Thread Cert.ReferenceIdeal.nD Cert.ReferenceIdeal.τ).loc Cert.ReferenceIdeal.main_arg3) = nu) :
    θ_run (Cert.ReferenceIdeal.defs (F := Ideal)) (onTc Cert.ReferenceIdeal.main) ⟨m', fun _ => 0, g'⟩ (fun r =>
      r.2.mem ((Dev.tc (0 : Dev Cert.ReferenceIdeal.nD) : Thread Cert.ReferenceIdeal.nD Cert.ReferenceIdeal.τ).loc Cert.ReferenceIdeal.main_v1) = refG A
      ∧ r.2.mem ((Dev.tc (0 : Dev Cert.ReferenceIdeal.nD) : Thread Cert.ReferenceIdeal.nD Cert.ReferenceIdeal.τ).loc Cert.ReferenceIdeal.main_v25) = step (refG A) w mu nu
      ∧ r.2.mem ((Dev.tc (0 : Dev Cert.ReferenceIdeal.nD) : Thread Cert.ReferenceIdeal.nD Cert.ReferenceIdeal.τ).loc Cert.ReferenceIdeal.main_v6) = newM (refG A) mu
      ∧ r.2.mem ((Dev.tc (0 : Dev Cert.ReferenceIdeal.nD) : Thread Cert.ReferenceIdeal.nD Cert.ReferenceIdeal.τ).loc Cert.ReferenceIdeal.main_v12) = newV (refG A) nu
      ∧ r.2.mem ((Dev.tc (0 : Dev Cert.ReferenceIdeal.nD) : Thread Cert.ReferenceIdeal.nD Cert.ReferenceIdeal.τ).loc Cert.ReferenceIdeal.main_arg0) = A
      ∧ r.2.mem ((Dev.tc (0 : Dev Cert.ReferenceIdeal.nD) : Thread Cert.ReferenceIdeal.nD Cert.ReferenceIdeal.τ).loc Cert.ReferenceIdeal.main_arg1) = w
      ∧ r.2.mem ((Dev.tc (0 : Dev Cert.ReferenceIdeal.nD) : Thread Cert.ReferenceIdeal.nD Cert.ReferenceIdeal.τ).loc Cert.ReferenceIdeal.main_arg2) = mu
      ∧ r.2.mem ((Dev.tc (0 : Dev Cert.ReferenceIdeal.nD) : Thread Cert.ReferenceIdeal.nD Cert.ReferenceIdeal.τ).loc Cert.ReferenceIdeal.main_arg3) = nu) := by
  subst hA hw hmu hnu
  refine (θ_run Cert.ReferenceIdeal.defs _ _).mono (fun r h => ?_) (Cert.ReferenceIdeal.Value.run m' g')
  obtain ⟨h1, h25, h6, h12, hr⟩ := h 0
  exact ⟨h1.trans rfl, h25.trans rfl, h6.trans rfl, h12.trans rfl, hr⟩

theorem algebraic_kernel : Cert.algebraic_KernelIdeal_ReferenceIdeal (hKernelIdeal := Cert.KernelIdeal.Gen.facts)
    (hReferenceIdeal := Cert.ReferenceIdeal.Gen.facts) := fun m g m' g' _ hm => by
  have hG (c : Dev nD) := grad_eq m _ (fun c => (hm c).1) c
  refine ⟨_, _, _, _, (θ_run Cert.KernelIdeal.defs _ _).mono (fun r h c => ?_) (run_main (F := Ideal) m g),
    reference_run m' g' _ _ _ _ rfl rfl rfl rfl⟩
  obtain ⟨k0, k1, k2, k3, kg, kd, km, kv⟩ := h.1 c
  obtain ⟨-, hw, hmu, hnu⟩ := hm c
  refine ⟨kg.trans (hG c), kd.trans ?_, km.trans ?_, kv.trans ?_, k0, k1, k2, k3⟩
  · unfold outD
    rw [hG c, hw, hmu, hnu]
    exact step_rows _ _ _ _ c
  · unfold outM
    rw [hG c, hmu]
    exact newM_rows _ _ c
  · unfold outV
    rw [hG c, hnu]
    exact newV_rows _ _ c

end Cert.Proof.AllToAll

end
-- ==== Proof.Consts.lean ====
/- The float constants that the programs spell, as the extended reals their patterns denote, and the facts about a scaled sum of
   squares plus a positive constant which the two gradient formulas share. -/
module

public import Idealize.ShloMosaic.PureOps.Ideal

@[expose] public section

noncomputable section

namespace Cert.Proof.Consts

open Idealize.ShloMosaic

/-- The width of a row, as both programs divide by it. -/
theorem ofBits_width : Ideal.ofBits .f32 0x44800000#32 = ((1024 : ℝ) : EReal) := by
  simp [Ideal.ofBits, Ideal.ieee, -EReal.coe_mul]; norm_num

/-- The reference's factor of the derivative of an inverse square root. -/
theorem ofBits_neg_half : Ideal.ofBits .f32 0xBF000000#32 = ((-(1 / 2) : ℝ) : EReal) := by
  simp [Ideal.ofBits, Ideal.ieee, -EReal.coe_mul]; norm_num

/-- The constant added to a mean of squares is a positive real. -/
theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The factor of the loss's total. -/
theorem ofBits_loss_scale : Ideal.ofBits .f32 0x3A000000#32 = ((1 / 2048 : ℝ) : EReal) := by
  simp [Ideal.ofBits, Ideal.ieee, -EReal.coe_mul]; norm_num

/-- The factor of the loss's differences. -/
theorem ofBits_loss_diff : Ideal.ofBits .f32 0x3A800000#32 = ((1 / 1024 : ℝ) : EReal) := by
  simp [Ideal.ofBits, Ideal.ieee, -EReal.coe_mul]; norm_num

/-- The mask of the reference's scores, from which a largest value is taken too. -/
theorem ofBits_neg_inf : Ideal.ofBits .f32 0xFF800000#32 = ⊥ := by simp [Ideal.ofBits, Ideal.ieee]

/-- One half. -/
theorem ofBits_half : Ideal.ofBits .f32 0x3F000000#32 = ((1 / 2 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- The width of a head of queries, in use. -/
theorem ofBits_head : Ideal.ofBits .f32 0x42C00000#32 = ((96 : ℝ) : EReal) := by
  simp [Ideal.ofBits, Ideal.ieee, -EReal.coe_mul]; norm_num

end Cert.Proof.Consts

end
-- ==== Proof.Grad.Scalar.lean ====
/- The derivative of the normalization of one row, at one place: the kernel's closed form against the sum of the
   reference's two equal terms. Both hold on the extended reals with no assumption on the entries: a mean of squares
   is never negative, so with the positive constant it is either `⊤`, where both forms vanish, or a positive real. -/
module

public import proofs.«01_k».proof.Proof.Consts

@[expose] public section

noncomputable section

namespace Cert.Proof.Grad

open Idealize.ShloMosaic

/-- A mean of squares plus the constant: `⊤`, or a positive real. -/
theorem mean_sq {n : ℕ} (x : Fin n → EReal) :
    Ideal.div (∑ k, x k * x k) ((1024 : ℝ) : EReal) + Ideal.ofBits .f32 0x358637BD#32 = ⊤
      ∨ ∃ q : ℝ, 0 < q
        ∧ Ideal.div (∑ k, x k * x k) ((1024 : ℝ) : EReal) + Ideal.ofBits .f32 0x358637BD#32 = (q : EReal) := by
  obtain ⟨e, he, hee⟩ := Consts.ofBits_eps
  have h0 : (0 : EReal) ≤ ∑ k, x k * x k := Finset.sum_nonneg fun k _ => by
    rcases le_total 0 (x k) with h | h
    · exact mul_nonneg h h
    · exact EReal.mul_nonneg_iff.mpr (.inr ⟨h, h⟩)
  rw [hee, Ideal.div_coe (by norm_num)]
  generalize (∑ k, x k * x k) = s at h0
  induction s with
  | bot => exact absurd h0 (by simp)
  | top => left; rw [EReal.top_mul_coe_of_pos (by norm_num)]; rfl
  | coe a =>
    right
    refine ⟨a * (1 / 1024) + e, ?_, by push_cast; rfl⟩
    have : (0 : ℝ) ≤ a := by exact_mod_cast h0
    positivity

/-- A real multiple of `a * s` taken off is two halves of it, with the opposite sign, added on. -/
theorem halves (p a s : EReal) (w : ℝ) (hw : 0 < w) :
    p - a * (w : EReal) * (s * ((1 / 1024 : ℝ) : EReal))
      = p + a * (s * (((-(1 / 2) : ℝ) : EReal) * (w : EReal)) * ((1 / 1024 : ℝ) : EReal))
        + s * (((-(1 / 2) : ℝ) : EReal) * (w : EReal)) * ((1 / 1024 : ℝ) : EReal) * a := by
  have e1 : a * (w : EReal) * (s * ((1 / 1024 : ℝ) : EReal)) = a * s * ((w * (1 / 1024) : ℝ) : EReal) := by
    rw [EReal.coe_mul]; ac_rfl
  have e2 : a * (s * (((-(1 / 2) : ℝ) : EReal) * (w : EReal)) * ((1 / 1024 : ℝ) : EReal))
      = a * s * ((-(1 / 2) * w * (1 / 1024) : ℝ) : EReal) := by
    rw [EReal.coe_mul, EReal.coe_mul]; ac_rfl
  have e3 : s * (((-(1 / 2) : ℝ) : EReal) * (w : EReal)) * ((1 / 1024 : ℝ) : EReal) * a
      = a * s * ((-(1 / 2) * w * (1 / 1024) : ℝ) : EReal) := by
    rw [EReal.coe_mul, EReal.coe_mul]; ac_rfl
  rw [e1, e2, e3, sub_eq_add_neg, add_assoc]
  congr 1
  have hpos : 0 < w * (1 / 1024) := by positivity
  have hneg : -(1 / 2) * w * (1 / 1024) < 0 := by nlinarith
  generalize a * s = z
  induction z with
  | bot => rw [EReal.bot_mul_coe_of_pos hpos, EReal.bot_mul_coe_of_neg hneg]; rfl
  | top => rw [EReal.top_mul_coe_of_pos hpos, EReal.top_mul_coe_of_neg hneg]; rfl
  | coe y => norm_cast; ring

/-- The two forms of the derivative with respect to one entry `a` of a row whose mean of squares plus the constant is
    `q`: `u` is the incoming gradient there, `s` the row's sum of entries times incoming gradients. -/
theorem forms (d a u s q : EReal) (hq : q = ⊤ ∨ ∃ r : ℝ, 0 < r ∧ q = (r : EReal)) :
    d + (Ideal.rsqrt q * u - a * (Ideal.rsqrt q * Ideal.rsqrt q * Ideal.rsqrt q) * Ideal.div s ((1024 : ℝ) : EReal))
      = d + (u * Ideal.rsqrt q
          + a * Ideal.div (s * (((-(1 / 2) : ℝ) : EReal) * Ideal.div (Ideal.rsqrt q) q)) ((1024 : ℝ) : EReal)
          + Ideal.div (s * (((-(1 / 2) : ℝ) : EReal) * Ideal.div (Ideal.rsqrt q) q)) ((1024 : ℝ) : EReal) * a) := by
  congr 1
  rcases hq with rfl | ⟨r, hr, rfl⟩
  · have e : Ideal.rsqrt ⊤ = 0 := rfl
    have e' : Ideal.div 0 ⊤ = 0 := by simp [Ideal.div]
    rw [e, e']
    simp [Ideal.div]
  · rw [Ideal.div_coe (by norm_num), Ideal.div_coe (by norm_num), Ideal.div_coe hr.ne', Ideal.rsqrt_coe,
      if_neg (not_lt.mpr hr.le), if_neg hr.ne']
    have hs : Real.sqrt r * Real.sqrt r = r := Real.mul_self_sqrt hr.le
    have hp : 0 < Real.sqrt r := Real.sqrt_pos.mpr hr
    have h3 : (Real.sqrt r)⁻¹ * (Real.sqrt r)⁻¹ * (Real.sqrt r)⁻¹ = (Real.sqrt r)⁻¹ * (1 / r) := by
      rw [← mul_inv, hs, mul_comm, one_div]
    rw [← EReal.coe_mul, ← EReal.coe_mul, h3, ← EReal.coe_mul, mul_comm u]
    exact halves _ a s _ (by positivity)

end Cert.Proof.Grad

end
-- ==== Proof.Grad.Payload.lean ====
/- What one place of the kernel's two results and of the reference's two is, in the entries of its row: the gradient
   with respect to the activations, and the summand of the gradient with respect to the normalization's weights. -/
module

public import proofs.«01_k».proof.Proof.Gen.GradIdeal.Skeleton
public import proofs.«01_k».proof.Proof.Gen.GradReferenceIdeal.Run
public import Idealize.ShloMosaic.Lib.Pointwise
public import proofs.«01_k».proof.Proof.Grad.Scalar

@[expose] public section

noncomputable section

namespace Cert.Proof.Grad

open Idealize.ShloMosaic

/-- The incoming gradient of one normalized and weighted row at place `l`: the row `d` through the projection `W`. -/
def back (d : Fin 3840 → EReal) (W : Fin 3840 → Fin 1024 → EReal) (l : Fin 1024) : EReal := ∑ k, d k * W k l

/-- The row's mean of squares plus the constant. -/
def msq (x : Fin 1024 → EReal) : EReal :=
  Ideal.div (∑ k, x k * x k) (Ideal.ofBits .f32 0x44800000#32) + Ideal.ofBits .f32 0x358637BD#32

/-- The sum over the row of entries times weighted incoming gradients. -/
def corr (d : Fin 3840 → EReal) (W : Fin 3840 → Fin 1024 → EReal) (x g : Fin 1024 → EReal) : EReal :=
  ∑ k, x k * (back d W k * g k)

/-- The gradient with respect to the row's entry `l`, in the kernel's closed form, on top of the residual's `o`. -/
def place (d : Fin 3840 → EReal) (W : Fin 3840 → Fin 1024 → EReal) (x g : Fin 1024 → EReal) (o : EReal)
    (l : Fin 1024) : EReal :=
  o + (Ideal.rsqrt (msq x) * (back d W l * g l)
    - x l * (Ideal.rsqrt (msq x) * Ideal.rsqrt (msq x) * Ideal.rsqrt (msq x))
      * Ideal.div (corr d W x g) (Ideal.ofBits .f32 0x44800000#32))

/-- The row's summand in the gradient with respect to weight `l`. -/
def weigh (d : Fin 3840 → EReal) (W : Fin 3840 → Fin 1024 → EReal) (x : Fin 1024 → EReal) (l : Fin 1024) : EReal :=
  back d W l * (x l * Ideal.rsqrt (msq x))

section Kernel
open Cert.GradIdeal Cert.GradIdeal.Gen

/-- The stored block of activations' gradients, at a place. -/
theorem pay6_apply (v0 : Vec Ideal S256x3840 .bf16) (v1 : Vec Ideal S3840x1024 .bf16) (v3 : Vec Ideal S256x1024 .f32)
    (v12 : Vec Ideal S1x1024 .f32) (v32 : Vec Ideal S256x1024 .f32) (r : Fin 256) (l : Fin 1024) :
    k0_pay6 v0 v1 v3 v12 v32 (ix2 r l)
      = place (fun k => v0 (ix2 r k)) (fun k l => v1 (ix2 k l)) (fun k => v3 (ix2 r k)) (fun k => v12 (ix2 0 k))
        (v32 (ix2 r l)) l := by
  pointwise [k0_pay6, k0_pay4, k0_pay3, dot_S256x3840_S3840x1024_S256x1024_1_0_0_1_n_n]
  rfl

/-- The block's contribution to the weights' gradient, at a place: its rows' summands on top of what was there. -/
theorem pay2_apply (v0 : Vec Ideal S256x3840 .bf16) (v1 : Vec Ideal S3840x1024 .bf16) (v3 : Vec Ideal S256x1024 .f32)
    (v38 : Vec Ideal S1x1024 .f32) (l : Fin 1024) :
    k0_pay2 (k0_pay5 v0 v1 v3) v38 (ix2 0 l)
      = v38 (ix2 0 l)
        + ∑ r, weigh (fun k => v0 (ix2 r k)) (fun k l => v1 (ix2 k l)) (fun k => v3 (ix2 r k)) l := by
  pointwise [k0_pay2, k0_pay5, k0_pay4, k0_pay3, dot_S256x3840_S3840x1024_S256x1024_1_0_0_1_n_n]
  rfl

/-- The accumulator starts at zero. -/
theorem pay1_apply (l : Fin 1024) : (k0_pay1 : FVec Ideal S1x1024 .f32) (ix2 0 l) = 0 := by
  pointwise [k0_pay1]

end Kernel

section Reference
open Cert.GradReferenceIdeal Cert.GradReferenceIdeal.Gen Cert.GradReferenceIdeal.Value

variable (m : (ℓ : Loc nD τ sig) → Buf (Elt Ideal) ℓ) (c : Dev nD)

/-- The reference's gradient with respect to the activations, at a place. -/
theorem ref_apply (r : Fin 8192) (l : Fin 1024) :
    (res_main_v39 m c : Vec Ideal S8192x1024 .f32) (ix2 r l)
      = place (fun k => (m ((c.tc : Thread nD τ).loc main_arg0) : Vec Ideal S8192x3840 .bf16) (ix2 r k))
          (fun k l => (m ((c.tc : Thread nD τ).loc main_arg1) : Vec Ideal S3840x1024 .bf16) (ix2 k l))
          (fun k => (m ((c.tc : Thread nD τ).loc main_arg2) : Vec Ideal S8192x1024 .f32) (ix2 r k))
          (fun k => (m ((c.tc : Thread nD τ).loc main_arg3) : Vec Ideal S1x1024 .f32) (ix2 0 k))
          ((m ((c.tc : Thread nD τ).loc main_arg4) : Vec Ideal S8192x1024 .f32) (ix2 r l)) l := by
  pointwise [res_main_v39, dot_S8192x3840_S1024x3840_S8192x1024_1_1_0_0_n_n]
  simp only [Finset.univ_unique, Finset.sum_const, Finset.card_singleton, one_smul]
  unfold place corr back msq
  rw [Consts.ofBits_width, Consts.ofBits_neg_half]
  exact (forms _ _ _ _ _ (mean_sq _)).symm

end Reference

end Cert.Proof.Grad

end
-- ==== Proof.Grad.Value.lean ====
/- The two arrays the gradient's call leaves: every row of activations' gradients in its block, and the weights'
   gradients summed over all the rows, block after block. -/
module

public import proofs.«01_k».proof.Proof.Gen.GradIdeal.Value
public import proofs.«01_k».proof.Proof.Grad.Payload
public import Idealize.ShloMosaic.Lib.Pipeline.ValueKit

@[expose] public section

noncomputable section

namespace Cert.Proof.Grad

open Idealize.ShloMosaic Idealize.ShloMosaic.TcCoe Idealize.SL Idealize.SL.Sem
open Cert.GradIdeal Cert.GradIdeal.Gen Cert.GradIdeal.Value

variable (m : (ℓ : Loc nD τ sig) → Buf (Elt Ideal) ℓ) (c : Dev nD)

/-- The incoming gradient's row. -/
def rowD (r : Fin 8192) : Fin 3840 → EReal := fun k =>
  (m ((c : Thread nD τ).loc main_arg0) : Vec Ideal S8192x3840 .bf16) (ix2 r k)
/-- The projection. -/
def mat : Fin 3840 → Fin 1024 → EReal := fun k l =>
  (m ((c : Thread nD τ).loc main_arg1) : Vec Ideal S3840x1024 .bf16) (ix2 k l)
/-- The activations' row. -/
def rowX (r : Fin 8192) : Fin 1024 → EReal := fun k =>
  (m ((c : Thread nD τ).loc main_arg2) : Vec Ideal S8192x1024 .f32) (ix2 r k)
/-- The normalization's weights. -/
def wts : Fin 1024 → EReal := fun k => (m ((c : Thread nD τ).loc main_arg3) : Vec Ideal S1x1024 .f32) (ix2 0 k)
/-- The residual path's gradient. -/
def res (r : Fin 8192) (l : Fin 1024) : EReal :=
  (m ((c : Thread nD τ).loc main_arg4) : Vec Ideal S8192x1024 .f32) (ix2 r l)

/-- The activations' gradients. -/
def acts : Vec Ideal S8192x1024 .f32 := fun i =>
  place (rowD m c (i 0)) (mat m c) (rowX m c (i 0)) (wts m c) (res m c (i 0) (i 1)) (i 1)

/-- The weights' gradients. -/
def wgts : Vec Ideal S1x1024 .f32 := fun i => ∑ r, weigh (rowD m c r) (mat m c) (rowX m c r) (i 1)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2' : ∀ t : Fin cfg0.N, win0_2.index t = ![t.val, 0] := (by decide +kernel : ∀ t : Fin grid0.N, _)
theorem ix3 : ∀ t : Fin cfg0.N, win0_3.index t = ![0, 0] := (by decide +kernel : ∀ t : Fin grid0.N, _)
theorem ix4 : ∀ t : Fin cfg0.N, win0_4.index t = ![t.val, 0] := (by decide +kernel : ∀ t : Fin grid0.N, _)
theorem ix5 : ∀ t : Fin cfg0.N, win0_5.index t = ![t.val, 0] := (by decide +kernel : ∀ t : Fin grid0.N, _)
theorem ix6 : ∀ t : Fin cfg0.N, win0_6.index t = ![0, 0] := (by decide +kernel : ∀ t : Fin grid0.N, _)

/-- The row of the arrays that is row `r` of block `t`. -/
def at_ (t : Fin cfg0.N) (r : Fin 256) : Fin 8192 :=
  ⟨t.val * 256 + r.val, by have h : t.val < 32 := t.isLt; have := r.isLt; omega⟩

theorem blk0 (t : Fin cfg0.N) (r : Fin 256) (k : Fin 3840) :
    (iblk m c 0 t : Vec Ideal S256x3840 .bf16) (ix2 r k) = rowD m c (at_ t r) k := by
  blk_simp [iblk]
  refine congrArg (m ((c : Thread nD τ).loc main_arg0)) ?_
  blk_ext [ix0, at_]

theorem blk1 (t : Fin cfg0.N) (k : Fin 3840) (l : Fin 1024) :
    (iblk m c 1 t : Vec Ideal S3840x1024 .bf16) (ix2 k l) = mat m c k l := by
  blk_simp [iblk]
  refine congrArg (m ((c : Thread nD τ).loc main_arg1)) ?_
  blk_ext [ix1]

theorem blk2 (t : Fin cfg0.N) (r : Fin 256) (k : Fin 1024) :
    (iblk m c 2 t : Vec Ideal S256x1024 .f32) (ix2 r k) = rowX m c (at_ t r) k := by
  blk_simp [iblk]
  refine congrArg (m ((c : Thread nD τ).loc main_arg2)) ?_
  blk_ext [ix2', at_]

theorem blk3 (t : Fin cfg0.N) (k : Fin 1024) :
    (iblk m c 3 t : Vec Ideal S1x1024 .f32) (ix2 0 k) = wts m c k := by
  blk_simp [iblk]
  refine congrArg (m ((c : Thread nD τ).loc main_arg3)) ?_
  blk_ext [ix3]

theorem blk4 (t : Fin cfg0.N) (r : Fin 256) (k : Fin 1024) :
    (iblk m c 4 t : Vec Ideal S256x1024 .f32) (ix2 r k) = res m c (at_ t r) k := by
  blk_simp [iblk]
  refine congrArg (m ((c : Thread nD τ).loc main_arg4)) ?_
  blk_ext [ix4, at_]

/-- What a point's body leaves in the block of activations' gradients, first point or later. -/
theorem left5 (t : Fin cfg0.N) :
    (outsAt0 m c t.val t.isLt).1 = k0_pay6 (iblk m c 0 t) (iblk m c 1 t) (iblk m c 2 t) (iblk m c 3 t) (iblk m c 4 t) := by
  by_cases h : t.val % 32 = 0
  · rw [outsAt0_A m c t h]; dsimp only; frame_out
  · rw [outsAt0_B m c t h]; dsimp only; frame_out

/-- The first array at the end. -/
theorem final5 : (dats m 0 c).arrAt 5 cfg0.N = acts m c := by
  refine (dats m 0 c).arrAt_eq_of_covers 5 _ (by decide +kernel) fun t hf y => ?_
  blk_simp
  rw [after0_5, left5]
  obtain ⟨r, l, rfl⟩ : ∃ r l, y = ix2 r l := ⟨y 0, y 1, by funext a; fin_cases a <;> rfl⟩
  have e : (win0_5.blk t).view.emb (ix2 r l) = ix2 (at_ t r) l := by blk_ext [ix5, at_]
  rw [e]
  refine (pay6_apply ..).trans ?_
  simp only [blk0, blk1, blk2, blk3, blk4]
  rfl

/-- The running sum of the weights' gradients after a point. -/
theorem left6 (t : Fin cfg0.N) (l : Fin 1024) :
    (outsAt0 m c t.val t.isLt).2 (ix2 0 l)
      = 0 + ∑ k ∈ Finset.range (t.val + 1), (if h : k < cfg0.N then
          ∑ r, weigh (rowD m c (at_ ⟨k, h⟩ r)) (mat m c) (rowX m c (at_ ⟨k, h⟩ r)) l else 0) := by
  refine Pipeline.eq_sum_of_reset_step_single (fun n h => (outsAt0 m c n h).2 (ix2 0 l)) 32 0 _ (fun t h => ?_)
    (fun t h => ?_) (le_of_eq N_0) t
  · rw [outsAt0_A m c t h]; dsimp only; frame_out
    rw [pay2_apply, pay1_apply, dif_pos t.isLt]
    simp only [blk0, blk1, blk2]
  · rw [outsAt0_B m c t h]; dsimp only; frame_out
    rw [pay2_apply, dif_pos t.isLt]
    simp only [blk0, blk1, blk2]

/-- Rows counted by block and place in the block are the rows. -/
theorem sum_rows (f : Fin 8192 → EReal) :
    ∑ k ∈ Finset.range 32, (if h : k < cfg0.N then ∑ r, f (at_ ⟨k, h⟩ r) else 0) = ∑ r, f r := by
  rw [Finset.sum_range]
  have e : ∀ k : Fin 32, (if h : k.val < cfg0.N then ∑ r, f (at_ ⟨k.val, h⟩ r) else 0)
      = ∑ r : Fin 256, f (finProdFinEquiv (k, r)) := fun k => by
    rw [dif_pos (show k.val < cfg0.N from k.isLt)]
    refine Finset.sum_congr rfl fun r _ => congrArg f (Fin.ext ?_)
    show k.val * 256 + r.val = r.val + 256 * k.val
    omega
  simp only [e]
  rw [← Fintype.sum_prod_type' (fun (k : Fin 32) (r : Fin 256) => f (finProdFinEquiv (k, r)))]
  exact Equiv.sum_comp (finProdFinEquiv : Fin 32 × Fin 256 ≃ Fin (32 * 256)) f

/-- The second array at the end. -/
theorem final6 : (dats m 0 c).arrAt 6 cfg0.N = wgts m c := by
  refine (dats m 0 c).arrAt_eq_of_covers 6 _ (by decide +kernel) fun t hf y => ?_
  blk_simp
  have ht : t.val % 32 = 31 := (flush0_6 t).mp hf
  have ht' : t.val = 31 := by have h : t.val < 32 := t.isLt; omega
  rw [after0_6]
  obtain ⟨l, rfl⟩ : ∃ l, y = ix2 0 l := ⟨y 1, by
    funext a; fin_cases a
    · exact Fin.ext (by have := (y 0).isLt; change (y 0).val < 1 at this; change (y 0).val = 0; omega)
    · rfl⟩
  have e : (win0_6.blk t).view.emb (ix2 0 l) = ix2 0 l := by blk_ext [ix6]
  rw [e]
  refine (left6 m c t l).trans ?_
  rw [zero_add, ht']
  exact sum_rows fun r => weigh (rowD m c r) (mat m c) (rowX m c r) l

end Cert.Proof.Grad

end
-- ==== Proof.Grad.Claims.lean ====
/- The claims about the gradient's call: its runs, the reference's run, and that their results are equal. -/
module

public import proofs.«01_k».proof.Defs
public import proofs.«01_k».proof.Proof.Gen.Grad
public import proofs.«01_k».proof.Proof.Grad.Value

@[expose] public section

noncomputable section

namespace Cert.Proof.Grad

open Idealize.ShloMosaic Idealize.ShloMosaic.TcCoe Idealize.SL Idealize.SL.Sem
open Cert.GradIdeal

/-- The call's body at the bit patterns is the body the run was found for. -/
theorem bodies_eq : Cert.Grad.defs₀ (F := Bits) = Cert.GradIdeal.defs₀ := by
  funext p l a
  match p with
  | .tc =>
    match l, a with
    | ⟨0, _⟩, (_, _) => rfl
  | .scScalar _ => rfl
  | .scVector _ _ => rfl

theorem defs_eq : Cert.Grad.defs (F := Bits) = Cert.GradIdeal.defs := by
  show Pipeline.defs Cert.GradIdeal.pcfgs (Cert.Grad.defs₀ (F := Bits)) = Pipeline.defs Cert.GradIdeal.pcfgs Cert.GradIdeal.defs₀
  rw [bodies_eq]

theorem frame_grad : Cert.quiescent_Grad (hGrad := Cert.Grad.Gen.facts) := fun m g _ => by
  have h := Cert.GradIdeal.Gen.frame (F := Bits) m g
  show θ_run (Cert.Grad.defs (F := Bits)) (onTc Cert.GradIdeal.main) _ _
  rw [defs_eq]
  exact h

theorem frame_gradIdeal : Cert.quiescent_GradIdeal (hGradIdeal := Cert.GradIdeal.Gen.facts) := fun m g _ =>
  Cert.GradIdeal.Gen.frame (F := Ideal) m g

theorem frame_gradReferenceIdeal :
    Cert.quiescent_GradReferenceIdeal (hGradReferenceIdeal := GradReferenceIdeal.Gen.facts) := fun m g _ =>
  (θ_run GradReferenceIdeal.defs _ _).mono (fun r h => ⟨fun c => (h c).2.2, sem_eq_zero_of_no_sems (by decide) r.2⟩)
    (GradReferenceIdeal.Value.run m g)

theorem algebraic_grad : Cert.algebraic_GradIdeal_GradReferenceIdeal (hGradIdeal := Cert.GradIdeal.Gen.facts)
    (hGradReferenceIdeal := GradReferenceIdeal.Gen.facts) := fun m g m' g' _ hm => by
  refine ⟨fun c => acts m c, fun c => wgts m c,
    (θ_run Cert.GradIdeal.defs _ _).mono (fun r h c => ?_) (Cert.GradIdeal.Value.run_blocks (F := Ideal) m g),
    (θ_run GradReferenceIdeal.defs _ _).mono (fun r h c => ?_) (GradReferenceIdeal.Value.run m' g')⟩
  · obtain ⟨h5, h6, hk⟩ := h c
    exact ⟨h5.trans (final5 m c), h6.trans (final6 m c), hk⟩
  · obtain ⟨h5, h6, hk⟩ := h c
    obtain ⟨e0, e1, e2, e3, e4⟩ := hm c
    refine ⟨h5.trans ?_, h6.trans ?_, hk⟩
    · funext i
      obtain ⟨r, l, rfl⟩ : ∃ r l, i = ix2 r l := ⟨i 0, i 1, by funext a; fin_cases a <;> rfl⟩
      refine (ref_apply m' c r l).trans ?_
      rw [e0, e1, e2, e3, e4]
      rfl
    · funext i
      obtain ⟨l, rfl⟩ : ∃ l, i = ix2 0 l := ⟨i 1, by
        funext a; fin_cases a
        · exact Fin.ext (by have := (i 0).isLt; change (i 0).val < 1 at this; change (i 0).val = 0; omega)
        · rfl⟩
      rw [e0, e1, e2]
      pointwise [GradReferenceIdeal.dot_S8192x3840_S1024x3840_S8192x1024_1_1_0_0_n_n]
      exact Finset.sum_congr rfl fun r _ => mul_comm _ _

end Cert.Proof.Grad

end
-- ==== Proof.Loss.Body.lean ====
/-
  The loss's body on one block of 512 rows: the column sums of the squared differences are added to a running row, which the
  first block starts from zero, and the scaled differences are written. On whole blocks it is run for any float values
  (`head_first`, `head_later`), and at every point of the grid it leaves the running row and the block of differences
  (`head_obligation`).
-/
module

public import proofs.«01_k».proof.Proof.Gen.LossIdeal.Launch
public import proofs.«01_k».proof.Proof.Gen.LossIdeal.Points
public import proofs.«01_k».proof.Proof.Gen.LossIdeal.Skeleton
public import Idealize.ShloMosaic.Lib.Pipeline.FrameBody
public import Idealize.ShloMosaic.Lib.Pipeline.ValueKit
public import Idealize.ShloMosaic.Lib.Pipeline.Regions
public import Idealize.ShloMosaic.Lib.Tactic
public import Idealize.ShloMosaic.Lib.WordCmp

@[expose] public section

noncomputable section

namespace Cert.Proof.Loss

open Cert.LossIdeal Cert.LossIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The ghost state: the staging's and the sum's over the devices. -/
abbrev UL : Type := UR sig nD τ × Sites.UC

local notation "𝕄" => MT nD τ sig ℕ (Elt F) ℕ UL ℕ

variable (m : (ℓ : Loc nD τ sig) → Buf (Elt F) ℓ)

/-! ## The body on whole blocks -/

/-- The whole block and the whole row. -/
abbrev rB : Rect S512x1024 := Rect.unit (s := S512x1024) ![0, 0] S512x1024.size inb_S512x1024_S512x1024_0_0
abbrev rR : Rect S1x1024 := Rect.unit (s := S1x1024) ![0, 0] S1x1024.size inb_S1x1024_S1x1024_0_0

theorem zeros : (![0, 0] : Fin 2 → ℕ) = fun _ => 0 := funext fun a => by fin_cases a <;> rfl

theorem rB_cover (p : rB.shape.Idx → Elt F .f32) (y : S512x1024.Idx) :
    ∃ pc ∈ ([⟨rB, p⟩] : List (View.Piece (Elt F) S512x1024 .f32)), y ∈ pc.1.set :=
  ⟨_, List.mem_singleton_self _, View.mem_set_unit_zero zeros inb_S512x1024_S512x1024_0_0 y⟩

theorem rR_cover (p : rR.shape.Idx → Elt F .f32) (L : List (View.Piece (Elt F) S1x1024 .f32)) (y : S1x1024.Idx) :
    ∃ pc ∈ (⟨rR, p⟩ :: L : List (View.Piece (Elt F) S1x1024 .f32)), y ∈ pc.1.set :=
  ⟨_, List.mem_cons_self, View.mem_set_unit_zero zeros inb_S1x1024_S1x1024_0_0 y⟩

/-- The body's branch is taken at the first point. -/
abbrev first (i : grid0.Coords) : Prop :=
  (Scalar.cmpi .ne (Scalar.extui (Scalar.cmpi .eq (BitVec.ofNat 32 (i 0).val) 0#32)) 0#32) = 1#1

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

set_option maxHeartbeats 1000000 in
/-- The body at the first block. -/
theorem head_first (c : Dev nD) (i : grid0.Coords) (hi : first i)
    (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S512x1024 .f32) (h3 : M3.IsWhole)
    (y t : S512x1024.Idx → Elt F .f32) (Kt : PUnit → sProp 𝕄) :
    iprop(owns (c : Thread nD τ) M0 fullShare y ∗ owns (c : Thread nD τ) M1 fullShare t
        ∗ (∃ d, owns (c : Thread nD τ) M2 fullShare d) ∗ (∃ d, owns (c : Thread nD τ) M3 fullShare d)
        ∗ (iprop(owns (c : Thread nD τ) M0 fullShare y ∗ owns (c : Thread nD τ) M1 fullShare t
          ∗ owns (c : Thread nD τ) M2 fullShare (k0_pay3 y t (k0_pay1 (F := F))) ∗ owns (c : Thread nD τ) M3 fullShare (k0_pay4 y t)) -∗ Kt ⟨⟩))
      ⊢ wp frame (wpE (defs₀ (F := F)) Variants.none (c : Thread nD τ) none) Set.univ (cc0_loss_head i M0 h0 M1 h1 M2 h2 M3 h3) Kt := by
  simp only [cc0_loss_head_eq_skeleton]
  unfold cc0_loss_head_skel
  unfold owns
  iintro ⟨⟨%f0, %e0, H0⟩, ⟨%f1, %e1, H1⟩, ⟨%d2, %f2, -, H2⟩, ⟨%d3, %f3, -, H3⟩, Hk⟩
  subst e0 e1
  sl_exec (disch := first | sl_exact hi)
  sl_step
  iapply Hk
  isplitl [H0]; · iexists f0; isplitr; · ipureintro; rfl
                  iexact H0
  isplitl [H1]; · iexists f1; isplitr; · ipureintro; rfl
                  iexact H1
  have hl (M : Memref sig .tc .vmem S512x1024 .f32) (f : BufTy.Contents (Elt F) M.view.ty) : M.view.readAt (Elt F) rB.toLoadRect f = M.view.read (Elt F) f :=
    View.ld_unit_zero zeros inb_S512x1024_S512x1024_0_0 (M.view.read (Elt F) f)
  isplitl [H2]
  · iexists _; isplitr; swap; · iexact H2
    ipureintro
    refine (View.read_writes_eq_canon _ _ _ (rR_cover _ _)).trans ?_
    rw [View.canon_cons_unit_zero zeros, ← hl M0, ← hl M1]
    unfold head_first.sl.v8 head_first.sl.H2_1
    rw [View.readCov_unit_zero M2.view zeros]
  iexists _; isplitr; swap; · iexact H3
  ipureintro
  refine (View.read_writes_eq_canon _ _ _ (rB_cover _)).trans ?_
  rw [View.canon_unit_zero zeros, ← hl M0, ← hl M1]

set_option maxHeartbeats 1000000 in
/-- The body at a later block, the running row at `r`. -/
theorem head_later (c : Dev nD) (i : grid0.Coords) (hi : ¬ first i)
    (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S512x1024 .f32) (h3 : M3.IsWhole)
    (y t : S512x1024.Idx → Elt F .f32) (r : S1x1024.Idx → Elt F .f32) (Kt : PUnit → sProp 𝕄) :
    iprop(owns (c : Thread nD τ) M0 fullShare y ∗ owns (c : Thread nD τ) M1 fullShare t
        ∗ owns (c : Thread nD τ) M2 fullShare r ∗ (∃ d, owns (c : Thread nD τ) M3 fullShare d)
        ∗ (iprop(owns (c : Thread nD τ) M0 fullShare y ∗ owns (c : Thread nD τ) M1 fullShare t
          ∗ owns (c : Thread nD τ) M2 fullShare (k0_pay3 y t r) ∗ owns (c : Thread nD τ) M3 fullShare (k0_pay4 y t)) -∗ Kt ⟨⟩))
      ⊢ wp frame (wpE (defs₀ (F := F)) Variants.none (c : Thread nD τ) none) Set.univ (cc0_loss_head i M0 h0 M1 h1 M2 h2 M3 h3) Kt := by
  simp only [cc0_loss_head_eq_skeleton]
  unfold cc0_loss_head_skel
  unfold owns
  iintro ⟨⟨%f0, %e0, H0⟩, ⟨%f1, %e1, H1⟩, ⟨%f2, %e2, H2⟩, ⟨%d3, %f3, -, H3⟩, Hk⟩
  subst e0 e1 e2
  sl_exec (disch := first | sl_exact hi)
  sl_step
  iapply Hk
  isplitl [H0]; · iexists f0; isplitr; · ipureintro; rfl
                  iexact H0
  isplitl [H1]; · iexists f1; isplitr; · ipureintro; rfl
                  iexact H1
  have hl (M : Memref sig .tc .vmem S512x1024 .f32) (f : BufTy.Contents (Elt F) M.view.ty) : M.view.readAt (Elt F) rB.toLoadRect f = M.view.read (Elt F) f :=
    View.ld_unit_zero zeros inb_S512x1024_S512x1024_0_0 (M.view.read (Elt F) f)
  have hr (M : Memref sig .tc .vmem S1x1024 .f32) (f : BufTy.Contents (Elt F) M.view.ty) : M.view.readAt (Elt F) rR.toLoadRect f = M.view.read (Elt F) f :=
    View.ld_unit_zero zeros inb_S1x1024_S1x1024_0_0 (M.view.read (Elt F) f)
  isplitl [H2]
  · iexists _; isplitr; swap; · iexact H2
    ipureintro
    refine (View.read_writes_eq_canon _ _ _ (rR_cover _ _)).trans ?_
    rw [View.canon_unit_zero zeros, ← hl M0, ← hl M1, ← hr M2]
  iexists _; isplitr; swap; · iexact H3
  ipureintro
  refine (View.read_writes_eq_canon _ _ _ (rB_cover _)).trans ?_
  rw [View.canon_unit_zero zeros, ← hl M0, ← hl M1]

/-! ## The points -/

/-- The blocks of point `t`, -/
def inY (c : Dev nD) (t : Fin cfg0.N) : S512x1024.Idx → Elt F .f32 := (win0_0.blk t).view.read (Elt F) (m ((c : Thread nD τ).loc main_arg0))
def inT (c : Dev nD) (t : Fin cfg0.N) : S512x1024.Idx → Elt F .f32 := (win0_1.blk t).view.read (Elt F) (m ((c : Thread nD τ).loc main_arg1))

/-- and the running row after it. -/
def acc (c : Dev nD) : (n : ℕ) → n < cfg0.N → S1x1024.Idx → Elt F .f32
  | 0, h => k0_pay3 (inY m c ⟨0, h⟩) (inT m c ⟨0, h⟩) (k0_pay1 (F := F))
  | n + 1, h => k0_pay3 (inY m c ⟨n + 1, h⟩) (inT m c ⟨n + 1, h⟩) (acc c n (Nat.lt_of_succ_lt h))

/-- The proof data: the arrays as launched; after the body the inputs' blocks as they were, the running row and the block of
    scaled differences. A device owes the sum's signals throughout. -/
def dat (c : Dev nD) : Dat τ (Elt F) ℕ ℕ UL ℕ cfg0 c where
  A w := match w with
    | ⟨0, _⟩ => m ((c : Thread nD τ).loc main_arg0)
    | ⟨1, _⟩ => m ((c : Thread nD τ).loc main_arg1)
    | ⟨2, _⟩ => m ((c : Thread nD τ).loc main_v1_0)
    | ⟨3, _⟩ => m ((c : Thread nD τ).loc main_v1_1)
  after w t := match w with
    | ⟨0, _⟩ => inY m c t
    | ⟨1, _⟩ => inT m c t
    | ⟨2, _⟩ => acc m c t.val t.isLt
    | ⟨3, _⟩ => k0_pay4 (inY m c t) (inT m c t)
  Φ _ := BI.emp
  q _ := fullShare
  owed _ := Sites.O0 (F := F) c

theorem before_0 (c : Dev nD) (t : Fin cfg0.N) (d) : (dat m c).before 0 t d = inY m c t := by
  rw [Dat.before_fetched _ _ _ (fetch0_0 t)]; rfl
theorem before_1 (c : Dev nD) (t : Fin cfg0.N) (d) : (dat m c).before 1 t d = inT m c t := by
  rw [Dat.before_fetched _ _ _ (fetch0_1 t)]; rfl
theorem before_2 (c : Dev nD) (n : ℕ) (h : n + 1 < cfg0.N) (d) : (dat m c).before 2 ⟨n + 1, h⟩ d = acc m c n (Nat.lt_of_succ_lt h) := by
  have hN : n + 1 < 16 := Nat.lt_of_lt_of_eq h N_0
  exact (dat m c).before_out_kept 2 rfl ⟨n + 1, h⟩ (Nat.succ_ne_zero n)
    (Bool.eq_false_iff.mpr fun hf => by have := (flush0_2 _).mp hf; simp only [Nat.add_sub_cancel] at this; omega)
    (fun _ => rfl) (fun _ _ => rfl) d

/-- The body meets its obligation. -/
theorem head_obligation (c : Dev nD) : BodyObligation (dat m c) (defs₀ (F := F)) Variants.none 0 Set.univ := fun t => by
  rw [bigSep_W0, bigSep_W0]
  show iprop(BI.emp ∗ (dat m c).owesAt 0 t.castSucc ∗ (∃ d, owns (c : Thread nD τ) (st0_0 t) fullShare ((dat m c).before 0 t d))
      ∗ (∃ d, owns (c : Thread nD τ) (st0_1 t) fullShare ((dat m c).before 1 t d)) ∗ (∃ d, owns (c : Thread nD τ) (st0_2 t) fullShare ((dat m c).before 2 t d))
      ∗ (∃ d, owns (c : Thread nD τ) (st0_3 t) fullShare ((dat m c).before 3 t d)))
    ⊢ wp frame (wpE (defs₀ (F := F)) Variants.none (c : Thread nD τ) none) Set.univ (bodyAt0 t) (fun _ => iprop(BI.emp ∗ (dat m c).owesAt 0 t.castSucc
      ∗ owns (c : Thread nD τ) (st0_0 t) fullShare (inY m c t) ∗ owns (c : Thread nD τ) (st0_1 t) fullShare (inT m c t)
      ∗ owns (c : Thread nD τ) (st0_2 t) fullShare (acc m c t.val t.isLt) ∗ owns (c : Thread nD τ) (st0_3 t) fullShare (k0_pay4 (inY m c t) (inT m c t))))
  simp only [before_0, before_1]
  obtain ⟨n, hn⟩ := t
  cases n with
  | zero =>
    iintro ⟨-, HO, ⟨%d0, H0⟩, ⟨%d1, H1⟩, ⟨%d2, H2⟩, ⟨%d3, H3⟩⟩
    iapply (head_first c (grid0.coords ⟨0, hn⟩) ((first_iff ⟨0, hn⟩).mpr rfl) (st0_0 ⟨0, hn⟩) (hstage0_0 ((cfg0.slots ⟨0, hn⟩ 0).cast nbuf0_0))
      (st0_1 ⟨0, hn⟩) (hstage0_1 ((cfg0.slots ⟨0, hn⟩ 1).cast nbuf0_1)) (st0_2 ⟨0, hn⟩) (hstage0_2 ((cfg0.slots ⟨0, hn⟩ 2).cast nbuf0_2))
      (st0_3 ⟨0, hn⟩) (hstage0_3 ((cfg0.slots ⟨0, hn⟩ 3).cast nbuf0_3)) (inY m c ⟨0, hn⟩) (inT m c ⟨0, hn⟩))
    isplitl [H0]; · iexact H0
    isplitl [H1]; · iexact H1
    isplitl [H2]; · iexists _; iexact H2
    isplitl [H3]; · iexists _; iexact H3
    iintro H
    isplitr; · iempintro
    isplitl [HO]; · iexact HO
    iexact H
  | succ n =>
    simp only [before_2]
    iintro ⟨-, HO, ⟨%d0, H0⟩, ⟨%d1, H1⟩, ⟨%d2, H2⟩, ⟨%d3, H3⟩⟩
    iapply (head_later c (grid0.coords ⟨n + 1, hn⟩) (fun h => Nat.succ_ne_zero n ((first_iff ⟨n + 1, hn⟩).mp h)) (st0_0 ⟨n + 1, hn⟩) (hstage0_0 ((cfg0.slots ⟨n + 1, hn⟩ 0).cast nbuf0_0))
      (st0_1 ⟨n + 1, hn⟩) (hstage0_1 ((cfg0.slots ⟨n + 1, hn⟩ 1).cast nbuf0_1)) (st0_2 ⟨n + 1, hn⟩) (hstage0_2 ((cfg0.slots ⟨n + 1, hn⟩ 2).cast nbuf0_2))
      (st0_3 ⟨n + 1, hn⟩) (hstage0_3 ((cfg0.slots ⟨n + 1, hn⟩ 3).cast nbuf0_3)) (inY m c ⟨n + 1, hn⟩) (inT m c ⟨n + 1, hn⟩) (acc m c n (Nat.lt_of_succ_lt hn)))
    isplitl [H0]; · iexact H0
    isplitl [H1]; · iexact H1
    isplitl [H2]; · iexact H2
    isplitl [H3]; · iexists _; iexact H3
    iintro H
    isplitr; · iempintro
    isplitl [HO]; · iexact HO
    iexact H

end Cert.Proof.Loss

end
-- ==== Proof.Loss.Run.lean ====
/-
  The loss's run on the eight devices: the call over the rows, two host operations, and the sum over the devices. For any
  float values, every device ends with its arguments unchanged, the sum of the devices' losses and the block of scaled
  differences in its results, and every counter at zero (`run_main`).
-/
module

public import proofs.«01_k».proof.Proof.Loss.Body
public import proofs.«01_k».proof.Proof.Gen.LossIdeal.Regions
public import Idealize.ShloMosaic.Lib.Pipeline.RegionArraysS
public import Idealize.ShloMosaic.Lib.Pipeline.CollectiveSegs
public import Idealize.ShloMosaic.Lib.Quiescent

@[expose] public section

noncomputable section

namespace Cert.Proof.Loss

open Cert.LossIdeal Cert.LossIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UL ℕ

/-- The staging's ghost state and the sum's. -/
abbrev EP : Emb (UR sig nD τ) (MT nD τ sig ℕ (Elt F) ℕ UL ℕ) := embL
abbrev EC : Emb Sites.UC (MT nD τ sig ℕ (Elt F) ℕ UL ℕ) := embR

variable (m : (ℓ : Loc nD τ sig) → Buf (Elt F) ℓ)

/-! ## The contents between the statements -/

/-- The call's proof data. -/
abbrev dats : (p : Fin 1) → (c : Dev nD) → Dat τ (Elt F) ℕ ℕ UL ℕ (Pipeline.pin (pcfgs (F := F)) adm p) c
  | 0 => dat m

/-- A device's buffers after the call, -/
def afterCall (c : Dev nD) : Valuation τ sig (Elt F) := Pipeline.afterRegion (dat m c) (V0 m c)

/-- and after the host operations. -/
def afterHost (c : Dev nD) : Valuation τ sig (Elt F) := StableHlo.after hostOps1 (afterCall m c)

/-! ## The statements -/

/-- Staging is waited for below everything a device owes. -/
theorem cut : Pipeline.LevelCut (pcfgs (F := F)) adm 0 Sites.L Sites.lv 0 (fun c => Sites.O0 (F := F) c) fun _ => 0 where
  hι c _ _ := Sites.mem_L c _ (by decide)
  hιb _ _ _ := le_refl 0
  hD _ _ _ h := Sites.O0_pos h

/-- What rides beside the buffers through the call. -/
abbrev beside (c : Dev nD) : sProp 𝕄 := iprop((∃ r, prngReg c r) ∗ Sites.rides0 EC (afterHost m) c)

/-- The call over the rows. -/
def call : Pipeline.RegionSeg (pcfgs (F := F)) adm (dats m) 0 defs₀ Variants.none Sites.L Sites.lv 0 :=
  Pipeline.RegionSeg.ofHeldIn (pcfgs (F := F)) adm (dats m) 0 defs₀ Variants.none Sites.L Sites.lv 0 (fun c => Sites.O0 (F := F) c) (Pipeline.ucRefs τ sig)
    (fun _ => iprop(emp)) (fun _ => iprop(emp)) launch0.toP rfl (fun c => (head_obligation m c).loose) (fun _ _ => rfl) (fun _ => rfl)
    (fun c => (dat m c).share_full fun _ => rfl) (fun _ => by iintro -; iempintro)
    (fun c => by
      show BI.emp ⊢ iprop(Pipeline.scopedRest spec0 c ∗ emp)
      rw [scopedRest0_eq]
      iintro -
      isplitr <;> iempintro)
    (fun _ => 0) cut (beside m) (V0 m) (fun c w => by fin_cases w <;> rfl)

theorem arrays_sub : Pipeline.arrRefs (τ := τ) (pcfgs (F := F) 0).spec ⊆ Pipeline.ucRefs τ sig :=
  Pipeline.arrRefs_sub_ucRefs _ winFacts0.arr_unscoped

/-- The host operations. -/
def host : Pipeline.HostSeg (Ix := ℕ) (Name := ℕ) (U := UL) (Lvl := ℕ) (pcfgs (F := F)) defs₀ Variants.none Sites.L Sites.lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (afterCall m) (Sites.Es EC (afterHost m) 0)

/-- The sum's counters are under their invariants. -/
abbrev invs (_ : Dev nD) : sProp 𝕄 := iprop(∃ κ, (AllReduce.Dat.once (Ix := ℕ) (Name := ℕ) (U := UL) (Lvl := ℕ) (ar0 (F := F)) (afterHost m)).cellInvs EC κ)

/-- The sum over the devices. -/
def psum : Pipeline.HostSeg (Ix := ℕ) (Name := ℕ) (U := UL) (Lvl := ℕ) (pcfgs (F := F)) defs₀ Variants.none Sites.L Sites.lv :=
  Sites.seg0 EC Variants.none (afterHost m) (Sites.Rest0 (afterHost m) (invs m))

/-- What a device starts with -/
def start (c : Dev nD) : sProp 𝕄 := iprop(StableHlo.held (c : Thread nD τ) (Pipeline.ucRefs τ sig) (V0 m c) ∗ Sites.Es EC (afterHost m) 0 c)

/-- and ends with. -/
def finish (c : Dev nD) : sProp 𝕄 :=
  iprop(StableHlo.held (c : Thread nD τ) (Pipeline.ucRefs τ sig) ((ar0 (F := F)).after₀ (afterHost m) c) ∗ invs m c ∗ Sites.Ghost0 EC c)

theorem start_call (c : Dev nD) : start m c ⊢ (call m).pre c := by
  refine BIBase.Entails.trans ?_ (Pipeline.RegionSeg.ofHeldIn_pre arrays_sub c)
  unfold start
  rw [Sites.Es_0]
  iintro ⟨Hh, HO, Hp, Hr⟩
  isplitl [Hh]; · iexact Hh
  isplitl [HO]; · iexact HO
  isplitr; · iempintro
  isplitl [Hp]; · iexact Hp
  iexact Hr

theorem call_host (c : Dev nD) : (call m).post c ⊢ (host m).pre c := by
  refine BIBase.Entails.trans (Pipeline.RegionSeg.ofHeldIn_post arrays_sub c) ?_
  show _ ⊢ iprop(StableHlo.held (c : Thread nD τ) (Pipeline.ucRefs τ sig) (afterCall m c) ∗ Sites.Es EC (afterHost m) 0 c)
  rw [Sites.Es_0]
  iintro ⟨Hh, HO, -, Hp, Hr⟩
  isplitl [Hh]; · iexact Hh
  isplitl [HO]; · iexact HO
  isplitl [Hp]; · iexact Hp
  iexact Hr

theorem host_psum (c : Dev nD) : (host m).post c ⊢ (psum m).pre c := by
  refine BIBase.Entails.trans ?_ (Sites.pre0 EC Variants.none (afterHost m) (invs m) c)
  show iprop(StableHlo.held (c : Thread nD τ) (Pipeline.ucRefs τ sig) (afterHost m c) ∗ Sites.Es EC (afterHost m) 0 c) ⊢ _
  rw [Sites.Es_0]
  iintro ⟨Hh, HO, Hp, Hr⟩
  ihave #Hi := (show Sites.rides0 EC (afterHost m) c ⊢ invs m c from by
    unfold Sites.rides0 AllReduce.Dat.rides; iintro ⟨Hi, -⟩; iexact Hi) $$ Hr
  isplitl [Hh]; · iexact Hh
  isplitl [HO Hp Hr]
  · isplitl [HO]; · iexact HO
    isplitl [Hp]; · iexact Hp
    iexact Hr
  iexact Hi

theorem psum_finish (c : Dev nD) : (psum m).post c ⊢ iprop(finish m c ∗ ∃ W, owes (c : Thread nD τ) (0 : CellTallies nD τ sig ℕ) W) := by
  refine BIBase.Entails.trans (Sites.post0 EC Variants.none (afterHost m) (invs m) c) ?_
  unfold finish
  iintro ⟨Hh, HE, Hg, Hi⟩
  isplitr [HE]
  · isplitl [Hh]; · iexact Hh
    isplitl [Hi] <;> iassumption
  iapply (Sites.hE_last EC (afterHost m) c)
  iexact HE

/-! ## The run -/

/-- The ghost state at launch. -/
def u₀ : UL :=
  (initOf (Pipeline.cells (Pipeline.pin (pcfgs (F := F)) adm) cellOf_inj) (Pipeline.launchToks (Pipeline.pin (pcfgs (F := F)) adm) cellOf_inj),
    Sites.uC (U := UL) (afterHost m))

theorem init (ρ : Dev nD → PrngReg) :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (fun c => Sites.O0 (F := F) c) c ∗ prngReg c (ρ c) ∗ Sites.G EC (afterHost m) c)) ∗ levAts Sites.L Sites.lv)
      ⊢ (|={Set.univ}=> bigSep Finset.univ (start m) : sProp 𝕄) := by
  have hheld : (bigSep Finset.univ fun c : Dev nD => unscopedBufs c (fun b => m ((c : Thread nD τ).loc b)))
      ⊢ (bigSep Finset.univ fun c : Dev nD => StableHlo.held (c : Thread nD τ) (Pipeline.ucRefs τ sig) (V0 m c) : sProp 𝕄) :=
    bigSep_mono fun c _ => by rw [← Pipeline.unscopedBufs_held (Ix := ℕ) (Name := ℕ) (U := UL) (Lvl := ℕ) c (V0 m c)]; exact BI.Entails.refl _
  have hstart : iprop((bigSep Finset.univ fun c : Dev nD => StableHlo.held (c : Thread nD τ) (Pipeline.ucRefs τ sig) (V0 m c))
      ∗ bigSep Finset.univ fun c : Dev nD => Sites.Es EC (afterHost m) 0 c) ⊢ (bigSep Finset.univ (start m) : sProp 𝕄) := by
    rw [← bigSep_sep']; exact BI.Entails.refl _
  rw [bigSep_sep']
  iintro ⟨⟨Hb, Hr⟩, Hl⟩
  imod (Sites.hE0 EC (afterHost m) ρ) $$ [Hr Hl] with HE
  · isplitl [Hr]; · iexact Hr
    iexact Hl
  imodintro
  iapply hstart
  isplitl [Hb]
  · iapply hheld; iexact Hb
  iexact HE

/-- What memory `s` holds on device `c` at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v4) = (ar0 (F := F)).toResult ((ar0 (F := F)).foldGroup fun j => afterHost m ((ar0 (F := F)).peer c j) (ar0 (F := F)).operand)
    ∧ s.mem ((c : Thread nD τ).loc main_v1_1) = (dat m c).arrAt 3 cfg0.N

/-- A buffer the sum does not write: neither its result nor a staging slot. -/
theorem not_folded (r : Ref sig .tc) (h0 : r ≠ main_v4) (hs : ∀ j, r ≠ ar0_stage j) : (Proc.devRef .tc r : DevRef τ sig) ∉ (ar0 (F := F)).foldBufs := fun h => by
  rcases Finset.mem_insert.mp h with h | h
  · exact h0 (Proc.devRef_injective _ h)
  · obtain ⟨j, -, hj⟩ := Finset.mem_map.mp h
    exact hs j (Proc.devRef_injective _ hj).symm

/-- A buffer neither the host operations nor the sum write ends as the call leaves it. -/
theorem after_kept (c : Dev nD) (r : Ref sig .tc) (h1 : (Proc.devRef .tc r : DevRef τ sig) ∉ (ar0 (F := F)).foldBufs) (h2 : r ∉ hostOps1_W) :
    (ar0 (F := F)).after₀ (afterHost m) c r = afterCall m c r :=
  ((ar0 (F := F)).after₀_of_notMem (afterHost m) c h1).trans (StableHlo.after_of_writes_sub hostOps1 _ hostOps1_writes h2)

theorem end_arg0 (c : Dev nD) : (ar0 (F := F)).after₀ (afterHost m) c main_arg0 = m ((c : Thread nD τ).loc main_arg0) :=
  (after_kept m c main_arg0 (not_folded _ (by decide) (by decide)) (by decide)).trans
    ((Pipeline.afterRegion_arr (dat m c) (V0 m c) winFacts0.arr_inj 0).trans ((dat m c).arrAt_in 0 rfl _))
theorem end_arg1 (c : Dev nD) : (ar0 (F := F)).after₀ (afterHost m) c main_arg1 = m ((c : Thread nD τ).loc main_arg1) :=
  (after_kept m c main_arg1 (not_folded _ (by decide) (by decide)) (by decide)).trans
    ((Pipeline.afterRegion_arr (dat m c) (V0 m c) winFacts0.arr_inj 1).trans ((dat m c).arrAt_in 1 rfl _))
theorem end_v1_1 (c : Dev nD) : (ar0 (F := F)).after₀ (afterHost m) c main_v1_1 = (dat m c).arrAt 3 cfg0.N :=
  (after_kept m c main_v1_1 (not_folded _ (by decide) (by decide)) (by decide)).trans
    (Pipeline.afterRegion_arr (dat m c) (V0 m c) winFacts0.arr_inj 3)

set_option backward.isDefEq.respectTransparency.types false in
/-- The program's run over any float values. -/
theorem run_main (ρ : Dev nD → PrngReg) :
    θ_run (defs (F := F)) (onTc main) ⟨m, fun _ => 0, ρ⟩ (fun r => (∀ c : Dev nD, Ends m c r.2) ∧ r.2.sem = fun _ => 0) :=
  Pipeline.θ_run_regions_kit_sems (pcfgs (F := F)) adm (dats m) 0 cellOf_inj EP defs₀ Variants.none Sites.L Sites.lv m ρ main
    [.region (call m), .host (host m), .host (psum m)]
    (fun c Q => by rw [main_segs adm (dats m) 0 Variants.none Sites.L Sites.lv (host m) (psum m) (call m) rfl rfl c])
    (by simp only [Pipeline.Seg.pipes_host, Pipeline.Seg.pipes_region, Pipeline.Seg.pipes_nil]; decide)
    (O₀ := fun c => Sites.O0 (F := F) c) (hL := Sites.hL) (G := Sites.G EC (afterHost m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := start m) (Tₙ := finish m)
    (hch := ⟨start_call m, call_host m, host_psum m, psum_finish m⟩)
    (hinit := init m ρ)
    (QY := fun c s => Ends m c s
      ∧ s.sem ((ar0 (F := F)).barrierCell c) = 0 ∧ s.sem ((ar0 (F := F)).recvCell c) = 0 ∧ s.sem ((ar0 (F := F)).sendCell c) = 0)
    (hfin := fun c s' => by
      unfold finish StableHlo.held
      iintro ⟨⟨Hh, Hi, Hg⟩, HSI⟩
      ihave Hr := (pointsTo_read_all (Pipeline.ucRefs τ sig) (fun b => ((c : Thread nD τ).1, b)) ((ar0 (F := F)).after₀ (afterHost m) c) s') $$ [Hh HSI]
      · isplitl [Hh] <;> iassumption
      icases Hr with ⟨%h, HSI⟩
      imod ((AllReduce.Dat.once (ar0 (F := F)) (afterHost m)).ghostAfter_read EC c (k := 0) le_rfl s') $$ [Hi Hg HSI] with ⟨%hz, HSI⟩
      · isplitr [HSI]; swap; · iexact HSI
        isplitl [Hi] <;> iassumption
      imodintro
      isplitr
      · ipureintro
        have hr (b : Ref sig .tc) (hb : b.isScoped = false) := h (Proc.devRef .tc b) (Finset.mem_filter.mpr ⟨StableHlo.devRef_mem_tcRefs b, fun h' => Bool.false_ne_true (hb.symm.trans h')⟩)
        exact ⟨⟨(hr main_arg0 rfl).trans (end_arg0 m c), (hr main_arg1 rfl).trans (end_arg1 m c),
          (hr main_v4 rfl).trans ((ar0 (F := F)).after₀_result (afterHost m) c), (hr main_v1_1 rfl).trans (end_v1_1 m c)⟩, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.Proof.Loss

end
-- ==== Proof.Loss.Payload.lean ====
/- What one place of the loss's stored blocks is, what the host operations make of the running row, and what the
   reference's two results are, in the entries of the rows. -/
module

public import proofs.«01_k».proof.Proof.Gen.LossIdeal.Skeleton
public import proofs.«01_k».proof.Proof.Gen.LossIdeal.Regions
public import proofs.«01_k».proof.Proof.Gen.LossReferenceIdeal.Run
public import Idealize.ShloMosaic.Lib.Pointwise
public import proofs.«01_k».proof.Proof.Consts

@[expose] public section

noncomputable section

namespace Cert.Proof.Loss

open Idealize.ShloMosaic Idealize.ShloMosaic.TcCoe

section Kernel
open Cert.LossIdeal Cert.LossIdeal.Gen

/-- The row starts at zero. -/
theorem pay1_apply (l : Fin 1024) : (k0_pay1 : FVec Ideal S1x1024 .f32) (ix2 0 l) = 0 := by
  pointwise [k0_pay1]

/-- A block's squared differences are added, column by column. -/
theorem pay3_apply (y t : Vec Ideal S512x1024 .f32) (a : Vec Ideal S1x1024 .f32) (l : Fin 1024) :
    k0_pay3 y t a (ix2 0 l) = a (ix2 0 l) + ∑ r, (y (ix2 r l) - t (ix2 r l)) * (y (ix2 r l) - t (ix2 r l)) := by
  pointwise [k0_pay3, k0_pay2]

/-- A block's scaled differences. -/
theorem pay4_apply (y t : Vec Ideal S512x1024 .f32) (r : Fin 512) (l : Fin 1024) :
    k0_pay4 y t (ix2 r l) = (y (ix2 r l) - t (ix2 r l)) * Ideal.ofBits .f32 0x3A800000#32 := by
  pointwise [k0_pay4, k0_pay2]

/-- What the host operations make of the running row, -/
theorem host_eq {F : FTy → Type} [FloatOps F] (V : Valuation τ sig (Elt F)) :
    StableHlo.after hostOps1 V main_v3
      = mulf (constant S_ .f32 0x3A000000#32) (Host.reduceAdd (V main_v1_0) (constant S_ .f32 0x00000000#32) reducesTo_S1x1024_S_d0_1 h_S_) := by
  after_results

/-- its scaled total. -/
theorem host_apply (x : FVec Ideal S1x1024 .f32) (i : S_.Idx) :
    (mulf (constant S_ .f32 0x3A000000#32) (Host.reduceAdd x (constant S_ .f32 0x00000000#32) reducesTo_S1x1024_S_d0_1 h_S_) : FVec Ideal S_ .f32) i
      = Ideal.ofBits .f32 0x3A000000#32 * ∑ l, x (ix2 0 l) := by
  pointwise []
  rw [Fin.sum_univ_one]

end Kernel

section Reference
open Cert.LossReferenceIdeal Cert.LossReferenceIdeal.Gen

/-- The loss: half the sum of the rows' mean squares. -/
theorem ref_loss_apply (y t : Vec Ideal S65536x1024 .f32) (i : S_.Idx) :
    (mulf (constant S_ .f32 0x3F000000#32) (Host.reduceAdd (Host.divf (Host.reduceAdd (mulf (subf y t) (subf y t)) (constant S_ .f32 0x00000000#32) reducesTo_S65536x1024_S65536_d1 h_S_) (broadcastInDim S65536 ![] bcast_S_S65536 (constant S_ .f32 0x44800000#32))) (constant S_ .f32 0x00000000#32) reducesTo_S65536_S_d0 h_S_) : FVec Ideal S_ .f32) i
      = Ideal.ofBits .f32 0x3F000000#32 * ∑ r : Fin 65536, Ideal.div (∑ l, (y (ix2 r l) - t (ix2 r l)) * (y (ix2 r l) - t (ix2 r l))) (Ideal.ofBits .f32 0x44800000#32) := by
  pointwise []

/-- Its derivative at a place. -/
theorem ref_diff_apply (y t : Vec Ideal S65536x1024 .f32) (r : Fin 65536) (l : Fin 1024) :
    (mulf (broadcastInDim S65536x1024 ![0] bcast_S65536_S65536x1024_0 (Host.divf (broadcastInDim S65536 ![] bcast_S_S65536 (mulf (constant S_ .f32 0x3F000000#32) (constant S_ .f32 0x3F800000#32))) (broadcastInDim S65536 ![] bcast_S_S65536 (constant S_ .f32 0x44800000#32)))) (mulf (broadcastInDim S65536x1024 ![] bcast_S_S65536x1024 (constant S_ .f32 0x40000000#32)) (subf y t)) : FVec Ideal S65536x1024 .f32) (ix2 r l)
      = Ideal.div (Ideal.ofBits .f32 0x3F000000#32 * Ideal.ofBits .f32 0x3F800000#32) (Ideal.ofBits .f32 0x44800000#32) * (Ideal.ofBits .f32 0x40000000#32 * (y (ix2 r l) - t (ix2 r l))) := by
  pointwise []

end Reference

end Cert.Proof.Loss

end
-- ==== Proof.Loss.Value.lean ====
/- The two arrays the loss's call leaves on a device: the columns' sums of squared differences over all the rows, block
   after block, and every row of scaled differences in its block. -/
module

public import proofs.«01_k».proof.Proof.Loss.Run
public import proofs.«01_k».proof.Proof.Loss.Payload
public import Idealize.ShloMosaic.Lib.Pipeline.ValueKit

@[expose] public section

noncomputable section

namespace Cert.Proof.Loss

open Idealize.ShloMosaic Idealize.ShloMosaic.TcCoe Idealize.SL Idealize.SL.Sem
open Cert.LossIdeal Cert.LossIdeal.Gen

variable (m : (ℓ : Loc nD τ sig) → Buf (Elt Ideal) ℓ) (c : Dev nD)

/-- The device's outputs and targets. -/
def outp (r : Fin 8192) (l : Fin 1024) : EReal := (m ((c : Thread nD τ).loc main_arg0) : Vec Ideal S8192x1024 .f32) (ix2 r l)
def targ (r : Fin 8192) (l : Fin 1024) : EReal := (m ((c : Thread nD τ).loc main_arg1) : Vec Ideal S8192x1024 .f32) (ix2 r l)

/-- A place's difference of output and target. -/
def diff (r : Fin 8192) (l : Fin 1024) : EReal := outp m c r l - targ m c r l

/-- The columns' sums of squared differences. -/
def cols : Vec Ideal S1x1024 .f32 := fun i => ∑ r, diff m c r (i 1) * diff m c r (i 1)

/-- The scaled differences. -/
def diffs : Vec Ideal S8192x1024 .f32 := fun i => diff m c (i 0) (i 1) * Ideal.ofBits .f32 0x3A800000#32

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2' : ∀ t : Fin cfg0.N, win0_2.index t = ![0, 0] := (by decide +kernel : ∀ t : Fin grid0.N, _)
theorem ix3 : ∀ t : Fin cfg0.N, win0_3.index t = ![t.val, 0] := (by decide +kernel : ∀ t : Fin grid0.N, _)

/-- The row of the arrays that is row `r` of block `t`. -/
def at_ (t : Fin cfg0.N) (r : Fin 512) : Fin 8192 :=
  ⟨t.val * 512 + r.val, by have h : t.val < 16 := t.isLt; have := r.isLt; omega⟩

theorem inY_apply (t : Fin cfg0.N) (r : Fin 512) (l : Fin 1024) :
    inY m c t (ix2 r l) = outp m c (at_ t r) l := by
  blk_simp [inY]
  refine congrArg (m ((c : Thread nD τ).loc main_arg0)) ?_
  blk_ext [ix0, at_]

theorem inT_apply (t : Fin cfg0.N) (r : Fin 512) (l : Fin 1024) :
    inT m c t (ix2 r l) = targ m c (at_ t r) l := by
  blk_simp [inT]
  refine congrArg (m ((c : Thread nD τ).loc main_arg1)) ?_
  blk_ext [ix1, at_]

/-- The block of differences at the end. -/
theorem final3 : (dat m c).arrAt 3 cfg0.N = diffs m c := by
  refine (dat m c).arrAt_eq_of_covers 3 _ (by decide +kernel) fun t hf y => ?_
  blk_simp
  obtain ⟨r, l, rfl⟩ : ∃ r l, y = ix2 r l := ⟨y 0, y 1, by funext a; fin_cases a <;> rfl⟩
  have e : (win0_3.blk t).view.emb (ix2 r l) = ix2 (at_ t r) l := by blk_ext [ix3, at_]
  rw [e]
  show k0_pay4 (inY m c t) (inT m c t) (ix2 r l) = _
  refine (pay4_apply ..).trans ?_
  rw [inY_apply, inT_apply]
  rfl

/-- The running row after a point. -/
theorem acc_apply (t : Fin cfg0.N) (l : Fin 1024) :
    acc m c t.val t.isLt (ix2 0 l)
      = 0 + ∑ k ∈ Finset.range (t.val + 1), (if h : k < cfg0.N then
          ∑ r, diff m c (at_ ⟨k, h⟩ r) l * diff m c (at_ ⟨k, h⟩ r) l else 0) := by
  have step : ∀ (u : Fin cfg0.N) (a : S1x1024.Idx → Elt Ideal .f32), k0_pay3 (inY m c u) (inT m c u) a (ix2 0 l)
      = a (ix2 0 l) + ∑ r, diff m c (at_ u r) l * diff m c (at_ u r) l := fun u a => by
    refine (pay3_apply ..).trans ?_
    simp only [inY_apply, inT_apply]
    rfl
  obtain ⟨n, hn⟩ := t
  dsimp only
  induction n with
  | zero =>
    refine (step _ _).trans ?_
    rw [pay1_apply, Finset.sum_range_one, dif_pos hn]
  | succ n ih =>
    refine (step _ _).trans ?_
    rw [ih (Nat.lt_of_succ_lt hn), Finset.sum_range_succ _ (n + 1), dif_pos hn, add_assoc]

/-- Rows counted by block and place in the block are the rows. -/
theorem sum_rows (f : Fin 8192 → EReal) :
    ∑ k ∈ Finset.range 16, (if h : k < cfg0.N then ∑ r, f (at_ ⟨k, h⟩ r) else 0) = ∑ r, f r := by
  rw [Finset.sum_range]
  have e : ∀ k : Fin 16, (if h : k.val < cfg0.N then ∑ r, f (at_ ⟨k.val, h⟩ r) else 0)
      = ∑ r : Fin 512, f (finProdFinEquiv (k, r)) := fun k => by
    rw [dif_pos (show k.val < cfg0.N from k.isLt)]
    refine Finset.sum_congr rfl fun r _ => congrArg f (Fin.ext ?_)
    show k.val * 512 + r.val = r.val + 512 * k.val
    omega
  simp only [e]
  rw [← Fintype.sum_prod_type' (fun (k : Fin 16) (r : Fin 512) => f (finProdFinEquiv (k, r)))]
  exact Equiv.sum_comp (finProdFinEquiv : Fin 16 × Fin 512 ≃ Fin (16 * 512)) f

/-- The running row at the end. -/
theorem final2 : (dat m c).arrAt 2 cfg0.N = cols m c := by
  refine (dat m c).arrAt_eq_of_covers 2 _ (by decide +kernel) fun t hf y => ?_
  blk_simp
  have ht : t.val % 16 = 15 := (flush0_2 t).mp hf
  have ht' : t.val = 15 := by have h : t.val < 16 := t.isLt; omega
  obtain ⟨l, rfl⟩ : ∃ l, y = ix2 0 l := ⟨y 1, by
    funext a; fin_cases a
    · exact Fin.ext (by have := (y 0).isLt; change (y 0).val < 1 at this; change (y 0).val = 0; omega)
    · rfl⟩
  have e : (win0_2.blk t).view.emb (ix2 0 l) = ix2 0 l := by blk_ext [ix2']
  rw [e]
  refine (acc_apply m c t l).trans ?_
  rw [zero_add, ht']
  exact sum_rows fun r => diff m c r l * diff m c r l

/-- The device's part of the loss. -/
def part : EReal := Ideal.ofBits .f32 0x3A000000#32 * ∑ l, ∑ r, diff m c r l * diff m c r l

/-- What the device brings to the sum. -/
def brought (i : S_.Idx) : EReal := (afterHost m c main_v3 : Vec Ideal S_ .f32) i

theorem brought_eq (i : S_.Idx) : brought m c i = part m c := by
  refine (congrFun (host_eq (afterCall m c)) i).trans ?_
  rw [show afterCall m c main_v1_0 = cols m c from
    (Pipeline.afterRegion_arr (dat m c) (V0 m c) winFacts0.arr_inj 2).trans (final2 m c)]
  exact host_apply (cols m c) i

/-- The sum's fold, over values of any device. -/
theorem fold_apply (v : Fin 8 → FVec Ideal S_ .f32) (i : S_.Idx) :
    ((ar0 (F := Ideal)).toResult ((ar0 (F := Ideal)).foldGroup v) : FVec Ideal S_ .f32) i
      = ((List.finRange 8).drop 1).foldl (fun (a : EReal) (j : Fin 8) => a + v j i) (v 0 i) := rfl

/-- The devices' parts, summed one after the other. -/
theorem total (i : S_.Idx) :
    ((ar0 (F := Ideal)).toResult ((ar0 (F := Ideal)).foldGroup fun j => afterHost m ((ar0 (F := Ideal)).peer c j) (ar0 (F := Ideal)).operand) : Vec Ideal S_ .f32) i
      = ∑ d : Fin 8, part m d := by
  have hp : ∀ j : Fin 8, (ar0 (F := Ideal)).peer c j = j := fun j => by
    show ar0_mem ((ar0_pos c).1, j) = j
    revert c j; decide
  refine (fold_apply (fun j => afterHost m ((ar0 (F := Ideal)).peer c j) main_v3) i).trans ?_
  have hb : ∀ j : Fin 8, (afterHost m ((ar0 (F := Ideal)).peer c j) main_v3 : FVec Ideal S_ .f32) i = part m j := fun j => by
    rw [hp j]; exact brought_eq m j i
  simp only [hb]
  rw [Fin.sum_univ_eight]
  rfl

end Cert.Proof.Loss

end
-- ==== Proof.Loss.Scalar.lean ====
/- The loss's two sums, and the two forms of its derivative at a place. Both hold on the extended reals with no assumption
   on the entries: squares are never negative, and on sums of such terms a real factor that is not negative distributes. -/
module

public import proofs.«01_k».proof.Proof.Consts

@[expose] public section

noncomputable section

namespace Cert.Proof.Loss

open Idealize.ShloMosaic

theorem sq_nonneg' (x : EReal) : 0 ≤ x * x := by
  rcases le_total 0 x with h | h
  · exact mul_nonneg h h
  · exact EReal.mul_nonneg_iff.mpr (.inr ⟨h, h⟩)

/-- A factor taken into a sum of terms that are not negative. -/
theorem mul_sum' {ι : Type} (s : Finset ι) (a : EReal) (f : ι → EReal) (hf : ∀ i, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

/-- Each device's squares summed column by column and scaled, and the devices' parts summed, is half the sum over all the
    rows of the rows' means of squares. -/
theorem sums (d : Fin 8 → Fin 8192 → Fin 1024 → EReal) (D : Fin 65536 → Fin 1024 → EReal)
    (h : ∀ (c : Fin 8) (r : Fin 8192), D (finProdFinEquiv (c, r)) = d c r) :
    ∑ c, Ideal.ofBits .f32 0x3A000000#32 * ∑ l, ∑ r, d c r l * d c r l
      = Ideal.ofBits .f32 0x3F000000#32 * ∑ r, Ideal.div (∑ l, D r l * D r l) (Ideal.ofBits .f32 0x44800000#32) := by
  have hs : ∀ r : Fin 65536, 0 ≤ ∑ l, D r l * D r l := fun r => Finset.sum_nonneg fun l _ => sq_nonneg' _
  have hd : ∀ c, 0 ≤ ∑ l, ∑ r, d c r l * d c r l := fun c =>
    Finset.sum_nonneg fun l _ => Finset.sum_nonneg fun r _ => sq_nonneg' (d c r l)
  have hsum : ∑ r, ∑ l, D r l * D r l = ∑ c, ∑ l, ∑ r, d c r l * d c r l := by
    refine (Equiv.sum_comp (finProdFinEquiv : Fin 8 × Fin 8192 ≃ Fin (8 * 8192)) fun r => ∑ l, D r l * D r l).symm.trans ?_
    rw [Fintype.sum_prod_type]
    refine Finset.sum_congr rfl fun c _ => ?_
    rw [Finset.sum_comm]
    exact Finset.sum_congr rfl fun r _ => Finset.sum_congr rfl fun l _ => by rw [h]
  have hR : ∑ r, Ideal.div (∑ l, D r l * D r l) ((1024 : ℝ) : EReal) = ((1 / 1024 : ℝ) : EReal) * ∑ r, ∑ l, D r l * D r l :=
    (Finset.sum_congr rfl fun r _ => by rw [Ideal.div_coe (by norm_num), mul_comm]).trans (mul_sum' _ _ _ hs).symm
  have hc : ((1 / 2048 : ℝ) : EReal) = ((1 / 2 : ℝ) : EReal) * ((1 / 1024 : ℝ) : EReal) := by rw [← EReal.coe_mul]; norm_num
  rw [Consts.ofBits_width, Consts.ofBits_half, Consts.ofBits_loss_scale, hR, hsum, ← mul_assoc, ← hc]
  exact (mul_sum' _ _ _ hd).symm

/-- The derivative at a place. -/
theorem scaled (x : EReal) :
    Ideal.div (Ideal.ofBits .f32 0x3F000000#32 * Ideal.ofBits .f32 0x3F800000#32) (Ideal.ofBits .f32 0x44800000#32)
        * (Ideal.ofBits .f32 0x40000000#32 * x)
      = x * Ideal.ofBits .f32 0x3A800000#32 := by
  rw [Consts.ofBits_half, Consts.ofBits_one, Consts.ofBits_width, Consts.ofBits_two, Consts.ofBits_loss_diff,
    Ideal.div_coe (by norm_num), ← mul_assoc, ← EReal.coe_mul, ← EReal.coe_mul, ← EReal.coe_mul, mul_comm]
  congr 2
  norm_num

end Cert.Proof.Loss

end
-- ==== Proof.Loss.Claims.lean ====
/- The claims about the loss: its run on the eight devices, the reference's on one, and that their results agree. -/
module

public import proofs.«01_k».proof.Defs
public import proofs.«01_k».proof.Proof.Gen.Loss
public import proofs.«01_k».proof.Proof.Loss.Value
public import proofs.«01_k».proof.Proof.Loss.Scalar

@[expose] public section

noncomputable section

namespace Cert.Proof.Loss

open Idealize.ShloMosaic Idealize.ShloMosaic.TcCoe Idealize.SL Idealize.SL.Sem
open Cert.LossIdeal

/-- The program's body at the bit patterns is the body the run was found for. -/
theorem bodies_eq : Cert.Loss.defs₀ (F := Bits) = Cert.LossIdeal.defs₀ := by
  funext p l a
  match p with
  | .tc =>
    match l, a with
    | ⟨0, _⟩, (_, _) => rfl
  | .scScalar _ => rfl
  | .scVector _ _ => rfl

theorem defs_eq : Cert.Loss.defs (F := Bits) = Cert.LossIdeal.defs := by
  show Pipeline.defs Cert.LossIdeal.pcfgs (Cert.Loss.defs₀ (F := Bits)) = Pipeline.defs Cert.LossIdeal.pcfgs Cert.LossIdeal.defs₀
  rw [bodies_eq]

/-- The run, of which the frames keep the arguments and the counters. -/
theorem keeps {F : FTy → Type} [FloatOps F] (m : (ℓ : Loc nD τ sig) → Buf (Elt F) ℓ) (g : Dev nD → PrngReg) :
    θ_run (defs (F := F)) (onTc main) ⟨m, fun _ => 0, g⟩ (fun r => (∀ c : Dev nD,
      r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨(h.1 c).1, (h.1 c).2.1⟩, h.2⟩) (run_main m g)

theorem frame_loss : Cert.quiescent_Loss (hLoss := Cert.Loss.Gen.facts) := fun m g _ => by
  have h := keeps (F := Bits) m g
  show θ_run (Cert.Loss.defs (F := Bits)) (onTc Cert.LossIdeal.main) _ _
  rw [defs_eq]
  exact h

theorem frame_lossIdeal : Cert.quiescent_LossIdeal (hLossIdeal := Cert.LossIdeal.Gen.facts) := fun m g _ =>
  keeps (F := Ideal) m g

theorem frame_lossReferenceIdeal :
    Cert.quiescent_LossReferenceIdeal (hLossReferenceIdeal := LossReferenceIdeal.Gen.facts) := fun m g _ =>
  (θ_run LossReferenceIdeal.defs _ _).mono (fun r h => ⟨fun c => (h c).2.2, sem_eq_zero_of_no_sems (by decide) r.2⟩)
    (LossReferenceIdeal.Value.run m g)

/-- The row of the whole arrays that is row `r` of device `c`'s. -/
def row (c : Fin 8) (r : Fin 8192) : Fin 65536 := finProdFinEquiv (c, r)

/-- A device's block of a whole array, at a place. -/
theorem block_place {α : Type} (c : Fin 8) (v : (⟨2, ![65536, 1024]⟩ : Shape).Idx → α) (r : Fin 8192) (l : Fin 1024) :
    Layout.block ⟨2, ![8192, 1024]⟩ ⟨2, ![65536, 1024]⟩ 0 8 c v (by decide) (ix2 r l) = v (ix2 (row c r) l) := by
  refine congrArg v (funext fun a => Fin.ext ?_)
  fin_cases a
  · show c.val * 8192 + r.val = r.val + 8192 * c.val
    omega
  · rfl

/-- The whole arrays' difference of output and target. -/
def whole (y t : Vec Ideal ⟨2, ![65536, 1024]⟩ .f32) (r : Fin 65536) (l : Fin 1024) : EReal := y (ix2 r l) - t (ix2 r l)

/-- The loss, -/
def loss (y t : Vec Ideal ⟨2, ![65536, 1024]⟩ .f32) : Vec Ideal S_ .f32 := fun _ =>
  Ideal.ofBits .f32 0x3F000000#32 * ∑ r, Ideal.div (∑ l, whole y t r l * whole y t r l) (Ideal.ofBits .f32 0x44800000#32)

/-- and its derivative. -/
def derivative (y t : Vec Ideal ⟨2, ![65536, 1024]⟩ .f32) : Vec Ideal ⟨2, ![65536, 1024]⟩ .f32 := fun i =>
  whole y t (i 0) (i 1) * Ideal.ofBits .f32 0x3A800000#32

/-- A device whose arrays are its blocks has its rows of the difference. -/
theorem diff_eq (m : (ℓ : Loc nD τ sig) → Buf (Elt Ideal) ℓ) (c : Dev nD) (y t : Vec Ideal ⟨2, ![65536, 1024]⟩ .f32)
    (h0 : m ((c : Thread nD τ).loc main_arg0) = Layout.block ⟨2, ![8192, 1024]⟩ ⟨2, ![65536, 1024]⟩ 0 8 c y)
    (h1 : m ((c : Thread nD τ).loc main_arg1) = Layout.block ⟨2, ![8192, 1024]⟩ ⟨2, ![65536, 1024]⟩ 0 8 c t)
    (r : Fin 8192) (l : Fin 1024) : diff m c r l = whole y t (row c r) l := by
  unfold diff outp targ whole
  rw [h0, h1]
  exact congrArg₂ (fun a b : EReal => a - b) (block_place c y r l) (block_place c t r l)

theorem algebraic_loss : Cert.algebraic_LossIdeal_LossReferenceIdeal (hLossIdeal := Cert.LossIdeal.Gen.facts)
    (hLossReferenceIdeal := LossReferenceIdeal.Gen.facts) := fun m g m' g' _ hm => by
  generalize hy : m' (((0 : Dev LossReferenceIdeal.nD).tc : Thread LossReferenceIdeal.nD LossReferenceIdeal.τ).loc LossReferenceIdeal.main_arg0) = y at hm
  generalize ht : m' (((0 : Dev LossReferenceIdeal.nD).tc : Thread LossReferenceIdeal.nD LossReferenceIdeal.τ).loc LossReferenceIdeal.main_arg1) = t at hm
  have hd (c : Fin 8) (r : Fin 8192) (l : Fin 1024) : diff m c r l = whole y t (row c r) l := diff_eq m c y t (hm c).1 (hm c).2 r l
  refine ⟨loss y t, derivative y t,
    (θ_run Cert.LossIdeal.defs _ _).mono (fun r h c => ?_) (run_main (F := Ideal) m g),
    (θ_run LossReferenceIdeal.defs _ _).mono (fun r h => ?_) (LossReferenceIdeal.Value.run m' g')⟩
  · obtain ⟨k0, k1, hl, hv⟩ := h.1 c
    refine ⟨hl.trans ?_, hv.trans ?_, k0, k1⟩
    · funext i
      refine (total m c i).trans ?_
      exact sums (fun c r l => diff m c r l) (whole y t) fun c r => funext fun l => (hd c r l).symm
    · rw [final3]
      funext i
      obtain ⟨r, l, rfl⟩ : ∃ r l, i = ix2 r l := ⟨i 0, i 1, by funext a; fin_cases a <;> rfl⟩
      refine Eq.trans ?_ (block_place c (derivative y t) r l).symm
      exact congrArg (· * Ideal.ofBits .f32 0x3A800000#32) (hd c r l)
  · obtain ⟨hl, hv, k0, k1⟩ := h 0
    rw [hy] at k0; rw [ht] at k1
    rw [hy, ht] at hl hv
    refine ⟨hl.trans ?_, hv.trans ?_, k0, k1⟩
    · funext i
      exact ref_loss_apply y t i
    · funext i
      obtain ⟨r, l, rfl⟩ : ∃ r l, i = ix2 r l := ⟨i 0, i 1, by funext a; fin_cases a <;> rfl⟩
      exact (ref_diff_apply y t r l).trans (scaled _)

end Cert.Proof.Loss

end
-- ==== Proof.Norm.lean ====
/- The normalization of one row by the root of its mean of squares, as the extended reals have it, and the
   places of an array of rows. -/
module

public import Idealize.ShloMosaic.Lib.Pointwise

@[expose] public section

noncomputable section

namespace Cert.Proof

open Idealize.ShloMosaic

/-- A row over the root of its mean of squares plus the constant, weighted; `w` is the row's length as a number. -/
def normed {n : ℕ} (w : BitVec 32) (x g : Fin n → EReal) (l : Fin n) : EReal :=
  x l * Ideal.rsqrt (Ideal.div (∑ k, x k * x k) (Ideal.ofBits .f32 w) + Ideal.ofBits .f32 0x358637BD#32) * g l

/-- A place of an array of rows is a row and a column. -/
theorem ix2_surj {a b : ℕ} (i : (⟨2, ![a, b]⟩ : Shape).Idx) : ∃ r l, i = ix2 r l := ⟨i 0, i 1, by funext x; fin_cases x <;> rfl⟩

/-- A place of one row is a column. -/
theorem row_surj {b : ℕ} (i : (⟨2, ![1, b]⟩ : Shape).Idx) : ∃ l, i = ix2 0 l := ⟨i 1, by
  funext x; fin_cases x
  · exact Fin.ext (by have := (i 0).isLt; change (i 0).val < 1 at this; change (i 0).val = 0; omega)
  · rfl⟩

end Cert.Proof

end
-- ==== Proof.Project.Payload.lean ====
/- What one place of the input projection's results is, in the entries of its row of activations. -/
module

public import proofs.«01_k».proof.Proof.Gen.ProjectIdeal.Skeleton
public import proofs.«01_k».proof.Proof.Norm

@[expose] public section

noncomputable section

namespace Cert.Proof.Project

open Idealize.ShloMosaic

/-- A normalized row of activations, through the projection stored with its columns as rows. -/
def projected (x g : Fin 1024 → EReal) (W : Fin 3840 → Fin 1024 → EReal) (j : Fin 3840) : EReal :=
  ∑ k, normed 0x44800000#32 x g k * W j k

open Cert.ProjectIdeal Cert.ProjectIdeal.Gen

/-- The stored block of normalized activations, at a place. -/
theorem pay1_apply (v0 : Vec Ideal S256x1024 .f32) (v1 : Vec Ideal S1x1024 .f32) (r : Fin 256) (l : Fin 1024) :
    k0_pay1 v0 v1 (ix2 r l) = normed 0x44800000#32 (fun k => v0 (ix2 r k)) (fun k => v1 (ix2 0 k)) l := by
  pointwise [k0_pay1]
  rfl

/-- The stored block of the projection, at a place. -/
theorem pay2_apply (v0 : Vec Ideal S256x1024 .f32) (v1 : Vec Ideal S1x1024 .f32) (v16 : Vec Ideal S3840x1024 .bf16)
    (r : Fin 256) (j : Fin 3840) :
    k0_pay2 v0 v1 v16 (ix2 r j)
      = projected (fun k => v0 (ix2 r k)) (fun k => v1 (ix2 0 k)) (fun j k => v16 (ix2 j k)) j := by
  pointwise [k0_pay2, k0_pay1, dot_S256x1024_S3840x1024_S256x3840_1_1_0_0_n_n]
  rfl

/-- The same in the narrower format, the same number. -/
theorem pay3_apply (v0 : Vec Ideal S256x1024 .f32) (v1 : Vec Ideal S1x1024 .f32) (v16 : Vec Ideal S3840x1024 .bf16)
    (r : Fin 256) (j : Fin 3840) :
    k0_pay3 v0 v1 v16 (ix2 r j)
      = projected (fun k => v0 (ix2 r k)) (fun k => v1 (ix2 0 k)) (fun j k => v16 (ix2 j k)) j := by
  refine Eq.trans ?_ (pay2_apply v0 v1 v16 r j)
  rfl

end Cert.Proof.Project

end
-- ==== Proof.Project.Value.lean ====
/- The three arrays the input projection's call leaves: every block is its rows' projections, twice, and its rows'
   normalized activations. -/
module

public import proofs.«01_k».proof.Proof.Gen.ProjectIdeal.Value
public import proofs.«01_k».proof.Proof.Project.Payload
public import Idealize.ShloMosaic.Lib.Pipeline.ValueKit

@[expose] public section

noncomputable section

namespace Cert.Proof.Project

open Idealize.ShloMosaic Idealize.ShloMosaic.TcCoe Idealize.SL Idealize.SL.Sem
open Cert.ProjectIdeal Cert.ProjectIdeal.Gen Cert.ProjectIdeal.Value

variable (m : (ℓ : Loc nD τ sig) → Buf (Elt Ideal) ℓ) (c : Dev nD)

/-- The activations' row. -/
def rowX (r : Fin 8192) : Fin 1024 → EReal := fun k =>
  (m ((c : Thread nD τ).loc main_arg0) : Vec Ideal S8192x1024 .f32) (ix2 r k)
/-- The normalization's weights. -/
def wts : Fin 1024 → EReal := fun k => (m ((c : Thread nD τ).loc main_arg1) : Vec Ideal S1x1024 .f32) (ix2 0 k)
/-- The projection, its columns as rows. -/
def mat : Fin 3840 → Fin 1024 → EReal := fun j k =>
  (m ((c : Thread nD τ).loc main_arg2) : Vec Ideal S3840x1024 .bf16) (ix2 j k)

/-- The projections. -/
def proj : Vec Ideal S8192x3840 .f32 := fun i => projected (rowX m c (i 0)) (wts m c) (mat m c) (i 1)
/-- The projections in the narrower format. -/
def projLow : Vec Ideal S8192x3840 .bf16 := fun i => projected (rowX m c (i 0)) (wts m c) (mat m c) (i 1)
/-- The normalized activations. -/
def norms : Vec Ideal S8192x1024 .bf16 := fun i => normed 0x44800000#32 (rowX m c (i 0)) (wts m c) (i 1)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2' : ∀ t : Fin cfg0.N, win0_2.index t = ![0, 0] := (by decide +kernel : ∀ t : Fin grid0.N, _)
theorem ix3 : ∀ t : Fin cfg0.N, win0_3.index t = ![t.val, 0] := (by decide +kernel : ∀ t : Fin grid0.N, _)
theorem ix4 : ∀ t : Fin cfg0.N, win0_4.index t = ![t.val, 0] := (by decide +kernel : ∀ t : Fin grid0.N, _)
theorem ix5 : ∀ t : Fin cfg0.N, win0_5.index t = ![t.val, 0] := (by decide +kernel : ∀ t : Fin grid0.N, _)

/-- The row of the arrays that is row `r` of block `t`. -/
def at_ (t : Fin cfg0.N) (r : Fin 256) : Fin 8192 :=
  ⟨t.val * 256 + r.val, by have h : t.val < 32 := t.isLt; have := r.isLt; omega⟩

theorem blk0 (t : Fin cfg0.N) (r : Fin 256) (k : Fin 1024) :
    (iblk m c 0 t : Vec Ideal S256x1024 .f32) (ix2 r k) = rowX m c (at_ t r) k := by
  blk_simp [iblk]
  refine congrArg (m ((c : Thread nD τ).loc main_arg0)) ?_
  blk_ext [ix0, at_]

theorem blk1 (t : Fin cfg0.N) (k : Fin 1024) :
    (iblk m c 1 t : Vec Ideal S1x1024 .f32) (ix2 0 k) = wts m c k := by
  blk_simp [iblk]
  refine congrArg (m ((c : Thread nD τ).loc main_arg1)) ?_
  blk_ext [ix1]

theorem blk2 (t : Fin cfg0.N) (j : Fin 3840) (k : Fin 1024) :
    (iblk m c 2 t : Vec Ideal S3840x1024 .bf16) (ix2 j k) = mat m c j k := by
  blk_simp [iblk]
  refine congrArg (m ((c : Thread nD τ).loc main_arg2)) ?_
  blk_ext [ix2']

/-- The projections at the end. -/
theorem final3 : (dats m 0 c).arrAt 3 cfg0.N = proj m c := by
  refine (dats m 0 c).arrAt_eq_of_covers 3 _ (by decide +kernel) fun t hf y => ?_
  blk_simp
  rw [after0_3]
  obtain ⟨r, l, rfl⟩ := ix2_surj y
  have e : (win0_3.blk t).view.emb (ix2 r l) = ix2 (at_ t r) l := by blk_ext [ix3, at_]
  rw [e]
  dsimp only [out0_3]
  frame_out
  refine (pay2_apply ..).trans ?_
  simp only [blk0, blk1, blk2]
  rfl

/-- The projections in the narrower format at the end. -/
theorem final4 : (dats m 0 c).arrAt 4 cfg0.N = projLow m c := by
  refine (dats m 0 c).arrAt_eq_of_covers 4 _ (by decide +kernel) fun t hf y => ?_
  blk_simp
  rw [after0_4]
  obtain ⟨r, l, rfl⟩ := ix2_surj y
  have e : (win0_4.blk t).view.emb (ix2 r l) = ix2 (at_ t r) l := by blk_ext [ix4, at_]
  rw [e]
  dsimp only [out0_4]
  frame_out
  refine (pay3_apply ..).trans ?_
  simp only [blk0, blk1, blk2]
  rfl

/-- The normalized activations at the end. -/
theorem final5 : (dats m 0 c).arrAt 5 cfg0.N = norms m c := by
  refine (dats m 0 c).arrAt_eq_of_covers 5 _ (by decide +kernel) fun t hf y => ?_
  blk_simp
  rw [after0_5]
  obtain ⟨r, l, rfl⟩ := ix2_surj y
  have e : (win0_5.blk t).view.emb (ix2 r l) = ix2 (at_ t r) l := by blk_ext [ix5, at_]
  rw [e]
  dsimp only [out0_5]
  frame_out
  refine (pay1_apply ..).trans ?_
  simp only [blk0, blk1]
  rfl

end Cert.Proof.Project

end
-- ==== Proof.Project.Claims.lean ====
/- The claims about the input projection: its runs, the reference's run, and that their results are equal. -/
module

public import proofs.«01_k».proof.Defs
public import proofs.«01_k».proof.Proof.Gen.Project
public import proofs.«01_k».proof.Proof.Gen.ProjectReferenceIdeal
public import proofs.«01_k».proof.Proof.Gen.ProjectReferenceIdeal.Run
public import proofs.«01_k».proof.Proof.Project.Value

@[expose] public section

noncomputable section

namespace Cert.Proof.Project

open Idealize.ShloMosaic Idealize.ShloMosaic.TcCoe Idealize.SL Idealize.SL.Sem
open Cert.ProjectIdeal

/-- The call's body at the bit patterns is the body the run was found for. -/
theorem bodies_eq : Cert.Project.defs₀ (F := Bits) = Cert.ProjectIdeal.defs₀ := by
  funext p l a
  match p with
  | .tc =>
    match l, a with
    | ⟨0, _⟩, (_, _) => rfl
  | .scScalar _ => rfl
  | .scVector _ _ => rfl

theorem defs_eq : Cert.Project.defs (F := Bits) = Cert.ProjectIdeal.defs := by
  show Pipeline.defs Cert.ProjectIdeal.pcfgs (Cert.Project.defs₀ (F := Bits)) = Pipeline.defs Cert.ProjectIdeal.pcfgs Cert.ProjectIdeal.defs₀
  rw [bodies_eq]

theorem frame_project : Cert.quiescent_Project (hProject := Cert.Project.Gen.facts) := fun m g _ => by
  have h := Cert.ProjectIdeal.Gen.frame (F := Bits) m g
  show θ_run (Cert.Project.defs (F := Bits)) (onTc Cert.ProjectIdeal.main) _ _
  rw [defs_eq]
  exact h

theorem frame_projectIdeal : Cert.quiescent_ProjectIdeal (hProjectIdeal := Cert.ProjectIdeal.Gen.facts) := fun m g _ =>
  Cert.ProjectIdeal.Gen.frame (F := Ideal) m g

theorem frame_projectReferenceIdeal :
    Cert.quiescent_ProjectReferenceIdeal (hProjectReferenceIdeal := ProjectReferenceIdeal.Gen.facts) := fun m g _ =>
  (θ_run ProjectReferenceIdeal.defs _ _).mono (fun r h => ⟨fun c => (h c).2.2.2, sem_eq_zero_of_no_sems (by decide) r.2⟩)
    (ProjectReferenceIdeal.Value.run m g)

theorem algebraic_project : Cert.algebraic_ProjectIdeal_ProjectReferenceIdeal (hProjectIdeal := Cert.ProjectIdeal.Gen.facts)
    (hProjectReferenceIdeal := ProjectReferenceIdeal.Gen.facts) := fun m g m' g' _ hm => by
  refine ⟨fun c => proj m c, fun c => projLow m c, fun c => norms m c,
    (θ_run Cert.ProjectIdeal.defs _ _).mono (fun r h c => ?_) (Cert.ProjectIdeal.Value.run_blocks (F := Ideal) m g),
    (θ_run ProjectReferenceIdeal.defs _ _).mono (fun r h c => ?_) (ProjectReferenceIdeal.Value.run m' g')⟩
  · obtain ⟨h3, h4, h5, hk⟩ := h c
    exact ⟨h3.trans (final3 m c), h4.trans (final4 m c), h5.trans (final5 m c), hk⟩
  · obtain ⟨h3, h4, h5, hk⟩ := h c
    obtain ⟨e0, e1, e2⟩ := hm c
    refine ⟨h3.trans ?_, h4.trans ?_, h5.trans ?_, hk⟩
    · funext i
      obtain ⟨r, l, rfl⟩ := ix2_surj i
      rw [e0, e1, e2]
      pointwise [ProjectReferenceIdeal.dot_S8192x1024_S1024x3840_S8192x3840_1_0_0_1_n_n]
      rfl
    · funext i
      obtain ⟨r, l, rfl⟩ := ix2_surj i
      rw [e0, e1, e2]
      pointwise [ProjectReferenceIdeal.dot_S8192x1024_S1024x3840_S8192x3840_1_0_0_1_n_n]
      rfl
    · funext i
      obtain ⟨r, l, rfl⟩ := ix2_surj i
      rw [e0, e1]
      pointwise []
      rfl

end Cert.Proof.Project

end
-- ==== Proof.Weight.Payload.lean ====
/- What the products' two steps are at a place: the start, and one block's rows added on. -/
module

public import proofs.«01_k».proof.Proof.Gen.WeightIdeal.Skeleton
public import Idealize.ShloMosaic.Lib.Pointwise

@[expose] public section

noncomputable section

namespace Cert.Proof.Weight

open Idealize.ShloMosaic
open Cert.WeightIdeal Cert.WeightIdeal.Gen

/-- A block of products starts at zero. -/
theorem pay1_apply (i : Fin 1024) (l : Fin 1280) : (k0_pay1 : FVec Ideal S1024x1280 .f32) (ix2 i l) = 0 := by
  pointwise [k0_pay1]

/-- One step adds, over the block's rows, the products of the two columns. -/
theorem pay2_apply (v3 : Vec Ideal S1024x1280 .f32) (v5 : Vec Ideal S512x1024 .bf16) (v6 : Vec Ideal S512x1280 .bf16)
    (i : Fin 1024) (l : Fin 1280) :
    k0_pay2 v3 v5 v6 (ix2 i l) = v3 (ix2 i l) + ∑ r : Fin 512, v5 (ix2 r i) * v6 (ix2 r l) := by
  pointwise [k0_pay2, dot_S512x1024_S512x1280_S1024x1280_0_0_1_1_n_n]

end Cert.Proof.Weight

end
-- ==== Proof.Weight.Value.lean ====
/- The array the weights' gradient's call leaves: the first array's columns against the second's, each block of
   columns summed over the rows, block of rows after block of rows. -/
module

public import proofs.«01_k».proof.Proof.Gen.WeightIdeal.Value
public import proofs.«01_k».proof.Proof.Weight.Payload
public import Idealize.ShloMosaic.Lib.Pipeline.ValueKit

@[expose] public section

noncomputable section

namespace Cert.Proof.Weight

open Idealize.ShloMosaic Idealize.ShloMosaic.TcCoe Idealize.SL Idealize.SL.Sem
open Cert.WeightIdeal Cert.WeightIdeal.Gen Cert.WeightIdeal.Value

variable (m : (ℓ : Loc nD τ sig) → Buf (Elt Ideal) ℓ) (c : Dev nD)

/-- The normalized activations. -/
def lhs (r : Fin 8192) (i : Fin 1024) : EReal :=
  (m ((c : Thread nD τ).loc main_arg0) : Vec Ideal S8192x1024 .bf16) (ix2 r i)
/-- The incoming gradients. -/
def rhs (r : Fin 8192) (j : Fin 3840) : EReal :=
  (m ((c : Thread nD τ).loc main_arg1) : Vec Ideal S8192x3840 .bf16) (ix2 r j)

/-- The products, summed over the rows. -/
def prods : Vec Ideal S1024x3840 .f32 := fun i => ∑ r, lhs m c r (i 0) * rhs m c r (i 1)

theorem ix0 : ∀ t : Fin cfg0.N, win0_0.index t = ![t.val % 16, 0] := (by decide +kernel : ∀ t : Fin grid0.N, _)
theorem ix1 : ∀ t : Fin cfg0.N, win0_1.index t = ![t.val % 16, t.val / 16] := (by decide +kernel : ∀ t : Fin grid0.N, _)
theorem ix2' : ∀ t : Fin cfg0.N, win0_2.index t = ![0, t.val / 16] := (by decide +kernel : ∀ t : Fin grid0.N, _)

/-- The row that is row `r` of the `k`-th block of rows. -/
def row (k : ℕ) (r : Fin 512) : Fin 8192 :=
  ⟨k % 16 * 512 + r.val, by have := r.isLt; have := Nat.mod_lt k (show 0 < 16 by decide); omega⟩

/-- The column that is column `l` of the `j`-th block of columns. -/
def col (j : ℕ) (l : Fin 1280) : Fin 3840 :=
  ⟨j % 3 * 1280 + l.val, by have := l.isLt; have := Nat.mod_lt j (show 0 < 3 by decide); omega⟩

theorem blk0 (t : Fin cfg0.N) (r : Fin 512) (i : Fin 1024) :
    (iblk m c 0 t : Vec Ideal S512x1024 .bf16) (ix2 r i) = lhs m c (row t.val r) i := by
  blk_simp [iblk]
  refine congrArg (m ((c : Thread nD τ).loc main_arg0)) ?_
  blk_ext [ix0, row]

theorem blk1 (t : Fin cfg0.N) (r : Fin 512) (l : Fin 1280) :
    (iblk m c 1 t : Vec Ideal S512x1280 .bf16) (ix2 r l) = rhs m c (row t.val r) (col (t.val / 16) l) := by
  have ht : t.val < 48 := t.isLt
  have h3 : t.val / 16 % 3 = t.val / 16 := Nat.mod_eq_of_lt (by omega)
  blk_simp [iblk]
  refine congrArg (m ((c : Thread nD τ).loc main_arg1)) ?_
  blk_ext [ix1, row, col, h3]

/-- One block of rows' summand. -/
def term (i : Fin 1024) (l : Fin 1280) (n : ℕ) : EReal :=
  ∑ r : Fin 512, lhs m c (row n r) i * rhs m c (row n r) (col (n / 16) l)

/-- The block of products when it is written back. -/
theorem left (i : Fin 1024) (l : Fin 1280) (t : Fin cfg0.N) (h : t.val % 16 = 15) :
    (outsAt0 m c t.val t.isLt) (ix2 i l) = 0 + ∑ k ∈ Finset.range 16, term m c i l (16 * (t.val / 16) + k) := by
  refine Pipeline.eq_sum_of_reset_step_of_mod (fun n h => (outsAt0 m c n h) (ix2 i l)) 16 0 (term m c i l)
    (fun t h => ?_) (fun t h => ?_) t h
  · rw [outsAt0_A m c t h]; frame_out
    rw [pay2_apply, pay1_apply]
    simp only [blk0, blk1]
    rfl
  · rw [outsAt0_B m c t h]; frame_out
    rw [pay2_apply]
    simp only [blk0, blk1]
    rfl

/-- Rows counted by block and place in the block are the rows. -/
theorem sum_rows (f : Fin 8192 → EReal) : ∑ k ∈ Finset.range 16, ∑ r, f (row k r) = ∑ r, f r := by
  rw [Finset.sum_range]
  have e : ∀ k : Fin 16, ∑ r, f (row k.val r) = ∑ r : Fin 512, f (finProdFinEquiv (k, r)) := fun k =>
    Finset.sum_congr rfl fun r _ => congrArg f (Fin.ext (by
      show k.val % 16 * 512 + r.val = r.val + 512 * k.val
      have := k.isLt; omega))
  simp only [e]
  rw [← Fintype.sum_prod_type' (fun (k : Fin 16) (r : Fin 512) => f (finProdFinEquiv (k, r)))]
  exact Equiv.sum_comp (finProdFinEquiv : Fin 16 × Fin 512 ≃ Fin (16 * 512)) f

/-- A block's summands are its columns' over all the rows. -/
theorem sum_terms (i : Fin 1024) (l : Fin 1280) (j : ℕ) (hj : j < 3) :
    ∑ k ∈ Finset.range 16, term m c i l (16 * j + k) = ∑ r, lhs m c r i * rhs m c r (col j l) := by
  rw [← sum_rows]
  refine Finset.sum_congr rfl fun k hk => Finset.sum_congr rfl fun r _ => ?_
  have hk' := Finset.mem_range.mp hk
  have e1 : row (16 * j + k) r = row k r := Fin.ext (by
    show (16 * j + k) % 16 * 512 + r.val = k % 16 * 512 + r.val; omega)
  have e2 : (16 * j + k) / 16 = j := by omega
  rw [e1, e2]

/-- The array at the end. -/
theorem final2 : (dats m 0 c).arrAt 2 cfg0.N = prods m c := by
  refine (dats m 0 c).arrAt_eq_of_covers 2 _ (by decide +kernel) fun t hf y => ?_
  have ht : t.val < 48 := t.isLt
  have h3 : t.val / 16 % 3 = t.val / 16 := Nat.mod_eq_of_lt (by omega)
  blk_simp
  rw [after0_2]
  obtain ⟨i, l, rfl⟩ : ∃ i l, y = ix2 i l := ⟨y 0, y 1, by funext a; fin_cases a <;> rfl⟩
  have e : (win0_2.blk t).view.emb (ix2 i l) = ix2 i (col (t.val / 16) l) := by blk_ext [ix2', col, h3]
  rw [e]
  refine (left m c i l t ((flush0_2 t).mp hf)).trans ?_
  rw [zero_add]
  exact sum_terms m c i l _ (by omega)

end Cert.Proof.Weight

end
-- ==== Proof.Weight.Claims.lean ====
/- The claims about the weights' gradient: its runs, the reference's run, and that their results are equal. -/
module

public import proofs.«01_k».proof.Defs
public import proofs.«01_k».proof.Proof.Gen.Weight
public import proofs.«01_k».proof.Proof.Gen.WeightReferenceIdeal
public import proofs.«01_k».proof.Proof.Gen.WeightReferenceIdeal.Run
public import proofs.«01_k».proof.Proof.Weight.Value

@[expose] public section

noncomputable section

namespace Cert.Proof.Weight

open Idealize.ShloMosaic Idealize.ShloMosaic.TcCoe Idealize.SL Idealize.SL.Sem
open Cert.WeightIdeal

/-- The call's body at the bit patterns is the body the run was found for. -/
theorem bodies_eq : Cert.Weight.defs₀ (F := Bits) = Cert.WeightIdeal.defs₀ := by
  funext p l a
  match p with
  | .tc =>
    match l, a with
    | ⟨0, _⟩, (_, _) => rfl
  | .scScalar _ => rfl
  | .scVector _ _ => rfl

theorem defs_eq : Cert.Weight.defs (F := Bits) = Cert.WeightIdeal.defs := by
  show Pipeline.defs Cert.WeightIdeal.pcfgs (Cert.Weight.defs₀ (F := Bits)) = Pipeline.defs Cert.WeightIdeal.pcfgs Cert.WeightIdeal.defs₀
  rw [bodies_eq]

theorem frame_weight : Cert.quiescent_Weight (hWeight := Cert.Weight.Gen.facts) := fun m g _ => by
  have h := Cert.WeightIdeal.Gen.frame (F := Bits) m g
  show θ_run (Cert.Weight.defs (F := Bits)) (onTc Cert.WeightIdeal.main) _ _
  rw [defs_eq]
  exact h

theorem frame_weightIdeal : Cert.quiescent_WeightIdeal (hWeightIdeal := Cert.WeightIdeal.Gen.facts) := fun m g _ =>
  Cert.WeightIdeal.Gen.frame (F := Ideal) m g

theorem frame_weightReferenceIdeal :
    Cert.quiescent_WeightReferenceIdeal (hWeightReferenceIdeal := WeightReferenceIdeal.Gen.facts) := fun m g _ =>
  (θ_run WeightReferenceIdeal.defs _ _).mono (fun r h => ⟨fun c => (h c).2, sem_eq_zero_of_no_sems (by decide) r.2⟩)
    (WeightReferenceIdeal.Value.run m g)

theorem algebraic_weight : Cert.algebraic_WeightIdeal_WeightReferenceIdeal (hWeightIdeal := Cert.WeightIdeal.Gen.facts)
    (hWeightReferenceIdeal := WeightReferenceIdeal.Gen.facts) := fun m g m' g' _ hm => by
  refine ⟨fun c => prods m c,
    (θ_run Cert.WeightIdeal.defs _ _).mono (fun r h c => ?_) (Cert.WeightIdeal.Value.run_blocks (F := Ideal) m g),
    (θ_run WeightReferenceIdeal.defs _ _).mono (fun r h c => ?_) (WeightReferenceIdeal.Value.run m' g')⟩
  · obtain ⟨h2, hk⟩ := h c
    exact ⟨h2.trans (final2 m c), hk⟩
  · obtain ⟨h2, hk⟩ := h c
    obtain ⟨e0, e1⟩ := hm c
    refine ⟨h2.trans ?_, hk⟩
    funext i
    obtain ⟨r, l, rfl⟩ : ∃ r l, i = ix2 r l := ⟨i 0, i 1, by funext a; fin_cases a <;> rfl⟩
    rw [e0, e1]
    pointwise [WeightReferenceIdeal.dot_S1024x8192_S8192x3840_S1024x3840_1_0_0_1_n_n]
    rfl

end Cert.Proof.Weight

end
-- ==== Proof.Conv.Payload.lean ====
/- What one place of the convolution's block is, and one place of the reference's result. -/
module

public import proofs.«01_k».proof.Proof.Gen.ConvIdeal.Skeleton
public import proofs.«01_k».proof.Proof.Gen.ConvReferenceIdeal.Run
public import Idealize.ShloMosaic.Lib.Pointwise

@[expose] public section

noncomputable section

namespace Cert.Proof.Conv

open Idealize.ShloMosaic

/-- The value `s` rows before row `r`, zero before the first row. -/
def before (u : Fin 8192 → EReal) (s : ℕ) (r : Fin 8192) : EReal :=
  if s ≤ r.val then u ⟨r.val - s, lt_of_le_of_lt (Nat.sub_le _ _) r.isLt⟩ else 0

/-- A column of the gated convolution at row `r`: the gated input `u`, two rows before, one row before and there,
    weighted, with the bias, all gated by `o`. -/
def conv (o u : Fin 8192 → EReal) (w0 w1 w2 b : EReal) (r : Fin 8192) : EReal :=
  o r * (w0 * before u 2 r + w1 * before u 1 r + w2 * u r + b)

section Kernel
open Cert.ConvIdeal Cert.ConvIdeal.Gen

/-- Zero at the first block, one at the later ones. -/
def ind (n : ℕ) : EReal := if n = 0 then 0 else 1

theorem toInt_pos : ∀ n : Fin 16, (Scalar.extui (Scalar.cmpi CmpIPredicate.sgt (BitVec.ofNat 32 n.val) 0#32) : BitVec 32).toInt
    = if n.val = 0 then 0 else 1 := by
  decide +kernel

theorem row_zero : ∀ r : Fin 512, IntOp.cmpi CmpIPredicate.eq (BitVec.ofNat 32 r.val) 0#32 = if r.val = 0 then 1 else 0 := by
  decide +kernel

theorem row_one : ∀ r : Fin 512, IntOp.cmpi CmpIPredicate.eq (BitVec.ofNat 32 r.val) 1#32 = if r.val = 1 then 1 else 0 := by
  decide +kernel

theorem select_ite {α : Type} (p : Prop) [Decidable p] (a b : α) :
    Scalar.select (if p then 1 else 0 : BitVec 1) a b = if p then a else b := by
  by_cases h : p <;> simp [h, Scalar.select]

/-- The two earlier rows' weighted values, at a place of the block: the two rows before the block come from its halo. -/
theorem pay3_apply (i : grid0.Coords) (v0 v1 : Vec Ideal S512x256 .f32) (v3 v4 : Vec Ideal S8x256 .f32)
    (v32 v35 : Vec Ideal S1x256 .f32) (r : Fin 512) (l : Fin 256) :
    k0_pay3 i v0 v1 v3 v4 v32 v35 (ix2 r l)
      = v32 (ix2 0 l) * (if r.val = 0 then v3 (ix2 6 l) * v4 (ix2 6 l) * ind (i 0).val
          else if r.val = 1 then v3 (ix2 7 l) * v4 (ix2 7 l) * ind (i 0).val
          else v0 (ix2 ⟨(r.val + 512 - 2) % 512, Nat.mod_lt _ (by decide)⟩ l)
            * v1 (ix2 ⟨(r.val + 512 - 2) % 512, Nat.mod_lt _ (by decide)⟩ l))
        + v35 (ix2 0 l) * (if r.val = 0 then v3 (ix2 7 l) * v4 (ix2 7 l) * ind (i 0).val
          else v0 (ix2 ⟨(r.val + 512 - 1) % 512, Nat.mod_lt _ (by decide)⟩ l)
            * v1 (ix2 ⟨(r.val + 512 - 1) % 512, Nat.mod_lt _ (by decide)⟩ l)) := by
  pointwise [k0_pay3, k0_pay2]
  have e := toInt_pos (i 0)
  rw [e, row_zero, row_one, select_ite, select_ite, select_ite]
  have e' : (((if (i 0).val = 0 then 0 else 1 : ℤ) : ℝ) : EReal) = ind (i 0).val := by
    unfold ind
    split <;> simp
  rw [e']

/-- The stored block, at a place. -/
theorem pay1_apply (v2 v38 v46 : Vec Ideal S512x256 .f32) (v39 v43 : Vec Ideal S1x256 .f32) (r : Fin 512) (l : Fin 256) :
    k0_pay1 v2 v38 v39 v43 v46 (ix2 r l)
      = v46 (ix2 r l) * (v38 (ix2 r l) + v39 (ix2 0 l) * v2 (ix2 r l) + v43 (ix2 0 l)) := by
  pointwise [k0_pay1]

/-- The gated input, at a place of the block. -/
theorem pay2_apply (v0 v1 : Vec Ideal S512x256 .f32) (r : Fin 512) (l : Fin 256) :
    k0_pay2 v0 v1 (ix2 r l) = v0 (ix2 r l) * v1 (ix2 r l) := by
  pointwise [k0_pay2]

end Kernel

section Reference
open Cert.ConvReferenceIdeal Cert.ConvReferenceIdeal.Gen Cert.ConvReferenceIdeal.Value

/-- The place `off + l` of the padded projection. -/
def lane (off : ℕ) (l : Fin 256) (h : off + 256 ≤ 3840) : Fin 3840 := ⟨off + l.val, by have := l.isLt; omega⟩

/-- The value past the padding is zero. -/
theorem pad_zero : (FloatOps.sitofp FTy.f32 (0#32 : BitVec 32) : Ideal .f32) = (0 : EReal) := by
  show (((0#32 : BitVec 32).toInt : ℝ) : EReal) = 0
  simp

/-- A padded column, read two places on, is the column two rows before. -/
theorem before_two (u : Fin 8192 → EReal) (r : Fin 8192) :
    (if h : 2 ≤ r.val ∧ r.val - 2 < 8192 then u ⟨r.val - 2, h.2⟩
      else (FloatOps.sitofp FTy.f32 (0#32 : BitVec 32) : Ideal .f32)) = before u 2 r := by
  have hr := r.isLt
  unfold before
  by_cases h : 2 ≤ r.val
  · rw [dif_pos ⟨h, by omega⟩, if_pos h]
  · rw [dif_neg fun h' => h h'.1, if_neg h, pad_zero]

/-- … and read one place on, the column one row before. -/
theorem before_one (u : Fin 8192 → EReal) (r : Fin 8192) :
    (if h : 2 ≤ 1 + r.val ∧ 1 + r.val - 2 < 8192 then u ⟨1 + r.val - 2, h.2⟩
      else (FloatOps.sitofp FTy.f32 (0#32 : BitVec 32) : Ideal .f32)) = before u 1 r := by
  have hr := r.isLt
  unfold before
  by_cases h : 1 ≤ r.val
  · rw [dif_pos ⟨by omega, by omega⟩, if_pos h]
    exact congrArg u (Fin.ext (by show 1 + r.val - 2 = r.val - 1; omega))
  · rw [dif_neg fun h' => h (by omega), if_neg h, pad_zero]

/-- The reference's result, at a place. -/
theorem ref_apply (x : Vec Ideal S8192x3840 .f32) (w : Vec Ideal S8x256 .f32) (b : Vec Ideal S1x256 .f32) (r : Fin 8192)
    (l : Fin 256) :
    (mulf (extractStridedSlice S8192x256 ![0, 1536] x slices_S8192x3840_S8192x256_0_1536) (addf (addf (addf (mulf (broadcastInDim S8192x256 ![0, 1] bcast_S1x256_S8192x256_0_1 (broadcastInDim S1x256 ![1] bcast_S256_S1x256_1 (shapeCast _ (extractStridedSlice S1x256 ![0, 0] w slices_S8x256_S1x256_0_0) shapeCasts_S1x256_S256))) (extractStridedSlice S8192x256 ![0, 0] (pad S8194x256 ![2, 0] ![0, 0] ![0, 0] (mulf (extractStridedSlice S8192x256 ![0, 1792] x slices_S8192x3840_S8192x256_0_1792) (extractStridedSlice S8192x256 ![0, 2048] x slices_S8192x3840_S8192x256_0_2048)) (sitofp .f32 (constantI S_ 32 0#32)) pads_S8192x256_S8194x256_200_000 h_S_) slices_S8194x256_S8192x256_0_0)) (mulf (broadcastInDim S8192x256 ![0, 1] bcast_S1x256_S8192x256_0_1 (broadcastInDim S1x256 ![1] bcast_S256_S1x256_1 (shapeCast _ (extractStridedSlice S1x256 ![1, 0] w slices_S8x256_S1x256_1_0) shapeCasts_S1x256_S256))) (extractStridedSlice S8192x256 ![1, 0] (pad S8194x256 ![2, 0] ![0, 0] ![0, 0] (mulf (extractStridedSlice S8192x256 ![0, 1792] x slices_S8192x3840_S8192x256_0_1792) (extractStridedSlice S8192x256 ![0, 2048] x slices_S8192x3840_S8192x256_0_2048)) (sitofp .f32 (constantI S_ 32 0#32)) pads_S8192x256_S8194x256_200_000 h_S_) slices_S8194x256_S8192x256_1_0))) (mulf (broadcastInDim S8192x256 ![0, 1] bcast_S1x256_S8192x256_0_1 (broadcastInDim S1x256 ![1] bcast_S256_S1x256_1 (shapeCast _ (extractStridedSlice S1x256 ![2, 0] w slices_S8x256_S1x256_2_0) shapeCasts_S1x256_S256))) (extractStridedSlice S8192x256 ![2, 0] (pad S8194x256 ![2, 0] ![0, 0] ![0, 0] (mulf (extractStridedSlice S8192x256 ![0, 1792] x slices_S8192x3840_S8192x256_0_1792) (extractStridedSlice S8192x256 ![0, 2048] x slices_S8192x3840_S8192x256_0_2048)) (sitofp .f32 (constantI S_ 32 0#32)) pads_S8192x256_S8194x256_200_000 h_S_) slices_S8194x256_S8192x256_2_0))) (broadcastInDim S8192x256 ![0, 1] bcast_S1x256_S8192x256_0_1 b)) : FVec Ideal S8192x256 .f32) (ix2 r l)
      = conv (fun r => x (ix2 r (lane 1536 l (by decide))))
          (fun r => x (ix2 r (lane 1792 l (by decide))) * x (ix2 r (lane 2048 l (by decide))))
          (w (ix2 0 l)) (w (ix2 1 l)) (w (ix2 2 l)) (b (ix2 0 l)) r := by
  pointwise []
  unfold conv
  rw [← before_two, ← before_one]
  rfl

end Reference

end Cert.Proof.Conv

end
-- ==== Proof.Conv.Value.lean ====
/- The array the convolution's call leaves: every column at every row is the gated convolution of the projection's
   three groups of columns. -/
module

public import proofs.«01_k».proof.Proof.Gen.ConvIdeal.Value
public import proofs.«01_k».proof.Proof.Conv.Payload
public import Idealize.ShloMosaic.Lib.Pipeline.ValueKit

@[expose] public section

noncomputable section

namespace Cert.Proof.Conv

open Idealize.ShloMosaic Idealize.ShloMosaic.TcCoe Idealize.SL Idealize.SL.Sem
open Cert.ConvIdeal Cert.ConvIdeal.Gen Cert.ConvIdeal.Value

variable (m : (ℓ : Loc nD τ sig) → Buf (Elt Ideal) ℓ) (c : Dev nD)

/-- The projection. -/
def hid (r : Fin 8192) (j : Fin 3840) : EReal :=
  (m ((c : Thread nD τ).loc main_arg0) : Vec Ideal S8192x3840 .f32) (ix2 r j)
/-- The convolution's weights. -/
def tap (k : Fin 8) (l : Fin 256) : EReal := (m ((c : Thread nD τ).loc main_arg1) : Vec Ideal S8x256 .f32) (ix2 k l)
/-- The convolution's bias. -/
def bias (l : Fin 256) : EReal := (m ((c : Thread nD τ).loc main_arg2) : Vec Ideal S1x256 .f32) (ix2 0 l)

/-- The gated input of column `l`. -/
def gated (l : Fin 256) (r : Fin 8192) : EReal :=
  hid m c r (lane 1792 l (by decide)) * hid m c r (lane 2048 l (by decide))

/-- The gated convolution. -/
def convs : Vec Ideal S8192x256 .f32 := fun i =>
  conv (fun r => hid m c r (lane 1536 (i 1) (by decide))) (gated m c (i 1)) (tap m c 0 (i 1)) (tap m c 1 (i 1))
    (tap m c 2 (i 1)) (bias m c (i 1)) (i 0)

theorem ix0 : ∀ t : Fin cfg0.N, win0_0.index t = ![t.val, 6] := (by decide +kernel : ∀ t : Fin grid0.N, _)
theorem ix1 : ∀ t : Fin cfg0.N, win0_1.index t = ![t.val, 7] := (by decide +kernel : ∀ t : Fin grid0.N, _)
theorem ix2' : ∀ t : Fin cfg0.N, win0_2.index t = ![t.val, 8] := (by decide +kernel : ∀ t : Fin grid0.N, _)
theorem ix3 : ∀ t : Fin cfg0.N, win0_3.index t = ![t.val * 64 - 1, 7] := (by decide +kernel : ∀ t : Fin grid0.N, _)
theorem ix4 : ∀ t : Fin cfg0.N, win0_4.index t = ![t.val * 64 - 1, 8] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![t.val, 0] := (by decide +kernel : ∀ t : Fin grid0.N, _)
theorem coord : ∀ t : Fin cfg0.N, (grid0.coords t 0).val = t.val := (by decide +kernel : ∀ t : Fin grid0.N, _)

/-- The row of the arrays that is row `r` of block `t`. -/
def at_ (t : Fin cfg0.N) (r : Fin 512) : Fin 8192 :=
  ⟨t.val * 512 + r.val, by have h : t.val < 16 := t.isLt; have := r.isLt; omega⟩

/-- The row of the arrays that is row `q` of the halo before block `t`. -/
def halo (t : Fin cfg0.N) (q : Fin 8) : Fin 8192 :=
  ⟨(t.val * 64 - 1) * 8 + q.val, by have h : t.val < 16 := t.isLt; have := q.isLt; omega⟩

theorem blk0 (t : Fin cfg0.N) (r : Fin 512) (l : Fin 256) :
    (iblk m c 0 t : Vec Ideal S512x256 .f32) (ix2 r l) = hid m c (at_ t r) (lane 1536 l (by decide)) := by
  blk_simp [iblk]
  refine congrArg (m ((c : Thread nD τ).loc main_arg0)) ?_
  blk_ext [ix0, at_, lane]

theorem blk1 (t : Fin cfg0.N) (r : Fin 512) (l : Fin 256) :
    (iblk m c 1 t : Vec Ideal S512x256 .f32) (ix2 r l) = hid m c (at_ t r) (lane 1792 l (by decide)) := by
  blk_simp [iblk]
  refine congrArg (m ((c : Thread nD τ).loc main_arg0)) ?_
  blk_ext [ix1, at_, lane]

theorem blk2 (t : Fin cfg0.N) (r : Fin 512) (l : Fin 256) :
    (iblk m c 2 t : Vec Ideal S512x256 .f32) (ix2 r l) = hid m c (at_ t r) (lane 2048 l (by decide)) := by
  blk_simp [iblk]
  refine congrArg (m ((c : Thread nD τ).loc main_arg0)) ?_
  blk_ext [ix2', at_, lane]

theorem blk3 (t : Fin cfg0.N) (q : Fin 8) (l : Fin 256) :
    (iblk m c 3 t : Vec Ideal S8x256 .f32) (ix2 q l) = hid m c (halo t q) (lane 1792 l (by decide)) := by
  blk_simp [iblk]
  refine congrArg (m ((c : Thread nD τ).loc main_arg0)) ?_
  blk_ext [ix3, halo, lane]

theorem blk4 (t : Fin cfg0.N) (q : Fin 8) (l : Fin 256) :
    (iblk m c 4 t : Vec Ideal S8x256 .f32) (ix2 q l) = hid m c (halo t q) (lane 2048 l (by decide)) := by
  blk_simp [iblk]
  refine congrArg (m ((c : Thread nD τ).loc main_arg0)) ?_
  blk_ext [ix4, halo, lane]

theorem blk5 (t : Fin cfg0.N) (q : Fin 8) (l : Fin 256) :
    (iblk m c 5 t : Vec Ideal S8x256 .f32) (ix2 q l) = tap m c q l := by
  blk_simp [iblk]
  refine congrArg (m ((c : Thread nD τ).loc main_arg1)) ?_
  blk_ext [ix5]

theorem tap0 (t : Fin cfg0.N) (l : Fin 256) :
    (View.ld (iblk m c 5 t : Vec Ideal S8x256 .f32) r0_2 : Vec Ideal S1x256 .f32) (ix2 0 l) = tap m c 0 l := by
  refine Eq.trans ?_ (blk5 m c t 0 l)
  refine congrArg (iblk m c 5 t) ?_
  funext a
  fin_cases a
  · rfl
  · exact Fin.ext (show 0 + 1 * l.val = l.val by omega)

theorem tap1 (t : Fin cfg0.N) (l : Fin 256) :
    (View.ld (iblk m c 5 t : Vec Ideal S8x256 .f32) r0_3 : Vec Ideal S1x256 .f32) (ix2 0 l) = tap m c 1 l := by
  refine Eq.trans ?_ (blk5 m c t 1 l)
  refine congrArg (iblk m c 5 t) ?_
  funext a
  fin_cases a
  · rfl
  · exact Fin.ext (show 0 + 1 * l.val = l.val by omega)

theorem tap2 (t : Fin cfg0.N) (l : Fin 256) :
    (View.ld (iblk m c 5 t : Vec Ideal S8x256 .f32) r0_4 : Vec Ideal S1x256 .f32) (ix2 0 l) = tap m c 2 l := by
  refine Eq.trans ?_ (blk5 m c t 2 l)
  refine congrArg (iblk m c 5 t) ?_
  funext a
  fin_cases a
  · rfl
  · exact Fin.ext (show 0 + 1 * l.val = l.val by omega)

theorem blk6 (t : Fin cfg0.N) (l : Fin 256) : (iblk m c 6 t : Vec Ideal S1x256 .f32) (ix2 0 l) = bias m c l := by
  blk_simp [iblk]
  refine congrArg (m ((c : Thread nD τ).loc main_arg2)) ?_
  blk_ext [ix6]

/-- A column `s` rows before row `r` of block `t`, for a row that has it in the block. -/
theorem before_in (u : Fin 8192 → EReal) (s : ℕ) (t : Fin cfg0.N) (r : Fin 512) (h : s ≤ r.val) (hs : 0 < s) :
    u (at_ t ⟨(r.val + 512 - s) % 512, Nat.mod_lt _ (by decide)⟩) = before u s (at_ t r) := by
  have hr := r.isLt
  unfold before
  rw [if_pos (show s ≤ (at_ t r).val from (by omega : s ≤ t.val * 512 + r.val))]
  refine congrArg u (Fin.ext ?_)
  show t.val * 512 + (r.val + 512 - s) % 512 = t.val * 512 + r.val - s
  have : (r.val + 512 - s) % 512 = r.val - s := by omega
  omega

/-- … and for a row that has it in the halo. -/
theorem before_out (u : Fin 8192 → EReal) (s : ℕ) (t : Fin cfg0.N) (r : Fin 512) (q : Fin 8) (h : q.val + s = 8 + r.val)
    (hs : r.val < s) (hs' : s < 8) : u (halo t q) * ind t.val = before u s (at_ t r) := by
  have hq := q.isLt
  unfold before ind
  by_cases h0 : t.val = 0
  · rw [if_pos h0, mul_zero, if_neg (show ¬s ≤ (at_ t r).val from (by omega : ¬s ≤ t.val * 512 + r.val))]
  · rw [if_neg h0, mul_one, if_pos (show s ≤ (at_ t r).val from (by omega : s ≤ t.val * 512 + r.val))]
    refine congrArg u (Fin.ext ?_)
    show (t.val * 64 - 1) * 8 + q.val = t.val * 512 + r.val - s
    omega

/-- The first earlier row's weighted value and the second's, in the arrays. -/
theorem earlier (t : Fin cfg0.N) (r : Fin 512) (l : Fin 256) (v32 v35 : Vec Ideal S1x256 .f32) :
    k0_pay3 (grid0.coords t) (iblk m c 1 t) (iblk m c 2 t) (iblk m c 3 t) (iblk m c 4 t) v32 v35 (ix2 r l)
      = v32 (ix2 0 l) * before (gated m c l) 2 (at_ t r) + v35 (ix2 0 l) * before (gated m c l) 1 (at_ t r) := by
  refine (pay3_apply ..).trans ?_
  simp only [blk1, blk2, blk3, blk4, coord]
  congr 2
  · split
    · exact before_out (gated m c l) 2 t r 6 (by simp; omega) (by omega) (by decide)
    · split
      · exact before_out (gated m c l) 2 t r 7 (by simp; omega) (by omega) (by decide)
      · exact before_in (gated m c l) 2 t r (by omega) (by decide)
  · split
    · exact before_out (gated m c l) 1 t r 7 (by simp; omega) (by omega) (by decide)
    · exact before_in (gated m c l) 1 t r (by omega) (by decide)

/-- The array at the end. -/
theorem final7 : (dats m 0 c).arrAt 7 cfg0.N = convs m c := by
  refine (dats m 0 c).arrAt_eq_of_covers 7 _ (by decide +kernel) fun t hf y => ?_
  blk_simp
  rw [after0_7]
  obtain ⟨r, l, rfl⟩ : ∃ r l, y = ix2 r l := ⟨y 0, y 1, by funext a; fin_cases a <;> rfl⟩
  have e : (win0_7.blk t).view.emb (ix2 r l) = ix2 (at_ t r) l := by blk_ext [ix7, at_]
  rw [e]
  dsimp only [out0_7]
  frame_out
  refine (pay1_apply ..).trans ?_
  rw [pay2_apply, earlier, tap0, tap1, tap2]
  simp only [blk0, blk1, blk2, blk6]
  rfl

end Cert.Proof.Conv

end
-- ==== Proof.Conv.Claims.lean ====
/- The claims about the convolution: its runs, the reference's run, and that their results are equal. -/
module

public import proofs.«01_k».proof.Defs
public import proofs.«01_k».proof.Proof.Gen.Conv
public import proofs.«01_k».proof.Proof.Gen.ConvReferenceIdeal
public import proofs.«01_k».proof.Proof.Gen.ConvReferenceIdeal.Run
public import proofs.«01_k».proof.Proof.Conv.Value

@[expose] public section

noncomputable section

namespace Cert.Proof.Conv

open Idealize.ShloMosaic Idealize.ShloMosaic.TcCoe Idealize.SL Idealize.SL.Sem
open Cert.ConvIdeal

/-- The call's body at the bit patterns is the body the run was found for. -/
theorem bodies_eq : Cert.Conv.defs₀ (F := Bits) = Cert.ConvIdeal.defs₀ := by
  funext p l a
  match p with
  | .tc =>
    match l, a with
    | ⟨0, _⟩, (_, _) => rfl
  | .scScalar _ => rfl
  | .scVector _ _ => rfl

theorem defs_eq : Cert.Conv.defs (F := Bits) = Cert.ConvIdeal.defs := by
  show Pipeline.defs Cert.ConvIdeal.pcfgs (Cert.Conv.defs₀ (F := Bits)) = Pipeline.defs Cert.ConvIdeal.pcfgs Cert.ConvIdeal.defs₀
  rw [bodies_eq]

theorem frame_conv : Cert.quiescent_Conv (hConv := Cert.Conv.Gen.facts) := fun m g _ => by
  have h := Cert.ConvIdeal.Gen.frame (F := Bits) m g
  show θ_run (Cert.Conv.defs (F := Bits)) (onTc Cert.ConvIdeal.main) _ _
  rw [defs_eq]
  exact h

theorem frame_convIdeal : Cert.quiescent_ConvIdeal (hConvIdeal := Cert.ConvIdeal.Gen.facts) := fun m g _ =>
  Cert.ConvIdeal.Gen.frame (F := Ideal) m g

theorem frame_convReferenceIdeal :
    Cert.quiescent_ConvReferenceIdeal (hConvReferenceIdeal := ConvReferenceIdeal.Gen.facts) := fun m g _ =>
  (θ_run ConvReferenceIdeal.defs _ _).mono (fun r h => ⟨fun c => (h c).2, sem_eq_zero_of_no_sems (by decide) r.2⟩)
    (ConvReferenceIdeal.Value.run m g)

theorem algebraic_conv : Cert.algebraic_ConvIdeal_ConvReferenceIdeal (hConvIdeal := Cert.ConvIdeal.Gen.facts)
    (hConvReferenceIdeal := ConvReferenceIdeal.Gen.facts) := fun m g m' g' _ hm => by
  refine ⟨fun c => convs m c,
    (θ_run Cert.ConvIdeal.defs _ _).mono (fun r h c => ?_) (Cert.ConvIdeal.Value.run_blocks (F := Ideal) m g),
    (θ_run ConvReferenceIdeal.defs _ _).mono (fun r h c => ?_) (ConvReferenceIdeal.Value.run m' g')⟩
  · obtain ⟨h7, hk⟩ := h c
    exact ⟨h7.trans (final7 m c), hk⟩
  · obtain ⟨h7, hk⟩ := h c
    obtain ⟨e0, e1, e2⟩ := hm c
    refine ⟨h7.trans ?_, hk⟩
    funext i
    obtain ⟨r, l, rfl⟩ : ∃ r l, i = ix2 r l := ⟨i 0, i 1, by funext a; fin_cases a <;> rfl⟩
    rw [e0, e1, e2]
    exact ref_apply _ _ _ r l

end Cert.Proof.Conv

end
-- ==== Proof.Mix.Payload.lean ====
/- What one place of the mixed row, of its output projection and of the block's result is, in the kernel and in the
   reference. -/
module

public import proofs.«01_k».proof.Proof.Gen.MixIdeal.Skeleton
public import proofs.«01_k».proof.Proof.Gen.MixReferenceIdeal.Run
public import proofs.«01_k».proof.Proof.Norm

@[expose] public section

noncomputable section

namespace Cert.Proof.Mix

open Idealize.ShloMosaic

/-- Place `p` of the third group's row: of every 128 columns the first 64 are in use. -/
def comp (y : Fin 512 → EReal) (p : Fin 256) : EReal := y ⟨p.val / 64 * 128 + p.val % 64, by have := p.isLt; omega⟩

/-- The gate's factor: the gate times its logistic. -/
def silu (z : EReal) : EReal := z * Ideal.div 1 (1 + Ideal.exp (-z))

/-- Place `j` of the mixed row: the groups' rows normalized one by one and weighted, gated. -/
def mixed (ys : Fin 4 → Fin 256 → EReal) (gate gg : Fin 1024 → EReal) (j : Fin 1024) : EReal :=
  ys ⟨j.val / 256, by have := j.isLt; omega⟩ ⟨j.val % 256, by omega⟩
      * Ideal.rsqrt (Ideal.div (∑ x, ys ⟨j.val / 256, by have := j.isLt; omega⟩ x
        * ys ⟨j.val / 256, by have := j.isLt; omega⟩ x) (Ideal.ofBits .f32 0x43800000#32) + Ideal.ofBits .f32 0x358637BD#32)
      * gg j * silu (gate j)

/-- A row through the output projection. -/
def output (y : Fin 1024 → EReal) (W : Fin 1024 → Fin 1024 → EReal) (j : Fin 1024) : EReal := ∑ k, y k * W k j

section Kernel
open Cert.MixIdeal Cert.MixIdeal.Gen

/-- The third group's columns in use, at a place. -/
theorem pay3_apply (v2 : Vec Ideal S256x512 .f32) (r : Fin 256) (p : Fin 256) :
    k0_pay3 v2 (ix2 r p) = comp (fun k => v2 (ix2 r k)) p := by
  pointwise [k0_pay3]
  have hp := p.isLt
  unfold comp
  split
  · exact congrArg (fun k => v2 (ix2 r k)) (Fin.ext (by show p.val = p.val / 64 * 128 + p.val % 64; omega))
  · split
    · exact congrArg (fun k => v2 (ix2 r k)) (Fin.ext (by
        show 128 + (p.val - 64) = p.val / 64 * 128 + p.val % 64; omega))
    · split
      · exact congrArg (fun k => v2 (ix2 r k)) (Fin.ext (by
          show 256 + (p.val - 64 - 64) = p.val / 64 * 128 + p.val % 64; omega))
      · exact congrArg (fun k => v2 (ix2 r k)) (Fin.ext (by
          show 384 + (p.val - 64 - 64 - 64) = p.val / 64 * 128 + p.val % 64; omega))

/-- The gate's factor, at a place. -/
theorem pay4_apply (v9 : Vec Ideal S256x1024 .f32) (r : Fin 256) (j : Fin 1024) :
    k0_pay4 v9 (ix2 r j) = silu (v9 (ix2 r j)) := by
  pointwise [k0_pay4]
  rw [zero_sub]
  rfl

/-- The stored mixed rows, at a place. -/
theorem pay7_apply (v0 v1 v7 v8 : FVec Ideal S256x256 .f32) (v9 : Vec Ideal S256x1024 .f32)
    (g0 g1 g2 g3 : Vec Ideal S1x256 .f32) (gg : Fin 1024 → EReal)
    (h0 : ∀ p : Fin 256, g0 (ix2 0 p) = gg ⟨p.val, by have := p.isLt; omega⟩)
    (h1 : ∀ p : Fin 256, g1 (ix2 0 p) = gg ⟨256 + p.val, by have := p.isLt; omega⟩)
    (h2 : ∀ p : Fin 256, g2 (ix2 0 p) = gg ⟨512 + p.val, by have := p.isLt; omega⟩)
    (h3 : ∀ p : Fin 256, g3 (ix2 0 p) = gg ⟨768 + p.val, by have := p.isLt; omega⟩) (r : Fin 256) (j : Fin 1024) :
    k0_pay7 v1 v7 v8 (k0_pay4 v9) (k0_pay5 v0 v9 g0) g1 (k0_pay6 v1) (Scalar.ofBits .f32 0x43800000#32) g2 g3 (ix2 r j)
      = mixed ![fun k => v0 (ix2 r k), fun k => v1 (ix2 r k), fun k => v7 (ix2 r k), fun k => v8 (ix2 r k)]
          (fun k => v9 (ix2 r k)) gg j := by
  pointwise [k0_pay7, k0_pay5, k0_pay6]
  have hj := j.isLt
  simp only [pay4_apply, h0, h1, h2, h3]
  unfold mixed
  split
  · have e1 : j.val / 256 = 0 := by omega
    have e2 : j.val % 256 = j.val := by omega
    simp only [e1, e2]
    rfl
  · split
    · have e1 : j.val / 256 = 1 := by omega
      have e2 : j.val % 256 = j.val - 256 := by omega
      have e3 : 256 + (j.val - 256) = j.val := by omega
      simp only [e1, e2, e3]
      rfl
    · split
      · have e1 : j.val / 256 = 2 := by omega
        have e2 : j.val % 256 = j.val - 256 - 256 := by omega
        have e3 : 512 + (j.val - 256 - 256) = j.val := by omega
        simp only [e1, e2, e3]
        rfl
      · have e1 : j.val / 256 = 3 := by omega
        have e2 : j.val % 256 = j.val - 256 - 256 - 256 := by omega
        have e3 : 768 + (j.val - 256 - 256 - 256) = j.val := by omega
        simp only [e1, e2, e3]
        rfl

/-- The stored output projection, at a place. -/
theorem pay1_apply (y : FVec Ideal S256x1024 .bf16) (W : Vec Ideal S1024x1024 .bf16) (r : Fin 256) (j : Fin 1024) :
    k0_pay1 y W (ix2 r j) = output (fun k => y (ix2 r k)) (fun k l => W (ix2 k l)) j := by
  pointwise [k0_pay1, dot_S256x1024_S1024x1024_S256x1024_1_0_0_1_n_n]
  rfl

/-- The stored result, at a place: the activations plus the normalized output projection. -/
theorem pay2_apply (y : FVec Ideal S256x1024 .bf16) (W : Vec Ideal S1024x1024 .bf16) (g : Vec Ideal S1x1024 .f32)
    (x : Vec Ideal S256x1024 .f32) (r : Fin 256) (j : Fin 1024) :
    k0_pay2 y W g x (ix2 r j)
      = x (ix2 r j) + normed 0x44800000#32 (output (fun k => y (ix2 r k)) (fun k l => W (ix2 k l)))
          (fun k => g (ix2 0 k)) j := by
  pointwise [k0_pay2]
  simp only [pay1_apply]
  rfl

end Kernel

section Reference
open Cert.MixReferenceIdeal Cert.MixReferenceIdeal.Gen Cert.MixReferenceIdeal.Value

/-- The reference's rows of the third group with the unused columns left out. -/
def refComp (y : Vec Ideal S8192x512 .f32) : Vec Ideal S8192x256 .f32 :=
  shapeCast _ (extractStridedSlice S8192x4x64 ![0, 0, 0] (shapeCast _ y shapeCasts_S8192x512_S8192x4x128)
    slices_S8192x4x128_S8192x4x64_0_0_0) shapeCasts_S8192x4x64_S8192x256

/-- The reference's four groups, one beside the other. -/
def refStack (ya yb yc yd : Vec Ideal S8192x256 .f32) : Vec Ideal S8192x4x256 .f32 :=
  concatenate S8192x4x256 1
    [⟨S8192x1x256, broadcastInDim S8192x1x256 ![0, 2] bcast_S8192x256_S8192x1x256_0_2 ya⟩,
     ⟨S8192x1x256, broadcastInDim S8192x1x256 ![0, 2] bcast_S8192x256_S8192x1x256_0_2 yb⟩,
     ⟨S8192x1x256, broadcastInDim S8192x1x256 ![0, 2] bcast_S8192x256_S8192x1x256_0_2 yc⟩,
     ⟨S8192x1x256, broadcastInDim S8192x1x256 ![0, 2] bcast_S8192x256_S8192x1x256_0_2 yd⟩]
    concatenates_S8192x1x256_S8192x1x256_S8192x1x256_S8192x1x256_S8192x4x256_d1

/-- The reference's groups, each normalized and weighted, as one row. -/
def refNorm (s : FVec Ideal S8192x4x256 .f32) (gg : FVec Ideal S1x1024 .f32) : FVec Ideal S8192x1024 .f32 :=
  shapeCast _ (mulf (mulf s (broadcastInDim S8192x4x256 ![0, 1, 2] bcast_S8192x4x1_S8192x4x256_0_1_2
    (Host.rsqrt (addf (Host.divf (broadcastInDim S8192x4x1 ![0, 1] bcast_S8192x4_S8192x4x1_0_1
        (Host.reduceAdd (mulf s s) (constant S_ .f32 0x00000000#32) reducesTo_S8192x4x256_S8192x4_d2 h_S_))
      (broadcastInDim S8192x4x1 ![] bcast_S_S8192x4x1 (constant S_ .f32 0x43800000#32)))
      (broadcastInDim S8192x4x1 ![] bcast_S_S8192x4x1 (constant S_ .f32 0x358637BD#32))))))
    (broadcastInDim S8192x4x256 ![0, 1, 2] bcast_S1x4x256_S8192x4x256_0_1_2
      (broadcastInDim S1x4x256 ![1, 2] bcast_S4x256_S1x4x256_1_2 (shapeCast _ gg shapeCasts_S1x1024_S4x256))))
    shapeCasts_S8192x4x256_S8192x1024

/-- The reference's gate. -/
def refGate (h : FVec Ideal S8192x3840 .f32) : FVec Ideal S8192x1024 .f32 :=
  mulf (extractStridedSlice S8192x1024 ![0, 0] h slices_S8192x3840_S8192x1024_0_0)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 0] h slices_S8192x3840_S8192x1024_0_0)))))

theorem refComp_apply (y : Vec Ideal S8192x512 .f32) (r : Fin 8192) (p : Fin 256) :
    refComp y (ix2 r p) = comp (fun k => y (ix2 r k)) p := by
  unfold comp
  pointwise [refComp]

theorem refStack_apply (ya yb yc yd : Vec Ideal S8192x256 .f32) (r : Fin 8192) (g : Fin 4) (p : Fin 256) :
    refStack ya yb yc yd (ix3 r g p)
      = (![fun k => ya (ix2 r k), fun k => yb (ix2 r k), fun k => yc (ix2 r k), fun k => yd (ix2 r k)]
          : Fin 4 → Fin 256 → EReal) g p := by
  pointwise [refStack]
  fin_cases g <;> rfl

theorem refNorm_apply (s : FVec Ideal S8192x4x256 .f32) (gg : FVec Ideal S1x1024 .f32) (h : FVec Ideal S8192x3840 .f32)
    (r : Fin 8192) (j : Fin 1024) :
    (mulf (refNorm s gg) (refGate h) : FVec Ideal S8192x1024 .f32) (ix2 r j)
      = mixed (fun g p => s (ix3 r g p)) (fun k => h (ix2 r ⟨k.val, by have := k.isLt; omega⟩)) (fun k => gg (ix2 0 k)) j := by
  pointwise [refNorm, refGate]
  rfl

variable (m : (ℓ : Loc nD τ sig) → Buf (Elt Ideal) ℓ) (c : Dev nD)

/-- The reference's mixed rows. -/
def refMix : FVec Ideal S8192x1024 .f32 :=
  mulf (refNorm (refStack (m ((c.tc : Thread nD τ).loc main_arg0)) (m ((c.tc : Thread nD τ).loc main_arg1))
    (refComp (m ((c.tc : Thread nD τ).loc main_arg2))) (m ((c.tc : Thread nD τ).loc main_arg3)))
    (m ((c.tc : Thread nD τ).loc main_arg5))) (refGate (m ((c.tc : Thread nD τ).loc main_arg4)))

/-- The reference's output projection of rows `y`. -/
def refOut (y : FVec Ideal S8192x1024 .f32) (W : Vec Ideal S1024x1024 .bf16) : FVec Ideal S8192x1024 .f32 :=
  Host.dotGeneral dot_S8192x1024_S1024x1024_S8192x1024_1_0_0_1_n_n none y (extf .f32 W bitsLt_bf16_f32)

/-- The reference's activations plus the normalized rows `o`. -/
def refNew (o : FVec Ideal S8192x1024 .f32) (g : FVec Ideal S1x1024 .f32) (x : FVec Ideal S8192x1024 .f32) :
    FVec Ideal S8192x1024 .f32 :=
  addf x (mulf (mulf o (broadcastInDim S8192x1024 ![0, 1] bcast_S8192x1_S8192x1024_0_1
    (Host.rsqrt (addf (Host.divf (broadcastInDim S8192x1 ![0] bcast_S8192_S8192x1_0
        (Host.reduceAdd (mulf o o) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 g))

theorem refOut_apply (y : FVec Ideal S8192x1024 .f32) (W : Vec Ideal S1024x1024 .bf16) (r : Fin 8192) (j : Fin 1024) :
    refOut y W (ix2 r j) = output (fun k => y (ix2 r k)) (fun k l => W (ix2 k l)) j := by
  pointwise [refOut, dot_S8192x1024_S1024x1024_S8192x1024_1_0_0_1_n_n]
  rfl

theorem refNew_apply (o : FVec Ideal S8192x1024 .f32) (g : FVec Ideal S1x1024 .f32) (x : FVec Ideal S8192x1024 .f32)
    (r : Fin 8192) (j : Fin 1024) :
    refNew o g x (ix2 r j)
      = x (ix2 r j) + normed 0x44800000#32 (fun k => o (ix2 r k)) (fun k => g (ix2 0 k)) j := by
  pointwise [refNew]
  rfl

/-- The reference's three results. -/
theorem res1_eq : res_main_v41 m c = truncf .bf16 (refMix m c) bitsLt_bf16_f32 := rfl

theorem res2_eq : res_main_v27 m c = refOut (refMix m c) (m ((c.tc : Thread nD τ).loc main_arg6)) := rfl

theorem res0_eq : res_main_v40 m c = refNew (refOut (refMix m c) (m ((c.tc : Thread nD τ).loc main_arg6)))
    (m ((c.tc : Thread nD τ).loc main_arg7)) (m ((c.tc : Thread nD τ).loc main_arg8)) := rfl

theorem refMix_apply (r : Fin 8192) (j : Fin 1024) :
    refMix m c (ix2 r j)
      = mixed ![fun k => (m ((c.tc : Thread nD τ).loc main_arg0) : Vec Ideal S8192x256 .f32) (ix2 r k),
            fun k => (m ((c.tc : Thread nD τ).loc main_arg1) : Vec Ideal S8192x256 .f32) (ix2 r k),
            comp fun k => (m ((c.tc : Thread nD τ).loc main_arg2) : Vec Ideal S8192x512 .f32) (ix2 r k),
            fun k => (m ((c.tc : Thread nD τ).loc main_arg3) : Vec Ideal S8192x256 .f32) (ix2 r k)]
          (fun k => (m ((c.tc : Thread nD τ).loc main_arg4) : Vec Ideal S8192x3840 .f32)
            (ix2 r ⟨k.val, by have := k.isLt; omega⟩))
          (fun k => (m ((c.tc : Thread nD τ).loc main_arg5) : Vec Ideal S1x1024 .f32) (ix2 0 k)) j := by
  refine (refNorm_apply ..).trans ?_
  simp only [refStack_apply, refComp_apply]

end Reference

end Cert.Proof.Mix

end
-- ==== Proof.Mix.Value.lean ====
/- The three arrays the mixing call leaves: every block is its rows' results, mixed rows and output projections. -/
module

public import proofs.«01_k».proof.Proof.Gen.MixIdeal.Value
public import proofs.«01_k».proof.Proof.Mix.Payload
public import Idealize.ShloMosaic.Lib.Pipeline.ValueKit

@[expose] public section

noncomputable section

namespace Cert.Proof.Mix

open Idealize.ShloMosaic Idealize.ShloMosaic.TcCoe Idealize.SL Idealize.SL.Sem
open Cert.MixIdeal Cert.MixIdeal.Gen Cert.MixIdeal.Value

variable (m : (ℓ : Loc nD τ sig) → Buf (Elt Ideal) ℓ) (c : Dev nD)

/-- The first group's row. -/
def rowA (r : Fin 8192) (p : Fin 256) : EReal := (m ((c : Thread nD τ).loc main_arg0) : Vec Ideal S8192x256 .f32) (ix2 r p)
/-- The second group's row. -/
def rowB (r : Fin 8192) (p : Fin 256) : EReal := (m ((c : Thread nD τ).loc main_arg1) : Vec Ideal S8192x256 .f32) (ix2 r p)
/-- The third group's row, with its unused columns. -/
def rowC (r : Fin 8192) (p : Fin 512) : EReal := (m ((c : Thread nD τ).loc main_arg2) : Vec Ideal S8192x512 .f32) (ix2 r p)
/-- The fourth group's row. -/
def rowD (r : Fin 8192) (p : Fin 256) : EReal := (m ((c : Thread nD τ).loc main_arg3) : Vec Ideal S8192x256 .f32) (ix2 r p)
/-- The gate's row. -/
def gate (r : Fin 8192) (k : Fin 1024) : EReal :=
  (m ((c : Thread nD τ).loc main_arg4) : Vec Ideal S8192x3840 .f32) (ix2 r ⟨k.val, by have := k.isLt; omega⟩)
/-- The groups' weights. -/
def wgrp (k : Fin 1024) : EReal := (m ((c : Thread nD τ).loc main_arg5) : Vec Ideal S1x1024 .f32) (ix2 0 k)
/-- The output projection. -/
def wout (k l : Fin 1024) : EReal := (m ((c : Thread nD τ).loc main_arg6) : Vec Ideal S1024x1024 .bf16) (ix2 k l)
/-- The last normalization's weights. -/
def wpost (k : Fin 1024) : EReal := (m ((c : Thread nD τ).loc main_arg7) : Vec Ideal S1x1024 .f32) (ix2 0 k)
/-- The activations' row. -/
def act (r : Fin 8192) (k : Fin 1024) : EReal := (m ((c : Thread nD τ).loc main_arg8) : Vec Ideal S8192x1024 .f32) (ix2 r k)

/-- The mixed row. -/
def rowM (r : Fin 8192) : Fin 1024 → EReal :=
  mixed ![rowA m c r, rowB m c r, comp (rowC m c r), rowD m c r] (gate m c r) (wgrp m c)
/-- The mixed row through the output projection. -/
def rowO (r : Fin 8192) : Fin 1024 → EReal := output (rowM m c r) (wout m c)

/-- The results. -/
def news : Vec Ideal S8192x1024 .f32 := fun i =>
  act m c (i 0) (i 1) + normed 0x44800000#32 (rowO m c (i 0)) (wpost m c) (i 1)
/-- The mixed rows. -/
def mixes : Vec Ideal S8192x1024 .bf16 := fun i => rowM m c (i 0) (i 1)
/-- The output projections. -/
def outs : Vec Ideal S8192x1024 .f32 := fun i => rowO m c (i 0) (i 1)

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![t.val, 0] := (by decide +kernel : ∀ t : Fin grid0.N, _)
theorem ix4 : ∀ t : Fin cfg0.N, win0_4.index t = ![t.val, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![t.val, 0] := (by decide +kernel : ∀ t : Fin grid0.N, _)
theorem ix9 : ∀ t : Fin cfg0.N, win0_9.index t = ![t.val, 0] := (by decide +kernel : ∀ t : Fin grid0.N, _)
theorem ix10 : ∀ t : Fin cfg0.N, win0_10.index t = ![t.val, 0] := (by decide +kernel : ∀ t : Fin grid0.N, _)
theorem ix11 : ∀ t : Fin cfg0.N, win0_11.index t = ![t.val, 0] := (by decide +kernel : ∀ t : Fin grid0.N, _)

/-- The row of the arrays that is row `r` of block `t`. -/
def at_ (t : Fin cfg0.N) (r : Fin 256) : Fin 8192 :=
  ⟨t.val * 256 + r.val, by have h : t.val < 32 := t.isLt; have := r.isLt; omega⟩

theorem blk0 (t : Fin cfg0.N) (r : Fin 256) (p : Fin 256) :
    (iblk m c 0 t : Vec Ideal S256x256 .f32) (ix2 r p) = rowA m c (at_ t r) p := by
  blk_simp [iblk]
  refine congrArg (m ((c : Thread nD τ).loc main_arg0)) ?_
  blk_ext [ix0, at_]

theorem blk1 (t : Fin cfg0.N) (r : Fin 256) (p : Fin 256) :
    (iblk m c 1 t : Vec Ideal S256x256 .f32) (ix2 r p) = rowB m c (at_ t r) p := by
  blk_simp [iblk]
  refine congrArg (m ((c : Thread nD τ).loc main_arg1)) ?_
  blk_ext [ix1, at_]

theorem blk2 (t : Fin cfg0.N) (r : Fin 256) (p : Fin 512) :
    (iblk m c 2 t : Vec Ideal S256x512 .f32) (ix2 r p) = rowC m c (at_ t r) p := by
  blk_simp [iblk]
  refine congrArg (m ((c : Thread nD τ).loc main_arg2)) ?_
  blk_ext [ix2', at_]

theorem blk3 (t : Fin cfg0.N) (r : Fin 256) (p : Fin 256) :
    (iblk m c 3 t : Vec Ideal S256x256 .f32) (ix2 r p) = rowD m c (at_ t r) p := by
  blk_simp [iblk]
  refine congrArg (m ((c : Thread nD τ).loc main_arg3)) ?_
  blk_ext [ix3', at_]

theorem blk8 (t : Fin cfg0.N) (r : Fin 256) (p : Fin 1024) :
    (iblk m c 8 t : Vec Ideal S256x1024 .f32) (ix2 r p) = act m c (at_ t r) p := by
  blk_simp [iblk]
  refine congrArg (m ((c : Thread nD τ).loc main_arg8)) ?_
  blk_ext [ix8, at_]

theorem blk5 (t : Fin cfg0.N) (k : Fin 1024) : (iblk m c 5 t : Vec Ideal S1x1024 .f32) (ix2 0 k) = wgrp m c k := by
  blk_simp [iblk]
  refine congrArg (m ((c : Thread nD τ).loc main_arg5)) ?_
  blk_ext [ix5]

theorem blk7 (t : Fin cfg0.N) (k : Fin 1024) : (iblk m c 7 t : Vec Ideal S1x1024 .f32) (ix2 0 k) = wpost m c k := by
  blk_simp [iblk]
  refine congrArg (m ((c : Thread nD τ).loc main_arg7)) ?_
  blk_ext [ix7]

theorem blk6 (t : Fin cfg0.N) (k l : Fin 1024) : (iblk m c 6 t : Vec Ideal S1024x1024 .bf16) (ix2 k l) = wout m c k l := by
  blk_simp [iblk]
  refine congrArg (m ((c : Thread nD τ).loc main_arg6)) ?_
  blk_ext [ix6]

theorem blk4 (t : Fin cfg0.N) (r : Fin 256) (k : Fin 1024) :
    (X0_4 m c t : Vec Ideal S256x1024 .f32) (ix2 r k) = gate m c (at_ t r) k := by
  refine (dif_pos (moved0_4 t (ix2 r k))).trans ?_
  blk_simp [iblk]
  refine congrArg (m ((c : Thread nD τ).loc main_arg4)) ?_
  blk_ext [ix4, at_]

/-- A quarter of the groups' weights. -/
theorem quarter (t : Fin cfg0.N) (o : ℕ) (h : ∀ a, ![0, o] a + (![1, 256] : Fin 2 → ℕ) a ≤ S1x1024.size a) (p : Fin 256)
    (h' : o + p.val < 1024) :
    (View.ld (iblk m c 5 t : Vec Ideal S1x1024 .f32) (Rect.unit (s := S1x1024) ![0, o] ![1, 256] h)
        : Vec Ideal S1x256 .f32) (ix2 0 p) = wgrp m c ⟨o + p.val, h'⟩ := by
  refine Eq.trans ?_ (blk5 m c t ⟨o + p.val, h'⟩)
  refine congrArg (iblk m c 5 t) ?_
  funext a
  fin_cases a
  · rfl
  · exact Fin.ext (show o + 1 * p.val = o + p.val by omega)

/-- The block of mixed rows at a point. -/
def blkM (t : Fin cfg0.N) : FVec Ideal S256x1024 .bf16 :=
  k0_pay7 (iblk m c 1 t) (k0_pay3 (iblk m c 2 t)) (iblk m c 3 t) (k0_pay4 (X0_4 m c t))
    (k0_pay5 (iblk m c 0 t) (X0_4 m c t) (View.ld (iblk m c 5 t) (Rect.unit ![0, 0] ![1, 256] inb_S1x1024_S1x256_0_0)))
    (View.ld (iblk m c 5 t) (Rect.unit ![0, 256] ![1, 256] inb_S1x1024_S1x256_0_256)) (k0_pay6 (iblk m c 1 t))
    (FloatOps.ofBits FTy.f32 1132462080#32)
    (View.ld (iblk m c 5 t) (Rect.unit ![0, 512] ![1, 256] inb_S1x1024_S1x256_0_512))
    (View.ld (iblk m c 5 t) (Rect.unit ![0, 768] ![1, 256] inb_S1x1024_S1x256_0_768))

theorem blkM_apply (t : Fin cfg0.N) (r : Fin 256) (j : Fin 1024) : blkM m c t (ix2 r j) = rowM m c (at_ t r) j := by
  refine (pay7_apply _ _ _ _ _ _ _ _ _ (wgrp m c) (fun p => ?_) (fun p => ?_) (fun p => ?_) (fun p => ?_) r j).trans ?_
  · exact (quarter m c t 0 _ p (by have := p.isLt; omega)).trans (congrArg (wgrp m c) (Fin.ext (Nat.zero_add _)))
  · exact quarter m c t 256 _ p _
  · exact quarter m c t 512 _ p _
  · exact quarter m c t 768 _ p _
  · simp only [blk0, blk1, blk3, blk4, pay3_apply, blk2]
    rfl

theorem left9 (t : Fin cfg0.N) :
    (outsAt0 m c t).1 = k0_pay2 (blkM m c t) (iblk m c 6 t) (iblk m c 7 t) (iblk m c 8 t) := by
  dsimp only [outsAt0]; frame_out; rfl

theorem left10 (t : Fin cfg0.N) : (outsAt0 m c t).2.1 = blkM m c t := by
  dsimp only [outsAt0]; frame_out; rfl

theorem left11 (t : Fin cfg0.N) : (outsAt0 m c t).2.2 = k0_pay1 (blkM m c t) (iblk m c 6 t) := by
  dsimp only [outsAt0]; frame_out; rfl

/-- The results at the end. -/
theorem final9 : (dats m 0 c).arrAt 9 cfg0.N = news m c := by
  refine (dats m 0 c).arrAt_eq_of_covers 9 _ (by decide +kernel) fun t hf y => ?_
  blk_simp
  rw [after0_9, left9]
  obtain ⟨r, l, rfl⟩ := ix2_surj y
  have e : (win0_9.blk t).view.emb (ix2 r l) = ix2 (at_ t r) l := by blk_ext [ix9, at_]
  rw [e]
  refine (pay2_apply ..).trans ?_
  simp only [blkM_apply, blk6, blk7, blk8]
  rfl

/-- The mixed rows at the end. -/
theorem final10 : (dats m 0 c).arrAt 10 cfg0.N = mixes m c := by
  refine (dats m 0 c).arrAt_eq_of_covers 10 _ (by decide +kernel) fun t hf y => ?_
  blk_simp
  rw [after0_10, left10]
  obtain ⟨r, l, rfl⟩ := ix2_surj y
  have e : (win0_10.blk t).view.emb (ix2 r l) = ix2 (at_ t r) l := by blk_ext [ix10, at_]
  rw [e]
  exact blkM_apply m c t r l

/-- The output projections at the end. -/
theorem final11 : (dats m 0 c).arrAt 11 cfg0.N = outs m c := by
  refine (dats m 0 c).arrAt_eq_of_covers 11 _ (by decide +kernel) fun t hf y => ?_
  blk_simp
  rw [after0_11, left11]
  obtain ⟨r, l, rfl⟩ := ix2_surj y
  have e : (win0_11.blk t).view.emb (ix2 r l) = ix2 (at_ t r) l := by blk_ext [ix11, at_]
  rw [e]
  refine (pay1_apply ..).trans ?_
  simp only [blkM_apply, blk6]
  rfl

end Cert.Proof.Mix

end
-- ==== Proof.Mix.Claims.lean ====
/- The claims about the mixing call: its runs, the reference's run, and that their results are equal. -/
module

public import proofs.«01_k».proof.Defs
public import proofs.«01_k».proof.Proof.Gen.Mix
public import proofs.«01_k».proof.Proof.Gen.MixReferenceIdeal
public import proofs.«01_k».proof.Proof.Gen.MixReferenceIdeal.Run
public import proofs.«01_k».proof.Proof.Mix.Value

@[expose] public section

noncomputable section

namespace Cert.Proof.Mix

open Idealize.ShloMosaic Idealize.ShloMosaic.TcCoe Idealize.SL Idealize.SL.Sem
open Cert.MixIdeal

/-- The call's body at the bit patterns is the body the run was found for. -/
theorem bodies_eq : Cert.Mix.defs₀ (F := Bits) = Cert.MixIdeal.defs₀ := by
  funext p l a
  match p with
  | .tc =>
    match l, a with
    | ⟨0, _⟩, (_, _) => rfl
  | .scScalar _ => rfl
  | .scVector _ _ => rfl

theorem defs_eq : Cert.Mix.defs (F := Bits) = Cert.MixIdeal.defs := by
  show Pipeline.defs Cert.MixIdeal.pcfgs (Cert.Mix.defs₀ (F := Bits)) = Pipeline.defs Cert.MixIdeal.pcfgs Cert.MixIdeal.defs₀
  rw [bodies_eq]

theorem frame_mix : Cert.quiescent_Mix (hMix := Cert.Mix.Gen.facts) := fun m g _ => by
  have h := Cert.MixIdeal.Gen.frame (F := Bits) m g
  show θ_run (Cert.Mix.defs (F := Bits)) (onTc Cert.MixIdeal.main) _ _
  rw [defs_eq]
  exact h

theorem frame_mixIdeal : Cert.quiescent_MixIdeal (hMixIdeal := Cert.MixIdeal.Gen.facts) := fun m g _ =>
  Cert.MixIdeal.Gen.frame (F := Ideal) m g

theorem frame_mixReferenceIdeal :
    Cert.quiescent_MixReferenceIdeal (hMixReferenceIdeal := MixReferenceIdeal.Gen.facts) := fun m g _ =>
  (θ_run MixReferenceIdeal.defs _ _).mono (fun r h => ⟨fun c => (h c).2.2.2, sem_eq_zero_of_no_sems (by decide) r.2⟩)
    (MixReferenceIdeal.Value.run m g)

theorem algebraic_mix : Cert.algebraic_MixIdeal_MixReferenceIdeal (hMixIdeal := Cert.MixIdeal.Gen.facts)
    (hMixReferenceIdeal := MixReferenceIdeal.Gen.facts) := fun m g m' g' _ hm => by
  refine ⟨fun c => news m c, fun c => mixes m c, fun c => outs m c,
    (θ_run Cert.MixIdeal.defs _ _).mono (fun r h c => ?_) (Cert.MixIdeal.Value.run_blocks (F := Ideal) m g),
    (θ_run MixReferenceIdeal.defs _ _).mono (fun r h c => ?_) (MixReferenceIdeal.Value.run m' g')⟩
  · obtain ⟨h9, h10, h11, hk⟩ := h c
    exact ⟨h9.trans (final9 m c), h10.trans (final10 m c), h11.trans (final11 m c), hk⟩
  · obtain ⟨h9, h10, h11, hk⟩ := h c
    obtain ⟨e0, e1, e2, e3, e4, e5, e6, e7, e8⟩ := hm c
    have hM : ∀ r j, refMix m' c (ix2 r j) = rowM m c r j := fun r j => by
      refine (refMix_apply m' c r j).trans ?_
      rw [e0, e1, e2, e3, e4, e5]
      rfl
    have hO : ∀ r j, refOut (refMix m' c) (m' ((c.tc : Thread MixReferenceIdeal.nD MixReferenceIdeal.τ).loc
        MixReferenceIdeal.main_arg6)) (ix2 r j) = rowO m c r j := fun r j => by
      refine (refOut_apply _ _ r j).trans ?_
      simp only [hM]
      rw [e6]
      rfl
    refine ⟨h9.trans ?_, h10.trans ?_, h11.trans ?_, hk⟩
    · funext i
      obtain ⟨r, l, rfl⟩ := ix2_surj i
      rw [res0_eq]
      refine (refNew_apply _ _ _ r l).trans ?_
      simp only [hO]
      rw [e7, e8]
      rfl
    · funext i
      obtain ⟨r, l, rfl⟩ := ix2_surj i
      rw [res1_eq]
      exact hM r l
    · funext i
      obtain ⟨r, l, rfl⟩ := ix2_surj i
      rw [res2_eq]
      exact hO r l

end Cert.Proof.Mix

end
-- ==== Proof.Window.Payload.lean ====
/- What one place of a head's block is in the sliding-window attention call. -/
module

public import proofs.«01_k».proof.Proof.Gen.WindowIdeal.Skeleton
public import Idealize.ShloMosaic.Lib.Pointwise

@[expose] public section

noncomputable section

namespace Cert.Proof.Window

open Idealize.ShloMosaic

/-- The largest of the scores of the block's keys, of the previous block's and the sink. -/
def top (sc sp : Fin 128 → EReal) (s : EReal) : EReal :=
  max (max (Finset.univ.fold max (Ideal.ofBits .f32 0xFF800000#32) sc) (Finset.univ.fold max (Ideal.ofBits .f32 0xFF800000#32) sp)) s

/-- One over the sum of the exponentials. -/
def recip (sc sp : Fin 128 → EReal) (s : EReal) : EReal :=
  Ideal.div 1
    (((∑ k, Ideal.exp (sc k - top sc sp s)) + ∑ k, Ideal.exp (sp k - top sc sp s)) + Ideal.exp (s - top sc sp s))

/-- A query's result: the values, weighted by the scores' exponentials over their sum, the sink's exponential counted in. -/
def attend (sc sp : Fin 128 → EReal) (s : EReal) (vc vp : Fin 128 → EReal) : EReal :=
  (∑ k, Ideal.exp (sc k - top sc sp s) * recip sc sp s * vc k) + ∑ k, Ideal.exp (sp k - top sc sp s) * recip sc sp s * vp k

/-- A query's score of a key. -/
def score (q k : Fin 64 → EReal) : EReal := (∑ d, q d * k d) * Ideal.ofBits .f32 0x3E000000#32

theorem select_ite {α : Type} (p : Prop) [Decidable p] (a b : α) :
    Scalar.select (if p then 1 else 0 : BitVec 1) a b = if p then a else b := by
  by_cases h : p <;> simp [h, Scalar.select]

/-- Row `r` of block `n`. -/
def place (n : Fin 64) (r : Fin 128) : Fin 8192 := ⟨n.val * 128 + r.val, by have := n.isLt; have := r.isLt; omega⟩

/-- The block before, the first block's being itself. -/
def prev (n : Fin 64) : Fin 64 := ⟨n.val - 1, by have := n.isLt; omega⟩

/-- Place `d` of head `a`'s column of the queries. -/
def qry (a : Fin 4) (d : Fin 64) : Fin 3840 := ⟨1024 + a.val * 64 + d.val, by have := a.isLt; have := d.isLt; omega⟩
/-- Place `d` of the column of the keys that head `a` uses. -/
def key (a : Fin 4) (d : Fin 64) : Fin 3840 := ⟨1280 + a.val / 2 * 64 + d.val, by have := a.isLt; have := d.isLt; omega⟩
/-- Place `d` of the column of the values that head `a` uses. -/
def val (a : Fin 4) (d : Fin 64) : Fin 3840 := ⟨1408 + a.val / 2 * 64 + d.val, by have := a.isLt; have := d.isLt; omega⟩

/-- The scores of the keys of the query's own block: the later ones are masked. -/
def scoresC (h : Fin 8192 → Fin 3840 → EReal) (n : Fin 64) (r : Fin 128) (a : Fin 4) (k : Fin 128) : EReal :=
  if k.val ≤ r.val then score (fun d => h (place n r) (qry a d)) (fun d => h (place n k) (key a d)) else ⊥
/-- The scores of the keys of the block before: the ones out of the window are masked, and all of them at the first block. -/
def scoresP (h : Fin 8192 → Fin 3840 → EReal) (n : Fin 64) (r : Fin 128) (a : Fin 4) (k : Fin 128) : EReal :=
  if r.val < k.val ∧ n.val ≠ 0 then score (fun d => h (place n r) (qry a d)) (fun d => h (place (prev n) k) (key a d)) else ⊥

/-- The result at row `r` of block `n`, place `l` of head `a`. -/
def window (s : Fin 4 → EReal) (h : Fin 8192 → Fin 3840 → EReal) (n : Fin 64) (r : Fin 128) (a : Fin 4) (l : Fin 64) : EReal :=
  attend (scoresC h n r a) (scoresP h n r a) (s a) (fun k => h (place n k) (val a l)) (fun k => h (place (prev n) k) (val a l))

section Kernel
open Cert.WindowIdeal Cert.WindowIdeal.Gen

/-- A head's block, from its columns of the queries, keys and values. -/
def head (i : grid0.Coords) (q kc kp : Vec Ideal S128x64 .bf16) (s : Elt Ideal .f32) (vc vp : Vec Ideal S128x64 .bf16) :
    FVec Ideal S128x64 .f32 :=
  k0_pay12 (k0_pay7 i q kc kp s) (k0_pay8 i q kc kp s) (k0_pay9 i q kc kp s) (k0_pay10 i q kc kp s) (k0_pay11 i q kc kp s) vc vp

variable (i : grid0.Coords) (q kc kp : Vec Ideal S128x64 .bf16) (s : Elt Ideal .f32) (vc vp : Vec Ideal S128x64 .bf16)

theorem head_one : k0_pay16 s (k0_pay13 k0_pay2 q kc) (k0_pay14 (k0_pay3 i) q kp) (k0_pay15 k0_pay2 (k0_pay3 i) q kc kp) vc vp
    = head i q kc kp s vc vp := rfl

theorem head_two : k0_pay18 k0_pay2 (k0_pay3 i) q kp s (k0_pay17 q kc) (Named.named κ "mask" (0xF149F2CA#32 : BitVec (FTy.bits .f32))) vc vp
    = head i q kc kp s vc vp := rfl

theorem head_three : k0_pay1 (k0_pay25 k0_pay2 (k0_pay3 i) q kc kp s) (k0_pay26 k0_pay2 (k0_pay3 i) q kc kp s) vc vp
    = head i q kc kp s vc vp := rfl

theorem col_le : ∀ k r : Fin 128, IntOp.cmpi CmpIPredicate.sle (BitVec.ofNat 32 k.val) (BitVec.ofNat 32 r.val)
    = if k.val ≤ r.val then 1 else 0 := by
  decide +kernel

theorem col_gt : ∀ k r : Fin 128, IntOp.cmpi CmpIPredicate.sgt (BitVec.ofNat 32 k.val) (BitVec.ofNat 32 r.val)
    = if r.val < k.val then 1 else 0 := by
  decide +kernel

theorem later : ∀ n : Fin 64, Scalar.cmpi CmpIPredicate.sgt (BitVec.ofNat 32 n.val) 0#32 = if n.val = 0 then 0 else 1 := by
  decide +kernel

/-- The masking constant is −∞. -/
theorem mask_bot : (Named.named (F := Ideal) (φ := .f32) κ "mask" 0xF149F2CA#32 : EReal) = ⊥ :=
  IdealRules.named_const.ideal_named_scalar _ _ _ _ rfl

theorem pay4_apply (r k : Fin 128) : k0_pay4 q kc (ix2 r k)
    = if k.val ≤ r.val then score (fun d => q (ix2 r d)) (fun d => kc (ix2 k d)) else ⊥ := by
  pointwise [k0_pay4, k0_pay2]
  rw [col_le, select_ite, mask_bot]
  rfl

theorem pay5_apply (r k : Fin 128) : k0_pay5 i q kp (ix2 r k)
    = if r.val < k.val ∧ (i 0).val ≠ 0 then score (fun d => q (ix2 r d)) (fun d => kp (ix2 k d)) else ⊥ := by
  pointwise [k0_pay5, k0_pay3]
  have e := later (i 0)
  rw [col_gt, e, mask_bot]
  by_cases h : r.val < k.val <;> by_cases h' : (i 0).val = 0 <;> simp [h, h', IntOp.andi, Scalar.select, score]

theorem pay6_apply (r : Fin 128) : k0_pay6 i q kc kp s (ix2 r 0)
    = top (fun k => k0_pay4 q kc (ix2 r k)) (fun k => k0_pay5 i q kp (ix2 r k)) s := by
  pointwise [k0_pay6]
  rfl

theorem head_scores (r : Fin 128) (l : Fin 64) : head i q kc kp s vc vp (ix2 r l)
    = attend (fun k => k0_pay4 q kc (ix2 r k)) (fun k => k0_pay5 i q kp (ix2 r k)) s (fun k => vc (ix2 k l)) (fun k => vp (ix2 k l)) := by
  unfold attend recip
  rw [← pay6_apply]
  pointwise [head, k0_pay12, k0_pay7, k0_pay8, k0_pay9, k0_pay10, k0_pay11]

end Kernel

end Cert.Proof.Window

end
-- ==== Proof.Window.Value.lean ====
/- The array the sliding-window attention call leaves: every block is its queries' results, head by head. -/
module

public import proofs.«01_k».proof.Proof.Gen.WindowIdeal.Value
public import proofs.«01_k».proof.Proof.Window.Payload
public import Idealize.ShloMosaic.Lib.Pipeline.ValueKit

@[expose] public section

noncomputable section

namespace Cert.Proof.Window

open Idealize.ShloMosaic Idealize.ShloMosaic.TcCoe Idealize.SL Idealize.SL.Sem
open Cert.WindowIdeal Cert.WindowIdeal.Gen Cert.WindowIdeal.Value

variable (m : (ℓ : Loc nD τ sig) → Buf (Elt Ideal) ℓ) (c : Dev nD)

/-- The heads' sinks. -/
def sink (a : Fin 4) : EReal := (m ((c : Thread nD τ).loc main_arg0) : Vec Ideal S4 .f32) (ix1 a)
/-- The projection's rows. -/
def row (r : Fin 8192) (k : Fin 3840) : EReal := (m ((c : Thread nD τ).loc main_arg1) : Vec Ideal S8192x3840 .bf16) (ix2 r k)

theorem ix0' : ∀ t : Fin cfg0.N, win0_0.index t = ![0] := (by decide +kernel : ∀ t : Fin grid0.N, _)
theorem ix1' : ∀ t : Fin cfg0.N, win0_1.index t = ![t.val, 4] := (by decide +kernel : ∀ t : Fin grid0.N, _)
theorem ix2' : ∀ t : Fin cfg0.N, win0_2.index t = ![t.val, 10] := (by decide +kernel : ∀ t : Fin grid0.N, _)
theorem ix3' : ∀ t : Fin cfg0.N, win0_3.index t = ![t.val - 1, 10] := (by decide +kernel : ∀ t : Fin grid0.N, _)
theorem ix4' : ∀ t : Fin cfg0.N, win0_4.index t = ![t.val, 11] := (by decide +kernel : ∀ t : Fin grid0.N, _)
theorem ix5' : ∀ t : Fin cfg0.N, win0_5.index t = ![t.val - 1, 11] := (by decide +kernel : ∀ t : Fin grid0.N, _)
theorem ix6' : ∀ t : Fin cfg0.N, win0_6.index t = ![t.val, 0] := (by decide +kernel : ∀ t : Fin grid0.N, _)
theorem coord : ∀ t : Fin cfg0.N, (grid0.coords t 0).val = t.val := (by decide +kernel : ∀ t : Fin grid0.N, _)

/-- The block at a point. -/
def at_ (t : Fin cfg0.N) : Fin 64 := ⟨t.val, t.isLt⟩

theorem blk0 (t : Fin cfg0.N) (a : Fin 4) : (iblk m c 0 t : Vec Ideal S4 .f32) (ix1 a) = sink m c a := by
  blk_simp [iblk]
  refine congrArg (m ((c : Thread nD τ).loc main_arg0)) ?_
  blk_ext [ix0']

theorem blk1 (t : Fin cfg0.N) (r : Fin 128) (k : Fin 256) : (iblk m c 1 t : Vec Ideal S128x256 .bf16) (ix2 r k)
    = row m c (place (at_ t) r) ⟨1024 + k.val, by have := k.isLt; omega⟩ := by
  blk_simp [iblk]
  refine congrArg (m ((c : Thread nD τ).loc main_arg1)) ?_
  blk_ext [ix1', at_, place]

theorem blk2 (t : Fin cfg0.N) (r k : Fin 128) : (iblk m c 2 t : Vec Ideal S128x128 .bf16) (ix2 r k)
    = row m c (place (at_ t) r) ⟨1280 + k.val, by have := k.isLt; omega⟩ := by
  blk_simp [iblk]
  refine congrArg (m ((c : Thread nD τ).loc main_arg1)) ?_
  blk_ext [ix2', at_, place]

theorem blk3 (t : Fin cfg0.N) (r k : Fin 128) : (iblk m c 3 t : Vec Ideal S128x128 .bf16) (ix2 r k)
    = row m c (place (prev (at_ t)) r) ⟨1280 + k.val, by have := k.isLt; omega⟩ := by
  blk_simp [iblk]
  refine congrArg (m ((c : Thread nD τ).loc main_arg1)) ?_
  blk_ext [ix3', at_, place, prev]

theorem blk4 (t : Fin cfg0.N) (r k : Fin 128) : (iblk m c 4 t : Vec Ideal S128x128 .bf16) (ix2 r k)
    = row m c (place (at_ t) r) ⟨1408 + k.val, by have := k.isLt; omega⟩ := by
  blk_simp [iblk]
  refine congrArg (m ((c : Thread nD τ).loc main_arg1)) ?_
  blk_ext [ix4', at_, place]

theorem blk5 (t : Fin cfg0.N) (r k : Fin 128) : (iblk m c 5 t : Vec Ideal S128x128 .bf16) (ix2 r k)
    = row m c (place (prev (at_ t)) r) ⟨1408 + k.val, by have := k.isLt; omega⟩ := by
  blk_simp [iblk]
  refine congrArg (m ((c : Thread nD τ).loc main_arg1)) ?_
  blk_ext [ix5', at_, place, prev]

/-- The result at a place of the array. -/
def result (r : Fin 8192) (l : Fin 256) : EReal :=
  window (sink m c) (row m c) ⟨r.val / 128, Nat.div_lt_of_lt_mul r.isLt⟩ ⟨r.val % 128, Nat.mod_lt _ (by decide)⟩
    ⟨l.val / 64, Nat.div_lt_of_lt_mul l.isLt⟩ ⟨l.val % 64, Nat.mod_lt _ (by decide)⟩

/-- The results. -/
def outs : Vec Ideal S8192x256 .f32 := fun i => result m c (i 0) (i 1)

/-- The result, at a place of a head. -/
theorem result_apply (t : Fin cfg0.N) (r : Fin 128) (a : Fin 4) (d : Fin 64) (l : Fin 256) (hl : l.val = a.val * 64 + d.val) :
    result m c (place (at_ t) r) l = window (sink m c) (row m c) (at_ t) r a d := by
  have hr := r.isLt
  have hd := d.isLt
  unfold result
  have e1 : ∀ h, (⟨(place (at_ t) r).val / 128, h⟩ : Fin 64) = at_ t := fun h =>
    Fin.ext (show ((at_ t).val * 128 + r.val) / 128 = (at_ t).val by omega)
  have e2 : ∀ h, (⟨(place (at_ t) r).val % 128, h⟩ : Fin 128) = r := fun h =>
    Fin.ext (show ((at_ t).val * 128 + r.val) % 128 = r.val by omega)
  have e3 : ∀ h, (⟨l.val / 64, h⟩ : Fin 4) = a := fun h => Fin.ext (show l.val / 64 = a.val by omega)
  have e4 : ∀ h, (⟨l.val % 64, h⟩ : Fin 64) = d := fun h => Fin.ext (show l.val % 64 = d.val by omega)
  rw [e1, e2, e3, e4]

/-- A column of a block of queries. -/
theorem cutQ (X : Vec Ideal S128x256 .bf16) (o : ℕ) (h : ∀ a, ![0, o] a + (![128, 64] : Fin 2 → ℕ) a ≤ S128x256.size a)
    (r : Fin 128) (d : Fin 64) (h' : o + d.val < 256) :
    (View.ld X (Rect.unit (s := S128x256) ![0, o] ![128, 64] h) : Vec Ideal S128x64 .bf16) (ix2 r d) = X (ix2 r ⟨o + d.val, h'⟩) := by
  refine congrArg X ?_
  funext a
  fin_cases a
  · exact Fin.ext (show 0 + 1 * r.val = r.val by omega)
  · exact Fin.ext (show o + 1 * d.val = o + d.val by omega)

/-- A column of a block of keys or values. -/
theorem cutK (X : Vec Ideal S128x128 .bf16) (o : ℕ) (h : ∀ a, ![0, o] a + (![128, 64] : Fin 2 → ℕ) a ≤ S128x128.size a)
    (r : Fin 128) (d : Fin 64) (h' : o + d.val < 128) :
    (View.ld X (Rect.unit (s := S128x128) ![0, o] ![128, 64] h) : Vec Ideal S128x64 .bf16) (ix2 r d) = X (ix2 r ⟨o + d.val, h'⟩) := by
  refine congrArg X ?_
  funext a
  fin_cases a
  · exact Fin.ext (show 0 + 1 * r.val = r.val by omega)
  · exact Fin.ext (show o + 1 * d.val = o + d.val by omega)

/-- A head's block at a point. -/
theorem head_at (t : Fin cfg0.N) (a : Fin 4) (oq ok : ℕ) (eq : oq = a.val * 64) (ek : ok = a.val / 2 * 64)
    (hq : ∀ a, ![0, oq] a + (![128, 64] : Fin 2 → ℕ) a ≤ S128x256.size a)
    (hk : ∀ a, ![0, ok] a + (![128, 64] : Fin 2 → ℕ) a ≤ S128x128.size a) (s : Elt Ideal .f32) (hs : s = sink m c a)
    (r : Fin 128) (d : Fin 64) (l : Fin 256) (hl : l.val = a.val * 64 + d.val) :
    head (grid0.coords t) (View.ld (iblk m c 1 t : Vec Ideal S128x256 .bf16) (Rect.unit (s := S128x256) ![0, oq] ![128, 64] hq))
        (View.ld (iblk m c 2 t : Vec Ideal S128x128 .bf16) (Rect.unit (s := S128x128) ![0, ok] ![128, 64] hk))
        (View.ld (iblk m c 3 t : Vec Ideal S128x128 .bf16) (Rect.unit (s := S128x128) ![0, ok] ![128, 64] hk)) s
        (View.ld (iblk m c 4 t : Vec Ideal S128x128 .bf16) (Rect.unit (s := S128x128) ![0, ok] ![128, 64] hk))
        (View.ld (iblk m c 5 t : Vec Ideal S128x128 .bf16) (Rect.unit (s := S128x128) ![0, ok] ![128, 64] hk)) (ix2 r d)
      = result m c (place (at_ t) r) l := by
  have ha := a.isLt
  have bq : ∀ d : Fin 64, oq + d.val < 256 := fun d => by have := d.isLt; omega
  have bk : ∀ d : Fin 64, ok + d.val < 128 := fun d => by have := d.isLt; omega
  have e1 : ∀ (d : Fin 64) h, (⟨1024 + (oq + d.val), h⟩ : Fin 3840) = qry a d := fun d h =>
    Fin.ext (show 1024 + (oq + d.val) = 1024 + a.val * 64 + d.val by omega)
  have e2 : ∀ (d : Fin 64) h, (⟨1280 + (ok + d.val), h⟩ : Fin 3840) = key a d := fun d h =>
    Fin.ext (show 1280 + (ok + d.val) = 1280 + a.val / 2 * 64 + d.val by omega)
  have e3 : ∀ (d : Fin 64) h, (⟨1408 + (ok + d.val), h⟩ : Fin 3840) = val a d := fun d h =>
    Fin.ext (show 1408 + (ok + d.val) = 1408 + a.val / 2 * 64 + d.val by omega)
  rw [result_apply m c t r a d l hl, head_scores]
  subst hs
  have hC : (fun k => k0_pay4 (View.ld (iblk m c 1 t : Vec Ideal S128x256 .bf16) (Rect.unit (s := S128x256) ![0, oq] ![128, 64] hq))
      (View.ld (iblk m c 2 t : Vec Ideal S128x128 .bf16) (Rect.unit (s := S128x128) ![0, ok] ![128, 64] hk)) (ix2 r k))
      = scoresC (row m c) (at_ t) r a := by
    funext k
    rw [pay4_apply]
    refine if_congr Iff.rfl (congrArg₂ score (funext fun d => ?_) (funext fun d => ?_)) rfl
    · rw [cutQ _ _ _ _ _ (bq d), blk1, e1]
    · rw [cutK _ _ _ _ _ (bk d), blk2, e2]
  have hP : (fun k => k0_pay5 (grid0.coords t)
      (View.ld (iblk m c 1 t : Vec Ideal S128x256 .bf16) (Rect.unit (s := S128x256) ![0, oq] ![128, 64] hq))
      (View.ld (iblk m c 3 t : Vec Ideal S128x128 .bf16) (Rect.unit (s := S128x128) ![0, ok] ![128, 64] hk)) (ix2 r k))
      = scoresP (row m c) (at_ t) r a := by
    funext k
    rw [pay5_apply]
    refine if_congr ?_ (congrArg₂ score (funext fun d => ?_) (funext fun d => ?_)) rfl
    · rw [show ((grid0.coords t) 0).val = (at_ t).val from coord t]
    · rw [cutQ _ _ _ _ _ (bq d), blk1, e1]
    · rw [cutK _ _ _ _ _ (bk d), blk3, e2]
  rw [hC, hP]
  unfold window
  refine congrArg₂ (attend _ _ _) (funext fun k => ?_) (funext fun k => ?_)
  · rw [cutK _ _ _ _ _ (bk d), blk4, e3]
  · rw [cutK _ _ _ _ _ (bk d), blk5, e3]

theorem loadS (t : Fin cfg0.N) (o : ℕ) (h : ∀ a, ![o] a + (![1] : Fin 1 → ℕ) a ≤ S4.size a)
    (h0 : 0 < (Rect.unit (s := S4) ![o] ![1] h).shape.numel) (h' : o < 4) : View.ld (iblk m c 0 t : Vec Ideal S4 .f32) (Rect.unit (s := S4) ![o] ![1] h) (Shape.Idx.first h0)
      = sink m c ⟨o, h'⟩ := by
  refine Eq.trans ?_ (blk0 m c t ⟨o, h'⟩)
  refine congrArg (iblk m c 0 t) ?_
  funext a
  fin_cases a
  exact Fin.ext (show o + 1 * 0 = o by omega)

/-- The array at the end. -/
theorem final : (dats m 0 c).arrAt 6 cfg0.N = outs m c := by
  refine (dats m 0 c).arrAt_eq_of_covers 6 _ (by decide +kernel) fun t hf y => ?_
  blk_simp
  rw [after0_6]
  obtain ⟨r, l, rfl⟩ : ∃ r l, y = ix2 r l := ⟨y 0, y 1, by funext a; fin_cases a <;> rfl⟩
  have e : (win0_6.blk t).view.emb (ix2 r l) = ix2 (place (at_ t) r) l := by blk_ext [ix6', at_, place]
  rw [e]
  dsimp only [outsAt0]
  frame_out
  refine (View.canon_apply_of_pieces (fun y : S128x256.Idx => result m c (place (at_ t) (y 0)) (y 1)) _ ?_ (ix2 r l)
    (View.cover_of_tiled_head _ _ _ rfl _)).trans rfl
  intro p hp x
  have split : ∀ x : S128x64.Idx, x = ix2 (x 0) (x 1) := fun x => by funext a; fin_cases a <;> rfl
  have place_eq : ∀ (o : ℕ) (h : ∀ a, ![0, o] a + (![128, 64] : Fin 2 → ℕ) a ≤ S128x256.size a) (x : S128x64.Idx) (h' : o + (x 1).val < 256),
      result m c (place (at_ t) ((Rect.unit (s := S128x256) ![0, o] ![128, 64] h).emb x 0)) ((Rect.unit (s := S128x256) ![0, o] ![128, 64] h).emb x 1)
        = result m c (place (at_ t) (x 0)) ⟨o + (x 1).val, h'⟩ := fun o h x h' => by
    refine congrArg₂ (result m c) (congrArg (place (at_ t)) (Fin.ext ?_)) (Fin.ext ?_)
    · show 0 + 1 * (x 0).val = (x 0).val
      omega
    · show o + 1 * (x 1).val = o + (x 1).val
      omega
  simp only [List.mem_cons, List.mem_nil_iff, or_false] at hp
  have b : ∀ x : S128x64.Idx, (x 1).val < 64 := fun x => (x 1).isLt
  obtain rfl | rfl | rfl | rfl := hp
  · refine Eq.trans ?_ (place_eq 192 inb_S128x256_S128x64_0_192 x (by have := b x; omega)).symm
    exact (congrArg _ (split x)).trans (head_at m c t 3 192 64 rfl rfl _ _ _ (loadS m c t 3 _ _ (by decide)) (x 0) (x 1) _ rfl)
  · refine Eq.trans ?_ (place_eq 128 inb_S128x256_S128x64_0_128 x (by have := b x; omega)).symm
    exact (congrArg _ (split x)).trans (head_at m c t 2 128 64 rfl rfl _ _ _ (loadS m c t 2 _ _ (by decide)) (x 0) (x 1) _ rfl)
  · refine Eq.trans ?_ (place_eq 64 inb_S128x256_S128x64_0_64 x (by have := b x; omega)).symm
    exact (congrArg _ (split x)).trans (head_at m c t 1 64 0 rfl rfl _ _ _ (loadS m c t 1 _ _ (by decide)) (x 0) (x 1) _ rfl)
  · refine Eq.trans ?_ (place_eq 0 inb_S128x256_S128x64_0_0 x (by have := b x; omega)).symm
    exact (congrArg _ (split x)).trans (head_at m c t 0 0 0 rfl rfl _ _ _ (loadS m c t 0 _ _ (by decide)) (x 0) (x 1) _ rfl)

end Cert.Proof.Window

end
-- ==== Proof.Window.Reference.lean ====
/- What one place of the reference's result is in the sliding-window attention call. -/
module

public import proofs.«01_k».proof.Proof.Gen.WindowReferenceIdeal.Run
public import proofs.«01_k».proof.Proof.Consts
public import proofs.«01_k».proof.Proof.Window.Payload

@[expose] public section

noncomputable section

namespace Cert.Proof.Window

open Idealize.ShloMosaic
open Cert.WindowReferenceIdeal Cert.WindowReferenceIdeal.Gen Cert.WindowReferenceIdeal.Value

/-- The projection's rows in blocks of 128. -/
def blkR (h : Vec Ideal S8192x3840 .bf16) : FVec Ideal S64x128x3840 .f32 :=
  (shapeCast _ (extf .f32 h bitsLt_bf16_f32) shapeCasts_S8192x3840_S64x128x3840)
/-- The queries' columns, by group, head and place. -/
def qryR (x : FVec Ideal S64x128x3840 .f32) : FVec Ideal S64x128x2x2x64 .f32 :=
  (shapeCast _ (extractStridedSlice S64x128x256 ![0, 0, 1024] x slices_S64x128x3840_S64x128x256_0_0_1024) shapeCasts_S64x128x256_S64x128x2x2x64)
/-- The keys' columns, by group and place. -/
def keyR (x : FVec Ideal S64x128x3840 .f32) : FVec Ideal S64x128x2x64 .f32 :=
  (shapeCast _ (extractStridedSlice S64x128x128 ![0, 0, 1280] x slices_S64x128x3840_S64x128x128_0_0_1280) shapeCasts_S64x128x128_S64x128x2x64)
/-- The values' columns, by group and place. -/
def valR (x : FVec Ideal S64x128x3840 .f32) : FVec Ideal S64x128x2x64 .f32 :=
  (shapeCast _ (extractStridedSlice S64x128x128 ![0, 0, 1408] x slices_S64x128x3840_S64x128x128_0_0_1408) shapeCasts_S64x128x128_S64x128x2x64)
/-- A block of rows after the block before it (zeros before the first). -/
def withPrev (x : FVec Ideal S64x128x2x64 .f32) : FVec Ideal S64x256x2x64 .f32 :=
  (concatenate S64x256x2x64 1 [⟨S64x128x2x64, (concatenate S64x128x2x64 0 [⟨S1x128x2x64, (broadcastInDim S1x128x2x64 ![] bcast_S_S1x128x2x64 (constant S_ .f32 0x00000000#32))⟩, ⟨S63x128x2x64, (extractStridedSlice S63x128x2x64 ![0, 0, 0, 0] x slices_S64x128x2x64_S63x128x2x64_0_0_0_0)⟩] concatenates_S1x128x2x64_S63x128x2x64_S64x128x2x64_d0)⟩, ⟨S64x128x2x64, x⟩] concatenates_S64x128x2x64_S64x128x2x64_S64x256x2x64_d1)
/-- The keys a query may see. -/
def validR : IVec S64x2x2x128x256 1 :=
  (broadcastInDim S64x2x2x128x256 ![0, 1, 2, 3, 4] bcast_S64x1x1x128x256_S64x2x2x128x256_0_1_2_3_4 (broadcastInDim S64x1x1x128x256 ![0, 3, 4] bcast_S64x128x256_S64x1x1x128x256_0_3_4 (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (cmpi .sge (subi (addi (broadcastInDim S64x1x256 ![0, 1, 2] bcast_S64x1x1_S64x1x256_0_1_2 (muli (broadcastInDim S64x1x1 ![0] bcast_S64_S64x1x1_0 (iotaInDim S64 32 0)) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 128#32))) (broadcastInDim S64x1x256 ![] bcast_S_S64x1x256 (constantI S_ 32 0#32)))))))
/-- The scores. -/
def scoreR (q : FVec Ideal S64x128x2x2x64 .f32) (kk : FVec Ideal S64x256x2x64 .f32) : FVec Ideal S64x2x2x128x256 .f32 :=
  (select validR (mulf (transpose S64x2x2x128x256 [0, 1, 4, 3, 2] (Host.dotGeneral dot_S64x256x2x64_S64x128x2x2x64_S64x2x256x128x2_3_4_1_13_02_02 none kk q) transposes_S64x2x256x128x2_S64x2x2x128x256_0_1_4_3_2) (broadcastInDim S64x2x2x128x256 ![] bcast_S_S64x2x2x128x256 (constant S_ .f32 0x3E000000#32))) (broadcastInDim S64x2x2x128x256 ![] bcast_S_S64x2x2x128x256 (id (constant S_ .f32 0xFF800000#32))))
/-- The scores and the sink. -/
def logitR (z : FVec Ideal S64x2x2x128x256 .f32) (s : Vec Ideal S4 .f32) : FVec Ideal S64x2x2x128x257 .f32 :=
  (concatenate S64x2x2x128x257 4 [⟨S64x2x2x128x256, z⟩, ⟨S64x2x2x128x1, (broadcastInDim S64x2x2x128x1 ![0, 1, 2, 3, 4] bcast_S1x2x2x1x1_S64x2x2x128x1_0_1_2_3_4 (shapeCast _ s shapeCasts_S4_S1x2x2x1x1))⟩] concatenates_S64x2x2x128x256_S64x2x2x128x1_S64x2x2x128x257_d4)
/-- Their exponentials, the largest taken off. -/
def expR (y : FVec Ideal S64x2x2x128x257 .f32) : FVec Ideal S64x2x2x128x257 .f32 :=
  (Host.exp (subf y (broadcastInDim S64x2x2x128x257 ![0, 1, 2, 3, 4] bcast_S64x2x2x128x1_S64x2x2x128x257_0_1_2_3_4 (broadcastInDim S64x2x2x128x1 ![0, 1, 2, 3] bcast_S64x2x2x128_S64x2x2x128x1_0_1_2_3 (Host.reduce FloatOps.maximumf y (constant S_ .f32 0xFF800000#32) reducesTo_S64x2x2x128x257_S64x2x2x128_d4 h_S_)))))
/-- The scores' shares. -/
def probR (e : FVec Ideal S64x2x2x128x257 .f32) : FVec Ideal S64x2x2x128x256 .f32 :=
  (extractStridedSlice S64x2x2x128x256 ![0, 0, 0, 0, 0] (mulf e (broadcastInDim S64x2x2x128x257 ![0, 1, 2, 3, 4] bcast_S64x2x2x128x1_S64x2x2x128x257_0_1_2_3_4 (Host.divf (broadcastInDim S64x2x2x128x1 ![] bcast_S_S64x2x2x128x1 (constant S_ .f32 0x3F800000#32)) (broadcastInDim S64x2x2x128x1 ![0, 1, 2, 3] bcast_S64x2x2x128_S64x2x2x128x1_0_1_2_3 (Host.reduceAdd e (constant S_ .f32 0x00000000#32) reducesTo_S64x2x2x128x257_S64x2x2x128_d4 h_S_))))) slices_S64x2x2x128x257_S64x2x2x128x256_0_0_0_0_0)
/-- The values weighted by the shares. -/
def outR (vv : FVec Ideal S64x256x2x64 .f32) (p : FVec Ideal S64x2x2x128x256 .f32) : FVec Ideal S8192x256 .f32 :=
  shapeCast _ (transpose S64x128x2x2x64 [0, 4, 1, 3, 2] (Host.dotGeneral dot_S64x256x2x64_S64x2x2x128x256_S64x2x64x2x128_1_4_3_23_02_01 none vv p) transposes_S64x2x64x2x128_S64x128x2x2x64_0_4_1_3_2) shapeCasts_S64x128x2x2x64_S8192x256

variable (m : (ℓ : Loc nD τ sig) → Buf (Elt Ideal) ℓ) (c : Dev nD)

/-- The reference's result in these steps. -/
theorem res_eq : (res_main_v71 m c : FVec Ideal S8192x256 .f32)
    = outR (withPrev (valR (blkR (m ((c.tc : Thread nD τ).loc main_arg1)))))
        (probR (expR (logitR (scoreR (qryR (blkR (m ((c.tc : Thread nD τ).loc main_arg1))))
          (withPrev (keyR (blkR (m ((c.tc : Thread nD τ).loc main_arg1))))))
          (m ((c.tc : Thread nD τ).loc main_arg0))))) := rfl

theorem blkR_apply (h : Vec Ideal S8192x3840 .bf16) (n : Fin 64) (r : Fin 128) (k : Fin 3840) :
    blkR h (ix3 n r k) = h (ix2 (place n r) k) := by
  pointwise [blkR]
  rfl

theorem qryR_apply (x : FVec Ideal S64x128x3840 .f32) (n : Fin 64) (r : Fin 128) (g j : Fin 2) (d : Fin 64) (a : Fin 4)
    (ha : a.val = g.val * 2 + j.val) : qryR x (ix5 n r g j d) = x (ix3 n r (qry a d)) := by
  pointwise [qryR]
  refine congrArg (fun k => x (ix3 n r k)) (Fin.ext ?_)
  show 1024 + (g.val * 128 + j.val * 64 + d.val) = 1024 + a.val * 64 + d.val
  omega

theorem keyR_apply (x : FVec Ideal S64x128x3840 .f32) (n : Fin 64) (r : Fin 128) (g j : Fin 2) (d : Fin 64) (a : Fin 4)
    (ha : a.val = g.val * 2 + j.val) : keyR x (ix4 n r g d) = x (ix3 n r (key a d)) := by
  have hj := j.isLt
  pointwise [keyR]
  refine congrArg (fun k => x (ix3 n r k)) (Fin.ext ?_)
  show 1280 + (g.val * 64 + d.val) = 1280 + a.val / 2 * 64 + d.val
  omega

theorem valR_apply (x : FVec Ideal S64x128x3840 .f32) (n : Fin 64) (r : Fin 128) (g j : Fin 2) (d : Fin 64) (a : Fin 4)
    (ha : a.val = g.val * 2 + j.val) : valR x (ix4 n r g d) = x (ix3 n r (val a d)) := by
  have hj := j.isLt
  pointwise [valR]
  refine congrArg (fun k => x (ix3 n r k)) (Fin.ext ?_)
  show 1408 + (g.val * 64 + d.val) = 1408 + a.val / 2 * 64 + d.val
  omega

/-- Key `k` of the block before. -/
def older (k : Fin 128) : Fin 256 := ⟨k.val, by have := k.isLt; omega⟩
/-- Key `k` of the query's own block. -/
def newer (k : Fin 128) : Fin 256 := ⟨128 + k.val, by have := k.isLt; omega⟩

theorem withPrev_newer (x : FVec Ideal S64x128x2x64 .f32) (n : Fin 64) (k : Fin 128) (g : Fin 2) (d : Fin 64) :
    withPrev x (ix4 n (newer k) g d) = x (ix4 n k g d) := by
  pointwise [withPrev]
  rw [dif_neg (show ¬ (newer k).val < 128 from not_lt.2 (Nat.le_add_right 128 k.val))]
  exact congrArg (fun k => x (ix4 n k g d)) (Fin.ext (Nat.add_sub_cancel_left 128 k.val))

theorem withPrev_older (x : FVec Ideal S64x128x2x64 .f32) (n : Fin 64) (k : Fin 128) (g : Fin 2) (d : Fin 64) :
    withPrev x (ix4 n (older k) g d) = if n.val = 0 then 0 else x (ix4 (prev n) k g d) := by
  pointwise [withPrev]
  rw [dif_pos (show (older k).val < 128 from k.isLt)]
  by_cases h : n.val = 0
  · rw [dif_pos (by omega), if_pos h]
  · rw [dif_neg (by omega), if_neg h]
    rfl

theorem near : ∀ (r : Fin 128) (k : Fin 256), IntOp.andi
      (IntOp.cmpi CmpIPredicate.sge (IntOp.subi (IntOp.addi (BitVec.ofNat 32 r.val) 128#32) (BitVec.ofNat 32 k.val)) 0#32)
      (IntOp.cmpi CmpIPredicate.slt (IntOp.subi (IntOp.addi (BitVec.ofNat 32 r.val) 128#32) (BitVec.ofNat 32 k.val)) 128#32)
    = if k.val ≤ r.val + 128 ∧ r.val < k.val then 1 else 0 := by
  decide +kernel

theorem inside : ∀ (n : Fin 64) (k : Fin 256), IntOp.cmpi CmpIPredicate.sge
      (IntOp.subi (IntOp.addi (IntOp.muli (BitVec.ofNat 32 n.val) 128#32) (BitVec.ofNat 32 k.val)) 128#32) 0#32
    = if 128 ≤ n.val * 128 + k.val then 1 else 0 := by
  decide +kernel

theorem validR_apply (n : Fin 64) (g j : Fin 2) (r : Fin 128) (k : Fin 256) :
    validR (ix5 n g j r k) = if (k.val ≤ r.val + 128 ∧ r.val < k.val) ∧ 128 ≤ n.val * 128 + k.val then 1 else 0 := by
  pointwise [validR]
  rw [near, inside]
  by_cases h : k.val ≤ r.val + 128 ∧ r.val < k.val <;> by_cases h' : 128 ≤ n.val * 128 + k.val <;> simp [h, h', IntOp.andi]

theorem scoreR_apply (q : FVec Ideal S64x128x2x2x64 .f32) (kk : FVec Ideal S64x256x2x64 .f32) (n : Fin 64) (g j : Fin 2)
    (r : Fin 128) (k : Fin 256) : scoreR q kk (ix5 n g j r k)
      = if (k.val ≤ r.val + 128 ∧ r.val < k.val) ∧ 128 ≤ n.val * 128 + k.val
        then score (fun d => q (ix5 n r g j d)) (fun d => kk (ix4 n k g d)) else ⊥ := by
  pointwise [scoreR]
  rw [validR_apply, select_ite]
  refine if_congr Iff.rfl ?_ Consts.ofBits_neg_inf
  unfold score
  exact congrArg (· * _) (Finset.sum_congr rfl fun d _ => mul_comm _ _)

theorem logitR_apply (z : FVec Ideal S64x2x2x128x256 .f32) (s : Vec Ideal S4 .f32) (n : Fin 64) (g j : Fin 2) (r : Fin 128)
    (k : Fin 257) (a : Fin 4) (ha : a.val = g.val * 2 + j.val) : logitR z s (ix5 n g j r k)
      = if h : k.val < 256 then z (ix5 n g j r ⟨k.val, h⟩) else s (ix1 a) := by
  pointwise [logitR]
  refine dite_congr rfl (fun _ => rfl) fun _ => congrArg (fun k => s (ix1 k)) (Fin.ext ha.symm)

theorem expR_apply (y : FVec Ideal S64x2x2x128x257 .f32) (n : Fin 64) (g j : Fin 2) (r : Fin 128) (k : Fin 257) :
    expR y (ix5 n g j r k) = Ideal.exp (y (ix5 n g j r k)
      - Finset.univ.fold max (Ideal.ofBits .f32 0xFF800000#32) fun k => y (ix5 n g j r k)) := by
  pointwise [expR]

theorem probR_apply (e : FVec Ideal S64x2x2x128x257 .f32) (n : Fin 64) (g j : Fin 2) (r : Fin 128) (k : Fin 256) :
    probR e (ix5 n g j r k) = e (ix5 n g j r k.castSucc) * Ideal.div 1 (∑ k, e (ix5 n g j r k)) := by
  pointwise [probR]
  rfl

theorem outR_apply (vv : FVec Ideal S64x256x2x64 .f32) (p : FVec Ideal S64x2x2x128x256 .f32) (n : Fin 64) (r : Fin 128)
    (l : Fin 256) (g j : Fin 2) (d : Fin 64) (hl : l.val = (g.val * 2 + j.val) * 64 + d.val) :
    outR vv p (ix2 (place n r) l) = ∑ k, vv (ix4 n k g d) * p (ix5 n g j r k) := by
  have hr := r.isLt
  have hj := j.isLt
  have hd := d.isLt
  pointwise [outR]
  have e1 : ∀ h, (⟨(place n r).val / 128, h⟩ : Fin 64) = n := fun h => Fin.ext (show (n.val * 128 + r.val) / 128 = n.val by omega)
  have e2 : ∀ h, (⟨(place n r).val % 128, h⟩ : Fin 128) = r := fun h => Fin.ext (show (n.val * 128 + r.val) % 128 = r.val by omega)
  have e3 : ∀ h, (⟨l.val / 128, h⟩ : Fin 2) = g := fun h => Fin.ext (show l.val / 128 = g.val by omega)
  have e4 : ∀ h, (⟨l.val / 64 % 2, h⟩ : Fin 2) = j := fun h => Fin.ext (show l.val / 64 % 2 = j.val by omega)
  have e5 : ∀ h, (⟨l.val % 64, h⟩ : Fin 64) = d := fun h => Fin.ext (show l.val % 64 = d.val by omega)
  simp only [e1, e2, e3, e4, e5]

/-- A sum over the keys of both blocks and the sink. -/
theorem sum_keys (f : Fin 256 → EReal) : ∑ k, f k = (∑ k, f (newer k)) + ∑ k, f (older k) :=
  (Fin.sum_univ_add (a := 128) (b := 128) f).trans (add_comm _ _)

theorem sum_logits (f : Fin 257 → EReal) :
    ∑ k, f k = ((∑ k, f (newer k).castSucc) + ∑ k, f (older k).castSucc) + f (Fin.last 256) := by
  rw [Fin.sum_univ_castSucc, sum_keys]

/-- The largest of the keys of both blocks and the sink. -/
theorem top_logits (f : Fin 257 → EReal) : Finset.univ.fold max (Ideal.ofBits .f32 0xFF800000#32) f
    = top (fun k => f (newer k).castSucc) (fun k => f (older k).castSucc) (f (Fin.last 256)) := by
  refine eq_of_forall_ge_iff fun b => ?_
  unfold top
  simp only [Finset.fold_max_le, max_le_iff, Finset.mem_univ, forall_true_left]
  constructor
  · rintro ⟨h, h'⟩
    exact ⟨⟨⟨h, fun k => h' _⟩, h, fun k => h' _⟩, h' _⟩
  · rintro ⟨⟨⟨h, h1⟩, -, h2⟩, h3⟩
    refine ⟨h, fun k => ?_⟩
    have hk := k.isLt
    by_cases a : k.val < 128
    · exact h2 ⟨k.val, a⟩
    · by_cases b : k.val < 256
      · refine le_of_eq_of_le (congrArg f (Fin.ext ?_)) (h1 ⟨k.val - 128, by omega⟩)
        show k.val = 128 + (k.val - 128)
        omega
      · exact le_of_eq_of_le (congrArg f (Fin.ext (show k.val = 256 by omega))) h3

/-- A masked key's value does not count. -/
theorem attend_masked (sc sp : Fin 128 → EReal) (s : EReal) (vc vp vp' : Fin 128 → EReal) (h : ∀ k, sp k = ⊥ ∨ vp k = vp' k) :
    attend sc sp s vc vp = attend sc sp s vc vp' := by
  unfold attend
  refine congrArg (_ + ·) (Finset.sum_congr rfl fun k _ => ?_)
  obtain e | e := h k
  · rw [e, EReal.bot_sub, show Ideal.exp ⊥ = 0 from rfl, zero_mul, zero_mul, zero_mul]
  · rw [e]

/-- The reference's steps from the scores on, at a place. -/
theorem weighted (z : FVec Ideal S64x2x2x128x256 .f32) (s : Vec Ideal S4 .f32) (vv : FVec Ideal S64x256x2x64 .f32) (n : Fin 64)
    (r : Fin 128) (l : Fin 256) (g j : Fin 2) (d : Fin 64) (a : Fin 4) (ha : a.val = g.val * 2 + j.val)
    (hl : l.val = (g.val * 2 + j.val) * 64 + d.val) :
    outR vv (probR (expR (logitR z s))) (ix2 (place n r) l)
      = attend (fun k => z (ix5 n g j r (newer k))) (fun k => z (ix5 n g j r (older k))) (s (ix1 a))
          (fun k => vv (ix4 n (newer k) g d)) (fun k => vv (ix4 n (older k) g d)) := by
  have hy : ∀ k : Fin 256, logitR z s (ix5 n g j r k.castSucc) = z (ix5 n g j r k) := fun k => by
    rw [logitR_apply _ _ _ _ _ _ _ a ha]
    exact dif_pos k.isLt
  have hs : logitR z s (ix5 n g j r (Fin.last 256)) = s (ix1 a) := by
    rw [logitR_apply _ _ _ _ _ _ _ a ha]
    exact dif_neg (lt_irrefl 256)
  have hM := top_logits fun k => logitR z s (ix5 n g j r k)
  simp only [hy, hs] at hM
  have hS := sum_logits fun k => expR (logitR z s) (ix5 n g j r k)
  simp only [expR_apply, hM, hy, hs] at hS
  rw [outR_apply _ _ _ _ _ g j d hl, sum_keys]
  simp only [probR_apply, expR_apply, hM, hS, hy]
  unfold attend recip
  refine congrArg₂ (· + ·) (Finset.sum_congr rfl fun k _ => ?_) (Finset.sum_congr rfl fun k _ => ?_) <;> exact mul_comm _ _

/-- The reference's result, at a place. -/
theorem ref_apply (n : Fin 64) (r : Fin 128) (a : Fin 4) (d : Fin 64) (l : Fin 256) (hl : l.val = a.val * 64 + d.val) :
    (res_main_v71 m c : FVec Ideal S8192x256 .f32) (ix2 (place n r) l)
      = window (fun a => (m ((c.tc : Thread nD τ).loc main_arg0) : Vec Ideal S4 .f32) (ix1 a))
          (fun r k => (m ((c.tc : Thread nD τ).loc main_arg1) : Vec Ideal S8192x3840 .bf16) (ix2 r k)) n r a d := by
  have ha := a.isLt
  obtain ⟨g, j, hgj⟩ : ∃ g j : Fin 2, a.val = g.val * 2 + j.val :=
    ⟨⟨a.val / 2, by omega⟩, ⟨a.val % 2, by omega⟩, show a.val = a.val / 2 * 2 + a.val % 2 by omega⟩
  rw [res_eq, weighted _ _ _ n r l g j d a hgj (by rw [hl, hgj])]
  unfold window
  have hc : (fun k => scoreR (qryR (blkR (m ((c.tc : Thread nD τ).loc main_arg1))))
      (withPrev (keyR (blkR (m ((c.tc : Thread nD τ).loc main_arg1))))) (ix5 n g j r (newer k)))
      = scoresC (fun r k => (m ((c.tc : Thread nD τ).loc main_arg1) : Vec Ideal S8192x3840 .bf16) (ix2 r k)) n r a := by
    funext k
    have hk := k.isLt
    rw [scoreR_apply]
    simp only [withPrev_newer, qryR_apply _ _ _ _ _ _ a hgj, keyR_apply _ _ _ g j _ a hgj, blkR_apply]
    exact if_congr (by show (128 + k.val ≤ r.val + 128 ∧ r.val < 128 + k.val) ∧ 128 ≤ n.val * 128 + (128 + k.val) ↔ k.val ≤ r.val; omega) rfl rfl
  have hp : (fun k => scoreR (qryR (blkR (m ((c.tc : Thread nD τ).loc main_arg1))))
      (withPrev (keyR (blkR (m ((c.tc : Thread nD τ).loc main_arg1))))) (ix5 n g j r (older k)))
      = scoresP (fun r k => (m ((c.tc : Thread nD τ).loc main_arg1) : Vec Ideal S8192x3840 .bf16) (ix2 r k)) n r a := by
    funext k
    have hk := k.isLt
    rw [scoreR_apply]
    simp only [withPrev_older, qryR_apply _ _ _ _ _ _ a hgj, keyR_apply _ _ _ g j _ a hgj, blkR_apply]
    unfold scoresP
    by_cases h : n.val = 0
    · rw [if_neg (by show ¬ ((k.val ≤ r.val + 128 ∧ r.val < k.val) ∧ 128 ≤ n.val * 128 + k.val); omega), if_neg (fun h' => h'.2 h)]
    · simp only [if_neg h]
      exact if_congr (by show (k.val ≤ r.val + 128 ∧ r.val < k.val) ∧ 128 ≤ n.val * 128 + k.val ↔ r.val < k.val ∧ n.val ≠ 0; omega) rfl rfl
  rw [hc, hp]
  simp only [withPrev_newer, withPrev_older, valR_apply _ _ _ g j _ a hgj, blkR_apply]
  refine attend_masked _ _ _ _ _ _ fun k => ?_
  by_cases h : n.val = 0
  · exact Or.inl (if_neg fun h' => h'.2 h)
  · exact Or.inr (if_neg h)

end Cert.Proof.Window

end
-- ==== Proof.Window.Claims.lean ====
/- The claims about the sliding-window attention call: its runs, the reference's run, and that their results are equal. -/
module

public import proofs.«01_k».proof.Defs
public import proofs.«01_k».proof.Proof.Gen.Window
public import proofs.«01_k».proof.Proof.Gen.WindowReferenceIdeal
public import proofs.«01_k».proof.Proof.Gen.WindowReferenceIdeal.Run
public import proofs.«01_k».proof.Proof.Window.Value
public import proofs.«01_k».proof.Proof.Window.Reference

@[expose] public section

noncomputable section

namespace Cert.Proof.Window

open Idealize.ShloMosaic Idealize.ShloMosaic.TcCoe Idealize.SL Idealize.SL.Sem
open Cert.WindowIdeal

/-- At the bit patterns the masking constant is its word: the two texts are then the same. -/
local instance : Named Bits where
  named _ _ {φ} w := FloatOps.ofBits (F := Bits) φ w

/-- The call's body at the bit patterns is the body the run was found for. -/
theorem bodies_eq : Cert.Window.defs₀ (F := Bits) = Cert.WindowIdeal.defs₀ := by
  funext p l a
  match p with
  | .tc =>
    match l, a with
    | ⟨0, _⟩, (_, _) => rfl
  | .scScalar _ => rfl
  | .scVector _ _ => rfl

theorem defs_eq : Cert.Window.defs (F := Bits) = Cert.WindowIdeal.defs := by
  show Pipeline.defs Cert.WindowIdeal.pcfgs (Cert.Window.defs₀ (F := Bits)) = Pipeline.defs Cert.WindowIdeal.pcfgs Cert.WindowIdeal.defs₀
  rw [bodies_eq]

theorem frame_window : Cert.quiescent_Window (hWindow := Cert.Window.Gen.facts) := fun m g _ => by
  have h := Cert.WindowIdeal.Gen.frame (F := Bits) m g
  show θ_run (Cert.Window.defs (F := Bits)) (onTc Cert.WindowIdeal.main) _ _
  rw [defs_eq]
  exact h

theorem frame_windowIdeal : Cert.quiescent_WindowIdeal (hWindowIdeal := Cert.WindowIdeal.Gen.facts) := fun m g _ =>
  Cert.WindowIdeal.Gen.frame (F := Ideal) m g

theorem frame_windowReferenceIdeal :
    Cert.quiescent_WindowReferenceIdeal (hWindowReferenceIdeal := WindowReferenceIdeal.Gen.facts) := fun m g _ =>
  (θ_run WindowReferenceIdeal.defs _ _).mono (fun r h => ⟨fun c => (h c).2, sem_eq_zero_of_no_sems (by decide) r.2⟩)
    (WindowReferenceIdeal.Value.run m g)

theorem algebraic_window : Cert.algebraic_WindowIdeal_WindowReferenceIdeal (hWindowIdeal := Cert.WindowIdeal.Gen.facts)
    (hWindowReferenceIdeal := WindowReferenceIdeal.Gen.facts) := fun m g m' g' _ hm => by
  refine ⟨fun c => outs m c,
    (θ_run Cert.WindowIdeal.defs _ _).mono (fun r h c => ?_) (Cert.WindowIdeal.Value.run_blocks (F := Ideal) m g),
    (θ_run WindowReferenceIdeal.defs _ _).mono (fun r h c => ?_) (WindowReferenceIdeal.Value.run m' g')⟩
  · obtain ⟨h7, hk⟩ := h c
    exact ⟨h7.trans (final m c), hk⟩
  · obtain ⟨h7, hk⟩ := h c
    obtain ⟨e0, e1⟩ := hm c
    refine ⟨h7.trans ?_, hk⟩
    funext i
    obtain ⟨r, l, rfl⟩ : ∃ r l, i = ix2 r l := ⟨i 0, i 1, by funext a; fin_cases a <;> rfl⟩
    have hr := r.isLt
    have hl := l.isLt
    obtain ⟨n, q, rfl⟩ : ∃ n q, r = place n q := ⟨⟨r.val / 128, by omega⟩, ⟨r.val % 128, by omega⟩,
      Fin.ext (show r.val = r.val / 128 * 128 + r.val % 128 by omega)⟩
    have ea : l.val = (⟨l.val / 64, by omega⟩ : Fin 4).val * 64 + (⟨l.val % 64, by omega⟩ : Fin 64).val :=
      show l.val = l.val / 64 * 64 + l.val % 64 by omega
    refine (ref_apply m' c n q _ _ l ea).trans ?_
    rw [e0, e1]
    exact (result_apply m c n q _ _ l ea).symm

/-- The one constant the idealized text names is the masking constant, read as −∞. -/
theorem preserves_window : Cert.preserves_Window_WindowIdeal :=
  IdealRules.named_const.statement Cert.WindowIdeal.κ "mask" .f32 0xF149F2CA#32 ⊥ rfl

end Cert.Proof.Window

end
-- ==== Proof.Latent.Payload.lean ====
/- What one place of the latent projections and of the rotated queries and keys is, in the kernel. -/
module

public import proofs.«01_k».proof.Proof.Gen.LatentIdeal.Skeleton
public import proofs.«01_k».proof.Proof.Norm
public import proofs.«01_k».proof.Proof.Consts
public import Idealize.ShloMosaic.Lib.Pointwise

@[expose] public section

noncomputable section

namespace Cert.Proof.Latent

open Idealize.ShloMosaic

/-- A normalized row through a projection; `w` is the row's length as a number. -/
def project {n : ℕ} (w : BitVec 32) (x g : Fin n → EReal) (W : Fin n → Fin 1024 → EReal) (j : Fin 1024) : EReal :=
  ∑ k, normed w x g k * W k j

/-- The factor of the part of a head that is not rotated: one in its first 64 places. -/
def still (p : Fin 128) : EReal := if p.val < 64 then 1 else 0

/-- Column `p` of head `a`, in the first half of a projection's columns. -/
def col (a : Fin 4) (p : Fin 128) : Fin 1024 := ⟨a.val * 128 + p.val, by have := a.isLt; have := p.isLt; omega⟩

/-- The column as far into the second half. -/
def colS (a : Fin 4) (p : Fin 128) : Fin 1024 := ⟨512 + (a.val * 128 + p.val), by have := a.isLt; have := p.isLt; omega⟩

/-- A head's query: rotated and scaled. -/
def query (P : Fin 1024 → EReal) (cos sin : Fin 128 → EReal) (a : Fin 4) (p : Fin 128) : EReal :=
  (P (col a p) * (cos p + still p) + P (colS a p) * sin p) * (((Real.sqrt 96)⁻¹ : ℝ) : EReal)

/-- A head's key: its own columns plus the shared rotated ones. -/
def key (P : Fin 1024 → EReal) (x xs cos sin : Fin 128 → EReal) (a : Fin 4) (p : Fin 128) : EReal :=
  P (col a p) + (x p * cos p + xs p * sin p)

open Cert.LatentIdeal Cert.LatentIdeal.Gen

/-- The scale, as it is named. -/
theorem scale_eq : (Named.named (F := Ideal) (φ := .f32) κ "scale" 0x3DD105EC#32 : EReal) = (((Real.sqrt 96)⁻¹ : ℝ) : EReal) :=
  IdealRules.named_const.ideal_named_scalar _ _ _ _ rfl

/-- A head's query at two named columns. -/
theorem query_of (P : Fin 1024 → EReal) (cos sin : Fin 128 → EReal) (a : Fin 4) (p : Fin 128) (i j : Fin 1024)
    (hi : i.val = a.val * 128 + p.val) (hj : j.val = 512 + (a.val * 128 + p.val)) :
    (P i * (cos p + still p) + P j * sin p) * (((Real.sqrt 96)⁻¹ : ℝ) : EReal) = query P cos sin a p := by
  rw [show i = col a p from Fin.ext hi, show j = colS a p from Fin.ext hj]
  rfl

/-- A head's key at a named column. -/
theorem key_of (P : Fin 1024 → EReal) (x xs cos sin : Fin 128 → EReal) (a : Fin 4) (p : Fin 128) (i : Fin 1024)
    (hi : i.val = a.val * 128 + p.val) : P i + (x p * cos p + xs p * sin p) = key P x xs cos sin a p := by
  rw [show i = col a p from Fin.ext hi]
  rfl

/-- The comparison of a place with 64, as a number. -/
theorem still_word : ∀ p : Fin 128, BitVec.setWidth 32 (IntOp.cmpi .slt (BitVec.ofNat 32 p.val) 64#32)
    = if p.val < 64 then 1#32 else 0#32 := by decide

theorem pay6_apply (v0 : Vec Ideal S512x128 .f32) (r : Fin 512) (p : Fin 128) :
    k0_pay6 v0 (ix2 r p) = v0 (ix2 r p) + still p := by
  pointwise [k0_pay6]
  rw [still_word]
  refine congrArg (v0 (ix2 r p) + ·) ?_
  unfold still
  split
  · show (((1#32).toInt : ℝ) : EReal) = 1
    norm_num
  · show (((0#32).toInt : ℝ) : EReal) = 0
    norm_num

theorem pay7_apply (x : Vec Ideal S512x256 .f32) (g : Vec Ideal S1x256 .f32) (W : Vec Ideal S256x1024 .bf16) (r : Fin 512)
    (j : Fin 1024) : k0_pay7 x g W (ix2 r j)
      = project 0x43800000#32 (fun k => x (ix2 r k)) (fun k => g (ix2 0 k)) (fun k l => W (ix2 k l)) j := by
  pointwise [k0_pay7, dot_S512x256_S256x1024_S512x1024_1_0_0_1_n_n]
  rfl

theorem pay9_apply (x : Vec Ideal S512x128 .f32) (g : Vec Ideal S1x128 .f32) (W : Vec Ideal S128x1024 .bf16) (r : Fin 512)
    (j : Fin 1024) : k0_pay9 g (k0_pay8 x) W (ix2 r j)
      = project 0x43000000#32 (fun k => x (ix2 r k)) (fun k => g (ix2 0 k)) (fun k l => W (ix2 k l)) j := by
  pointwise [k0_pay9, k0_pay8, dot_S512x128_S128x1024_S512x1024_1_0_0_1_n_n]
  rfl

section Queries
variable (s : Vec Ideal S512x128 .f32) (q : FVec Ideal S512x1024 .f32) (c : Vec Ideal S512x128 .f32) (r : Fin 512) (p : Fin 128)

/-- The four heads' queries. -/
theorem query_zero : k0_pay11 s (k0_pay6 c) q (ix2 r p)
    = query (fun j => q (ix2 r j)) (fun k => c (ix2 r k)) (fun k => s (ix2 r k)) 0 p := by
  pointwise [k0_pay11]
  simp only [pay6_apply, scale_eq]
  exact query_of (fun j => q (ix2 r j)) (fun k => c (ix2 r k)) (fun k => s (ix2 r k)) 0 p _ _ (by simp) (by simp)

theorem query_one : k0_pay13 s (k0_pay6 c) q (ix2 r p)
    = query (fun j => q (ix2 r j)) (fun k => c (ix2 r k)) (fun k => s (ix2 r k)) 1 p := by
  pointwise [k0_pay13]
  simp only [pay6_apply, scale_eq]
  exact query_of (fun j => q (ix2 r j)) (fun k => c (ix2 r k)) (fun k => s (ix2 r k)) 1 p _ _ (by simp)
    (by show 640 + p.val = 512 + (1 * 128 + p.val); omega)

theorem query_two : k0_pay1 s (k0_pay15 (k0_pay6 c) q) (k0_pay16 q) (ix2 r p)
    = query (fun j => q (ix2 r j)) (fun k => c (ix2 r k)) (fun k => s (ix2 r k)) 2 p := by
  pointwise [k0_pay1, k0_pay15, k0_pay16]
  simp only [pay6_apply, scale_eq]
  exact query_of (fun j => q (ix2 r j)) (fun k => c (ix2 r k)) (fun k => s (ix2 r k)) 2 p _ _ (by simp)
    (by show 768 + p.val = 512 + (2 * 128 + p.val); omega)

theorem query_three : k0_pay3 s (k0_pay6 c) q (ix2 r p)
    = query (fun j => q (ix2 r j)) (fun k => c (ix2 r k)) (fun k => s (ix2 r k)) 3 p := by
  pointwise [k0_pay3]
  simp only [pay6_apply, scale_eq]
  exact query_of (fun j => q (ix2 r j)) (fun k => c (ix2 r k)) (fun k => s (ix2 r k)) 3 p _ _ (by simp)
    (by show 896 + p.val = 512 + (3 * 128 + p.val); omega)

end Queries

section Keys
variable (v0 v1 : Vec Ideal S512x128 .f32) (g : Vec Ideal S1x128 .f32) (x : FVec Ideal S512x128 .f32) (W : Vec Ideal S128x1024 .bf16)
  (y ys : Vec Ideal S512x128 .f32) (r : Fin 512) (p : Fin 128)

/-- The four heads' keys. -/
theorem key_zero : k0_pay12 v0 v1 g x W y ys (ix2 r p)
    = key (fun j => k0_pay9 g x W (ix2 r j)) (fun k => y (ix2 r k)) (fun k => ys (ix2 r k)) (fun k => v0 (ix2 r k))
        (fun k => v1 (ix2 r k)) 0 p := by
  pointwise [k0_pay12, k0_pay10]
  exact key_of (fun j => k0_pay9 g x W (ix2 r j)) (fun k => y (ix2 r k)) (fun k => ys (ix2 r k)) (fun k => v0 (ix2 r k))
    (fun k => v1 (ix2 r k)) 0 p _ (by simp)

theorem key_one : k0_pay14 v0 v1 g x W y ys (ix2 r p)
    = key (fun j => k0_pay9 g x W (ix2 r j)) (fun k => y (ix2 r k)) (fun k => ys (ix2 r k)) (fun k => v0 (ix2 r k))
        (fun k => v1 (ix2 r k)) 1 p := by
  pointwise [k0_pay14, k0_pay10]
  exact key_of (fun j => k0_pay9 g x W (ix2 r j)) (fun k => y (ix2 r k)) (fun k => ys (ix2 r k)) (fun k => v0 (ix2 r k))
    (fun k => v1 (ix2 r k)) 1 p _ (by simp)

theorem key_two : k0_pay2 (k0_pay9 g x W) (k0_pay10 v0 v1 y ys) (ix2 r p)
    = key (fun j => k0_pay9 g x W (ix2 r j)) (fun k => y (ix2 r k)) (fun k => ys (ix2 r k)) (fun k => v0 (ix2 r k))
        (fun k => v1 (ix2 r k)) 2 p := by
  pointwise [k0_pay2, k0_pay10]
  exact key_of (fun j => k0_pay9 g x W (ix2 r j)) (fun k => y (ix2 r k)) (fun k => ys (ix2 r k)) (fun k => v0 (ix2 r k))
    (fun k => v1 (ix2 r k)) 2 p _ (by simp)

theorem key_three : k0_pay4 (k0_pay9 g x W) (k0_pay10 v0 v1 y ys) (ix2 r p)
    = key (fun j => k0_pay9 g x W (ix2 r j)) (fun k => y (ix2 r k)) (fun k => ys (ix2 r k)) (fun k => v0 (ix2 r k))
        (fun k => v1 (ix2 r k)) 3 p := by
  pointwise [k0_pay4, k0_pay10]
  exact key_of (fun j => k0_pay9 g x W (ix2 r j)) (fun k => y (ix2 r k)) (fun k => ys (ix2 r k)) (fun k => v0 (ix2 r k))
    (fun k => v1 (ix2 r k)) 3 p _ (by simp)

end Keys

/-- The values. -/
theorem value_apply (P : FVec Ideal S512x1024 .f32) (r : Fin 512) (l : Fin 512) :
    k0_pay5 P (ix2 r l) = P (ix2 r ⟨512 + l.val, by have := l.isLt; omega⟩) := by
  pointwise [k0_pay5]

end Cert.Proof.Latent

end
-- ==== Proof.Latent.Value.lean ====
/- The three arrays the latent projections' call leaves: every block is its rows' queries, keys and values. -/
module

public import proofs.«01_k».proof.Proof.Gen.LatentIdeal.Value
public import proofs.«01_k».proof.Proof.Latent.Payload
public import Idealize.ShloMosaic.Lib.Pipeline.ValueKit

@[expose] public section

noncomputable section

namespace Cert.Proof.Latent

open Idealize.ShloMosaic Idealize.ShloMosaic.TcCoe Idealize.SL Idealize.SL.Sem
open Cert.LatentIdeal Cert.LatentIdeal.Gen Cert.LatentIdeal.Value

variable (m : (ℓ : Loc nD τ sig) → Buf (Elt Ideal) ℓ) (c : Dev nD)

/-- The projection's rows. -/
def row (r : Fin 8192) (k : Fin 3840) : EReal := (m ((c : Thread nD τ).loc main_arg0) : Vec Ideal S8192x3840 .f32) (ix2 r k)
/-- The weights of the queries' normalization. -/
def gainQ (k : Fin 256) : EReal := (m ((c : Thread nD τ).loc main_arg1) : Vec Ideal S1x256 .f32) (ix2 0 k)
/-- The weights of the keys' and values' normalization. -/
def gainKV (k : Fin 128) : EReal := (m ((c : Thread nD τ).loc main_arg2) : Vec Ideal S1x128 .f32) (ix2 0 k)
/-- The queries' projection. -/
def wgtQ (k : Fin 256) (j : Fin 1024) : EReal := (m ((c : Thread nD τ).loc main_arg3) : Vec Ideal S256x1024 .bf16) (ix2 k j)
/-- The keys' and values' projection. -/
def wgtKV (k : Fin 128) (j : Fin 1024) : EReal := (m ((c : Thread nD τ).loc main_arg4) : Vec Ideal S128x1024 .bf16) (ix2 k j)
/-- The cosines of the tokens' angles. -/
def cosT (r : Fin 8192) (k : Fin 128) : EReal := (m ((c : Thread nD τ).loc main_arg5) : Vec Ideal S8192x128 .f32) (ix2 r k)
/-- The sines of the tokens' angles. -/
def sinT (r : Fin 8192) (k : Fin 128) : EReal := (m ((c : Thread nD τ).loc main_arg6) : Vec Ideal S8192x128 .f32) (ix2 r k)

theorem ix0' : ∀ t : Fin cfg0.N, win0_0.index t = ![t.val, 9] := (by decide +kernel : ∀ t : Fin grid0.N, _)
theorem ix1' : ∀ t : Fin cfg0.N, win0_1.index t = ![t.val, 20] := (by decide +kernel : ∀ t : Fin grid0.N, _)
theorem ix2' : ∀ t : Fin cfg0.N, win0_2.index t = ![t.val, 21] := (by decide +kernel : ∀ t : Fin grid0.N, _)
theorem ix3' : ∀ t : Fin cfg0.N, win0_3.index t = ![t.val, 22] := (by decide +kernel : ∀ t : Fin grid0.N, _)
theorem ix4' : ∀ t : Fin cfg0.N, win0_4.index t = ![0, 0] := (by decide +kernel : ∀ t : Fin grid0.N, _)
theorem ix5' : ∀ t : Fin cfg0.N, win0_5.index t = ![0, 0] := (by decide +kernel : ∀ t : Fin grid0.N, _)
theorem ix6' : ∀ t : Fin cfg0.N, win0_6.index t = ![t.val, 0] := (by decide +kernel : ∀ t : Fin grid0.N, _)
theorem ix7' : ∀ t : Fin cfg0.N, win0_7.index t = ![t.val, 0] := (by decide +kernel : ∀ t : Fin grid0.N, _)
theorem ix8' : ∀ t : Fin cfg0.N, win0_8.index t = ![0, 0] := (by decide +kernel : ∀ t : Fin grid0.N, _)
theorem ix9' : ∀ t : Fin cfg0.N, win0_9.index t = ![0, 0] := (by decide +kernel : ∀ t : Fin grid0.N, _)
theorem ix10' : ∀ t : Fin cfg0.N, win0_10.index t = ![t.val, 0] := (by decide +kernel : ∀ t : Fin grid0.N, _)
theorem ix11' : ∀ t : Fin cfg0.N, win0_11.index t = ![t.val, 0] := (by decide +kernel : ∀ t : Fin grid0.N, _)
theorem ix12' : ∀ t : Fin cfg0.N, win0_12.index t = ![t.val, 0] := (by decide +kernel : ∀ t : Fin grid0.N, _)

/-- The block at a point. -/
def at_ (t : Fin cfg0.N) : Fin 16 := ⟨t.val, t.isLt⟩

/-- Row `r` of block `n`. -/
def place (n : Fin 16) (r : Fin 512) : Fin 8192 := ⟨n.val * 512 + r.val, by have := n.isLt; have := r.isLt; omega⟩

theorem blk0 (t : Fin cfg0.N) (r : Fin 512) (k : Fin 256) : (iblk m c 0 t : Vec Ideal S512x256 .f32) (ix2 r k)
    = row m c (place (at_ t) r) ⟨2304 + k.val, by have := k.isLt; omega⟩ := by
  blk_simp [iblk]
  refine congrArg (m ((c : Thread nD τ).loc main_arg0)) ?_
  blk_ext [ix0', at_, place]

theorem blk1 (t : Fin cfg0.N) (r : Fin 512) (k : Fin 128) : (iblk m c 1 t : Vec Ideal S512x128 .f32) (ix2 r k)
    = row m c (place (at_ t) r) ⟨2560 + k.val, by have := k.isLt; omega⟩ := by
  blk_simp [iblk]
  refine congrArg (m ((c : Thread nD τ).loc main_arg0)) ?_
  blk_ext [ix1', at_, place]

theorem blk2 (t : Fin cfg0.N) (r : Fin 512) (k : Fin 128) : (iblk m c 2 t : Vec Ideal S512x128 .f32) (ix2 r k)
    = row m c (place (at_ t) r) ⟨2688 + k.val, by have := k.isLt; omega⟩ := by
  blk_simp [iblk]
  refine congrArg (m ((c : Thread nD τ).loc main_arg0)) ?_
  blk_ext [ix2', at_, place]

theorem blk3 (t : Fin cfg0.N) (r : Fin 512) (k : Fin 128) : (iblk m c 3 t : Vec Ideal S512x128 .f32) (ix2 r k)
    = row m c (place (at_ t) r) ⟨2816 + k.val, by have := k.isLt; omega⟩ := by
  blk_simp [iblk]
  refine congrArg (m ((c : Thread nD τ).loc main_arg0)) ?_
  blk_ext [ix3', at_, place]

theorem blk4 (t : Fin cfg0.N) (k : Fin 256) : (iblk m c 4 t : Vec Ideal S1x256 .f32) (ix2 0 k)
    = gainQ m c k := by
  blk_simp [iblk]
  refine congrArg (m ((c : Thread nD τ).loc main_arg1)) ?_
  blk_ext [ix4', at_, place]

theorem blk5 (t : Fin cfg0.N) (k : Fin 128) : (iblk m c 5 t : Vec Ideal S1x128 .f32) (ix2 0 k)
    = gainKV m c k := by
  blk_simp [iblk]
  refine congrArg (m ((c : Thread nD τ).loc main_arg2)) ?_
  blk_ext [ix5', at_, place]

theorem blk6 (t : Fin cfg0.N) (r : Fin 512) (k : Fin 128) : (iblk m c 6 t : Vec Ideal S512x128 .f32) (ix2 r k)
    = cosT m c (place (at_ t) r) k := by
  blk_simp [iblk]
  refine congrArg (m ((c : Thread nD τ).loc main_arg5)) ?_
  blk_ext [ix6', at_, place]

theorem blk7 (t : Fin cfg0.N) (r : Fin 512) (k : Fin 128) : (iblk m c 7 t : Vec Ideal S512x128 .f32) (ix2 r k)
    = sinT m c (place (at_ t) r) k := by
  blk_simp [iblk]
  refine congrArg (m ((c : Thread nD τ).loc main_arg6)) ?_
  blk_ext [ix7', at_, place]

theorem blk8 (t : Fin cfg0.N) (r : Fin 256) (k : Fin 1024) : (iblk m c 8 t : Vec Ideal S256x1024 .bf16) (ix2 r k)
    = wgtQ m c r k := by
  blk_simp [iblk]
  refine congrArg (m ((c : Thread nD τ).loc main_arg3)) ?_
  blk_ext [ix8', at_, place]

theorem blk9 (t : Fin cfg0.N) (r : Fin 128) (k : Fin 1024) : (iblk m c 9 t : Vec Ideal S128x1024 .bf16) (ix2 r k)
    = wgtKV m c r k := by
  blk_simp [iblk]
  refine congrArg (m ((c : Thread nD τ).loc main_arg4)) ?_
  blk_ext [ix9', at_, place]

/-- A row's projected queries. -/
def rowQ (r : Fin 8192) : Fin 1024 → EReal :=
  project 0x43800000#32 (fun k : Fin 256 => row m c r ⟨2304 + k.val, by have := k.isLt; omega⟩) (gainQ m c) (wgtQ m c)

/-- A row's projected keys and values. -/
def rowKV (r : Fin 8192) : Fin 1024 → EReal :=
  project 0x43000000#32 (fun k : Fin 128 => row m c r ⟨2560 + k.val, by have := k.isLt; omega⟩) (gainKV m c) (wgtKV m c)

/-- The queries, the keys and the values, at a row and a head's place. -/
def headQ (r : Fin 8192) (a : Fin 4) (p : Fin 128) : EReal := query (rowQ m c r) (cosT m c r) (sinT m c r) a p
def headK (r : Fin 8192) (a : Fin 4) (p : Fin 128) : EReal :=
  key (rowKV m c r) (fun k : Fin 128 => row m c r ⟨2688 + k.val, by have := k.isLt; omega⟩)
    (fun k : Fin 128 => row m c r ⟨2816 + k.val, by have := k.isLt; omega⟩) (cosT m c r) (sinT m c r) a p

def resQ (r : Fin 8192) (l : Fin 512) : EReal :=
  headQ m c r ⟨l.val / 128, Nat.div_lt_of_lt_mul l.isLt⟩ ⟨l.val % 128, Nat.mod_lt _ (by decide)⟩
def resK (r : Fin 8192) (l : Fin 512) : EReal :=
  headK m c r ⟨l.val / 128, Nat.div_lt_of_lt_mul l.isLt⟩ ⟨l.val % 128, Nat.mod_lt _ (by decide)⟩
def resV (r : Fin 8192) (l : Fin 512) : EReal := rowKV m c r ⟨512 + l.val, by have := l.isLt; omega⟩

/-- The results. -/
def outQ : Vec Ideal S8192x512 .bf16 := fun i => resQ m c (i 0) (i 1)
def outK : Vec Ideal S8192x512 .bf16 := fun i => resK m c (i 0) (i 1)
def outV : Vec Ideal S8192x512 .bf16 := fun i => resV m c (i 0) (i 1)

/-- The projected rows of a block. -/
theorem rows_q (t : Fin cfg0.N) (r : Fin 512) :
    (fun j => k0_pay7 (iblk m c 0 t : Vec Ideal S512x256 .f32) (iblk m c 4 t : Vec Ideal S1x256 .f32)
      (iblk m c 8 t : Vec Ideal S256x1024 .bf16) (ix2 r j)) = rowQ m c (place (at_ t) r) := by
  funext j
  rw [pay7_apply]
  simp only [blk0, blk4, blk8]
  rfl

theorem rows_kv (t : Fin cfg0.N) (r : Fin 512) :
    (fun j => k0_pay9 (iblk m c 5 t : Vec Ideal S1x128 .f32) (k0_pay8 (iblk m c 1 t : Vec Ideal S512x128 .f32))
      (iblk m c 9 t : Vec Ideal S128x1024 .bf16) (ix2 r j)) = rowKV m c (place (at_ t) r) := by
  funext j
  rw [pay9_apply]
  simp only [blk1, blk5, blk9]
  rfl

/-- A head's place in a row. -/
theorem headQ_eq (t : Fin cfg0.N) (r : Fin 512) (a : Fin 4) (p : Fin 128) (l : Fin 512) (hl : l.val = a.val * 128 + p.val) :
    query (fun j => k0_pay7 (iblk m c 0 t : Vec Ideal S512x256 .f32) (iblk m c 4 t : Vec Ideal S1x256 .f32)
        (iblk m c 8 t : Vec Ideal S256x1024 .bf16) (ix2 r j)) (fun k => (iblk m c 6 t : Vec Ideal S512x128 .f32) (ix2 r k))
        (fun k => (iblk m c 7 t : Vec Ideal S512x128 .f32) (ix2 r k)) a p = resQ m c (place (at_ t) r) l := by
  have hp := p.isLt
  have e1 : ∀ h, (⟨l.val / 128, h⟩ : Fin 4) = a := fun h => Fin.ext (show l.val / 128 = a.val by omega)
  have e2 : ∀ h, (⟨l.val % 128, h⟩ : Fin 128) = p := fun h => Fin.ext (show l.val % 128 = p.val by omega)
  unfold resQ headQ
  rw [e1, e2, rows_q]
  simp only [blk6, blk7]

theorem headK_eq (t : Fin cfg0.N) (r : Fin 512) (a : Fin 4) (p : Fin 128) (l : Fin 512) (hl : l.val = a.val * 128 + p.val) :
    key (fun j => k0_pay9 (iblk m c 5 t : Vec Ideal S1x128 .f32) (k0_pay8 (iblk m c 1 t : Vec Ideal S512x128 .f32))
        (iblk m c 9 t : Vec Ideal S128x1024 .bf16) (ix2 r j)) (fun k => (iblk m c 2 t : Vec Ideal S512x128 .f32) (ix2 r k))
        (fun k => (iblk m c 3 t : Vec Ideal S512x128 .f32) (ix2 r k)) (fun k => (iblk m c 6 t : Vec Ideal S512x128 .f32) (ix2 r k))
        (fun k => (iblk m c 7 t : Vec Ideal S512x128 .f32) (ix2 r k)) a p = resK m c (place (at_ t) r) l := by
  have hp := p.isLt
  have e1 : ∀ h, (⟨l.val / 128, h⟩ : Fin 4) = a := fun h => Fin.ext (show l.val / 128 = a.val by omega)
  have e2 : ∀ h, (⟨l.val % 128, h⟩ : Fin 128) = p := fun h => Fin.ext (show l.val % 128 = p.val by omega)
  unfold resK headK
  rw [e1, e2, rows_kv]
  simp only [blk2, blk3, blk6, blk7]

/-- A piece of a block of results, at a place: a column of a head. -/
theorem piece_eq (res : Fin 8192 → Fin 512 → EReal) (n : Fin 16) (o : ℕ)
    (h : ∀ a, ![0, o] a + (![512, 128] : Fin 2 → ℕ) a ≤ S512x512.size a) (x : S512x128.Idx) (h' : o + (x 1).val < 512) :
    res (place n ((Rect.unit (s := S512x512) ![0, o] ![512, 128] h).emb x 0)) ((Rect.unit (s := S512x512) ![0, o] ![512, 128] h).emb x 1)
      = res (place n (x 0)) ⟨o + (x 1).val, h'⟩ := by
  refine congrArg₂ res (congrArg (place n) (Fin.ext ?_)) (Fin.ext ?_)
  · show 0 + 1 * (x 0).val = (x 0).val
    omega
  · show o + 1 * (x 1).val = o + (x 1).val
    omega

theorem split (x : S512x128.Idx) : x = ix2 (x 0) (x 1) := by funext a; fin_cases a <;> rfl

theorem bound (x : S512x128.Idx) : (x 1).val < 128 := (x 1).isLt

/-- The queries' array at the end. -/
theorem finalQ : (dats m 0 c).arrAt 10 cfg0.N = outQ m c := by
  refine (dats m 0 c).arrAt_eq_of_covers 10 _ (by decide +kernel) fun t hf y => ?_
  blk_simp
  rw [after0_10]
  obtain ⟨r, l, rfl⟩ := ix2_surj y
  have e : (win0_10.blk t).view.emb (ix2 r l) = ix2 (place (at_ t) r) l := by blk_ext [ix10', at_, place]
  rw [e]
  frame_out [k0_pay17, k0_pay18, k0_pay19, k0_pay20, k0_pay21]
  refine (View.canon_apply_of_pieces (fun y : S512x512.Idx => resQ m c (place (at_ t) (y 0)) (y 1)) _ ?_ (ix2 r l)
    (View.cover_of_tiled_head _ _ _ rfl _)).trans rfl
  intro p hp x
  simp only [List.mem_cons, List.mem_nil_iff, or_false] at hp
  obtain rfl | rfl | rfl | rfl := hp
  · refine Eq.trans ?_ (piece_eq (resQ m c) (at_ t) 384 inb_S512x512_S512x128_0_384 x (by have := bound x; omega)).symm
    exact (congrArg _ (split x)).trans ((query_three ..).trans (headQ_eq m c t (x 0) 3 (x 1) _ rfl))
  · refine Eq.trans ?_ (piece_eq (resQ m c) (at_ t) 256 inb_S512x512_S512x128_0_256 x (by have := bound x; omega)).symm
    exact (congrArg _ (split x)).trans ((query_two ..).trans (headQ_eq m c t (x 0) 2 (x 1) _ rfl))
  · refine Eq.trans ?_ (piece_eq (resQ m c) (at_ t) 128 inb_S512x512_S512x128_0_128 x (by have := bound x; omega)).symm
    exact (congrArg _ (split x)).trans ((query_one ..).trans (headQ_eq m c t (x 0) 1 (x 1) _ rfl))
  · refine Eq.trans ?_ (piece_eq (resQ m c) (at_ t) 0 inb_S512x512_S512x128_0_0 x (by have := bound x; omega)).symm
    exact (congrArg _ (split x)).trans ((query_zero ..).trans (headQ_eq m c t (x 0) 0 (x 1) _ rfl))

/-- The keys' array at the end. -/
theorem finalK : (dats m 0 c).arrAt 11 cfg0.N = outK m c := by
  refine (dats m 0 c).arrAt_eq_of_covers 11 _ (by decide +kernel) fun t hf y => ?_
  blk_simp
  rw [after0_11]
  obtain ⟨r, l, rfl⟩ := ix2_surj y
  have e : (win0_11.blk t).view.emb (ix2 r l) = ix2 (place (at_ t) r) l := by blk_ext [ix11', at_, place]
  rw [e]
  frame_out [k0_pay17, k0_pay18, k0_pay19, k0_pay20, k0_pay21]
  refine (View.canon_apply_of_pieces (fun y : S512x512.Idx => resK m c (place (at_ t) (y 0)) (y 1)) _ ?_ (ix2 r l)
    (View.cover_of_tiled_head _ _ _ rfl _)).trans rfl
  intro p hp x
  simp only [List.mem_cons, List.mem_nil_iff, or_false] at hp
  obtain rfl | rfl | rfl | rfl := hp
  · refine Eq.trans ?_ (piece_eq (resK m c) (at_ t) 384 inb_S512x512_S512x128_0_384 x (by have := bound x; omega)).symm
    exact (congrArg _ (split x)).trans ((key_three ..).trans (headK_eq m c t (x 0) 3 (x 1) _ rfl))
  · refine Eq.trans ?_ (piece_eq (resK m c) (at_ t) 256 inb_S512x512_S512x128_0_256 x (by have := bound x; omega)).symm
    exact (congrArg _ (split x)).trans ((key_two ..).trans (headK_eq m c t (x 0) 2 (x 1) _ rfl))
  · refine Eq.trans ?_ (piece_eq (resK m c) (at_ t) 128 inb_S512x512_S512x128_0_128 x (by have := bound x; omega)).symm
    exact (congrArg _ (split x)).trans ((key_one ..).trans (headK_eq m c t (x 0) 1 (x 1) _ rfl))
  · refine Eq.trans ?_ (piece_eq (resK m c) (at_ t) 0 inb_S512x512_S512x128_0_0 x (by have := bound x; omega)).symm
    exact (congrArg _ (split x)).trans ((key_zero ..).trans (headK_eq m c t (x 0) 0 (x 1) _ rfl))

/-- The values' array at the end. -/
theorem finalV : (dats m 0 c).arrAt 12 cfg0.N = outV m c := by
  refine (dats m 0 c).arrAt_eq_of_covers 12 _ (by decide +kernel) fun t hf y => ?_
  blk_simp
  rw [after0_12]
  obtain ⟨r, l, rfl⟩ := ix2_surj y
  have e : (win0_12.blk t).view.emb (ix2 r l) = ix2 (place (at_ t) r) l := by blk_ext [ix12', at_, place]
  rw [e]
  frame_out [k0_pay17, k0_pay18, k0_pay19, k0_pay20, k0_pay21]
  exact (value_apply _ r l).trans (congrFun (rows_kv m c t r) _)

end Cert.Proof.Latent

end
-- ==== Proof.Latent.Reference.lean ====
/- What one place of the reference's queries, keys and values is. -/
module

public import proofs.«01_k».proof.Proof.Gen.LatentReferenceIdeal.Run
public import proofs.«01_k».proof.Proof.Latent.Payload

@[expose] public section

noncomputable section

namespace Cert.Proof.Latent

open Idealize.ShloMosaic

open Cert.LatentReferenceIdeal Cert.LatentReferenceIdeal.Gen Cert.LatentReferenceIdeal.Value

/-- The projected queries. -/
def projQ (h : FVec Ideal S8192x3840 .f32) (gq : FVec Ideal S1x256 .f32) (wq : FVec Ideal S256x1024 .bf16) : FVec Ideal S8192x1024 .f32 :=
  Host.dotGeneral dot_S8192x256_S256x1024_S8192x1024_1_0_0_1_n_n none (mulf (mulf (extractStridedSlice S8192x256 ![0, 2304] h
    slices_S8192x3840_S8192x256_0_2304) (broadcastInDim S8192x256 ![0, 1] bcast_S8192x1_S8192x256_0_1 (Host.rsqrt (addf
    (Host.divf (broadcastInDim S8192x1 ![0] bcast_S8192_S8192x1_0 (Host.reduceAdd (mulf (extractStridedSlice S8192x256 ![0,
    2304] h slices_S8192x3840_S8192x256_0_2304) (extractStridedSlice S8192x256 ![0, 2304] h
    slices_S8192x3840_S8192x256_0_2304)) (constant S_ .f32 0x00000000#32) reducesTo_S8192x256_S8192_d1 h_S_)) (broadcastInDim
    S8192x1 ![] bcast_S_S8192x1 (constant S_ .f32 0x43800000#32))) (broadcastInDim S8192x1 ![] bcast_S_S8192x1 (constant S_
    .f32 0x358637BD#32)))))) (broadcastInDim S8192x256 ![0, 1] bcast_S1x256_S8192x256_0_1 gq)) (extf .f32 wq bitsLt_bf16_f32)

/-- The projected keys and values. -/
def projKV (h : FVec Ideal S8192x3840 .f32) (gkv : FVec Ideal S1x128 .f32) (wkv : FVec Ideal S128x1024 .bf16) : FVec Ideal S8192x1024 .f32 :=
  Host.dotGeneral dot_S8192x128_S128x1024_S8192x1024_1_0_0_1_n_n none (mulf (mulf (extractStridedSlice S8192x128 ![0, 2560] h
    slices_S8192x3840_S8192x128_0_2560) (broadcastInDim S8192x128 ![0, 1] bcast_S8192x1_S8192x128_0_1 (Host.rsqrt (addf
    (Host.divf (broadcastInDim S8192x1 ![0] bcast_S8192_S8192x1_0 (Host.reduceAdd (mulf (extractStridedSlice S8192x128 ![0,
    2560] h slices_S8192x3840_S8192x128_0_2560) (extractStridedSlice S8192x128 ![0, 2560] h
    slices_S8192x3840_S8192x128_0_2560)) (constant S_ .f32 0x00000000#32) reducesTo_S8192x128_S8192_d1 h_S_)) (broadcastInDim
    S8192x1 ![] bcast_S_S8192x1 (constant S_ .f32 0x43000000#32))) (broadcastInDim S8192x1 ![] bcast_S_S8192x1 (constant S_
    .f32 0x358637BD#32)))))) (broadcastInDim S8192x128 ![0, 1] bcast_S1x128_S8192x128_0_1 gkv)) (extf .f32 wkv
    bitsLt_bf16_f32)

/-- The queries of a projection. -/
def refQ (p : FVec Ideal S8192x1024 .f32) (cos sin : FVec Ideal S8192x128 .f32) : FVec Ideal S8192x512 .bf16 :=
  truncf .bf16 (shapeCast _ (Host.divf (addf (mulf (shapeCast _ (extractStridedSlice S8192x1x4x128 ![0, 0, 0, 0] (shapeCast _
    p shapeCasts_S8192x1024_S8192x2x4x128) slices_S8192x2x4x128_S8192x1x4x128_0_0_0_0) shapeCasts_S8192x1x4x128_S8192x4x128)
    (broadcastInDim S8192x4x128 ![0, 1, 2] bcast_S8192x1x128_S8192x4x128_0_1_2 (broadcastInDim S8192x1x128 ![0, 2]
    bcast_S8192x128_S8192x1x128_0_2 (addf cos (broadcastInDim S8192x128 ![0, 1] bcast_S1x128_S8192x128_0_1 (broadcastInDim
    S1x128 ![1] bcast_S128_S1x128_1 (uitofp .f32 (cmpi .slt (iotaInDim S128 32 0) (broadcastInDim S128 ![] bcast_S_S128
    (constantI S_ 32 64#32)))))))))) (mulf (shapeCast _ (extractStridedSlice S8192x1x4x128 ![0, 1, 0, 0] (shapeCast _ p
    shapeCasts_S8192x1024_S8192x2x4x128) slices_S8192x2x4x128_S8192x1x4x128_0_1_0_0) shapeCasts_S8192x1x4x128_S8192x4x128)
    (broadcastInDim S8192x4x128 ![0, 1, 2] bcast_S8192x1x128_S8192x4x128_0_1_2 (broadcastInDim S8192x1x128 ![0, 2]
    bcast_S8192x128_S8192x1x128_0_2 sin)))) (broadcastInDim S8192x4x128 ![] bcast_S_S8192x4x128 (Host.sqrt (constant S_ .f32
    0x42C00000#32)))) shapeCasts_S8192x4x128_S8192x512) bitsLt_bf16_f32

/-- The keys of a projection. -/
def refK (p : FVec Ideal S8192x1024 .f32) (h : FVec Ideal S8192x3840 .f32) (cos sin : FVec Ideal S8192x128 .f32) : FVec Ideal S8192x512 .bf16 :=
  truncf .bf16 (shapeCast _ (addf (shapeCast _ (extractStridedSlice S8192x1x4x128 ![0, 0, 0, 0] (shapeCast _ p
    shapeCasts_S8192x1024_S8192x2x4x128) slices_S8192x2x4x128_S8192x1x4x128_0_0_0_0) shapeCasts_S8192x1x4x128_S8192x4x128)
    (broadcastInDim S8192x4x128 ![0, 1, 2] bcast_S8192x1x128_S8192x4x128_0_1_2 (addf (mulf (broadcastInDim S8192x1x128 ![0,
    2] bcast_S8192x128_S8192x1x128_0_2 (extractStridedSlice S8192x128 ![0, 2688] h slices_S8192x3840_S8192x128_0_2688))
    (broadcastInDim S8192x1x128 ![0, 2] bcast_S8192x128_S8192x1x128_0_2 cos)) (mulf (broadcastInDim S8192x1x128 ![0, 2]
    bcast_S8192x128_S8192x1x128_0_2 (extractStridedSlice S8192x128 ![0, 2816] h slices_S8192x3840_S8192x128_0_2816))
    (broadcastInDim S8192x1x128 ![0, 2] bcast_S8192x128_S8192x1x128_0_2 sin))))) shapeCasts_S8192x4x128_S8192x512)
    bitsLt_bf16_f32

/-- The values of a projection. -/
def refV (p : FVec Ideal S8192x1024 .f32) : FVec Ideal S8192x512 .bf16 :=
  truncf .bf16 (shapeCast _ (shapeCast _ (extractStridedSlice S8192x1x4x128 ![0, 1, 0, 0] (shapeCast _ p
    shapeCasts_S8192x1024_S8192x2x4x128) slices_S8192x2x4x128_S8192x1x4x128_0_1_0_0) shapeCasts_S8192x1x4x128_S8192x4x128)
    shapeCasts_S8192x4x128_S8192x512) bitsLt_bf16_f32

theorem projQ_apply (h : FVec Ideal S8192x3840 .f32) (gq : FVec Ideal S1x256 .f32) (wq : FVec Ideal S256x1024 .bf16) (r : Fin 8192) (j : Fin 1024) :
    projQ h gq wq (ix2 r j) = project 0x43800000#32 (fun k => h (ix2 r ⟨2304 + k.val, by have := k.isLt; omega⟩)) (fun k => gq (ix2 0 k))
      (fun k l => wq (ix2 k l)) j := by
  pointwise [projQ, dot_S8192x256_S256x1024_S8192x1024_1_0_0_1_n_n]
  rfl

theorem projKV_apply (h : FVec Ideal S8192x3840 .f32) (gkv : FVec Ideal S1x128 .f32) (wkv : FVec Ideal S128x1024 .bf16) (r : Fin 8192) (j : Fin 1024) :
    projKV h gkv wkv (ix2 r j) = project 0x43000000#32 (fun k => h (ix2 r ⟨2560 + k.val, by have := k.isLt; omega⟩)) (fun k => gkv (ix2 0 k))
      (fun k l => wkv (ix2 k l)) j := by
  pointwise [projKV, dot_S8192x128_S128x1024_S8192x1024_1_0_0_1_n_n]
  rfl

/-- The comparison of a place with 64, as a number. -/
theorem still_bit (l : Fin 512) :
    (FloatOps.uitofp (F := Ideal) .f32 (IntOp.cmpi .slt (BitVec.ofNat 32 (l.val % 128)) 64#32) : EReal)
      = still ⟨l.val % 128, Nat.mod_lt _ (by decide)⟩ := by
  have e : ∀ p : Fin 128, IntOp.cmpi .slt (BitVec.ofNat 32 p.val) 64#32 = if p.val < 64 then 1#1 else 0#1 := by decide
  rw [e ⟨l.val % 128, Nat.mod_lt _ (by decide)⟩]
  unfold still
  split
  · show (((1#1).toNat : ℝ) : EReal) = 1
    norm_num
  · show (((0#1).toNat : ℝ) : EReal) = 0
    norm_num

theorem refQ_apply (P : FVec Ideal S8192x1024 .f32) (cos sin : FVec Ideal S8192x128 .f32) (r : Fin 8192) (l : Fin 512) :
    refQ P cos sin (ix2 r l) = query (fun j => P (ix2 r j)) (fun k => cos (ix2 r k)) (fun k => sin (ix2 r k))
      ⟨l.val / 128, Nat.div_lt_of_lt_mul l.isLt⟩ ⟨l.val % 128, Nat.mod_lt _ (by decide)⟩ := by
  pointwise [refQ]
  have h := l.isLt
  rw [still_bit, Consts.ofBits_head, Ideal.sqrt_coe, if_neg (by norm_num),
    Ideal.div_coe (Real.sqrt_pos.mpr (by norm_num)).ne', one_div]
  exact query_of (fun j => P (ix2 r j)) (fun k => cos (ix2 r k)) (fun k => sin (ix2 r k))
    ⟨l.val / 128, Nat.div_lt_of_lt_mul l.isLt⟩ ⟨l.val % 128, Nat.mod_lt _ (by decide)⟩ _ _ rfl
    (by show 512 + l.val / 128 * 128 + l.val % 128 = 512 + (l.val / 128 * 128 + l.val % 128); omega)

theorem refK_apply (P : FVec Ideal S8192x1024 .f32) (h : FVec Ideal S8192x3840 .f32) (cos sin : FVec Ideal S8192x128 .f32) (r : Fin 8192) (l : Fin 512) :
    refK P h cos sin (ix2 r l) = key (fun j => P (ix2 r j)) (fun k => h (ix2 r ⟨2688 + k.val, by have := k.isLt; omega⟩))
      (fun k => h (ix2 r ⟨2816 + k.val, by have := k.isLt; omega⟩)) (fun k => cos (ix2 r k)) (fun k => sin (ix2 r k))
      ⟨l.val / 128, Nat.div_lt_of_lt_mul l.isLt⟩ ⟨l.val % 128, Nat.mod_lt _ (by decide)⟩ := by
  pointwise [refK]
  rfl

theorem refV_apply (P : FVec Ideal S8192x1024 .f32) (r : Fin 8192) (l : Fin 512) :
    refV P (ix2 r l) = P (ix2 r ⟨512 + l.val, by have := l.isLt; omega⟩) := by
  pointwise [refV]
  exact congrArg (fun j => P (ix2 r j)) (Fin.ext (by
    show 512 + l.val / 128 * 128 + l.val % 128 = 512 + l.val; omega))

end Cert.Proof.Latent

end
-- ==== Proof.Latent.Claims.lean ====
/- The claims about the latent projections' call: its runs, the reference's run, and that their results are equal. -/
module

public import proofs.«01_k».proof.Defs
public import proofs.«01_k».proof.Proof.Gen.Latent
public import proofs.«01_k».proof.Proof.Gen.LatentReferenceIdeal
public import proofs.«01_k».proof.Proof.Gen.LatentReferenceIdeal.Run
public import proofs.«01_k».proof.Proof.Latent.Value
public import proofs.«01_k».proof.Proof.Latent.Reference

@[expose] public section

noncomputable section

namespace Cert.Proof.Latent

open Idealize.ShloMosaic Idealize.ShloMosaic.TcCoe Idealize.SL Idealize.SL.Sem
open Cert.LatentIdeal

/-- At the bit patterns the scale is its word: the two texts are then the same. -/
local instance : Named Bits where
  named _ _ {φ} w := FloatOps.ofBits (F := Bits) φ w

/-- The call's body at the bit patterns is the body the run was found for. -/
theorem bodies_eq : Cert.Latent.defs₀ (F := Bits) = Cert.LatentIdeal.defs₀ := by
  funext p l a
  match p with
  | .tc =>
    match l, a with
    | ⟨0, _⟩, (_, _) => rfl
  | .scScalar _ => rfl
  | .scVector _ _ => rfl

theorem defs_eq : Cert.Latent.defs (F := Bits) = Cert.LatentIdeal.defs := by
  show Pipeline.defs Cert.LatentIdeal.pcfgs (Cert.Latent.defs₀ (F := Bits)) = Pipeline.defs Cert.LatentIdeal.pcfgs Cert.LatentIdeal.defs₀
  rw [bodies_eq]

theorem frame_latent : Cert.quiescent_Latent (hLatent := Cert.Latent.Gen.facts) := fun m g _ => by
  have h := Cert.LatentIdeal.Gen.frame (F := Bits) m g
  show θ_run (Cert.Latent.defs (F := Bits)) (onTc Cert.LatentIdeal.main) _ _
  rw [defs_eq]
  exact h

theorem frame_latentIdeal : Cert.quiescent_LatentIdeal (hLatentIdeal := Cert.LatentIdeal.Gen.facts) := fun m g _ =>
  Cert.LatentIdeal.Gen.frame (F := Ideal) m g

theorem frame_latentReferenceIdeal :
    Cert.quiescent_LatentReferenceIdeal (hLatentReferenceIdeal := LatentReferenceIdeal.Gen.facts) := fun m g _ =>
  (θ_run LatentReferenceIdeal.defs _ _).mono (fun r h => ⟨fun c => (h c).2.2.2, sem_eq_zero_of_no_sems (by decide) r.2⟩)
    (LatentReferenceIdeal.Value.run m g)

theorem algebraic_latent : Cert.algebraic_LatentIdeal_LatentReferenceIdeal (hLatentIdeal := Cert.LatentIdeal.Gen.facts)
    (hLatentReferenceIdeal := LatentReferenceIdeal.Gen.facts) := fun m g m' g' _ hm => by
  refine ⟨fun c => outQ m c, fun c => outK m c, fun c => outV m c,
    (θ_run Cert.LatentIdeal.defs _ _).mono (fun r h c => ?_) (Cert.LatentIdeal.Value.run_blocks (F := Ideal) m g),
    (θ_run LatentReferenceIdeal.defs _ _).mono (fun r h c => ?_) (LatentReferenceIdeal.Value.run m' g')⟩
  · obtain ⟨h0, h1, h2, hk⟩ := h c
    exact ⟨h0.trans (finalQ m c), h1.trans (finalK m c), h2.trans (finalV m c), hk⟩
  · obtain ⟨h0, h1, h2, hk⟩ := h c
    obtain ⟨e0, e1, e2, e3, e4, e5, e6⟩ := hm c
    rw [e0, e1, e3, e5, e6] at h0
    rw [e0, e2, e4, e5, e6] at h1
    rw [e0, e2, e4] at h2
    refine ⟨h0.trans ?_, h1.trans ?_, h2.trans ?_, hk⟩
    · funext i
      obtain ⟨r, l, rfl⟩ := ix2_surj i
      refine (refQ_apply (projQ _ _ _) _ _ r l).trans ?_
      simp only [projQ_apply]
      rfl
    · funext i
      obtain ⟨r, l, rfl⟩ := ix2_surj i
      refine (refK_apply (projKV _ _ _) _ _ _ r l).trans ?_
      simp only [projKV_apply]
      rfl
    · funext i
      obtain ⟨r, l, rfl⟩ := ix2_surj i
      refine (refV_apply (projKV _ _ _) r l).trans ?_
      rw [projKV_apply]
      rfl

/-- The one constant the idealized text names is the scale, read as one over the root of 96. -/
theorem preserves_latent : Cert.preserves_Latent_LatentIdeal :=
  IdealRules.named_const.statement Cert.LatentIdeal.κ "scale" .f32 0x3DD105EC#32 (((Real.sqrt 96)⁻¹ : ℝ) : EReal) rfl

end Cert.Proof.Latent

end
-- ==== Proof.Causal.Softmax.lean ====
/- Weighing values by exponentials, a part of the keys at a time: the largest score so far, the sum and the mixed values so far, rescaled
   when the largest grows.  It holds for every score, infinite ones too. -/
module
public import proofs.«01_k».proof.Proof.Consts
@[expose] public section
noncomputable section
namespace Cert.Proof.Causal
open Idealize.ShloMosaic

/-- Weighing a score against a first largest and rescaling to a second, larger one weighs it against the second. -/
theorem rescale {s m n : EReal} (hs : s ≤ m) (hm : m ≤ n) :
    Ideal.exp (m - n) * Ideal.exp (s - m) = Ideal.exp (s - n) := by
  induction n with
  | top => simp
  | bot =>
    obtain rfl := le_bot_iff.1 hm
    obtain rfl := le_bot_iff.1 hs
    simp
  | coe n =>
    induction m with
    | top => exact absurd hm (by simp)
    | bot =>
      obtain rfl := le_bot_iff.1 hs
      simp
    | coe m =>
      induction s with
      | top => exact absurd hs (by simp)
      | bot => simp
      | coe s =>
        rw [← EReal.coe_sub, ← EReal.coe_sub, ← EReal.coe_sub, Ideal.exp_coe, Ideal.exp_coe, Ideal.exp_coe,
          ← EReal.coe_mul, ← Real.exp_add]
        congr 2
        ring

/-- An exponential is not negative. -/
theorem exp_nonneg (x : EReal) : 0 ≤ Ideal.exp x := by
  induction x with
  | top => simp
  | bot => simp
  | coe x => rw [Ideal.exp_coe]; exact_mod_cast (Real.exp_pos x).le

/-- The rescaling factor is finite. -/
theorem exp_sub_ne_top {m n : EReal} (h : m ≤ n) : Ideal.exp (m - n) ≠ ⊤ := by
  induction n with
  | top => simp
  | bot => obtain rfl := le_bot_iff.1 h; simp
  | coe n =>
    induction m with
    | top => exact absurd h (by simp)
    | bot => simp
    | coe m => rw [← EReal.coe_sub, Ideal.exp_coe]; exact EReal.coe_ne_top _

/-- A finite factor that is not negative goes into a sum. -/
theorem mul_sum {ι : Type*} (A : Finset ι) (c : EReal) (h0 : 0 ≤ c) (h1 : c ≠ ⊤) (f : ι → EReal) :
    c * ∑ x ∈ A, f x = ∑ x ∈ A, c * f x := by
  classical
  induction A using Finset.induction_on with
  | empty => simp
  | insert a A ha ih => rw [Finset.sum_insert ha, Finset.sum_insert ha, EReal.left_distrib_of_nonneg_of_ne_top h0 h1, ih]

section Online
variable {ι : Type*}

/-- The largest of the scores of the keys seen. -/
def top (A : Finset ι) (f : ι → EReal) : EReal := A.sup f
/-- The sum of the exponentials of the keys seen. -/
def total (A : Finset ι) (f : ι → EReal) : EReal := ∑ x ∈ A, Ideal.exp (f x - top A f)
/-- The sum of the values of the keys seen, by their exponentials. -/
def mixed (A : Finset ι) (f v : ι → EReal) : EReal := ∑ x ∈ A, Ideal.exp (f x - top A f) * v x

variable [DecidableEq ι] (A B : Finset ι) (hd : Disjoint A B) (f v : ι → EReal)

theorem top_union : top (A ∪ B) f = max (top A f) (top B f) := Finset.sup_union

theorem top_le : top A f ≤ top (A ∪ B) f := (top_union A B f).symm ▸ le_max_left _ _

include hd in
/-- Further keys: the sum so far, rescaled, and theirs. -/
theorem total_union : total (A ∪ B) f =
    Ideal.exp (top A f - top (A ∪ B) f) * total A f + ∑ x ∈ B, Ideal.exp (f x - top (A ∪ B) f) := by
  unfold total
  rw [Finset.sum_union hd, mul_sum _ _ (exp_nonneg _) (exp_sub_ne_top (top_le A B f))]
  congr 1
  exact Finset.sum_congr rfl fun x hx => (rescale (Finset.le_sup hx) (top_le A B f)).symm

include hd in
/-- Further keys: the mixed values so far, rescaled, and theirs. -/
theorem mixed_union : mixed (A ∪ B) f v =
    Ideal.exp (top A f - top (A ∪ B) f) * mixed A f v + ∑ x ∈ B, Ideal.exp (f x - top (A ∪ B) f) * v x := by
  unfold mixed
  rw [Finset.sum_union hd, mul_sum _ _ (exp_nonneg _) (exp_sub_ne_top (top_le A B f))]
  congr 1
  exact Finset.sum_congr rfl fun x hx =>
    (congrArg (· * v x) (rescale (Finset.le_sup hx) (top_le A B f))).symm.trans (mul_assoc ..)

omit [DecidableEq ι] in
/-- Keys that may not be looked at change nothing. -/
theorem top_all [Fintype ι] (h : ∀ x, x ∉ A → f x = ⊥) : top Finset.univ f = top A f := by
  refine le_antisymm (Finset.sup_le fun x _ => ?_) (Finset.sup_mono (Finset.subset_univ A))
  by_cases hx : x ∈ A
  · exact Finset.le_sup hx
  · rw [h x hx]; exact bot_le

omit [DecidableEq ι] in
theorem total_all [Fintype ι] (h : ∀ x, x ∉ A → f x = ⊥) : total Finset.univ f = total A f := by
  unfold total
  rw [top_all A f h]
  refine (Finset.sum_subset (Finset.subset_univ A) fun x _ hx => ?_).symm
  rw [h x hx, EReal.bot_sub, Ideal.exp_bot]

omit [DecidableEq ι] in
theorem mixed_all [Fintype ι] (h : ∀ x, x ∉ A → f x = ⊥) : mixed Finset.univ f v = mixed A f v := by
  unfold mixed
  rw [top_all A f h]
  refine (Finset.sum_subset (Finset.subset_univ A) fun x _ hx => ?_).symm
  rw [h x hx, EReal.bot_sub, Ideal.exp_bot, zero_mul]

omit [DecidableEq ι] in
/-- Dividing the mixed values by the sum is mixing the values by their shares. -/
theorem mixed_shares : mixed A f v * Ideal.div 1 (total A f) =
    ∑ x ∈ A, v x * (Ideal.exp (f x - top A f) * Ideal.div 1 (total A f)) := by
  have h0 : 0 ≤ total A f := Finset.sum_nonneg fun x _ => exp_nonneg _
  by_cases hz : total A f = 0
  · have he : ∀ x ∈ A, Ideal.exp (f x - top A f) = 0 :=
      (Finset.sum_eq_zero_iff_of_nonneg fun x _ => exp_nonneg _).1 hz
    have hm : mixed A f v = 0 := Finset.sum_eq_zero fun x hx => by rw [he x hx, zero_mul]
    rw [hm, zero_mul]
    exact (Finset.sum_eq_zero fun x hx => by rw [he x hx, zero_mul, mul_zero]).symm
  · have hd : Ideal.div 1 (total A f) = (total A f)⁻¹ := by rw [Ideal.div, if_neg hz, one_mul]
    have hp : 0 < total A f := lt_of_le_of_ne h0 (Ne.symm hz)
    have hn : (total A f)⁻¹ ≠ ⊤ := by
      revert hp
      induction total A f with
      | top => simp
      | bot => simp
      | coe r => intro _; rw [← EReal.coe_inv]; exact EReal.coe_ne_top _
    rw [hd, mul_comm]
    unfold mixed
    rw [mul_sum _ _ (EReal.inv_nonneg_of_nonneg h0) hn]
    exact Finset.sum_congr rfl fun x _ => by rw [mul_comm (v x), mul_comm (Ideal.exp _) (total A f)⁻¹, mul_assoc]

end Online
end Cert.Proof.Causal
-- ==== Proof.Causal.Payload.lean ====
/- What one place of each block is in the causal attention call. -/
module

public import proofs.«01_k».proof.Proof.Gen.CausalIdeal.Skeleton
public import proofs.«01_k».proof.Proof.Consts
public import Idealize.ShloMosaic.Lib.Pointwise

@[expose] public section

noncomputable section

namespace Cert.Proof.Causal

open Idealize.ShloMosaic Cert.CausalIdeal Cert.CausalIdeal.Gen

/-- A query's score of a key. -/
def score (q k : Fin 128 → EReal) : EReal := ∑ d, q d * k d

/-- The largest score once a tile's are seen too. -/
def newTop (m : EReal) (s : Fin 512 → EReal) : EReal := max m (Finset.univ.sup s)
/-- The sum of the exponentials once a tile's are in it too. -/
def newTotal (m l : EReal) (s : Fin 512 → EReal) : EReal :=
  Ideal.exp (m - newTop m s) * l + ∑ k, Ideal.exp (s k - newTop m s)
/-- The mixed values once a tile's are in them too. -/
def newMixed (m a : EReal) (s v : Fin 512 → EReal) : EReal :=
  Ideal.exp (m - newTop m s) * a + ∑ k, Ideal.exp (s k - newTop m s) * v k

theorem fold_max (s : Fin 512 → EReal) : Finset.univ.fold max (Ideal.ofBits .f32 0xFF800000#32) s = Finset.univ.sup s := by
  rw [Consts.ofBits_neg_inf]; rfl

variable (q : Vec Ideal S512x128 .bf16) (m l : FVec Ideal S512x1 .f32) (a : FVec Ideal S512x128 .f32) (K V : Vec Ideal S512x128 .bf16)
variable (r : Fin 512) (z : Fin 1) (d : Fin 128) (j : Fin 512)

/-- The scores of the keys of a tile before the queries' own. -/
def scores (r : Fin 512) (k : Fin 512) : EReal := score (fun d => q (ix2 r d)) (fun d => K (ix2 k d))
/-- The scores of the keys of the queries' own tile: the later ones are masked. -/
def masked (r : Fin 512) (k : Fin 512) : EReal := if k.val ≤ r.val then scores q K r k else ⊥

/-- Comparing two places as 32-bit numbers is comparing them. -/
theorem col_le (a b : Nat) (ha : a < 8192) (hb : b < 8192) :
    IntOp.cmpi CmpIPredicate.sle (BitVec.ofNat 32 a) (BitVec.ofNat 32 b) = if a ≤ b then 1 else 0 := by
  have e : ∀ n : Nat, n < 8192 → (BitVec.ofNat 32 n).toInt = n := fun n h => by
    rw [BitVec.toInt_eq_toNat_bmod, BitVec.toNat_ofNat, Nat.mod_eq_of_lt (by omega), Int.bmod_eq_of_le] <;> omega
  by_cases h : a ≤ b <;> simp [IntOp.cmpi, BitVec.sle, e a ha, e b hb, h]

theorem select_ite {α : Type} (p : Prop) [Decidable p] (a b : α) :
    Scalar.select (if p then 1 else 0 : BitVec 1) a b = if p then a else b := by
  by_cases h : p <;> simp [h, Scalar.select]

/-- The masking constant is −∞. -/
theorem mask_bot : (Named.named (F := Ideal) (φ := .f32) κ "mask" 0xF149F2CA#32 : EReal) = ⊥ :=
  IdealRules.named_const.ideal_named_scalar _ _ _ _ rfl

theorem init_top : k0_pay3 (F := Ideal) (ix2 r z) = ⊥ := by pointwise [k0_pay3]; exact mask_bot
theorem init_total : k0_pay4 (F := Ideal) (ix2 r z) = 0 := by pointwise [k0_pay4]
theorem init_mixed : k0_pay5 (F := Ideal) (ix2 r d) = 0 := by pointwise [k0_pay5]

theorem pay6_apply : k0_pay6 q K (ix2 r j) = scores q K r j := by pointwise [k0_pay6]; rfl
theorem pay7_apply : k0_pay7 q m K (ix2 r z) = newTop (m (ix2 r 0)) (scores q K r) := by
  pointwise [k0_pay7, pay6_apply]; rw [fold_max, Subsingleton.elim z 0]; rfl
theorem pay8_apply : k0_pay8 q m K (ix2 r j) = Ideal.exp (scores q K r j - newTop (m (ix2 r 0)) (scores q K r)) := by
  pointwise [k0_pay8, pay6_apply, pay7_apply]
theorem pay9_apply : k0_pay9 q m K (ix2 r z) = Ideal.exp (m (ix2 r z) - newTop (m (ix2 r 0)) (scores q K r)) := by
  pointwise [k0_pay9, pay7_apply]
theorem pay10_apply : k0_pay10 q m l K (ix2 r 0) = newTotal (m (ix2 r 0)) (l (ix2 r 0)) (scores q K r) := by
  pointwise [k0_pay10, pay8_apply, pay9_apply]; rfl
theorem pay11_apply : k0_pay11 q m a K V (ix2 r d) = newMixed (m (ix2 r 0)) (a (ix2 r d)) (scores q K r) (fun k => V (ix2 k d)) := by
  pointwise [k0_pay11, pay8_apply, pay9_apply]; rfl

theorem pay18_apply : k0_pay18 q K (ix2 r j) = masked q K r j := by pointwise [k0_pay18]; rw [col_le _ _ (by omega) (by omega), select_ite, mask_bot]; rfl
theorem pay19_apply : k0_pay19 q m K (ix2 r z) = newTop (m (ix2 r 0)) (masked q K r) := by
  pointwise [k0_pay19, pay18_apply]; rw [fold_max, Subsingleton.elim z 0]; rfl
theorem pay20_apply : k0_pay20 q m K (ix2 r j) = Ideal.exp (masked q K r j - newTop (m (ix2 r 0)) (masked q K r)) := by
  pointwise [k0_pay20, pay18_apply, pay19_apply]
theorem pay21_apply : k0_pay21 q m K (ix2 r z) = Ideal.exp (m (ix2 r z) - newTop (m (ix2 r 0)) (masked q K r)) := by
  pointwise [k0_pay21, pay19_apply]
theorem pay22_apply : k0_pay22 q m l K (ix2 r 0) = newTotal (m (ix2 r 0)) (l (ix2 r 0)) (masked q K r) := by
  pointwise [k0_pay22, pay20_apply, pay21_apply]; rfl
theorem pay23_apply : k0_pay23 q m a K V (ix2 r d) = newMixed (m (ix2 r 0)) (a (ix2 r d)) (masked q K r) (fun k => V (ix2 k d)) := by
  pointwise [k0_pay23, pay20_apply, pay21_apply]; rfl

theorem pay1_apply : k0_pay1 l a (Scalar.ofBits .f32 0x3F800000#32) (ix2 r d) = a (ix2 r d) * Ideal.div 1 (l (ix2 r 0)) := by
  pointwise [k0_pay1]
theorem pay2_apply : k0_pay2 m l (ix2 r d) = m (ix2 r 0) + Ideal.log (l (ix2 r 0)) := by
  pointwise [k0_pay2]

end Cert.Proof.Causal
-- ==== Proof.Causal.Tiles.lean ====
/- The keys of the causal attention, a tile at a time. -/
module

public import proofs.«01_k».proof.Proof.Causal.Softmax
public import proofs.«01_k».proof.Proof.Causal.Payload

@[expose] public section

noncomputable section

namespace Cert.Proof.Causal

open Idealize.ShloMosaic

/-- Row `r` of tile `n`. -/
def place (n : Fin 16) (r : Fin 512) : Fin 8192 := ⟨n.val * 512 + r.val, by have := n.isLt; have := r.isLt; omega⟩

/-- The keys of the first `n` tiles. -/
def seen (n : ℕ) : Finset (Fin 8192) := Finset.univ.filter fun x => x.val < n * 512

/-- The keys of a tile. -/
def tile (n : Fin 16) : Finset (Fin 8192) :=
  Finset.univ.map ⟨place n, fun r r' h => Fin.ext (by
    have e : n.val * 512 + r.val = n.val * 512 + r'.val := congrArg Fin.val h
    omega)⟩

theorem mem_seen (n : ℕ) (x : Fin 8192) : x ∈ seen n ↔ x.val < n * 512 := by simp [seen]

theorem mem_tile (n : Fin 16) (x : Fin 8192) : x ∈ tile n ↔ n.val * 512 ≤ x.val ∧ x.val < (n.val + 1) * 512 := by
  simp only [tile, Finset.mem_map, Finset.mem_univ, true_and, Function.Embedding.coeFn_mk]
  constructor
  · rintro ⟨r, rfl⟩
    have := r.isLt
    show n.val * 512 ≤ n.val * 512 + r.val ∧ n.val * 512 + r.val < (n.val + 1) * 512
    omega
  · intro h
    exact ⟨⟨x.val - n.val * 512, by omega⟩, Fin.ext (show n.val * 512 + (x.val - n.val * 512) = x.val by omega)⟩

theorem seen_zero : seen 0 = ∅ := by
  ext x
  simp [mem_seen]

theorem seen_succ (n : Fin 16) : seen (n.val + 1) = seen n.val ∪ tile n := by
  ext x
  rw [Finset.mem_union, mem_seen, mem_seen, mem_tile]
  omega

theorem seen_disjoint (n : Fin 16) : Disjoint (seen n.val) (tile n) := by
  rw [Finset.disjoint_left]
  intro x
  rw [mem_seen, mem_tile]
  omega

theorem sum_tile (n : Fin 16) (g : Fin 8192 → EReal) : ∑ x ∈ tile n, g x = ∑ k, g (place n k) := by
  unfold tile
  rw [Finset.sum_map]
  rfl

theorem top_tile (n : Fin 16) (f : Fin 8192 → EReal) : top (tile n) f = Finset.univ.sup fun k => f (place n k) := by
  unfold top tile
  rw [Finset.sup_map]
  rfl

variable (n : Fin 16) (f v : Fin 8192 → EReal)

theorem newTop_seen : newTop (top (seen n.val) f) (fun k => f (place n k)) = top (seen (n.val + 1)) f := by
  rw [seen_succ, top_union, top_tile]
  rfl

theorem newTotal_seen : newTotal (top (seen n.val) f) (total (seen n.val) f) (fun k => f (place n k)) = total (seen (n.val + 1)) f := by
  unfold newTotal
  rw [newTop_seen, seen_succ, total_union _ _ (seen_disjoint n), sum_tile]

theorem newMixed_seen : newMixed (top (seen n.val) f) (mixed (seen n.val) f v) (fun k => f (place n k)) (fun k => v (place n k))
    = mixed (seen (n.val + 1)) f v := by
  unfold newMixed
  rw [newTop_seen, seen_succ, mixed_union _ _ (seen_disjoint n), sum_tile]

/-- Column `d` of head `h`. -/
def col (h : Fin 4) (d : Fin 128) : Fin 512 := ⟨h.val * 128 + d.val, by have := h.isLt; have := d.isLt; omega⟩

section Results
variable (q k v : Fin 8192 → Fin 512 → EReal) (h : Fin 4) (p : Fin 8192) (d : Fin 128)

/-- A query's scores of the keys: the later ones are masked. -/
def logits (x : Fin 8192) : EReal := if x.val ≤ p.val then score (fun d => q p (col h d)) (fun d => k x (col h d)) else ⊥

/-- The values by the shares of their keys. -/
def attended : EReal :=
  ∑ x, v x (col h d) *
    (Ideal.exp (logits q k h p x - top Finset.univ (logits q k h p)) * Ideal.div 1 (total Finset.univ (logits q k h p)))

/-- The logarithm of the sum of the scores' exponentials. -/
def norm : EReal := top Finset.univ (logits q k h p) + Ideal.log (total Finset.univ (logits q k h p))

/-- The keys after the query's tile are all masked. -/
theorem logits_later (n : Fin 16) (r : Fin 512) (x : Fin 8192) (hx : x ∉ seen (n.val + 1)) : logits q k h (place n r) x = ⊥ := by
  have := r.isLt
  rw [mem_seen] at hx
  refine if_neg ?_
  show ¬ x.val ≤ n.val * 512 + r.val
  omega

/-- The values mixed by the exponentials of the keys up to the query's tile, over their sum. -/
theorem attended_seen (n : Fin 16) (r : Fin 512) : attended q k v h (place n r) d
    = mixed (seen (n.val + 1)) (logits q k h (place n r)) (fun x => v x (col h d))
      * Ideal.div 1 (total (seen (n.val + 1)) (logits q k h (place n r))) := by
  rw [← mixed_all _ _ _ (logits_later q k h n r), ← total_all _ _ (logits_later q k h n r)]
  exact (mixed_shares ..).symm

theorem norm_seen (n : Fin 16) (r : Fin 512) : norm q k h (place n r)
    = top (seen (n.val + 1)) (logits q k h (place n r)) + Ideal.log (total (seen (n.val + 1)) (logits q k h (place n r))) := by
  rw [← top_all _ _ (logits_later q k h n r), ← total_all _ _ (logits_later q k h n r)]
  rfl

end Results

end Cert.Proof.Causal
-- ==== Proof.Causal.Value.lean ====
/- The arrays the causal attention call leaves: at every point the loop carries the attention of the tiles of keys before the queries' own. -/
module

public import proofs.«01_k».proof.Proof.Gen.CausalIdeal.Value
public import proofs.«01_k».proof.Proof.Causal.Tiles
public import Idealize.ShloMosaic.Lib.Pipeline.ValueKit

@[expose] public section

noncomputable section

namespace Cert.Proof.Causal

open Idealize.ShloMosaic Idealize.ShloMosaic.TcCoe Idealize.SL Idealize.SL.Sem
open Cert.CausalIdeal Cert.CausalIdeal.Gen Cert.CausalIdeal.Value

variable (m : (ℓ : Loc nD τ sig) → Buf (Elt Ideal) ℓ) (c : Dev nD)

/-- The queries' rows. -/
def rowQ (r : Fin 8192) (k : Fin 512) : EReal := (m ((c : Thread nD τ).loc main_arg0) : Vec Ideal S8192x512 .bf16) (ix2 r k)
/-- The keys' rows. -/
def rowK (r : Fin 8192) (k : Fin 512) : EReal := (m ((c : Thread nD τ).loc main_arg1) : Vec Ideal S8192x512 .bf16) (ix2 r k)
/-- The values' rows. -/
def rowV (r : Fin 8192) (k : Fin 512) : EReal := (m ((c : Thread nD τ).loc main_arg2) : Vec Ideal S8192x512 .bf16) (ix2 r k)

theorem ix0' : ∀ t : Fin cfg0.N, win0_0.index t = ![t.val % 16, t.val / 16] := (by decide +kernel : ∀ t : Fin grid0.N, _)
theorem ix1' : ∀ t : Fin cfg0.N, win0_1.index t = ![0, t.val / 16] := (by decide +kernel : ∀ t : Fin grid0.N, _)
theorem ix2' : ∀ t : Fin cfg0.N, win0_2.index t = ![0, t.val / 16] := (by decide +kernel : ∀ t : Fin grid0.N, _)
theorem ix3' : ∀ t : Fin cfg0.N, win0_3.index t = ![t.val % 16, t.val / 16] := (by decide +kernel : ∀ t : Fin grid0.N, _)
theorem ix4' : ∀ t : Fin cfg0.N, win0_4.index t = ![t.val % 16, t.val / 16] := (by decide +kernel : ∀ t : Fin grid0.N, _)

/-- The first loop goes through the tiles before the queries' own. -/
theorem trips_one : ∀ t : Fin cfg0.N, (k0_t1_loop (grid0.coords t)).trips = t.val % 16 := (by decide +kernel : ∀ t : Fin grid0.N, _)
/-- The second loop goes through none. -/
theorem trips_two : ∀ t : Fin cfg0.N, (k0_t2_loop (grid0.coords t)).trips = 0 := (by decide +kernel : ∀ t : Fin grid0.N, _)
theorem off_one : ∀ (t : Fin cfg0.N) (k : Fin (k0_t1_loop (grid0.coords t)).trips),
    k0_off1 (grid0.coords t) k = ![k.val * 512, 0] := (by decide +kernel : ∀ t : Fin grid0.N, _)
theorem off_three : ∀ t : Fin cfg0.N, k0_off3 (grid0.coords t) = ![t.val % 16 * 512, 0] := (by decide +kernel : ∀ t : Fin grid0.N, _)

/-- The head at a point. -/
def head (t : Fin cfg0.N) : Fin 4 := ⟨t.val / 16, by have : t.val < 64 := t.isLt; omega⟩
/-- The tile of queries at a point. -/
def at_ (t : Fin cfg0.N) : Fin 16 := ⟨t.val % 16, Nat.mod_lt _ (by decide)⟩

theorem blk0 (t : Fin cfg0.N) (r : Fin 512) (d : Fin 128) : (iblk m c 0 t : Vec Ideal S512x128 .bf16) (ix2 r d)
    = rowQ m c (place (at_ t) r) (col (head t) d) := by
  blk_simp [iblk]
  refine congrArg (m ((c : Thread nD τ).loc main_arg0)) ?_
  blk_ext [ix0', at_, head, place, col]

theorem blk1 (t : Fin cfg0.N) (x : Fin 8192) (d : Fin 128) : (iblk m c 1 t : Vec Ideal S8192x128 .bf16) (ix2 x d)
    = rowK m c x (col (head t) d) := by
  blk_simp [iblk]
  refine congrArg (m ((c : Thread nD τ).loc main_arg1)) ?_
  blk_ext [ix1', head, col]

theorem blk2 (t : Fin cfg0.N) (x : Fin 8192) (d : Fin 128) : (iblk m c 2 t : Vec Ideal S8192x128 .bf16) (ix2 x d)
    = rowV m c x (col (head t) d) := by
  blk_simp [iblk]
  refine congrArg (m ((c : Thread nD τ).loc main_arg2)) ?_
  blk_ext [ix2', head, col]

/-- A tile of the keys or values. -/
def tileOf (X : Vec Ideal S8192x128 .bf16) (n : Fin 16) : Vec Ideal S512x128 .bf16 := fun y => X (ix2 (place n (y 0)) (y 1))

theorem load_tile (X : Vec Ideal S8192x128 .bf16) (n : Fin 16) (off : Fin 2 → ℕ) (e : off = ![n.val * 512, 0])
    (h : ∀ a, off a + (![512, 128] : Fin 2 → ℕ) a ≤ S8192x128.size a) :
    (View.ld X (Rect.unit (s := S8192x128) off ![512, 128] h) : Vec Ideal S512x128 .bf16) = tileOf X n := by
  subst e
  funext y
  refine congrArg X ?_
  funext a
  fin_cases a
  · exact Fin.ext (show n.val * 512 + 1 * (y 0).val = n.val * 512 + (y 0).val by omega)
  · exact Fin.ext (show 0 + 1 * (y 1).val = (y 1).val by omega)

theorem read_tile (M : Memref sig .tc .vmem S8192x128 .bf16) (hM : M.IsWhole) (X : Vec Ideal S8192x128 .bf16) (n : Fin 16)
    (off : Fin 2 → ℕ) (e : off = ![n.val * 512, 0]) (h : ∀ a, off a + (![512, 128] : Fin 2 → ℕ) a ≤ S8192x128.size a) :
    (View.readAt (Elt Ideal) M.view (Rect.unit (s := S8192x128) off ![512, 128] h).toLoadRect (hM.unread X) : Vec Ideal S512x128 .bf16)
      = tileOf X n := by
  refine Eq.trans ?_ (load_tile X n off e h)
  funext y
  exact congrFun (hM.read_unread X) _

/-- What the first loop carries before trip `k`: the largest scores, the sums and the mixed values. -/
def carried (t : Fin cfg0.N) (k : ℕ) : FVec Ideal S512x1 .f32 × FVec Ideal S512x1 .f32 × FVec Ideal S512x128 .f32 :=
  st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (iblk m c 0 t) ((hs0_1 t).unread (iblk m c 1 t)) ((hs0_2 t).unread (iblk m c 2 t))
    (k0_pay3, k0_pay4, k0_pay5) k

/-- What both loops leave. -/
def last (t : Fin cfg0.N) : FVec Ideal S512x1 .f32 × FVec Ideal S512x1 .f32 × FVec Ideal S512x128 .f32 :=
  st_k0_t2 (F := Ideal) Variants.none c none (grid0.coords t) (ms0_0 t) (hs0_0 t) (ms0_1 t) (hs0_1 t) (ms0_2 t) (hs0_2 t)
    (ms0_3 t) (hs0_3 t) (ms0_4 t) (hs0_4 t) (iblk m c 0 t) ((hs0_1 t).unread (iblk m c 1 t)) ((hs0_2 t).unread (iblk m c 2 t))
    (carried m c t (k0_t1_loop (grid0.coords t)).trips) (k0_t2_loop (grid0.coords t)).trips

theorem last_eq (t : Fin cfg0.N) : last m c t = carried m c t (at_ t).val := by
  unfold last
  rw [trips_two, trips_one]
  rfl

/-- A trip of the first loop: one more tile of keys. -/
theorem carried_succ (t : Fin cfg0.N) (n : Fin 16) (hn : n.val < (at_ t).val) : carried m c t (n.val + 1)
    = (k0_pay7 (iblk m c 0 t) (carried m c t n.val).1 (tileOf (iblk m c 1 t) n),
       k0_pay10 (iblk m c 0 t) (carried m c t n.val).1 (carried m c t n.val).2.1 (tileOf (iblk m c 1 t) n),
       k0_pay11 (iblk m c 0 t) (carried m c t n.val).1 (carried m c t n.val).2.2 (tileOf (iblk m c 1 t) n) (tileOf (iblk m c 2 t) n)) := by
  have hk : n.val < (k0_t1_loop (grid0.coords t)).trips := by rw [trips_one]; exact hn
  refine (st_k0_t1_succ (F := Ideal) Variants.none c none (grid0.coords t) (ms0_0 t) (hs0_0 t) (ms0_1 t) (hs0_1 t) (ms0_2 t) (hs0_2 t)
    (ms0_3 t) (hs0_3 t) (ms0_4 t) (hs0_4 t) (iblk m c 0 t) ((hs0_1 t).unread (iblk m c 1 t)) ((hs0_2 t).unread (iblk m c 2 t))
    (k0_pay3, k0_pay4, k0_pay5) ⟨n.val, hk⟩).trans ?_
  unfold tripR_k0_t1 trip_k0_t1
  dsimp only
  rw [read_tile _ _ _ n _ (off_one t ⟨n.val, hk⟩), read_tile _ _ _ n _ (off_one t ⟨n.val, hk⟩)]
  rfl

/-- The scores at a point's row. -/
abbrev logit (t : Fin cfg0.N) (r : Fin 512) : Fin 8192 → EReal := logits (rowQ m c) (rowK m c) (head t) (place (at_ t) r)

/-- The scores of a tile before the queries' own. -/
theorem scores_tile (t : Fin cfg0.N) (r : Fin 512) (n : Fin 16) (hn : n.val < (at_ t).val) :
    scores (iblk m c 0 t) (tileOf (iblk m c 1 t) n) r = fun k => logit m c t r (place n k) := by
  funext k
  have := k.isLt
  have := r.isLt
  refine Eq.trans ?_ (if_pos (show n.val * 512 + k.val ≤ (at_ t).val * 512 + r.val by omega)).symm
  exact congrArg₂ score (funext fun d => blk0 m c t r d) (funext fun d => blk1 m c t (place n k) d)

/-- The scores of the queries' own tile. -/
theorem masked_tile (t : Fin cfg0.N) (r : Fin 512) :
    masked (iblk m c 0 t) (tileOf (iblk m c 1 t) (at_ t)) r = fun k => logit m c t r (place (at_ t) k) := by
  funext k
  refine if_congr ?_ ?_ rfl
  · show k.val ≤ r.val ↔ (at_ t).val * 512 + k.val ≤ (at_ t).val * 512 + r.val
    omega
  · exact congrArg₂ score (funext fun d => blk0 m c t r d) (funext fun d => blk1 m c t (place (at_ t) k) d)

theorem values_tile (t : Fin cfg0.N) (n : Fin 16) (d : Fin 128) :
    (fun k => tileOf (iblk m c 2 t) n (ix2 k d)) = fun k => rowV m c (place n k) (col (head t) d) :=
  funext fun k => blk2 m c t (place n k) d

/-- Before trip `n` the loop carries the attention of the first `n` tiles of keys. -/
theorem carried_seen (t : Fin cfg0.N) (r : Fin 512) (n : ℕ) (hn : n ≤ (at_ t).val) :
    (carried m c t n).1 (ix2 r 0) = top (seen n) (logit m c t r)
    ∧ (carried m c t n).2.1 (ix2 r 0) = total (seen n) (logit m c t r)
    ∧ ∀ d, (carried m c t n).2.2 (ix2 r d) = mixed (seen n) (logit m c t r) (fun x => rowV m c x (col (head t) d)) := by
  induction n with
  | zero =>
    rw [seen_zero]
    exact ⟨init_top r 0, init_total r 0, fun d => init_mixed r d⟩
  | succ n ih =>
    obtain ⟨h1, h2, h3⟩ := ih (by omega)
    have hb := (at_ t).isLt
    have e := carried_succ m c t ⟨n, by omega⟩ (by show n < _; omega)
    have s := scores_tile m c t r ⟨n, by omega⟩ (by show n < _; omega)
    rw [e]
    refine ⟨?_, ?_, fun d => ?_⟩
    · refine (pay7_apply ..).trans ?_
      rw [s, h1]
      exact newTop_seen ⟨n, by omega⟩ _
    · refine (pay10_apply ..).trans ?_
      rw [s, h1, h2]
      exact newTotal_seen ⟨n, by omega⟩ _
    · refine (pay11_apply ..).trans ?_
      rw [s, h1, h3, values_tile]
      exact newMixed_seen ⟨n, by omega⟩ _ _

section Point
variable (t : Fin cfg0.N) (r : Fin 512) (d : Fin 128)

theorem top_at : k0_pay19 (iblk m c 0 t) (last m c t).1 (tileOf (iblk m c 1 t) (at_ t)) (ix2 r 0)
    = top (seen ((at_ t).val + 1)) (logit m c t r) := by
  rw [last_eq, pay19_apply, masked_tile, (carried_seen m c t r _ le_rfl).1]
  exact newTop_seen (at_ t) _

theorem total_at : k0_pay22 (iblk m c 0 t) (last m c t).1 (last m c t).2.1 (tileOf (iblk m c 1 t) (at_ t)) (ix2 r 0)
    = total (seen ((at_ t).val + 1)) (logit m c t r) := by
  rw [last_eq, pay22_apply, masked_tile, (carried_seen m c t r _ le_rfl).1, (carried_seen m c t r _ le_rfl).2.1]
  exact newTotal_seen (at_ t) _

theorem mixed_at : k0_pay23 (iblk m c 0 t) (last m c t).1 (last m c t).2.2 (tileOf (iblk m c 1 t) (at_ t)) (tileOf (iblk m c 2 t) (at_ t)) (ix2 r d)
    = mixed (seen ((at_ t).val + 1)) (logit m c t r) (fun x => rowV m c x (col (head t) d)) := by
  rw [last_eq, pay23_apply, masked_tile, values_tile, (carried_seen m c t r _ le_rfl).1, (carried_seen m c t r _ le_rfl).2.2]
  exact newMixed_seen (at_ t) _ _

/-- What a point writes to the first array. -/
theorem out_at (K V : Vec Ideal S512x128 .bf16) (hK : K = tileOf (iblk m c 1 t) (at_ t)) (hV : V = tileOf (iblk m c 2 t) (at_ t)) :
    k0_pay1 (k0_pay22 (iblk m c 0 t) (last m c t).1 (last m c t).2.1 K) (k0_pay23 (iblk m c 0 t) (last m c t).1 (last m c t).2.2 K V)
        (Scalar.ofBits .f32 0x3F800000#32) (ix2 r d)
      = attended (rowQ m c) (rowK m c) (rowV m c) (head t) (place (at_ t) r) d := by
  rw [hK, hV, pay1_apply, total_at, mixed_at, attended_seen]

/-- What a point writes to the second array. -/
theorem norm_at (K : Vec Ideal S512x128 .bf16) (hK : K = tileOf (iblk m c 1 t) (at_ t)) :
    k0_pay2 (k0_pay19 (iblk m c 0 t) (last m c t).1 K) (k0_pay22 (iblk m c 0 t) (last m c t).1 (last m c t).2.1 K) (ix2 r d)
      = norm (rowQ m c) (rowK m c) (head t) (place (at_ t) r) := by
  rw [hK, pay2_apply, top_at, total_at, norm_seen]

end Point

/-- The head of a column. -/
def headOf (l : Fin 512) : Fin 4 := ⟨l.val / 128, by have := l.isLt; omega⟩
/-- The place of a column in its head. -/
def inHead (l : Fin 512) : Fin 128 := ⟨l.val % 128, Nat.mod_lt _ (by decide)⟩

theorem headOf_col (h : Fin 4) (d : Fin 128) : headOf (col h d) = h := by
  have := d.isLt
  exact Fin.ext (show (h.val * 128 + d.val) / 128 = h.val by omega)

theorem inHead_col (h : Fin 4) (d : Fin 128) : inHead (col h d) = d := by
  have := d.isLt
  exact Fin.ext (show (h.val * 128 + d.val) % 128 = d.val by omega)

theorem col_surj (l : Fin 512) : ∃ h d, l = col h d :=
  ⟨headOf l, inHead l, Fin.ext (show l.val = l.val / 128 * 128 + l.val % 128 by omega)⟩

/-- The attention's results. -/
def outA : Vec Ideal S8192x512 .f32 := fun i => attended (rowQ m c) (rowK m c) (rowV m c) (headOf (i 1)) (i 0) (inHead (i 1))
/-- The logarithms of the sums. -/
def outN : Vec Ideal S8192x512 .f32 := fun i => norm (rowQ m c) (rowK m c) (headOf (i 1)) (i 0)

theorem finalA : (dats m 0 c).arrAt 3 cfg0.N = outA m c := by
  refine (dats m 0 c).arrAt_eq_of_covers 3 _ (by decide +kernel) fun t hf y => ?_
  blk_simp
  rw [after0_3]
  obtain ⟨r, l, rfl⟩ : ∃ r l, y = ix2 r l := ⟨y 0, y 1, by funext a; fin_cases a <;> rfl⟩
  have e : (win0_3.blk t).view.emb (ix2 r l) = ix2 (place (at_ t) r) (col (head t) l) := by blk_ext [ix3', at_, head, place, col]
  rw [e]
  dsimp only [outsAt0]
  frame_out []
  refine (out_at m c t r l _ _ (load_tile _ (at_ t) _ (off_three t) _) (load_tile _ (at_ t) _ (off_three t) _)).trans ?_
  show _ = attended _ _ _ (headOf (col (head t) l)) _ (inHead (col (head t) l))
  rw [headOf_col, inHead_col]
  rfl

theorem finalN : (dats m 0 c).arrAt 4 cfg0.N = outN m c := by
  refine (dats m 0 c).arrAt_eq_of_covers 4 _ (by decide +kernel) fun t hf y => ?_
  blk_simp
  rw [after0_4]
  obtain ⟨r, l, rfl⟩ : ∃ r l, y = ix2 r l := ⟨y 0, y 1, by funext a; fin_cases a <;> rfl⟩
  have e : (win0_4.blk t).view.emb (ix2 r l) = ix2 (place (at_ t) r) (col (head t) l) := by blk_ext [ix4', at_, head, place, col]
  rw [e]
  dsimp only [outsAt0]
  frame_out []
  refine (norm_at m c t r l _ (load_tile _ (at_ t) _ (off_three t) _)).trans ?_
  show _ = norm _ _ (headOf (col (head t) l)) _
  rw [headOf_col]
  rfl

end Cert.Proof.Causal
-- ==== Proof.Causal.Reference.lean ====
/- What one place of the reference's two results is in the causal attention call. -/
module

public import proofs.«01_k».proof.Proof.Gen.CausalReferenceIdeal.Run
public import proofs.«01_k».proof.Proof.Causal.Tiles

@[expose] public section

noncomputable section

namespace Cert.Proof.Causal

open Idealize.ShloMosaic
open Cert.CausalReferenceIdeal Cert.CausalReferenceIdeal.Gen Cert.CausalReferenceIdeal.Value

/-- The rows by head and place. -/
def headsR (x : Vec Ideal S8192x512 .bf16) : FVec Ideal S8192x4x128 .f32 :=
  (shapeCast _ (extf .f32 x bitsLt_bf16_f32) shapeCasts_S8192x512_S8192x4x128)
/-- The keys a query may see. -/
def validR : IVec S8192x8192 1 :=
  (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- The scores. -/
def scoreR (q k : FVec Ideal S8192x4x128 .f32) : FVec Ideal S4x8192x8192 .f32 :=
  (select (broadcastInDim S4x8192x8192 ![1, 2] bcast_S8192x8192_S4x8192x8192_1_2 validR) (Host.dotGeneral dot_S8192x4x128_S8192x4x128_S4x8192x8192_2_2_0_0_1_1 none q k) (broadcastInDim S4x8192x8192 ![] bcast_S_S4x8192x8192 (id (constant S_ .f32 0xFF800000#32))))
/-- The largest scores. -/
def topR (s : FVec Ideal S4x8192x8192 .f32) : FVec Ideal S4x8192x1 .f32 :=
  (broadcastInDim S4x8192x1 ![0, 1] bcast_S4x8192_S4x8192x1_0_1 (Host.reduce FloatOps.maximumf s (constant S_ .f32 0xFF800000#32) reducesTo_S4x8192x8192_S4x8192_d2 h_S_))
/-- The scores' exponentials, the largest taken off. -/
def expR (s : FVec Ideal S4x8192x8192 .f32) : FVec Ideal S4x8192x8192 .f32 :=
  (Host.exp (subf s (broadcastInDim S4x8192x8192 ![0, 1, 2] bcast_S4x8192x1_S4x8192x8192_0_1_2 (topR s))))
/-- Their sums. -/
def totalR (e : FVec Ideal S4x8192x8192 .f32) : FVec Ideal S4x8192x1 .f32 :=
  (broadcastInDim S4x8192x1 ![0, 1] bcast_S4x8192_S4x8192x1_0_1 (Host.reduceAdd e (constant S_ .f32 0x00000000#32) reducesTo_S4x8192x8192_S4x8192_d2 h_S_))
/-- The values by the shares. -/
def outR (v : FVec Ideal S8192x4x128 .f32) (e : FVec Ideal S4x8192x8192 .f32) : FVec Ideal S8192x512 .f32 :=
  shapeCast _ (transpose S8192x4x128 [2, 0, 1] (Host.dotGeneral dot_S8192x4x128_S4x8192x8192_S4x128x8192_0_2_2_1_1_0 none v (mulf e (broadcastInDim S4x8192x8192 ![0, 1, 2] bcast_S4x8192x1_S4x8192x8192_0_1_2 (Host.divf (broadcastInDim S4x8192x1 ![] bcast_S_S4x8192x1 (constant S_ .f32 0x3F800000#32)) (totalR e))))) transposes_S4x128x8192_S8192x4x128_2_0_1) shapeCasts_S8192x4x128_S8192x512
/-- The logarithms of the sums. -/
def normR (t u : FVec Ideal S4x8192x1 .f32) : FVec Ideal S8192x512 .f32 :=
  shapeCast _ (transpose S8192x4x128 [1, 0, 2] (broadcastInDim S4x8192x128 ![0, 1, 2] bcast_S4x8192x1_S4x8192x128_0_1_2 (addf t (Host.log u))) transposes_S4x8192x128_S8192x4x128_1_0_2) shapeCasts_S8192x4x128_S8192x512

section Steps
variable (x : Vec Ideal S8192x512 .bf16) (q k v : FVec Ideal S8192x4x128 .f32) (s : FVec Ideal S4x8192x8192 .f32)
variable (h : Fin 4) (p y : Fin 8192) (d : Fin 128) (z : Fin 1)

theorem headsR_apply : headsR x (ix3 p h d) = x (ix2 p (col h d)) := by
  pointwise [headsR]
  rfl

theorem validR_apply : validR (ix2 p y) = if y.val ≤ p.val then 1 else 0 := by
  pointwise [validR]
  exact col_le _ _ y.isLt p.isLt

theorem scoreR_apply : scoreR q k (ix3 h p y)
    = if y.val ≤ p.val then score (fun d => q (ix3 p h d)) (fun d => k (ix3 y h d)) else ⊥ := by
  pointwise [scoreR]
  rw [validR_apply, select_ite]
  exact if_congr Iff.rfl rfl Consts.ofBits_neg_inf

theorem topR_apply : topR s (ix3 h p z) = top Finset.univ fun y => s (ix3 h p y) := by
  pointwise [topR]
  rw [Consts.ofBits_neg_inf]
  rfl

theorem expR_apply : expR s (ix3 h p y) = Ideal.exp (s (ix3 h p y) - top Finset.univ fun y => s (ix3 h p y)) := by
  pointwise [expR, topR_apply]

theorem totalR_apply : totalR s (ix3 h p z) = ∑ y, s (ix3 h p y) := by
  pointwise [totalR]

theorem outR_apply (l : Fin 512) (hl : l = col h d) :
    outR v s (ix2 p l) = ∑ y, v (ix3 y h d) * (s (ix3 h p y) * Ideal.div 1 (∑ y, s (ix3 h p y))) := by
  have := d.isLt
  have e1 : ∀ g, (⟨l.val / 128, g⟩ : Fin 4) = h := fun g => Fin.ext (show l.val / 128 = h.val by rw [hl]; show (h.val * 128 + d.val) / 128 = _; omega)
  have e2 : ∀ g, (⟨l.val % 128, g⟩ : Fin 128) = d := fun g => Fin.ext (show l.val % 128 = d.val by rw [hl]; show (h.val * 128 + d.val) % 128 = _; omega)
  pointwise [outR, totalR_apply]
  have e : ∀ (a : Fin 4) (b : Fin 128), a = h → b = d → ∑ y, v (ix3 y a b) * (s (ix3 a p y) * Ideal.div 1 (∑ y, s (ix3 a p y)))
      = ∑ y, v (ix3 y h d) * (s (ix3 h p y) * Ideal.div 1 (∑ y, s (ix3 h p y))) := by
    rintro _ _ rfl rfl
    rfl
  exact e _ _ (e1 _) (e2 _)

theorem normR_apply (t u : FVec Ideal S4x8192x1 .f32) (l : Fin 512) (hl : l = col h d) :
    normR t u (ix2 p l) = t (ix3 h p 0) + Ideal.log (u (ix3 h p 0)) := by
  have := d.isLt
  have e1 : ∀ g, (⟨l.val / 128, g⟩ : Fin 4) = h := fun g => Fin.ext (show l.val / 128 = h.val by rw [hl]; show (h.val * 128 + d.val) / 128 = _; omega)
  pointwise [normR]
  have e : ∀ a : Fin 4, a = h → t (ix3 a p 0) + Ideal.log (u (ix3 a p 0)) = t (ix3 h p 0) + Ideal.log (u (ix3 h p 0)) := by
    rintro _ rfl
    rfl
  exact e _ (e1 _)

end Steps

variable (Q K V : Vec Ideal S8192x512 .bf16) (h : Fin 4) (p : Fin 8192) (d : Fin 128)

/-- The reference's scores. -/
def logitsR : FVec Ideal S4x8192x8192 .f32 := scoreR (headsR Q) (headsR K)
/-- The reference's first result. -/
def refA : FVec Ideal S8192x512 .f32 := outR (headsR V) (expR (logitsR Q K))
/-- The reference's second result. -/
def refN : FVec Ideal S8192x512 .f32 := normR (topR (logitsR Q K)) (totalR (expR (logitsR Q K)))

theorem logitsR_apply (y : Fin 8192) : logitsR Q K (ix3 h p y) = logits (fun r k => Q (ix2 r k)) (fun r k => K (ix2 r k)) h p y := by
  unfold logitsR
  rw [scoreR_apply]
  simp only [headsR_apply]
  rfl

theorem topR_logits : (top Finset.univ fun y => logitsR Q K (ix3 h p y))
    = top Finset.univ (logits (fun r k => Q (ix2 r k)) (fun r k => K (ix2 r k)) h p) :=
  congrArg (top Finset.univ) (funext (logitsR_apply Q K h p))

theorem totalR_logits : ∑ y, expR (logitsR Q K) (ix3 h p y)
    = total Finset.univ (logits (fun r k => Q (ix2 r k)) (fun r k => K (ix2 r k)) h p) :=
  Finset.sum_congr rfl fun y _ => by rw [expR_apply, topR_logits, logitsR_apply]

/-- The reference's first result, at a place. -/
theorem refA_apply : refA Q K V (ix2 p (col h d))
    = attended (fun r k => Q (ix2 r k)) (fun r k => K (ix2 r k)) (fun r k => V (ix2 r k)) h p d := by
  unfold refA
  rw [outR_apply _ _ h p d _ rfl, totalR_logits]
  exact Finset.sum_congr rfl fun y _ => by rw [headsR_apply, expR_apply, topR_logits, logitsR_apply]

/-- The reference's second result, at a place. -/
theorem refN_apply : refN Q K (ix2 p (col h d)) = norm (fun r k => Q (ix2 r k)) (fun r k => K (ix2 r k)) h p := by
  unfold refN
  rw [normR_apply h p d _ _ _ rfl, topR_apply, totalR_apply, totalR_logits, topR_logits]
  rfl

/-- What the reference's run states of its first result. -/
theorem res_eq (m : (ℓ : Loc nD τ sig) → Buf (Elt Ideal) ℓ) (c : Dev nD) : (res_main_v27 m c : FVec Ideal S8192x512 .f32)
    = refA (m ((c.tc : Thread nD τ).loc main_arg0)) (m ((c.tc : Thread nD τ).loc main_arg1)) (m ((c.tc : Thread nD τ).loc main_arg2)) := rfl

end Cert.Proof.Causal
-- ==== Proof.Causal.Claims.lean ====
/- The claims about the causal attention's call: its runs, the reference's run, and that their results are equal. -/
module

public import proofs.«01_k».proof.Defs
public import proofs.«01_k».proof.Proof.Gen.Causal
public import proofs.«01_k».proof.Proof.Gen.CausalReferenceIdeal
public import proofs.«01_k».proof.Proof.Gen.CausalReferenceIdeal.Run
public import proofs.«01_k».proof.Proof.Causal.Value
public import proofs.«01_k».proof.Proof.Causal.Reference

@[expose] public section

noncomputable section

namespace Cert.Proof.Causal

open Idealize.ShloMosaic Idealize.ShloMosaic.TcCoe Idealize.SL Idealize.SL.Sem
open Cert.CausalIdeal

/-- At the bit patterns the mask is its word: the two texts are then the same. -/
local instance : Named Bits where
  named _ _ {φ} w := FloatOps.ofBits (F := Bits) φ w

/-- The call's body at the bit patterns is the body the run was found for. -/
theorem bodies_eq : Cert.Causal.defs₀ (F := Bits) = Cert.CausalIdeal.defs₀ := by
  funext p l a
  match p with
  | .tc =>
    match l, a with
    | ⟨0, _⟩, (_, _) => rfl
  | .scScalar _ => rfl
  | .scVector _ _ => rfl

theorem defs_eq : Cert.Causal.defs (F := Bits) = Cert.CausalIdeal.defs := by
  show Pipeline.defs Cert.CausalIdeal.pcfgs (Cert.Causal.defs₀ (F := Bits)) = Pipeline.defs Cert.CausalIdeal.pcfgs Cert.CausalIdeal.defs₀
  rw [bodies_eq]

theorem frame_causal : Cert.quiescent_Causal (hCausal := Cert.Causal.Gen.facts) := fun m g _ => by
  have h := Cert.CausalIdeal.Gen.frame (F := Bits) m g
  show θ_run (Cert.Causal.defs (F := Bits)) (onTc Cert.CausalIdeal.main) _ _
  rw [defs_eq]
  exact h

theorem frame_causalIdeal : Cert.quiescent_CausalIdeal (hCausalIdeal := Cert.CausalIdeal.Gen.facts) := fun m g _ =>
  Cert.CausalIdeal.Gen.frame (F := Ideal) m g

theorem frame_causalReferenceIdeal :
    Cert.quiescent_CausalReferenceIdeal (hCausalReferenceIdeal := CausalReferenceIdeal.Gen.facts) := fun m g _ =>
  (θ_run CausalReferenceIdeal.defs _ _).mono (fun r h => ⟨fun c => (h c).2.2, sem_eq_zero_of_no_sems (by decide) r.2⟩)
    (CausalReferenceIdeal.Value.run m g)

theorem algebraic_causal : Cert.algebraic_CausalIdeal_CausalReferenceIdeal (hCausalIdeal := Cert.CausalIdeal.Gen.facts)
    (hCausalReferenceIdeal := CausalReferenceIdeal.Gen.facts) := fun m g m' g' _ hm => by
  refine ⟨fun c => outA m c, fun c => outN m c,
    (θ_run Cert.CausalIdeal.defs _ _).mono (fun r h c => ?_) (Cert.CausalIdeal.Value.run_blocks (F := Ideal) m g),
    (θ_run CausalReferenceIdeal.defs _ _).mono (fun r h c => ?_) (CausalReferenceIdeal.Value.run m' g')⟩
  · obtain ⟨h0, h1, hk⟩ := h c
    exact ⟨h0.trans (finalA m c), h1.trans (finalN m c), hk⟩
  · obtain ⟨h0, h1, hk⟩ := h c
    obtain ⟨e0, e1, e2⟩ := hm c
    rw [res_eq, e0, e1, e2] at h0
    rw [e0, e1] at h1
    refine ⟨h0.trans ?_, h1.trans ?_, hk⟩
    · funext i
      obtain ⟨r, l, rfl⟩ : ∃ r l, i = ix2 r l := ⟨i 0, i 1, by funext a; fin_cases a <;> rfl⟩
      obtain ⟨h, d, rfl⟩ := col_surj l
      refine (refA_apply _ _ _ h r d).trans ?_
      show _ = attended _ _ _ (headOf (col h d)) r (inHead (col h d))
      rw [headOf_col, inHead_col]
      rfl
    · funext i
      obtain ⟨r, l, rfl⟩ : ∃ r l, i = ix2 r l := ⟨i 0, i 1, by funext a; fin_cases a <;> rfl⟩
      obtain ⟨h, d, rfl⟩ := col_surj l
      refine (refN_apply _ _ h r d).trans ?_
      show _ = norm _ _ (headOf (col h d)) r
      rw [headOf_col]
      rfl

/-- The one constant the idealized text names is the mask, read as −∞. -/
theorem preserves_causal : Cert.preserves_Causal_CausalIdeal :=
  IdealRules.named_const.statement Cert.CausalIdeal.κ "mask" .f32 0xF149F2CA#32 ⊥ rfl

end Cert.Proof.Causal

end
-- ==== Proof.Stick.Keep.lean ====
/- Breaking a stick among the keys, latest first: the logarithm of what is left after a key, and the two ways in which a key's share is
   spelled.  It holds for every score, infinite ones too. -/
module

public import proofs.«01_k».proof.Proof.Consts

@[expose] public section

noncomputable section

namespace Cert.Proof.Stick

open Idealize.ShloMosaic

/-- The logarithm of one more than a score's exponential. -/
def soft (z : EReal) : EReal := max z 0 + Ideal.log (1 + Ideal.exp (-max z (-z)))

/-- The same at a real score. -/
def softR (z : ℝ) : ℝ := max z 0 + Real.log (1 + Real.exp (-max z (-z)))

theorem soft_top : soft ⊤ = ⊤ := by
  have e : Ideal.log (1 + Ideal.exp (-max (⊤ : EReal) (-⊤))) = 0 := by
    rw [max_eq_left le_top, EReal.neg_top, Ideal.exp_bot, add_zero, ← EReal.coe_one, Ideal.log_coe, if_neg (by norm_num), Real.log_one]
    rfl
  unfold soft
  rw [e, max_eq_left le_top, add_zero]

theorem soft_bot : soft ⊥ = 0 := by
  have e : Ideal.log (1 + Ideal.exp (-max (⊥ : EReal) (-⊥))) = 0 := by
    rw [EReal.neg_bot, max_eq_right le_top, EReal.neg_top, Ideal.exp_bot, add_zero, ← EReal.coe_one, Ideal.log_coe, if_neg (by norm_num), Real.log_one]
    rfl
  unfold soft
  rw [e, max_eq_right bot_le, add_zero]

theorem coe_max' (a b : ℝ) : max (a : EReal) b = ((max a b : ℝ) : EReal) := (EReal.coe_strictMono.monotone.map_max).symm

theorem soft_coe (z : ℝ) : soft (z : EReal) = (softR z : EReal) := by
  have h : ¬ (1 + Real.exp (-max z (-z)) ≤ 0) := by have := Real.exp_pos (-max z (-z)); linarith
  unfold soft softR
  rw [← EReal.coe_zero, ← EReal.coe_neg z, coe_max', coe_max', ← EReal.coe_neg, Ideal.exp_coe, ← EReal.coe_one, ← EReal.coe_add,
    Ideal.log_coe, if_neg h, ← EReal.coe_add]

theorem soft_flip (z : ℝ) : z - softR z = -softR (-z) := by
  have e : max (-z) (- -z) = max z (-z) := by rw [neg_neg, max_comm]
  have m : max z 0 - max (-z) 0 = z := by
    rcases le_total z 0 with h | h
    · rw [max_eq_right h, max_eq_left (by linarith)]; ring
    · rw [max_eq_left h, max_eq_right (by linarith)]; ring
  unfold softR
  rw [e]
  linarith

/-- A key's share, spelled by its own score and what later keys leave, or by what it and later keys leave, its own part taken off. -/
theorem share_eq (z A : EReal) : Ideal.exp (z - soft z + A) = Ideal.exp (-soft (-z) + (-soft z + A - -soft z)) := by
  induction z with
  | top => rw [soft_top, EReal.neg_top, soft_bot]; simp [sub_eq_add_neg]
  | bot => rw [EReal.neg_bot, soft_top, EReal.neg_top, EReal.bot_add, sub_eq_add_neg, EReal.bot_add, EReal.bot_add]
  | coe z =>
    have e : -((softR z : ℝ) : EReal) + A - -((softR z : ℝ) : EReal) = A := by
      induction A with
      | top => rw [← EReal.coe_neg, EReal.coe_add_top, EReal.top_sub_coe]
      | bot => rw [EReal.add_bot, EReal.bot_sub]
      | coe a => rw [← EReal.coe_neg, ← EReal.coe_add, ← EReal.coe_sub]; congr 1; ring
    rw [soft_coe, ← EReal.coe_neg z, soft_coe, e, ← EReal.coe_sub, soft_flip, EReal.coe_neg]

end Cert.Proof.Stick
-- ==== Proof.Stick.Payload.lean ====
/- What one place of each block is in the stick-breaking attention call. -/
module

public import proofs.«01_k».proof.Proof.Gen.StickIdeal.Skeleton
public import proofs.«01_k».proof.Proof.Stick.Keep
public import proofs.«01_k».proof.Proof.Causal.Payload
public import Idealize.ShloMosaic.Lib.Pointwise

@[expose] public section

noncomputable section

namespace Cert.Proof.Stick

open Idealize.ShloMosaic Cert.StickIdeal Cert.StickIdeal.Gen

/-- A query's scores of a tile's keys. -/
def scores (q : Vec Ideal S512x128 .bf16) (K : Vec Ideal S256x128 .bf16) (r : Fin 512) (k : Fin 256) : EReal :=
  (∑ d, q (ix2 r d) * K (ix2 k d)) * Ideal.ofBits .f32 0x3E000000#32

section Row
variable (rr acc : EReal) (on : Fin 256 → Prop) [DecidablePred on] (z v : Fin 256 → EReal)

/-- The logarithm of what a tile's keys leave, added to what later tiles' leave. -/
def newRest : EReal := rr + ∑ k, if on k then -soft (z k) else 0
/-- The mixed values once a tile's are in them too. -/
def newMixed : EReal :=
  acc + ∑ k, (if on k then Ideal.exp (z k - soft (z k) + (rr + ∑ j, (if on j then -soft (z j) else 0) * (if k < j then 1 else 0))) else 0) * v k

end Row

/-- Comparing two places as 32-bit numbers is comparing them. -/
theorem place_lt (a b : Nat) (ha : a < 8192) (hb : b < 8192) :
    IntOp.cmpi CmpIPredicate.slt (BitVec.ofNat 32 a) (BitVec.ofNat 32 b) = if a < b then 1 else 0 := by
  have e : ∀ n : Nat, n < 8192 → (BitVec.ofNat 32 n).toInt = n := fun n h => by
    rw [BitVec.toInt_eq_toNat_bmod, BitVec.toNat_ofNat, Nat.mod_eq_of_lt (by omega), Int.bmod_eq_of_le] <;> omega
  by_cases h : a < b <;> simp [IntOp.cmpi, BitVec.slt, e a ha, e b hb, h]

theorem place_gt (a b : Nat) (ha : a < 8192) (hb : b < 8192) :
    IntOp.cmpi CmpIPredicate.sgt (BitVec.ofNat 32 a) (BitVec.ofNat 32 b) = if b < a then 1 else 0 :=
  (show _ = IntOp.cmpi CmpIPredicate.slt (BitVec.ofNat 32 b) (BitVec.ofNat 32 a) from rfl).trans (place_lt b a hb ha)

theorem place_ge (a b : Nat) (ha : a < 8192) (hb : b < 8192) :
    IntOp.cmpi CmpIPredicate.sge (BitVec.ofNat 32 a) (BitVec.ofNat 32 b) = if b ≤ a then 1 else 0 :=
  (show _ = IntOp.cmpi CmpIPredicate.sle (BitVec.ofNat 32 b) (BitVec.ofNat 32 a) from rfl).trans (Causal.col_le b a hb ha)

theorem add_place (a b : Nat) : IntOp.addi (BitVec.ofNat 32 a) (BitVec.ofNat 32 b) = BitVec.ofNat 32 (a + b) := (BitVec.ofNat_add ..).symm

variable (m : IVec S512x256 1) (q : Vec Ideal S512x128 .bf16) (rr : FVec Ideal S512x1 .f32) (acc : FVec Ideal S512x128 .f32) (K V : Vec Ideal S256x128 .bf16)
variable (lk : FVec Ideal S512x256 .f32)
variable (r : Fin 512) (z : Fin 1) (d : Fin 128) (j k : Fin 256)

theorem pay10_apply : k0_pay10 q K (ix2 r k) = scores q K r k := by pointwise [k0_pay10]; rfl
theorem pay11_apply : k0_pay11 q K (ix2 r k) = soft (scores q K r k) := by
  pointwise [k0_pay11, pay10_apply]
  rw [zero_sub]
  rfl
theorem pay12_apply : k0_pay12 q K (ix2 r k) = -soft (scores q K r k) := by
  pointwise [k0_pay12, pay11_apply]
  exact zero_sub _
theorem pay26_apply : k0_pay26 (F := Ideal) (ix2 j k) = if k < j then 1 else 0 := by
  pointwise [k0_pay26]
  rw [place_gt _ _ (by omega) (by omega)]
  by_cases h : k.val < j.val
  · rw [if_pos h, if_pos (show k < j from h)]
    exact (congrArg (fun n : ℤ => ((n : ℝ) : EReal)) (by decide : (BitVec.setWidth 32 (1 : BitVec 1)).toInt = 1)).trans (by simp)
  · rw [if_neg h, if_neg (show ¬ k < j from h)]
    exact (congrArg (fun n : ℤ => ((n : ℝ) : EReal)) (by decide : (BitVec.setWidth 32 (0 : BitVec 1)).toInt = 0)).trans (by simp)
theorem pay24_apply : k0_pay24 (ix2 r k) = if k.val < r.val then 1 else 0 := by
  pointwise [k0_pay24]
  exact (congrArg (IntOp.cmpi CmpIPredicate.slt · _) (add_place k.val 0)).trans (place_lt _ _ (by omega) (by omega))
theorem pay25_apply : k0_pay25 (ix2 r k) = if k.val + 256 < r.val then 1 else 0 := by
  pointwise [k0_pay25]
  exact (congrArg (IntOp.cmpi CmpIPredicate.slt · _) (add_place k.val 256)).trans (place_lt _ _ (by omega) (by omega))
theorem pay27_apply : k0_pay27 q (ix2 r d) = if d.val < 64 then q (ix2 r d) else 0 := by
  pointwise [k0_pay27]
  exact (congrArg (Scalar.select · _ _) (place_lt d.val 64 (by omega) (by omega))).trans (Causal.select_ite ..)
theorem pay28_apply : k0_pay28 q (ix2 r d) = if 64 ≤ d.val then q (ix2 r d) else 0 := by
  pointwise [k0_pay28]
  exact (congrArg (Scalar.select · _ _) (place_ge d.val 64 (by omega) (by omega))).trans (Causal.select_ite ..)
theorem pay29_apply : k0_pay29 (F := Ideal) (ix2 r z) = 0 := by pointwise [k0_pay29]
theorem pay30_apply : k0_pay30 (F := Ideal) (ix2 r d) = 0 := by pointwise [k0_pay30]
theorem pay9_apply (a b : FVec Ideal S512x128 .f32) :
    k0_pay9 (iota .tc S512x128 32 [1] iota_S512x128_d1_w32) a b (ix2 r d) = if d.val < 64 then a (ix2 r d) else b (ix2 r d) := by
  pointwise [k0_pay9]
  exact (congrArg (Scalar.select · _ _) (place_lt d.val 64 (by omega) (by omega))).trans (Causal.select_ite ..)

variable (on : Fin 256 → Prop) [DecidablePred on]

/-- A step all of whose keys may be seen. -/
theorem rest_apply (h : ∀ k, on k) : k0_pay13 q rr K (ix2 r 0) = newRest (rr (ix2 r 0)) on (scores q K r) := by
  pointwise [k0_pay13, pay12_apply]
  unfold newRest
  simp only [if_pos (h _)]
theorem mix_apply (h : ∀ k, on k) : k0_pay14 k0_pay26 q rr acc K V (ix2 r d)
    = newMixed (rr (ix2 r 0)) (acc (ix2 r d)) on (scores q K r) (fun k => V (ix2 k d)) := by
  pointwise [k0_pay14, pay10_apply, pay11_apply, pay12_apply, pay26_apply]
  unfold newMixed
  simp only [if_pos (h _)]

theorem pay40_apply (h : ∀ k, m (ix2 r k) = if on k then 1 else 0) : k0_pay40 m q K (ix2 r k) = if on k then -soft (scores q K r k) else 0 := by
  pointwise [k0_pay40]
  rw [h, Causal.select_ite, zero_sub]
  exact congrArg (fun x => if on k then -x else 0) (pay11_apply q K r k)

/-- The second head's step is the first's. -/
theorem rest_second : k0_pay3 rr (k0_pay15 q K) (k0_pay16 q K) = k0_pay13 q rr K := rfl
theorem mix_second : k0_pay4 k0_pay26 rr acc V (k0_pay15 q K) (k0_pay16 q K) = k0_pay14 k0_pay26 q rr acc K V := rfl

/-- A masked step's logarithms. -/
def restM : FVec Ideal S512x1 .f32 := k0_pay42 rr (k0_pay40 m q K)
/-- A masked step's mixed values. -/
def mixM : FVec Ideal S512x128 .f32 :=
  k0_pay43 m k0_pay26 rr acc V (k0_pay38 q K) (k0_pay39 q K) (k0_pay41 m q K) (constant S512x256 .f32 0x00000000#32)

theorem late_rest_one : k0_pay36 m rr (k0_pay32 q K) (k0_pay33 q K) = restM m (k0_pay27 q) rr K := rfl
theorem late_mix_one : k0_pay37 m k0_pay26 rr acc V (k0_pay31 q K) (k0_pay32 q K) (k0_pay33 q K) = mixM m (k0_pay27 q) rr acc K V := rfl
theorem early_rest_one : k0_pay49 rr (k0_pay46 m q K) = restM m q rr K := rfl
theorem early_mix_one : k0_pay50 m acc V (k0_pay47 m k0_pay26 q rr K) (k0_pay48 q K) = mixM m q rr acc K V := rfl
theorem early_rest_two : k0_pay54 m q rr K = restM m q rr K := rfl
theorem early_mix_two : k0_pay55 m k0_pay26 q rr acc K V = mixM m q rr acc K V := rfl

/-- A step whose later keys are masked. -/
theorem restM_apply (h : ∀ k, m (ix2 r k) = if on k then 1 else 0) : restM m q rr K (ix2 r 0) = newRest (rr (ix2 r 0)) on (scores q K r) := by
  unfold restM
  pointwise [k0_pay42]
  exact congrArg (rr (ix2 r 0) + ·) (Finset.sum_congr rfl fun k _ => pay40_apply m q K r k on h)
theorem mixM_apply (h : ∀ k, m (ix2 r k) = if on k then 1 else 0) : mixM m q rr acc K V (ix2 r d)
    = newMixed (rr (ix2 r 0)) (acc (ix2 r d)) on (scores q K r) (fun k => V (ix2 k d)) := by
  have e10 : ∀ k, k0_pay38 q K (ix2 r k) = scores q K r k := pay10_apply q K r
  have e11 : ∀ k, k0_pay39 q K (ix2 r k) = soft (scores q K r k) := pay11_apply q K r
  have e40 : ∀ k, k0_pay41 m q K (ix2 r k) = if on k then -soft (scores q K r k) else 0 := fun k => pay40_apply m q K r k on h
  unfold mixM
  pointwise [k0_pay43, e10, e11, e40, pay26_apply]
  refine congrArg (acc (ix2 r d) + ·) (Finset.sum_congr rfl fun k _ => ?_)
  rw [h, Causal.select_ite]
  by_cases o : on k
  · rw [if_pos o, if_pos o]
  · rw [if_neg o, if_neg o, zero_mul]

end Cert.Proof.Stick
-- ==== Proof.Stick.Tiles.lean ====
/- The keys of the stick-breaking attention, a tile at a time from the latest. -/
module

public import proofs.«01_k».proof.Proof.Stick.Payload

@[expose] public section

noncomputable section

namespace Cert.Proof.Stick

open Idealize.ShloMosaic

/-- Row `k` of tile `n` of keys. -/
def place (n : Fin 32) (k : Fin 256) : Fin 8192 := ⟨n.val * 256 + k.val, by have := n.isLt; have := k.isLt; omega⟩

/-- The keys from tile `n` on. -/
def ahead (n : ℕ) : Finset (Fin 8192) := Finset.univ.filter fun x => n * 256 ≤ x.val

/-- The keys of a tile. -/
def tile (n : Fin 32) : Finset (Fin 8192) :=
  Finset.univ.map ⟨place n, fun k k' h => Fin.ext (by
    have e : n.val * 256 + k.val = n.val * 256 + k'.val := congrArg Fin.val h
    omega)⟩

theorem mem_ahead (n : ℕ) (x : Fin 8192) : x ∈ ahead n ↔ n * 256 ≤ x.val := by simp [ahead]

theorem mem_tile (n : Fin 32) (x : Fin 8192) : x ∈ tile n ↔ n.val * 256 ≤ x.val ∧ x.val < (n.val + 1) * 256 := by
  simp only [tile, Finset.mem_map, Finset.mem_univ, true_and, Function.Embedding.coeFn_mk]
  constructor
  · rintro ⟨k, rfl⟩
    have := k.isLt
    show n.val * 256 ≤ n.val * 256 + k.val ∧ n.val * 256 + k.val < (n.val + 1) * 256
    omega
  · intro h
    exact ⟨⟨x.val - n.val * 256, by omega⟩, Fin.ext (show n.val * 256 + (x.val - n.val * 256) = x.val by omega)⟩

theorem ahead_zero : ahead 0 = Finset.univ := by
  ext x
  simp [mem_ahead]

/-- A sum from a tile on is the sum after it and the tile's. -/
theorem sum_ahead (n : Fin 32) (g : Fin 8192 → EReal) : ∑ x ∈ ahead n.val, g x = ∑ x ∈ ahead (n.val + 1), g x + ∑ k, g (place n k) := by
  have u : ahead n.val = ahead (n.val + 1) ∪ tile n := by
    ext x
    rw [Finset.mem_union, mem_ahead, mem_ahead, mem_tile]
    omega
  have d : Disjoint (ahead (n.val + 1)) (tile n) := by
    rw [Finset.disjoint_left]
    intro x
    rw [mem_ahead, mem_tile]
    omega
  rw [u, Finset.sum_union d]
  refine congrArg (_ + ·) ?_
  unfold tile
  rw [Finset.sum_map]
  rfl

section Stick
variable (z v : Fin 8192 → EReal) (p : Fin 8192)

/-- The logarithm of what is left after a key: a key not before the query takes nothing. -/
def keep (x : Fin 8192) : EReal := if x < p then -soft (z x) else 0

/-- The logarithm of what the keys after a key leave. -/
def later (x : Fin 8192) : EReal := ∑ y, keep z p y * (if x < y then 1 else 0)

/-- A key's share. -/
def share (x : Fin 8192) : EReal := if x < p then Ideal.exp (z x - soft (z x) + later z p x) else 0

/-- The keys after a key: those of later tiles and those after it in its own. -/
theorem later_place (n : Fin 32) (k : Fin 256) : later z p (place n k)
    = ∑ x ∈ ahead (n.val + 1), keep z p x + ∑ j, keep z p (place n j) * (if k < j then 1 else 0) := by
  have a : later z p (place n k) = ∑ x ∈ ahead n.val, keep z p x * (if place n k < x then 1 else 0) := by
    refine (Finset.sum_subset (Finset.subset_univ _) fun x _ hx => ?_).symm
    rw [mem_ahead] at hx
    have e : ¬ place n k < x := fun h => by
      have : n.val * 256 + k.val < x.val := h
      omega
    rw [if_neg e, mul_zero]
  rw [a, sum_ahead]
  refine congrArg₂ (· + ·) ?_ ?_
  · refine Finset.sum_congr rfl fun x hx => ?_
    rw [mem_ahead] at hx
    have := k.isLt
    have e : place n k < x := show n.val * 256 + k.val < x.val by omega
    rw [if_pos e, mul_one]
  · refine Finset.sum_congr rfl fun j _ => congrArg (keep z p (place n j) * ·) (if_congr ?_ rfl rfl)
    show n.val * 256 + k.val < n.val * 256 + j.val ↔ k.val < j.val
    omega

variable (n : Fin 32)

theorem newRest_ahead : newRest (∑ x ∈ ahead (n.val + 1), keep z p x) (fun k => place n k < p) (fun k => z (place n k))
    = ∑ x ∈ ahead n.val, keep z p x := (sum_ahead n _).symm

theorem newMixed_ahead : newMixed (∑ x ∈ ahead (n.val + 1), keep z p x) (∑ x ∈ ahead (n.val + 1), share z p x * v x)
    (fun k => place n k < p) (fun k => z (place n k)) (fun k => v (place n k)) = ∑ x ∈ ahead n.val, share z p x * v x := by
  rw [sum_ahead n fun x => share z p x * v x]
  refine congrArg (_ + ·) (Finset.sum_congr rfl fun k _ => congrArg (· * v (place n k)) ?_)
  unfold share
  rw [later_place]
  rfl

/-- The keys after the query's tile take nothing. -/
theorem keep_late (n : ℕ) (h : p.val < n * 256) : ∑ x ∈ ahead n, keep z p x = 0 :=
  Finset.sum_eq_zero fun x hx => if_neg (show ¬ x.val < p.val by rw [mem_ahead] at hx; omega)

theorem share_late (n : ℕ) (h : p.val < n * 256) : ∑ x ∈ ahead n, share z p x * v x = 0 :=
  Finset.sum_eq_zero fun x hx => by
    rw [mem_ahead] at hx
    exact (congrArg (· * v x) (if_neg (show ¬ x.val < p.val by omega))).trans (zero_mul _)

/-- A key's share, as the reference spells it. -/
theorem share_spelled (x : Fin 8192) : share z p x
    = if x < p then Ideal.exp (-soft (-z x) + (∑ y, keep z p y * (if x ≤ y then 1 else 0) - keep z p x)) else 0 := by
  by_cases hx : x < p
  · have e : ∑ y, keep z p y * (if x ≤ y then 1 else 0) = keep z p x + later z p x := by
      have s : ∀ y, keep z p y * (if x ≤ y then 1 else 0) = (if y = x then keep z p x else 0) + keep z p y * (if x < y then 1 else 0) := fun y => by
        rcases lt_trichotomy x y with h | rfl | h
        · rw [if_pos h.le, if_neg h.ne', if_pos h, zero_add]
        · rw [if_pos le_rfl, if_pos rfl, if_neg (lt_irrefl _), mul_one, mul_zero, add_zero]
        · rw [if_neg h.not_ge, if_neg h.ne, if_neg h.not_gt, mul_zero, add_zero]
      rw [Finset.sum_congr rfl fun y _ => s y, Finset.sum_add_distrib, Finset.sum_ite_eq' Finset.univ x, if_pos (Finset.mem_univ x)]
      rfl
    have k : keep z p x = -soft (z x) := if_pos hx
    unfold share
    rw [if_pos hx, if_pos hx, e, k]
    exact share_eq ..
  · unfold share
    rw [if_neg hx, if_neg hx]

end Stick

/-- Column `e` of head `h`. -/
def col (h : Fin 4) (e : Fin 64) : Fin 256 := ⟨h.val * 64 + e.val, by have := h.isLt; have := e.isLt; omega⟩

/-- The head of a column. -/
def headOf (l : Fin 256) : Fin 4 := ⟨l.val / 64, by have := l.isLt; omega⟩

theorem headOf_col (h : Fin 4) (e : Fin 64) : headOf (col h e) = h := by
  have := e.isLt
  exact Fin.ext (show (h.val * 64 + e.val) / 64 = h.val by omega)

theorem col_surj (l : Fin 256) : ∃ h e, l = col h e :=
  ⟨headOf l, ⟨l.val % 64, Nat.mod_lt _ (by decide)⟩, Fin.ext (show l.val = l.val / 64 * 64 + l.val % 64 by omega)⟩

section Results
variable (q k v : Fin 8192 → Fin 256 → EReal)

/-- A query's scores of the keys. -/
def logits (h : Fin 4) (p x : Fin 8192) : EReal := (∑ e, q p (col h e) * k x (col h e)) * Ideal.ofBits .f32 0x3E000000#32

/-- The values by the shares of their keys. -/
def mixed (p : Fin 8192) (l : Fin 256) : EReal := ∑ x, share (logits q k (headOf l) p) p x * v x l

end Results

end Cert.Proof.Stick
-- ==== Proof.Stick.Value.lean ====
/- The array the stick-breaking attention call leaves: at every point the loop carries the attention of the tiles of keys from the latest. -/
module

public import proofs.«01_k».proof.Proof.Gen.StickIdeal.Value
public import proofs.«01_k».proof.Proof.Stick.Tiles
public import Idealize.ShloMosaic.Lib.Pipeline.ValueKit

@[expose] public section

noncomputable section

namespace Cert.Proof.Stick

open Idealize.ShloMosaic Idealize.ShloMosaic.TcCoe Idealize.SL Idealize.SL.Sem
open Cert.StickIdeal Cert.StickIdeal.Gen Cert.StickIdeal.Value

variable (m : (ℓ : Loc nD τ sig) → Buf (Elt Ideal) ℓ) (c : Dev nD)

/-- The queries' rows. -/
def rowQ (r : Fin 8192) (k : Fin 256) : EReal :=
  (m ((c : Thread nD τ).loc main_arg0) : Vec Ideal S8192x3840 .bf16) (ix2 r ⟨2944 + k.val, by have := k.isLt; omega⟩)
/-- The keys' rows. -/
def rowK (r : Fin 8192) (k : Fin 256) : EReal :=
  (m ((c : Thread nD τ).loc main_arg0) : Vec Ideal S8192x3840 .bf16) (ix2 r ⟨3200 + k.val, by have := k.isLt; omega⟩)
/-- The values' rows. -/
def rowV (r : Fin 8192) (k : Fin 256) : EReal :=
  (m ((c : Thread nD τ).loc main_arg0) : Vec Ideal S8192x3840 .bf16) (ix2 r ⟨3456 + k.val, by have := k.isLt; omega⟩)

theorem ix0' : ∀ t : Fin cfg0.N, win0_0.index t = ![t.val % 16, 23 + t.val / 16] := (by decide +kernel : ∀ t : Fin grid0.N, _)
theorem ix1' : ∀ t : Fin cfg0.N, win0_1.index t = ![0, 25 + t.val / 16] := (by decide +kernel : ∀ t : Fin grid0.N, _)
theorem ix2' : ∀ t : Fin cfg0.N, win0_2.index t = ![0, 27 + t.val / 16] := (by decide +kernel : ∀ t : Fin grid0.N, _)
theorem ix3' : ∀ t : Fin cfg0.N, win0_3.index t = ![t.val % 16, t.val / 16] := (by decide +kernel : ∀ t : Fin grid0.N, _)

/-- The first loop goes through the tiles before the queries' own. -/
theorem trips_one : ∀ t : Fin cfg0.N, (k0_t1_loop (grid0.coords t)).trips = 2 * (t.val % 16) := (by decide +kernel : ∀ t : Fin grid0.N, _)
/-- The second loop goes through none. -/
theorem trips_two : ∀ t : Fin cfg0.N, (k0_t2_loop (grid0.coords t)).trips = 0 := (by decide +kernel : ∀ t : Fin grid0.N, _)
theorem off_trip : ∀ (t : Fin cfg0.N) (k : Fin (k0_t1_loop (grid0.coords t)).trips),
    k0_off2 (grid0.coords t) k = ![(2 * (t.val % 16) - 1 - k.val) * 256, 0] := (by decide +kernel : ∀ t : Fin grid0.N, _)

/-- The pair of heads at a point. -/
def pair (t : Fin cfg0.N) : Fin 2 := ⟨t.val / 16, by have : t.val < 32 := t.isLt; omega⟩
/-- The tile of queries at a point. -/
def at_ (t : Fin cfg0.N) : Fin 16 := ⟨t.val % 16, Nat.mod_lt _ (by decide)⟩
/-- Row `r` of tile `i` of queries. -/
def row (i : Fin 16) (r : Fin 512) : Fin 8192 := ⟨i.val * 512 + r.val, by have := i.isLt; have := r.isLt; omega⟩
/-- Lane `d` of a pair of heads. -/
def lane (p : Fin 2) (d : Fin 128) : Fin 256 := ⟨p.val * 128 + d.val, by have := p.isLt; have := d.isLt; omega⟩

theorem blk0 (t : Fin cfg0.N) (r : Fin 512) (d : Fin 128) : (iblk m c 0 t : Vec Ideal S512x128 .bf16) (ix2 r d)
    = rowQ m c (row (at_ t) r) (lane (pair t) d) := by
  blk_simp [iblk]
  refine congrArg (m ((c : Thread nD τ).loc main_arg0)) ?_
  blk_ext [ix0', at_, pair, row, lane]

theorem blk1 (t : Fin cfg0.N) (x : Fin 8192) (d : Fin 128) : (iblk m c 1 t : Vec Ideal S8192x128 .bf16) (ix2 x d)
    = rowK m c x (lane (pair t) d) := by
  blk_simp [iblk]
  refine congrArg (m ((c : Thread nD τ).loc main_arg0)) ?_
  blk_ext [ix1', pair, lane]

theorem blk2 (t : Fin cfg0.N) (x : Fin 8192) (d : Fin 128) : (iblk m c 2 t : Vec Ideal S8192x128 .bf16) (ix2 x d)
    = rowV m c x (lane (pair t) d) := by
  blk_simp [iblk]
  refine congrArg (m ((c : Thread nD τ).loc main_arg0)) ?_
  blk_ext [ix2', pair, lane]

/-- A tile of the keys or values. -/
def tileOf (X : Vec Ideal S8192x128 .bf16) (n : Fin 32) : Vec Ideal S256x128 .bf16 := fun y => X (ix2 (place n (y 0)) (y 1))

theorem load_tile (X : Vec Ideal S8192x128 .bf16) (n : Fin 32) (off : Fin 2 → ℕ) (e : off = ![n.val * 256, 0])
    (h : ∀ a, off a + (![256, 128] : Fin 2 → ℕ) a ≤ S8192x128.size a) :
    (View.ld X (Rect.unit (s := S8192x128) off ![256, 128] h) : Vec Ideal S256x128 .bf16) = tileOf X n := by
  subst e
  funext y
  refine congrArg X ?_
  funext a
  fin_cases a
  · exact Fin.ext (show n.val * 256 + 1 * (y 0).val = n.val * 256 + (y 0).val by omega)
  · exact Fin.ext (show 0 + 1 * (y 1).val = (y 1).val by omega)

theorem read_tile (M : Memref sig .tc .vmem S8192x128 .bf16) (hM : M.IsWhole) (X : Vec Ideal S8192x128 .bf16) (n : Fin 32)
    (off : Fin 2 → ℕ) (e : off = ![n.val * 256, 0]) (h : ∀ a, off a + (![256, 128] : Fin 2 → ℕ) a ≤ S8192x128.size a) :
    (View.readAt (Elt Ideal) M.view (Rect.unit (s := S8192x128) off ![256, 128] h).toLoadRect (hM.unread X) : Vec Ideal S256x128 .bf16)
      = tileOf X n := by
  refine Eq.trans ?_ (load_tile X n off e h)
  funext y
  exact congrFun (hM.read_unread X) _

/-- The later and the earlier of the two tiles of keys of the queries' own places. -/
def hi (t : Fin cfg0.N) : Fin 32 := ⟨2 * (at_ t).val + 1, by have := (at_ t).isLt; omega⟩
def lo (t : Fin cfg0.N) : Fin 32 := ⟨2 * (at_ t).val, by have := (at_ t).isLt; omega⟩

theorem off_hi : ∀ t : Fin cfg0.N, k0_off1 (grid0.coords t) 1#32 = ![(2 * (t.val % 16) + 1) * 256, 0] := (by decide +kernel : ∀ t : Fin grid0.N, _)
theorem off_lo : ∀ t : Fin cfg0.N, k0_off1 (grid0.coords t) 0#32 = ![2 * (t.val % 16) * 256, 0] := (by decide +kernel : ∀ t : Fin grid0.N, _)

/-- What the loops carry: for each head of the pair the logarithms of what is left and the mixed values. -/
abbrev Carry : Type := FVec Ideal S512x1 .f32 × FVec Ideal S512x128 .f32 × FVec Ideal S512x1 .f32 × FVec Ideal S512x128 .f32

/-- What the first loop carries before trip `k`. -/
def carried (t : Fin cfg0.N) (init : Carry) (k : ℕ) : Carry :=
  st_k0_t1 (F := Ideal) Variants.none c none (grid0.coords t) (ms0_0 t) (hs0_0 t) (ms0_1 t) (hs0_1 t) (ms0_2 t) (hs0_2 t)
    (ms0_3 t) (hs0_3 t) (BitVec.ofNat 32 (grid0.coords t 1).val) k0_pay26 (k0_pay27 (iblk m c 0 t)) (k0_pay28 (iblk m c 0 t)) 0#32
    ((hs0_1 t).unread (iblk m c 1 t)) ((hs0_2 t).unread (iblk m c 2 t)) init k

/-- What both loops leave. -/
def last (t : Fin cfg0.N) (w : BitVec 32) (init : Carry) : Carry :=
  st_k0_t2 (F := Ideal) Variants.none c none (grid0.coords t) (ms0_0 t) (hs0_0 t) (ms0_1 t) (hs0_1 t) (ms0_2 t) (hs0_2 t)
    (ms0_3 t) (hs0_3 t) (BitVec.ofNat 32 (grid0.coords t 1).val) k0_pay26 (k0_pay27 (iblk m c 0 t)) (k0_pay28 (iblk m c 0 t)) w
    ((hs0_1 t).unread (iblk m c 1 t)) ((hs0_2 t).unread (iblk m c 2 t)) (carried m c t init (k0_t1_loop (grid0.coords t)).trips)
    (k0_t2_loop (grid0.coords t)).trips

theorem last_eq (t : Fin cfg0.N) (w : BitVec 32) (init : Carry) : last m c t w init = carried m c t init (2 * (at_ t).val) := by
  unfold last
  rw [trips_two, trips_one]
  rfl

/-- A trip of the first loop: one tile of keys earlier. -/
theorem carried_succ (t : Fin cfg0.N) (init : Carry) (k : ℕ) (n : Fin 32) (hn : n.val + 1 + k = 2 * (at_ t).val) : carried m c t init (k + 1)
    = (k0_pay13 (k0_pay27 (iblk m c 0 t)) (carried m c t init k).1 (tileOf (iblk m c 1 t) n),
       k0_pay14 k0_pay26 (k0_pay27 (iblk m c 0 t)) (carried m c t init k).1 (carried m c t init k).2.1 (tileOf (iblk m c 1 t) n) (tileOf (iblk m c 2 t) n),
       k0_pay13 (k0_pay28 (iblk m c 0 t)) (carried m c t init k).2.2.1 (tileOf (iblk m c 1 t) n),
       k0_pay14 k0_pay26 (k0_pay28 (iblk m c 0 t)) (carried m c t init k).2.2.1 (carried m c t init k).2.2.2 (tileOf (iblk m c 1 t) n) (tileOf (iblk m c 2 t) n)) := by
  have hk : k < (k0_t1_loop (grid0.coords t)).trips := by rw [trips_one]; show k < 2 * (at_ t).val; omega
  have he : k0_off2 (grid0.coords t) ⟨k, hk⟩ = ![n.val * 256, 0] := by
    rw [off_trip]
    have : 2 * (t.val % 16) - 1 - k = n.val := by have : n.val + 1 + k = 2 * (t.val % 16) := hn; omega
    rw [show (⟨k, hk⟩ : Fin (k0_t1_loop (grid0.coords t)).trips).val = k from rfl, this]
  refine (st_k0_t1_succ (F := Ideal) Variants.none c none (grid0.coords t) (ms0_0 t) (hs0_0 t) (ms0_1 t) (hs0_1 t) (ms0_2 t) (hs0_2 t)
    (ms0_3 t) (hs0_3 t) (BitVec.ofNat 32 (grid0.coords t 1).val) k0_pay26 (k0_pay27 (iblk m c 0 t)) (k0_pay28 (iblk m c 0 t)) 0#32
    ((hs0_1 t).unread (iblk m c 1 t)) ((hs0_2 t).unread (iblk m c 2 t)) init ⟨k, hk⟩).trans ?_
  unfold tripR_k0_t1 trip_k0_t1
  dsimp only
  unfold trip_k0_t1.sl.r_1 trip_k0_t1.sl.r_2 trip_k0_t1.sl.r_3 trip_k0_t1.sl.r_4 trip_k0_t1.sl.r
  dsimp only
  rw [read_tile _ _ _ n _ he, read_tile _ _ _ n _ he, rest_second, mix_second]
  rfl

/-- A head of a point's pair. -/
def head (t : Fin cfg0.N) (g : Fin 2) : Fin 4 := ⟨2 * (pair t).val + g.val, by have := (pair t).isLt; have := g.isLt; omega⟩

/-- The scores at a point's row. -/
abbrev logit (t : Fin cfg0.N) (g : Fin 2) (r : Fin 512) : Fin 8192 → EReal := logits (rowQ m c) (rowK m c) (head t g) (row (at_ t) r)

theorem sum_first (f g : Fin 128 → EReal) : ∑ d : Fin 128, (if d.val < 64 then f d else 0) * g d
    = ∑ e : Fin 64, f (Fin.castAdd 64 e) * g (Fin.castAdd 64 e) := by
  refine (Fin.sum_univ_add (a := 64) (b := 64) fun d => (if d.val < 64 then f d else 0) * g d).trans ?_
  rw [Finset.sum_eq_zero (s := Finset.univ) (f := fun e : Fin 64 => (if (Fin.natAdd 64 e).val < 64 then f (Fin.natAdd 64 e) else 0) * g (Fin.natAdd 64 e)), add_zero]
  · exact Finset.sum_congr rfl fun e _ => by rw [if_pos (show (Fin.castAdd 64 e).val < 64 from e.isLt)]
  · exact fun e _ => by rw [if_neg (show ¬ (Fin.natAdd 64 e).val < 64 by rw [Fin.val_natAdd]; omega), zero_mul]

theorem sum_second (f g : Fin 128 → EReal) : ∑ d : Fin 128, (if 64 ≤ d.val then f d else 0) * g d
    = ∑ e : Fin 64, f (Fin.natAdd 64 e) * g (Fin.natAdd 64 e) := by
  refine (Fin.sum_univ_add (a := 64) (b := 64) fun d => (if 64 ≤ d.val then f d else 0) * g d).trans ?_
  rw [Finset.sum_eq_zero (s := Finset.univ) (f := fun e : Fin 64 => (if 64 ≤ (Fin.castAdd 64 e).val then f (Fin.castAdd 64 e) else 0) * g (Fin.castAdd 64 e)), zero_add]
  · exact Finset.sum_congr rfl fun e _ => by rw [if_pos (show 64 ≤ (Fin.natAdd 64 e).val by rw [Fin.val_natAdd]; omega)]
  · exact fun e _ => by rw [if_neg (show ¬ 64 ≤ (Fin.castAdd 64 e).val by rw [Fin.val_castAdd]; have := e.isLt; omega), zero_mul]

/-- The scores of a tile by the first head's lanes of the queries. -/
theorem scores_first (t : Fin cfg0.N) (r : Fin 512) (n : Fin 32) :
    scores (k0_pay27 (iblk m c 0 t)) (tileOf (iblk m c 1 t) n) r = fun k => logit m c t 0 r (place n k) := by
  funext k
  refine congrArg (· * Ideal.ofBits .f32 0x3E000000#32) ?_
  refine (Finset.sum_congr rfl fun d _ => congrArg (· * _) (pay27_apply (iblk m c 0 t) r d)).trans ((sum_first _ _).trans ?_)
  refine Finset.sum_congr rfl fun e _ => congrArg₂ (· * ·) ((blk0 m c t r _).trans ?_) ((blk1 m c t (place n k) _).trans ?_)
  · exact congrArg (rowQ m c _) (Fin.ext (show (pair t).val * 128 + e.val = (2 * (pair t).val + 0) * 64 + e.val by omega))
  · exact congrArg (rowK m c _) (Fin.ext (show (pair t).val * 128 + e.val = (2 * (pair t).val + 0) * 64 + e.val by omega))

/-- The scores of a tile by the second head's. -/
theorem scores_second (t : Fin cfg0.N) (r : Fin 512) (n : Fin 32) :
    scores (k0_pay28 (iblk m c 0 t)) (tileOf (iblk m c 1 t) n) r = fun k => logit m c t 1 r (place n k) := by
  funext k
  refine congrArg (· * Ideal.ofBits .f32 0x3E000000#32) ?_
  refine (Finset.sum_congr rfl fun d _ => congrArg (· * _) (pay28_apply (iblk m c 0 t) r d)).trans ((sum_second _ _).trans ?_)
  refine Finset.sum_congr rfl fun e _ => congrArg₂ (· * ·) ((blk0 m c t r _).trans ?_) ((blk1 m c t (place n k) _).trans ?_)
  · exact congrArg (rowQ m c _) (Fin.ext (show (pair t).val * 128 + (64 + e.val) = (2 * (pair t).val + 1) * 64 + e.val by omega))
  · exact congrArg (rowK m c _) (Fin.ext (show (pair t).val * 128 + (64 + e.val) = (2 * (pair t).val + 1) * 64 + e.val by omega))

/-- What a head carries once the tiles from `n` on are seen. -/
def Seen (t : Fin cfg0.N) (g : Fin 2) (n : ℕ) (rr : FVec Ideal S512x1 .f32) (acc : FVec Ideal S512x128 .f32) : Prop :=
  ∀ r, rr (ix2 r 0) = ∑ x ∈ ahead n, keep (logit m c t g r) (row (at_ t) r) x
    ∧ ∀ d, acc (ix2 r d) = ∑ x ∈ ahead n, share (logit m c t g r) (row (at_ t) r) x * rowV m c x (lane (pair t) d)

section Head
variable (t : Fin cfg0.N) (g : Fin 2) (q : Vec Ideal S512x128 .bf16) (rr : FVec Ideal S512x1 .f32) (acc : FVec Ideal S512x128 .f32)

theorem seen_none : Seen m c t g (2 * (at_ t).val + 2) k0_pay29 k0_pay30 := fun r => by
  have h : (row (at_ t) r).val < (2 * (at_ t).val + 2) * 256 := by
    show (at_ t).val * 512 + r.val < _
    omega
  exact ⟨(pay29_apply r 0).trans (keep_late _ _ _ h).symm, fun d => (pay30_apply r d).trans (share_late _ _ _ _ h).symm⟩

variable (n : Fin 32) (hq : ∀ r, scores q (tileOf (iblk m c 1 t) n) r = fun k => logit m c t g r (place n k))
variable (s : Seen m c t g (n.val + 1) rr acc)

theorem values_tile (d : Fin 128) : (fun k => tileOf (iblk m c 2 t) n (ix2 k d)) = fun k => rowV m c (place n k) (lane (pair t) d) :=
  funext fun k => blk2 m c t (place n k) d

include hq s in
theorem seen_masked (mask : IVec S512x256 1) (hm : ∀ r k, mask (ix2 r k) = if place n k < row (at_ t) r then 1 else 0) :
    Seen m c t g n.val (restM mask q rr (tileOf (iblk m c 1 t) n)) (mixM mask q rr acc (tileOf (iblk m c 1 t) n) (tileOf (iblk m c 2 t) n)) := fun r => by
  obtain ⟨s1, s2⟩ := s r
  refine ⟨?_, fun d => ?_⟩
  · refine (restM_apply mask q rr _ r (fun k => place n k < row (at_ t) r) (hm r)).trans ?_
    rw [hq, s1]
    exact newRest_ahead ..
  · refine (mixM_apply mask q rr acc _ _ r d (fun k => place n k < row (at_ t) r) (hm r)).trans ?_
    rw [hq, s1, s2, values_tile]
    exact newMixed_ahead ..

include hq s in
theorem seen_open (hn : n.val < 2 * (at_ t).val) :
    Seen m c t g n.val (k0_pay13 q rr (tileOf (iblk m c 1 t) n)) (k0_pay14 k0_pay26 q rr acc (tileOf (iblk m c 1 t) n) (tileOf (iblk m c 2 t) n)) := fun r => by
  obtain ⟨s1, s2⟩ := s r
  have ho : ∀ k, place n k < row (at_ t) r := fun k => by
    have := k.isLt
    show n.val * 256 + k.val < (at_ t).val * 512 + r.val
    omega
  refine ⟨?_, fun d => ?_⟩
  · refine (rest_apply q rr _ r (fun k => place n k < row (at_ t) r) ho).trans ?_
    rw [hq, s1]
    exact newRest_ahead ..
  · refine (mix_apply q rr acc _ _ r d (fun k => place n k < row (at_ t) r) ho).trans ?_
    rw [hq, s1, s2, values_tile]
    exact newMixed_ahead ..

end Head

section Start
variable (t : Fin cfg0.N) (g : Fin 2) (q : Vec Ideal S512x128 .bf16)

/-- A head's logarithms after the queries' own tiles. -/
def startR (q : Vec Ideal S512x128 .bf16) (Kh Kl : Vec Ideal S256x128 .bf16) : FVec Ideal S512x1 .f32 :=
  restM k0_pay24 q (restM k0_pay25 q k0_pay29 Kh) Kl
/-- A head's mixed values after them. -/
def startM (q : Vec Ideal S512x128 .bf16) (Kh Vh Kl Vl : Vec Ideal S256x128 .bf16) : FVec Ideal S512x128 .f32 :=
  mixM k0_pay24 q (restM k0_pay25 q k0_pay29 Kh) (mixM k0_pay25 q k0_pay29 k0_pay30 Kh Vh) Kl Vl

theorem mask_hi (r : Fin 512) (k : Fin 256) : k0_pay25 (ix2 r k) = if place (hi t) k < row (at_ t) r then 1 else 0 := by
  rw [pay25_apply]
  refine if_congr ?_ rfl rfl
  show k.val + 256 < r.val ↔ (2 * (at_ t).val + 1) * 256 + k.val < (at_ t).val * 512 + r.val
  omega

theorem mask_lo (r : Fin 512) (k : Fin 256) : k0_pay24 (ix2 r k) = if place (lo t) k < row (at_ t) r then 1 else 0 := by
  rw [pay24_apply]
  refine if_congr ?_ rfl rfl
  show k.val < r.val ↔ (2 * (at_ t).val) * 256 + k.val < (at_ t).val * 512 + r.val
  omega

theorem seen_start (hq : ∀ n r, scores q (tileOf (iblk m c 1 t) n) r = fun k => logit m c t g r (place n k)) :
    Seen m c t g (2 * (at_ t).val) (startR q (tileOf (iblk m c 1 t) (hi t)) (tileOf (iblk m c 1 t) (lo t)))
      (startM q (tileOf (iblk m c 1 t) (hi t)) (tileOf (iblk m c 2 t) (hi t)) (tileOf (iblk m c 1 t) (lo t)) (tileOf (iblk m c 2 t) (lo t))) :=
  seen_masked m c t g q _ _ (lo t) (hq _)
    (seen_masked m c t g q _ _ (hi t) (hq _) (seen_none m c t g) k0_pay25 (mask_hi t)) k0_pay24 (mask_lo t)

end Start

/-- What the loops start from. -/
def start (Q : Vec Ideal S512x128 .bf16) (Kh Vh Kl Vl : Vec Ideal S256x128 .bf16) : Carry :=
  (k0_pay49 (k0_pay36 k0_pay25 k0_pay29 (k0_pay32 Q Kh) (k0_pay33 Q Kh)) (k0_pay46 k0_pay24 (k0_pay27 Q) Kl),
   k0_pay50 k0_pay24 (k0_pay37 k0_pay25 k0_pay26 k0_pay29 k0_pay30 Vh (k0_pay31 Q Kh) (k0_pay32 Q Kh) (k0_pay33 Q Kh)) Vl
     (k0_pay47 k0_pay24 k0_pay26 (k0_pay27 Q) (k0_pay36 k0_pay25 k0_pay29 (k0_pay32 Q Kh) (k0_pay33 Q Kh)) Kl) (k0_pay48 (k0_pay27 Q) Kl),
   k0_pay54 k0_pay24 (k0_pay28 Q) (k0_pay42 k0_pay29 (k0_pay40 k0_pay25 (k0_pay28 Q) Kh)) Kl,
   k0_pay55 k0_pay24 k0_pay26 (k0_pay28 Q) (k0_pay42 k0_pay29 (k0_pay40 k0_pay25 (k0_pay28 Q) Kh))
     (k0_pay43 k0_pay25 k0_pay26 k0_pay29 k0_pay30 Vh (k0_pay38 (k0_pay28 Q) Kh) (k0_pay39 (k0_pay28 Q) Kh) (k0_pay41 k0_pay25 (k0_pay28 Q) Kh)
       (constant S512x256 .f32 0x00000000#32)) Kl Vl)

theorem start_eq (Q : Vec Ideal S512x128 .bf16) (Kh Vh Kl Vl : Vec Ideal S256x128 .bf16) : start Q Kh Vh Kl Vl
    = (startR (k0_pay27 Q) Kh Kl, startM (k0_pay27 Q) Kh Vh Kl Vl, startR (k0_pay28 Q) Kh Kl, startM (k0_pay28 Q) Kh Vh Kl Vl) := by
  unfold start startR startM
  rw [late_rest_one, late_mix_one, early_rest_one, early_mix_one, early_rest_two, early_mix_two]
  rfl

/-- Before trip `k` the loop carries the attention of the tiles of keys from the `k`-th before the queries' own. -/
theorem carried_seen (t : Fin cfg0.N) (k : ℕ) (hk : k ≤ 2 * (at_ t).val) (init : Carry)
    (hi : init = start (iblk m c 0 t) (tileOf (iblk m c 1 t) (hi t)) (tileOf (iblk m c 2 t) (hi t)) (tileOf (iblk m c 1 t) (lo t)) (tileOf (iblk m c 2 t) (lo t))) :
    Seen m c t 0 (2 * (at_ t).val - k) (carried m c t init k).1 (carried m c t init k).2.1
    ∧ Seen m c t 1 (2 * (at_ t).val - k) (carried m c t init k).2.2.1 (carried m c t init k).2.2.2 := by
  induction k with
  | zero =>
    rw [show carried m c t init 0 = init from rfl, hi, start_eq]
    exact ⟨seen_start m c t 0 _ fun n r => scores_first m c t r n, seen_start m c t 1 _ fun n r => scores_second m c t r n⟩
  | succ k ih =>
    obtain ⟨h0, h1⟩ := ih (by omega)
    have hb := (at_ t).isLt
    obtain ⟨n, hn⟩ : ∃ n : Fin 32, n.val + 1 + k = 2 * (at_ t).val := ⟨⟨2 * (at_ t).val - 1 - k, by omega⟩, by show 2 * (at_ t).val - 1 - k + 1 + k = _; omega⟩
    have e1 : 2 * (at_ t).val - k = n.val + 1 := by omega
    have e2 : 2 * (at_ t).val - (k + 1) = n.val := by omega
    rw [e1] at h0 h1
    rw [e2, carried_succ m c t init k n hn]
    exact ⟨seen_open m c t 0 _ _ _ n (fun r => scores_first m c t r n) h0 (by omega),
      seen_open m c t 1 _ _ _ n (fun r => scores_second m c t r n) h1 (by omega)⟩

/-- What a point writes. -/
theorem out_at (t : Fin cfg0.N) (r : Fin 512) (d : Fin 128) (w : BitVec 32) (Kh Vh Kl Vl : Vec Ideal S256x128 .bf16)
    (hKh : Kh = tileOf (iblk m c 1 t) (hi t)) (hVh : Vh = tileOf (iblk m c 2 t) (hi t))
    (hKl : Kl = tileOf (iblk m c 1 t) (lo t)) (hVl : Vl = tileOf (iblk m c 2 t) (lo t)) :
    k0_pay9 (iota .tc S512x128 32 [1] iota_S512x128_d1_w32) (last m c t w (start (iblk m c 0 t) Kh Vh Kl Vl)).2.1
        (last m c t w (start (iblk m c 0 t) Kh Vh Kl Vl)).2.2.2 (ix2 r d)
      = mixed (rowQ m c) (rowK m c) (rowV m c) (row (at_ t) r) (lane (pair t) d) := by
  subst hKh hVh hKl hVl
  rw [pay9_apply, last_eq]
  obtain ⟨h0, h1⟩ := carried_seen m c t _ le_rfl _ rfl
  rw [Nat.sub_self] at h0 h1
  unfold mixed
  by_cases hd : d.val < 64
  · have e : headOf (lane (pair t) d) = head t 0 := Fin.ext (show ((pair t).val * 128 + d.val) / 64 = 2 * (pair t).val + 0 by omega)
    rw [if_pos hd, (h0 r).2 d, ahead_zero, e]
  · have e : headOf (lane (pair t) d) = head t 1 := Fin.ext (show ((pair t).val * 128 + d.val) / 64 = 2 * (pair t).val + 1 by have := d.isLt; omega)
    rw [if_neg hd, (h1 r).2 d, ahead_zero, e]

/-- The attention's results. -/
def outA : Vec Ideal S8192x256 .f32 := fun i => mixed (rowQ m c) (rowK m c) (rowV m c) (i 0) (i 1)

theorem finalA : (dats m 0 c).arrAt 3 cfg0.N = outA m c := by
  refine (dats m 0 c).arrAt_eq_of_covers 3 _ (by decide +kernel) fun t hf y => ?_
  blk_simp
  rw [after0_3]
  obtain ⟨r, l, rfl⟩ : ∃ r l, y = ix2 r l := ⟨y 0, y 1, by funext a; fin_cases a <;> rfl⟩
  have e : (win0_3.blk t).view.emb (ix2 r l) = ix2 (row (at_ t) r) (lane (pair t) l) := by blk_ext [ix3', at_, pair, row, lane]
  rw [e]
  dsimp only [outsAt0]
  frame_out []
  exact out_at m c t r l _ _ _ _ _ (load_tile _ (hi t) _ (off_hi t) _) (load_tile _ (hi t) _ (off_hi t) _)
    (load_tile _ (lo t) _ (off_lo t) _) (load_tile _ (lo t) _ (off_lo t) _)

end Cert.Proof.Stick
-- ==== Proof.Stick.Reference.lean ====
/- What one place of the reference's result is in the stick-breaking attention call. -/
module

public import proofs.«01_k».proof.Proof.Gen.StickReferenceIdeal.Run
public import proofs.«01_k».proof.Proof.Stick.Tiles

@[expose] public section

noncomputable section

namespace Cert.Proof.Stick

open Idealize.ShloMosaic
open Cert.StickReferenceIdeal Cert.StickReferenceIdeal.Gen Cert.StickReferenceIdeal.Value

/-- A slice's columns by head and place. -/
def headsR (x : Vec Ideal S8192x256 .bf16) : FVec Ideal S8192x4x64 .f32 :=
  (shapeCast _ (extf .f32 x bitsLt_bf16_f32) shapeCasts_S8192x256_S8192x4x64)
/-- The places of the keys. -/
def keysR : IVec S8192x8192 32 :=
  (broadcastInDim S8192x8192 ![0, 1] bcast_S1x8192_S8192x8192_0_1 (broadcastInDim S1x8192 ![1] bcast_S8192_S1x8192_1 (iotaInDim S8192 32 0)))
/-- The places of the queries. -/
def queriesR : IVec S8192x8192 32 :=
  (broadcastInDim S8192x8192 ![0, 1] bcast_S8192x1_S8192x8192_0_1 (broadcastInDim S8192x1 ![0] bcast_S8192_S8192x1_0 (iotaInDim S8192 32 0)))
/-- The keys before a query. -/
def beforeR : IVec S4x8192x8192 1 :=
  (broadcastInDim S4x8192x8192 ![1, 2] bcast_S8192x8192_S4x8192x8192_1_2 (cmpi .slt keysR queriesR))
/-- One from each key to those no later than it. -/
def onwardR : FVec Ideal S8192x8192 .f32 := (uitofp .f32 (cmpi .sge queriesR keysR))
/-- The scores. -/
def scoreR (q k : FVec Ideal S8192x4x64 .f32) : FVec Ideal S4x8192x8192 .f32 :=
  (mulf (Host.dotGeneral dot_S8192x4x64_S8192x4x64_S4x8192x8192_2_2_0_0_1_1 none q k) (broadcastInDim S4x8192x8192 ![] bcast_S_S4x8192x8192 (constant S_ .f32 0x3E000000#32)))
/-- Zero everywhere. -/
def zeroR : FVec Ideal S4x8192x8192 .f32 := (broadcastInDim S4x8192x8192 ![] bcast_S_S4x8192x8192 (constant S_ .f32 0x00000000#32))
/-- The logarithms of one more than the exponentials. -/
def plusR (w : FVec Ideal S4x8192x8192 .f32) : FVec Ideal S4x8192x8192 .f32 :=
  (select (cmpf .une (subf w zeroR) (subf w zeroR)) (addf w zeroR) (addf (maximumf w zeroR) (Host.log1p (Host.exp (Host.negf (Host.absf (subf w zeroR)))))))
/-- The logarithms of the sigmoids. -/
def logsigR (w : FVec Ideal S4x8192x8192 .f32) : FVec Ideal S4x8192x8192 .f32 := (Host.negf (plusR (Host.negf w)))
/-- The logarithms of what is left after each key. -/
def keepR (z : FVec Ideal S4x8192x8192 .f32) : FVec Ideal S4x8192x8192 .f32 := (select beforeR (logsigR (Host.negf z)) zeroR)
/-- The logarithms of what the later keys leave. -/
def afterR (k : FVec Ideal S4x8192x8192 .f32) : FVec Ideal S4x8192x8192 .f32 :=
  (subf (Host.dotGeneral dot_S4x8192x8192_S8192x8192_S4x8192x8192_2_0_01_1_n_n none k onwardR) k)
/-- The shares. -/
def shareR (z : FVec Ideal S4x8192x8192 .f32) : FVec Ideal S4x8192x8192 .f32 :=
  (select beforeR (Host.exp (addf (logsigR z) (afterR (keepR z)))) zeroR)
/-- The values by the shares. -/
def outR (v : FVec Ideal S8192x4x64 .f32) (a : FVec Ideal S4x8192x8192 .f32) : FVec Ideal S8192x256 .f32 :=
  shapeCast _ (transpose S8192x4x64 [2, 0, 1] (Host.dotGeneral dot_S8192x4x64_S4x8192x8192_S4x64x8192_0_2_2_1_1_0 none v a) transposes_S4x64x8192_S8192x4x64_2_0_1) shapeCasts_S8192x4x64_S8192x256

section Steps
variable (x : Vec Ideal S8192x256 .bf16) (q k v : FVec Ideal S8192x4x64 .f32) (z : FVec Ideal S4x8192x8192 .f32)
variable (h : Fin 4) (p y : Fin 8192) (d : Fin 64)

theorem headsR_apply : headsR x (ix3 p h d) = x (ix2 p (col h d)) := by
  pointwise [headsR]
  rfl

theorem cmp_lt (a b : ℕ) (ha : a < 8192) (hb : b < 8192) :
    IntOp.cmpi .slt (BitVec.ofNat 32 a) (BitVec.ofNat 32 b) = if a < b then 1 else 0 := by
  have e : ∀ n : ℕ, n < 8192 → (BitVec.ofNat 32 n).toInt = n := fun n h => by
    rw [BitVec.toInt_eq_toNat_bmod, BitVec.toNat_ofNat, Nat.mod_eq_of_lt (by omega), Int.bmod_eq_of_le] <;> omega
  by_cases h : a < b <;> simp [IntOp.cmpi, BitVec.slt, e a ha, e b hb, h]

theorem cmp_ge (a b : ℕ) (ha : a < 8192) (hb : b < 8192) :
    IntOp.cmpi .sge (BitVec.ofNat 32 a) (BitVec.ofNat 32 b) = if b ≤ a then 1 else 0 := by
  have e : ∀ n : ℕ, n < 8192 → (BitVec.ofNat 32 n).toInt = n := fun n h => by
    rw [BitVec.toInt_eq_toNat_bmod, BitVec.toNat_ofNat, Nat.mod_eq_of_lt (by omega), Int.bmod_eq_of_le] <;> omega
  by_cases h : b ≤ a <;> simp [IntOp.cmpi, BitVec.sle, e a ha, e b hb, h]

theorem beforeR_apply : beforeR (ix3 h p y) = if y < p then 1 else 0 := by
  pointwise [beforeR, keysR, queriesR]
  exact cmp_lt _ _ y.isLt p.isLt

theorem onwardR_apply : onwardR (ix2 y p) = if p ≤ y then 1 else 0 := by
  pointwise [onwardR, keysR, queriesR]
  rw [show _ = _ from cmp_ge y.val p.val y.isLt p.isLt]
  by_cases h : p ≤ y
  · rw [if_pos h, if_pos (show p.val ≤ y.val from h)]
    exact (congrArg (fun n : ℕ => ((n : ℝ) : EReal)) (by decide : (1 : BitVec 1).toNat = 1)).trans (by simp)
  · rw [if_neg h, if_neg (show ¬ p.val ≤ y.val from h)]
    exact (congrArg (fun n : ℕ => ((n : ℝ) : EReal)) (by decide : (0 : BitVec 1).toNat = 0)).trans (by simp)

theorem scoreR_apply : scoreR q k (ix3 h p y) = (∑ d, q (ix3 p h d) * k (ix3 y h d)) * Ideal.ofBits .f32 0x3E000000#32 := by
  pointwise [scoreR]

theorem plusR_apply : plusR z (ix3 h p y) = soft (z (ix3 h p y)) := by
  pointwise [plusR, zeroR]
  exact if_neg fun h => h rfl

theorem logsigR_apply : logsigR z (ix3 h p y) = -soft (-z (ix3 h p y)) := by
  pointwise [logsigR, plusR_apply]

theorem keepR_apply : keepR z (ix3 h p y) = keep (fun x => z (ix3 h p x)) p y := by
  pointwise [keepR, beforeR_apply, logsigR_apply, zeroR]
  rw [Causal.select_ite, neg_neg]
  rfl

theorem afterR_apply : afterR z (ix3 h p y) = ∑ x, z (ix3 h p x) * (if y ≤ x then 1 else 0) - z (ix3 h p y) := by
  pointwise [afterR, onwardR_apply]

theorem shareR_apply : shareR z (ix3 h p y) = share (fun x => z (ix3 h p x)) p y := by
  rw [share_spelled]
  pointwise [shareR, beforeR_apply, logsigR_apply, afterR_apply, keepR_apply, zeroR]
  rw [Causal.select_ite]

theorem outR_apply (l : Fin 256) (hl : l = col h d) : outR v z (ix2 p l) = ∑ y, v (ix3 y h d) * z (ix3 h p y) := by
  have := d.isLt
  have e1 : ∀ g, (⟨l.val / 64, g⟩ : Fin 4) = h := fun g => Fin.ext (show l.val / 64 = h.val by rw [hl]; show (h.val * 64 + d.val) / 64 = _; omega)
  have e2 : ∀ g, (⟨l.val % 64, g⟩ : Fin 64) = d := fun g => Fin.ext (show l.val % 64 = d.val by rw [hl]; show (h.val * 64 + d.val) % 64 = _; omega)
  pointwise [outR]
  have e : ∀ (a : Fin 4) (b : Fin 64), a = h → b = d → ∑ y, v (ix3 y a b) * z (ix3 a p y) = ∑ y, v (ix3 y h d) * z (ix3 h p y) := by
    rintro _ _ rfl rfl
    rfl
  exact e _ _ (e1 _) (e2 _)

end Steps

section Result
variable (H : Vec Ideal S8192x3840 .bf16) (h : Fin 4) (p : Fin 8192) (d : Fin 64)

/-- The queries, keys and values by head. -/
def qR : FVec Ideal S8192x4x64 .f32 := headsR (extractStridedSlice S8192x256 ![0, 2944] H slices_S8192x3840_S8192x256_0_2944)
def kR : FVec Ideal S8192x4x64 .f32 := headsR (extractStridedSlice S8192x256 ![0, 3200] H slices_S8192x3840_S8192x256_0_3200)
def vR : FVec Ideal S8192x4x64 .f32 := headsR (extractStridedSlice S8192x256 ![0, 3456] H slices_S8192x3840_S8192x256_0_3456)

/-- The reference's result. -/
def refA : FVec Ideal S8192x256 .f32 := outR (vR H) (shareR (scoreR (qR H) (kR H)))

/-- The columns from `o` on. -/
def colsFrom (o : ℕ) (ho : o + 256 ≤ 3840) (r : Fin 8192) (k : Fin 256) : EReal := H (ix2 r ⟨o + k.val, by have := k.isLt; omega⟩)

theorem qR_apply : qR H (ix3 p h d) = colsFrom H 2944 (by decide) p (col h d) := by
  unfold qR
  rw [headsR_apply]
  pointwise
  rfl

theorem kR_apply : kR H (ix3 p h d) = colsFrom H 3200 (by decide) p (col h d) := by
  unfold kR
  rw [headsR_apply]
  pointwise
  rfl

theorem vR_apply : vR H (ix3 p h d) = colsFrom H 3456 (by decide) p (col h d) := by
  unfold vR
  rw [headsR_apply]
  pointwise
  rfl

theorem refA_apply : refA H (ix2 p (col h d))
    = mixed (colsFrom H 2944 (by decide)) (colsFrom H 3200 (by decide)) (colsFrom H 3456 (by decide)) p (col h d) := by
  unfold refA mixed
  rw [outR_apply _ _ h p d _ rfl, headOf_col]
  refine Finset.sum_congr rfl fun y _ => ?_
  rw [mul_comm, vR_apply, shareR_apply]
  refine congrArg (· * _) (congrArg (fun z => share z p y) (funext fun x => ?_))
  rw [scoreR_apply]
  simp only [qR_apply, kR_apply]
  rfl

/-- What the reference's run states of its result. -/
theorem res_eq (m : (ℓ : Loc nD τ sig) → Buf (Elt Ideal) ℓ) (c : Dev nD) : (res_main_v35 m c : FVec Ideal S8192x256 .f32)
    = refA (m ((c.tc : Thread nD τ).loc main_arg0)) := rfl

end Result

end Cert.Proof.Stick
-- ==== Proof.Stick.Claims.lean ====
/- The claims about the stick-breaking attention's call: its runs, the reference's run, and that their results are equal. -/
module

public import proofs.«01_k».proof.Defs
public import proofs.«01_k».proof.Proof.Gen.Stick
public import proofs.«01_k».proof.Proof.Gen.StickReferenceIdeal
public import proofs.«01_k».proof.Proof.Gen.StickReferenceIdeal.Run
public import proofs.«01_k».proof.Proof.Stick.Value
public import proofs.«01_k».proof.Proof.Stick.Reference

@[expose] public section

noncomputable section

namespace Cert.Proof.Stick

open Idealize.ShloMosaic Idealize.ShloMosaic.TcCoe Idealize.SL Idealize.SL.Sem
open Cert.StickIdeal

/-- The call's body at the bit patterns is the body the run was found for. -/
theorem bodies_eq : Cert.Stick.defs₀ (F := Bits) = Cert.StickIdeal.defs₀ := by
  funext p l a
  match p with
  | .tc =>
    match l, a with
    | ⟨0, _⟩, (_, _) => rfl
  | .scScalar _ => rfl
  | .scVector _ _ => rfl

theorem defs_eq : Cert.Stick.defs (F := Bits) = Cert.StickIdeal.defs := by
  show Pipeline.defs Cert.StickIdeal.pcfgs (Cert.Stick.defs₀ (F := Bits)) = Pipeline.defs Cert.StickIdeal.pcfgs Cert.StickIdeal.defs₀
  rw [bodies_eq]

theorem frame_stick : Cert.quiescent_Stick (hStick := Cert.Stick.Gen.facts) := fun m g _ => by
  have h := Cert.StickIdeal.Gen.frame (F := Bits) m g
  show θ_run (Cert.Stick.defs (F := Bits)) (onTc Cert.StickIdeal.main) _ _
  rw [defs_eq]
  exact h

theorem frame_stickIdeal : Cert.quiescent_StickIdeal (hStickIdeal := Cert.StickIdeal.Gen.facts) := fun m g _ =>
  Cert.StickIdeal.Gen.frame (F := Ideal) m g

theorem frame_stickReferenceIdeal :
    Cert.quiescent_StickReferenceIdeal (hStickReferenceIdeal := StickReferenceIdeal.Gen.facts) := fun m g _ =>
  (θ_run StickReferenceIdeal.defs _ _).mono (fun r h => ⟨fun c => (h c).2, sem_eq_zero_of_no_sems (by decide) r.2⟩)
    (StickReferenceIdeal.Value.run m g)

theorem algebraic_stick : Cert.algebraic_StickIdeal_StickReferenceIdeal (hStickIdeal := Cert.StickIdeal.Gen.facts)
    (hStickReferenceIdeal := StickReferenceIdeal.Gen.facts) := fun m g m' g' _ hm => by
  refine ⟨fun c => outA m c,
    (θ_run Cert.StickIdeal.defs _ _).mono (fun r h c => ?_) (Cert.StickIdeal.Value.run_blocks (F := Ideal) m g),
    (θ_run StickReferenceIdeal.defs _ _).mono (fun r h c => ?_) (StickReferenceIdeal.Value.run m' g')⟩
  · obtain ⟨h0, hk⟩ := h c
    exact ⟨h0.trans (finalA m c), hk⟩
  · obtain ⟨h0, hk⟩ := h c
    rw [res_eq, hm c] at h0
    refine ⟨h0.trans ?_, hk⟩
    funext i
    obtain ⟨r, l, rfl⟩ : ∃ r l, i = ix2 r l := ⟨i 0, i 1, by funext a; fin_cases a <;> rfl⟩
    obtain ⟨h, d, rfl⟩ := col_surj l
    exact refA_apply _ h r d

end Cert.Proof.Stick

end
-- ==== Proof.ConvGrad.Payload.lean ====
/- What one place of each block of the convolution's gradients is. -/
module

public import proofs.«01_k».proof.Proof.Gen.ConvGradIdeal.Skeleton
public import proofs.«01_k».proof.Proof.Conv.Payload
public import Idealize.ShloMosaic.Lib.Pointwise

@[expose] public section

noncomputable section

namespace Cert.Proof.ConvGrad

open Idealize.ShloMosaic
open Cert.Proof.Conv (before ind toInt_pos row_zero row_one select_ite)
open Cert.ConvGradIdeal Cert.ConvGradIdeal.Gen

/-- The value `s` rows after row `r`, zero after the last row. -/
def after (u : Fin 8192 → EReal) (s : ℕ) (r : Fin 8192) : EReal :=
  if h : r.val + s < 8192 then u ⟨r.val + s, h⟩ else 0

/-- The gradient that reaches a column of the gated input at row `r`, from that row's gradient and the next two's. -/
def back (d : Fin 8192 → EReal) (w0 w1 w2 : EReal) (r : Fin 8192) : EReal :=
  w2 * d r + w1 * after d 1 r + w0 * after d 2 r

/-- One at every block but the last, zero there. -/
def ind' (n : ℕ) : EReal := if n < 15 then 1 else 0

theorem toInt_slt : ∀ n : Fin 16, (Scalar.extui (Scalar.cmpi CmpIPredicate.slt (BitVec.ofNat 32 n.val) 15#32) : BitVec 32).toInt
    = if n.val < 15 then 1 else 0 := by
  decide +kernel

theorem row_last : ∀ r : Fin 512, IntOp.cmpi CmpIPredicate.eq (BitVec.ofNat 32 r.val) 511#32 = if r.val = 511 then 1 else 0 := by
  decide +kernel

theorem row_last' : ∀ r : Fin 512, IntOp.cmpi CmpIPredicate.eq (BitVec.ofNat 32 r.val) 510#32 = if r.val = 510 then 1 else 0 := by
  decide +kernel

/-- The row `s` before row `r`, counted round the block. -/
def up (r : Fin 512) (s : ℕ) : Fin 512 := ⟨(r.val + 512 - s) % 512, Nat.mod_lt _ (by decide)⟩

theorem cast_ind (n : Fin 16) : (((if n.val = 0 then 0 else 1 : ℤ) : ℝ) : EReal) = ind n.val := by
  unfold ind
  split <;> simp

theorem cast_ind' (n : Fin 16) : (((if n.val < 15 then 1 else 0 : ℤ) : ℝ) : EReal) = ind' n.val := by
  unfold ind'
  split <;> simp

/-- The gated input, at a place of the block. -/
theorem pay4_apply (v3 v4 : Vec Ideal S512x256 .f32) (r : Fin 512) (l : Fin 256) :
    k0_pay4 v3 v4 (ix2 r l) = v3 (ix2 r l) * v4 (ix2 r l) := by
  pointwise [k0_pay4]

/-- The gated input one row before. -/
theorem pay6_apply (i : grid0.Coords) (v3 v4 : Vec Ideal S512x256 .f32) (v6 v7 : Vec Ideal S8x256 .f32)
    (r : Fin 512) (l : Fin 256) :
    k0_pay6 i v3 v4 v6 v7 (ix2 r l)
      = if r.val = 0 then v6 (ix2 7 l) * v7 (ix2 7 l) * ind (i 0).val
        else v3 (ix2 (up r 1) l) * v4 (ix2 (up r 1) l) := by
  pointwise [k0_pay6, k0_pay5, k0_pay4]
  rw [toInt_pos (i 0), row_zero, select_ite, cast_ind (i 0)]
  rfl

/-- The gated input two rows before. -/
theorem pay7_apply (i : grid0.Coords) (v3 v4 : Vec Ideal S512x256 .f32) (v6 v7 : Vec Ideal S8x256 .f32)
    (r : Fin 512) (l : Fin 256) :
    k0_pay7 i v3 v4 v6 v7 (ix2 r l)
      = if r.val = 0 then v6 (ix2 6 l) * v7 (ix2 6 l) * ind (i 0).val
        else if r.val = 1 then v6 (ix2 7 l) * v7 (ix2 7 l) * ind (i 0).val
        else v3 (ix2 (up r 2) l) * v4 (ix2 (up r 2) l) := by
  pointwise [k0_pay7, k0_pay5, k0_pay4]
  rw [toInt_pos (i 0), row_zero, row_one, select_ite, select_ite, cast_ind (i 0)]
  rfl

/-- The outer gate's gradient. -/
theorem pay8_apply (v5 v21 v34 v49 : Vec Ideal S512x256 .f32) (v35 v36 v37 v46 : Vec Ideal S1x256 .f32)
    (r : Fin 512) (l : Fin 256) :
    (k0_pay8 v5 v21 v34 v35 v36 v37 v46 v49 (ix2 r l) : EReal)
      = v49 (ix2 r l) * (v35 (ix2 0 l) * v34 (ix2 r l) + v36 (ix2 0 l) * v21 (ix2 r l) + v37 (ix2 0 l) * v5 (ix2 r l)
          + v46 (ix2 0 l)) := by
  pointwise [k0_pay8]

theorem pay9_apply (v49 v53 : Vec Ideal S512x256 .f32) (r : Fin 512) (l : Fin 256) :
    k0_pay9 v49 v53 (ix2 r l) = v49 (ix2 r l) * v53 (ix2 r l) := by
  pointwise [k0_pay9]

/-- The convolution's gradient one row after. -/
theorem pay11_apply (n : Fin 16) (v49 v53 : Vec Ideal S512x256 .f32) (v55 v56 : Vec Ideal S8x256 .f32)
    (r : Fin 512) (l : Fin 256) :
    k0_pay11 (BitVec.ofNat 32 n.val) v49 v53 v55 v56 (ix2 r l)
      = if r.val = 511 then v55 (ix2 0 l) * v56 (ix2 0 l) * ind' n.val
        else v49 (ix2 (up r 511) l) * v53 (ix2 (up r 511) l) := by
  pointwise [k0_pay11, k0_pay10, k0_pay9]
  rw [toInt_slt n, row_last, select_ite, cast_ind' n]
  rfl

/-- The gated input's gradient, in the block. -/
theorem pay16_apply (n : Fin 16) (v35 v36 v37 : Vec Ideal S1x256 .f32) (v54 v70 : Vec Ideal S512x256 .f32)
    (v55 v56 : Vec Ideal S8x256 .f32) (r : Fin 512) (l : Fin 256) :
    k0_pay16 v35 v36 v37 v54 v70 k0_pay12 (k0_pay13 (BitVec.ofNat 32 n.val) v55 v56) k0_pay14
        (k0_pay15 (BitVec.ofNat 32 n.val) v55 v56) 510#32 (ix2 r l)
      = v37 (ix2 0 l) * v54 (ix2 r l) + v36 (ix2 0 l) * v70 (ix2 r l)
        + v35 (ix2 0 l) * (if r.val = 510 then v55 (ix2 0 l) * v56 (ix2 0 l) * ind' n.val
            else if r.val = 511 then v55 (ix2 1 l) * v56 (ix2 1 l) * ind' n.val
            else v54 (ix2 (up r 510) l)) := by
  pointwise [k0_pay16, k0_pay12, k0_pay13, k0_pay14, k0_pay15, k0_pay10]
  rw [toInt_slt n, row_last, row_last', select_ite, select_ite, cast_ind' n]
  rfl

/-- The first inner gate's gradient. -/
theorem pay17_apply (v35 v36 v37 : Vec Ideal S1x256 .f32) (v54 v70 v92 : Vec Ideal S512x256 .f32) (v72 v75 : IVec S512x256 1)
    (v73 v76 : Vec Ideal S1x256 .f32) (k : BitVec 32) (r : Fin 512) (l : Fin 256) :
    (k0_pay17 v35 v36 v37 v54 v70 v72 v73 v75 v76 k v92 (ix2 r l) : EReal)
      = k0_pay16 v35 v36 v37 v54 v70 v72 v73 v75 v76 k (ix2 r l) * v92 (ix2 r l) := by
  pointwise [k0_pay17]

/-- The second inner gate's gradient. -/
theorem pay18_apply (v35 v36 v37 : Vec Ideal S1x256 .f32) (v54 v70 v96 : Vec Ideal S512x256 .f32) (v72 v75 : IVec S512x256 1)
    (v73 v76 : Vec Ideal S1x256 .f32) (k : BitVec 32) (r : Fin 512) (l : Fin 256) :
    (k0_pay18 v35 v36 v37 v54 v70 v72 v73 v75 v76 k v96 (ix2 r l) : EReal)
      = k0_pay16 v35 v36 v37 v54 v70 v72 v73 v75 v76 k (ix2 r l) * v96 (ix2 r l) := by
  pointwise [k0_pay18]

/-- The weights' gradients are taken from zero. -/
theorem pay3_apply (q : Fin 8) (l : Fin 256) : (k0_pay3 (F := Ideal) (ix2 q l) : EReal) = 0 := by
  pointwise [k0_pay3]

/-- The first weight's running gradient. -/
theorem pay19_apply (v34 v54 : Vec Ideal S512x256 .f32) (v : Vec Ideal S1x256 .f32) (l : Fin 256) :
    k0_pay19 v34 v54 v (ix2 0 l) = v (ix2 0 l) + ∑ r, v54 (ix2 r l) * v34 (ix2 r l) := by
  pointwise [k0_pay19]

/-- The second weight's. -/
theorem pay20_apply (v21 v54 : Vec Ideal S512x256 .f32) (v : Vec Ideal S1x256 .f32) (l : Fin 256) :
    k0_pay20 v21 v54 v (ix2 0 l) = v (ix2 0 l) + ∑ r, v54 (ix2 r l) * v21 (ix2 r l) := by
  pointwise [k0_pay20]

/-- The third weight's. -/
theorem pay1_apply (v5 v54 : Vec Ideal S512x256 .f32) (v : Vec Ideal S1x256 .f32) (l : Fin 256) :
    k0_pay1 v5 v54 v (ix2 0 l) = v (ix2 0 l) + ∑ r, v54 (ix2 r l) * v5 (ix2 r l) := by
  pointwise [k0_pay1]

/-- The bias's. -/
theorem pay2_apply (v54 : Vec Ideal S512x256 .f32) (v : Vec Ideal S1x256 .f32) (l : Fin 256) :
    k0_pay2 v54 v (ix2 0 l) = v (ix2 0 l) + ∑ r, v54 (ix2 r l) := by
  pointwise [k0_pay2]

end Cert.Proof.ConvGrad

end
-- ==== Proof.ConvGrad.Reference.lean ====
/- What one place of each of the reference's gradients of the convolution is. -/
module

public import proofs.«01_k».proof.Proof.Gen.ConvGradReferenceIdeal.Run
public import proofs.«01_k».proof.Proof.ConvGrad.Payload
public import Idealize.ShloMosaic.Lib.Pointwise

@[expose] public section

noncomputable section

namespace Cert.Proof.ConvGrad

open Idealize.ShloMosaic
open Cert.Proof.Conv (before lane)
open Cert.ConvGradReferenceIdeal Cert.ConvGradReferenceIdeal.Gen Cert.ConvGradReferenceIdeal.Value

variable (x : Vec Ideal S8192x3840 .f32) (w : Vec Ideal S8x256 .f32) (b : Vec Ideal S1x256 .f32) (d : Vec Ideal S8192x256 .f32)

/-- The gated input of column `l`. -/
def inp (l : Fin 256) (r : Fin 8192) : EReal := x (ix2 r (lane 1792 l (by decide))) * x (ix2 r (lane 2048 l (by decide)))

/-- The gradient of the convolution, before the outer gate. -/
def out (l : Fin 256) (r : Fin 8192) : EReal := d (ix2 r l) * x (ix2 r (lane 1536 l (by decide)))

theorem out_eq (l : Fin 256) : out x d l = fun r => x (ix2 r (lane 1536 l (by decide))) * d (ix2 r l) :=
  funext fun _ => mul_comm _ _

/-- A column behind two zeros, read at a row, is the column two rows before. -/
theorem behind_two (u : Fin 8192 → EReal) (r : Fin 8192) :
    (if h : r.val < 2 then 0 else u ⟨r.val - 2, by have := r.isLt; omega⟩) = before u 2 r := by
  unfold before
  by_cases h : r.val < 2
  · rw [dif_pos h, if_neg (by omega)]
  · rw [dif_neg h, if_pos (by omega)]

/-- … and read one row on, the column one row before. -/
theorem behind_one (u : Fin 8192 → EReal) (r : Fin 8192) :
    (if h : 1 + r.val < 2 then 0 else u ⟨1 + r.val - 2, by have := r.isLt; omega⟩) = before u 1 r := by
  unfold before
  by_cases h : 1 + r.val < 2
  · rw [dif_pos h, if_neg (by omega)]
  · rw [dif_neg h, if_pos (by omega)]
    exact congrArg u (Fin.ext (by show 1 + r.val - 2 = r.val - 1; omega))

/-- A weighted column before a zero, read one row on. -/
theorem ahead_one (k : EReal) (u : Fin 8192 → EReal) (r : Fin 8192) :
    (if h : 1 ≤ 2 + r.val ∧ 2 + r.val - 1 < 8192 then k * u ⟨2 + r.val - 1, h.2⟩ else 0) = k * after u 1 r := by
  unfold after
  by_cases h : r.val + 1 < 8192
  · rw [dif_pos (by omega), dif_pos h]
    exact congrArg (k * u ·) (Fin.ext (by show 2 + r.val - 1 = r.val + 1; omega))
  · rw [dif_neg (by omega), dif_neg h, mul_zero]

/-- … and two rows on. -/
theorem ahead_two (k : EReal) (u : Fin 8192 → EReal) (r : Fin 8192) :
    (if h : 2 + r.val < 8192 then k * u ⟨2 + r.val, h⟩ else 0) = k * after u 2 r := by
  unfold after
  by_cases h : r.val + 2 < 8192
  · rw [dif_pos (by omega), dif_pos h]
    exact congrArg (k * u ·) (Fin.ext (by show 2 + r.val = r.val + 2; omega))
  · rw [dif_neg (by omega), dif_neg h, mul_zero]

/-- A sum against the column two rows before leaves out the first two rows. -/
theorem sum_two (g u : Fin 8192 → EReal) :
    ∑ r : Fin 2, g ⟨r.val, by have := r.isLt; omega⟩ * 0
      + ∑ r : Fin 8190, g ⟨2 + r.val, by have := r.isLt; omega⟩ * u ⟨r.val, by have := r.isLt; omega⟩
      = ∑ r, g r * before u 2 r := by
  refine Eq.trans ?_ (Fin.sum_univ_add (a := 2) (b := 8190) fun r => g r * before u 2 r).symm
  refine congrArg₂ (· + ·) (Finset.sum_congr rfl fun r _ => ?_) (Finset.sum_congr rfl fun r _ => ?_)
  · have e : before u 2 (Fin.castAdd 8190 r) = 0 := if_neg (by show ¬2 ≤ r.val; have := r.isLt; omega)
    rw [e]
    rfl
  · have e : before u 2 (Fin.natAdd 2 r) = u ⟨r.val, by have := r.isLt; omega⟩ := by
      unfold before
      rw [if_pos (show 2 ≤ (Fin.natAdd 2 r).val from (by omega : 2 ≤ 2 + r.val))]
      exact congrArg u (Fin.ext (by show 2 + r.val - 2 = r.val; omega))
    rw [e]
    rfl

/-- The outer gate's gradient. -/
theorem ref10 (r : Fin 8192) (l : Fin 256) :
    ((truncf .bf16 (mulf d (addf (addf (addf (mulf (broadcastInDim S8192x256 ![0, 1] bcast_S1x256_S8192x256_0_1 (broadcastInDim S1x256 ![1] bcast_S256_S1x256_1 (shapeCast _ (extractStridedSlice S1x256 ![0, 0] w slices_S8x256_S1x256_0_0) shapeCasts_S1x256_S256))) (extractStridedSlice S8192x256 ![0, 0] (concatenate S8194x256 0 [⟨S2x256, (broadcastInDim S2x256 ![] bcast_S_S2x256 (constant S_ .f32 0x00000000#32))⟩, ⟨S8192x256, (mulf (extractStridedSlice S8192x256 ![0, 1792] x slices_S8192x3840_S8192x256_0_1792) (extractStridedSlice S8192x256 ![0, 2048] x slices_S8192x3840_S8192x256_0_2048))⟩] concatenates_S2x256_S8192x256_S8194x256_d0) slices_S8194x256_S8192x256_0_0)) (mulf (broadcastInDim S8192x256 ![0, 1] bcast_S1x256_S8192x256_0_1 (broadcastInDim S1x256 ![1] bcast_S256_S1x256_1 (shapeCast _ (extractStridedSlice S1x256 ![1, 0] w slices_S8x256_S1x256_1_0) shapeCasts_S1x256_S256))) (extractStridedSlice S8192x256 ![1, 0] (concatenate S8194x256 0 [⟨S2x256, (broadcastInDim S2x256 ![] bcast_S_S2x256 (constant S_ .f32 0x00000000#32))⟩, ⟨S8192x256, (mulf (extractStridedSlice S8192x256 ![0, 1792] x slices_S8192x3840_S8192x256_0_1792) (extractStridedSlice S8192x256 ![0, 2048] x slices_S8192x3840_S8192x256_0_2048))⟩] concatenates_S2x256_S8192x256_S8194x256_d0) slices_S8194x256_S8192x256_1_0))) (mulf (broadcastInDim S8192x256 ![0, 1] bcast_S1x256_S8192x256_0_1 (broadcastInDim S1x256 ![1] bcast_S256_S1x256_1 (shapeCast _ (extractStridedSlice S1x256 ![2, 0] w slices_S8x256_S1x256_2_0) shapeCasts_S1x256_S256))) (extractStridedSlice S8192x256 ![2, 0] (concatenate S8194x256 0 [⟨S2x256, (broadcastInDim S2x256 ![] bcast_S_S2x256 (constant S_ .f32 0x00000000#32))⟩, ⟨S8192x256, (mulf (extractStridedSlice S8192x256 ![0, 1792] x slices_S8192x3840_S8192x256_0_1792) (extractStridedSlice S8192x256 ![0, 2048] x slices_S8192x3840_S8192x256_0_2048))⟩] concatenates_S2x256_S8192x256_S8194x256_d0) slices_S8194x256_S8192x256_2_0))) (broadcastInDim S8192x256 ![0, 1] bcast_S1x256_S8192x256_0_1 (broadcastInDim S1x256 ![1] bcast_S256_S1x256_1 (shapeCast _ b shapeCasts_S1x256_S256))))) bitsLt_bf16_f32 : FVec Ideal S8192x256 .bf16) (ix2 r l) : EReal)
      = d (ix2 r l) * (w (ix2 0 l) * before (inp x l) 2 r + w (ix2 1 l) * before (inp x l) 1 r
          + w (ix2 2 l) * inp x l r + b (ix2 0 l)) := by
  pointwise []
  rw [← behind_two, ← behind_one]
  rfl

/-- The first inner gate's. -/
theorem ref11 (r : Fin 8192) (l : Fin 256) :
    ((truncf .bf16 (mulf (extractStridedSlice S8192x256 ![2, 0] (addf (addf (pad S8194x256 ![2, 0] ![0, 0] ![0, 0] (mulf (broadcastInDim S8192x256 ![0, 1] bcast_S1x256_S8192x256_0_1 (broadcastInDim S1x256 ![1] bcast_S256_S1x256_1 (shapeCast _ (extractStridedSlice S1x256 ![2, 0] w slices_S8x256_S1x256_2_0) shapeCasts_S1x256_S256))) (mulf (extractStridedSlice S8192x256 ![0, 1536] x slices_S8192x3840_S8192x256_0_1536) d)) (constant S_ .f32 0x00000000#32) pads_S8192x256_S8194x256_200_000 h_S_) (pad S8194x256 ![1, 0] ![1, 0] ![0, 0] (mulf (broadcastInDim S8192x256 ![0, 1] bcast_S1x256_S8192x256_0_1 (broadcastInDim S1x256 ![1] bcast_S256_S1x256_1 (shapeCast _ (extractStridedSlice S1x256 ![1, 0] w slices_S8x256_S1x256_1_0) shapeCasts_S1x256_S256))) (mulf (extractStridedSlice S8192x256 ![0, 1536] x slices_S8192x3840_S8192x256_0_1536) d)) (constant S_ .f32 0x00000000#32) pads_S8192x256_S8194x256_110_000 h_S_)) (pad S8194x256 ![0, 0] ![2, 0] ![0, 0] (mulf (broadcastInDim S8192x256 ![0, 1] bcast_S1x256_S8192x256_0_1 (broadcastInDim S1x256 ![1] bcast_S256_S1x256_1 (shapeCast _ (extractStridedSlice S1x256 ![0, 0] w slices_S8x256_S1x256_0_0) shapeCasts_S1x256_S256))) (mulf (extractStridedSlice S8192x256 ![0, 1536] x slices_S8192x3840_S8192x256_0_1536) d)) (constant S_ .f32 0x00000000#32) pads_S8192x256_S8194x256_020_000 h_S_)) slices_S8194x256_S8192x256_2_0) (extractStridedSlice S8192x256 ![0, 2048] x slices_S8192x3840_S8192x256_0_2048)) bitsLt_bf16_f32 : FVec Ideal S8192x256 .bf16) (ix2 r l) : EReal)
      = back (out x d l) (w (ix2 0 l)) (w (ix2 1 l)) (w (ix2 2 l)) r * x (ix2 r (lane 2048 l (by decide))) := by
  pointwise []
  unfold back
  rw [← ahead_one, ← ahead_two, out_eq]
  rfl

/-- The second inner gate's. -/
theorem ref12 (r : Fin 8192) (l : Fin 256) :
    ((truncf .bf16 (mulf (extractStridedSlice S8192x256 ![0, 1792] x slices_S8192x3840_S8192x256_0_1792) (extractStridedSlice S8192x256 ![2, 0] (addf (addf (pad S8194x256 ![2, 0] ![0, 0] ![0, 0] (mulf (broadcastInDim S8192x256 ![0, 1] bcast_S1x256_S8192x256_0_1 (broadcastInDim S1x256 ![1] bcast_S256_S1x256_1 (shapeCast _ (extractStridedSlice S1x256 ![2, 0] w slices_S8x256_S1x256_2_0) shapeCasts_S1x256_S256))) (mulf (extractStridedSlice S8192x256 ![0, 1536] x slices_S8192x3840_S8192x256_0_1536) d)) (constant S_ .f32 0x00000000#32) pads_S8192x256_S8194x256_200_000 h_S_) (pad S8194x256 ![1, 0] ![1, 0] ![0, 0] (mulf (broadcastInDim S8192x256 ![0, 1] bcast_S1x256_S8192x256_0_1 (broadcastInDim S1x256 ![1] bcast_S256_S1x256_1 (shapeCast _ (extractStridedSlice S1x256 ![1, 0] w slices_S8x256_S1x256_1_0) shapeCasts_S1x256_S256))) (mulf (extractStridedSlice S8192x256 ![0, 1536] x slices_S8192x3840_S8192x256_0_1536) d)) (constant S_ .f32 0x00000000#32) pads_S8192x256_S8194x256_110_000 h_S_)) (pad S8194x256 ![0, 0] ![2, 0] ![0, 0] (mulf (broadcastInDim S8192x256 ![0, 1] bcast_S1x256_S8192x256_0_1 (broadcastInDim S1x256 ![1] bcast_S256_S1x256_1 (shapeCast _ (extractStridedSlice S1x256 ![0, 0] w slices_S8x256_S1x256_0_0) shapeCasts_S1x256_S256))) (mulf (extractStridedSlice S8192x256 ![0, 1536] x slices_S8192x3840_S8192x256_0_1536) d)) (constant S_ .f32 0x00000000#32) pads_S8192x256_S8194x256_020_000 h_S_)) slices_S8194x256_S8192x256_2_0)) bitsLt_bf16_f32 : FVec Ideal S8192x256 .bf16) (ix2 r l) : EReal)
      = back (out x d l) (w (ix2 0 l)) (w (ix2 1 l)) (w (ix2 2 l)) r * x (ix2 r (lane 1792 l (by decide))) := by
  rw [mul_comm]
  pointwise []
  unfold back
  rw [← ahead_one, ← ahead_two, out_eq]
  rfl

/-- The weights' gradients: three rows for the weights, one for the bias, and four of zeros. -/
theorem ref13 (q : Fin 8) (l : Fin 256) :
    ((pad S8x256 ![0, 0] ![4, 0] ![0, 0] ((concatenate S4x256 0 [⟨S1x256, ((broadcastInDim S1x256 ![1] bcast_S256_S1x256_1 (Host.reduceAdd (shapeCast _ (Host.reduceAdd (mulf (mulf (extractStridedSlice S8192x256 ![0, 1536] x slices_S8192x3840_S8192x256_0_1536) d) (extractStridedSlice S8192x256 ![0, 0] (concatenate S8194x256 0 [⟨S2x256, (broadcastInDim S2x256 ![] bcast_S_S2x256 (constant S_ .f32 0x00000000#32))⟩, ⟨S8192x256, (mulf (extractStridedSlice S8192x256 ![0, 1792] x slices_S8192x3840_S8192x256_0_1792) (extractStridedSlice S8192x256 ![0, 2048] x slices_S8192x3840_S8192x256_0_2048))⟩] concatenates_S2x256_S8192x256_S8194x256_d0) slices_S8194x256_S8192x256_0_0)) (constant S_ .f32 0x00000000#32) reducesTo_S8192x256_S256_d0 h_S_) shapeCasts_S256_S1x256) (constant S_ .f32 0x00000000#32) reducesTo_S1x256_S256_d0 h_S_)) : FVec Ideal S1x256 .f32)⟩, ⟨S1x256, ((broadcastInDim S1x256 ![1] bcast_S256_S1x256_1 (Host.reduceAdd (shapeCast _ (Host.reduceAdd (mulf (mulf (extractStridedSlice S8192x256 ![0, 1536] x slices_S8192x3840_S8192x256_0_1536) d) (extractStridedSlice S8192x256 ![1, 0] (concatenate S8194x256 0 [⟨S2x256, (broadcastInDim S2x256 ![] bcast_S_S2x256 (constant S_ .f32 0x00000000#32))⟩, ⟨S8192x256, (mulf (extractStridedSlice S8192x256 ![0, 1792] x slices_S8192x3840_S8192x256_0_1792) (extractStridedSlice S8192x256 ![0, 2048] x slices_S8192x3840_S8192x256_0_2048))⟩] concatenates_S2x256_S8192x256_S8194x256_d0) slices_S8194x256_S8192x256_1_0)) (constant S_ .f32 0x00000000#32) reducesTo_S8192x256_S256_d0 h_S_) shapeCasts_S256_S1x256) (constant S_ .f32 0x00000000#32) reducesTo_S1x256_S256_d0 h_S_)) : FVec Ideal S1x256 .f32)⟩, ⟨S1x256, ((broadcastInDim S1x256 ![1] bcast_S256_S1x256_1 (Host.reduceAdd (shapeCast _ (Host.reduceAdd (mulf (mulf (extractStridedSlice S8192x256 ![0, 1536] x slices_S8192x3840_S8192x256_0_1536) d) (extractStridedSlice S8192x256 ![2, 0] (concatenate S8194x256 0 [⟨S2x256, (broadcastInDim S2x256 ![] bcast_S_S2x256 (constant S_ .f32 0x00000000#32))⟩, ⟨S8192x256, (mulf (extractStridedSlice S8192x256 ![0, 1792] x slices_S8192x3840_S8192x256_0_1792) (extractStridedSlice S8192x256 ![0, 2048] x slices_S8192x3840_S8192x256_0_2048))⟩] concatenates_S2x256_S8192x256_S8194x256_d0) slices_S8194x256_S8192x256_2_0)) (constant S_ .f32 0x00000000#32) reducesTo_S8192x256_S256_d0 h_S_) shapeCasts_S256_S1x256) (constant S_ .f32 0x00000000#32) reducesTo_S1x256_S256_d0 h_S_)) : FVec Ideal S1x256 .f32)⟩, ⟨S1x256, ((broadcastInDim S1x256 ![1] bcast_S256_S1x256_1 (Host.reduceAdd (shapeCast _ (Host.reduceAdd (mulf (extractStridedSlice S8192x256 ![0, 1536] x slices_S8192x3840_S8192x256_0_1536) d) (constant S_ .f32 0x00000000#32) reducesTo_S8192x256_S256_d0 h_S_) shapeCasts_S256_S1x256) (constant S_ .f32 0x00000000#32) reducesTo_S1x256_S256_d0 h_S_)) : FVec Ideal S1x256 .f32)⟩] concatenates_S1x256_S1x256_S1x256_S1x256_S4x256_d0 : FVec Ideal S4x256 .f32)) (sitofp .f32 (constantI S_ 32 0#32)) pads_S4x256_S8x256_040_000 h_S_ : FVec Ideal S8x256 .f32) (ix2 q l) : EReal)
      = ∑ r, (if q = 3 then out x d l r else if q = 2 then out x d l r * inp x l r
          else if q = 1 then out x d l r * before (inp x l) 1 r
          else if q = 0 then out x d l r * before (inp x l) 2 r else 0) := by
  pointwise []
  simp only [Fin.ext_iff]
  by_cases h4 : q.val < 4
  · rw [dif_pos h4]
    by_cases h0 : q.val = 0
    · rw [dif_pos (by omega)]
      simp only [if_neg (show ¬q.val = ((3 : Fin 8) : ℕ) by simp; omega), if_neg (show ¬q.val = ((2 : Fin 8) : ℕ) by simp; omega),
        if_neg (show ¬q.val = ((1 : Fin 8) : ℕ) by simp; omega), if_pos (show q.val = ((0 : Fin 8) : ℕ) by simp; omega)]
      rw [Fin.sum_univ_one, ← sum_two, out_eq]
      rfl
    rw [dif_neg (by omega)]
    by_cases h1 : q.val = 1
    · rw [dif_pos (by omega)]
      simp only [if_neg (show ¬q.val = ((3 : Fin 8) : ℕ) by simp; omega), if_neg (show ¬q.val = ((2 : Fin 8) : ℕ) by simp; omega),
        if_pos (show q.val = ((1 : Fin 8) : ℕ) by simp; omega)]
      simp only [← behind_one]
      rw [Fin.sum_univ_one, out_eq]
      rfl
    rw [dif_neg (by omega)]
    by_cases h2 : q.val = 2
    · rw [dif_pos (by omega)]
      simp only [if_neg (show ¬q.val = ((3 : Fin 8) : ℕ) by simp; omega), if_pos (show q.val = ((2 : Fin 8) : ℕ) by simp; omega)]
      rw [Fin.sum_univ_one, out_eq]
      rfl
    rw [dif_neg (by omega)]
    simp only [if_pos (show q.val = ((3 : Fin 8) : ℕ) by simp; omega)]
    rw [Fin.sum_univ_one, out_eq]
    rfl
  · rw [dif_neg h4]
    simp only [if_neg (show ¬q.val = ((3 : Fin 8) : ℕ) by simp; omega), if_neg (show ¬q.val = ((2 : Fin 8) : ℕ) by simp; omega),
      if_neg (show ¬q.val = ((1 : Fin 8) : ℕ) by simp; omega), if_neg (show ¬q.val = ((0 : Fin 8) : ℕ) by simp; omega)]
    rw [Finset.sum_const_zero]
    exact Cert.Proof.Conv.pad_zero

end Cert.Proof.ConvGrad

end
-- ==== Proof.ConvGrad.Value.lean ====
/- The arrays the convolution's gradients' call leaves: every column of the three gates' gradients at every row, and the
   weights' gradients summed over all the rows, block after block. -/
module

public import proofs.«01_k».proof.Proof.Gen.ConvGradIdeal.Value
public import proofs.«01_k».proof.Proof.ConvGrad.Payload
public import Idealize.ShloMosaic.Lib.Pipeline.ValueKit
public import Idealize.ShloMosaic.Lib.Pipeline.ReadBack
public import Idealize.ShloMosaic.Lib.WritesUnit

@[expose] public section

noncomputable section

namespace Cert.Proof.ConvGrad

open Idealize.ShloMosaic Idealize.ShloMosaic.TcCoe Idealize.SL Idealize.SL.Sem
open Cert.Proof.Conv (before ind lane)
open Cert.ConvGradIdeal Cert.ConvGradIdeal.Gen Cert.ConvGradIdeal.Value

variable (m : (ℓ : Loc nD τ sig) → Buf (Elt Ideal) ℓ) (c : Dev nD)

/-- The projection. -/
def hid (r : Fin 8192) (j : Fin 3840) : EReal :=
  (m ((c : Thread nD τ).loc main_arg0) : Vec Ideal S8192x3840 .f32) (ix2 r j)
/-- The convolution's weights. -/
def tap (k : Fin 8) (l : Fin 256) : EReal := (m ((c : Thread nD τ).loc main_arg1) : Vec Ideal S8x256 .f32) (ix2 k l)
/-- The convolution's bias. -/
def bias (l : Fin 256) : EReal := (m ((c : Thread nD τ).loc main_arg2) : Vec Ideal S1x256 .f32) (ix2 0 l)
/-- The result's gradient. -/
def grad (r : Fin 8192) (l : Fin 256) : EReal := (m ((c : Thread nD τ).loc main_arg3) : Vec Ideal S8192x256 .f32) (ix2 r l)

/-- The gated input of column `l`. -/
def gated (l : Fin 256) (r : Fin 8192) : EReal :=
  hid m c r (lane 1792 l (by decide)) * hid m c r (lane 2048 l (by decide))

/-- The gradient of the convolution, before the outer gate. -/
def inner (l : Fin 256) (r : Fin 8192) : EReal := grad m c r l * hid m c r (lane 1536 l (by decide))

/-- The outer gate's gradient. -/
def outers : Vec Ideal S8192x256 .bf16 := fun i =>
  grad m c (i 0) (i 1) * (tap m c 0 (i 1) * before (gated m c (i 1)) 2 (i 0) + tap m c 1 (i 1) * before (gated m c (i 1)) 1 (i 0)
    + tap m c 2 (i 1) * gated m c (i 1) (i 0) + bias m c (i 1))

/-- The gated input's gradient. -/
def backs (l : Fin 256) (r : Fin 8192) : EReal := back (inner m c l) (tap m c 0 l) (tap m c 1 l) (tap m c 2 l) r

/-- The first inner gate's gradient. -/
def firsts : Vec Ideal S8192x256 .bf16 := fun i => backs m c (i 1) (i 0) * hid m c (i 0) (lane 2048 (i 1) (by decide))

/-- The second inner gate's gradient. -/
def seconds : Vec Ideal S8192x256 .bf16 := fun i => backs m c (i 1) (i 0) * hid m c (i 0) (lane 1792 (i 1) (by decide))

/-- What row `r` adds to place `(q, l)` of the weights' gradients: the three weights' rows, the bias's, and four rows of
    zeros. -/
def add (q : Fin 8) (l : Fin 256) (r : Fin 8192) : EReal :=
  if q = 3 then inner m c l r
  else if q = 2 then inner m c l r * gated m c l r
  else if q = 1 then inner m c l r * before (gated m c l) 1 r
  else if q = 0 then inner m c l r * before (gated m c l) 2 r
  else 0

/-- The weights' gradients. -/
def wgts : Vec Ideal S8x256 .f32 := fun i => ∑ r, add m c (i 0) (i 1) r

theorem ix0 : ∀ t : Fin cfg0.N, win0_0.index t = ![t.val, 6] := (by decide +kernel : ∀ t : Fin grid0.N, _)
theorem ix1 : ∀ t : Fin cfg0.N, win0_1.index t = ![t.val, 7] := (by decide +kernel : ∀ t : Fin grid0.N, _)
theorem ix2' : ∀ t : Fin cfg0.N, win0_2.index t = ![t.val, 8] := (by decide +kernel : ∀ t : Fin grid0.N, _)
theorem ix3 : ∀ t : Fin cfg0.N, win0_3.index t = ![t.val * 64 - 1, 7] := (by decide +kernel : ∀ t : Fin grid0.N, _)
theorem ix4 : ∀ t : Fin cfg0.N, win0_4.index t = ![t.val * 64 - 1, 8] := (by decide +kernel : ∀ t : Fin grid0.N, _)
theorem ix5 : ∀ t : Fin cfg0.N, win0_5.index t = ![min (t.val * 64 + 64) 1023, 6] :=
  (by decide +kernel : ∀ t : Fin grid0.N, _)
theorem ix6 : ∀ t : Fin cfg0.N, win0_6.index t = ![t.val, 0] := (by decide +kernel : ∀ t : Fin grid0.N, _)
theorem ix7 : ∀ t : Fin cfg0.N, win0_7.index t = ![min (t.val * 64 + 64) 1023, 0] :=
  (by decide +kernel : ∀ t : Fin grid0.N, _)
theorem ix8 : ∀ t : Fin cfg0.N, win0_8.index t = ![0, 0] := (by decide +kernel : ∀ t : Fin grid0.N, _)
theorem ix9 : ∀ t : Fin cfg0.N, win0_9.index t = ![0, 0] := (by decide +kernel : ∀ t : Fin grid0.N, _)
theorem ix10 : ∀ t : Fin cfg0.N, win0_10.index t = ![t.val, 0] := (by decide +kernel : ∀ t : Fin grid0.N, _)
theorem ix11 : ∀ t : Fin cfg0.N, win0_11.index t = ![t.val, 0] := (by decide +kernel : ∀ t : Fin grid0.N, _)
theorem ix12 : ∀ t : Fin cfg0.N, win0_12.index t = ![t.val, 0] := (by decide +kernel : ∀ t : Fin grid0.N, _)
theorem ix13 : ∀ t : Fin cfg0.N, win0_13.index t = ![0, 0] := (by decide +kernel : ∀ t : Fin grid0.N, _)
theorem coord : ∀ t : Fin cfg0.N, (grid0.coords t 0).val = t.val := (by decide +kernel : ∀ t : Fin grid0.N, _)

/-- The row of the arrays that is row `r` of block `t`. -/
def at_ (t : Fin cfg0.N) (r : Fin 512) : Fin 8192 :=
  ⟨t.val * 512 + r.val, by have h : t.val < 16 := t.isLt; have := r.isLt; omega⟩

/-- The row of the arrays that is row `q` of the halo before block `t`. -/
def halo (t : Fin cfg0.N) (q : Fin 8) : Fin 8192 :=
  ⟨(t.val * 64 - 1) * 8 + q.val, by have h : t.val < 16 := t.isLt; have := q.isLt; omega⟩

/-- The row of the arrays that is row `q` of the halo after block `t`. -/
def halo' (t : Fin cfg0.N) (q : Fin 8) : Fin 8192 :=
  ⟨min (t.val * 64 + 64) 1023 * 8 + q.val, by have h : t.val < 16 := t.isLt; have := q.isLt; omega⟩

theorem blk0 (t : Fin cfg0.N) (r : Fin 512) (l : Fin 256) :
    (iblk m c 0 t : Vec Ideal S512x256 .f32) (ix2 r l) = hid m c (at_ t r) (lane 1536 l (by decide)) := by
  blk_simp [iblk]
  refine congrArg (m ((c : Thread nD τ).loc main_arg0)) ?_
  blk_ext [ix0, at_, lane]

theorem blk1 (t : Fin cfg0.N) (r : Fin 512) (l : Fin 256) :
    (iblk m c 1 t : Vec Ideal S512x256 .f32) (ix2 r l) = hid m c (at_ t r) (lane 1792 l (by decide)) := by
  blk_simp [iblk]
  refine congrArg (m ((c : Thread nD τ).loc main_arg0)) ?_
  blk_ext [ix1, at_, lane]

theorem blk2 (t : Fin cfg0.N) (r : Fin 512) (l : Fin 256) :
    (iblk m c 2 t : Vec Ideal S512x256 .f32) (ix2 r l) = hid m c (at_ t r) (lane 2048 l (by decide)) := by
  blk_simp [iblk]
  refine congrArg (m ((c : Thread nD τ).loc main_arg0)) ?_
  blk_ext [ix2', at_, lane]

theorem blk3 (t : Fin cfg0.N) (q : Fin 8) (l : Fin 256) :
    (iblk m c 3 t : Vec Ideal S8x256 .f32) (ix2 q l) = hid m c (halo t q) (lane 1792 l (by decide)) := by
  blk_simp [iblk]
  refine congrArg (m ((c : Thread nD τ).loc main_arg0)) ?_
  blk_ext [ix3, halo, lane]

theorem blk4 (t : Fin cfg0.N) (q : Fin 8) (l : Fin 256) :
    (iblk m c 4 t : Vec Ideal S8x256 .f32) (ix2 q l) = hid m c (halo t q) (lane 2048 l (by decide)) := by
  blk_simp [iblk]
  refine congrArg (m ((c : Thread nD τ).loc main_arg0)) ?_
  blk_ext [ix4, halo, lane]

theorem blk5 (t : Fin cfg0.N) (q : Fin 8) (l : Fin 256) :
    (iblk m c 5 t : Vec Ideal S8x256 .f32) (ix2 q l) = hid m c (halo' t q) (lane 1536 l (by decide)) := by
  blk_simp [iblk]
  refine congrArg (m ((c : Thread nD τ).loc main_arg0)) ?_
  blk_ext [ix5, halo', lane]

theorem blk6 (t : Fin cfg0.N) (r : Fin 512) (l : Fin 256) :
    (iblk m c 6 t : Vec Ideal S512x256 .f32) (ix2 r l) = grad m c (at_ t r) l := by
  blk_simp [iblk]
  refine congrArg (m ((c : Thread nD τ).loc main_arg3)) ?_
  blk_ext [ix6, at_]

theorem blk7 (t : Fin cfg0.N) (q : Fin 8) (l : Fin 256) :
    (iblk m c 7 t : Vec Ideal S8x256 .f32) (ix2 q l) = grad m c (halo' t q) l := by
  blk_simp [iblk]
  refine congrArg (m ((c : Thread nD τ).loc main_arg3)) ?_
  blk_ext [ix7, halo']

theorem blk8 (t : Fin cfg0.N) (q : Fin 8) (l : Fin 256) :
    (iblk m c 8 t : Vec Ideal S8x256 .f32) (ix2 q l) = tap m c q l := by
  blk_simp [iblk]
  refine congrArg (m ((c : Thread nD τ).loc main_arg1)) ?_
  blk_ext [ix8]

theorem blk9 (t : Fin cfg0.N) (l : Fin 256) : (iblk m c 9 t : Vec Ideal S1x256 .f32) (ix2 0 l) = bias m c l := by
  blk_simp [iblk]
  refine congrArg (m ((c : Thread nD τ).loc main_arg2)) ?_
  blk_ext [ix9]

/-- One row of an eight-row array, loaded by itself. -/
theorem ld_row (X : Vec Ideal S8x256 .f32) (k : ℕ) (hk : k < 8) (inb : ∀ a : Fin S8x256.rank, (![k, 0] : Fin 2 → ℕ) a + (![1, 256] : Fin 2 → ℕ) a ≤ S8x256.size a) (l : Fin 256) :
    (View.ld X (Rect.unit (s := S8x256) ![k, 0] ![1, 256] inb) : Vec Ideal S1x256 .f32) (ix2 0 l) = X (ix2 ⟨k, hk⟩ l) := by
  refine congrArg X ?_
  funext a
  fin_cases a
  · exact Fin.ext (show k + 1 * 0 = k by omega)
  · exact Fin.ext (show 0 + 1 * l.val = l.val by omega)

/-- A column `s` rows before row `r` of block `t`, for a row that has it in the block. -/
theorem before_in (u : Fin 8192 → EReal) (s : ℕ) (t : Fin cfg0.N) (r : Fin 512) (h : s ≤ r.val) (hs : 0 < s) :
    u (at_ t (up r s)) = before u s (at_ t r) := by
  have hr := r.isLt
  unfold before
  rw [if_pos (show s ≤ (at_ t r).val from (by omega : s ≤ t.val * 512 + r.val))]
  refine congrArg u (Fin.ext ?_)
  show t.val * 512 + (r.val + 512 - s) % 512 = t.val * 512 + r.val - s
  have : (r.val + 512 - s) % 512 = r.val - s := by omega
  omega

/-- … and for a row that has it in the halo. -/
theorem before_out (u : Fin 8192 → EReal) (s : ℕ) (t : Fin cfg0.N) (r : Fin 512) (q : Fin 8) (h : q.val + s = 8 + r.val)
    (hs : r.val < s) (hs' : s < 8) : u (halo t q) * ind t.val = before u s (at_ t r) := by
  have hq := q.isLt
  unfold before ind
  by_cases h0 : t.val = 0
  · rw [if_pos h0, mul_zero, if_neg (show ¬s ≤ (at_ t r).val from (by omega : ¬s ≤ t.val * 512 + r.val))]
  · rw [if_neg h0, mul_one, if_pos (show s ≤ (at_ t r).val from (by omega : s ≤ t.val * 512 + r.val))]
    refine congrArg u (Fin.ext ?_)
    show (t.val * 64 - 1) * 8 + q.val = t.val * 512 + r.val - s
    omega

/-- A column `s` rows after row `r` of block `t`, for a row that has it in the block. -/
theorem after_in (u : Fin 8192 → EReal) (s : ℕ) (t : Fin cfg0.N) (r : Fin 512) (h : r.val + s < 512) (hs : 0 < s) :
    u (at_ t (up r (512 - s))) = after u s (at_ t r) := by
  have ht : t.val < 16 := t.isLt
  unfold after
  rw [dif_pos (show (at_ t r).val + s < 8192 from (by omega : t.val * 512 + r.val + s < 8192))]
  refine congrArg u (Fin.ext ?_)
  show t.val * 512 + (r.val + 512 - (512 - s)) % 512 = t.val * 512 + r.val + s
  have : (r.val + 512 - (512 - s)) % 512 = r.val + s := by omega
  omega

/-- … and for a row that has it in the halo. -/
theorem after_out (u : Fin 8192 → EReal) (s : ℕ) (t : Fin cfg0.N) (r : Fin 512) (q : Fin 8) (h : r.val + s = 512 + q.val) :
    u (halo' t q) * ind' t.val = after u s (at_ t r) := by
  have hq := q.isLt
  have ht : t.val < 16 := t.isLt
  unfold after ind'
  by_cases h0 : t.val < 15
  · rw [if_pos h0, mul_one, dif_pos (show (at_ t r).val + s < 8192 from (by omega : t.val * 512 + r.val + s < 8192))]
    refine congrArg u (Fin.ext ?_)
    show min (t.val * 64 + 64) 1023 * 8 + q.val = t.val * 512 + r.val + s
    omega
  · rw [if_neg h0, mul_zero, dif_neg (show ¬(at_ t r).val + s < 8192 from (by omega : ¬t.val * 512 + r.val + s < 8192))]

/-- The gated input in block `t`, in the arrays. -/
theorem here (t : Fin cfg0.N) (r : Fin 512) (l : Fin 256) :
    k0_pay4 (iblk m c 1 t) (iblk m c 2 t) (ix2 r l) = gated m c l (at_ t r) := by
  refine (pay4_apply ..).trans ?_
  rw [blk1, blk2]
  rfl

/-- … one row before. -/
theorem earlier1 (t : Fin cfg0.N) (r : Fin 512) (l : Fin 256) :
    k0_pay6 (grid0.coords t) (iblk m c 1 t) (iblk m c 2 t) (iblk m c 3 t) (iblk m c 4 t) (ix2 r l)
      = before (gated m c l) 1 (at_ t r) := by
  refine (pay6_apply ..).trans ?_
  simp only [blk1, blk2, blk3, blk4, coord]
  split
  · exact before_out (gated m c l) 1 t r 7 (by simp; omega) (by omega) (by decide)
  · exact before_in (gated m c l) 1 t r (by omega) (by decide)

/-- … two rows before. -/
theorem earlier2 (t : Fin cfg0.N) (r : Fin 512) (l : Fin 256) :
    k0_pay7 (grid0.coords t) (iblk m c 1 t) (iblk m c 2 t) (iblk m c 3 t) (iblk m c 4 t) (ix2 r l)
      = before (gated m c l) 2 (at_ t r) := by
  refine (pay7_apply ..).trans ?_
  simp only [blk1, blk2, blk3, blk4, coord]
  split
  · exact before_out (gated m c l) 2 t r 6 (by simp; omega) (by omega) (by decide)
  · split
    · exact before_out (gated m c l) 2 t r 7 (by simp; omega) (by omega) (by decide)
    · exact before_in (gated m c l) 2 t r (by omega) (by decide)

/-- The convolution's gradient in block `t`, in the arrays. -/
theorem there (t : Fin cfg0.N) (r : Fin 512) (l : Fin 256) :
    k0_pay9 (iblk m c 6 t) (iblk m c 0 t) (ix2 r l) = inner m c l (at_ t r) := by
  refine (pay9_apply ..).trans ?_
  rw [blk6, blk0]
  rfl

/-- … one row after. -/
theorem later1 (t : Fin cfg0.N) (r : Fin 512) (l : Fin 256) :
    k0_pay11 (BitVec.ofNat 32 (grid0.coords t 0).val) (iblk m c 6 t) (iblk m c 0 t) (iblk m c 7 t) (iblk m c 5 t) (ix2 r l)
      = after (inner m c l) 1 (at_ t r) := by
  have hr := r.isLt
  refine (pay11_apply (grid0.coords t 0) _ _ _ _ r l).trans ?_
  simp only [blk6, blk0, blk7, blk5, coord]
  split
  · exact after_out (inner m c l) 1 t r 0 (by simp; omega)
  · exact after_in (inner m c l) 1 t r (by omega) (by decide)

/-- The gated input's gradient in block `t`, in the arrays. -/
theorem backward (t : Fin cfg0.N) (r : Fin 512) (l : Fin 256) (v35 v36 v37 : Vec Ideal S1x256 .f32)
    (h0 : v35 (ix2 0 l) = tap m c 0 l) (h1 : v36 (ix2 0 l) = tap m c 1 l) (h2 : v37 (ix2 0 l) = tap m c 2 l) :
    k0_pay16 v35 v36 v37 (k0_pay9 (iblk m c 6 t) (iblk m c 0 t))
        (k0_pay11 (BitVec.ofNat 32 (grid0.coords t 0).val) (iblk m c 6 t) (iblk m c 0 t) (iblk m c 7 t) (iblk m c 5 t))
        k0_pay12 (k0_pay13 (BitVec.ofNat 32 (grid0.coords t 0).val) (iblk m c 7 t) (iblk m c 5 t)) k0_pay14
        (k0_pay15 (BitVec.ofNat 32 (grid0.coords t 0).val) (iblk m c 7 t) (iblk m c 5 t)) 510#32 (ix2 r l)
      = backs m c l (at_ t r) := by
  have hr := r.isLt
  refine (pay16_apply (grid0.coords t 0) _ _ _ _ _ _ _ r l).trans ?_
  rw [later1, h0, h1, h2]
  simp only [there, blk7, blk5, coord]
  unfold backs back
  congr 2
  split
  · exact after_out (inner m c l) 2 t r 0 (by simp; omega)
  · split
    · exact after_out (inner m c l) 2 t r 1 (by simp; omega)
    · exact after_in (inner m c l) 2 t r (by omega) (by decide)

/-- What a point leaves in the outer gate's block, first point or later. -/
theorem left10 (t : Fin cfg0.N) :
    (outsAt0 m c t.val t.isLt).1
      = k0_pay8 (k0_pay4 (iblk m c 1 t) (iblk m c 2 t))
          (k0_pay6 (grid0.coords t) (iblk m c 1 t) (iblk m c 2 t) (iblk m c 3 t) (iblk m c 4 t))
          (k0_pay7 (grid0.coords t) (iblk m c 1 t) (iblk m c 2 t) (iblk m c 3 t) (iblk m c 4 t))
          (View.ld (iblk m c 8 t) (Rect.unit ![0, 0] ![1, 256] inb_S8x256_S1x256_0_0))
          (View.ld (iblk m c 8 t) (Rect.unit ![1, 0] ![1, 256] inb_S8x256_S1x256_1_0))
          (View.ld (iblk m c 8 t) (Rect.unit ![2, 0] ![1, 256] inb_S8x256_S1x256_2_0))
          (iblk m c 9 t) (iblk m c 6 t) := by
  by_cases h : t.val % 16 = 0
  · rw [outsAt0_A m c t h]; dsimp only; frame_out; rfl
  · rw [outsAt0_B m c t h]; dsimp only; frame_out; rfl

/-- … in the first inner gate's. -/
theorem left11 (t : Fin cfg0.N) :
    (outsAt0 m c t.val t.isLt).2.1
      = k0_pay17 (View.ld (iblk m c 8 t) (Rect.unit ![0, 0] ![1, 256] inb_S8x256_S1x256_0_0))
          (View.ld (iblk m c 8 t) (Rect.unit ![1, 0] ![1, 256] inb_S8x256_S1x256_1_0))
          (View.ld (iblk m c 8 t) (Rect.unit ![2, 0] ![1, 256] inb_S8x256_S1x256_2_0))
          (k0_pay9 (iblk m c 6 t) (iblk m c 0 t))
          (k0_pay11 (BitVec.ofNat 32 (grid0.coords t 0).val) (iblk m c 6 t) (iblk m c 0 t) (iblk m c 7 t) (iblk m c 5 t))
          k0_pay12 (k0_pay13 (BitVec.ofNat 32 (grid0.coords t 0).val) (iblk m c 7 t) (iblk m c 5 t)) k0_pay14
          (k0_pay15 (BitVec.ofNat 32 (grid0.coords t 0).val) (iblk m c 7 t) (iblk m c 5 t)) 510#32 (iblk m c 2 t) := by
  by_cases h : t.val % 16 = 0
  · rw [outsAt0_A m c t h]; dsimp only; frame_out; rfl
  · rw [outsAt0_B m c t h]; dsimp only; frame_out; rfl

/-- … in the second inner gate's. -/
theorem left12 (t : Fin cfg0.N) :
    (outsAt0 m c t.val t.isLt).2.2.1
      = k0_pay18 (View.ld (iblk m c 8 t) (Rect.unit ![0, 0] ![1, 256] inb_S8x256_S1x256_0_0))
          (View.ld (iblk m c 8 t) (Rect.unit ![1, 0] ![1, 256] inb_S8x256_S1x256_1_0))
          (View.ld (iblk m c 8 t) (Rect.unit ![2, 0] ![1, 256] inb_S8x256_S1x256_2_0))
          (k0_pay9 (iblk m c 6 t) (iblk m c 0 t))
          (k0_pay11 (BitVec.ofNat 32 (grid0.coords t 0).val) (iblk m c 6 t) (iblk m c 0 t) (iblk m c 7 t) (iblk m c 5 t))
          k0_pay12 (k0_pay13 (BitVec.ofNat 32 (grid0.coords t 0).val) (iblk m c 7 t) (iblk m c 5 t)) k0_pay14
          (k0_pay15 (BitVec.ofNat 32 (grid0.coords t 0).val) (iblk m c 7 t) (iblk m c 5 t)) 510#32 (iblk m c 1 t) := by
  by_cases h : t.val % 16 = 0
  · rw [outsAt0_A m c t h]; dsimp only; frame_out; rfl
  · rw [outsAt0_B m c t h]; dsimp only; frame_out; rfl

theorem tap0 (t : Fin cfg0.N) (l : Fin 256) :
    (View.ld (iblk m c 8 t : Vec Ideal S8x256 .f32) (Rect.unit ![0, 0] ![1, 256] inb_S8x256_S1x256_0_0) : Vec Ideal S1x256 .f32)
      (ix2 0 l) = tap m c 0 l :=
  (ld_row _ 0 (by decide) _ l).trans (blk8 m c t 0 l)

theorem tap1 (t : Fin cfg0.N) (l : Fin 256) :
    (View.ld (iblk m c 8 t : Vec Ideal S8x256 .f32) (Rect.unit ![1, 0] ![1, 256] inb_S8x256_S1x256_1_0) : Vec Ideal S1x256 .f32)
      (ix2 0 l) = tap m c 1 l :=
  (ld_row _ 1 (by decide) _ l).trans (blk8 m c t 1 l)

theorem tap2 (t : Fin cfg0.N) (l : Fin 256) :
    (View.ld (iblk m c 8 t : Vec Ideal S8x256 .f32) (Rect.unit ![2, 0] ![1, 256] inb_S8x256_S1x256_2_0) : Vec Ideal S1x256 .f32)
      (ix2 0 l) = tap m c 2 l :=
  (ld_row _ 2 (by decide) _ l).trans (blk8 m c t 2 l)

/-- The outer gate's gradient at the end. -/
theorem final10 : (dats m 0 c).arrAt 10 cfg0.N = outers m c := by
  refine (dats m 0 c).arrAt_eq_of_covers 10 _ (by decide +kernel) fun t hf y => ?_
  blk_simp
  rw [after0_10, left10]
  obtain ⟨r, l, rfl⟩ : ∃ r l, y = ix2 r l := ⟨y 0, y 1, by funext a; fin_cases a <;> rfl⟩
  have e : (win0_10.blk t).view.emb (ix2 r l) = ix2 (at_ t r) l := by blk_ext [ix10, at_]
  rw [e]
  refine (pay8_apply ..).trans ?_
  rw [here, earlier1, earlier2, tap0, tap1, tap2, blk9, blk6]
  rfl

/-- The first inner gate's. -/
theorem final11 : (dats m 0 c).arrAt 11 cfg0.N = firsts m c := by
  refine (dats m 0 c).arrAt_eq_of_covers 11 _ (by decide +kernel) fun t hf y => ?_
  blk_simp
  rw [after0_11, left11]
  obtain ⟨r, l, rfl⟩ : ∃ r l, y = ix2 r l := ⟨y 0, y 1, by funext a; fin_cases a <;> rfl⟩
  have e : (win0_11.blk t).view.emb (ix2 r l) = ix2 (at_ t r) l := by blk_ext [ix11, at_]
  rw [e]
  refine (pay17_apply ..).trans ?_
  rw [backward m c t r l _ _ _ (tap0 m c t l) (tap1 m c t l) (tap2 m c t l), blk2]
  rfl

/-- The second inner gate's. -/
theorem final12 : (dats m 0 c).arrAt 12 cfg0.N = seconds m c := by
  refine (dats m 0 c).arrAt_eq_of_covers 12 _ (by decide +kernel) fun t hf y => ?_
  blk_simp
  rw [after0_12, left12]
  obtain ⟨r, l, rfl⟩ : ∃ r l, y = ix2 r l := ⟨y 0, y 1, by funext a; fin_cases a <;> rfl⟩
  have e : (win0_12.blk t).view.emb (ix2 r l) = ix2 (at_ t r) l := by blk_ext [ix12, at_]
  rw [e]
  refine (pay18_apply ..).trans ?_
  rw [backward m c t r l _ _ _ (tap0 m c t l) (tap1 m c t l) (tap2 m c t l), blk1]
  rfl

/-- Four single rows written over earlier contents, read back at a place. -/
theorem rows_apply {κ : Kind} {sp : Space} (v : View sig κ sp S8x256 .f32) (f : v.ty.Contents (Elt Ideal))
    (p0 p1 p2 p3 : Vec Ideal S1x256 .f32) (L : List (View.Piece (Elt Ideal) S8x256 .f32)) (q : Fin 8) (l : Fin 256) :
    v.read (Elt Ideal) (v.writes (Elt Ideal) f
        (⟨Rect.unit (s := S8x256) ![3, 0] ![1, 256] inb_S8x256_S1x256_3_0, p3⟩
          :: ⟨Rect.unit (s := S8x256) ![2, 0] ![1, 256] inb_S8x256_S1x256_2_0, p2⟩
          :: ⟨Rect.unit (s := S8x256) ![1, 0] ![1, 256] inb_S8x256_S1x256_1_0, p1⟩
          :: ⟨Rect.unit (s := S8x256) ![0, 0] ![1, 256] inb_S8x256_S1x256_0_0, p0⟩ :: L)) (ix2 q l)
      = if q = 3 then p3 (ix2 0 l) else if q = 2 then p2 (ix2 0 l) else if q = 1 then p1 (ix2 0 l)
        else if q = 0 then p0 (ix2 0 l) else v.read (Elt Ideal) (v.writes (Elt Ideal) f L) (ix2 q l) := by
  by_cases h3 : q = 3
  · subst h3
    rw [if_pos rfl]
    exact View.read_writes_cons_rows_of_mem v f inb_S8x256_S1x256_3_0 p3 _ (ix2 3 l) (ix2 0 l) rfl rfl rfl
  rw [if_neg h3]
  refine (View.read_writes_cons_rows_of_not_mem (o := 3) (W := 1) v f inb_S8x256_S1x256_3_0 p3 _ (ix2 q l) rfl rfl
    (show q.val < 3 ∨ 3 + 1 ≤ q.val by have : q.val ≠ 3 := fun h => h3 (Fin.ext h); omega)).trans ?_
  by_cases h2 : q = 2
  · subst h2
    rw [if_pos rfl]
    exact View.read_writes_cons_rows_of_mem v f inb_S8x256_S1x256_2_0 p2 _ (ix2 2 l) (ix2 0 l) rfl rfl rfl
  rw [if_neg h2]
  refine (View.read_writes_cons_rows_of_not_mem (o := 2) (W := 1) v f inb_S8x256_S1x256_2_0 p2 _ (ix2 q l) rfl rfl
    (show q.val < 2 ∨ 2 + 1 ≤ q.val by have : q.val ≠ 2 := fun h => h2 (Fin.ext h); omega)).trans ?_
  by_cases h1 : q = 1
  · subst h1
    rw [if_pos rfl]
    exact View.read_writes_cons_rows_of_mem v f inb_S8x256_S1x256_1_0 p1 _ (ix2 1 l) (ix2 0 l) rfl rfl rfl
  rw [if_neg h1]
  refine (View.read_writes_cons_rows_of_not_mem (o := 1) (W := 1) v f inb_S8x256_S1x256_1_0 p1 _ (ix2 q l) rfl rfl
    (show q.val < 1 ∨ 1 + 1 ≤ q.val by have : q.val ≠ 1 := fun h => h1 (Fin.ext h); omega)).trans ?_
  by_cases h0 : q = 0
  · subst h0
    rw [if_pos rfl]
    exact View.read_writes_cons_rows_of_mem v f inb_S8x256_S1x256_0_0 p0 _ (ix2 0 l) (ix2 0 l) rfl rfl rfl
  rw [if_neg h0]
  exact View.read_writes_cons_rows_of_not_mem (o := 0) (W := 1) v f inb_S8x256_S1x256_0_0 p0 _ (ix2 q l) rfl rfl
    (show q.val < 0 ∨ 0 + 1 ≤ q.val by have : q.val ≠ 0 := fun h => h0 (Fin.ext h); omega)

/-- What a point's four steps make of the weights' gradients `X`, at a place. -/
theorem step_apply (t : Fin cfg0.N) (X : Vec Ideal S8x256 .f32) (x : EReal) (q : Fin 8) (l : Fin 256)
    (hx : x = X (ix2 q l)) :
    (if q = 3 then k0_pay2 (k0_pay9 (iblk m c 6 t) (iblk m c 0 t))
          (View.ld X (Rect.unit ![3, 0] ![1, 256] inb_S8x256_S1x256_3_0)) (ix2 0 l)
      else if q = 2 then k0_pay1 (k0_pay4 (iblk m c 1 t) (iblk m c 2 t)) (k0_pay9 (iblk m c 6 t) (iblk m c 0 t))
          (View.ld X (Rect.unit ![2, 0] ![1, 256] inb_S8x256_S1x256_2_0)) (ix2 0 l)
      else if q = 1 then k0_pay20 (k0_pay6 (grid0.coords t) (iblk m c 1 t) (iblk m c 2 t) (iblk m c 3 t) (iblk m c 4 t))
          (k0_pay9 (iblk m c 6 t) (iblk m c 0 t))
          (View.ld X (Rect.unit ![1, 0] ![1, 256] inb_S8x256_S1x256_1_0)) (ix2 0 l)
      else if q = 0 then k0_pay19 (k0_pay7 (grid0.coords t) (iblk m c 1 t) (iblk m c 2 t) (iblk m c 3 t) (iblk m c 4 t))
          (k0_pay9 (iblk m c 6 t) (iblk m c 0 t))
          (View.ld X (Rect.unit ![0, 0] ![1, 256] inb_S8x256_S1x256_0_0)) (ix2 0 l)
      else x : EReal) = X (ix2 q l) + ∑ r, add m c q l (at_ t r) := by
  unfold add
  by_cases h3 : q = 3
  · subst h3
    simp only [if_pos]
    rw [pay2_apply]
    simp only [there]
    exact congrArg (· + _) (ld_row X 3 (by decide) _ l)
  simp only [if_neg h3]
  by_cases h2 : q = 2
  · subst h2
    simp only [if_pos]
    rw [pay1_apply]
    simp only [there, here]
    exact congrArg (· + _) (ld_row X 2 (by decide) _ l)
  simp only [if_neg h2]
  by_cases h1 : q = 1
  · subst h1
    simp only [if_pos]
    rw [pay20_apply]
    simp only [there, earlier1]
    exact congrArg (· + _) (ld_row X 1 (by decide) _ l)
  simp only [if_neg h1]
  by_cases h0 : q = 0
  · subst h0
    simp only [if_pos]
    rw [pay19_apply]
    simp only [there, earlier2]
    exact congrArg (· + _) (ld_row X 0 (by decide) _ l)
  simp only [if_neg h0]
  rw [hx, Finset.sum_const_zero, add_zero]

/-- The running sum of the weights' gradients after a point. -/
theorem left13 (t : Fin cfg0.N) (q : Fin 8) (l : Fin 256) :
    (outsAt0 m c t.val t.isLt).2.2.2 (ix2 q l)
      = 0 + ∑ k ∈ Finset.range (t.val + 1), (if h : k < cfg0.N then ∑ r, add m c q l (at_ ⟨k, h⟩ r) else 0) := by
  refine Pipeline.eq_sum_of_reset_step_single (fun n h => (outsAt0 m c n h).2.2.2 (ix2 q l)) 16 0 _ (fun t h => ?_)
    (fun t h => ?_) (le_of_eq N_0) t
  · rw [outsAt0_A m c t h]; dsimp only; frame_out
    simp (disch := decide) only [↓View.readCov_skip, ↓View.readCov_fill]
    rw [dif_pos t.isLt, ← View.read_writes_junk_eq_canon (ms0_13 t).view]
    refine (rows_apply _ _ _ _ _ _ _ q l).trans ?_
    refine (step_apply m c t (k0_pay3 (F := Ideal)) _ q l ?_).trans ?_
    · exact View.read_writes_cons_rows_of_mem (Val := Elt Ideal) (e := .f32) (o := 0) _ _ inb_S8x256_S8x256_0_0 (k0_pay3 (F := Ideal)) _ (ix2 q l) (ix2 q l) rfl
        (Nat.zero_add _).symm rfl
    · rw [pay3_apply]
  · rw [outsAt0_B m c t h]; dsimp only; frame_out
    rw [dif_pos t.isLt]
    refine (rows_apply _ _ _ _ _ _ _ q l).trans ?_
    refine step_apply m c t _ _ q l ?_
    rw [View.writes_nil]
    exact congrFun (Memref.IsWhole.read_unread _ _) _

/-- Rows counted by block and place in the block are the rows. -/
theorem sum_rows (f : Fin 8192 → EReal) :
    ∑ k ∈ Finset.range 16, (if h : k < cfg0.N then ∑ r, f (at_ ⟨k, h⟩ r) else 0) = ∑ r, f r := by
  rw [Finset.sum_range]
  have e : ∀ k : Fin 16, (if h : k.val < cfg0.N then ∑ r, f (at_ ⟨k.val, h⟩ r) else 0)
      = ∑ r : Fin 512, f (finProdFinEquiv (k, r)) := fun k => by
    rw [dif_pos (show k.val < cfg0.N from k.isLt)]
    refine Finset.sum_congr rfl fun r _ => congrArg f (Fin.ext ?_)
    show k.val * 512 + r.val = r.val + 512 * k.val
    omega
  simp only [e]
  rw [← Fintype.sum_prod_type' (fun (k : Fin 16) (r : Fin 512) => f (finProdFinEquiv (k, r)))]
  exact Equiv.sum_comp (finProdFinEquiv : Fin 16 × Fin 512 ≃ Fin (16 * 512)) f

/-- The weights' gradients at the end. -/
theorem final13 : (dats m 0 c).arrAt 13 cfg0.N = wgts m c := by
  refine (dats m 0 c).arrAt_eq_of_covers 13 _ (by decide +kernel) fun t hf y => ?_
  blk_simp
  have ht : t.val % 16 = 15 := (flush0_13 t).mp hf
  have ht' : t.val = 15 := by have h : t.val < 16 := t.isLt; omega
  rw [after0_13]
  obtain ⟨q, l, rfl⟩ : ∃ q l, y = ix2 q l := ⟨y 0, y 1, by funext a; fin_cases a <;> rfl⟩
  have e : (win0_13.blk t).view.emb (ix2 q l) = ix2 q l := by blk_ext [ix13]
  rw [e]
  refine (left13 m c t q l).trans ?_
  rw [zero_add, ht']
  exact sum_rows fun r => add m c q l r

end Cert.Proof.ConvGrad

end
-- ==== Proof.ConvGrad.Claims.lean ====
/- The claims about the convolution's gradients: the call's runs, the reference's run, and that their results are
   equal. -/
module

public import proofs.«01_k».proof.Defs
public import proofs.«01_k».proof.Proof.Gen.ConvGrad
public import proofs.«01_k».proof.Proof.Gen.ConvGradReferenceIdeal
public import proofs.«01_k».proof.Proof.Gen.ConvGradReferenceIdeal.Run
public import proofs.«01_k».proof.Proof.ConvGrad.Reference
public import proofs.«01_k».proof.Proof.ConvGrad.Value

@[expose] public section

noncomputable section

namespace Cert.Proof.ConvGrad

open Idealize.ShloMosaic Idealize.ShloMosaic.TcCoe Idealize.SL Idealize.SL.Sem
open Cert.ConvGradIdeal

/-- The call's body at the bit patterns is the body the run was found for. -/
theorem bodies_eq : Cert.ConvGrad.defs₀ (F := Bits) = Cert.ConvGradIdeal.defs₀ := by
  funext p l a
  match p with
  | .tc =>
    match l, a with
    | ⟨0, _⟩, (_, _) => rfl
  | .scScalar _ => rfl
  | .scVector _ _ => rfl

theorem defs_eq : Cert.ConvGrad.defs (F := Bits) = Cert.ConvGradIdeal.defs := by
  show Pipeline.defs Cert.ConvGradIdeal.pcfgs (Cert.ConvGrad.defs₀ (F := Bits))
    = Pipeline.defs Cert.ConvGradIdeal.pcfgs Cert.ConvGradIdeal.defs₀
  rw [bodies_eq]

theorem frame_convGrad : Cert.quiescent_ConvGrad (hConvGrad := Cert.ConvGrad.Gen.facts) := fun m g _ => by
  have h := Cert.ConvGradIdeal.Gen.frame (F := Bits) m g
  show θ_run (Cert.ConvGrad.defs (F := Bits)) (onTc Cert.ConvGradIdeal.main) _ _
  rw [defs_eq]
  exact h

theorem frame_convGradIdeal : Cert.quiescent_ConvGradIdeal (hConvGradIdeal := Cert.ConvGradIdeal.Gen.facts) := fun m g _ =>
  Cert.ConvGradIdeal.Gen.frame (F := Ideal) m g

theorem frame_convGradReferenceIdeal :
    Cert.quiescent_ConvGradReferenceIdeal (hConvGradReferenceIdeal := ConvGradReferenceIdeal.Gen.facts) := fun m g _ =>
  (θ_run ConvGradReferenceIdeal.defs _ _).mono
    (fun r h => ⟨fun c => (h c).2.2.2.2, sem_eq_zero_of_no_sems (by decide) r.2⟩) (ConvGradReferenceIdeal.Value.run m g)

theorem algebraic_convGrad : Cert.algebraic_ConvGradIdeal_ConvGradReferenceIdeal
    (hConvGradIdeal := Cert.ConvGradIdeal.Gen.facts)
    (hConvGradReferenceIdeal := ConvGradReferenceIdeal.Gen.facts) := fun m g m' g' _ hm => by
  refine ⟨fun c => outers m c, fun c => firsts m c, fun c => seconds m c, fun c => wgts m c,
    (θ_run Cert.ConvGradIdeal.defs _ _).mono (fun r h c => ?_) (Cert.ConvGradIdeal.Value.run_blocks (F := Ideal) m g),
    (θ_run ConvGradReferenceIdeal.defs _ _).mono (fun r h c => ?_) (ConvGradReferenceIdeal.Value.run m' g')⟩
  · obtain ⟨h10, h11, h12, h13, hk⟩ := h c
    exact ⟨h10.trans (final10 m c), h11.trans (final11 m c), h12.trans (final12 m c), h13.trans (final13 m c), hk⟩
  · obtain ⟨h10, h11, h12, h13, hk⟩ := h c
    obtain ⟨e0, e1, e2, e3⟩ := hm c
    refine ⟨h10.trans ?_, h11.trans ?_, h12.trans ?_, h13.trans ?_, hk⟩
    · funext i
      obtain ⟨r, l, rfl⟩ : ∃ r l, i = ix2 r l := ⟨i 0, i 1, by funext a; fin_cases a <;> rfl⟩
      rw [e0, e1, e2, e3]
      exact ref10 _ _ _ _ r l
    · funext i
      obtain ⟨r, l, rfl⟩ : ∃ r l, i = ix2 r l := ⟨i 0, i 1, by funext a; fin_cases a <;> rfl⟩
      rw [e0, e1, e3]
      exact ref11 _ _ _ r l
    · funext i
      obtain ⟨r, l, rfl⟩ : ∃ r l, i = ix2 r l := ⟨i 0, i 1, by funext a; fin_cases a <;> rfl⟩
      rw [e0, e1, e3]
      exact ref12 _ _ _ r l
    · funext i
      obtain ⟨q, l, rfl⟩ : ∃ q l, i = ix2 q l := ⟨i 0, i 1, by funext a; fin_cases a <;> rfl⟩
      rw [e0, e3]
      exact ref13 _ _ q l

end Cert.Proof.ConvGrad

end
-- ==== Proof.MixGrad.Scalar.lean ====
/- The derivative of a normalized row at one place, in the kernel's closed form and as the reference's two equal terms, for a row
   of any length, and the derivative of the gate's factor. Both hold on the extended reals with no assumption on the entries. -/
module

public import proofs.«01_k».proof.Proof.Consts

@[expose] public section

noncomputable section

namespace Cert.Proof.MixGrad

open Idealize.ShloMosaic

/-- The divisor of a group's sum of squares. -/
theorem ofBits_group : Ideal.ofBits .f32 0x43800000#32 = ((256 : ℝ) : EReal) := by
  simp [Ideal.ofBits, Ideal.ieee, -EReal.coe_mul]; norm_num

/-- A row's mean of squares plus the constant; `w` is the row's length as a number. -/
def msq {n : ℕ} (w : BitVec 32) (x : Fin n → EReal) : EReal :=
  Ideal.div (∑ k, x k * x k) (Ideal.ofBits .f32 w) + Ideal.ofBits .f32 0x358637BD#32

/-- The normalization's derivative at place `l` of row `x` against the weighted incoming gradients `u`, in the kernel's form. -/
def slant {n : ℕ} (w : BitVec 32) (x u : Fin n → EReal) (l : Fin n) : EReal :=
  Ideal.rsqrt (msq w x) * u l - x l * (Ideal.rsqrt (msq w x) * Ideal.rsqrt (msq w x) * Ideal.rsqrt (msq w x))
    * Ideal.div (∑ k, x k * u k) (Ideal.ofBits .f32 w)

/-- The row's summand in the gradient with respect to the normalization's weight `l`. -/
def weigh {n : ℕ} (w : BitVec 32) (x d : Fin n → EReal) (l : Fin n) : EReal := d l * (x l * Ideal.rsqrt (msq w x))

/-- A mean of squares plus the constant is `⊤` or a positive real. -/
theorem msq_pos {n : ℕ} (w : BitVec 32) (N : ℝ) (hN : 0 < N) (hw : Ideal.ofBits .f32 w = (N : EReal)) (x : Fin n → EReal) :
    msq w x = ⊤ ∨ ∃ q : ℝ, 0 < q ∧ msq w x = (q : EReal) := by
  obtain ⟨e, he, hee⟩ := Consts.ofBits_eps
  have h0 : (0 : EReal) ≤ ∑ k, x k * x k := Finset.sum_nonneg fun k _ => by
    rcases le_total 0 (x k) with h | h
    · exact mul_nonneg h h
    · exact EReal.mul_nonneg_iff.mpr (.inr ⟨h, h⟩)
  unfold msq
  rw [hee, hw, Ideal.div_coe hN.ne']
  have hi : 0 < 1 / N := by positivity
  generalize (∑ k, x k * x k) = s at h0
  induction s with
  | bot => exact absurd h0 (by simp)
  | top => left; rw [EReal.top_mul_coe_of_pos hi]; rfl
  | coe a =>
    right
    refine ⟨a * (1 / N) + e, ?_, by push_cast; rfl⟩
    have : (0 : ℝ) ≤ a := by exact_mod_cast h0
    positivity

/-- Taking `z` times a positive real off is adding `z` times each half of it, negated. -/
theorem split_half (p z : EReal) (w : ℝ) (hw : 0 < w) :
    p - z * (w : EReal) = p + z * ((-(1 / 2) * w : ℝ) : EReal) + z * ((-(1 / 2) * w : ℝ) : EReal) := by
  rw [sub_eq_add_neg, add_assoc]
  congr 1
  have hneg : -(1 / 2) * w < 0 := by nlinarith
  induction z with
  | bot => rw [EReal.bot_mul_coe_of_pos hw, EReal.bot_mul_coe_of_neg hneg]; rfl
  | top => rw [EReal.top_mul_coe_of_pos hw, EReal.top_mul_coe_of_neg hneg]; rfl
  | coe y => norm_cast; ring

/-- The kernel's form against the reference's: `a` an entry of the row, `u` its weighted incoming gradient, `s` the row's sum of
    entries times those, `q` the mean of squares plus the constant. -/
theorem two_forms (N : ℝ) (hN : 0 < N) (a u s q : EReal) (hq : q = ⊤ ∨ ∃ r : ℝ, 0 < r ∧ q = (r : EReal)) :
    Ideal.rsqrt q * u - a * (Ideal.rsqrt q * Ideal.rsqrt q * Ideal.rsqrt q) * Ideal.div s (N : EReal)
      = u * Ideal.rsqrt q
          + a * Ideal.div (s * (((-(1 / 2) : ℝ) : EReal) * Ideal.div (Ideal.rsqrt q) q)) (N : EReal)
          + Ideal.div (s * (((-(1 / 2) : ℝ) : EReal) * Ideal.div (Ideal.rsqrt q) q)) (N : EReal) * a := by
  rcases hq with rfl | ⟨r, hr, rfl⟩
  · have e : Ideal.rsqrt ⊤ = 0 := rfl
    have e' : Ideal.div 0 ⊤ = 0 := by simp [Ideal.div]
    rw [e, e', mul_zero, mul_zero, Ideal.div_coe hN.ne', Ideal.div_coe hN.ne']
    simp
  · rw [Ideal.div_coe hN.ne', Ideal.div_coe hN.ne', Ideal.div_coe hr.ne', Ideal.rsqrt_coe, if_neg (not_lt.mpr hr.le),
      if_neg hr.ne']
    have hs : Real.sqrt r * Real.sqrt r = r := Real.mul_self_sqrt hr.le
    have hp : 0 < Real.sqrt r := Real.sqrt_pos.mpr hr
    have h3 : (Real.sqrt r)⁻¹ * (Real.sqrt r)⁻¹ * (Real.sqrt r)⁻¹ = (Real.sqrt r)⁻¹ * (1 / r) := by
      rw [← mul_inv, hs, mul_comm, one_div]
    rw [← EReal.coe_mul, ← EReal.coe_mul, h3, ← EReal.coe_mul, mul_comm u]
    have hw : 0 < (Real.sqrt r)⁻¹ * (1 / r) := by positivity
    have hi : 0 < 1 / N := by positivity
    generalize (Real.sqrt r)⁻¹ * (1 / r) = w at hw
    generalize 1 / N = i at hi
    have e1 : a * (w : EReal) * (s * (i : EReal)) = a * s * ((w * i : ℝ) : EReal) := by rw [EReal.coe_mul]; ac_rfl
    have e2 : a * (s * (((-(1 / 2) : ℝ) : EReal) * (w : EReal)) * (i : EReal)) = a * s * ((-(1 / 2) * (w * i) : ℝ) : EReal) := by
      rw [EReal.coe_mul, EReal.coe_mul]; ac_rfl
    have e3 : s * (((-(1 / 2) : ℝ) : EReal) * (w : EReal)) * (i : EReal) * a = a * s * ((-(1 / 2) * (w * i) : ℝ) : EReal) := by
      rw [EReal.coe_mul, EReal.coe_mul]; ac_rfl
    rw [e1, e2, e3]
    exact split_half _ _ _ (by positivity)

/-- The logistic. -/
def lgst (z : EReal) : EReal := Ideal.div 1 (1 + Ideal.exp (-z))

/-- The derivative of the gate's factor, in the kernel's form. -/
def slope (z : EReal) : EReal := lgst z * (1 + z * (1 - lgst z))

/-- … and in the reference's. -/
theorem slope_eq (z : EReal) : slope z = 1 * lgst z + z * 1 * (lgst z * (1 - lgst z)) := by
  unfold slope
  induction z with
  | bot =>
    have e : lgst ⊥ = 0 := by
      have h : Ideal.exp ⊤ = ⊤ := rfl
      have h1 : (1 : EReal) + ⊤ = ⊤ := rfl
      unfold lgst
      rw [EReal.neg_bot, h, h1]
      simp [Ideal.div]
    rw [e]; simp
  | top =>
    have e : lgst ⊤ = 1 := by
      unfold lgst
      rw [EReal.neg_top]
      have : Ideal.exp ⊥ = 0 := by simp
      rw [this, add_zero]
      have h := Ideal.div_coe (x := (1 : EReal)) (y := (1 : ℝ)) one_ne_zero
      simpa using h
    rw [e]
    have : (1 : EReal) - 1 = 0 := by
      have h : ((1 : ℝ) : EReal) - ((1 : ℝ) : EReal) = ((1 - 1 : ℝ) : EReal) := rfl
      simpa using h
    rw [this]; simp
  | coe y =>
    obtain ⟨s, hs⟩ : ∃ s : ℝ, lgst (y : EReal) = (s : EReal) := by
      refine ⟨1 * (1 / (1 + Real.exp (-y))), ?_⟩
      unfold lgst
      have h : Ideal.exp (-(y : EReal)) = ((Real.exp (-y) : ℝ) : EReal) := by rw [← EReal.coe_neg]; rfl
      have h1 : (1 : EReal) + ((Real.exp (-y) : ℝ) : EReal) = ((1 + Real.exp (-y) : ℝ) : EReal) := by push_cast; rfl
      have hp : (0 : ℝ) < 1 + Real.exp (-y) := by positivity
      rw [h, h1, Ideal.div_coe hp.ne']
      push_cast; rfl
    rw [hs]
    norm_cast
    ring

end Cert.Proof.MixGrad

end
-- ==== Proof.MixGrad.Payload.lean ====
/- What one place of the kernel's eight results is, in the entries of its row: the gradient through the last normalization and
   what the output projection takes back of it, the groups' and the gate's gradients, and the summands of the two
   normalizations' weights' gradients. -/
module

public import proofs.«01_k».proof.Proof.Gen.MixGradIdeal.Skeleton
public import proofs.«01_k».proof.Proof.Norm
public import proofs.«01_k».proof.Proof.MixGrad.Scalar

@[expose] public section

noncomputable section

namespace Cert.Proof.MixGrad

open Idealize.ShloMosaic

/-- Place `p` of the third group's row: of every 128 columns the first 64 are in use. -/
def comp (y : Fin 512 → EReal) (p : Fin 256) : EReal := y ⟨p.val / 64 * 128 + p.val % 64, by have := p.isLt; omega⟩

/-- A row of the third group with the columns not in use put back, as zeros. -/
def spread (y : Fin 256 → EReal) (q : Fin 512) : EReal :=
  if q.val % 128 < 64 then y ⟨q.val / 128 * 64 + q.val % 64, by have := q.isLt; omega⟩ else 0

/-- The gate's factor: the gate times its logistic. -/
def silu (z : EReal) : EReal := z * lgst z

/-- A row through the output projection, backwards. -/
def back (y : Fin 1024 → EReal) (W : Fin 1024 → Fin 1024 → EReal) (j : Fin 1024) : EReal := ∑ k, y k * W k j

/-- The column of group `g`'s place `p`. -/
def quad (g : Fin 4) (p : Fin 256) : Fin 1024 := ⟨g.val * 256 + p.val, by have := g.isLt; have := p.isLt; omega⟩

theorem quad_zero (p : Fin 256) : quad 0 p = ⟨p.val, by have := p.isLt; omega⟩ :=
  Fin.ext (show 0 * 256 + p.val = p.val by omega)

section Kernel
open Cert.MixGradIdeal Cert.MixGradIdeal.Gen

/-- The stored gradient through the last normalization, at a place. -/
theorem pay5_apply (o : Vec Ideal S256x1024 .f32) (g : Vec Ideal S1x1024 .f32) (d : Vec Ideal S256x1024 .f32) (r : Fin 256)
    (l : Fin 1024) :
    k0_pay5 o g d (ix2 r l)
      = slant 0x44800000#32 (fun k => o (ix2 r k)) (fun k => d (ix2 r k) * g (ix2 0 k)) l := by
  pointwise [k0_pay5, k0_pay4]
  rfl

/-- The block's contribution to the last normalization's weights' gradient, on top of what was there. -/
theorem pay6_apply (o d : Vec Ideal S256x1024 .f32) (v33 : Vec Ideal S1x1024 .f32) (l : Fin 1024) :
    k0_pay6 o d v33 (ix2 0 l)
      = v33 (ix2 0 l) + ∑ r, weigh 0x44800000#32 (fun k => o (ix2 r k)) (fun k => d (ix2 r k)) l := by
  pointwise [k0_pay6, k0_pay4]
  rfl

theorem pay7_apply (v : FVec Ideal S256x1024 .f32) (r : Fin 256) (l : Fin 1024) : k0_pay7 v (ix2 r l) = v (ix2 r l) := by
  pointwise [k0_pay7]

/-- What the output projection takes back, at a place. -/
theorem pay8_apply (v : FVec Ideal S256x1024 .f32) (W : Vec Ideal S1024x1024 .bf16) (r : Fin 256) (j : Fin 1024) :
    k0_pay8 v W (ix2 r j) = back (fun k => v (ix2 r k)) (fun k l => W (ix2 k l)) j := by
  pointwise [k0_pay8, k0_pay7, dot_S256x1024_S1024x1024_S256x1024_1_0_0_1_n_n]
  rfl

theorem pay10_apply (z : Vec Ideal S256x1024 .f32) (r : Fin 256) (j : Fin 1024) :
    k0_pay10 z (ix2 r j) = silu (z (ix2 r j)) := by
  pointwise [k0_pay10, k0_pay9]
  rw [zero_sub]
  rfl

theorem pay11_apply (z : Vec Ideal S256x1024 .f32) (r : Fin 256) (j : Fin 1024) :
    k0_pay11 z (ix2 r j) = slope (z (ix2 r j)) := by
  pointwise [k0_pay11, k0_pay9]
  rw [zero_sub]
  rfl

/-- The third group's columns in use, at a place. -/
theorem pay12_apply (v : Vec Ideal S256x512 .f32) (r : Fin 256) (p : Fin 256) :
    k0_pay12 v (ix2 r p) = comp (fun k => v (ix2 r k)) p := by
  pointwise [k0_pay12]
  have hp := p.isLt
  unfold comp
  split
  · exact congrArg (fun k => v (ix2 r k)) (Fin.ext (by show p.val = p.val / 64 * 128 + p.val % 64; omega))
  · split
    · exact congrArg (fun k => v (ix2 r k)) (Fin.ext (by
        show 128 + (p.val - 64) = p.val / 64 * 128 + p.val % 64; omega))
    · split
      · exact congrArg (fun k => v (ix2 r k)) (Fin.ext (by
          show 256 + (p.val - 64 - 64) = p.val / 64 * 128 + p.val % 64; omega))
      · exact congrArg (fun k => v (ix2 r k)) (Fin.ext (by
          show 384 + (p.val - 64 - 64 - 64) = p.val / 64 * 128 + p.val % 64; omega))

/-- The columns not in use put back, at a place. -/
theorem pay1_apply (v : FVec Ideal S256x256 .f32) (r : Fin 256) (q : Fin 512) :
    k0_pay1 v (ix2 r q) = spread (fun k => v (ix2 r k)) q := by
  pointwise [k0_pay1]
  have hq := q.isLt
  unfold spread
  repeat' split
  all_goals first
    | (exfalso; omega)
    | rfl
    | (refine congrArg (fun k => v (ix2 r k)) (Fin.ext ?_); show _ = q.val / 128 * 64 + q.val % 64; simp only []; omega)

theorem pay2_apply (l : Fin 1024) : (k0_pay2 : FVec Ideal S1x1024 .f32) (ix2 0 l) = 0 := by
  pointwise [k0_pay2]

theorem pay3_apply (l : Fin 1024) : (k0_pay3 : FVec Ideal S1x1024 .f32) (ix2 0 l) = 0 := by
  pointwise [k0_pay3]

/-- The first group's part of the gate's gradient, at a place. -/
theorem pay15_apply (v42 v57 : FVec Ideal S256x1024 .f32) (y : Vec Ideal S256x256 .f32) (w : Vec Ideal S1x256 .f32) (r p : Fin 256) :
    k0_pay15 v42 v57 y w (k0_pay13 y) (Scalar.ofBits .f32 0x358637BD#32) (ix2 r p)
      = v42 (ix2 r (quad 0 p)) * normed 0x43800000#32 (fun k => y (ix2 r k)) (fun k => w (ix2 0 k)) p
        * v57 (ix2 r (quad 0 p)) := by
  pointwise [k0_pay15, k0_pay13, k0_pay14]
  simp only [quad_zero]
  rfl

/-- The first group's gradient, at a place. -/
theorem pay17_apply (v42 v51 : FVec Ideal S256x1024 .f32) (y : Vec Ideal S256x256 .f32) (w : Vec Ideal S1x256 .f32) (r p : Fin 256) :
    k0_pay17 v42 v51 y w (k0_pay13 y) (Scalar.ofBits .f32 0x358637BD#32) (ix2 r p)
      = slant 0x43800000#32 (fun k => y (ix2 r k))
        (fun k => v42 (ix2 r (quad 0 k)) * v51 (ix2 r (quad 0 k)) * w (ix2 0 k)) p := by
  pointwise [k0_pay17, k0_pay13, k0_pay14, k0_pay16]
  simp only [quad_zero]
  rfl

/-- The block's contribution to the first group's weights' gradient, on top of what was there. -/
theorem pay18_apply (v42 v51 : FVec Ideal S256x1024 .f32) (y : Vec Ideal S256x256 .f32) (old : Vec Ideal S1x256 .f32) (p : Fin 256) :
    k0_pay18 v42 v51 y (k0_pay13 y) (Scalar.ofBits .f32 0x358637BD#32) old (ix2 0 p)
      = old (ix2 0 p) + ∑ r, weigh 0x43800000#32 (fun k => y (ix2 r k))
        (fun k => v42 (ix2 r (quad 0 k)) * v51 (ix2 r (quad 0 k))) p := by
  pointwise [k0_pay18, k0_pay13, k0_pay14, k0_pay16]
  simp only [quad_zero]
  rfl

/-- The second group's part of the gate's gradient, at a place. -/
theorem pay21_apply (v42 v57 : FVec Ideal S256x1024 .f32) (y : Vec Ideal S256x256 .f32) (w : Vec Ideal S1x256 .f32) (r p : Fin 256) :
    k0_pay21 v42 v57 y w (k0_pay19 y) (Scalar.ofBits .f32 0x43800000#32) (ix2 r p)
      = v42 (ix2 r (quad 1 p)) * normed 0x43800000#32 (fun k => y (ix2 r k)) (fun k => w (ix2 0 k)) p
        * v57 (ix2 r (quad 1 p)) := by
  pointwise [k0_pay21, k0_pay19, k0_pay20]
  rfl

/-- The second group's gradient, at a place. -/
theorem pay23_apply (v42 v51 : FVec Ideal S256x1024 .f32) (y : Vec Ideal S256x256 .f32) (w : Vec Ideal S1x256 .f32) (r p : Fin 256) :
    k0_pay23 v42 v51 y w (k0_pay19 y) (Scalar.ofBits .f32 0x43800000#32) (ix2 r p)
      = slant 0x43800000#32 (fun k => y (ix2 r k))
        (fun k => v42 (ix2 r (quad 1 k)) * v51 (ix2 r (quad 1 k)) * w (ix2 0 k)) p := by
  pointwise [k0_pay23, k0_pay19, k0_pay20, k0_pay22]
  rfl

/-- The block's contribution to the second group's weights' gradient, on top of what was there. -/
theorem pay24_apply (v42 v51 : FVec Ideal S256x1024 .f32) (y : Vec Ideal S256x256 .f32) (old : Vec Ideal S1x256 .f32) (p : Fin 256) :
    k0_pay24 v42 v51 y (k0_pay19 y) (Scalar.ofBits .f32 0x43800000#32) old (ix2 0 p)
      = old (ix2 0 p) + ∑ r, weigh 0x43800000#32 (fun k => y (ix2 r k))
        (fun k => v42 (ix2 r (quad 1 k)) * v51 (ix2 r (quad 1 k))) p := by
  pointwise [k0_pay24, k0_pay19, k0_pay20, k0_pay22]
  rfl

/-- The third group's part of the gate's gradient, at a place. -/
theorem pay27_apply (v42 v57 : FVec Ideal S256x1024 .f32) (y : FVec Ideal S256x256 .f32) (w : Vec Ideal S1x256 .f32) (r p : Fin 256) :
    k0_pay27 v42 v57 y w (k0_pay25 y) (ix2 r p)
      = v42 (ix2 r (quad 2 p)) * normed 0x43800000#32 (fun k => y (ix2 r k)) (fun k => w (ix2 0 k)) p
        * v57 (ix2 r (quad 2 p)) := by
  pointwise [k0_pay27, k0_pay25, k0_pay26]
  rfl

/-- The third group's gradient, at a place. -/
theorem pay29_apply (v42 v51 : FVec Ideal S256x1024 .f32) (y : FVec Ideal S256x256 .f32) (w : Vec Ideal S1x256 .f32) (r p : Fin 256) :
    k0_pay29 v42 v51 y w (k0_pay25 y) (ix2 r p)
      = slant 0x43800000#32 (fun k => y (ix2 r k))
        (fun k => v42 (ix2 r (quad 2 k)) * v51 (ix2 r (quad 2 k)) * w (ix2 0 k)) p := by
  pointwise [k0_pay29, k0_pay25, k0_pay26, k0_pay28]
  rfl

/-- The block's contribution to the third group's weights' gradient, on top of what was there. -/
theorem pay30_apply (v42 v51 : FVec Ideal S256x1024 .f32) (y : FVec Ideal S256x256 .f32) (old : Vec Ideal S1x256 .f32) (p : Fin 256) :
    k0_pay30 v42 v51 y (k0_pay25 y) old (ix2 0 p)
      = old (ix2 0 p) + ∑ r, weigh 0x43800000#32 (fun k => y (ix2 r k))
        (fun k => v42 (ix2 r (quad 2 k)) * v51 (ix2 r (quad 2 k))) p := by
  pointwise [k0_pay30, k0_pay25, k0_pay26, k0_pay28]
  rfl

/-- The fourth group's part of the gate's gradient, at a place. -/
theorem pay32_apply (v42 v57 : FVec Ideal S256x1024 .f32) (y : Vec Ideal S256x256 .f32) (w : Vec Ideal S1x256 .f32) (r p : Fin 256) :
    k0_pay32 v42 v57 y w  (ix2 r p)
      = v42 (ix2 r (quad 3 p)) * normed 0x43800000#32 (fun k => y (ix2 r k)) (fun k => w (ix2 0 k)) p
        * v57 (ix2 r (quad 3 p)) := by
  pointwise [k0_pay32, k0_pay31]
  rfl

/-- The fourth group's gradient, at a place. -/
theorem pay34_apply (v42 v51 : FVec Ideal S256x1024 .f32) (y : Vec Ideal S256x256 .f32) (w : Vec Ideal S1x256 .f32) (r p : Fin 256) :
    k0_pay34 v42 v51 y w  (ix2 r p)
      = slant 0x43800000#32 (fun k => y (ix2 r k))
        (fun k => v42 (ix2 r (quad 3 k)) * v51 (ix2 r (quad 3 k)) * w (ix2 0 k)) p := by
  pointwise [k0_pay34, k0_pay31, k0_pay33]
  rfl

/-- The block's contribution to the fourth group's weights' gradient, on top of what was there. -/
theorem pay35_apply (v42 v51 : FVec Ideal S256x1024 .f32) (y : Vec Ideal S256x256 .f32) (old : Vec Ideal S1x256 .f32) (p : Fin 256) :
    k0_pay35 v42 v51 y  old (ix2 0 p)
      = old (ix2 0 p) + ∑ r, weigh 0x43800000#32 (fun k => y (ix2 r k))
        (fun k => v42 (ix2 r (quad 3 k)) * v51 (ix2 r (quad 3 k))) p := by
  pointwise [k0_pay35, k0_pay31, k0_pay33]
  rfl

end Kernel

end Cert.Proof.MixGrad

end
-- ==== Proof.MixGrad.Reference.lean ====
/- One place of the reference's eight results, in the entries of its row: the same as in the kernel, by the two equal
   forms of the normalization's and the gate's derivatives. -/
module

public import proofs.«01_k».proof.Proof.Gen.MixGradReferenceIdeal.Run
public import proofs.«01_k».proof.Proof.MixGrad.Payload

@[expose] public section

noncomputable section

namespace Cert.Proof.MixGrad

open Idealize.ShloMosaic
open Cert.MixGradReferenceIdeal Cert.MixGradReferenceIdeal.Gen Cert.MixGradReferenceIdeal.Value

/-- The reference's means of squares of whole rows, plus the constant. -/
def refMsq (o : FVec Ideal S8192x1024 .f32) :
    FVec Ideal S8192x1 .f32 :=
  addf (Host.divf (broadcastInDim S8192x1 ![0] bcast_S8192_S8192x1_0 (Host.reduceAdd (mulf o o) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

/-- The reference's gradient through the last normalization. -/
def refDo (d o : FVec Ideal S8192x1024 .f32) (g : FVec Ideal S1x1024 .f32) :
    FVec Ideal S8192x1024 .f32 :=
  addf (addf (mulf (mulf d (broadcastInDim S8192x1024 ![0, 1] bcast_S1x1024_S8192x1024_0_1 g)) (broadcastInDim S8192x1024 ![0,
    1] bcast_S8192x1_S8192x1024_0_1 (Host.rsqrt (refMsq o)))) (mulf o (broadcastInDim S8192x1024 ![0] bcast_S8192_S8192x1024_0
    (Host.reduceAdd (Host.divf (mulf (shapeCast _ (Host.reduceAdd (mulf o (mulf d (broadcastInDim S8192x1024 ![0, 1]
    bcast_S1x1024_S8192x1024_0_1 g))) (constant S_ .f32 0x00000000#32) reducesTo_S8192x1024_S8192_d1 h_S_)
    shapeCasts_S8192_S8192x1) (mulf (broadcastInDim S8192x1 ![] bcast_S_S8192x1 (constant S_ .f32 0xBF000000#32)) (Host.divf
    (Host.rsqrt (refMsq o)) (refMsq o)))) (broadcastInDim S8192x1 ![] bcast_S_S8192x1 (constant S_ .f32 0x44800000#32)))
    (constant S_ .f32 0x00000000#32) reducesTo_S8192x1_S8192_d1 h_S_)))) (mulf (broadcastInDim S8192x1024 ![0]
    bcast_S8192_S8192x1024_0 (Host.reduceAdd (Host.divf (mulf (shapeCast _ (Host.reduceAdd (mulf o (mulf d (broadcastInDim
    S8192x1024 ![0, 1] bcast_S1x1024_S8192x1024_0_1 g))) (constant S_ .f32 0x00000000#32) reducesTo_S8192x1024_S8192_d1 h_S_)
    shapeCasts_S8192_S8192x1) (mulf (broadcastInDim S8192x1 ![] bcast_S_S8192x1 (constant S_ .f32 0xBF000000#32)) (Host.divf
    (Host.rsqrt (refMsq o)) (refMsq o)))) (broadcastInDim S8192x1 ![] bcast_S_S8192x1 (constant S_ .f32 0x44800000#32)))
    (constant S_ .f32 0x00000000#32) reducesTo_S8192x1_S8192_d1 h_S_)) o)

/-- What the reference's output projection takes back. -/
def refDym (dO : FVec Ideal S8192x1024 .f32) (W : Vec Ideal S1024x1024 .bf16) :
    FVec Ideal S8192x1024 .f32 :=
  Host.dotGeneral dot_S8192x1024_S1024x1024_S8192x1024_1_0_0_1_n_n none dO (extf .f32 W bitsLt_bf16_f32)

/-- The reference's rows of the third group with the unused columns left out. -/
def refComp (yc : Vec Ideal S8192x512 .f32) :
    Vec Ideal S8192x256 .f32 :=
  shapeCast _ (extractStridedSlice S8192x4x64 ![0, 0, 0] (shapeCast _ yc shapeCasts_S8192x512_S8192x4x128)
    slices_S8192x4x128_S8192x4x64_0_0_0) shapeCasts_S8192x4x64_S8192x256

/-- The reference's four groups, one beside the other. -/
def refStack (ya yb yc yd : Vec Ideal S8192x256 .f32) :
    Vec Ideal S8192x4x256 .f32 :=
  (concatenate S8192x4x256 1 [⟨S8192x1x256, broadcastInDim S8192x1x256 ![0, 2] bcast_S8192x256_S8192x1x256_0_2 ya⟩,
    ⟨S8192x1x256, broadcastInDim S8192x1x256 ![0, 2] bcast_S8192x256_S8192x1x256_0_2 yb⟩, ⟨S8192x1x256, broadcastInDim
    S8192x1x256 ![0, 2] bcast_S8192x256_S8192x1x256_0_2 yc⟩, ⟨S8192x1x256, broadcastInDim S8192x1x256 ![0, 2]
    bcast_S8192x256_S8192x1x256_0_2 yd⟩] concatenates_S8192x1x256_S8192x1x256_S8192x1x256_S8192x1x256_S8192x4x256_d1)

/-- The reference's means of squares of the groups' rows, plus the constant. -/
def refMsq4 (st : FVec Ideal S8192x4x256 .f32) :
    FVec Ideal S8192x4x1 .f32 :=
  addf (Host.divf (broadcastInDim S8192x4x1 ![0, 1] bcast_S8192x4_S8192x4x1_0_1 (Host.reduceAdd (mulf st st) (constant S_ .f32
    0x00000000#32) reducesTo_S8192x4x256_S8192x4_d2 h_S_)) (broadcastInDim S8192x4x1 ![] bcast_S_S8192x4x1 (constant S_ .f32
    0x43800000#32))) (broadcastInDim S8192x4x1 ![] bcast_S_S8192x4x1 (constant S_ .f32 0x358637BD#32))

/-- The reference's incoming gradients of the weighted groups. -/
def refCt (dym : FVec Ideal S8192x1024 .f32) (h : FVec Ideal S8192x3840 .f32) :
    FVec Ideal S8192x4x256 .f32 :=
  shapeCast _ (mulf dym (mulf (extractStridedSlice S8192x1024 ![0, 0] h slices_S8192x3840_S8192x1024_0_0) (Host.divf
    (broadcastInDim S8192x1024 ![] bcast_S_S8192x1024 (constant S_ .f32 0x3F800000#32)) (addf (broadcastInDim S8192x1024 ![]
    bcast_S_S8192x1024 (constant S_ .f32 0x3F800000#32)) (Host.exp (Host.negf (extractStridedSlice S8192x1024 ![0, 0] h
    slices_S8192x3840_S8192x1024_0_0))))))) shapeCasts_S8192x1024_S8192x4x256

/-- The reference's gradients of the groups. -/
def refDys (st ct : FVec Ideal S8192x4x256 .f32) (gg : FVec Ideal S1x1024 .f32) :
    FVec Ideal S8192x4x256 .f32 :=
  addf (addf (mulf (mulf ct (broadcastInDim S8192x4x256 ![0, 1, 2] bcast_S1x4x256_S8192x4x256_0_1_2 (broadcastInDim S1x4x256
    ![1, 2] bcast_S4x256_S1x4x256_1_2 (shapeCast _ gg shapeCasts_S1x1024_S4x256)))) (broadcastInDim S8192x4x256 ![0, 1, 2]
    bcast_S8192x4x1_S8192x4x256_0_1_2 (Host.rsqrt (refMsq4 st)))) (mulf st (broadcastInDim S8192x4x256 ![0, 1]
    bcast_S8192x4_S8192x4x256_0_1 (Host.reduceAdd (Host.divf (mulf (shapeCast _ (Host.reduceAdd (mulf st (mulf ct
    (broadcastInDim S8192x4x256 ![0, 1, 2] bcast_S1x4x256_S8192x4x256_0_1_2 (broadcastInDim S1x4x256 ![1, 2]
    bcast_S4x256_S1x4x256_1_2 (shapeCast _ gg shapeCasts_S1x1024_S4x256))))) (constant S_ .f32 0x00000000#32)
    reducesTo_S8192x4x256_S8192x4_d2 h_S_) shapeCasts_S8192x4_S8192x4x1) (mulf (broadcastInDim S8192x4x1 ![] bcast_S_S8192x4x1
    (constant S_ .f32 0xBF000000#32)) (Host.divf (Host.rsqrt (refMsq4 st)) (refMsq4 st)))) (broadcastInDim S8192x4x1 ![]
    bcast_S_S8192x4x1 (constant S_ .f32 0x43800000#32))) (constant S_ .f32 0x00000000#32) reducesTo_S8192x4x1_S8192x4_d2
    h_S_)))) (mulf (broadcastInDim S8192x4x256 ![0, 1] bcast_S8192x4_S8192x4x256_0_1 (Host.reduceAdd (Host.divf (mulf (shapeCast
    _ (Host.reduceAdd (mulf st (mulf ct (broadcastInDim S8192x4x256 ![0, 1, 2] bcast_S1x4x256_S8192x4x256_0_1_2 (broadcastInDim
    S1x4x256 ![1, 2] bcast_S4x256_S1x4x256_1_2 (shapeCast _ gg shapeCasts_S1x1024_S4x256))))) (constant S_ .f32 0x00000000#32)
    reducesTo_S8192x4x256_S8192x4_d2 h_S_) shapeCasts_S8192x4_S8192x4x1) (mulf (broadcastInDim S8192x4x1 ![] bcast_S_S8192x4x1
    (constant S_ .f32 0xBF000000#32)) (Host.divf (Host.rsqrt (refMsq4 st)) (refMsq4 st)))) (broadcastInDim S8192x4x1 ![]
    bcast_S_S8192x4x1 (constant S_ .f32 0x43800000#32))) (constant S_ .f32 0x00000000#32) reducesTo_S8192x4x1_S8192x4_d2 h_S_))
    st)

/-- The reference's gradient of the gate. -/
def refGate (dym : FVec Ideal S8192x1024 .f32) (st : FVec Ideal S8192x4x256 .f32) (gg : FVec Ideal S1x1024 .f32) (h : FVec Ideal S8192x3840 .f32) :
    FVec Ideal S8192x1024 .f32 :=
  mulf (mulf dym (shapeCast _ (mulf (mulf st (broadcastInDim S8192x4x256 ![0, 1, 2] bcast_S8192x4x1_S8192x4x256_0_1_2
    (Host.rsqrt (refMsq4 st)))) (broadcastInDim S8192x4x256 ![0, 1, 2] bcast_S1x4x256_S8192x4x256_0_1_2 (broadcastInDim S1x4x256
    ![1, 2] bcast_S4x256_S1x4x256_1_2 (shapeCast _ gg shapeCasts_S1x1024_S4x256)))) shapeCasts_S8192x4x256_S8192x1024)) (addf
    (mulf (broadcastInDim S8192x1024 ![] bcast_S_S8192x1024 (constant S_ .f32 0x3F800000#32)) (Host.divf (broadcastInDim
    S8192x1024 ![] bcast_S_S8192x1024 (constant S_ .f32 0x3F800000#32)) (addf (broadcastInDim S8192x1024 ![] bcast_S_S8192x1024
    (constant S_ .f32 0x3F800000#32)) (Host.exp (Host.negf (extractStridedSlice S8192x1024 ![0, 0] h
    slices_S8192x3840_S8192x1024_0_0)))))) (mulf (mulf (extractStridedSlice S8192x1024 ![0, 0] h
    slices_S8192x3840_S8192x1024_0_0) (broadcastInDim S8192x1024 ![] bcast_S_S8192x1024 (constant S_ .f32 0x3F800000#32))) (mulf
    (Host.divf (broadcastInDim S8192x1024 ![] bcast_S_S8192x1024 (constant S_ .f32 0x3F800000#32)) (addf (broadcastInDim
    S8192x1024 ![] bcast_S_S8192x1024 (constant S_ .f32 0x3F800000#32)) (Host.exp (Host.negf (extractStridedSlice S8192x1024
    ![0, 0] h slices_S8192x3840_S8192x1024_0_0))))) (subf (broadcastInDim S8192x1024 ![] bcast_S_S8192x1024 (constant S_ .f32
    0x3F800000#32)) (Host.divf (broadcastInDim S8192x1024 ![] bcast_S_S8192x1024 (constant S_ .f32 0x3F800000#32)) (addf
    (broadcastInDim S8192x1024 ![] bcast_S_S8192x1024 (constant S_ .f32 0x3F800000#32)) (Host.exp (Host.negf
    (extractStridedSlice S8192x1024 ![0, 0] h slices_S8192x3840_S8192x1024_0_0)))))))))

/-- The reference's gradient of the last normalization's weights. -/
def refDgp (d o : FVec Ideal S8192x1024 .f32) :
    FVec Ideal S1x1024 .f32 :=
  shapeCast _ (Host.reduceAdd (mulf (mulf o (broadcastInDim S8192x1024 ![0, 1] bcast_S8192x1_S8192x1024_0_1 (Host.rsqrt (refMsq
    o)))) d) (constant S_ .f32 0x00000000#32) reducesTo_S8192x1024_S1024_d0 h_S_) shapeCasts_S1024_S1x1024

/-- The reference's gradient of the groups' weights. -/
def refDgg (st ct : FVec Ideal S8192x4x256 .f32) :
    FVec Ideal S1x1024 .f32 :=
  shapeCast _ (Host.reduceAdd (shapeCast _ (Host.reduceAdd (mulf (mulf st (broadcastInDim S8192x4x256 ![0, 1, 2]
    bcast_S8192x4x1_S8192x4x256_0_1_2 (Host.rsqrt (refMsq4 st)))) ct) (constant S_ .f32 0x00000000#32)
    reducesTo_S8192x4x256_S4x256_d0 h_S_) shapeCasts_S4x256_S1x4x256) (constant S_ .f32 0x00000000#32)
    reducesTo_S1x4x256_S4x256_d0 h_S_) shapeCasts_S4x256_S1x1024

/-- The reference's gradient of group 0 by itself. -/
def refPart0 (s : FVec Ideal S8192x4x256 .f32) :
    FVec Ideal S8192x256 .f32 :=
  shapeCast _ (extractStridedSlice S8192x1x256 ![0, 0, 0] s slices_S8192x4x256_S8192x1x256_0_0_0)
    shapeCasts_S8192x1x256_S8192x256

/-- The reference's gradient of group 1 by itself. -/
def refPart1 (s : FVec Ideal S8192x4x256 .f32) :
    FVec Ideal S8192x256 .f32 :=
  shapeCast _ (extractStridedSlice S8192x1x256 ![0, 1, 0] s slices_S8192x4x256_S8192x1x256_0_1_0)
    shapeCasts_S8192x1x256_S8192x256

/-- The reference's gradient of group 3 by itself. -/
def refPart3 (s : FVec Ideal S8192x4x256 .f32) :
    FVec Ideal S8192x256 .f32 :=
  shapeCast _ (extractStridedSlice S8192x1x256 ![0, 3, 0] s slices_S8192x4x256_S8192x1x256_0_3_0)
    shapeCasts_S8192x1x256_S8192x256

/-- The reference's gradient of group 2, with the columns not in use put back. -/
def refPart2 (s : FVec Ideal S8192x4x256 .f32) :
    FVec Ideal S8192x512 .f32 :=
  shapeCast _ (pad S8192x4x128 ![0, 0, 0] ![0, 0, 64] ![0, 0, 0] (shapeCast _ (shapeCast _ (extractStridedSlice S8192x1x256 ![0,
    2, 0] s slices_S8192x4x256_S8192x1x256_0_2_0) shapeCasts_S8192x1x256_S8192x256) shapeCasts_S8192x256_S8192x4x64) (sitofp
    .f32 (constantI S_ 32 0#32)) pads_S8192x4x64_S8192x4x128_000_000_0640 h_S_) shapeCasts_S8192x4x128_S8192x512

theorem refMsq_apply (o : FVec Ideal S8192x1024 .f32) (r : Fin 8192) (z : Fin 1) :
    refMsq o (ix2 r z) = msq 0x44800000#32 (fun k => o (ix2 r k)) := by
  pointwise [refMsq]
  rfl

theorem refMsq4_apply (s : FVec Ideal S8192x4x256 .f32) (r : Fin 8192) (g : Fin 4) (z : Fin 1) :
    refMsq4 s (ix3 r g z) = msq 0x43800000#32 (fun k => s (ix3 r g k)) := by
  pointwise [refMsq4]
  rfl

theorem refDo_apply (d o : FVec Ideal S8192x1024 .f32) (g : FVec Ideal S1x1024 .f32) (r : Fin 8192) (l : Fin 1024) :
    refDo d o g (ix2 r l)
      = slant 0x44800000#32 (fun k => o (ix2 r k)) (fun k => d (ix2 r k) * g (ix2 0 k)) l := by
  pointwise [refDo]
  simp only [refMsq_apply, Finset.univ_unique, Finset.sum_const, Finset.card_singleton, one_smul]
  unfold slant
  rw [Consts.ofBits_neg_half]
  simp only [Consts.ofBits_width]
  exact (two_forms 1024 (by norm_num) _ _ _ _ (msq_pos _ 1024 (by norm_num) Consts.ofBits_width _)).symm

theorem refDym_apply (v : FVec Ideal S8192x1024 .f32) (W : Vec Ideal S1024x1024 .bf16) (r : Fin 8192) (j : Fin 1024) :
    refDym v W (ix2 r j) = back (fun k => v (ix2 r k)) (fun k l => W (ix2 k l)) j := by
  pointwise [refDym, dot_S8192x1024_S1024x1024_S8192x1024_1_0_0_1_n_n]
  rfl

theorem refComp_apply (y : Vec Ideal S8192x512 .f32) (r : Fin 8192) (p : Fin 256) :
    refComp y (ix2 r p) = comp (fun k => y (ix2 r k)) p := by
  unfold comp
  pointwise [refComp]

theorem refStack_apply (ya yb yc yd : Vec Ideal S8192x256 .f32) (r : Fin 8192) (g : Fin 4) (p : Fin 256) :
    refStack ya yb yc yd (ix3 r g p)
      = (![fun k => ya (ix2 r k), fun k => yb (ix2 r k), fun k => yc (ix2 r k), fun k => yd (ix2 r k)]
          : Fin 4 → Fin 256 → EReal) g p := by
  pointwise [refStack]
  fin_cases g <;> rfl

/-- The gate's column that is column `j` of the mixed row. -/
def gcol (j : Fin 1024) : Fin 3840 := ⟨j.val, by have := j.isLt; omega⟩

theorem refCt_apply (dym : FVec Ideal S8192x1024 .f32) (h : FVec Ideal S8192x3840 .f32) (r : Fin 8192) (g : Fin 4)
    (p : Fin 256) :
    refCt dym h (ix3 r g p) = dym (ix2 r (quad g p)) * silu (h (ix2 r (gcol (quad g p)))) := by
  pointwise [refCt]
  rfl

theorem refDys_apply (st ct : FVec Ideal S8192x4x256 .f32) (gg : FVec Ideal S1x1024 .f32) (r : Fin 8192) (g : Fin 4)
    (p : Fin 256) :
    refDys st ct gg (ix3 r g p)
      = slant 0x43800000#32 (fun k => st (ix3 r g k)) (fun k => ct (ix3 r g k) * gg (ix2 0 (quad g k))) p := by
  pointwise [refDys]
  simp only [refMsq4_apply, Finset.univ_unique, Finset.sum_const, Finset.card_singleton, one_smul]
  unfold slant
  rw [Consts.ofBits_neg_half]
  simp only [ofBits_group]
  exact (two_forms 256 (by norm_num) _ _ _ _ (msq_pos _ 256 (by norm_num) ofBits_group _)).symm

theorem refGate_apply (dym : FVec Ideal S8192x1024 .f32) (st : FVec Ideal S8192x4x256 .f32) (gg : FVec Ideal S1x1024 .f32)
    (h : FVec Ideal S8192x3840 .f32) (r : Fin 8192) (j : Fin 1024) (g : Fin 4) (p : Fin 256) (hj : j = quad g p) :
    refGate dym st gg h (ix2 r j)
      = dym (ix2 r j) * normed 0x43800000#32 (fun k => st (ix3 r g k)) (fun k => gg (ix2 0 (quad g k))) p
        * slope (h (ix2 r (gcol j))) := by
  have e1 : (⟨j.val / 256, by have := j.isLt; omega⟩ : Fin 4) = g := Fin.ext (by
    show j.val / 256 = g.val
    have e : j.val = g.val * 256 + p.val := congrArg Fin.val hj
    rw [e]; show (g.val * 256 + p.val) / 256 = g.val; have := p.isLt; omega)
  have e2 : (⟨j.val % 256, by omega⟩ : Fin 256) = p := Fin.ext (by
    show j.val % 256 = p.val
    have e : j.val = g.val * 256 + p.val := congrArg Fin.val hj
    rw [e]; show (g.val * 256 + p.val) % 256 = p.val; have := p.isLt; omega)
  pointwise [refGate]
  simp only [refMsq4_apply, slope_eq, one_mul, mul_one]
  simp only [e1, e2]
  subst hj
  rfl

theorem refDgp_apply (d o : FVec Ideal S8192x1024 .f32) (l : Fin 1024) :
    refDgp d o (ix2 0 l) = ∑ r, weigh 0x44800000#32 (fun k => o (ix2 r k)) (fun k => d (ix2 r k)) l := by
  pointwise [refDgp]
  simp only [refMsq_apply]
  exact Finset.sum_congr rfl fun r _ => mul_comm _ _

theorem refDgg_apply (st ct : FVec Ideal S8192x4x256 .f32) (g : Fin 4) (p : Fin 256) :
    refDgg st ct (ix2 0 (quad g p)) = ∑ r, weigh 0x43800000#32 (fun k => st (ix3 r g k)) (fun k => ct (ix3 r g k)) p := by
  have e1 : (⟨(quad g p).val / 256, by have := (quad g p).isLt; omega⟩ : Fin 4) = g := Fin.ext (by
    show (g.val * 256 + p.val) / 256 = g.val; have := p.isLt; omega)
  have e2 : (⟨(quad g p).val % 256, by omega⟩ : Fin 256) = p := Fin.ext (by
    show (g.val * 256 + p.val) % 256 = p.val; have := p.isLt; omega)
  pointwise [refDgg]
  simp only [refMsq4_apply, Finset.univ_unique, Finset.sum_const, Finset.card_singleton, one_smul]
  simp only [e1, e2]
  exact Finset.sum_congr rfl fun r _ => mul_comm _ _

theorem refPart0_apply (s : FVec Ideal S8192x4x256 .f32) (r : Fin 8192) (p : Fin 256) :
    refPart0 s (ix2 r p) = s (ix3 r 0 p) := by
  pointwise [refPart0]

theorem refPart1_apply (s : FVec Ideal S8192x4x256 .f32) (r : Fin 8192) (p : Fin 256) :
    refPart1 s (ix2 r p) = s (ix3 r 1 p) := by
  pointwise [refPart1]

theorem refPart3_apply (s : FVec Ideal S8192x4x256 .f32) (r : Fin 8192) (p : Fin 256) :
    refPart3 s (ix2 r p) = s (ix3 r 3 p) := by
  pointwise [refPart3]

theorem refPart2_apply (s : FVec Ideal S8192x4x256 .f32) (r : Fin 8192) (q : Fin 512) :
    refPart2 s (ix2 r q) = spread (fun k => s (ix3 r 2 k)) q := by
  pointwise [refPart2]
  unfold spread
  have hq := q.isLt
  by_cases h : q.val % 128 < 64
  · rw [if_pos h]
    refine Eq.trans (dif_pos (⟨by omega, h⟩ : q.val / 128 < 4 ∧ q.val % 128 < 64)) ?_
    exact congrArg (fun k => s (ix3 r 2 k)) (Fin.ext (show q.val / 128 * 64 + q.val % 128 = q.val / 128 * 64 + q.val % 64 by
      omega))
  · rw [if_neg h]
    refine Eq.trans (dif_neg (fun k : q.val / 128 < 4 ∧ q.val % 128 < 64 => h k.2)) ?_
    show ((((0#32 : BitVec 32).toInt : ℤ) : ℝ) : EReal) = 0
    simp

variable (m : (ℓ : Loc nD τ sig) → Buf (Elt Ideal) ℓ) (c : Dev nD)

/-- The reference's gradient through the last normalization, of the arrays. -/
def theDo : FVec Ideal S8192x1024 .f32 := refDo (m ((c.tc : Thread nD τ).loc main_arg0)) (m ((c.tc : Thread nD τ).loc main_arg1)) (m ((c.tc : Thread nD τ).loc main_arg2))
/-- What the reference's output projection takes back, of the arrays. -/
def theDym : FVec Ideal S8192x1024 .f32 := refDym (theDo m c) (m ((c.tc : Thread nD τ).loc main_arg3))
/-- The reference's groups, of the arrays. -/
def theStack : Vec Ideal S8192x4x256 .f32 :=
  refStack (m ((c.tc : Thread nD τ).loc main_arg4)) (m ((c.tc : Thread nD τ).loc main_arg5))
    (refComp (m ((c.tc : Thread nD τ).loc main_arg6))) (m ((c.tc : Thread nD τ).loc main_arg7))
/-- The reference's incoming gradients of the weighted groups, of the arrays. -/
def theCt : FVec Ideal S8192x4x256 .f32 := refCt (theDym m c) (m ((c.tc : Thread nD τ).loc main_arg8))
/-- The reference's gradients of the groups, of the arrays. -/
def theDys : FVec Ideal S8192x4x256 .f32 := refDys (theStack m c) (theCt m c) (m ((c.tc : Thread nD τ).loc main_arg9))

theorem res11 : res_main_v111 m c = refPart0 (theDys m c) := rfl
theorem res12 : res_main_v113 m c = refPart1 (theDys m c) := rfl
theorem res13 : res_main_v108 m c = refPart2 (theDys m c) := rfl
theorem res14 : res_main_v115 m c = refPart3 (theDys m c) := rfl
theorem res15 : res_main_v116 m c
    = truncf .bf16 (refGate (theDym m c) (theStack m c) (m ((c.tc : Thread nD τ).loc main_arg9)) (m ((c.tc : Thread nD τ).loc main_arg8))) bitsLt_bf16_f32 := rfl
theorem res17 : res_main_v117 m c = refDgg (theStack m c) (theCt m c) := rfl

end Cert.Proof.MixGrad

end
-- ==== Proof.MixGrad.Value.lean ====
/- The eight arrays the mixing call's derivative leaves: the gradients of every row in its block, and the two normalizations'
   weights' gradients summed over all the rows, block after block. -/
module

public import proofs.«01_k».proof.Proof.Gen.MixGradIdeal.Value
public import proofs.«01_k».proof.Proof.MixGrad.Payload
public import Idealize.ShloMosaic.Lib.Pipeline.ValueKit
public import Idealize.ShloMosaic.Lib.Pipeline.ReadBack
public import Idealize.ShloMosaic.Lib.WritesUnit

@[expose] public section

noncomputable section

namespace Cert.Proof.MixGrad

open Idealize.ShloMosaic Idealize.ShloMosaic.TcCoe Idealize.SL Idealize.SL.Sem
open Cert.MixGradIdeal Cert.MixGradIdeal.Gen Cert.MixGradIdeal.Value

variable (m : (ℓ : Loc nD τ sig) → Buf (Elt Ideal) ℓ) (c : Dev nD)

/-- The result's gradient's row. -/
def inRow (r : Fin 8192) (k : Fin 1024) : EReal :=
  (m ((c : Thread nD τ).loc main_arg0) : Vec Ideal S8192x1024 .f32) (ix2 r k)
/-- The output projection's row. -/
def outRow (r : Fin 8192) (k : Fin 1024) : EReal :=
  (m ((c : Thread nD τ).loc main_arg1) : Vec Ideal S8192x1024 .f32) (ix2 r k)
/-- The last normalization's weights. -/
def wpost (k : Fin 1024) : EReal := (m ((c : Thread nD τ).loc main_arg2) : Vec Ideal S1x1024 .f32) (ix2 0 k)
/-- The output projection's weights, transposed. -/
def wout (r : Fin 1024) (k : Fin 1024) : EReal :=
  (m ((c : Thread nD τ).loc main_arg3) : Vec Ideal S1024x1024 .bf16) (ix2 r k)
/-- The first group's row. -/
def rowA (r : Fin 8192) (k : Fin 256) : EReal :=
  (m ((c : Thread nD τ).loc main_arg4) : Vec Ideal S8192x256 .f32) (ix2 r k)
/-- The second group's row. -/
def rowB (r : Fin 8192) (k : Fin 256) : EReal :=
  (m ((c : Thread nD τ).loc main_arg5) : Vec Ideal S8192x256 .f32) (ix2 r k)
/-- The third group's row, with its unused columns. -/
def rowC (r : Fin 8192) (k : Fin 512) : EReal :=
  (m ((c : Thread nD τ).loc main_arg6) : Vec Ideal S8192x512 .f32) (ix2 r k)
/-- The fourth group's row. -/
def rowE (r : Fin 8192) (k : Fin 256) : EReal :=
  (m ((c : Thread nD τ).loc main_arg7) : Vec Ideal S8192x256 .f32) (ix2 r k)
/-- The groups' weights. -/
def wgrp (k : Fin 1024) : EReal := (m ((c : Thread nD τ).loc main_arg9) : Vec Ideal S1x1024 .f32) (ix2 0 k)
/-- The gate's row. -/
def gate (r : Fin 8192) (k : Fin 1024) : EReal :=
  (m ((c : Thread nD τ).loc main_arg8) : Vec Ideal S8192x3840 .f32) (ix2 r ⟨k.val, by have := k.isLt; omega⟩)

/-- The gradient through the last normalization. -/
def rowDo (r : Fin 8192) : Fin 1024 → EReal := slant 0x44800000#32 (outRow m c r) fun k => inRow m c r k * wpost m c k
/-- What the output projection takes back. -/
def rowDym (r : Fin 8192) : Fin 1024 → EReal := back (rowDo m c r) (wout m c)
/-- The groups' rows. -/
def grp (r : Fin 8192) : Fin 4 → Fin 256 → EReal := ![rowA m c r, rowB m c r, comp (rowC m c r), rowE m c r]
/-- The incoming gradients of the weighted groups. -/
def inc (r : Fin 8192) (g : Fin 4) (k : Fin 256) : EReal := rowDym m c r (quad g k) * silu (gate m c r (quad g k))
/-- The groups' gradients. -/
def dgrp (r : Fin 8192) (g : Fin 4) : Fin 256 → EReal :=
  slant 0x43800000#32 (grp m c r g) fun k => inc m c r g k * wgrp m c (quad g k)
/-- The gate's gradient. -/
def dgate (r : Fin 8192) (g : Fin 4) (p : Fin 256) : EReal :=
  rowDym m c r (quad g p) * normed 0x43800000#32 (grp m c r g) (fun k => wgrp m c (quad g k)) p
    * slope (gate m c r (quad g p))

/-- The group of a column. -/
def gOf (j : Fin 1024) : Fin 4 := ⟨j.val / 256, by have := j.isLt; omega⟩
/-- A column's place in its group. -/
def pOf (j : Fin 1024) : Fin 256 := ⟨j.val % 256, by omega⟩

theorem quad_of (j : Fin 1024) : quad (gOf j) (pOf j) = j := Fin.ext (show j.val / 256 * 256 + j.val % 256 = j.val by omega)

/-- The gradients through the last normalization. -/
def dos : Vec Ideal S8192x1024 .bf16 := fun i => rowDo m c (i 0) (i 1)
/-- One group's gradients. -/
def parts (g : Fin 4) : Vec Ideal S8192x256 .f32 := fun i => dgrp m c (i 0) g (i 1)
/-- The third group's, with the columns not in use. -/
def spreads : Vec Ideal S8192x512 .f32 := fun i => spread (dgrp m c (i 0) 2) (i 1)
/-- The gate's gradients. -/
def dgates : Vec Ideal S8192x1024 .bf16 := fun i => dgate m c (i 0) (gOf (i 1)) (pOf (i 1))
/-- The last normalization's weights' gradients. -/
def wposts : Vec Ideal S1x1024 .f32 := fun i => ∑ r, weigh 0x44800000#32 (outRow m c r) (inRow m c r) (i 1)
/-- The groups' weights' gradients. -/
def wgrps : Vec Ideal S1x1024 .f32 := fun i =>
  ∑ r, weigh 0x43800000#32 (grp m c r (gOf (i 1))) (inc m c r (gOf (i 1))) (pOf (i 1))

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)
theorem at12 : ∀ t : Fin cfg0.N, win0_12.index t = ![t.val, 0] := (by decide +kernel : ∀ t : Fin grid0.N, _)
theorem at13 : ∀ t : Fin cfg0.N, win0_13.index t = ![t.val, 0] := (by decide +kernel : ∀ t : Fin grid0.N, _)
theorem at14 : ∀ t : Fin cfg0.N, win0_14.index t = ![t.val, 0] := (by decide +kernel : ∀ t : Fin grid0.N, _)
theorem at15 : ∀ t : Fin cfg0.N, win0_15.index t = ![t.val, 0] := (by decide +kernel : ∀ t : Fin grid0.N, _)
theorem at16 : ∀ t : Fin cfg0.N, win0_16.index t = ![0, 0] := (by decide +kernel : ∀ t : Fin grid0.N, _)
theorem at17 : ∀ t : Fin cfg0.N, win0_17.index t = ![0, 0] := (by decide +kernel : ∀ t : Fin grid0.N, _)

/-- The row of the arrays that is row `r` of block `t`. -/
def at_ (t : Fin cfg0.N) (r : Fin 256) : Fin 8192 :=
  ⟨t.val * 256 + r.val, by have h : t.val < 32 := t.isLt; have := r.isLt; omega⟩

theorem blk0 (t : Fin cfg0.N) (r : Fin 256) (p : Fin 1024) :
    (iblk m c 0 t : Vec Ideal S256x1024 .f32) (ix2 r p) = inRow m c (at_ t r) p := by
  blk_simp [iblk]
  refine congrArg (m ((c : Thread nD τ).loc main_arg0)) ?_
  blk_ext [at0, at_]

theorem blk1 (t : Fin cfg0.N) (r : Fin 256) (p : Fin 1024) :
    (iblk m c 1 t : Vec Ideal S256x1024 .f32) (ix2 r p) = outRow m c (at_ t r) p := by
  blk_simp [iblk]
  refine congrArg (m ((c : Thread nD τ).loc main_arg1)) ?_
  blk_ext [at1, at_]

theorem blk4 (t : Fin cfg0.N) (r : Fin 256) (p : Fin 256) :
    (iblk m c 4 t : Vec Ideal S256x256 .f32) (ix2 r p) = rowA m c (at_ t r) p := by
  blk_simp [iblk]
  refine congrArg (m ((c : Thread nD τ).loc main_arg4)) ?_
  blk_ext [at4, at_]

theorem blk5 (t : Fin cfg0.N) (r : Fin 256) (p : Fin 256) :
    (iblk m c 5 t : Vec Ideal S256x256 .f32) (ix2 r p) = rowB m c (at_ t r) p := by
  blk_simp [iblk]
  refine congrArg (m ((c : Thread nD τ).loc main_arg5)) ?_
  blk_ext [at5, at_]

theorem blk6 (t : Fin cfg0.N) (r : Fin 256) (p : Fin 512) :
    (iblk m c 6 t : Vec Ideal S256x512 .f32) (ix2 r p) = rowC m c (at_ t r) p := by
  blk_simp [iblk]
  refine congrArg (m ((c : Thread nD τ).loc main_arg6)) ?_
  blk_ext [at6, at_]

theorem blk7 (t : Fin cfg0.N) (r : Fin 256) (p : Fin 256) :
    (iblk m c 7 t : Vec Ideal S256x256 .f32) (ix2 r p) = rowE m c (at_ t r) p := by
  blk_simp [iblk]
  refine congrArg (m ((c : Thread nD τ).loc main_arg7)) ?_
  blk_ext [at7, at_]

theorem blk2 (t : Fin cfg0.N) (k : Fin 1024) : (iblk m c 2 t : Vec Ideal S1x1024 .f32) (ix2 0 k) = wpost m c k := by
  blk_simp [iblk]
  refine congrArg (m ((c : Thread nD τ).loc main_arg2)) ?_
  blk_ext [at2]

theorem blk9 (t : Fin cfg0.N) (k : Fin 1024) : (iblk m c 9 t : Vec Ideal S1x1024 .f32) (ix2 0 k) = wgrp m c k := by
  blk_simp [iblk]
  refine congrArg (m ((c : Thread nD τ).loc main_arg9)) ?_
  blk_ext [at9]

theorem blk3 (t : Fin cfg0.N) (k l : Fin 1024) : (iblk m c 3 t : Vec Ideal S1024x1024 .bf16) (ix2 k l) = wout m c k l := by
  blk_simp [iblk]
  refine congrArg (m ((c : Thread nD τ).loc main_arg3)) ?_
  blk_ext [at3]

theorem blk8 (t : Fin cfg0.N) (r : Fin 256) (k : Fin 1024) :
    (X0_8 m c t : Vec Ideal S256x1024 .f32) (ix2 r k) = gate m c (at_ t r) k := by
  refine (dif_pos (moved0_8 t (ix2 r k))).trans ?_
  blk_simp [iblk]
  refine congrArg (m ((c : Thread nD τ).loc main_arg8)) ?_
  blk_ext [at8, at_]

/-- A quarter of one row of 1024, loaded by itself. -/
theorem ld_quarter (X : Vec Ideal S1x1024 .f32) (g : Fin 4) (o : ℕ) (ho : o = g.val * 256)
    (h : ∀ a : Fin S1x1024.rank, (![0, o] : Fin 2 → ℕ) a + (![1, 256] : Fin 2 → ℕ) a ≤ S1x1024.size a) (p : Fin 256) :
    (View.ld X (Rect.unit (s := S1x1024) ![0, o] ![1, 256] h) : Vec Ideal S1x256 .f32) (ix2 0 p) = X (ix2 0 (quad g p)) := by
  refine congrArg X ?_
  funext a
  fin_cases a
  · rfl
  · exact Fin.ext (show o + 1 * p.val = g.val * 256 + p.val by omega)

/-- The block of gradients through the last normalization. -/
def b29 (t : Fin cfg0.N) : FVec Ideal S256x1024 .f32 := k0_pay5 (iblk m c 1 t) (iblk m c 2 t) (iblk m c 0 t)
/-- The block of what the output projection takes back. -/
def b42 (t : Fin cfg0.N) : FVec Ideal S256x1024 .f32 := k0_pay8 (b29 m c t) (iblk m c 3 t)
/-- The block of the gate's factors. -/
def b51 (t : Fin cfg0.N) : FVec Ideal S256x1024 .f32 := k0_pay10 (X0_8 m c t)
/-- The block of their derivatives. -/
def b57 (t : Fin cfg0.N) : FVec Ideal S256x1024 .f32 := k0_pay11 (X0_8 m c t)
/-- The block of the third group's columns in use. -/
def b65 (t : Fin cfg0.N) : FVec Ideal S256x256 .f32 := k0_pay12 (iblk m c 6 t)

theorem b29_apply (t : Fin cfg0.N) (r : Fin 256) (l : Fin 1024) : b29 m c t (ix2 r l) = rowDo m c (at_ t r) l := by
  refine (pay5_apply ..).trans ?_
  simp only [blk0, blk1, blk2]
  rfl

theorem b42_apply (t : Fin cfg0.N) (r : Fin 256) (l : Fin 1024) : b42 m c t (ix2 r l) = rowDym m c (at_ t r) l := by
  refine (pay8_apply ..).trans ?_
  simp only [b29_apply, blk3]
  rfl

theorem b51_apply (t : Fin cfg0.N) (r : Fin 256) (l : Fin 1024) : b51 m c t (ix2 r l) = silu (gate m c (at_ t r) l) := by
  refine (pay10_apply ..).trans ?_
  rw [blk8]

theorem b57_apply (t : Fin cfg0.N) (r : Fin 256) (l : Fin 1024) : b57 m c t (ix2 r l) = slope (gate m c (at_ t r) l) := by
  refine (pay11_apply ..).trans ?_
  rw [blk8]

theorem b65_apply (t : Fin cfg0.N) (r : Fin 256) (p : Fin 256) : b65 m c t (ix2 r p) = comp (rowC m c (at_ t r)) p := by
  refine (pay12_apply ..).trans ?_
  simp only [blk6]

/-- The first group's weights. -/
def qw0 (t : Fin cfg0.N) : Vec Ideal S1x256 .f32 :=
  View.ld (iblk m c 9 t : Vec Ideal S1x1024 .f32) (Rect.unit ![0, 0] ![1, 256] inb_S1x1024_S1x256_0_0)

theorem qw0_apply (t : Fin cfg0.N) (p : Fin 256) : qw0 m c t (ix2 0 p) = wgrp m c (quad 0 p) :=
  (ld_quarter _ 0 0 rfl _ p).trans (blk9 m c t _)

/-- The block of the first group's part of the gate's gradients. -/
def gate0 (t : Fin cfg0.N) : FVec Ideal S256x256 .bf16 :=
  k0_pay15 (b42 m c t) (b57 m c t) (iblk m c 4 t)
    (qw0 m c t) (k0_pay13 (iblk m c 4 t)) (FloatOps.ofBits FTy.f32 0x358637BD#32)
/-- The block of the first group's gradients. -/
def part0 (t : Fin cfg0.N) : FVec Ideal S256x256 .f32 :=
  k0_pay17 (b42 m c t) (b51 m c t) (iblk m c 4 t)
    (qw0 m c t) (k0_pay13 (iblk m c 4 t)) (FloatOps.ofBits FTy.f32 0x358637BD#32)
/-- What the block makes of a quarter `old` of the groups' weights' gradients. -/
def wsum0 (t : Fin cfg0.N) (old : Vec Ideal S1x256 .f32) : FVec Ideal S1x256 .f32 :=
  k0_pay18 (b42 m c t) (b51 m c t) (iblk m c 4 t) (k0_pay13 (iblk m c 4 t)) (FloatOps.ofBits FTy.f32 0x358637BD#32) old

theorem gate0_apply (t : Fin cfg0.N) (r p : Fin 256) : gate0 m c t (ix2 r p) = dgate m c (at_ t r) 0 p := by
  refine (pay15_apply ..).trans ?_
  simp only [b42_apply, b57_apply, blk4, qw0_apply]
  rfl

theorem part0_apply (t : Fin cfg0.N) (r p : Fin 256) : part0 m c t (ix2 r p) = dgrp m c (at_ t r) 0 p := by
  refine (pay17_apply ..).trans ?_
  simp only [b42_apply, b51_apply, blk4, qw0_apply]
  rfl

theorem wsum0_apply (t : Fin cfg0.N) (old : Vec Ideal S1x256 .f32) (p : Fin 256) :
    wsum0 m c t old (ix2 0 p)
      = old (ix2 0 p) + ∑ r, weigh 0x43800000#32 (grp m c (at_ t r) 0) (inc m c (at_ t r) 0) p := by
  refine (pay18_apply ..).trans ?_
  simp only [b42_apply, b51_apply, blk4]
  rfl

/-- The second group's weights. -/
def qw1 (t : Fin cfg0.N) : Vec Ideal S1x256 .f32 :=
  View.ld (iblk m c 9 t : Vec Ideal S1x1024 .f32) (Rect.unit ![0, 256] ![1, 256] inb_S1x1024_S1x256_0_256)

theorem qw1_apply (t : Fin cfg0.N) (p : Fin 256) : qw1 m c t (ix2 0 p) = wgrp m c (quad 1 p) :=
  (ld_quarter _ 1 256 rfl _ p).trans (blk9 m c t _)

/-- The block of the second group's part of the gate's gradients. -/
def gate1 (t : Fin cfg0.N) : FVec Ideal S256x256 .bf16 :=
  k0_pay21 (b42 m c t) (b57 m c t) (iblk m c 5 t)
    (qw1 m c t) (k0_pay19 (iblk m c 5 t)) (FloatOps.ofBits FTy.f32 0x43800000#32)
/-- The block of the second group's gradients. -/
def part1 (t : Fin cfg0.N) : FVec Ideal S256x256 .f32 :=
  k0_pay23 (b42 m c t) (b51 m c t) (iblk m c 5 t)
    (qw1 m c t) (k0_pay19 (iblk m c 5 t)) (FloatOps.ofBits FTy.f32 0x43800000#32)
/-- What the block makes of a quarter `old` of the groups' weights' gradients. -/
def wsum1 (t : Fin cfg0.N) (old : Vec Ideal S1x256 .f32) : FVec Ideal S1x256 .f32 :=
  k0_pay24 (b42 m c t) (b51 m c t) (iblk m c 5 t) (k0_pay19 (iblk m c 5 t)) (FloatOps.ofBits FTy.f32 0x43800000#32) old

theorem gate1_apply (t : Fin cfg0.N) (r p : Fin 256) : gate1 m c t (ix2 r p) = dgate m c (at_ t r) 1 p := by
  refine (pay21_apply ..).trans ?_
  simp only [b42_apply, b57_apply, blk5, qw1_apply]
  rfl

theorem part1_apply (t : Fin cfg0.N) (r p : Fin 256) : part1 m c t (ix2 r p) = dgrp m c (at_ t r) 1 p := by
  refine (pay23_apply ..).trans ?_
  simp only [b42_apply, b51_apply, blk5, qw1_apply]
  rfl

theorem wsum1_apply (t : Fin cfg0.N) (old : Vec Ideal S1x256 .f32) (p : Fin 256) :
    wsum1 m c t old (ix2 0 p)
      = old (ix2 0 p) + ∑ r, weigh 0x43800000#32 (grp m c (at_ t r) 1) (inc m c (at_ t r) 1) p := by
  refine (pay24_apply ..).trans ?_
  simp only [b42_apply, b51_apply, blk5]
  rfl

/-- The third group's weights. -/
def qw2 (t : Fin cfg0.N) : Vec Ideal S1x256 .f32 :=
  View.ld (iblk m c 9 t : Vec Ideal S1x1024 .f32) (Rect.unit ![0, 512] ![1, 256] inb_S1x1024_S1x256_0_512)

theorem qw2_apply (t : Fin cfg0.N) (p : Fin 256) : qw2 m c t (ix2 0 p) = wgrp m c (quad 2 p) :=
  (ld_quarter _ 2 512 rfl _ p).trans (blk9 m c t _)

/-- The block of the third group's part of the gate's gradients. -/
def gate2 (t : Fin cfg0.N) : FVec Ideal S256x256 .bf16 :=
  k0_pay27 (b42 m c t) (b57 m c t) (b65 m c t)
    (qw2 m c t) (k0_pay25 (b65 m c t))
/-- The block of the third group's gradients. -/
def part2 (t : Fin cfg0.N) : FVec Ideal S256x256 .f32 :=
  k0_pay29 (b42 m c t) (b51 m c t) (b65 m c t)
    (qw2 m c t) (k0_pay25 (b65 m c t))
/-- What the block makes of a quarter `old` of the groups' weights' gradients. -/
def wsum2 (t : Fin cfg0.N) (old : Vec Ideal S1x256 .f32) : FVec Ideal S1x256 .f32 :=
  k0_pay30 (b42 m c t) (b51 m c t) (b65 m c t) (k0_pay25 (b65 m c t)) old

theorem gate2_apply (t : Fin cfg0.N) (r p : Fin 256) : gate2 m c t (ix2 r p) = dgate m c (at_ t r) 2 p := by
  refine (pay27_apply ..).trans ?_
  simp only [b42_apply, b57_apply, b65_apply, qw2_apply]
  rfl

theorem part2_apply (t : Fin cfg0.N) (r p : Fin 256) : part2 m c t (ix2 r p) = dgrp m c (at_ t r) 2 p := by
  refine (pay29_apply ..).trans ?_
  simp only [b42_apply, b51_apply, b65_apply, qw2_apply]
  rfl

theorem wsum2_apply (t : Fin cfg0.N) (old : Vec Ideal S1x256 .f32) (p : Fin 256) :
    wsum2 m c t old (ix2 0 p)
      = old (ix2 0 p) + ∑ r, weigh 0x43800000#32 (grp m c (at_ t r) 2) (inc m c (at_ t r) 2) p := by
  refine (pay30_apply ..).trans ?_
  simp only [b42_apply, b51_apply, b65_apply]
  rfl

/-- The fourth group's weights. -/
def qw3 (t : Fin cfg0.N) : Vec Ideal S1x256 .f32 :=
  View.ld (iblk m c 9 t : Vec Ideal S1x1024 .f32) (Rect.unit ![0, 768] ![1, 256] inb_S1x1024_S1x256_0_768)

theorem qw3_apply (t : Fin cfg0.N) (p : Fin 256) : qw3 m c t (ix2 0 p) = wgrp m c (quad 3 p) :=
  (ld_quarter _ 3 768 rfl _ p).trans (blk9 m c t _)

/-- The block of the fourth group's part of the gate's gradients. -/
def gate3 (t : Fin cfg0.N) : FVec Ideal S256x256 .bf16 :=
  k0_pay32 (b42 m c t) (b57 m c t) (iblk m c 7 t)
    (qw3 m c t)
/-- The block of the fourth group's gradients. -/
def part3 (t : Fin cfg0.N) : FVec Ideal S256x256 .f32 :=
  k0_pay34 (b42 m c t) (b51 m c t) (iblk m c 7 t)
    (qw3 m c t)
/-- What the block makes of a quarter `old` of the groups' weights' gradients. -/
def wsum3 (t : Fin cfg0.N) (old : Vec Ideal S1x256 .f32) : FVec Ideal S1x256 .f32 :=
  k0_pay35 (b42 m c t) (b51 m c t) (iblk m c 7 t) old

theorem gate3_apply (t : Fin cfg0.N) (r p : Fin 256) : gate3 m c t (ix2 r p) = dgate m c (at_ t r) 3 p := by
  refine (pay32_apply ..).trans ?_
  simp only [b42_apply, b57_apply, blk7, qw3_apply]
  rfl

theorem part3_apply (t : Fin cfg0.N) (r p : Fin 256) : part3 m c t (ix2 r p) = dgrp m c (at_ t r) 3 p := by
  refine (pay34_apply ..).trans ?_
  simp only [b42_apply, b51_apply, blk7, qw3_apply]
  rfl

theorem wsum3_apply (t : Fin cfg0.N) (old : Vec Ideal S1x256 .f32) (p : Fin 256) :
    wsum3 m c t old (ix2 0 p)
      = old (ix2 0 p) + ∑ r, weigh 0x43800000#32 (grp m c (at_ t r) 3) (inc m c (at_ t r) 3) p := by
  refine (pay35_apply ..).trans ?_
  simp only [b42_apply, b51_apply, blk7]
  rfl

/-- What a point leaves in the block of gradients through the last normalization, first point or later. -/
theorem left10 (t : Fin cfg0.N) : (outsAt0 m c t.val t.isLt).1 = k0_pay7 (b29 m c t) := by
  by_cases h : t.val % 32 = 0
  · rw [outsAt0_A m c t h]; dsimp only; frame_out; rfl
  · rw [outsAt0_B m c t h]; dsimp only; frame_out; rfl

/-- … in the first group's. -/
theorem left11 (t : Fin cfg0.N) : (outsAt0 m c t.val t.isLt).2.1 = part0 m c t := by
  by_cases h : t.val % 32 = 0
  · rw [outsAt0_A m c t h]; dsimp only; frame_out; rfl
  · rw [outsAt0_B m c t h]; dsimp only; frame_out; rfl

/-- … in the second group's. -/
theorem left12 (t : Fin cfg0.N) : (outsAt0 m c t.val t.isLt).2.2.1 = part1 m c t := by
  by_cases h : t.val % 32 = 0
  · rw [outsAt0_A m c t h]; dsimp only; frame_out; rfl
  · rw [outsAt0_B m c t h]; dsimp only; frame_out; rfl

/-- … in the third group's. -/
theorem left13 (t : Fin cfg0.N) : (outsAt0 m c t.val t.isLt).2.2.2.1 = k0_pay1 (part2 m c t) := by
  by_cases h : t.val % 32 = 0
  · rw [outsAt0_A m c t h]; dsimp only; frame_out; rfl
  · rw [outsAt0_B m c t h]; dsimp only; frame_out; rfl

/-- … in the fourth group's. -/
theorem left14 (t : Fin cfg0.N) : (outsAt0 m c t.val t.isLt).2.2.2.2.1 = part3 m c t := by
  by_cases h : t.val % 32 = 0
  · rw [outsAt0_A m c t h]; dsimp only; frame_out; rfl
  · rw [outsAt0_B m c t h]; dsimp only; frame_out; rfl

/-- Four quarters of a block written one after the other, read back at a place. -/
theorem cols_apply {κ : Kind} {sp : Space} (v : View sig κ sp S256x1024 .bf16) (f : v.ty.Contents (Elt Ideal))
    (p0 p1 p2 p3 : Vec Ideal S256x256 .bf16) (L : List (View.Piece (Elt Ideal) S256x1024 .bf16)) (r : Fin 256) (g : Fin 4)
    (p : Fin 256) :
    v.read (Elt Ideal) (v.writes (Elt Ideal) f
        (⟨Rect.unit (s := S256x1024) ![0, 768] ![256, 256] inb_S256x1024_S256x256_0_768, p3⟩
          :: ⟨Rect.unit (s := S256x1024) ![0, 512] ![256, 256] inb_S256x1024_S256x256_0_512, p2⟩
          :: ⟨Rect.unit (s := S256x1024) ![0, 256] ![256, 256] inb_S256x1024_S256x256_0_256, p1⟩
          :: ⟨Rect.unit (s := S256x1024) ![0, 0] ![256, 256] inb_S256x1024_S256x256_0_0, p0⟩ :: L)) (ix2 r (quad g p))
      = (![p0, p1, p2, p3] : Fin 4 → Vec Ideal S256x256 .bf16) g (ix2 r p) := by
  have hp := p.isLt
  have out : ∀ (k o : ℕ) (inb : ∀ a : Fin S256x1024.rank, (![0, o] : Fin 2 → ℕ) a + (![256, 256] : Fin 2 → ℕ) a ≤ S256x1024.size a)
      (w : Vec Ideal S256x256 .bf16) (L : List (View.Piece (Elt Ideal) S256x1024 .bf16)), o = k * 256 → g.val < k →
      v.read (Elt Ideal) (v.writes (Elt Ideal) f (⟨Rect.unit (s := S256x1024) ![0, o] ![256, 256] inb, w⟩ :: L)) (ix2 r (quad g p))
        = v.read (Elt Ideal) (v.writes (Elt Ideal) f L) (ix2 r (quad g p)) := fun k o inb w L ho hk =>
    View.read_writes_cons_unit_of_not_mem v f inb w L (ix2 r (quad g p)) rfl 1
      (Or.inl (show g.val * 256 + p.val < o by omega))
  have inn : ∀ (o : ℕ) (inb : ∀ a : Fin S256x1024.rank, (![0, o] : Fin 2 → ℕ) a + (![256, 256] : Fin 2 → ℕ) a ≤ S256x1024.size a)
      (w : Vec Ideal S256x256 .bf16) (L : List (View.Piece (Elt Ideal) S256x1024 .bf16)), o = g.val * 256 →
      v.read (Elt Ideal) (v.writes (Elt Ideal) f (⟨Rect.unit (s := S256x1024) ![0, o] ![256, 256] inb, w⟩ :: L)) (ix2 r (quad g p))
        = w (ix2 r p) := fun o inb w L ho =>
    View.read_writes_cons_unit_of_mem v f inb w L (ix2 r (quad g p)) (ix2 r p) rfl (fun a => by
      fin_cases a
      · exact (Nat.zero_add _).symm
      · show g.val * 256 + p.val = o + p.val
        omega)
  match g with
  | 0 =>
    exact (out 3 768 _ _ _ rfl (by decide)).trans ((out 2 512 _ _ _ rfl (by decide)).trans
      ((out 1 256 _ _ _ rfl (by decide)).trans (inn 0 _ _ _ rfl)))
  | 1 => exact (out 3 768 _ _ _ rfl (by decide)).trans ((out 2 512 _ _ _ rfl (by decide)).trans (inn 256 _ _ _ rfl))
  | 2 => exact (out 3 768 _ _ _ rfl (by decide)).trans (inn 512 _ _ _ rfl)
  | 3 => exact inn 768 _ _ _ rfl

/-- The same of one row. -/
theorem quarters_apply {κ : Kind} {sp : Space} (v : View sig κ sp S1x1024 .f32) (f : v.ty.Contents (Elt Ideal))
    (p0 p1 p2 p3 : Vec Ideal S1x256 .f32) (L : List (View.Piece (Elt Ideal) S1x1024 .f32)) (r : Fin 1) (g : Fin 4)
    (p : Fin 256) :
    v.read (Elt Ideal) (v.writes (Elt Ideal) f
        (⟨Rect.unit (s := S1x1024) ![0, 768] ![1, 256] inb_S1x1024_S1x256_0_768, p3⟩
          :: ⟨Rect.unit (s := S1x1024) ![0, 512] ![1, 256] inb_S1x1024_S1x256_0_512, p2⟩
          :: ⟨Rect.unit (s := S1x1024) ![0, 256] ![1, 256] inb_S1x1024_S1x256_0_256, p1⟩
          :: ⟨Rect.unit (s := S1x1024) ![0, 0] ![1, 256] inb_S1x1024_S1x256_0_0, p0⟩ :: L)) (ix2 r (quad g p))
      = (![p0, p1, p2, p3] : Fin 4 → Vec Ideal S1x256 .f32) g (ix2 r p) := by
  have hp := p.isLt
  have out : ∀ (k o : ℕ) (inb : ∀ a : Fin S1x1024.rank, (![0, o] : Fin 2 → ℕ) a + (![1, 256] : Fin 2 → ℕ) a ≤ S1x1024.size a)
      (w : Vec Ideal S1x256 .f32) (L : List (View.Piece (Elt Ideal) S1x1024 .f32)), o = k * 256 → g.val < k →
      v.read (Elt Ideal) (v.writes (Elt Ideal) f (⟨Rect.unit (s := S1x1024) ![0, o] ![1, 256] inb, w⟩ :: L)) (ix2 r (quad g p))
        = v.read (Elt Ideal) (v.writes (Elt Ideal) f L) (ix2 r (quad g p)) := fun k o inb w L ho hk =>
    View.read_writes_cons_unit_of_not_mem v f inb w L (ix2 r (quad g p)) rfl 1
      (Or.inl (show g.val * 256 + p.val < o by omega))
  have inn : ∀ (o : ℕ) (inb : ∀ a : Fin S1x1024.rank, (![0, o] : Fin 2 → ℕ) a + (![1, 256] : Fin 2 → ℕ) a ≤ S1x1024.size a)
      (w : Vec Ideal S1x256 .f32) (L : List (View.Piece (Elt Ideal) S1x1024 .f32)), o = g.val * 256 →
      v.read (Elt Ideal) (v.writes (Elt Ideal) f (⟨Rect.unit (s := S1x1024) ![0, o] ![1, 256] inb, w⟩ :: L)) (ix2 r (quad g p))
        = w (ix2 r p) := fun o inb w L ho =>
    View.read_writes_cons_unit_of_mem v f inb w L (ix2 r (quad g p)) (ix2 r p) rfl (fun a => by
      fin_cases a
      · exact (Nat.zero_add _).symm
      · show g.val * 256 + p.val = o + p.val
        omega)
  match g with
  | 0 =>
    exact (out 3 768 _ _ _ rfl (by decide)).trans ((out 2 512 _ _ _ rfl (by decide)).trans
      ((out 1 256 _ _ _ rfl (by decide)).trans (inn 0 _ _ _ rfl)))
  | 1 => exact (out 3 768 _ _ _ rfl (by decide)).trans ((out 2 512 _ _ _ rfl (by decide)).trans (inn 256 _ _ _ rfl))
  | 2 => exact (out 3 768 _ _ _ rfl (by decide)).trans (inn 512 _ _ _ rfl)
  | 3 => exact inn 768 _ _ _ rfl

theorem gates_apply (t : Fin cfg0.N) (r : Fin 256) (g : Fin 4) (p : Fin 256) :
    (![gate0 m c t, gate1 m c t, gate2 m c t, gate3 m c t] : Fin 4 → Vec Ideal S256x256 .bf16) g (ix2 r p)
      = dgate m c (at_ t r) g p := by
  match g with
  | 0 => exact gate0_apply m c t r p
  | 1 => exact gate1_apply m c t r p
  | 2 => exact gate2_apply m c t r p
  | 3 => exact gate3_apply m c t r p

/-- What a point leaves in the gate's gradients' block, first point or later. -/
theorem left15 (t : Fin cfg0.N) (r : Fin 256) (g : Fin 4) (p : Fin 256) :
    (outsAt0 m c t.val t.isLt).2.2.2.2.2.1 (ix2 r (quad g p)) = dgate m c (at_ t r) g p := by
  by_cases h : t.val % 32 = 0
  · rw [outsAt0_A m c t h]; dsimp only; frame_out
    rw [← View.read_writes_junk_eq_canon (ms0_15 t).view]
    exact (cols_apply _ _ _ _ _ _ _ r g p).trans (gates_apply m c t r g p)
  · rw [outsAt0_B m c t h]; dsimp only; frame_out
    rw [← View.read_writes_junk_eq_canon (ms0_15 t).view]
    exact (cols_apply _ _ _ _ _ _ _ r g p).trans (gates_apply m c t r g p)

/-- What a point's four steps make of the groups' weights' gradients `X`, at a place. -/
theorem step_apply (t : Fin cfg0.N) (X : Vec Ideal S1x1024 .f32) (g : Fin 4) (p : Fin 256) :
    (![wsum0 m c t (View.ld X (Rect.unit ![0, 0] ![1, 256] inb_S1x1024_S1x256_0_0)),
        wsum1 m c t (View.ld X (Rect.unit ![0, 256] ![1, 256] inb_S1x1024_S1x256_0_256)),
        wsum2 m c t (View.ld X (Rect.unit ![0, 512] ![1, 256] inb_S1x1024_S1x256_0_512)),
        wsum3 m c t (View.ld X (Rect.unit ![0, 768] ![1, 256] inb_S1x1024_S1x256_0_768))]
        : Fin 4 → Vec Ideal S1x256 .f32) g (ix2 0 p)
      = X (ix2 0 (quad g p)) + ∑ r, weigh 0x43800000#32 (grp m c (at_ t r) g) (inc m c (at_ t r) g) p := by
  match g with
  | 0 => exact (wsum0_apply m c t _ p).trans (congrArg (· + _) (ld_quarter X 0 0 rfl _ p))
  | 1 => exact (wsum1_apply m c t _ p).trans (congrArg (· + _) (ld_quarter X 1 256 rfl _ p))
  | 2 => exact (wsum2_apply m c t _ p).trans (congrArg (· + _) (ld_quarter X 2 512 rfl _ p))
  | 3 => exact (wsum3_apply m c t _ p).trans (congrArg (· + _) (ld_quarter X 3 768 rfl _ p))

/-- The running sum of the last normalization's weights' gradients after a point. -/
theorem left16 (t : Fin cfg0.N) (l : Fin 1024) :
    (outsAt0 m c t.val t.isLt).2.2.2.2.2.2.1 (ix2 0 l)
      = 0 + ∑ k ∈ Finset.range (t.val + 1), (if h : k < cfg0.N then
          ∑ r, weigh 0x44800000#32 (outRow m c (at_ ⟨k, h⟩ r)) (inRow m c (at_ ⟨k, h⟩ r)) l else 0) := by
  refine Pipeline.eq_sum_of_reset_step_single (fun n h => (outsAt0 m c n h).2.2.2.2.2.2.1 (ix2 0 l)) 32 0 _ (fun t h => ?_)
    (fun t h => ?_) (le_of_eq N_0) t
  · rw [outsAt0_A m c t h]; dsimp only; frame_out
    rw [pay6_apply, pay2_apply, dif_pos t.isLt]
    simp only [blk0, blk1]
  · rw [outsAt0_B m c t h]; dsimp only; frame_out
    rw [pay6_apply, dif_pos t.isLt]
    simp only [blk0, blk1]

/-- The running sum of the groups' weights' gradients after a point. -/
theorem left17 (t : Fin cfg0.N) (g : Fin 4) (p : Fin 256) :
    (outsAt0 m c t.val t.isLt).2.2.2.2.2.2.2 (ix2 0 (quad g p))
      = 0 + ∑ k ∈ Finset.range (t.val + 1), (if h : k < cfg0.N then
          ∑ r, weigh 0x43800000#32 (grp m c (at_ ⟨k, h⟩ r) g) (inc m c (at_ ⟨k, h⟩ r) g) p else 0) := by
  refine Pipeline.eq_sum_of_reset_step_single (fun n h => (outsAt0 m c n h).2.2.2.2.2.2.2 (ix2 0 (quad g p))) 32 0 _
    (fun t h => ?_) (fun t h => ?_) (le_of_eq N_0) t
  · rw [outsAt0_A m c t h]; dsimp only; frame_out
    simp (disch := decide) only [↓View.readCov_skip, ↓View.readCov_fill]
    rw [dif_pos t.isLt, ← View.read_writes_junk_eq_canon (ms0_17 t).view]
    refine (quarters_apply _ _ _ _ _ _ _ 0 g p).trans ?_
    refine (step_apply m c t (k0_pay3 (F := Ideal)) g p).trans ?_
    rw [pay3_apply]
  · rw [outsAt0_B m c t h]; dsimp only; frame_out
    rw [dif_pos t.isLt, ← View.read_writes_junk_eq_canon (ms0_17 t).view]
    refine (quarters_apply _ _ _ _ _ _ _ 0 g p).trans ?_
    exact step_apply m c t _ g p

/-- The gradients through the last normalization at the end. -/
theorem final10 : (dats m 0 c).arrAt 10 cfg0.N = dos m c := by
  refine (dats m 0 c).arrAt_eq_of_covers 10 _ (by decide +kernel) fun t hf y => ?_
  blk_simp
  rw [after0_10, left10]
  obtain ⟨r, l, rfl⟩ := ix2_surj y
  have e : (win0_10.blk t).view.emb (ix2 r l) = ix2 (at_ t r) l := by blk_ext [at10, at_]
  rw [e]
  exact (pay7_apply ..).trans (b29_apply m c t r l)

/-- The first group's gradients at the end. -/
theorem final11 : (dats m 0 c).arrAt 11 cfg0.N = parts m c 0 := by
  refine (dats m 0 c).arrAt_eq_of_covers 11 _ (by decide +kernel) fun t hf y => ?_
  blk_simp
  rw [after0_11, left11]
  obtain ⟨r, l, rfl⟩ := ix2_surj y
  have e : (win0_11.blk t).view.emb (ix2 r l) = ix2 (at_ t r) l := by blk_ext [at11, at_]
  rw [e]
  exact part0_apply m c t r l

/-- The second group's. -/
theorem final12 : (dats m 0 c).arrAt 12 cfg0.N = parts m c 1 := by
  refine (dats m 0 c).arrAt_eq_of_covers 12 _ (by decide +kernel) fun t hf y => ?_
  blk_simp
  rw [after0_12, left12]
  obtain ⟨r, l, rfl⟩ := ix2_surj y
  have e : (win0_12.blk t).view.emb (ix2 r l) = ix2 (at_ t r) l := by blk_ext [at12, at_]
  rw [e]
  exact part1_apply m c t r l

/-- The third group's. -/
theorem final13 : (dats m 0 c).arrAt 13 cfg0.N = spreads m c := by
  refine (dats m 0 c).arrAt_eq_of_covers 13 _ (by decide +kernel) fun t hf y => ?_
  blk_simp
  rw [after0_13, left13]
  obtain ⟨r, l, rfl⟩ := ix2_surj y
  have e : (win0_13.blk t).view.emb (ix2 r l) = ix2 (at_ t r) l := by blk_ext [at13, at_]
  rw [e]
  exact (pay1_apply ..).trans
    (congrArg (fun f => spread f l) (funext fun k => part2_apply m c t r k))

/-- The fourth group's. -/
theorem final14 : (dats m 0 c).arrAt 14 cfg0.N = parts m c 3 := by
  refine (dats m 0 c).arrAt_eq_of_covers 14 _ (by decide +kernel) fun t hf y => ?_
  blk_simp
  rw [after0_14, left14]
  obtain ⟨r, l, rfl⟩ := ix2_surj y
  have e : (win0_14.blk t).view.emb (ix2 r l) = ix2 (at_ t r) l := by blk_ext [at14, at_]
  rw [e]
  exact part3_apply m c t r l

/-- The gate's gradients at the end. -/
theorem final15 : (dats m 0 c).arrAt 15 cfg0.N = dgates m c := by
  refine (dats m 0 c).arrAt_eq_of_covers 15 _ (by decide +kernel) fun t hf y => ?_
  blk_simp
  rw [after0_15]
  obtain ⟨r, l, rfl⟩ := ix2_surj y
  have e : (win0_15.blk t).view.emb (ix2 r l) = ix2 (at_ t r) l := by blk_ext [at15, at_]
  rw [e]
  have h := left15 m c t r (gOf l) (pOf l)
  rw [quad_of] at h
  exact h

/-- Rows counted by block and place in the block are the rows. -/
theorem sum_rows (f : Fin 8192 → EReal) :
    ∑ k ∈ Finset.range 32, (if h : k < cfg0.N then ∑ r, f (at_ ⟨k, h⟩ r) else 0) = ∑ r, f r := by
  rw [Finset.sum_range]
  have e : ∀ k : Fin 32, (if h : k.val < cfg0.N then ∑ r, f (at_ ⟨k.val, h⟩ r) else 0)
      = ∑ r : Fin 256, f (finProdFinEquiv (k, r)) := fun k => by
    rw [dif_pos (show k.val < cfg0.N from k.isLt)]
    refine Finset.sum_congr rfl fun r _ => congrArg f (Fin.ext ?_)
    show k.val * 256 + r.val = r.val + 256 * k.val
    omega
  simp only [e]
  rw [← Fintype.sum_prod_type' (fun (k : Fin 32) (r : Fin 256) => f (finProdFinEquiv (k, r)))]
  exact Equiv.sum_comp (finProdFinEquiv : Fin 32 × Fin 256 ≃ Fin (32 * 256)) f

/-- The last normalization's weights' gradients at the end. -/
theorem final16 : (dats m 0 c).arrAt 16 cfg0.N = wposts m c := by
  refine (dats m 0 c).arrAt_eq_of_covers 16 _ (by decide +kernel) fun t hf y => ?_
  blk_simp
  have ht : t.val % 32 = 31 := (flush0_16 t).mp hf
  have ht' : t.val = 31 := by have h : t.val < 32 := t.isLt; omega
  rw [after0_16]
  obtain ⟨l, rfl⟩ := row_surj y
  have e : (win0_16.blk t).view.emb (ix2 0 l) = ix2 0 l := by blk_ext [at16]
  rw [e]
  refine (left16 m c t l).trans ?_
  rw [zero_add, ht']
  exact sum_rows fun r => weigh 0x44800000#32 (outRow m c r) (inRow m c r) l

/-- The groups' weights' gradients at the end. -/
theorem final17 : (dats m 0 c).arrAt 17 cfg0.N = wgrps m c := by
  refine (dats m 0 c).arrAt_eq_of_covers 17 _ (by decide +kernel) fun t hf y => ?_
  blk_simp
  have ht : t.val % 32 = 31 := (flush0_17 t).mp hf
  have ht' : t.val = 31 := by have h : t.val < 32 := t.isLt; omega
  rw [after0_17]
  obtain ⟨l, rfl⟩ := row_surj y
  have e : (win0_17.blk t).view.emb (ix2 0 l) = ix2 0 l := by blk_ext [at17]
  rw [e]
  have h := left17 m c t (gOf l) (pOf l)
  rw [quad_of] at h
  refine h.trans ?_
  rw [zero_add, ht']
  exact sum_rows fun r => weigh 0x43800000#32 (grp m c r (gOf l)) (inc m c r (gOf l)) (pOf l)

end Cert.Proof.MixGrad

end
-- ==== Proof.MixGrad.Claims.lean ====
/- The claims about the gradients of the mixing call: the call's runs, the reference's run, and that their results are
   equal. -/
module

public import proofs.«01_k».proof.Defs
public import proofs.«01_k».proof.Proof.Gen.MixGrad
public import proofs.«01_k».proof.Proof.Gen.MixGradReferenceIdeal
public import proofs.«01_k».proof.Proof.Gen.MixGradReferenceIdeal.Run
public import proofs.«01_k».proof.Proof.MixGrad.Reference
public import proofs.«01_k».proof.Proof.MixGrad.Value

@[expose] public section

set_option maxHeartbeats 1000000

noncomputable section

namespace Cert.Proof.MixGrad

open Idealize.ShloMosaic Idealize.ShloMosaic.TcCoe Idealize.SL Idealize.SL.Sem
open Cert.MixGradIdeal

/-- The call's body at the bit patterns is the body the run was found for. -/
theorem bodies_eq : Cert.MixGrad.defs₀ (F := Bits) = Cert.MixGradIdeal.defs₀ := by
  funext p l a
  match p with
  | .tc =>
    match l, a with
    | ⟨0, _⟩, (_, _) => rfl
  | .scScalar _ => rfl
  | .scVector _ _ => rfl

theorem defs_eq : Cert.MixGrad.defs (F := Bits) = Cert.MixGradIdeal.defs := by
  show Pipeline.defs Cert.MixGradIdeal.pcfgs (Cert.MixGrad.defs₀ (F := Bits))
    = Pipeline.defs Cert.MixGradIdeal.pcfgs Cert.MixGradIdeal.defs₀
  rw [bodies_eq]

theorem frame_mixGrad : Cert.quiescent_MixGrad (hMixGrad := Cert.MixGrad.Gen.facts) := fun m g _ => by
  have h := Cert.MixGradIdeal.Gen.frame (F := Bits) m g
  show θ_run (Cert.MixGrad.defs (F := Bits)) (onTc Cert.MixGradIdeal.main) _ _
  rw [defs_eq]
  exact h

theorem frame_mixGradIdeal : Cert.quiescent_MixGradIdeal (hMixGradIdeal := Cert.MixGradIdeal.Gen.facts) := fun m g _ =>
  Cert.MixGradIdeal.Gen.frame (F := Ideal) m g

theorem frame_mixGradReferenceIdeal :
    Cert.quiescent_MixGradReferenceIdeal (hMixGradReferenceIdeal := MixGradReferenceIdeal.Gen.facts) := fun m g _ =>
  (θ_run MixGradReferenceIdeal.defs _ _).mono
    (fun r h => ⟨fun c => (h c).2.2.2.2.2.2.2.2, sem_eq_zero_of_no_sems (by decide) r.2⟩) (MixGradReferenceIdeal.Value.run m g)

section
variable (m : (ℓ : Loc nD τ sig) → Buf (Elt Ideal) ℓ) (c : Dev nD)
  (m' : (ℓ : Loc MixGradReferenceIdeal.nD MixGradReferenceIdeal.τ MixGradReferenceIdeal.sig) → Buf (Elt Ideal) ℓ)

/-- The reference's arrays are the call's. -/
def Same : Prop :=
  m' ((c.tc : Thread MixGradReferenceIdeal.nD MixGradReferenceIdeal.τ).loc MixGradReferenceIdeal.main_arg0) = m ((c.tc : Thread nD τ).loc main_arg0)
  ∧ m' ((c.tc : Thread MixGradReferenceIdeal.nD MixGradReferenceIdeal.τ).loc MixGradReferenceIdeal.main_arg1) = m ((c.tc : Thread nD τ).loc main_arg1)
  ∧ m' ((c.tc : Thread MixGradReferenceIdeal.nD MixGradReferenceIdeal.τ).loc MixGradReferenceIdeal.main_arg2) = m ((c.tc : Thread nD τ).loc main_arg2)
  ∧ m' ((c.tc : Thread MixGradReferenceIdeal.nD MixGradReferenceIdeal.τ).loc MixGradReferenceIdeal.main_arg3) = m ((c.tc : Thread nD τ).loc main_arg3)
  ∧ m' ((c.tc : Thread MixGradReferenceIdeal.nD MixGradReferenceIdeal.τ).loc MixGradReferenceIdeal.main_arg4) = m ((c.tc : Thread nD τ).loc main_arg4)
  ∧ m' ((c.tc : Thread MixGradReferenceIdeal.nD MixGradReferenceIdeal.τ).loc MixGradReferenceIdeal.main_arg5) = m ((c.tc : Thread nD τ).loc main_arg5)
  ∧ m' ((c.tc : Thread MixGradReferenceIdeal.nD MixGradReferenceIdeal.τ).loc MixGradReferenceIdeal.main_arg6) = m ((c.tc : Thread nD τ).loc main_arg6)
  ∧ m' ((c.tc : Thread MixGradReferenceIdeal.nD MixGradReferenceIdeal.τ).loc MixGradReferenceIdeal.main_arg7) = m ((c.tc : Thread nD τ).loc main_arg7)
  ∧ m' ((c.tc : Thread MixGradReferenceIdeal.nD MixGradReferenceIdeal.τ).loc MixGradReferenceIdeal.main_arg8) = m ((c.tc : Thread nD τ).loc main_arg8)
  ∧ m' ((c.tc : Thread MixGradReferenceIdeal.nD MixGradReferenceIdeal.τ).loc MixGradReferenceIdeal.main_arg9) = m ((c.tc : Thread nD τ).loc main_arg9)

variable {m c m'}

theorem same_do (h : Same m c m') (r : Fin 8192) (j : Fin 1024) : theDo m' c (ix2 r j) = rowDo m c r j := by
  obtain ⟨e0, e1, e2, -⟩ := h
  unfold theDo
  rw [refDo_apply, e0, e1, e2]
  rfl

theorem same_dym (h : Same m c m') (r : Fin 8192) (j : Fin 1024) : theDym m' c (ix2 r j) = rowDym m c r j := by
  have hd := same_do h
  obtain ⟨-, -, -, e3, -⟩ := h
  unfold theDym
  rw [refDym_apply, e3]
  simp only [hd]
  rfl

theorem same_stack (h : Same m c m') (r : Fin 8192) (g : Fin 4) (p : Fin 256) :
    theStack m' c (ix3 r g p) = grp m c r g p := by
  obtain ⟨-, -, -, -, e4, e5, e6, e7, -⟩ := h
  unfold theStack
  rw [refStack_apply, e4, e5, e6, e7]
  simp only [refComp_apply]
  rfl

theorem same_ct (h : Same m c m') (r : Fin 8192) (g : Fin 4) (p : Fin 256) :
    theCt m' c (ix3 r g p) = inc m c r g p := by
  have hd := same_dym h
  obtain ⟨-, -, -, -, -, -, -, -, e8, -⟩ := h
  unfold theCt
  rw [refCt_apply, hd, e8]
  rfl

theorem same_dys (h : Same m c m') (r : Fin 8192) (g : Fin 4) (p : Fin 256) :
    theDys m' c (ix3 r g p) = dgrp m c r g p := by
  have hs := same_stack h
  have hc := same_ct h
  obtain ⟨-, -, -, -, -, -, -, -, -, e9⟩ := h
  unfold theDys
  rw [refDys_apply, e9]
  simp only [hs, hc]
  rfl

theorem same_gate (h : Same m c m') :
    MixGradReferenceIdeal.Value.res_main_v116 m' c = dgates m c := by
  have hd := same_dym h
  have hs := same_stack h
  obtain ⟨-, -, -, -, -, -, -, -, e8, e9⟩ := h
  rw [res15]
  funext i
  obtain ⟨r, l, rfl⟩ := ix2_surj i
  refine (refGate_apply _ _ _ _ r l (gOf l) (pOf l) (quad_of l).symm).trans ?_
  rw [hd, e8, e9]
  simp only [hs]
  show _ = dgate m c r (gOf l) (pOf l)
  unfold dgate
  rw [quad_of]
  rfl

theorem same_wgrps (h : Same m c m') :
    MixGradReferenceIdeal.Value.res_main_v117 m' c = wgrps m c := by
  rw [res17]
  funext i
  obtain ⟨l, rfl⟩ := row_surj i
  have e := refDgg_apply (theStack m' c) (theCt m' c) (gOf l) (pOf l)
  rw [quad_of] at e
  refine e.trans ?_
  simp only [same_stack h, same_ct h]
  rfl

end

theorem algebraic_mixGrad : Cert.algebraic_MixGradIdeal_MixGradReferenceIdeal
    (hMixGradIdeal := Cert.MixGradIdeal.Gen.facts)
    (hMixGradReferenceIdeal := MixGradReferenceIdeal.Gen.facts) := fun m g m' g' _ hm => by
  refine ⟨fun c => dos m c, fun c => parts m c 0, fun c => parts m c 1, fun c => spreads m c, fun c => parts m c 3,
    fun c => dgates m c, fun c => wposts m c, fun c => wgrps m c,
    (θ_run Cert.MixGradIdeal.defs _ _).mono (fun r h c => ?_) (Cert.MixGradIdeal.Value.run_blocks (F := Ideal) m g),
    (θ_run MixGradReferenceIdeal.defs _ _).mono (fun r h c => ?_) (MixGradReferenceIdeal.Value.run m' g')⟩
  · obtain ⟨h10, h11, h12, h13, h14, h15, h16, h17, hk⟩ := h c
    exact ⟨h10.trans (final10 m c), h11.trans (final11 m c), h12.trans (final12 m c), h13.trans (final13 m c),
      h14.trans (final14 m c), h15.trans (final15 m c), h16.trans (final16 m c), h17.trans (final17 m c), hk⟩
  · obtain ⟨h10, h11, h12, h13, h14, h15, h16, h17, hk⟩ := h c
    have hs : Same m c m' := hm c
    refine ⟨h10.trans ?_, h11.trans ?_, h12.trans ?_, h13.trans ?_, h14.trans ?_, h15.trans (same_gate hs),
      h16.trans ?_, h17.trans (same_wgrps hs), hk⟩
    · show truncf .bf16 (theDo m' c) (by decide) = _
      funext i
      obtain ⟨r, l, rfl⟩ := ix2_surj i
      exact same_do hs r l
    · rw [res11]
      funext i
      obtain ⟨r, l, rfl⟩ := ix2_surj i
      exact (refPart0_apply _ r l).trans (same_dys hs r 0 l)
    · rw [res12]
      funext i
      obtain ⟨r, l, rfl⟩ := ix2_surj i
      exact (refPart1_apply _ r l).trans (same_dys hs r 1 l)
    · rw [res13]
      funext i
      obtain ⟨r, l, rfl⟩ := ix2_surj i
      refine (refPart2_apply _ r l).trans ?_
      simp only [same_dys hs]
      rfl
    · rw [res14]
      funext i
      obtain ⟨r, l, rfl⟩ := ix2_surj i
      exact (refPart3_apply _ r l).trans (same_dys hs r 3 l)
    · show refDgp (m' ((c.tc : Thread MixGradReferenceIdeal.nD MixGradReferenceIdeal.τ).loc MixGradReferenceIdeal.main_arg0))
        (m' ((c.tc : Thread MixGradReferenceIdeal.nD MixGradReferenceIdeal.τ).loc MixGradReferenceIdeal.main_arg1)) = _
      obtain ⟨e0, e1, -⟩ := hs
      rw [e0, e1]
      funext i
      obtain ⟨l, rfl⟩ := row_surj i
      exact refDgp_apply _ _ l

end Cert.Proof.MixGrad

end
-- ==== Proof.lean ====
/-
  The claims of the certificate, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherReferenceIdeal
public import proofs.«01_k».proof.Proof.Gen.GatherReference
public import proofs.«01_k».proof.Proof.Gen.ReferenceIdeal.Run
public import proofs.«01_k».proof.Proof.Gen.GatherReferenceIdeal.Run
public import proofs.«01_k».proof.Proof.Gen.GatherReference.Run
public import proofs.«01_k».proof.Proof.Gen.Grad
public import proofs.«01_k».proof.Proof.Gen.GradIdeal
public import proofs.«01_k».proof.Proof.Gen.GradReferenceIdeal
public import proofs.«01_k».proof.Proof.Gen.GradIdeal.Value
public import proofs.«01_k».proof.Proof.Gen.GradReferenceIdeal.Run
public import proofs.«01_k».proof.Proof.Gen.Loss
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Regions
public import proofs.«01_k».proof.Proof.Gen.LossIdeal.Points
public import proofs.«01_k».proof.Proof.Gen.LossReferenceIdeal
public import proofs.«01_k».proof.Proof.Gen.LossReferenceIdeal.Run
public import proofs.«01_k».proof.Proof.Gen.Project
public import proofs.«01_k».proof.Proof.Gen.ProjectIdeal
public import proofs.«01_k».proof.Proof.Gen.ProjectReferenceIdeal
public import proofs.«01_k».proof.Proof.Gen.ProjectIdeal.Value
public import proofs.«01_k».proof.Proof.Gen.ProjectReferenceIdeal.Run
public import proofs.«01_k».proof.Proof.Gen.Weight
public import proofs.«01_k».proof.Proof.Gen.WeightIdeal
public import proofs.«01_k».proof.Proof.Gen.WeightReferenceIdeal
public import proofs.«01_k».proof.Proof.Gen.WeightIdeal.Value
public import proofs.«01_k».proof.Proof.Gen.WeightReferenceIdeal.Run
public import proofs.«01_k».proof.Proof.Gen.Conv
public import proofs.«01_k».proof.Proof.Gen.ConvIdeal
public import proofs.«01_k».proof.Proof.Gen.ConvReferenceIdeal
public import proofs.«01_k».proof.Proof.Gen.ConvIdeal.Value
public import proofs.«01_k».proof.Proof.Gen.ConvReferenceIdeal.Run
public import proofs.«01_k».proof.Proof.Gen.Mix
public import proofs.«01_k».proof.Proof.Gen.MixIdeal
public import proofs.«01_k».proof.Proof.Gen.MixReferenceIdeal
public import proofs.«01_k».proof.Proof.Gen.MixIdeal.Value
public import proofs.«01_k».proof.Proof.Gen.MixReferenceIdeal.Run
public import proofs.«01_k».proof.Proof.Gen.Window
public import proofs.«01_k».proof.Proof.Gen.WindowIdeal
public import proofs.«01_k».proof.Proof.Gen.WindowReferenceIdeal
public import proofs.«01_k».proof.Proof.Gen.WindowIdeal.Value
public import proofs.«01_k».proof.Proof.Gen.WindowReferenceIdeal.Run
public import proofs.«01_k».proof.Proof.Gen.Latent
public import proofs.«01_k».proof.Proof.Gen.LatentIdeal
public import proofs.«01_k».proof.Proof.Gen.LatentReferenceIdeal
public import proofs.«01_k».proof.Proof.Gen.LatentIdeal.Value
public import proofs.«01_k».proof.Proof.Gen.LatentReferenceIdeal.Run
public import proofs.«01_k».proof.Proof.Gen.Causal
public import proofs.«01_k».proof.Proof.Gen.CausalIdeal
public import proofs.«01_k».proof.Proof.Gen.CausalReferenceIdeal
public import proofs.«01_k».proof.Proof.Gen.CausalIdeal.Value
public import proofs.«01_k».proof.Proof.Gen.CausalReferenceIdeal.Run
public import proofs.«01_k».proof.Proof.Gen.Stick
public import proofs.«01_k».proof.Proof.Gen.StickIdeal
public import proofs.«01_k».proof.Proof.Gen.StickReferenceIdeal
public import proofs.«01_k».proof.Proof.Gen.StickIdeal.Value
public import proofs.«01_k».proof.Proof.Gen.StickReferenceIdeal.Run
public import proofs.«01_k».proof.Proof.Gen.ConvGrad
public import proofs.«01_k».proof.Proof.Gen.ConvGradIdeal
public import proofs.«01_k».proof.Proof.Gen.ConvGradReferenceIdeal
public import proofs.«01_k».proof.Proof.Gen.ConvGradIdeal.Value
public import proofs.«01_k».proof.Proof.Gen.ConvGradReferenceIdeal.Run
public import proofs.«01_k».proof.Proof.Gen.MixGrad
public import proofs.«01_k».proof.Proof.Gen.MixGradIdeal
public import proofs.«01_k».proof.Proof.Gen.MixGradReferenceIdeal
public import proofs.«01_k».proof.Proof.Gen.MixGradIdeal.Value
public import proofs.«01_k».proof.Proof.Gen.MixGradReferenceIdeal.Run
public import proofs.«01_k».proof.Proof.AllGather.Value
public import proofs.«01_k».proof.Proof.AllToAll.Value
public import proofs.«01_k».proof.Proof.Grad.Claims
public import proofs.«01_k».proof.Proof.Loss.Claims
public import proofs.«01_k».proof.Proof.Project.Claims
public import proofs.«01_k».proof.Proof.Weight.Claims
public import proofs.«01_k».proof.Proof.Conv.Claims
public import proofs.«01_k».proof.Proof.Mix.Claims
public import proofs.«01_k».proof.Proof.Window.Claims
public import proofs.«01_k».proof.Proof.Latent.Claims
public import proofs.«01_k».proof.Proof.Causal.Claims
public import proofs.«01_k».proof.Proof.Stick.Claims
public import proofs.«01_k».proof.Proof.ConvGrad.Claims
public import proofs.«01_k».proof.Proof.MixGrad.Claims
public import Idealize.ShloMosaic.Adequacy
public import Idealize.ShloMosaic.Init

@[expose] public section

noncomputable section

namespace Cert.Proof

/-- The reduce-scatter of the gradients with AdamW, the all-gather of the weights, the loss, and the calls of the
    forward and backward passes that are stated compute what their references do. -/
theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts, Cert.GatherReference.Gen.facts,
  Cert.Grad.Gen.facts, Cert.GradIdeal.Gen.facts, Cert.GradReferenceIdeal.Gen.facts,
  Cert.Loss.Gen.facts, Cert.LossIdeal.Gen.facts, Cert.LossReferenceIdeal.Gen.facts,
  Cert.Project.Gen.facts, Cert.ProjectIdeal.Gen.facts, Cert.ProjectReferenceIdeal.Gen.facts,
  Cert.Weight.Gen.facts, Cert.WeightIdeal.Gen.facts, Cert.WeightReferenceIdeal.Gen.facts,
  Cert.Conv.Gen.facts, Cert.ConvIdeal.Gen.facts, Cert.ConvReferenceIdeal.Gen.facts,
  Cert.Mix.Gen.facts, Cert.MixIdeal.Gen.facts, Cert.MixReferenceIdeal.Gen.facts,
  Cert.Window.Gen.facts, Cert.WindowIdeal.Gen.facts, Cert.WindowReferenceIdeal.Gen.facts,
  Cert.Latent.Gen.facts, Cert.LatentIdeal.Gen.facts, Cert.LatentReferenceIdeal.Gen.facts,
  Cert.Causal.Gen.facts, Cert.CausalIdeal.Gen.facts, Cert.CausalReferenceIdeal.Gen.facts,
  Cert.Stick.Gen.facts, Cert.StickIdeal.Gen.facts, Cert.StickReferenceIdeal.Gen.facts,
  Cert.ConvGrad.Gen.facts, Cert.ConvGradIdeal.Gen.facts, Cert.ConvGradReferenceIdeal.Gen.facts,
  Cert.MixGrad.Gen.facts, Cert.MixGradIdeal.Gen.facts, Cert.MixGradReferenceIdeal.Gen.facts,
  AllToAll.frame_kernel, AllToAll.frame_kernelIdeal, AllToAll.frame_referenceIdeal,
  AllGather.frame_gather, AllGather.frame_gatherIdeal, AllGather.frame_gatherReferenceIdeal, AllGather.frame_gatherReference,
  Grad.frame_grad, Grad.frame_gradIdeal, Grad.frame_gradReferenceIdeal,
  Loss.frame_loss, Loss.frame_lossIdeal, Loss.frame_lossReferenceIdeal,
  Project.frame_project, Project.frame_projectIdeal, Project.frame_projectReferenceIdeal,
  Weight.frame_weight, Weight.frame_weightIdeal, Weight.frame_weightReferenceIdeal,
  Conv.frame_conv, Conv.frame_convIdeal, Conv.frame_convReferenceIdeal,
  Mix.frame_mix, Mix.frame_mixIdeal, Mix.frame_mixReferenceIdeal,
  Window.frame_window, Window.frame_windowIdeal, Window.frame_windowReferenceIdeal,
  Latent.frame_latent, Latent.frame_latentIdeal, Latent.frame_latentReferenceIdeal,
  Causal.frame_causal, Causal.frame_causalIdeal, Causal.frame_causalReferenceIdeal,
  Stick.frame_stick, Stick.frame_stickIdeal, Stick.frame_stickReferenceIdeal,
  ConvGrad.frame_convGrad, ConvGrad.frame_convGradIdeal, ConvGrad.frame_convGradReferenceIdeal,
  MixGrad.frame_mixGrad, MixGrad.frame_mixGradIdeal, MixGrad.frame_mixGradReferenceIdeal,
  trivial, AllToAll.algebraic_kernel, trivial, AllGather.algebraic_gather, AllGather.bitexact_gather,
  trivial, Grad.algebraic_grad, trivial, Loss.algebraic_loss,
  trivial, Project.algebraic_project,
  trivial, Weight.algebraic_weight,
  trivial, Conv.algebraic_conv,
  trivial, Mix.algebraic_mix,
  Window.preserves_window, Window.algebraic_window,
  Latent.preserves_latent, Latent.algebraic_latent,
  Causal.preserves_causal, Causal.algebraic_causal,
  trivial, Stick.algebraic_stick,
  trivial, ConvGrad.algebraic_convGrad,
  trivial, MixGrad.algebraic_mixGrad⟩

end Cert.Proof

end
